-- ==== Defs.lean ====
def Pre_Qkvog (m : (ℓ : Loc Cert.Qkvog.nD Cert.Qkvog.τ Cert.Qkvog.sig) → Buf (Elt Bits) ℓ) : Prop :=
  True

def Pre_QkvogIdeal (m : (ℓ : Loc Cert.QkvogIdeal.nD Cert.QkvogIdeal.τ Cert.QkvogIdeal.sig) → Buf (Elt Ideal) ℓ) : Prop :=
  True

def Pre_RefQkvogIdeal (m : (ℓ : Loc Cert.RefQkvogIdeal.nD Cert.RefQkvogIdeal.τ Cert.RefQkvogIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_RefKProjIdeal (m : (ℓ : Loc Cert.RefKProjIdeal.nD Cert.RefKProjIdeal.τ Cert.RefKProjIdeal.sig) → Buf (Elt Ideal) ℓ) : Prop :=
  True

def Pre_VProj (m : (ℓ : Loc Cert.VProj.nD Cert.VProj.τ Cert.VProj.sig) → Buf (Elt Bits) ℓ) : Prop :=
  True

def Pre_VProjIdeal (m : (ℓ : Loc Cert.VProjIdeal.nD Cert.VProjIdeal.τ Cert.VProjIdeal.sig) → Buf (Elt Ideal) ℓ) : Prop :=
  True

def Pre_RefVProjIdeal (m : (ℓ : Loc Cert.RefVProjIdeal.nD Cert.RefVProjIdeal.τ Cert.RefVProjIdeal.sig) → Buf (Elt Ideal) ℓ) : Prop :=
  True

def Pre_Qg (m : (ℓ : Loc Cert.Qg.nD Cert.Qg.τ Cert.Qg.sig) → Buf (Elt Bits) ℓ) : Prop :=
  True

def Pre_QgIdeal (m : (ℓ : Loc Cert.QgIdeal.nD Cert.QgIdeal.τ Cert.QgIdeal.sig) → Buf (Elt Ideal) ℓ) : Prop :=
  True

def Pre_RefQgIdeal (m : (ℓ : Loc Cert.RefQgIdeal.nD Cert.RefQgIdeal.τ Cert.RefQgIdeal.sig) → Buf (Elt Ideal) ℓ) : Prop :=
  True

def Pre_OddU (m : (ℓ : Loc Cert.OddU.nD Cert.OddU.τ Cert.OddU.sig) → Buf (Elt Bits) ℓ) : Prop :=
  True

def Pre_OddUIdeal (m : (ℓ : Loc Cert.OddUIdeal.nD Cert.OddUIdeal.τ Cert.OddUIdeal.sig) → Buf (Elt Ideal) ℓ) : Prop :=
  True

def Pre_RefOddUIdeal (m : (ℓ : Loc Cert.RefOddUIdeal.nD Cert.RefOddUIdeal.τ Cert.RefOddUIdeal.sig) → Buf (Elt Ideal) ℓ) : Prop :=
  True

def Pre_OddV (m : (ℓ : Loc Cert.OddV.nD Cert.OddV.τ Cert.OddV.sig) → Buf (Elt Bits) ℓ) : Prop :=
  True

def Pre_OddVIdeal (m : (ℓ : Loc Cert.OddVIdeal.nD Cert.OddVIdeal.τ Cert.OddVIdeal.sig) → Buf (Elt Ideal) ℓ) : Prop :=
  True

def Pre_RefOddVIdeal (m : (ℓ : Loc Cert.RefOddVIdeal.nD Cert.RefOddVIdeal.τ Cert.RefOddVIdeal.sig) → Buf (Elt Ideal) ℓ) : Prop :=
  True

def Pre_OddG (m : (ℓ : Loc Cert.OddG.nD Cert.OddG.τ Cert.OddG.sig) → Buf (Elt Bits) ℓ) : Prop :=
  True

def Pre_OddGIdeal (m : (ℓ : Loc Cert.OddGIdeal.nD Cert.OddGIdeal.τ Cert.OddGIdeal.sig) → Buf (Elt Ideal) ℓ) : Prop :=
  True

def Pre_RefOddGIdeal (m : (ℓ : Loc Cert.RefOddGIdeal.nD Cert.RefOddGIdeal.τ Cert.RefOddGIdeal.sig) → Buf (Elt Ideal) ℓ) : Prop :=
  True

def Pre_OddY (m : (ℓ : Loc Cert.OddY.nD Cert.OddY.τ Cert.OddY.sig) → Buf (Elt Bits) ℓ) : Prop :=
  True

def Pre_OddYIdeal (m : (ℓ : Loc Cert.OddYIdeal.nD Cert.OddYIdeal.τ Cert.OddYIdeal.sig) → Buf (Elt Ideal) ℓ) : Prop :=
  True

def Pre_RefOddYIdeal (m : (ℓ : Loc Cert.RefOddYIdeal.nD Cert.RefOddYIdeal.τ Cert.RefOddYIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_RefMlstmIdeal (m : (ℓ : Loc Cert.RefMlstmIdeal.nD Cert.RefMlstmIdeal.τ Cert.RefMlstmIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_RefEvenOutIdeal (m : (ℓ : Loc Cert.RefEvenOutIdeal.nD Cert.RefEvenOutIdeal.τ Cert.RefEvenOutIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontIdeal_finite [hPre_finite : Cert.Pre_finite.Facts] (m : (ℓ : Loc Cert.FrontIdeal.nD Cert.FrontIdeal.τ Cert.FrontIdeal.sig) → Buf (Elt Ideal) ℓ) : Prop :=
  ∀ c : Dev Cert.FrontIdeal.nD,
    (Cert.Pre_finite.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4))).1 = (fun _ => 1#1)
    ∧ (Cert.Pre_finite.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4))).2 = (fun _ => 1#1)

def Pre_RefFrontIdeal (m : (ℓ : Loc Cert.RefFrontIdeal.nD Cert.RefFrontIdeal.τ Cert.RefFrontIdeal.sig) → Buf (Elt Ideal) ℓ) : Prop :=
  True

def Pre_RefFrontIdeal_finite [hPre_finite : Cert.Pre_finite.Facts] (m : (ℓ : Loc Cert.RefFrontIdeal.nD Cert.RefFrontIdeal.τ Cert.RefFrontIdeal.sig) → Buf (Elt Ideal) ℓ) : Prop :=
  ∀ c : Dev Cert.RefFrontIdeal.nD,
    (Cert.Pre_finite.fn (F := Ideal) (m ((c.tc : Thread Cert.RefFrontIdeal.nD Cert.RefFrontIdeal.τ).loc Cert.RefFrontIdeal.main_arg0)) (m ((c.tc : Thread Cert.RefFrontIdeal.nD Cert.RefFrontIdeal.τ).loc Cert.RefFrontIdeal.main_arg1)) (m ((c.tc : Thread Cert.RefFrontIdeal.nD Cert.RefFrontIdeal.τ).loc Cert.RefFrontIdeal.main_arg2)) (m ((c.tc : Thread Cert.RefFrontIdeal.nD Cert.RefFrontIdeal.τ).loc Cert.RefFrontIdeal.main_arg3)) (m ((c.tc : Thread Cert.RefFrontIdeal.nD Cert.RefFrontIdeal.τ).loc Cert.RefFrontIdeal.main_arg4))).1 = (fun _ => 1#1)
    ∧ (Cert.Pre_finite.fn (F := Ideal) (m ((c.tc : Thread Cert.RefFrontIdeal.nD Cert.RefFrontIdeal.τ).loc Cert.RefFrontIdeal.main_arg0)) (m ((c.tc : Thread Cert.RefFrontIdeal.nD Cert.RefFrontIdeal.τ).loc Cert.RefFrontIdeal.main_arg1)) (m ((c.tc : Thread Cert.RefFrontIdeal.nD Cert.RefFrontIdeal.τ).loc Cert.RefFrontIdeal.main_arg2)) (m ((c.tc : Thread Cert.RefFrontIdeal.nD Cert.RefFrontIdeal.τ).loc Cert.RefFrontIdeal.main_arg3)) (m ((c.tc : Thread Cert.RefFrontIdeal.nD Cert.RefFrontIdeal.τ).loc Cert.RefFrontIdeal.main_arg4))).2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_RefMixIdeal (m : (ℓ : Loc Cert.RefMixIdeal.nD Cert.RefMixIdeal.τ Cert.RefMixIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_RefFinishIdeal (m : (ℓ : Loc Cert.RefFinishIdeal.nD Cert.RefFinishIdeal.τ Cert.RefFinishIdeal.sig) → Buf (Elt Ideal) ℓ) : Prop :=
  True

def quiescent_Qkvog [hQkvog : Cert.Qkvog.Facts] : Prop :=
  ∀ (m : (ℓ : Loc Cert.Qkvog.nD Cert.Qkvog.τ Cert.Qkvog.sig) → Buf (Elt Bits) ℓ) (g : Dev Cert.Qkvog.nD → PrngReg), Pre_Qkvog m →
    θ_run (Cert.Qkvog.defs (F := Bits)) (onTc (τ := Cert.Qkvog.τ) (Cert.Qkvog.main (F := Bits))) ⟨m, fun _ => 0, g⟩ (fun r => (∀ c : Dev Cert.Qkvog.nD,
      r.2.mem ((c.tc : Thread Cert.Qkvog.nD Cert.Qkvog.τ).loc Cert.Qkvog.main_arg0) = m ((c.tc : Thread Cert.Qkvog.nD Cert.Qkvog.τ).loc Cert.Qkvog.main_arg0)
      ∧ r.2.mem ((c.tc : Thread Cert.Qkvog.nD Cert.Qkvog.τ).loc Cert.Qkvog.main_arg1) = m ((c.tc : Thread Cert.Qkvog.nD Cert.Qkvog.τ).loc Cert.Qkvog.main_arg1)
      ∧ r.2.mem ((c.tc : Thread Cert.Qkvog.nD Cert.Qkvog.τ).loc Cert.Qkvog.main_arg2) = m ((c.tc : Thread Cert.Qkvog.nD Cert.Qkvog.τ).loc Cert.Qkvog.main_arg2))
      ∧ r.2.sem = fun _ => 0)

def quiescent_QkvogIdeal [hQkvogIdeal : Cert.QkvogIdeal.Facts] : Prop :=
  ∀ (m : (ℓ : Loc Cert.QkvogIdeal.nD Cert.QkvogIdeal.τ Cert.QkvogIdeal.sig) → Buf (Elt Ideal) ℓ) (g : Dev Cert.QkvogIdeal.nD → PrngReg), Pre_QkvogIdeal m →
    θ_run (Cert.QkvogIdeal.defs (F := Ideal)) (onTc (τ := Cert.QkvogIdeal.τ) (Cert.QkvogIdeal.main (F := Ideal))) ⟨m, fun _ => 0, g⟩ (fun r => (∀ c : Dev Cert.QkvogIdeal.nD,
      r.2.mem ((c.tc : Thread Cert.QkvogIdeal.nD Cert.QkvogIdeal.τ).loc Cert.QkvogIdeal.main_arg0) = m ((c.tc : Thread Cert.QkvogIdeal.nD Cert.QkvogIdeal.τ).loc Cert.QkvogIdeal.main_arg0)
      ∧ r.2.mem ((c.tc : Thread Cert.QkvogIdeal.nD Cert.QkvogIdeal.τ).loc Cert.QkvogIdeal.main_arg1) = m ((c.tc : Thread Cert.QkvogIdeal.nD Cert.QkvogIdeal.τ).loc Cert.QkvogIdeal.main_arg1)
      ∧ r.2.mem ((c.tc : Thread Cert.QkvogIdeal.nD Cert.QkvogIdeal.τ).loc Cert.QkvogIdeal.main_arg2) = m ((c.tc : Thread Cert.QkvogIdeal.nD Cert.QkvogIdeal.τ).loc Cert.QkvogIdeal.main_arg2))
      ∧ r.2.sem = fun _ => 0)

def quiescent_RefQkvogIdeal [hRefQkvogIdeal : Cert.RefQkvogIdeal.Facts] : Prop :=
  ∀ (m : (ℓ : Loc Cert.RefQkvogIdeal.nD Cert.RefQkvogIdeal.τ Cert.RefQkvogIdeal.sig) → Buf (Elt Ideal) ℓ) (g : Dev Cert.RefQkvogIdeal.nD → PrngReg), Pre_RefQkvogIdeal m →
    θ_run (Cert.RefQkvogIdeal.defs (F := Ideal)) (onTc (τ := Cert.RefQkvogIdeal.τ) (Cert.RefQkvogIdeal.main (F := Ideal))) ⟨m, fun _ => 0, g⟩ (fun r => (∀ c : Dev Cert.RefQkvogIdeal.nD,
      r.2.mem ((c.tc : Thread Cert.RefQkvogIdeal.nD Cert.RefQkvogIdeal.τ).loc Cert.RefQkvogIdeal.main_arg0) = m ((c.tc : Thread Cert.RefQkvogIdeal.nD Cert.RefQkvogIdeal.τ).loc Cert.RefQkvogIdeal.main_arg0)
      ∧ r.2.mem ((c.tc : Thread Cert.RefQkvogIdeal.nD Cert.RefQkvogIdeal.τ).loc Cert.RefQkvogIdeal.main_arg1) = m ((c.tc : Thread Cert.RefQkvogIdeal.nD Cert.RefQkvogIdeal.τ).loc Cert.RefQkvogIdeal.main_arg1)
      ∧ r.2.mem ((c.tc : Thread Cert.RefQkvogIdeal.nD Cert.RefQkvogIdeal.τ).loc Cert.RefQkvogIdeal.main_arg2) = m ((c.tc : Thread Cert.RefQkvogIdeal.nD Cert.RefQkvogIdeal.τ).loc Cert.RefQkvogIdeal.main_arg2))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ r.2.sem = fun _ => 0)

def quiescent_RefKProjIdeal [hRefKProjIdeal : Cert.RefKProjIdeal.Facts] : Prop :=
  ∀ (m : (ℓ : Loc Cert.RefKProjIdeal.nD Cert.RefKProjIdeal.τ Cert.RefKProjIdeal.sig) → Buf (Elt Ideal) ℓ) (g : Dev Cert.RefKProjIdeal.nD → PrngReg), Pre_RefKProjIdeal m →
    θ_run (Cert.RefKProjIdeal.defs (F := Ideal)) (onTc (τ := Cert.RefKProjIdeal.τ) (Cert.RefKProjIdeal.main (F := Ideal))) ⟨m, fun _ => 0, g⟩ (fun r => (∀ c : Dev Cert.RefKProjIdeal.nD,
      r.2.mem ((c.tc : Thread Cert.RefKProjIdeal.nD Cert.RefKProjIdeal.τ).loc Cert.RefKProjIdeal.main_arg0) = m ((c.tc : Thread Cert.RefKProjIdeal.nD Cert.RefKProjIdeal.τ).loc Cert.RefKProjIdeal.main_arg0)
      ∧ r.2.mem ((c.tc : Thread Cert.RefKProjIdeal.nD Cert.RefKProjIdeal.τ).loc Cert.RefKProjIdeal.main_arg1) = m ((c.tc : Thread Cert.RefKProjIdeal.nD Cert.RefKProjIdeal.τ).loc Cert.RefKProjIdeal.main_arg1)
      ∧ r.2.mem ((c.tc : Thread Cert.RefKProjIdeal.nD Cert.RefKProjIdeal.τ).loc Cert.RefKProjIdeal.main_arg2) = m ((c.tc : Thread Cert.RefKProjIdeal.nD Cert.RefKProjIdeal.τ).loc Cert.RefKProjIdeal.main_arg2))
      ∧ r.2.sem = fun _ => 0)

def quiescent_VProj [hVProj : Cert.VProj.Facts] : Prop :=
  ∀ (m : (ℓ : Loc Cert.VProj.nD Cert.VProj.τ Cert.VProj.sig) → Buf (Elt Bits) ℓ) (g : Dev Cert.VProj.nD → PrngReg), Pre_VProj m →
    θ_run (Cert.VProj.defs (F := Bits)) (onTc (τ := Cert.VProj.τ) (Cert.VProj.main (F := Bits))) ⟨m, fun _ => 0, g⟩ (fun r => (∀ c : Dev Cert.VProj.nD,
      r.2.mem ((c.tc : Thread Cert.VProj.nD Cert.VProj.τ).loc Cert.VProj.main_arg0) = m ((c.tc : Thread Cert.VProj.nD Cert.VProj.τ).loc Cert.VProj.main_arg0)
      ∧ r.2.mem ((c.tc : Thread Cert.VProj.nD Cert.VProj.τ).loc Cert.VProj.main_arg1) = m ((c.tc : Thread Cert.VProj.nD Cert.VProj.τ).loc Cert.VProj.main_arg1)
      ∧ r.2.mem ((c.tc : Thread Cert.VProj.nD Cert.VProj.τ).loc Cert.VProj.main_arg2) = m ((c.tc : Thread Cert.VProj.nD Cert.VProj.τ).loc Cert.VProj.main_arg2))
      ∧ r.2.sem = fun _ => 0)

def quiescent_VProjIdeal [hVProjIdeal : Cert.VProjIdeal.Facts] : Prop :=
  ∀ (m : (ℓ : Loc Cert.VProjIdeal.nD Cert.VProjIdeal.τ Cert.VProjIdeal.sig) → Buf (Elt Ideal) ℓ) (g : Dev Cert.VProjIdeal.nD → PrngReg), Pre_VProjIdeal m →
    θ_run (Cert.VProjIdeal.defs (F := Ideal)) (onTc (τ := Cert.VProjIdeal.τ) (Cert.VProjIdeal.main (F := Ideal))) ⟨m, fun _ => 0, g⟩ (fun r => (∀ c : Dev Cert.VProjIdeal.nD,
      r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
      ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1)
      ∧ r.2.mem ((c.tc : Thread Cert.VProjIdeal.nD Cert.VProjIdeal.τ).loc Cert.VProjIdeal.main_arg2) = m ((c.tc : Thread Cert.VProjIdeal.nD Cert.VProjIdeal.τ).loc Cert.VProjIdeal.main_arg2))
      ∧ r.2.sem = fun _ => 0)

def quiescent_RefVProjIdeal [hRefVProjIdeal : Cert.RefVProjIdeal.Facts] : Prop :=
  ∀ (m : (ℓ : Loc Cert.RefVProjIdeal.nD Cert.RefVProjIdeal.τ Cert.RefVProjIdeal.sig) → Buf (Elt Ideal) ℓ) (g : Dev Cert.RefVProjIdeal.nD → PrngReg), Pre_RefVProjIdeal m →
    θ_run (Cert.RefVProjIdeal.defs (F := Ideal)) (onTc (τ := Cert.RefVProjIdeal.τ) (Cert.RefVProjIdeal.main (F := Ideal))) ⟨m, fun _ => 0, g⟩ (fun r => (∀ c : Dev Cert.RefVProjIdeal.nD,
      r.2.mem ((c.tc : Thread Cert.RefVProjIdeal.nD Cert.RefVProjIdeal.τ).loc Cert.RefVProjIdeal.main_arg0) = m ((c.tc : Thread Cert.RefVProjIdeal.nD Cert.RefVProjIdeal.τ).loc Cert.RefVProjIdeal.main_arg0)
      ∧ r.2.mem ((c.tc : Thread Cert.RefVProjIdeal.nD Cert.RefVProjIdeal.τ).loc Cert.RefVProjIdeal.main_arg1) = m ((c.tc : Thread Cert.RefVProjIdeal.nD Cert.RefVProjIdeal.τ).loc Cert.RefVProjIdeal.main_arg1)
      ∧ r.2.mem ((c.tc : Thread Cert.RefVProjIdeal.nD Cert.RefVProjIdeal.τ).loc Cert.RefVProjIdeal.main_arg2) = m ((c.tc : Thread Cert.RefVProjIdeal.nD Cert.RefVProjIdeal.τ).loc Cert.RefVProjIdeal.main_arg2))
      ∧ r.2.sem = fun _ => 0)

def quiescent_Qg [hQg : Cert.Qg.Facts] : Prop :=
  ∀ (m : (ℓ : Loc Cert.Qg.nD Cert.Qg.τ Cert.Qg.sig) → Buf (Elt Bits) ℓ) (g : Dev Cert.Qg.nD → PrngReg), Pre_Qg m →
    θ_run (Cert.Qg.defs (F := Bits)) (onTc (τ := Cert.Qg.τ) (Cert.Qg.main (F := Bits))) ⟨m, fun _ => 0, g⟩ (fun r => (∀ c : Dev Cert.Qg.nD,
      r.2.mem ((c.tc : Thread Cert.Qg.nD Cert.Qg.τ).loc Cert.Qg.main_arg0) = m ((c.tc : Thread Cert.Qg.nD Cert.Qg.τ).loc Cert.Qg.main_arg0)
      ∧ r.2.mem ((c.tc : Thread Cert.Qg.nD Cert.Qg.τ).loc Cert.Qg.main_arg1) = m ((c.tc : Thread Cert.Qg.nD Cert.Qg.τ).loc Cert.Qg.main_arg1)
      ∧ r.2.mem ((c.tc : Thread Cert.Qg.nD Cert.Qg.τ).loc Cert.Qg.main_arg2) = m ((c.tc : Thread Cert.Qg.nD Cert.Qg.τ).loc Cert.Qg.main_arg2))
      ∧ r.2.sem = fun _ => 0)

def quiescent_QgIdeal [hQgIdeal : Cert.QgIdeal.Facts] : Prop :=
  ∀ (m : (ℓ : Loc Cert.QgIdeal.nD Cert.QgIdeal.τ Cert.QgIdeal.sig) → Buf (Elt Ideal) ℓ) (g : Dev Cert.QgIdeal.nD → PrngReg), Pre_QgIdeal m →
    θ_run (Cert.QgIdeal.defs (F := Ideal)) (onTc (τ := Cert.QgIdeal.τ) (Cert.QgIdeal.main (F := Ideal))) ⟨m, fun _ => 0, g⟩ (fun r => (∀ c : Dev Cert.QgIdeal.nD,
      r.2.mem ((c.tc : Thread Cert.QgIdeal.nD Cert.QgIdeal.τ).loc Cert.QgIdeal.main_arg0) = m ((c.tc : Thread Cert.QgIdeal.nD Cert.QgIdeal.τ).loc Cert.QgIdeal.main_arg0)
      ∧ r.2.mem ((c.tc : Thread Cert.QgIdeal.nD Cert.QgIdeal.τ).loc Cert.QgIdeal.main_arg1) = m ((c.tc : Thread Cert.QgIdeal.nD Cert.QgIdeal.τ).loc Cert.QgIdeal.main_arg1)
      ∧ r.2.mem ((c.tc : Thread Cert.QgIdeal.nD Cert.QgIdeal.τ).loc Cert.QgIdeal.main_arg2) = m ((c.tc : Thread Cert.QgIdeal.nD Cert.QgIdeal.τ).loc Cert.QgIdeal.main_arg2))
      ∧ r.2.sem = fun _ => 0)

def quiescent_RefQgIdeal [hRefQgIdeal : Cert.RefQgIdeal.Facts] : Prop :=
  ∀ (m : (ℓ : Loc Cert.RefQgIdeal.nD Cert.RefQgIdeal.τ Cert.RefQgIdeal.sig) → Buf (Elt Ideal) ℓ) (g : Dev Cert.RefQgIdeal.nD → PrngReg), Pre_RefQgIdeal m →
    θ_run (Cert.RefQgIdeal.defs (F := Ideal)) (onTc (τ := Cert.RefQgIdeal.τ) (Cert.RefQgIdeal.main (F := Ideal))) ⟨m, fun _ => 0, g⟩ (fun r => (∀ c : Dev Cert.RefQgIdeal.nD,
      r.2.mem ((c.tc : Thread Cert.RefQgIdeal.nD Cert.RefQgIdeal.τ).loc Cert.RefQgIdeal.main_arg0) = m ((c.tc : Thread Cert.RefQgIdeal.nD Cert.RefQgIdeal.τ).loc Cert.RefQgIdeal.main_arg0)
      ∧ r.2.mem ((c.tc : Thread Cert.RefQgIdeal.nD Cert.RefQgIdeal.τ).loc Cert.RefQgIdeal.main_arg1) = m ((c.tc : Thread Cert.RefQgIdeal.nD Cert.RefQgIdeal.τ).loc Cert.RefQgIdeal.main_arg1)
      ∧ r.2.mem ((c.tc : Thread Cert.RefQgIdeal.nD Cert.RefQgIdeal.τ).loc Cert.RefQgIdeal.main_arg2) = m ((c.tc : Thread Cert.RefQgIdeal.nD Cert.RefQgIdeal.τ).loc Cert.RefQgIdeal.main_arg2))
      ∧ r.2.sem = fun _ => 0)

def quiescent_OddU [hOddU : Cert.OddU.Facts] : Prop :=
  ∀ (m : (ℓ : Loc Cert.OddU.nD Cert.OddU.τ Cert.OddU.sig) → Buf (Elt Bits) ℓ) (g : Dev Cert.OddU.nD → PrngReg), Pre_OddU m →
    θ_run (Cert.OddU.defs (F := Bits)) (onTc (τ := Cert.OddU.τ) (Cert.OddU.main (F := Bits))) ⟨m, fun _ => 0, g⟩ (fun r => (∀ c : Dev Cert.OddU.nD,
      r.2.mem ((c.tc : Thread Cert.OddU.nD Cert.OddU.τ).loc Cert.OddU.main_arg0) = m ((c.tc : Thread Cert.OddU.nD Cert.OddU.τ).loc Cert.OddU.main_arg0)
      ∧ r.2.mem ((c.tc : Thread Cert.OddU.nD Cert.OddU.τ).loc Cert.OddU.main_arg1) = m ((c.tc : Thread Cert.OddU.nD Cert.OddU.τ).loc Cert.OddU.main_arg1)
      ∧ r.2.mem ((c.tc : Thread Cert.OddU.nD Cert.OddU.τ).loc Cert.OddU.main_arg2) = m ((c.tc : Thread Cert.OddU.nD Cert.OddU.τ).loc Cert.OddU.main_arg2)
      ∧ r.2.mem ((c.tc : Thread Cert.OddU.nD Cert.OddU.τ).loc Cert.OddU.main_arg3) = m ((c.tc : Thread Cert.OddU.nD Cert.OddU.τ).loc Cert.OddU.main_arg3))
      ∧ r.2.sem = fun _ => 0)

def quiescent_OddUIdeal [hOddUIdeal : Cert.OddUIdeal.Facts] : Prop :=
  ∀ (m : (ℓ : Loc Cert.OddUIdeal.nD Cert.OddUIdeal.τ Cert.OddUIdeal.sig) → Buf (Elt Ideal) ℓ) (g : Dev Cert.OddUIdeal.nD → PrngReg), Pre_OddUIdeal m →
    θ_run (Cert.OddUIdeal.defs (F := Ideal)) (onTc (τ := Cert.OddUIdeal.τ) (Cert.OddUIdeal.main (F := Ideal))) ⟨m, fun _ => 0, g⟩ (fun r => (∀ c : Dev Cert.OddUIdeal.nD,
      r.2.mem ((c.tc : Thread Cert.OddUIdeal.nD Cert.OddUIdeal.τ).loc Cert.OddUIdeal.main_arg0) = m ((c.tc : Thread Cert.OddUIdeal.nD Cert.OddUIdeal.τ).loc Cert.OddUIdeal.main_arg0)
      ∧ r.2.mem ((c.tc : Thread Cert.OddUIdeal.nD Cert.OddUIdeal.τ).loc Cert.OddUIdeal.main_arg1) = m ((c.tc : Thread Cert.OddUIdeal.nD Cert.OddUIdeal.τ).loc Cert.OddUIdeal.main_arg1)
      ∧ r.2.mem ((c.tc : Thread Cert.OddUIdeal.nD Cert.OddUIdeal.τ).loc Cert.OddUIdeal.main_arg2) = m ((c.tc : Thread Cert.OddUIdeal.nD Cert.OddUIdeal.τ).loc Cert.OddUIdeal.main_arg2)
      ∧ r.2.mem ((c.tc : Thread Cert.OddUIdeal.nD Cert.OddUIdeal.τ).loc Cert.OddUIdeal.main_arg3) = m ((c.tc : Thread Cert.OddUIdeal.nD Cert.OddUIdeal.τ).loc Cert.OddUIdeal.main_arg3))
      ∧ r.2.sem = fun _ => 0)

def quiescent_RefOddUIdeal [hRefOddUIdeal : Cert.RefOddUIdeal.Facts] : Prop :=
  ∀ (m : (ℓ : Loc Cert.RefOddUIdeal.nD Cert.RefOddUIdeal.τ Cert.RefOddUIdeal.sig) → Buf (Elt Ideal) ℓ) (g : Dev Cert.RefOddUIdeal.nD → PrngReg), Pre_RefOddUIdeal m →
    θ_run (Cert.RefOddUIdeal.defs (F := Ideal)) (onTc (τ := Cert.RefOddUIdeal.τ) (Cert.RefOddUIdeal.main (F := Ideal))) ⟨m, fun _ => 0, g⟩ (fun r => (∀ c : Dev Cert.RefOddUIdeal.nD,
      r.2.mem ((c.tc : Thread Cert.RefOddUIdeal.nD Cert.RefOddUIdeal.τ).loc Cert.RefOddUIdeal.main_arg0) = m ((c.tc : Thread Cert.RefOddUIdeal.nD Cert.RefOddUIdeal.τ).loc Cert.RefOddUIdeal.main_arg0)
      ∧ r.2.mem ((c.tc : Thread Cert.RefOddUIdeal.nD Cert.RefOddUIdeal.τ).loc Cert.RefOddUIdeal.main_arg1) = m ((c.tc : Thread Cert.RefOddUIdeal.nD Cert.RefOddUIdeal.τ).loc Cert.RefOddUIdeal.main_arg1)
      ∧ r.2.mem ((c.tc : Thread Cert.RefOddUIdeal.nD Cert.RefOddUIdeal.τ).loc Cert.RefOddUIdeal.main_arg2) = m ((c.tc : Thread Cert.RefOddUIdeal.nD Cert.RefOddUIdeal.τ).loc Cert.RefOddUIdeal.main_arg2)
      ∧ r.2.mem ((c.tc : Thread Cert.RefOddUIdeal.nD Cert.RefOddUIdeal.τ).loc Cert.RefOddUIdeal.main_arg3) = m ((c.tc : Thread Cert.RefOddUIdeal.nD Cert.RefOddUIdeal.τ).loc Cert.RefOddUIdeal.main_arg3))
      ∧ r.2.sem = fun _ => 0)

def quiescent_OddV [hOddV : Cert.OddV.Facts] : Prop :=
  ∀ (m : (ℓ : Loc Cert.OddV.nD Cert.OddV.τ Cert.OddV.sig) → Buf (Elt Bits) ℓ) (g : Dev Cert.OddV.nD → PrngReg), Pre_OddV m →
    θ_run (Cert.OddV.defs (F := Bits)) (onTc (τ := Cert.OddV.τ) (Cert.OddV.main (F := Bits))) ⟨m, fun _ => 0, g⟩ (fun r => (∀ c : Dev Cert.OddV.nD,
      r.2.mem ((c.tc : Thread Cert.OddV.nD Cert.OddV.τ).loc Cert.OddV.main_arg0) = m ((c.tc : Thread Cert.OddV.nD Cert.OddV.τ).loc Cert.OddV.main_arg0)
      ∧ r.2.mem ((c.tc : Thread Cert.OddV.nD Cert.OddV.τ).loc Cert.OddV.main_arg1) = m ((c.tc : Thread Cert.OddV.nD Cert.OddV.τ).loc Cert.OddV.main_arg1)
      ∧ r.2.mem ((c.tc : Thread Cert.OddV.nD Cert.OddV.τ).loc Cert.OddV.main_arg2) = m ((c.tc : Thread Cert.OddV.nD Cert.OddV.τ).loc Cert.OddV.main_arg2)
      ∧ r.2.mem ((c.tc : Thread Cert.OddV.nD Cert.OddV.τ).loc Cert.OddV.main_arg3) = m ((c.tc : Thread Cert.OddV.nD Cert.OddV.τ).loc Cert.OddV.main_arg3))
      ∧ r.2.sem = fun _ => 0)

def quiescent_OddVIdeal [hOddVIdeal : Cert.OddVIdeal.Facts] : Prop :=
  ∀ (m : (ℓ : Loc Cert.OddVIdeal.nD Cert.OddVIdeal.τ Cert.OddVIdeal.sig) → Buf (Elt Ideal) ℓ) (g : Dev Cert.OddVIdeal.nD → PrngReg), Pre_OddVIdeal m →
    θ_run (Cert.OddVIdeal.defs (F := Ideal)) (onTc (τ := Cert.OddVIdeal.τ) (Cert.OddVIdeal.main (F := Ideal))) ⟨m, fun _ => 0, g⟩ (fun r => (∀ c : Dev Cert.OddVIdeal.nD,
      r.2.mem ((c.tc : Thread Cert.OddVIdeal.nD Cert.OddVIdeal.τ).loc Cert.OddVIdeal.main_arg0) = m ((c.tc : Thread Cert.OddVIdeal.nD Cert.OddVIdeal.τ).loc Cert.OddVIdeal.main_arg0)
      ∧ r.2.mem ((c.tc : Thread Cert.OddVIdeal.nD Cert.OddVIdeal.τ).loc Cert.OddVIdeal.main_arg1) = m ((c.tc : Thread Cert.OddVIdeal.nD Cert.OddVIdeal.τ).loc Cert.OddVIdeal.main_arg1)
      ∧ r.2.mem ((c.tc : Thread Cert.OddVIdeal.nD Cert.OddVIdeal.τ).loc Cert.OddVIdeal.main_arg2) = m ((c.tc : Thread Cert.OddVIdeal.nD Cert.OddVIdeal.τ).loc Cert.OddVIdeal.main_arg2)
      ∧ r.2.mem ((c.tc : Thread Cert.OddVIdeal.nD Cert.OddVIdeal.τ).loc Cert.OddVIdeal.main_arg3) = m ((c.tc : Thread Cert.OddVIdeal.nD Cert.OddVIdeal.τ).loc Cert.OddVIdeal.main_arg3))
      ∧ r.2.sem = fun _ => 0)

def quiescent_RefOddVIdeal [hRefOddVIdeal : Cert.RefOddVIdeal.Facts] : Prop :=
  ∀ (m : (ℓ : Loc Cert.RefOddVIdeal.nD Cert.RefOddVIdeal.τ Cert.RefOddVIdeal.sig) → Buf (Elt Ideal) ℓ) (g : Dev Cert.RefOddVIdeal.nD → PrngReg), Pre_RefOddVIdeal m →
    θ_run (Cert.RefOddVIdeal.defs (F := Ideal)) (onTc (τ := Cert.RefOddVIdeal.τ) (Cert.RefOddVIdeal.main (F := Ideal))) ⟨m, fun _ => 0, g⟩ (fun r => (∀ c : Dev Cert.RefOddVIdeal.nD,
      r.2.mem ((c.tc : Thread Cert.RefOddVIdeal.nD Cert.RefOddVIdeal.τ).loc Cert.RefOddVIdeal.main_arg0) = m ((c.tc : Thread Cert.RefOddVIdeal.nD Cert.RefOddVIdeal.τ).loc Cert.RefOddVIdeal.main_arg0)
      ∧ r.2.mem ((c.tc : Thread Cert.RefOddVIdeal.nD Cert.RefOddVIdeal.τ).loc Cert.RefOddVIdeal.main_arg1) = m ((c.tc : Thread Cert.RefOddVIdeal.nD Cert.RefOddVIdeal.τ).loc Cert.RefOddVIdeal.main_arg1)
      ∧ r.2.mem ((c.tc : Thread Cert.RefOddVIdeal.nD Cert.RefOddVIdeal.τ).loc Cert.RefOddVIdeal.main_arg2) = m ((c.tc : Thread Cert.RefOddVIdeal.nD Cert.RefOddVIdeal.τ).loc Cert.RefOddVIdeal.main_arg2)
      ∧ r.2.mem ((c.tc : Thread Cert.RefOddVIdeal.nD Cert.RefOddVIdeal.τ).loc Cert.RefOddVIdeal.main_arg3) = m ((c.tc : Thread Cert.RefOddVIdeal.nD Cert.RefOddVIdeal.τ).loc Cert.RefOddVIdeal.main_arg3))
      ∧ r.2.sem = fun _ => 0)

def quiescent_OddG [hOddG : Cert.OddG.Facts] : Prop :=
  ∀ (m : (ℓ : Loc Cert.OddG.nD Cert.OddG.τ Cert.OddG.sig) → Buf (Elt Bits) ℓ) (g : Dev Cert.OddG.nD → PrngReg), Pre_OddG m →
    θ_run (Cert.OddG.defs (F := Bits)) (onTc (τ := Cert.OddG.τ) (Cert.OddG.main (F := Bits))) ⟨m, fun _ => 0, g⟩ (fun r => (∀ c : Dev Cert.OddG.nD,
      r.2.mem ((c.tc : Thread Cert.OddG.nD Cert.OddG.τ).loc Cert.OddG.main_arg0) = m ((c.tc : Thread Cert.OddG.nD Cert.OddG.τ).loc Cert.OddG.main_arg0)
      ∧ r.2.mem ((c.tc : Thread Cert.OddG.nD Cert.OddG.τ).loc Cert.OddG.main_arg1) = m ((c.tc : Thread Cert.OddG.nD Cert.OddG.τ).loc Cert.OddG.main_arg1)
      ∧ r.2.mem ((c.tc : Thread Cert.OddG.nD Cert.OddG.τ).loc Cert.OddG.main_arg2) = m ((c.tc : Thread Cert.OddG.nD Cert.OddG.τ).loc Cert.OddG.main_arg2)
      ∧ r.2.mem ((c.tc : Thread Cert.OddG.nD Cert.OddG.τ).loc Cert.OddG.main_arg3) = m ((c.tc : Thread Cert.OddG.nD Cert.OddG.τ).loc Cert.OddG.main_arg3))
      ∧ r.2.sem = fun _ => 0)

def quiescent_OddGIdeal [hOddGIdeal : Cert.OddGIdeal.Facts] : Prop :=
  ∀ (m : (ℓ : Loc Cert.OddGIdeal.nD Cert.OddGIdeal.τ Cert.OddGIdeal.sig) → Buf (Elt Ideal) ℓ) (g : Dev Cert.OddGIdeal.nD → PrngReg), Pre_OddGIdeal m →
    θ_run (Cert.OddGIdeal.defs (F := Ideal)) (onTc (τ := Cert.OddGIdeal.τ) (Cert.OddGIdeal.main (F := Ideal))) ⟨m, fun _ => 0, g⟩ (fun r => (∀ c : Dev Cert.OddGIdeal.nD,
      r.2.mem ((c.tc : Thread Cert.OddGIdeal.nD Cert.OddGIdeal.τ).loc Cert.OddGIdeal.main_arg0) = m ((c.tc : Thread Cert.OddGIdeal.nD Cert.OddGIdeal.τ).loc Cert.OddGIdeal.main_arg0)
      ∧ r.2.mem ((c.tc : Thread Cert.OddGIdeal.nD Cert.OddGIdeal.τ).loc Cert.OddGIdeal.main_arg1) = m ((c.tc : Thread Cert.OddGIdeal.nD Cert.OddGIdeal.τ).loc Cert.OddGIdeal.main_arg1)
      ∧ r.2.mem ((c.tc : Thread Cert.OddGIdeal.nD Cert.OddGIdeal.τ).loc Cert.OddGIdeal.main_arg2) = m ((c.tc : Thread Cert.OddGIdeal.nD Cert.OddGIdeal.τ).loc Cert.OddGIdeal.main_arg2)
      ∧ r.2.mem ((c.tc : Thread Cert.OddGIdeal.nD Cert.OddGIdeal.τ).loc Cert.OddGIdeal.main_arg3) = m ((c.tc : Thread Cert.OddGIdeal.nD Cert.OddGIdeal.τ).loc Cert.OddGIdeal.main_arg3))
      ∧ r.2.sem = fun _ => 0)

def quiescent_RefOddGIdeal [hRefOddGIdeal : Cert.RefOddGIdeal.Facts] : Prop :=
  ∀ (m : (ℓ : Loc Cert.RefOddGIdeal.nD Cert.RefOddGIdeal.τ Cert.RefOddGIdeal.sig) → Buf (Elt Ideal) ℓ) (g : Dev Cert.RefOddGIdeal.nD → PrngReg), Pre_RefOddGIdeal m →
    θ_run (Cert.RefOddGIdeal.defs (F := Ideal)) (onTc (τ := Cert.RefOddGIdeal.τ) (Cert.RefOddGIdeal.main (F := Ideal))) ⟨m, fun _ => 0, g⟩ (fun r => (∀ c : Dev Cert.RefOddGIdeal.nD,
      r.2.mem ((c.tc : Thread Cert.RefOddGIdeal.nD Cert.RefOddGIdeal.τ).loc Cert.RefOddGIdeal.main_arg0) = m ((c.tc : Thread Cert.RefOddGIdeal.nD Cert.RefOddGIdeal.τ).loc Cert.RefOddGIdeal.main_arg0)
      ∧ r.2.mem ((c.tc : Thread Cert.RefOddGIdeal.nD Cert.RefOddGIdeal.τ).loc Cert.RefOddGIdeal.main_arg1) = m ((c.tc : Thread Cert.RefOddGIdeal.nD Cert.RefOddGIdeal.τ).loc Cert.RefOddGIdeal.main_arg1)
      ∧ r.2.mem ((c.tc : Thread Cert.RefOddGIdeal.nD Cert.RefOddGIdeal.τ).loc Cert.RefOddGIdeal.main_arg2) = m ((c.tc : Thread Cert.RefOddGIdeal.nD Cert.RefOddGIdeal.τ).loc Cert.RefOddGIdeal.main_arg2)
      ∧ r.2.mem ((c.tc : Thread Cert.RefOddGIdeal.nD Cert.RefOddGIdeal.τ).loc Cert.RefOddGIdeal.main_arg3) = m ((c.tc : Thread Cert.RefOddGIdeal.nD Cert.RefOddGIdeal.τ).loc Cert.RefOddGIdeal.main_arg3))
      ∧ r.2.sem = fun _ => 0)

def quiescent_OddY [hOddY : Cert.OddY.Facts] : Prop :=
  ∀ (m : (ℓ : Loc Cert.OddY.nD Cert.OddY.τ Cert.OddY.sig) → Buf (Elt Bits) ℓ) (g : Dev Cert.OddY.nD → PrngReg), Pre_OddY m →
    θ_run (Cert.OddY.defs (F := Bits)) (onTc (τ := Cert.OddY.τ) (Cert.OddY.main (F := Bits))) ⟨m, fun _ => 0, g⟩ (fun r => (∀ c : Dev Cert.OddY.nD,
      r.2.mem ((c.tc : Thread Cert.OddY.nD Cert.OddY.τ).loc Cert.OddY.main_arg0) = m ((c.tc : Thread Cert.OddY.nD Cert.OddY.τ).loc Cert.OddY.main_arg0)
      ∧ r.2.mem ((c.tc : Thread Cert.OddY.nD Cert.OddY.τ).loc Cert.OddY.main_arg1) = m ((c.tc : Thread Cert.OddY.nD Cert.OddY.τ).loc Cert.OddY.main_arg1)
      ∧ r.2.mem ((c.tc : Thread Cert.OddY.nD Cert.OddY.τ).loc Cert.OddY.main_arg2) = m ((c.tc : Thread Cert.OddY.nD Cert.OddY.τ).loc Cert.OddY.main_arg2)
      ∧ r.2.mem ((c.tc : Thread Cert.OddY.nD Cert.OddY.τ).loc Cert.OddY.main_arg3) = m ((c.tc : Thread Cert.OddY.nD Cert.OddY.τ).loc Cert.OddY.main_arg3)
      ∧ r.2.mem ((c.tc : Thread Cert.OddY.nD Cert.OddY.τ).loc Cert.OddY.main_arg4) = m ((c.tc : Thread Cert.OddY.nD Cert.OddY.τ).loc Cert.OddY.main_arg4)
      ∧ r.2.mem ((c.tc : Thread Cert.OddY.nD Cert.OddY.τ).loc Cert.OddY.main_arg5) = m ((c.tc : Thread Cert.OddY.nD Cert.OddY.τ).loc Cert.OddY.main_arg5)
      ∧ r.2.mem ((c.tc : Thread Cert.OddY.nD Cert.OddY.τ).loc Cert.OddY.main_arg6) = m ((c.tc : Thread Cert.OddY.nD Cert.OddY.τ).loc Cert.OddY.main_arg6)
      ∧ r.2.mem ((c.tc : Thread Cert.OddY.nD Cert.OddY.τ).loc Cert.OddY.main_arg7) = m ((c.tc : Thread Cert.OddY.nD Cert.OddY.τ).loc Cert.OddY.main_arg7)
      ∧ r.2.mem ((c.tc : Thread Cert.OddY.nD Cert.OddY.τ).loc Cert.OddY.main_arg8) = m ((c.tc : Thread Cert.OddY.nD Cert.OddY.τ).loc Cert.OddY.main_arg8)
      ∧ r.2.mem ((c.tc : Thread Cert.OddY.nD Cert.OddY.τ).loc Cert.OddY.main_arg9) = m ((c.tc : Thread Cert.OddY.nD Cert.OddY.τ).loc Cert.OddY.main_arg9))
      ∧ r.2.sem = fun _ => 0)

def quiescent_OddYIdeal [hOddYIdeal : Cert.OddYIdeal.Facts] : Prop :=
  ∀ (m : (ℓ : Loc Cert.OddYIdeal.nD Cert.OddYIdeal.τ Cert.OddYIdeal.sig) → Buf (Elt Ideal) ℓ) (g : Dev Cert.OddYIdeal.nD → PrngReg), Pre_OddYIdeal m →
    θ_run (Cert.OddYIdeal.defs (F := Ideal)) (onTc (τ := Cert.OddYIdeal.τ) (Cert.OddYIdeal.main (F := Ideal))) ⟨m, fun _ => 0, g⟩ (fun r => (∀ c : Dev Cert.OddYIdeal.nD,
      r.2.mem ((c.tc : Thread Cert.OddYIdeal.nD Cert.OddYIdeal.τ).loc Cert.OddYIdeal.main_arg0) = m ((c.tc : Thread Cert.OddYIdeal.nD Cert.OddYIdeal.τ).loc Cert.OddYIdeal.main_arg0)
      ∧ r.2.mem ((c.tc : Thread Cert.OddYIdeal.nD Cert.OddYIdeal.τ).loc Cert.OddYIdeal.main_arg1) = m ((c.tc : Thread Cert.OddYIdeal.nD Cert.OddYIdeal.τ).loc Cert.OddYIdeal.main_arg1)
      ∧ r.2.mem ((c.tc : Thread Cert.OddYIdeal.nD Cert.OddYIdeal.τ).loc Cert.OddYIdeal.main_arg2) = m ((c.tc : Thread Cert.OddYIdeal.nD Cert.OddYIdeal.τ).loc Cert.OddYIdeal.main_arg2)
      ∧ r.2.mem ((c.tc : Thread Cert.OddYIdeal.nD Cert.OddYIdeal.τ).loc Cert.OddYIdeal.main_arg3) = m ((c.tc : Thread Cert.OddYIdeal.nD Cert.OddYIdeal.τ).loc Cert.OddYIdeal.main_arg3)
      ∧ r.2.mem ((c.tc : Thread Cert.OddYIdeal.nD Cert.OddYIdeal.τ).loc Cert.OddYIdeal.main_arg4) = m ((c.tc : Thread Cert.OddYIdeal.nD Cert.OddYIdeal.τ).loc Cert.OddYIdeal.main_arg4)
      ∧ r.2.mem ((c.tc : Thread Cert.OddYIdeal.nD Cert.OddYIdeal.τ).loc Cert.OddYIdeal.main_arg5) = m ((c.tc : Thread Cert.OddYIdeal.nD Cert.OddYIdeal.τ).loc Cert.OddYIdeal.main_arg5)
      ∧ r.2.mem ((c.tc : Thread Cert.OddYIdeal.nD Cert.OddYIdeal.τ).loc Cert.OddYIdeal.main_arg6) = m ((c.tc : Thread Cert.OddYIdeal.nD Cert.OddYIdeal.τ).loc Cert.OddYIdeal.main_arg6)
      ∧ r.2.mem ((c.tc : Thread Cert.OddYIdeal.nD Cert.OddYIdeal.τ).loc Cert.OddYIdeal.main_arg7) = m ((c.tc : Thread Cert.OddYIdeal.nD Cert.OddYIdeal.τ).loc Cert.OddYIdeal.main_arg7)
      ∧ r.2.mem ((c.tc : Thread Cert.OddYIdeal.nD Cert.OddYIdeal.τ).loc Cert.OddYIdeal.main_arg8) = m ((c.tc : Thread Cert.OddYIdeal.nD Cert.OddYIdeal.τ).loc Cert.OddYIdeal.main_arg8)
      ∧ r.2.mem ((c.tc : Thread Cert.OddYIdeal.nD Cert.OddYIdeal.τ).loc Cert.OddYIdeal.main_arg9) = m ((c.tc : Thread Cert.OddYIdeal.nD Cert.OddYIdeal.τ).loc Cert.OddYIdeal.main_arg9))
      ∧ r.2.sem = fun _ => 0)

def quiescent_RefOddYIdeal [hRefOddYIdeal : Cert.RefOddYIdeal.Facts] : Prop :=
  ∀ (m : (ℓ : Loc Cert.RefOddYIdeal.nD Cert.RefOddYIdeal.τ Cert.RefOddYIdeal.sig) → Buf (Elt Ideal) ℓ) (g : Dev Cert.RefOddYIdeal.nD → PrngReg), Pre_RefOddYIdeal m →
    θ_run (Cert.RefOddYIdeal.defs (F := Ideal)) (onTc (τ := Cert.RefOddYIdeal.τ) (Cert.RefOddYIdeal.main (F := Ideal))) ⟨m, fun _ => 0, g⟩ (fun r => (∀ c : Dev Cert.RefOddYIdeal.nD,
      r.2.mem ((c.tc : Thread Cert.RefOddYIdeal.nD Cert.RefOddYIdeal.τ).loc Cert.RefOddYIdeal.main_arg0) = m ((c.tc : Thread Cert.RefOddYIdeal.nD Cert.RefOddYIdeal.τ).loc Cert.RefOddYIdeal.main_arg0)
      ∧ r.2.mem ((c.tc : Thread Cert.RefOddYIdeal.nD Cert.RefOddYIdeal.τ).loc Cert.RefOddYIdeal.main_arg1) = m ((c.tc : Thread Cert.RefOddYIdeal.nD Cert.RefOddYIdeal.τ).loc Cert.RefOddYIdeal.main_arg1)
      ∧ r.2.mem ((c.tc : Thread Cert.RefOddYIdeal.nD Cert.RefOddYIdeal.τ).loc Cert.RefOddYIdeal.main_arg2) = m ((c.tc : Thread Cert.RefOddYIdeal.nD Cert.RefOddYIdeal.τ).loc Cert.RefOddYIdeal.main_arg2)
      ∧ r.2.mem ((c.tc : Thread Cert.RefOddYIdeal.nD Cert.RefOddYIdeal.τ).loc Cert.RefOddYIdeal.main_arg3) = m ((c.tc : Thread Cert.RefOddYIdeal.nD Cert.RefOddYIdeal.τ).loc Cert.RefOddYIdeal.main_arg3)
      ∧ r.2.mem ((c.tc : Thread Cert.RefOddYIdeal.nD Cert.RefOddYIdeal.τ).loc Cert.RefOddYIdeal.main_arg4) = m ((c.tc : Thread Cert.RefOddYIdeal.nD Cert.RefOddYIdeal.τ).loc Cert.RefOddYIdeal.main_arg4)
      ∧ r.2.mem ((c.tc : Thread Cert.RefOddYIdeal.nD Cert.RefOddYIdeal.τ).loc Cert.RefOddYIdeal.main_arg5) = m ((c.tc : Thread Cert.RefOddYIdeal.nD Cert.RefOddYIdeal.τ).loc Cert.RefOddYIdeal.main_arg5)
      ∧ r.2.mem ((c.tc : Thread Cert.RefOddYIdeal.nD Cert.RefOddYIdeal.τ).loc Cert.RefOddYIdeal.main_arg6) = m ((c.tc : Thread Cert.RefOddYIdeal.nD Cert.RefOddYIdeal.τ).loc Cert.RefOddYIdeal.main_arg6)
      ∧ r.2.mem ((c.tc : Thread Cert.RefOddYIdeal.nD Cert.RefOddYIdeal.τ).loc Cert.RefOddYIdeal.main_arg7) = m ((c.tc : Thread Cert.RefOddYIdeal.nD Cert.RefOddYIdeal.τ).loc Cert.RefOddYIdeal.main_arg7)
      ∧ r.2.mem ((c.tc : Thread Cert.RefOddYIdeal.nD Cert.RefOddYIdeal.τ).loc Cert.RefOddYIdeal.main_arg8) = m ((c.tc : Thread Cert.RefOddYIdeal.nD Cert.RefOddYIdeal.τ).loc Cert.RefOddYIdeal.main_arg8)
      ∧ r.2.mem ((c.tc : Thread Cert.RefOddYIdeal.nD Cert.RefOddYIdeal.τ).loc Cert.RefOddYIdeal.main_arg9) = m ((c.tc : Thread Cert.RefOddYIdeal.nD Cert.RefOddYIdeal.τ).loc Cert.RefOddYIdeal.main_arg9))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4))
      ∧ r.2.sem = fun _ => 0)

def quiescent_RefMlstmIdeal [hRefMlstmIdeal : Cert.RefMlstmIdeal.Facts] : Prop :=
  ∀ (m : (ℓ : Loc Cert.RefMlstmIdeal.nD Cert.RefMlstmIdeal.τ Cert.RefMlstmIdeal.sig) → Buf (Elt Ideal) ℓ) (g : Dev Cert.RefMlstmIdeal.nD → PrngReg), Pre_RefMlstmIdeal m →
    θ_run (Cert.RefMlstmIdeal.defs (F := Ideal)) (onTc (τ := Cert.RefMlstmIdeal.τ) (Cert.RefMlstmIdeal.main (F := Ideal))) ⟨m, fun _ => 0, g⟩ (fun r => (∀ c : Dev Cert.RefMlstmIdeal.nD,
      r.2.mem ((c.tc : Thread Cert.RefMlstmIdeal.nD Cert.RefMlstmIdeal.τ).loc Cert.RefMlstmIdeal.main_arg0) = m ((c.tc : Thread Cert.RefMlstmIdeal.nD Cert.RefMlstmIdeal.τ).loc Cert.RefMlstmIdeal.main_arg0)
      ∧ r.2.mem ((c.tc : Thread Cert.RefMlstmIdeal.nD Cert.RefMlstmIdeal.τ).loc Cert.RefMlstmIdeal.main_arg1) = m ((c.tc : Thread Cert.RefMlstmIdeal.nD Cert.RefMlstmIdeal.τ).loc Cert.RefMlstmIdeal.main_arg1)
      ∧ r.2.mem ((c.tc : Thread Cert.RefMlstmIdeal.nD Cert.RefMlstmIdeal.τ).loc Cert.RefMlstmIdeal.main_arg2) = m ((c.tc : Thread Cert.RefMlstmIdeal.nD Cert.RefMlstmIdeal.τ).loc Cert.RefMlstmIdeal.main_arg2)
      ∧ r.2.mem ((c.tc : Thread Cert.RefMlstmIdeal.nD Cert.RefMlstmIdeal.τ).loc Cert.RefMlstmIdeal.main_arg3) = m ((c.tc : Thread Cert.RefMlstmIdeal.nD Cert.RefMlstmIdeal.τ).loc Cert.RefMlstmIdeal.main_arg3)
      ∧ r.2.mem ((c.tc : Thread Cert.RefMlstmIdeal.nD Cert.RefMlstmIdeal.τ).loc Cert.RefMlstmIdeal.main_arg4) = m ((c.tc : Thread Cert.RefMlstmIdeal.nD Cert.RefMlstmIdeal.τ).loc Cert.RefMlstmIdeal.main_arg4))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7))
      ∧ r.2.sem = fun _ => 0)

def quiescent_RefEvenOutIdeal [hRefEvenOutIdeal : Cert.RefEvenOutIdeal.Facts] : Prop :=
  ∀ (m : (ℓ : Loc Cert.RefEvenOutIdeal.nD Cert.RefEvenOutIdeal.τ Cert.RefEvenOutIdeal.sig) → Buf (Elt Ideal) ℓ) (g : Dev Cert.RefEvenOutIdeal.nD → PrngReg), Pre_RefEvenOutIdeal m →
    θ_run (Cert.RefEvenOutIdeal.defs (F := Ideal)) (onTc (τ := Cert.RefEvenOutIdeal.τ) (Cert.RefEvenOutIdeal.main (F := Ideal))) ⟨m, fun _ => 0, g⟩ (fun r => (∀ c : Dev Cert.RefEvenOutIdeal.nD,
      r.2.mem ((c.tc : Thread Cert.RefEvenOutIdeal.nD Cert.RefEvenOutIdeal.τ).loc Cert.RefEvenOutIdeal.main_arg0) = m ((c.tc : Thread Cert.RefEvenOutIdeal.nD Cert.RefEvenOutIdeal.τ).loc Cert.RefEvenOutIdeal.main_arg0)
      ∧ r.2.mem ((c.tc : Thread Cert.RefEvenOutIdeal.nD Cert.RefEvenOutIdeal.τ).loc Cert.RefEvenOutIdeal.main_arg1) = m ((c.tc : Thread Cert.RefEvenOutIdeal.nD Cert.RefEvenOutIdeal.τ).loc Cert.RefEvenOutIdeal.main_arg1)
      ∧ r.2.mem ((c.tc : Thread Cert.RefEvenOutIdeal.nD Cert.RefEvenOutIdeal.τ).loc Cert.RefEvenOutIdeal.main_arg2) = m ((c.tc : Thread Cert.RefEvenOutIdeal.nD Cert.RefEvenOutIdeal.τ).loc Cert.RefEvenOutIdeal.main_arg2)
      ∧ r.2.mem ((c.tc : Thread Cert.RefEvenOutIdeal.nD Cert.RefEvenOutIdeal.τ).loc Cert.RefEvenOutIdeal.main_arg3) = m ((c.tc : Thread Cert.RefEvenOutIdeal.nD Cert.RefEvenOutIdeal.τ).loc Cert.RefEvenOutIdeal.main_arg3)
      ∧ r.2.mem ((c.tc : Thread Cert.RefEvenOutIdeal.nD Cert.RefEvenOutIdeal.τ).loc Cert.RefEvenOutIdeal.main_arg4) = m ((c.tc : Thread Cert.RefEvenOutIdeal.nD Cert.RefEvenOutIdeal.τ).loc Cert.RefEvenOutIdeal.main_arg4)
      ∧ r.2.mem ((c.tc : Thread Cert.RefEvenOutIdeal.nD Cert.RefEvenOutIdeal.τ).loc Cert.RefEvenOutIdeal.main_arg5) = m ((c.tc : Thread Cert.RefEvenOutIdeal.nD Cert.RefEvenOutIdeal.τ).loc Cert.RefEvenOutIdeal.main_arg5)
      ∧ r.2.mem ((c.tc : Thread Cert.RefEvenOutIdeal.nD Cert.RefEvenOutIdeal.τ).loc Cert.RefEvenOutIdeal.main_arg6) = m ((c.tc : Thread Cert.RefEvenOutIdeal.nD Cert.RefEvenOutIdeal.τ).loc Cert.RefEvenOutIdeal.main_arg6)
      ∧ r.2.mem ((c.tc : Thread Cert.RefEvenOutIdeal.nD Cert.RefEvenOutIdeal.τ).loc Cert.RefEvenOutIdeal.main_arg7) = m ((c.tc : Thread Cert.RefEvenOutIdeal.nD Cert.RefEvenOutIdeal.τ).loc Cert.RefEvenOutIdeal.main_arg7))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4))
      ∧ r.2.sem = fun _ => 0)

def quiescent_FrontIdeal_pre_finite [hFrontIdeal : Cert.FrontIdeal.Facts] [hPre_finite : Cert.Pre_finite.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_finite m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4))
      ∧ r.2.sem = fun _ => 0)

def quiescent_RefFrontIdeal [hRefFrontIdeal : Cert.RefFrontIdeal.Facts] : Prop :=
  ∀ (m : (ℓ : Loc Cert.RefFrontIdeal.nD Cert.RefFrontIdeal.τ Cert.RefFrontIdeal.sig) → Buf (Elt Ideal) ℓ) (g : Dev Cert.RefFrontIdeal.nD → PrngReg), Pre_RefFrontIdeal m →
    θ_run (Cert.RefFrontIdeal.defs (F := Ideal)) (onTc (τ := Cert.RefFrontIdeal.τ) (Cert.RefFrontIdeal.main (F := Ideal))) ⟨m, fun _ => 0, g⟩ (fun r => (∀ c : Dev Cert.RefFrontIdeal.nD,
      r.2.mem ((c.tc : Thread Cert.RefFrontIdeal.nD Cert.RefFrontIdeal.τ).loc Cert.RefFrontIdeal.main_arg0) = m ((c.tc : Thread Cert.RefFrontIdeal.nD Cert.RefFrontIdeal.τ).loc Cert.RefFrontIdeal.main_arg0)
      ∧ r.2.mem ((c.tc : Thread Cert.RefFrontIdeal.nD Cert.RefFrontIdeal.τ).loc Cert.RefFrontIdeal.main_arg1) = m ((c.tc : Thread Cert.RefFrontIdeal.nD Cert.RefFrontIdeal.τ).loc Cert.RefFrontIdeal.main_arg1)
      ∧ r.2.mem ((c.tc : Thread Cert.RefFrontIdeal.nD Cert.RefFrontIdeal.τ).loc Cert.RefFrontIdeal.main_arg2) = m ((c.tc : Thread Cert.RefFrontIdeal.nD Cert.RefFrontIdeal.τ).loc Cert.RefFrontIdeal.main_arg2)
      ∧ r.2.mem ((c.tc : Thread Cert.RefFrontIdeal.nD Cert.RefFrontIdeal.τ).loc Cert.RefFrontIdeal.main_arg3) = m ((c.tc : Thread Cert.RefFrontIdeal.nD Cert.RefFrontIdeal.τ).loc Cert.RefFrontIdeal.main_arg3)
      ∧ r.2.mem ((c.tc : Thread Cert.RefFrontIdeal.nD Cert.RefFrontIdeal.τ).loc Cert.RefFrontIdeal.main_arg4) = m ((c.tc : Thread Cert.RefFrontIdeal.nD Cert.RefFrontIdeal.τ).loc Cert.RefFrontIdeal.main_arg4))
      ∧ r.2.sem = fun _ => 0)

def quiescent_RefFrontIdeal_pre_finite [hRefFrontIdeal : Cert.RefFrontIdeal.Facts] [hPre_finite : Cert.Pre_finite.Facts] : Prop :=
  ∀ (m : (ℓ : Loc Cert.RefFrontIdeal.nD Cert.RefFrontIdeal.τ Cert.RefFrontIdeal.sig) → Buf (Elt Ideal) ℓ) (g : Dev Cert.RefFrontIdeal.nD → PrngReg), Pre_RefFrontIdeal_finite m →
    θ_run (Cert.RefFrontIdeal.defs (F := Ideal)) (onTc (τ := Cert.RefFrontIdeal.τ) (Cert.RefFrontIdeal.main (F := Ideal))) ⟨m, fun _ => 0, g⟩ (fun r => (∀ c : Dev Cert.RefFrontIdeal.nD,
      r.2.mem ((c.tc : Thread Cert.RefFrontIdeal.nD Cert.RefFrontIdeal.τ).loc Cert.RefFrontIdeal.main_arg0) = m ((c.tc : Thread Cert.RefFrontIdeal.nD Cert.RefFrontIdeal.τ).loc Cert.RefFrontIdeal.main_arg0)
      ∧ r.2.mem ((c.tc : Thread Cert.RefFrontIdeal.nD Cert.RefFrontIdeal.τ).loc Cert.RefFrontIdeal.main_arg1) = m ((c.tc : Thread Cert.RefFrontIdeal.nD Cert.RefFrontIdeal.τ).loc Cert.RefFrontIdeal.main_arg1)
      ∧ r.2.mem ((c.tc : Thread Cert.RefFrontIdeal.nD Cert.RefFrontIdeal.τ).loc Cert.RefFrontIdeal.main_arg2) = m ((c.tc : Thread Cert.RefFrontIdeal.nD Cert.RefFrontIdeal.τ).loc Cert.RefFrontIdeal.main_arg2)
      ∧ r.2.mem ((c.tc : Thread Cert.RefFrontIdeal.nD Cert.RefFrontIdeal.τ).loc Cert.RefFrontIdeal.main_arg3) = m ((c.tc : Thread Cert.RefFrontIdeal.nD Cert.RefFrontIdeal.τ).loc Cert.RefFrontIdeal.main_arg3)
      ∧ r.2.mem ((c.tc : Thread Cert.RefFrontIdeal.nD Cert.RefFrontIdeal.τ).loc Cert.RefFrontIdeal.main_arg4) = m ((c.tc : Thread Cert.RefFrontIdeal.nD Cert.RefFrontIdeal.τ).loc Cert.RefFrontIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1))
      ∧ r.2.sem = fun _ => 0)

def quiescent_RefFinishIdeal [hRefFinishIdeal : Cert.RefFinishIdeal.Facts] : Prop :=
  ∀ (m : (ℓ : Loc Cert.RefFinishIdeal.nD Cert.RefFinishIdeal.τ Cert.RefFinishIdeal.sig) → Buf (Elt Ideal) ℓ) (g : Dev Cert.RefFinishIdeal.nD → PrngReg), Pre_RefFinishIdeal m →
    θ_run (Cert.RefFinishIdeal.defs (F := Ideal)) (onTc (τ := Cert.RefFinishIdeal.τ) (Cert.RefFinishIdeal.main (F := Ideal))) ⟨m, fun _ => 0, g⟩ (fun r => (∀ c : Dev Cert.RefFinishIdeal.nD,
      r.2.mem ((c.tc : Thread Cert.RefFinishIdeal.nD Cert.RefFinishIdeal.τ).loc Cert.RefFinishIdeal.main_arg0) = m ((c.tc : Thread Cert.RefFinishIdeal.nD Cert.RefFinishIdeal.τ).loc Cert.RefFinishIdeal.main_arg0)
      ∧ r.2.mem ((c.tc : Thread Cert.RefFinishIdeal.nD Cert.RefFinishIdeal.τ).loc Cert.RefFinishIdeal.main_arg1) = m ((c.tc : Thread Cert.RefFinishIdeal.nD Cert.RefFinishIdeal.τ).loc Cert.RefFinishIdeal.main_arg1))
      ∧ r.2.sem = fun _ => 0)

def preserves_Qkvog_QkvogIdeal : Prop :=
  True

def algebraic_QkvogIdeal_RefQkvogIdeal [hQkvogIdeal : Cert.QkvogIdeal.Facts] [hRefQkvogIdeal : Cert.RefQkvogIdeal.Facts] : Prop :=
  ∀ (m : (ℓ : Loc Cert.QkvogIdeal.nD Cert.QkvogIdeal.τ Cert.QkvogIdeal.sig) → Buf (Elt Ideal) ℓ) (g : Dev Cert.QkvogIdeal.nD → PrngReg)
    (m' : (ℓ : Loc Cert.RefQkvogIdeal.nD Cert.RefQkvogIdeal.τ Cert.RefQkvogIdeal.sig) → Buf (Elt Ideal) ℓ) (g' : Dev Cert.RefQkvogIdeal.nD → PrngReg), Pre_QkvogIdeal m →
    (∀ c : Dev Cert.QkvogIdeal.nD,
      m' ((c.tc : Thread Cert.RefQkvogIdeal.nD Cert.RefQkvogIdeal.τ).loc Cert.RefQkvogIdeal.main_arg0) = m ((c.tc : Thread Cert.QkvogIdeal.nD Cert.QkvogIdeal.τ).loc Cert.QkvogIdeal.main_arg0)
      ∧ m' ((c.tc : Thread Cert.RefQkvogIdeal.nD Cert.RefQkvogIdeal.τ).loc Cert.RefQkvogIdeal.main_arg1) = m ((c.tc : Thread Cert.QkvogIdeal.nD Cert.QkvogIdeal.τ).loc Cert.QkvogIdeal.main_arg1)
      ∧ m' ((c.tc : Thread Cert.RefQkvogIdeal.nD Cert.RefQkvogIdeal.τ).loc Cert.RefQkvogIdeal.main_arg2) = m ((c.tc : Thread Cert.QkvogIdeal.nD Cert.QkvogIdeal.τ).loc Cert.QkvogIdeal.main_arg2)) →
    ∃ (v0 : (c : Dev Cert.QkvogIdeal.nD) → Buf (Elt Ideal) ((c.tc : Thread Cert.QkvogIdeal.nD Cert.QkvogIdeal.τ).loc Cert.QkvogIdeal.main_v2_0)) (v1 : (c : Dev Cert.QkvogIdeal.nD) → Buf (Elt Ideal) ((c.tc : Thread Cert.QkvogIdeal.nD Cert.QkvogIdeal.τ).loc Cert.QkvogIdeal.main_v2_1)),
      θ_run (Cert.QkvogIdeal.defs (F := Ideal)) (onTc (τ := Cert.QkvogIdeal.τ) (Cert.QkvogIdeal.main (F := Ideal))) ⟨m, fun _ => 0, g⟩ (fun r => ∀ c : Dev Cert.QkvogIdeal.nD,
          r.2.mem ((c.tc : Thread Cert.QkvogIdeal.nD Cert.QkvogIdeal.τ).loc Cert.QkvogIdeal.main_v2_0) = v0 c
          ∧ r.2.mem ((c.tc : Thread Cert.QkvogIdeal.nD Cert.QkvogIdeal.τ).loc Cert.QkvogIdeal.main_v2_1) = v1 c
          ∧ r.2.mem ((c.tc : Thread Cert.QkvogIdeal.nD Cert.QkvogIdeal.τ).loc Cert.QkvogIdeal.main_arg0) = m ((c.tc : Thread Cert.QkvogIdeal.nD Cert.QkvogIdeal.τ).loc Cert.QkvogIdeal.main_arg0)
          ∧ r.2.mem ((c.tc : Thread Cert.QkvogIdeal.nD Cert.QkvogIdeal.τ).loc Cert.QkvogIdeal.main_arg1) = m ((c.tc : Thread Cert.QkvogIdeal.nD Cert.QkvogIdeal.τ).loc Cert.QkvogIdeal.main_arg1)
          ∧ r.2.mem ((c.tc : Thread Cert.QkvogIdeal.nD Cert.QkvogIdeal.τ).loc Cert.QkvogIdeal.main_arg2) = m ((c.tc : Thread Cert.QkvogIdeal.nD Cert.QkvogIdeal.τ).loc Cert.QkvogIdeal.main_arg2))
      ∧ θ_run (Cert.RefQkvogIdeal.defs (F := Ideal)) (onTc (τ := Cert.RefQkvogIdeal.τ) (Cert.RefQkvogIdeal.main (F := Ideal))) ⟨m', fun _ => 0, g'⟩ (fun r => ∀ c : Dev Cert.RefQkvogIdeal.nD,
          r.2.mem ((c.tc : Thread Cert.RefQkvogIdeal.nD Cert.RefQkvogIdeal.τ).loc Cert.RefQkvogIdeal.main_v15) = v0 c
          ∧ r.2.mem ((c.tc : Thread Cert.RefQkvogIdeal.nD Cert.RefQkvogIdeal.τ).loc Cert.RefQkvogIdeal.main_v31) = v1 c
          ∧ r.2.mem ((c.tc : Thread Cert.RefQkvogIdeal.nD Cert.RefQkvogIdeal.τ).loc Cert.RefQkvogIdeal.main_arg0) = m' ((c.tc : Thread Cert.RefQkvogIdeal.nD Cert.RefQkvogIdeal.τ).loc Cert.RefQkvogIdeal.main_arg0)
          ∧ r.2.mem ((c.tc : Thread Cert.RefQkvogIdeal.nD Cert.RefQkvogIdeal.τ).loc Cert.RefQkvogIdeal.main_arg1) = m' ((c.tc : Thread Cert.RefQkvogIdeal.nD Cert.RefQkvogIdeal.τ).loc Cert.RefQkvogIdeal.main_arg1)
          ∧ r.2.mem ((c.tc : Thread Cert.RefQkvogIdeal.nD Cert.RefQkvogIdeal.τ).loc Cert.RefQkvogIdeal.main_arg2) = m' ((c.tc : Thread Cert.RefQkvogIdeal.nD Cert.RefQkvogIdeal.τ).loc Cert.RefQkvogIdeal.main_arg2))

def preserves_KProj_KProjIdeal : Prop :=
  True

def algebraic_KProjIdeal_RefKProjIdeal [hKProjIdeal : Cert.KProjIdeal.Facts] [hRefKProjIdeal : Cert.RefKProjIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.RefKProjIdeal.nD Cert.RefKProjIdeal.τ Cert.RefKProjIdeal.sig) → Buf (Elt Ideal) ℓ) (g' : Dev Cert.RefKProjIdeal.nD → PrngReg), Pre_KProjIdeal m →
    (∀ c : Dev Cert.KProjIdeal.nD,
      m' ((c.tc : Thread Cert.RefKProjIdeal.nD Cert.RefKProjIdeal.τ).loc Cert.RefKProjIdeal.main_arg0) = m ((c.tc : Thread Cert.KProjIdeal.nD Cert.KProjIdeal.τ).loc Cert.KProjIdeal.main_arg0)
      ∧ m' ((c.tc : Thread Cert.RefKProjIdeal.nD Cert.RefKProjIdeal.τ).loc Cert.RefKProjIdeal.main_arg1) = m ((c.tc : Thread Cert.KProjIdeal.nD Cert.KProjIdeal.τ).loc Cert.KProjIdeal.main_arg1)
      ∧ m' ((c.tc : Thread Cert.RefKProjIdeal.nD Cert.RefKProjIdeal.τ).loc Cert.RefKProjIdeal.main_arg2) = m ((c.tc : Thread Cert.KProjIdeal.nD Cert.KProjIdeal.τ).loc Cert.KProjIdeal.main_arg2)) →
    ∃ (v0 : (c : Dev Cert.KProjIdeal.nD) → Buf (Elt Ideal) ((c.tc : Thread Cert.KProjIdeal.nD Cert.KProjIdeal.τ).loc Cert.KProjIdeal.main_v2_0)) (v1 : (c : Dev Cert.KProjIdeal.nD) → Buf (Elt Ideal) ((c.tc : Thread Cert.KProjIdeal.nD Cert.KProjIdeal.τ).loc Cert.KProjIdeal.main_v2_1)) (v2 : (c : Dev Cert.KProjIdeal.nD) → Buf (Elt Ideal) ((c.tc : Thread Cert.KProjIdeal.nD Cert.KProjIdeal.τ).loc Cert.KProjIdeal.main_v2_2)) (v3 : (c : Dev Cert.KProjIdeal.nD) → Buf (Elt Ideal) ((c.tc : Thread Cert.KProjIdeal.nD Cert.KProjIdeal.τ).loc Cert.KProjIdeal.main_v2_3)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v2_0) = v0 c
          ∧ r.2.mem ((c.tc : Thread Cert.KProjIdeal.nD Cert.KProjIdeal.τ).loc Cert.KProjIdeal.main_v2_1) = v1 c
          ∧ r.2.mem ((c.tc : Thread Cert.KProjIdeal.nD Cert.KProjIdeal.τ).loc Cert.KProjIdeal.main_v2_2) = v2 c
          ∧ r.2.mem ((c.tc : Thread Cert.KProjIdeal.nD Cert.KProjIdeal.τ).loc Cert.KProjIdeal.main_v2_3) = v3 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ θ_run (Cert.RefKProjIdeal.defs (F := Ideal)) (onTc (τ := Cert.RefKProjIdeal.τ) (Cert.RefKProjIdeal.main (F := Ideal))) ⟨m', fun _ => 0, g'⟩ (fun r => ∀ c : Dev Cert.RefKProjIdeal.nD,
          r.2.mem ((c.tc : Thread Cert.RefKProjIdeal.nD Cert.RefKProjIdeal.τ).loc Cert.RefKProjIdeal.main_v14) = v0 c
          ∧ r.2.mem ((c.tc : Thread Cert.RefKProjIdeal.nD Cert.RefKProjIdeal.τ).loc Cert.RefKProjIdeal.main_v15) = v1 c
          ∧ r.2.mem ((c.tc : Thread Cert.RefKProjIdeal.nD Cert.RefKProjIdeal.τ).loc Cert.RefKProjIdeal.main_v30) = v2 c
          ∧ r.2.mem ((c.tc : Thread Cert.RefKProjIdeal.nD Cert.RefKProjIdeal.τ).loc Cert.RefKProjIdeal.main_v31) = v3 c
          ∧ r.2.mem ((c.tc : Thread Cert.RefKProjIdeal.nD Cert.RefKProjIdeal.τ).loc Cert.RefKProjIdeal.main_arg0) = m' ((c.tc : Thread Cert.RefKProjIdeal.nD Cert.RefKProjIdeal.τ).loc Cert.RefKProjIdeal.main_arg0)
          ∧ r.2.mem ((c.tc : Thread Cert.RefKProjIdeal.nD Cert.RefKProjIdeal.τ).loc Cert.RefKProjIdeal.main_arg1) = m' ((c.tc : Thread Cert.RefKProjIdeal.nD Cert.RefKProjIdeal.τ).loc Cert.RefKProjIdeal.main_arg1)
          ∧ r.2.mem ((c.tc : Thread Cert.RefKProjIdeal.nD Cert.RefKProjIdeal.τ).loc Cert.RefKProjIdeal.main_arg2) = m' ((c.tc : Thread Cert.RefKProjIdeal.nD Cert.RefKProjIdeal.τ).loc Cert.RefKProjIdeal.main_arg2))

def preserves_VProj_VProjIdeal : Prop :=
  True

def algebraic_VProjIdeal_RefVProjIdeal [hVProjIdeal : Cert.VProjIdeal.Facts] [hRefVProjIdeal : Cert.RefVProjIdeal.Facts] : Prop :=
  ∀ (m : (ℓ : Loc Cert.VProjIdeal.nD Cert.VProjIdeal.τ Cert.VProjIdeal.sig) → Buf (Elt Ideal) ℓ) (g : Dev Cert.VProjIdeal.nD → PrngReg)
    (m' : (ℓ : Loc Cert.RefVProjIdeal.nD Cert.RefVProjIdeal.τ Cert.RefVProjIdeal.sig) → Buf (Elt Ideal) ℓ) (g' : Dev Cert.RefVProjIdeal.nD → PrngReg), Pre_VProjIdeal m →
    (∀ c : Dev Cert.VProjIdeal.nD,
      m' ((c.tc : Thread Cert.RefVProjIdeal.nD Cert.RefVProjIdeal.τ).loc Cert.RefVProjIdeal.main_arg0) = m ((c.tc : Thread Cert.VProjIdeal.nD Cert.VProjIdeal.τ).loc Cert.VProjIdeal.main_arg0)
      ∧ m' ((c.tc : Thread Cert.RefVProjIdeal.nD Cert.RefVProjIdeal.τ).loc Cert.RefVProjIdeal.main_arg1) = m ((c.tc : Thread Cert.VProjIdeal.nD Cert.VProjIdeal.τ).loc Cert.VProjIdeal.main_arg1)
      ∧ m' ((c.tc : Thread Cert.RefVProjIdeal.nD Cert.RefVProjIdeal.τ).loc Cert.RefVProjIdeal.main_arg2) = m ((c.tc : Thread Cert.VProjIdeal.nD Cert.VProjIdeal.τ).loc Cert.VProjIdeal.main_arg2)) →
    ∃ (v0 : (c : Dev Cert.VProjIdeal.nD) → Buf (Elt Ideal) ((c.tc : Thread Cert.VProjIdeal.nD Cert.VProjIdeal.τ).loc Cert.VProjIdeal.main_v2_0)) (v1 : (c : Dev Cert.VProjIdeal.nD) → Buf (Elt Ideal) ((c.tc : Thread Cert.VProjIdeal.nD Cert.VProjIdeal.τ).loc Cert.VProjIdeal.main_v2_1)) (v2 : (c : Dev Cert.VProjIdeal.nD) → Buf (Elt Ideal) ((c.tc : Thread Cert.VProjIdeal.nD Cert.VProjIdeal.τ).loc Cert.VProjIdeal.main_v2_2)) (v3 : (c : Dev Cert.VProjIdeal.nD) → Buf (Elt Ideal) ((c.tc : Thread Cert.VProjIdeal.nD Cert.VProjIdeal.τ).loc Cert.VProjIdeal.main_v2_3)),
      θ_run (Cert.VProjIdeal.defs (F := Ideal)) (onTc (τ := Cert.VProjIdeal.τ) (Cert.VProjIdeal.main (F := Ideal))) ⟨m, fun _ => 0, g⟩ (fun r => ∀ c : Dev Cert.VProjIdeal.nD,
          r.2.mem ((c.tc : Thread Cert.VProjIdeal.nD Cert.VProjIdeal.τ).loc Cert.VProjIdeal.main_v2_0) = v0 c
          ∧ r.2.mem ((c.tc : Thread Cert.VProjIdeal.nD Cert.VProjIdeal.τ).loc Cert.VProjIdeal.main_v2_1) = v1 c
          ∧ r.2.mem ((c.tc : Thread Cert.VProjIdeal.nD Cert.VProjIdeal.τ).loc Cert.VProjIdeal.main_v2_2) = v2 c
          ∧ r.2.mem ((c.tc : Thread Cert.VProjIdeal.nD Cert.VProjIdeal.τ).loc Cert.VProjIdeal.main_v2_3) = v3 c
          ∧ r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
          ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1)
          ∧ r.2.mem ((c.tc : Thread Cert.VProjIdeal.nD Cert.VProjIdeal.τ).loc Cert.VProjIdeal.main_arg2) = m ((c.tc : Thread Cert.VProjIdeal.nD Cert.VProjIdeal.τ).loc Cert.VProjIdeal.main_arg2))
      ∧ θ_run (Cert.RefVProjIdeal.defs (F := Ideal)) (onTc (τ := Cert.RefVProjIdeal.τ) (Cert.RefVProjIdeal.main (F := Ideal))) ⟨m', fun _ => 0, g'⟩ (fun r => ∀ c : Dev Cert.RefVProjIdeal.nD,
          r.2.mem ((c.tc : Thread Cert.RefVProjIdeal.nD Cert.RefVProjIdeal.τ).loc Cert.RefVProjIdeal.main_v14) = v0 c
          ∧ r.2.mem ((c.tc : Thread Cert.RefVProjIdeal.nD Cert.RefVProjIdeal.τ).loc Cert.RefVProjIdeal.main_v15) = v1 c
          ∧ r.2.mem ((c.tc : Thread Cert.RefVProjIdeal.nD Cert.RefVProjIdeal.τ).loc Cert.RefVProjIdeal.main_v30) = v2 c
          ∧ r.2.mem ((c.tc : Thread Cert.RefVProjIdeal.nD Cert.RefVProjIdeal.τ).loc Cert.RefVProjIdeal.main_v31) = v3 c
          ∧ r.2.mem ((c.tc : Thread Cert.RefVProjIdeal.nD Cert.RefVProjIdeal.τ).loc Cert.RefVProjIdeal.main_arg0) = m' ((c.tc : Thread Cert.RefVProjIdeal.nD Cert.RefVProjIdeal.τ).loc Cert.RefVProjIdeal.main_arg0)
          ∧ r.2.mem ((c.tc : Thread Cert.RefVProjIdeal.nD Cert.RefVProjIdeal.τ).loc Cert.RefVProjIdeal.main_arg1) = m' ((c.tc : Thread Cert.RefVProjIdeal.nD Cert.RefVProjIdeal.τ).loc Cert.RefVProjIdeal.main_arg1)
          ∧ r.2.mem ((c.tc : Thread Cert.RefVProjIdeal.nD Cert.RefVProjIdeal.τ).loc Cert.RefVProjIdeal.main_arg2) = m' ((c.tc : Thread Cert.RefVProjIdeal.nD Cert.RefVProjIdeal.τ).loc Cert.RefVProjIdeal.main_arg2))

def preserves_Qg_QgIdeal : Prop :=
  True

def algebraic_QgIdeal_RefQgIdeal [hQgIdeal : Cert.QgIdeal.Facts] [hRefQgIdeal : Cert.RefQgIdeal.Facts] : Prop :=
  ∀ (m : (ℓ : Loc Cert.QgIdeal.nD Cert.QgIdeal.τ Cert.QgIdeal.sig) → Buf (Elt Ideal) ℓ) (g : Dev Cert.QgIdeal.nD → PrngReg)
    (m' : (ℓ : Loc Cert.RefQgIdeal.nD Cert.RefQgIdeal.τ Cert.RefQgIdeal.sig) → Buf (Elt Ideal) ℓ) (g' : Dev Cert.RefQgIdeal.nD → PrngReg), Pre_QgIdeal m →
    (∀ c : Dev Cert.QgIdeal.nD,
      m' ((c.tc : Thread Cert.RefQgIdeal.nD Cert.RefQgIdeal.τ).loc Cert.RefQgIdeal.main_arg0) = m ((c.tc : Thread Cert.QgIdeal.nD Cert.QgIdeal.τ).loc Cert.QgIdeal.main_arg0)
      ∧ m' ((c.tc : Thread Cert.RefQgIdeal.nD Cert.RefQgIdeal.τ).loc Cert.RefQgIdeal.main_arg1) = m ((c.tc : Thread Cert.QgIdeal.nD Cert.QgIdeal.τ).loc Cert.QgIdeal.main_arg1)
      ∧ m' ((c.tc : Thread Cert.RefQgIdeal.nD Cert.RefQgIdeal.τ).loc Cert.RefQgIdeal.main_arg2) = m ((c.tc : Thread Cert.QgIdeal.nD Cert.QgIdeal.τ).loc Cert.QgIdeal.main_arg2)) →
    ∃ (v0 : (c : Dev Cert.QgIdeal.nD) → Buf (Elt Ideal) ((c.tc : Thread Cert.QgIdeal.nD Cert.QgIdeal.τ).loc Cert.QgIdeal.main_v2_0)) (v1 : (c : Dev Cert.QgIdeal.nD) → Buf (Elt Ideal) ((c.tc : Thread Cert.QgIdeal.nD Cert.QgIdeal.τ).loc Cert.QgIdeal.main_v2_1)),
      θ_run (Cert.QgIdeal.defs (F := Ideal)) (onTc (τ := Cert.QgIdeal.τ) (Cert.QgIdeal.main (F := Ideal))) ⟨m, fun _ => 0, g⟩ (fun r => ∀ c : Dev Cert.QgIdeal.nD,
          r.2.mem ((c.tc : Thread Cert.QgIdeal.nD Cert.QgIdeal.τ).loc Cert.QgIdeal.main_v2_0) = v0 c
          ∧ r.2.mem ((c.tc : Thread Cert.QgIdeal.nD Cert.QgIdeal.τ).loc Cert.QgIdeal.main_v2_1) = v1 c
          ∧ r.2.mem ((c.tc : Thread Cert.QgIdeal.nD Cert.QgIdeal.τ).loc Cert.QgIdeal.main_arg0) = m ((c.tc : Thread Cert.QgIdeal.nD Cert.QgIdeal.τ).loc Cert.QgIdeal.main_arg0)
          ∧ r.2.mem ((c.tc : Thread Cert.QgIdeal.nD Cert.QgIdeal.τ).loc Cert.QgIdeal.main_arg1) = m ((c.tc : Thread Cert.QgIdeal.nD Cert.QgIdeal.τ).loc Cert.QgIdeal.main_arg1)
          ∧ r.2.mem ((c.tc : Thread Cert.QgIdeal.nD Cert.QgIdeal.τ).loc Cert.QgIdeal.main_arg2) = m ((c.tc : Thread Cert.QgIdeal.nD Cert.QgIdeal.τ).loc Cert.QgIdeal.main_arg2))
      ∧ θ_run (Cert.RefQgIdeal.defs (F := Ideal)) (onTc (τ := Cert.RefQgIdeal.τ) (Cert.RefQgIdeal.main (F := Ideal))) ⟨m', fun _ => 0, g'⟩ (fun r => ∀ c : Dev Cert.RefQgIdeal.nD,
          r.2.mem ((c.tc : Thread Cert.RefQgIdeal.nD Cert.RefQgIdeal.τ).loc Cert.RefQgIdeal.main_v31) = v0 c
          ∧ r.2.mem ((c.tc : Thread Cert.RefQgIdeal.nD Cert.RefQgIdeal.τ).loc Cert.RefQgIdeal.main_v32) = v1 c
          ∧ r.2.mem ((c.tc : Thread Cert.RefQgIdeal.nD Cert.RefQgIdeal.τ).loc Cert.RefQgIdeal.main_arg0) = m' ((c.tc : Thread Cert.RefQgIdeal.nD Cert.RefQgIdeal.τ).loc Cert.RefQgIdeal.main_arg0)
          ∧ r.2.mem ((c.tc : Thread Cert.RefQgIdeal.nD Cert.RefQgIdeal.τ).loc Cert.RefQgIdeal.main_arg1) = m' ((c.tc : Thread Cert.RefQgIdeal.nD Cert.RefQgIdeal.τ).loc Cert.RefQgIdeal.main_arg1)
          ∧ r.2.mem ((c.tc : Thread Cert.RefQgIdeal.nD Cert.RefQgIdeal.τ).loc Cert.RefQgIdeal.main_arg2) = m' ((c.tc : Thread Cert.RefQgIdeal.nD Cert.RefQgIdeal.τ).loc Cert.RefQgIdeal.main_arg2))

def preserves_OddU_OddUIdeal : Prop :=
  True

def algebraic_OddUIdeal_RefOddUIdeal [hOddUIdeal : Cert.OddUIdeal.Facts] [hRefOddUIdeal : Cert.RefOddUIdeal.Facts] : Prop :=
  ∀ (m : (ℓ : Loc Cert.OddUIdeal.nD Cert.OddUIdeal.τ Cert.OddUIdeal.sig) → Buf (Elt Ideal) ℓ) (g : Dev Cert.OddUIdeal.nD → PrngReg)
    (m' : (ℓ : Loc Cert.RefOddUIdeal.nD Cert.RefOddUIdeal.τ Cert.RefOddUIdeal.sig) → Buf (Elt Ideal) ℓ) (g' : Dev Cert.RefOddUIdeal.nD → PrngReg), Pre_OddUIdeal m →
    (∀ c : Dev Cert.OddUIdeal.nD,
      m' ((c.tc : Thread Cert.RefOddUIdeal.nD Cert.RefOddUIdeal.τ).loc Cert.RefOddUIdeal.main_arg0) = m ((c.tc : Thread Cert.OddUIdeal.nD Cert.OddUIdeal.τ).loc Cert.OddUIdeal.main_arg0)
      ∧ m' ((c.tc : Thread Cert.RefOddUIdeal.nD Cert.RefOddUIdeal.τ).loc Cert.RefOddUIdeal.main_arg1) = m ((c.tc : Thread Cert.OddUIdeal.nD Cert.OddUIdeal.τ).loc Cert.OddUIdeal.main_arg1)
      ∧ m' ((c.tc : Thread Cert.RefOddUIdeal.nD Cert.RefOddUIdeal.τ).loc Cert.RefOddUIdeal.main_arg2) = m ((c.tc : Thread Cert.OddUIdeal.nD Cert.OddUIdeal.τ).loc Cert.OddUIdeal.main_arg2)
      ∧ m' ((c.tc : Thread Cert.RefOddUIdeal.nD Cert.RefOddUIdeal.τ).loc Cert.RefOddUIdeal.main_arg3) = m ((c.tc : Thread Cert.OddUIdeal.nD Cert.OddUIdeal.τ).loc Cert.OddUIdeal.main_arg3)) →
    ∃ (v0 : (c : Dev Cert.OddUIdeal.nD) → Buf (Elt Ideal) ((c.tc : Thread Cert.OddUIdeal.nD Cert.OddUIdeal.τ).loc Cert.OddUIdeal.main_v3_0)) (v1 : (c : Dev Cert.OddUIdeal.nD) → Buf (Elt Ideal) ((c.tc : Thread Cert.OddUIdeal.nD Cert.OddUIdeal.τ).loc Cert.OddUIdeal.main_v3_1)),
      θ_run (Cert.OddUIdeal.defs (F := Ideal)) (onTc (τ := Cert.OddUIdeal.τ) (Cert.OddUIdeal.main (F := Ideal))) ⟨m, fun _ => 0, g⟩ (fun r => ∀ c : Dev Cert.OddUIdeal.nD,
          r.2.mem ((c.tc : Thread Cert.OddUIdeal.nD Cert.OddUIdeal.τ).loc Cert.OddUIdeal.main_v3_0) = v0 c
          ∧ r.2.mem ((c.tc : Thread Cert.OddUIdeal.nD Cert.OddUIdeal.τ).loc Cert.OddUIdeal.main_v3_1) = v1 c
          ∧ r.2.mem ((c.tc : Thread Cert.OddUIdeal.nD Cert.OddUIdeal.τ).loc Cert.OddUIdeal.main_arg0) = m ((c.tc : Thread Cert.OddUIdeal.nD Cert.OddUIdeal.τ).loc Cert.OddUIdeal.main_arg0)
          ∧ r.2.mem ((c.tc : Thread Cert.OddUIdeal.nD Cert.OddUIdeal.τ).loc Cert.OddUIdeal.main_arg1) = m ((c.tc : Thread Cert.OddUIdeal.nD Cert.OddUIdeal.τ).loc Cert.OddUIdeal.main_arg1)
          ∧ r.2.mem ((c.tc : Thread Cert.OddUIdeal.nD Cert.OddUIdeal.τ).loc Cert.OddUIdeal.main_arg2) = m ((c.tc : Thread Cert.OddUIdeal.nD Cert.OddUIdeal.τ).loc Cert.OddUIdeal.main_arg2)
          ∧ r.2.mem ((c.tc : Thread Cert.OddUIdeal.nD Cert.OddUIdeal.τ).loc Cert.OddUIdeal.main_arg3) = m ((c.tc : Thread Cert.OddUIdeal.nD Cert.OddUIdeal.τ).loc Cert.OddUIdeal.main_arg3))
      ∧ θ_run (Cert.RefOddUIdeal.defs (F := Ideal)) (onTc (τ := Cert.RefOddUIdeal.τ) (Cert.RefOddUIdeal.main (F := Ideal))) ⟨m', fun _ => 0, g'⟩ (fun r => ∀ c : Dev Cert.RefOddUIdeal.nD,
          r.2.mem ((c.tc : Thread Cert.RefOddUIdeal.nD Cert.RefOddUIdeal.τ).loc Cert.RefOddUIdeal.main_v19) = v0 c
          ∧ r.2.mem ((c.tc : Thread Cert.RefOddUIdeal.nD Cert.RefOddUIdeal.τ).loc Cert.RefOddUIdeal.main_v38) = v1 c
          ∧ r.2.mem ((c.tc : Thread Cert.RefOddUIdeal.nD Cert.RefOddUIdeal.τ).loc Cert.RefOddUIdeal.main_arg0) = m' ((c.tc : Thread Cert.RefOddUIdeal.nD Cert.RefOddUIdeal.τ).loc Cert.RefOddUIdeal.main_arg0)
          ∧ r.2.mem ((c.tc : Thread Cert.RefOddUIdeal.nD Cert.RefOddUIdeal.τ).loc Cert.RefOddUIdeal.main_arg1) = m' ((c.tc : Thread Cert.RefOddUIdeal.nD Cert.RefOddUIdeal.τ).loc Cert.RefOddUIdeal.main_arg1)
          ∧ r.2.mem ((c.tc : Thread Cert.RefOddUIdeal.nD Cert.RefOddUIdeal.τ).loc Cert.RefOddUIdeal.main_arg2) = m' ((c.tc : Thread Cert.RefOddUIdeal.nD Cert.RefOddUIdeal.τ).loc Cert.RefOddUIdeal.main_arg2)
          ∧ r.2.mem ((c.tc : Thread Cert.RefOddUIdeal.nD Cert.RefOddUIdeal.τ).loc Cert.RefOddUIdeal.main_arg3) = m' ((c.tc : Thread Cert.RefOddUIdeal.nD Cert.RefOddUIdeal.τ).loc Cert.RefOddUIdeal.main_arg3))

def preserves_OddV_OddVIdeal : Prop :=
  True

def algebraic_OddVIdeal_RefOddVIdeal [hOddVIdeal : Cert.OddVIdeal.Facts] [hRefOddVIdeal : Cert.RefOddVIdeal.Facts] : Prop :=
  ∀ (m : (ℓ : Loc Cert.OddVIdeal.nD Cert.OddVIdeal.τ Cert.OddVIdeal.sig) → Buf (Elt Ideal) ℓ) (g : Dev Cert.OddVIdeal.nD → PrngReg)
    (m' : (ℓ : Loc Cert.RefOddVIdeal.nD Cert.RefOddVIdeal.τ Cert.RefOddVIdeal.sig) → Buf (Elt Ideal) ℓ) (g' : Dev Cert.RefOddVIdeal.nD → PrngReg), Pre_OddVIdeal m →
    (∀ c : Dev Cert.OddVIdeal.nD,
      m' ((c.tc : Thread Cert.RefOddVIdeal.nD Cert.RefOddVIdeal.τ).loc Cert.RefOddVIdeal.main_arg0) = m ((c.tc : Thread Cert.OddVIdeal.nD Cert.OddVIdeal.τ).loc Cert.OddVIdeal.main_arg0)
      ∧ m' ((c.tc : Thread Cert.RefOddVIdeal.nD Cert.RefOddVIdeal.τ).loc Cert.RefOddVIdeal.main_arg1) = m ((c.tc : Thread Cert.OddVIdeal.nD Cert.OddVIdeal.τ).loc Cert.OddVIdeal.main_arg1)
      ∧ m' ((c.tc : Thread Cert.RefOddVIdeal.nD Cert.RefOddVIdeal.τ).loc Cert.RefOddVIdeal.main_arg2) = m ((c.tc : Thread Cert.OddVIdeal.nD Cert.OddVIdeal.τ).loc Cert.OddVIdeal.main_arg2)
      ∧ m' ((c.tc : Thread Cert.RefOddVIdeal.nD Cert.RefOddVIdeal.τ).loc Cert.RefOddVIdeal.main_arg3) = m ((c.tc : Thread Cert.OddVIdeal.nD Cert.OddVIdeal.τ).loc Cert.OddVIdeal.main_arg3)) →
    ∃ (v0 : (c : Dev Cert.OddVIdeal.nD) → Buf (Elt Ideal) ((c.tc : Thread Cert.OddVIdeal.nD Cert.OddVIdeal.τ).loc Cert.OddVIdeal.main_v3_0)) (v1 : (c : Dev Cert.OddVIdeal.nD) → Buf (Elt Ideal) ((c.tc : Thread Cert.OddVIdeal.nD Cert.OddVIdeal.τ).loc Cert.OddVIdeal.main_v3_1)),
      θ_run (Cert.OddVIdeal.defs (F := Ideal)) (onTc (τ := Cert.OddVIdeal.τ) (Cert.OddVIdeal.main (F := Ideal))) ⟨m, fun _ => 0, g⟩ (fun r => ∀ c : Dev Cert.OddVIdeal.nD,
          r.2.mem ((c.tc : Thread Cert.OddVIdeal.nD Cert.OddVIdeal.τ).loc Cert.OddVIdeal.main_v3_0) = v0 c
          ∧ r.2.mem ((c.tc : Thread Cert.OddVIdeal.nD Cert.OddVIdeal.τ).loc Cert.OddVIdeal.main_v3_1) = v1 c
          ∧ r.2.mem ((c.tc : Thread Cert.OddVIdeal.nD Cert.OddVIdeal.τ).loc Cert.OddVIdeal.main_arg0) = m ((c.tc : Thread Cert.OddVIdeal.nD Cert.OddVIdeal.τ).loc Cert.OddVIdeal.main_arg0)
          ∧ r.2.mem ((c.tc : Thread Cert.OddVIdeal.nD Cert.OddVIdeal.τ).loc Cert.OddVIdeal.main_arg1) = m ((c.tc : Thread Cert.OddVIdeal.nD Cert.OddVIdeal.τ).loc Cert.OddVIdeal.main_arg1)
          ∧ r.2.mem ((c.tc : Thread Cert.OddVIdeal.nD Cert.OddVIdeal.τ).loc Cert.OddVIdeal.main_arg2) = m ((c.tc : Thread Cert.OddVIdeal.nD Cert.OddVIdeal.τ).loc Cert.OddVIdeal.main_arg2)
          ∧ r.2.mem ((c.tc : Thread Cert.OddVIdeal.nD Cert.OddVIdeal.τ).loc Cert.OddVIdeal.main_arg3) = m ((c.tc : Thread Cert.OddVIdeal.nD Cert.OddVIdeal.τ).loc Cert.OddVIdeal.main_arg3))
      ∧ θ_run (Cert.RefOddVIdeal.defs (F := Ideal)) (onTc (τ := Cert.RefOddVIdeal.τ) (Cert.RefOddVIdeal.main (F := Ideal))) ⟨m', fun _ => 0, g'⟩ (fun r => ∀ c : Dev Cert.RefOddVIdeal.nD,
          r.2.mem ((c.tc : Thread Cert.RefOddVIdeal.nD Cert.RefOddVIdeal.τ).loc Cert.RefOddVIdeal.main_v33) = v0 c
          ∧ r.2.mem ((c.tc : Thread Cert.RefOddVIdeal.nD Cert.RefOddVIdeal.τ).loc Cert.RefOddVIdeal.main_v66) = v1 c
          ∧ r.2.mem ((c.tc : Thread Cert.RefOddVIdeal.nD Cert.RefOddVIdeal.τ).loc Cert.RefOddVIdeal.main_arg0) = m' ((c.tc : Thread Cert.RefOddVIdeal.nD Cert.RefOddVIdeal.τ).loc Cert.RefOddVIdeal.main_arg0)
          ∧ r.2.mem ((c.tc : Thread Cert.RefOddVIdeal.nD Cert.RefOddVIdeal.τ).loc Cert.RefOddVIdeal.main_arg1) = m' ((c.tc : Thread Cert.RefOddVIdeal.nD Cert.RefOddVIdeal.τ).loc Cert.RefOddVIdeal.main_arg1)
          ∧ r.2.mem ((c.tc : Thread Cert.RefOddVIdeal.nD Cert.RefOddVIdeal.τ).loc Cert.RefOddVIdeal.main_arg2) = m' ((c.tc : Thread Cert.RefOddVIdeal.nD Cert.RefOddVIdeal.τ).loc Cert.RefOddVIdeal.main_arg2)
          ∧ r.2.mem ((c.tc : Thread Cert.RefOddVIdeal.nD Cert.RefOddVIdeal.τ).loc Cert.RefOddVIdeal.main_arg3) = m' ((c.tc : Thread Cert.RefOddVIdeal.nD Cert.RefOddVIdeal.τ).loc Cert.RefOddVIdeal.main_arg3))

def preserves_OddG_OddGIdeal : Prop :=
  True

def algebraic_OddGIdeal_RefOddGIdeal [hOddGIdeal : Cert.OddGIdeal.Facts] [hRefOddGIdeal : Cert.RefOddGIdeal.Facts] : Prop :=
  ∀ (m : (ℓ : Loc Cert.OddGIdeal.nD Cert.OddGIdeal.τ Cert.OddGIdeal.sig) → Buf (Elt Ideal) ℓ) (g : Dev Cert.OddGIdeal.nD → PrngReg)
    (m' : (ℓ : Loc Cert.RefOddGIdeal.nD Cert.RefOddGIdeal.τ Cert.RefOddGIdeal.sig) → Buf (Elt Ideal) ℓ) (g' : Dev Cert.RefOddGIdeal.nD → PrngReg), Pre_OddGIdeal m →
    (∀ c : Dev Cert.OddGIdeal.nD,
      m' ((c.tc : Thread Cert.RefOddGIdeal.nD Cert.RefOddGIdeal.τ).loc Cert.RefOddGIdeal.main_arg0) = m ((c.tc : Thread Cert.OddGIdeal.nD Cert.OddGIdeal.τ).loc Cert.OddGIdeal.main_arg0)
      ∧ m' ((c.tc : Thread Cert.RefOddGIdeal.nD Cert.RefOddGIdeal.τ).loc Cert.RefOddGIdeal.main_arg1) = m ((c.tc : Thread Cert.OddGIdeal.nD Cert.OddGIdeal.τ).loc Cert.OddGIdeal.main_arg1)
      ∧ m' ((c.tc : Thread Cert.RefOddGIdeal.nD Cert.RefOddGIdeal.τ).loc Cert.RefOddGIdeal.main_arg2) = m ((c.tc : Thread Cert.OddGIdeal.nD Cert.OddGIdeal.τ).loc Cert.OddGIdeal.main_arg2)
      ∧ m' ((c.tc : Thread Cert.RefOddGIdeal.nD Cert.RefOddGIdeal.τ).loc Cert.RefOddGIdeal.main_arg3) = m ((c.tc : Thread Cert.OddGIdeal.nD Cert.OddGIdeal.τ).loc Cert.OddGIdeal.main_arg3)) →
    ∃ (v0 : (c : Dev Cert.OddGIdeal.nD) → Buf (Elt Ideal) ((c.tc : Thread Cert.OddGIdeal.nD Cert.OddGIdeal.τ).loc Cert.OddGIdeal.main_v3_0)) (v1 : (c : Dev Cert.OddGIdeal.nD) → Buf (Elt Ideal) ((c.tc : Thread Cert.OddGIdeal.nD Cert.OddGIdeal.τ).loc Cert.OddGIdeal.main_v3_1)),
      θ_run (Cert.OddGIdeal.defs (F := Ideal)) (onTc (τ := Cert.OddGIdeal.τ) (Cert.OddGIdeal.main (F := Ideal))) ⟨m, fun _ => 0, g⟩ (fun r => ∀ c : Dev Cert.OddGIdeal.nD,
          r.2.mem ((c.tc : Thread Cert.OddGIdeal.nD Cert.OddGIdeal.τ).loc Cert.OddGIdeal.main_v3_0) = v0 c
          ∧ r.2.mem ((c.tc : Thread Cert.OddGIdeal.nD Cert.OddGIdeal.τ).loc Cert.OddGIdeal.main_v3_1) = v1 c
          ∧ r.2.mem ((c.tc : Thread Cert.OddGIdeal.nD Cert.OddGIdeal.τ).loc Cert.OddGIdeal.main_arg0) = m ((c.tc : Thread Cert.OddGIdeal.nD Cert.OddGIdeal.τ).loc Cert.OddGIdeal.main_arg0)
          ∧ r.2.mem ((c.tc : Thread Cert.OddGIdeal.nD Cert.OddGIdeal.τ).loc Cert.OddGIdeal.main_arg1) = m ((c.tc : Thread Cert.OddGIdeal.nD Cert.OddGIdeal.τ).loc Cert.OddGIdeal.main_arg1)
          ∧ r.2.mem ((c.tc : Thread Cert.OddGIdeal.nD Cert.OddGIdeal.τ).loc Cert.OddGIdeal.main_arg2) = m ((c.tc : Thread Cert.OddGIdeal.nD Cert.OddGIdeal.τ).loc Cert.OddGIdeal.main_arg2)
          ∧ r.2.mem ((c.tc : Thread Cert.OddGIdeal.nD Cert.OddGIdeal.τ).loc Cert.OddGIdeal.main_arg3) = m ((c.tc : Thread Cert.OddGIdeal.nD Cert.OddGIdeal.τ).loc Cert.OddGIdeal.main_arg3))
      ∧ θ_run (Cert.RefOddGIdeal.defs (F := Ideal)) (onTc (τ := Cert.RefOddGIdeal.τ) (Cert.RefOddGIdeal.main (F := Ideal))) ⟨m', fun _ => 0, g'⟩ (fun r => ∀ c : Dev Cert.RefOddGIdeal.nD,
          r.2.mem ((c.tc : Thread Cert.RefOddGIdeal.nD Cert.RefOddGIdeal.τ).loc Cert.RefOddGIdeal.main_v7) = v0 c
          ∧ r.2.mem ((c.tc : Thread Cert.RefOddGIdeal.nD Cert.RefOddGIdeal.τ).loc Cert.RefOddGIdeal.main_v14) = v1 c
          ∧ r.2.mem ((c.tc : Thread Cert.RefOddGIdeal.nD Cert.RefOddGIdeal.τ).loc Cert.RefOddGIdeal.main_arg0) = m' ((c.tc : Thread Cert.RefOddGIdeal.nD Cert.RefOddGIdeal.τ).loc Cert.RefOddGIdeal.main_arg0)
          ∧ r.2.mem ((c.tc : Thread Cert.RefOddGIdeal.nD Cert.RefOddGIdeal.τ).loc Cert.RefOddGIdeal.main_arg1) = m' ((c.tc : Thread Cert.RefOddGIdeal.nD Cert.RefOddGIdeal.τ).loc Cert.RefOddGIdeal.main_arg1)
          ∧ r.2.mem ((c.tc : Thread Cert.RefOddGIdeal.nD Cert.RefOddGIdeal.τ).loc Cert.RefOddGIdeal.main_arg2) = m' ((c.tc : Thread Cert.RefOddGIdeal.nD Cert.RefOddGIdeal.τ).loc Cert.RefOddGIdeal.main_arg2)
          ∧ r.2.mem ((c.tc : Thread Cert.RefOddGIdeal.nD Cert.RefOddGIdeal.τ).loc Cert.RefOddGIdeal.main_arg3) = m' ((c.tc : Thread Cert.RefOddGIdeal.nD Cert.RefOddGIdeal.τ).loc Cert.RefOddGIdeal.main_arg3))

def preserves_OddY_OddYIdeal : Prop :=
  True

def algebraic_OddYIdeal_RefOddYIdeal [hOddYIdeal : Cert.OddYIdeal.Facts] [hRefOddYIdeal : Cert.RefOddYIdeal.Facts] : Prop :=
  ∀ (m : (ℓ : Loc Cert.OddYIdeal.nD Cert.OddYIdeal.τ Cert.OddYIdeal.sig) → Buf (Elt Ideal) ℓ) (g : Dev Cert.OddYIdeal.nD → PrngReg)
    (m' : (ℓ : Loc Cert.RefOddYIdeal.nD Cert.RefOddYIdeal.τ Cert.RefOddYIdeal.sig) → Buf (Elt Ideal) ℓ) (g' : Dev Cert.RefOddYIdeal.nD → PrngReg), Pre_OddYIdeal m →
    (∀ c : Dev Cert.OddYIdeal.nD,
      m' ((c.tc : Thread Cert.RefOddYIdeal.nD Cert.RefOddYIdeal.τ).loc Cert.RefOddYIdeal.main_arg0) = m ((c.tc : Thread Cert.OddYIdeal.nD Cert.OddYIdeal.τ).loc Cert.OddYIdeal.main_arg0)
      ∧ m' ((c.tc : Thread Cert.RefOddYIdeal.nD Cert.RefOddYIdeal.τ).loc Cert.RefOddYIdeal.main_arg1) = m ((c.tc : Thread Cert.OddYIdeal.nD Cert.OddYIdeal.τ).loc Cert.OddYIdeal.main_arg1)
      ∧ m' ((c.tc : Thread Cert.RefOddYIdeal.nD Cert.RefOddYIdeal.τ).loc Cert.RefOddYIdeal.main_arg2) = m ((c.tc : Thread Cert.OddYIdeal.nD Cert.OddYIdeal.τ).loc Cert.OddYIdeal.main_arg2)
      ∧ m' ((c.tc : Thread Cert.RefOddYIdeal.nD Cert.RefOddYIdeal.τ).loc Cert.RefOddYIdeal.main_arg3) = m ((c.tc : Thread Cert.OddYIdeal.nD Cert.OddYIdeal.τ).loc Cert.OddYIdeal.main_arg3)
      ∧ m' ((c.tc : Thread Cert.RefOddYIdeal.nD Cert.RefOddYIdeal.τ).loc Cert.RefOddYIdeal.main_arg4) = m ((c.tc : Thread Cert.OddYIdeal.nD Cert.OddYIdeal.τ).loc Cert.OddYIdeal.main_arg4)
      ∧ m' ((c.tc : Thread Cert.RefOddYIdeal.nD Cert.RefOddYIdeal.τ).loc Cert.RefOddYIdeal.main_arg5) = m ((c.tc : Thread Cert.OddYIdeal.nD Cert.OddYIdeal.τ).loc Cert.OddYIdeal.main_arg5)
      ∧ m' ((c.tc : Thread Cert.RefOddYIdeal.nD Cert.RefOddYIdeal.τ).loc Cert.RefOddYIdeal.main_arg6) = m ((c.tc : Thread Cert.OddYIdeal.nD Cert.OddYIdeal.τ).loc Cert.OddYIdeal.main_arg6)
      ∧ m' ((c.tc : Thread Cert.RefOddYIdeal.nD Cert.RefOddYIdeal.τ).loc Cert.RefOddYIdeal.main_arg7) = m ((c.tc : Thread Cert.OddYIdeal.nD Cert.OddYIdeal.τ).loc Cert.OddYIdeal.main_arg7)
      ∧ m' ((c.tc : Thread Cert.RefOddYIdeal.nD Cert.RefOddYIdeal.τ).loc Cert.RefOddYIdeal.main_arg8) = m ((c.tc : Thread Cert.OddYIdeal.nD Cert.OddYIdeal.τ).loc Cert.OddYIdeal.main_arg8)
      ∧ m' ((c.tc : Thread Cert.RefOddYIdeal.nD Cert.RefOddYIdeal.τ).loc Cert.RefOddYIdeal.main_arg9) = m ((c.tc : Thread Cert.OddYIdeal.nD Cert.OddYIdeal.τ).loc Cert.OddYIdeal.main_arg9)) →
    ∃ (v0 : (c : Dev Cert.OddYIdeal.nD) → Buf (Elt Ideal) ((c.tc : Thread Cert.OddYIdeal.nD Cert.OddYIdeal.τ).loc Cert.OddYIdeal.main_v6_0)) (v1 : (c : Dev Cert.OddYIdeal.nD) → Buf (Elt Ideal) ((c.tc : Thread Cert.OddYIdeal.nD Cert.OddYIdeal.τ).loc Cert.OddYIdeal.main_v6_1)),
      θ_run (Cert.OddYIdeal.defs (F := Ideal)) (onTc (τ := Cert.OddYIdeal.τ) (Cert.OddYIdeal.main (F := Ideal))) ⟨m, fun _ => 0, g⟩ (fun r => ∀ c : Dev Cert.OddYIdeal.nD,
          r.2.mem ((c.tc : Thread Cert.OddYIdeal.nD Cert.OddYIdeal.τ).loc Cert.OddYIdeal.main_v6_0) = v0 c
          ∧ r.2.mem ((c.tc : Thread Cert.OddYIdeal.nD Cert.OddYIdeal.τ).loc Cert.OddYIdeal.main_v6_1) = v1 c
          ∧ r.2.mem ((c.tc : Thread Cert.OddYIdeal.nD Cert.OddYIdeal.τ).loc Cert.OddYIdeal.main_arg0) = m ((c.tc : Thread Cert.OddYIdeal.nD Cert.OddYIdeal.τ).loc Cert.OddYIdeal.main_arg0)
          ∧ r.2.mem ((c.tc : Thread Cert.OddYIdeal.nD Cert.OddYIdeal.τ).loc Cert.OddYIdeal.main_arg1) = m ((c.tc : Thread Cert.OddYIdeal.nD Cert.OddYIdeal.τ).loc Cert.OddYIdeal.main_arg1)
          ∧ r.2.mem ((c.tc : Thread Cert.OddYIdeal.nD Cert.OddYIdeal.τ).loc Cert.OddYIdeal.main_arg2) = m ((c.tc : Thread Cert.OddYIdeal.nD Cert.OddYIdeal.τ).loc Cert.OddYIdeal.main_arg2)
          ∧ r.2.mem ((c.tc : Thread Cert.OddYIdeal.nD Cert.OddYIdeal.τ).loc Cert.OddYIdeal.main_arg3) = m ((c.tc : Thread Cert.OddYIdeal.nD Cert.OddYIdeal.τ).loc Cert.OddYIdeal.main_arg3)
          ∧ r.2.mem ((c.tc : Thread Cert.OddYIdeal.nD Cert.OddYIdeal.τ).loc Cert.OddYIdeal.main_arg4) = m ((c.tc : Thread Cert.OddYIdeal.nD Cert.OddYIdeal.τ).loc Cert.OddYIdeal.main_arg4)
          ∧ r.2.mem ((c.tc : Thread Cert.OddYIdeal.nD Cert.OddYIdeal.τ).loc Cert.OddYIdeal.main_arg5) = m ((c.tc : Thread Cert.OddYIdeal.nD Cert.OddYIdeal.τ).loc Cert.OddYIdeal.main_arg5)
          ∧ r.2.mem ((c.tc : Thread Cert.OddYIdeal.nD Cert.OddYIdeal.τ).loc Cert.OddYIdeal.main_arg6) = m ((c.tc : Thread Cert.OddYIdeal.nD Cert.OddYIdeal.τ).loc Cert.OddYIdeal.main_arg6)
          ∧ r.2.mem ((c.tc : Thread Cert.OddYIdeal.nD Cert.OddYIdeal.τ).loc Cert.OddYIdeal.main_arg7) = m ((c.tc : Thread Cert.OddYIdeal.nD Cert.OddYIdeal.τ).loc Cert.OddYIdeal.main_arg7)
          ∧ r.2.mem ((c.tc : Thread Cert.OddYIdeal.nD Cert.OddYIdeal.τ).loc Cert.OddYIdeal.main_arg8) = m ((c.tc : Thread Cert.OddYIdeal.nD Cert.OddYIdeal.τ).loc Cert.OddYIdeal.main_arg8)
          ∧ r.2.mem ((c.tc : Thread Cert.OddYIdeal.nD Cert.OddYIdeal.τ).loc Cert.OddYIdeal.main_arg9) = m ((c.tc : Thread Cert.OddYIdeal.nD Cert.OddYIdeal.τ).loc Cert.OddYIdeal.main_arg9))
      ∧ θ_run (Cert.RefOddYIdeal.defs (F := Ideal)) (onTc (τ := Cert.RefOddYIdeal.τ) (Cert.RefOddYIdeal.main (F := Ideal))) ⟨m', fun _ => 0, g'⟩ (fun r => ∀ c : Dev Cert.RefOddYIdeal.nD,
          r.2.mem ((c.tc : Thread Cert.RefOddYIdeal.nD Cert.RefOddYIdeal.τ).loc Cert.RefOddYIdeal.main_v37) = v0 c
          ∧ r.2.mem ((c.tc : Thread Cert.RefOddYIdeal.nD Cert.RefOddYIdeal.τ).loc Cert.RefOddYIdeal.main_v53) = v1 c
          ∧ r.2.mem ((c.tc : Thread Cert.RefOddYIdeal.nD Cert.RefOddYIdeal.τ).loc Cert.RefOddYIdeal.main_arg0) = m' ((c.tc : Thread Cert.RefOddYIdeal.nD Cert.RefOddYIdeal.τ).loc Cert.RefOddYIdeal.main_arg0)
          ∧ r.2.mem ((c.tc : Thread Cert.RefOddYIdeal.nD Cert.RefOddYIdeal.τ).loc Cert.RefOddYIdeal.main_arg1) = m' ((c.tc : Thread Cert.RefOddYIdeal.nD Cert.RefOddYIdeal.τ).loc Cert.RefOddYIdeal.main_arg1)
          ∧ r.2.mem ((c.tc : Thread Cert.RefOddYIdeal.nD Cert.RefOddYIdeal.τ).loc Cert.RefOddYIdeal.main_arg2) = m' ((c.tc : Thread Cert.RefOddYIdeal.nD Cert.RefOddYIdeal.τ).loc Cert.RefOddYIdeal.main_arg2)
          ∧ r.2.mem ((c.tc : Thread Cert.RefOddYIdeal.nD Cert.RefOddYIdeal.τ).loc Cert.RefOddYIdeal.main_arg3) = m' ((c.tc : Thread Cert.RefOddYIdeal.nD Cert.RefOddYIdeal.τ).loc Cert.RefOddYIdeal.main_arg3)
          ∧ r.2.mem ((c.tc : Thread Cert.RefOddYIdeal.nD Cert.RefOddYIdeal.τ).loc Cert.RefOddYIdeal.main_arg4) = m' ((c.tc : Thread Cert.RefOddYIdeal.nD Cert.RefOddYIdeal.τ).loc Cert.RefOddYIdeal.main_arg4)
          ∧ r.2.mem ((c.tc : Thread Cert.RefOddYIdeal.nD Cert.RefOddYIdeal.τ).loc Cert.RefOddYIdeal.main_arg5) = m' ((c.tc : Thread Cert.RefOddYIdeal.nD Cert.RefOddYIdeal.τ).loc Cert.RefOddYIdeal.main_arg5)
          ∧ r.2.mem ((c.tc : Thread Cert.RefOddYIdeal.nD Cert.RefOddYIdeal.τ).loc Cert.RefOddYIdeal.main_arg6) = m' ((c.tc : Thread Cert.RefOddYIdeal.nD Cert.RefOddYIdeal.τ).loc Cert.RefOddYIdeal.main_arg6)
          ∧ r.2.mem ((c.tc : Thread Cert.RefOddYIdeal.nD Cert.RefOddYIdeal.τ).loc Cert.RefOddYIdeal.main_arg7) = m' ((c.tc : Thread Cert.RefOddYIdeal.nD Cert.RefOddYIdeal.τ).loc Cert.RefOddYIdeal.main_arg7)
          ∧ r.2.mem ((c.tc : Thread Cert.RefOddYIdeal.nD Cert.RefOddYIdeal.τ).loc Cert.RefOddYIdeal.main_arg8) = m' ((c.tc : Thread Cert.RefOddYIdeal.nD Cert.RefOddYIdeal.τ).loc Cert.RefOddYIdeal.main_arg8)
          ∧ r.2.mem ((c.tc : Thread Cert.RefOddYIdeal.nD Cert.RefOddYIdeal.τ).loc Cert.RefOddYIdeal.main_arg9) = m' ((c.tc : Thread Cert.RefOddYIdeal.nD Cert.RefOddYIdeal.τ).loc Cert.RefOddYIdeal.main_arg9))

def preserves_Mlstm_MlstmIdeal : Prop :=
  IdealRules.named_const.Statement Cert.MlstmIdeal.κ "mask" .f32 0xF149F2CA#32 ⊥

def algebraic_MlstmIdeal_RefMlstmIdeal [hMlstmIdeal : Cert.MlstmIdeal.Facts] [hRefMlstmIdeal : Cert.RefMlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.RefMlstmIdeal.nD Cert.RefMlstmIdeal.τ Cert.RefMlstmIdeal.sig) → Buf (Elt Ideal) ℓ) (g' : Dev Cert.RefMlstmIdeal.nD → PrngReg), Pre_MlstmIdeal m →
    (∀ c : Dev Cert.MlstmIdeal.nD,
      m' ((c.tc : Thread Cert.RefMlstmIdeal.nD Cert.RefMlstmIdeal.τ).loc Cert.RefMlstmIdeal.main_arg0) = m ((c.tc : Thread Cert.MlstmIdeal.nD Cert.MlstmIdeal.τ).loc Cert.MlstmIdeal.main_arg0)
      ∧ m' ((c.tc : Thread Cert.RefMlstmIdeal.nD Cert.RefMlstmIdeal.τ).loc Cert.RefMlstmIdeal.main_arg1) = m ((c.tc : Thread Cert.MlstmIdeal.nD Cert.MlstmIdeal.τ).loc Cert.MlstmIdeal.main_arg1)
      ∧ m' ((c.tc : Thread Cert.RefMlstmIdeal.nD Cert.RefMlstmIdeal.τ).loc Cert.RefMlstmIdeal.main_arg2) = m ((c.tc : Thread Cert.MlstmIdeal.nD Cert.MlstmIdeal.τ).loc Cert.MlstmIdeal.main_arg2)
      ∧ m' ((c.tc : Thread Cert.RefMlstmIdeal.nD Cert.RefMlstmIdeal.τ).loc Cert.RefMlstmIdeal.main_arg3) = m ((c.tc : Thread Cert.MlstmIdeal.nD Cert.MlstmIdeal.τ).loc Cert.MlstmIdeal.main_arg3)
      ∧ m' ((c.tc : Thread Cert.RefMlstmIdeal.nD Cert.RefMlstmIdeal.τ).loc Cert.RefMlstmIdeal.main_arg4) = m ((c.tc : Thread Cert.MlstmIdeal.nD Cert.MlstmIdeal.τ).loc Cert.MlstmIdeal.main_arg4)) →
    ∃ (v0 : (c : Dev Cert.MlstmIdeal.nD) → Buf (Elt Ideal) ((c.tc : Thread Cert.MlstmIdeal.nD Cert.MlstmIdeal.τ).loc Cert.MlstmIdeal.main_v8_0)) (v1 : (c : Dev Cert.MlstmIdeal.nD) → Buf (Elt Ideal) ((c.tc : Thread Cert.MlstmIdeal.nD Cert.MlstmIdeal.τ).loc Cert.MlstmIdeal.main_v8_1)) (v2 : (c : Dev Cert.MlstmIdeal.nD) → Buf (Elt Ideal) ((c.tc : Thread Cert.MlstmIdeal.nD Cert.MlstmIdeal.τ).loc Cert.MlstmIdeal.main_v8_2)) (v3 : (c : Dev Cert.MlstmIdeal.nD) → Buf (Elt Ideal) ((c.tc : Thread Cert.MlstmIdeal.nD Cert.MlstmIdeal.τ).loc Cert.MlstmIdeal.main_v8_3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v8_0) = v0 c
          ∧ r.2.mem ((c.tc : Thread Cert.MlstmIdeal.nD Cert.MlstmIdeal.τ).loc Cert.MlstmIdeal.main_v8_1) = v1 c
          ∧ r.2.mem ((c.tc : Thread Cert.MlstmIdeal.nD Cert.MlstmIdeal.τ).loc Cert.MlstmIdeal.main_v8_2) = v2 c
          ∧ r.2.mem ((c.tc : Thread Cert.MlstmIdeal.nD Cert.MlstmIdeal.τ).loc Cert.MlstmIdeal.main_v8_3) = v3 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4))
      ∧ θ_run (Cert.RefMlstmIdeal.defs (F := Ideal)) (onTc (τ := Cert.RefMlstmIdeal.τ) (Cert.RefMlstmIdeal.main (F := Ideal))) ⟨m', fun _ => 0, g'⟩ (fun r => ∀ c : Dev Cert.RefMlstmIdeal.nD,
          r.2.mem ((c.tc : Thread Cert.RefMlstmIdeal.nD Cert.RefMlstmIdeal.τ).loc Cert.RefMlstmIdeal.main_v99) = v0 c
          ∧ r.2.mem ((c.tc : Thread Cert.RefMlstmIdeal.nD Cert.RefMlstmIdeal.τ).loc Cert.RefMlstmIdeal.main_v82) = v1 c
          ∧ r.2.mem ((c.tc : Thread Cert.RefMlstmIdeal.nD Cert.RefMlstmIdeal.τ).loc Cert.RefMlstmIdeal.main_v100) = v2 c
          ∧ r.2.mem ((c.tc : Thread Cert.RefMlstmIdeal.nD Cert.RefMlstmIdeal.τ).loc Cert.RefMlstmIdeal.main_v102) = v3 c
          ∧ r.2.mem ((c.tc : Thread Cert.RefMlstmIdeal.nD Cert.RefMlstmIdeal.τ).loc Cert.RefMlstmIdeal.main_arg0) = m' ((c.tc : Thread Cert.RefMlstmIdeal.nD Cert.RefMlstmIdeal.τ).loc Cert.RefMlstmIdeal.main_arg0)
          ∧ r.2.mem ((c.tc : Thread Cert.RefMlstmIdeal.nD Cert.RefMlstmIdeal.τ).loc Cert.RefMlstmIdeal.main_arg1) = m' ((c.tc : Thread Cert.RefMlstmIdeal.nD Cert.RefMlstmIdeal.τ).loc Cert.RefMlstmIdeal.main_arg1)
          ∧ r.2.mem ((c.tc : Thread Cert.RefMlstmIdeal.nD Cert.RefMlstmIdeal.τ).loc Cert.RefMlstmIdeal.main_arg2) = m' ((c.tc : Thread Cert.RefMlstmIdeal.nD Cert.RefMlstmIdeal.τ).loc Cert.RefMlstmIdeal.main_arg2)
          ∧ r.2.mem ((c.tc : Thread Cert.RefMlstmIdeal.nD Cert.RefMlstmIdeal.τ).loc Cert.RefMlstmIdeal.main_arg3) = m' ((c.tc : Thread Cert.RefMlstmIdeal.nD Cert.RefMlstmIdeal.τ).loc Cert.RefMlstmIdeal.main_arg3)
          ∧ r.2.mem ((c.tc : Thread Cert.RefMlstmIdeal.nD Cert.RefMlstmIdeal.τ).loc Cert.RefMlstmIdeal.main_arg4) = m' ((c.tc : Thread Cert.RefMlstmIdeal.nD Cert.RefMlstmIdeal.τ).loc Cert.RefMlstmIdeal.main_arg4))

def preserves_EvenOut_EvenOutIdeal : Prop :=
  True

def algebraic_EvenOutIdeal_RefEvenOutIdeal [hEvenOutIdeal : Cert.EvenOutIdeal.Facts] [hRefEvenOutIdeal : Cert.RefEvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.RefEvenOutIdeal.nD Cert.RefEvenOutIdeal.τ Cert.RefEvenOutIdeal.sig) → Buf (Elt Ideal) ℓ) (g' : Dev Cert.RefEvenOutIdeal.nD → PrngReg), Pre_EvenOutIdeal m →
    (∀ c : Dev Cert.EvenOutIdeal.nD,
      m' ((c.tc : Thread Cert.RefEvenOutIdeal.nD Cert.RefEvenOutIdeal.τ).loc Cert.RefEvenOutIdeal.main_arg0) = m ((c.tc : Thread Cert.EvenOutIdeal.nD Cert.EvenOutIdeal.τ).loc Cert.EvenOutIdeal.main_arg0)
      ∧ m' ((c.tc : Thread Cert.RefEvenOutIdeal.nD Cert.RefEvenOutIdeal.τ).loc Cert.RefEvenOutIdeal.main_arg1) = m ((c.tc : Thread Cert.EvenOutIdeal.nD Cert.EvenOutIdeal.τ).loc Cert.EvenOutIdeal.main_arg1)
      ∧ m' ((c.tc : Thread Cert.RefEvenOutIdeal.nD Cert.RefEvenOutIdeal.τ).loc Cert.RefEvenOutIdeal.main_arg2) = m ((c.tc : Thread Cert.EvenOutIdeal.nD Cert.EvenOutIdeal.τ).loc Cert.EvenOutIdeal.main_arg2)
      ∧ m' ((c.tc : Thread Cert.RefEvenOutIdeal.nD Cert.RefEvenOutIdeal.τ).loc Cert.RefEvenOutIdeal.main_arg3) = m ((c.tc : Thread Cert.EvenOutIdeal.nD Cert.EvenOutIdeal.τ).loc Cert.EvenOutIdeal.main_arg3)
      ∧ m' ((c.tc : Thread Cert.RefEvenOutIdeal.nD Cert.RefEvenOutIdeal.τ).loc Cert.RefEvenOutIdeal.main_arg4) = m ((c.tc : Thread Cert.EvenOutIdeal.nD Cert.EvenOutIdeal.τ).loc Cert.EvenOutIdeal.main_arg4)
      ∧ m' ((c.tc : Thread Cert.RefEvenOutIdeal.nD Cert.RefEvenOutIdeal.τ).loc Cert.RefEvenOutIdeal.main_arg5) = m ((c.tc : Thread Cert.EvenOutIdeal.nD Cert.EvenOutIdeal.τ).loc Cert.EvenOutIdeal.main_arg5)
      ∧ m' ((c.tc : Thread Cert.RefEvenOutIdeal.nD Cert.RefEvenOutIdeal.τ).loc Cert.RefEvenOutIdeal.main_arg6) = m ((c.tc : Thread Cert.EvenOutIdeal.nD Cert.EvenOutIdeal.τ).loc Cert.EvenOutIdeal.main_arg6)
      ∧ m' ((c.tc : Thread Cert.RefEvenOutIdeal.nD Cert.RefEvenOutIdeal.τ).loc Cert.RefEvenOutIdeal.main_arg7) = m ((c.tc : Thread Cert.EvenOutIdeal.nD Cert.EvenOutIdeal.τ).loc Cert.EvenOutIdeal.main_arg7)) →
    ∃ (v0 : (c : Dev Cert.EvenOutIdeal.nD) → Buf (Elt Ideal) ((c.tc : Thread Cert.EvenOutIdeal.nD Cert.EvenOutIdeal.τ).loc Cert.EvenOutIdeal.main_v6_0)) (v1 : (c : Dev Cert.EvenOutIdeal.nD) → Buf (Elt Ideal) ((c.tc : Thread Cert.EvenOutIdeal.nD Cert.EvenOutIdeal.τ).loc Cert.EvenOutIdeal.main_v6_1)) (v2 : (c : Dev Cert.EvenOutIdeal.nD) → Buf (Elt Ideal) ((c.tc : Thread Cert.EvenOutIdeal.nD Cert.EvenOutIdeal.τ).loc Cert.EvenOutIdeal.main_v6_2)) (v3 : (c : Dev Cert.EvenOutIdeal.nD) → Buf (Elt Ideal) ((c.tc : Thread Cert.EvenOutIdeal.nD Cert.EvenOutIdeal.τ).loc Cert.EvenOutIdeal.main_v6_3)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v6_0) = v0 c
          ∧ r.2.mem ((c.tc : Thread Cert.EvenOutIdeal.nD Cert.EvenOutIdeal.τ).loc Cert.EvenOutIdeal.main_v6_1) = v1 c
          ∧ r.2.mem ((c.tc : Thread Cert.EvenOutIdeal.nD Cert.EvenOutIdeal.τ).loc Cert.EvenOutIdeal.main_v6_2) = v2 c
          ∧ r.2.mem ((c.tc : Thread Cert.EvenOutIdeal.nD Cert.EvenOutIdeal.τ).loc Cert.EvenOutIdeal.main_v6_3) = v3 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7))
      ∧ θ_run (Cert.RefEvenOutIdeal.defs (F := Ideal)) (onTc (τ := Cert.RefEvenOutIdeal.τ) (Cert.RefEvenOutIdeal.main (F := Ideal))) ⟨m', fun _ => 0, g'⟩ (fun r => ∀ c : Dev Cert.RefEvenOutIdeal.nD,
          r.2.mem ((c.tc : Thread Cert.RefEvenOutIdeal.nD Cert.RefEvenOutIdeal.τ).loc Cert.RefEvenOutIdeal.main_v5) = v0 c
          ∧ r.2.mem ((c.tc : Thread Cert.RefEvenOutIdeal.nD Cert.RefEvenOutIdeal.τ).loc Cert.RefEvenOutIdeal.main_v20) = v1 c
          ∧ r.2.mem ((c.tc : Thread Cert.RefEvenOutIdeal.nD Cert.RefEvenOutIdeal.τ).loc Cert.RefEvenOutIdeal.main_v25) = v2 c
          ∧ r.2.mem ((c.tc : Thread Cert.RefEvenOutIdeal.nD Cert.RefEvenOutIdeal.τ).loc Cert.RefEvenOutIdeal.main_v40) = v3 c
          ∧ r.2.mem ((c.tc : Thread Cert.RefEvenOutIdeal.nD Cert.RefEvenOutIdeal.τ).loc Cert.RefEvenOutIdeal.main_arg0) = m' ((c.tc : Thread Cert.RefEvenOutIdeal.nD Cert.RefEvenOutIdeal.τ).loc Cert.RefEvenOutIdeal.main_arg0)
          ∧ r.2.mem ((c.tc : Thread Cert.RefEvenOutIdeal.nD Cert.RefEvenOutIdeal.τ).loc Cert.RefEvenOutIdeal.main_arg1) = m' ((c.tc : Thread Cert.RefEvenOutIdeal.nD Cert.RefEvenOutIdeal.τ).loc Cert.RefEvenOutIdeal.main_arg1)
          ∧ r.2.mem ((c.tc : Thread Cert.RefEvenOutIdeal.nD Cert.RefEvenOutIdeal.τ).loc Cert.RefEvenOutIdeal.main_arg2) = m' ((c.tc : Thread Cert.RefEvenOutIdeal.nD Cert.RefEvenOutIdeal.τ).loc Cert.RefEvenOutIdeal.main_arg2)
          ∧ r.2.mem ((c.tc : Thread Cert.RefEvenOutIdeal.nD Cert.RefEvenOutIdeal.τ).loc Cert.RefEvenOutIdeal.main_arg3) = m' ((c.tc : Thread Cert.RefEvenOutIdeal.nD Cert.RefEvenOutIdeal.τ).loc Cert.RefEvenOutIdeal.main_arg3)
          ∧ r.2.mem ((c.tc : Thread Cert.RefEvenOutIdeal.nD Cert.RefEvenOutIdeal.τ).loc Cert.RefEvenOutIdeal.main_arg4) = m' ((c.tc : Thread Cert.RefEvenOutIdeal.nD Cert.RefEvenOutIdeal.τ).loc Cert.RefEvenOutIdeal.main_arg4)
          ∧ r.2.mem ((c.tc : Thread Cert.RefEvenOutIdeal.nD Cert.RefEvenOutIdeal.τ).loc Cert.RefEvenOutIdeal.main_arg5) = m' ((c.tc : Thread Cert.RefEvenOutIdeal.nD Cert.RefEvenOutIdeal.τ).loc Cert.RefEvenOutIdeal.main_arg5)
          ∧ r.2.mem ((c.tc : Thread Cert.RefEvenOutIdeal.nD Cert.RefEvenOutIdeal.τ).loc Cert.RefEvenOutIdeal.main_arg6) = m' ((c.tc : Thread Cert.RefEvenOutIdeal.nD Cert.RefEvenOutIdeal.τ).loc Cert.RefEvenOutIdeal.main_arg6)
          ∧ r.2.mem ((c.tc : Thread Cert.RefEvenOutIdeal.nD Cert.RefEvenOutIdeal.τ).loc Cert.RefEvenOutIdeal.main_arg7) = m' ((c.tc : Thread Cert.RefEvenOutIdeal.nD Cert.RefEvenOutIdeal.τ).loc Cert.RefEvenOutIdeal.main_arg7))

def preserves_Front_FrontIdeal : Prop :=
  True

def algebraic_FrontIdeal_RefFrontIdeal_pre_finite [hFrontIdeal : Cert.FrontIdeal.Facts] [hRefFrontIdeal : Cert.RefFrontIdeal.Facts] [hPre_finite : Cert.Pre_finite.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.RefFrontIdeal.nD Cert.RefFrontIdeal.τ Cert.RefFrontIdeal.sig) → Buf (Elt Ideal) ℓ) (g' : Dev Cert.RefFrontIdeal.nD → PrngReg), Pre_FrontIdeal_finite m →
    (∀ c : Dev Cert.FrontIdeal.nD,
      m' ((c.tc : Thread Cert.RefFrontIdeal.nD Cert.RefFrontIdeal.τ).loc Cert.RefFrontIdeal.main_arg0) = m ((c.tc : Thread Cert.FrontIdeal.nD Cert.FrontIdeal.τ).loc Cert.FrontIdeal.main_arg0)
      ∧ m' ((c.tc : Thread Cert.RefFrontIdeal.nD Cert.RefFrontIdeal.τ).loc Cert.RefFrontIdeal.main_arg1) = m ((c.tc : Thread Cert.FrontIdeal.nD Cert.FrontIdeal.τ).loc Cert.FrontIdeal.main_arg1)
      ∧ m' ((c.tc : Thread Cert.RefFrontIdeal.nD Cert.RefFrontIdeal.τ).loc Cert.RefFrontIdeal.main_arg2) = m ((c.tc : Thread Cert.FrontIdeal.nD Cert.FrontIdeal.τ).loc Cert.FrontIdeal.main_arg2)
      ∧ m' ((c.tc : Thread Cert.RefFrontIdeal.nD Cert.RefFrontIdeal.τ).loc Cert.RefFrontIdeal.main_arg3) = m ((c.tc : Thread Cert.FrontIdeal.nD Cert.FrontIdeal.τ).loc Cert.FrontIdeal.main_arg3)
      ∧ m' ((c.tc : Thread Cert.RefFrontIdeal.nD Cert.RefFrontIdeal.τ).loc Cert.RefFrontIdeal.main_arg4) = m ((c.tc : Thread Cert.FrontIdeal.nD Cert.FrontIdeal.τ).loc Cert.FrontIdeal.main_arg4)) →
    ∃ (v0 : (c : Dev Cert.FrontIdeal.nD) → Buf (Elt Ideal) ((c.tc : Thread Cert.FrontIdeal.nD Cert.FrontIdeal.τ).loc Cert.FrontIdeal.main_v16_0)) (v1 : (c : Dev Cert.FrontIdeal.nD) → Buf (Elt Ideal) ((c.tc : Thread Cert.FrontIdeal.nD Cert.FrontIdeal.τ).loc Cert.FrontIdeal.main_v16_1)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v16_0) = v0 c
          ∧ r.2.mem ((c.tc : Thread Cert.FrontIdeal.nD Cert.FrontIdeal.τ).loc Cert.FrontIdeal.main_v16_1) = v1 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4))
      ∧ θ_run (Cert.RefFrontIdeal.defs (F := Ideal)) (onTc (τ := Cert.RefFrontIdeal.τ) (Cert.RefFrontIdeal.main (F := Ideal))) ⟨m', fun _ => 0, g'⟩ (fun r => ∀ c : Dev Cert.RefFrontIdeal.nD,
          r.2.mem ((c.tc : Thread Cert.RefFrontIdeal.nD Cert.RefFrontIdeal.τ).loc Cert.RefFrontIdeal.main_v28) = v0 c
          ∧ r.2.mem ((c.tc : Thread Cert.RefFrontIdeal.nD Cert.RefFrontIdeal.τ).loc Cert.RefFrontIdeal.main_v29) = v1 c
          ∧ r.2.mem ((c.tc : Thread Cert.RefFrontIdeal.nD Cert.RefFrontIdeal.τ).loc Cert.RefFrontIdeal.main_arg0) = m' ((c.tc : Thread Cert.RefFrontIdeal.nD Cert.RefFrontIdeal.τ).loc Cert.RefFrontIdeal.main_arg0)
          ∧ r.2.mem ((c.tc : Thread Cert.RefFrontIdeal.nD Cert.RefFrontIdeal.τ).loc Cert.RefFrontIdeal.main_arg1) = m' ((c.tc : Thread Cert.RefFrontIdeal.nD Cert.RefFrontIdeal.τ).loc Cert.RefFrontIdeal.main_arg1)
          ∧ r.2.mem ((c.tc : Thread Cert.RefFrontIdeal.nD Cert.RefFrontIdeal.τ).loc Cert.RefFrontIdeal.main_arg2) = m' ((c.tc : Thread Cert.RefFrontIdeal.nD Cert.RefFrontIdeal.τ).loc Cert.RefFrontIdeal.main_arg2)
          ∧ r.2.mem ((c.tc : Thread Cert.RefFrontIdeal.nD Cert.RefFrontIdeal.τ).loc Cert.RefFrontIdeal.main_arg3) = m' ((c.tc : Thread Cert.RefFrontIdeal.nD Cert.RefFrontIdeal.τ).loc Cert.RefFrontIdeal.main_arg3)
          ∧ r.2.mem ((c.tc : Thread Cert.RefFrontIdeal.nD Cert.RefFrontIdeal.τ).loc Cert.RefFrontIdeal.main_arg4) = m' ((c.tc : Thread Cert.RefFrontIdeal.nD Cert.RefFrontIdeal.τ).loc Cert.RefFrontIdeal.main_arg4))

def preserves_Mix_MixIdeal : Prop :=
  True

def algebraic_MixIdeal_RefMixIdeal [hMixIdeal : Cert.MixIdeal.Facts] [hRefMixIdeal : Cert.RefMixIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_MixIdeal m →
    (∀ c : Dev Cert.MixIdeal.nD,
      m' ((c.tc : Thread Cert.RefMixIdeal.nD Cert.RefMixIdeal.τ).loc Cert.RefMixIdeal.main_arg0) = m ((c.tc : Thread Cert.MixIdeal.nD Cert.MixIdeal.τ).loc Cert.MixIdeal.main_arg0)
      ∧ m' ((c.tc : Thread Cert.RefMixIdeal.nD Cert.RefMixIdeal.τ).loc Cert.RefMixIdeal.main_arg1) = m ((c.tc : Thread Cert.MixIdeal.nD Cert.MixIdeal.τ).loc Cert.MixIdeal.main_arg1)
      ∧ m' ((c.tc : Thread Cert.RefMixIdeal.nD Cert.RefMixIdeal.τ).loc Cert.RefMixIdeal.main_arg2) = m ((c.tc : Thread Cert.MixIdeal.nD Cert.MixIdeal.τ).loc Cert.MixIdeal.main_arg2)
      ∧ m' ((c.tc : Thread Cert.RefMixIdeal.nD Cert.RefMixIdeal.τ).loc Cert.RefMixIdeal.main_arg3) = m ((c.tc : Thread Cert.MixIdeal.nD Cert.MixIdeal.τ).loc Cert.MixIdeal.main_arg3)
      ∧ m' ((c.tc : Thread Cert.RefMixIdeal.nD Cert.RefMixIdeal.τ).loc Cert.RefMixIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v20) = v0 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3)
          ∧ r.2.mem ((c.tc : Thread Cert.RefMixIdeal.nD Cert.RefMixIdeal.τ).loc Cert.RefMixIdeal.main_arg4) = m' ((c.tc : Thread Cert.RefMixIdeal.nD Cert.RefMixIdeal.τ).loc Cert.RefMixIdeal.main_arg4))

def preserves_Finish_FinishIdeal : Prop :=
  True

def algebraic_FinishIdeal_RefFinishIdeal [hFinishIdeal : Cert.FinishIdeal.Facts] [hRefFinishIdeal : Cert.RefFinishIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.RefFinishIdeal.nD Cert.RefFinishIdeal.τ Cert.RefFinishIdeal.sig) → Buf (Elt Ideal) ℓ) (g' : Dev Cert.RefFinishIdeal.nD → PrngReg), Pre_FinishIdeal m →
    (∀ c : Dev Cert.FinishIdeal.nD,
      m' ((c.tc : Thread Cert.RefFinishIdeal.nD Cert.RefFinishIdeal.τ).loc Cert.RefFinishIdeal.main_arg0) = m ((c.tc : Thread Cert.FinishIdeal.nD Cert.FinishIdeal.τ).loc Cert.FinishIdeal.main_arg0)
      ∧ m' ((c.tc : Thread Cert.RefFinishIdeal.nD Cert.RefFinishIdeal.τ).loc Cert.RefFinishIdeal.main_arg1) = m ((c.tc : Thread Cert.FinishIdeal.nD Cert.FinishIdeal.τ).loc Cert.FinishIdeal.main_arg1)) →
    ∃ (v0 : (c : Dev Cert.FinishIdeal.nD) → Buf (Elt Ideal) ((c.tc : Thread Cert.FinishIdeal.nD Cert.FinishIdeal.τ).loc Cert.FinishIdeal.main_v0)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v0) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1))
      ∧ θ_run (Cert.RefFinishIdeal.defs (F := Ideal)) (onTc (τ := Cert.RefFinishIdeal.τ) (Cert.RefFinishIdeal.main (F := Ideal))) ⟨m', fun _ => 0, g'⟩ (fun r => ∀ c : Dev Cert.RefFinishIdeal.nD,
          r.2.mem ((c.tc : Thread Cert.RefFinishIdeal.nD Cert.RefFinishIdeal.τ).loc Cert.RefFinishIdeal.main_v28) = v0 c
          ∧ r.2.mem ((c.tc : Thread Cert.RefFinishIdeal.nD Cert.RefFinishIdeal.τ).loc Cert.RefFinishIdeal.main_arg0) = m' ((c.tc : Thread Cert.RefFinishIdeal.nD Cert.RefFinishIdeal.τ).loc Cert.RefFinishIdeal.main_arg0)
          ∧ r.2.mem ((c.tc : Thread Cert.RefFinishIdeal.nD Cert.RefFinishIdeal.τ).loc Cert.RefFinishIdeal.main_arg1) = m' ((c.tc : Thread Cert.RefFinishIdeal.nD Cert.RefFinishIdeal.τ).loc Cert.RefFinishIdeal.main_arg1))

def Claim : Prop :=
  ∃ (hQkvog : Cert.Qkvog.Facts) (hQkvogIdeal : Cert.QkvogIdeal.Facts) (hRefQkvogIdeal : Cert.RefQkvogIdeal.Facts) (hKProj : Cert.KProj.Facts) (hKProjIdeal : Cert.KProjIdeal.Facts) (hRefKProjIdeal : Cert.RefKProjIdeal.Facts) (hVProj : Cert.VProj.Facts) (hVProjIdeal : Cert.VProjIdeal.Facts) (hRefVProjIdeal : Cert.RefVProjIdeal.Facts) (hQg : Cert.Qg.Facts) (hQgIdeal : Cert.QgIdeal.Facts) (hRefQgIdeal : Cert.RefQgIdeal.Facts) (hOddU : Cert.OddU.Facts) (hOddUIdeal : Cert.OddUIdeal.Facts) (hRefOddUIdeal : Cert.RefOddUIdeal.Facts) (hOddV : Cert.OddV.Facts) (hOddVIdeal : Cert.OddVIdeal.Facts) (hRefOddVIdeal : Cert.RefOddVIdeal.Facts) (hOddG : Cert.OddG.Facts) (hOddGIdeal : Cert.OddGIdeal.Facts) (hRefOddGIdeal : Cert.RefOddGIdeal.Facts) (hOddY : Cert.OddY.Facts) (hOddYIdeal : Cert.OddYIdeal.Facts) (hRefOddYIdeal : Cert.RefOddYIdeal.Facts) (hMlstm : Cert.Mlstm.Facts) (hMlstmIdeal : Cert.MlstmIdeal.Facts) (hRefMlstmIdeal : Cert.RefMlstmIdeal.Facts) (hEvenOut : Cert.EvenOut.Facts) (hEvenOutIdeal : Cert.EvenOutIdeal.Facts) (hRefEvenOutIdeal : Cert.RefEvenOutIdeal.Facts) (hFront : Cert.Front.Facts) (hFrontIdeal : Cert.FrontIdeal.Facts) (hRefFrontIdeal : Cert.RefFrontIdeal.Facts) (hMix : Cert.Mix.Facts) (hMixIdeal : Cert.MixIdeal.Facts) (hRefMixIdeal : Cert.RefMixIdeal.Facts) (hFinish : Cert.Finish.Facts) (hFinishIdeal : Cert.FinishIdeal.Facts) (hRefFinishIdeal : Cert.RefFinishIdeal.Facts) (hPre_finite : Cert.Pre_finite.Facts),
    quiescent_Qkvog (hQkvog := hQkvog)
    ∧ quiescent_QkvogIdeal (hQkvogIdeal := hQkvogIdeal)
    ∧ quiescent_RefQkvogIdeal (hRefQkvogIdeal := hRefQkvogIdeal)
    ∧ quiescent_KProj (hKProj := hKProj)
    ∧ quiescent_KProjIdeal (hKProjIdeal := hKProjIdeal)
    ∧ quiescent_RefKProjIdeal (hRefKProjIdeal := hRefKProjIdeal)
    ∧ quiescent_VProj (hVProj := hVProj)
    ∧ quiescent_VProjIdeal (hVProjIdeal := hVProjIdeal)
    ∧ quiescent_RefVProjIdeal (hRefVProjIdeal := hRefVProjIdeal)
    ∧ quiescent_Qg (hQg := hQg)
    ∧ quiescent_QgIdeal (hQgIdeal := hQgIdeal)
    ∧ quiescent_RefQgIdeal (hRefQgIdeal := hRefQgIdeal)
    ∧ quiescent_OddU (hOddU := hOddU)
    ∧ quiescent_OddUIdeal (hOddUIdeal := hOddUIdeal)
    ∧ quiescent_RefOddUIdeal (hRefOddUIdeal := hRefOddUIdeal)
    ∧ quiescent_OddV (hOddV := hOddV)
    ∧ quiescent_OddVIdeal (hOddVIdeal := hOddVIdeal)
    ∧ quiescent_RefOddVIdeal (hRefOddVIdeal := hRefOddVIdeal)
    ∧ quiescent_OddG (hOddG := hOddG)
    ∧ quiescent_OddGIdeal (hOddGIdeal := hOddGIdeal)
    ∧ quiescent_RefOddGIdeal (hRefOddGIdeal := hRefOddGIdeal)
    ∧ quiescent_OddY (hOddY := hOddY)
    ∧ quiescent_OddYIdeal (hOddYIdeal := hOddYIdeal)
    ∧ quiescent_RefOddYIdeal (hRefOddYIdeal := hRefOddYIdeal)
    ∧ quiescent_Mlstm (hMlstm := hMlstm)
    ∧ quiescent_MlstmIdeal (hMlstmIdeal := hMlstmIdeal)
    ∧ quiescent_RefMlstmIdeal (hRefMlstmIdeal := hRefMlstmIdeal)
    ∧ quiescent_EvenOut (hEvenOut := hEvenOut)
    ∧ quiescent_EvenOutIdeal (hEvenOutIdeal := hEvenOutIdeal)
    ∧ quiescent_RefEvenOutIdeal (hRefEvenOutIdeal := hRefEvenOutIdeal)
    ∧ quiescent_Front (hFront := hFront)
    ∧ quiescent_FrontIdeal (hFrontIdeal := hFrontIdeal)
    ∧ quiescent_FrontIdeal_pre_finite (hFrontIdeal := hFrontIdeal) (hPre_finite := hPre_finite)
    ∧ quiescent_RefFrontIdeal (hRefFrontIdeal := hRefFrontIdeal)
    ∧ quiescent_RefFrontIdeal_pre_finite (hRefFrontIdeal := hRefFrontIdeal) (hPre_finite := hPre_finite)
    ∧ quiescent_Mix (hMix := hMix)
    ∧ quiescent_MixIdeal (hMixIdeal := hMixIdeal)
    ∧ quiescent_RefMixIdeal (hRefMixIdeal := hRefMixIdeal)
    ∧ quiescent_Finish (hFinish := hFinish)
    ∧ quiescent_FinishIdeal (hFinishIdeal := hFinishIdeal)
    ∧ quiescent_RefFinishIdeal (hRefFinishIdeal := hRefFinishIdeal)
    ∧ preserves_Qkvog_QkvogIdeal
    ∧ algebraic_QkvogIdeal_RefQkvogIdeal (hQkvogIdeal := hQkvogIdeal) (hRefQkvogIdeal := hRefQkvogIdeal)
    ∧ preserves_KProj_KProjIdeal
    ∧ algebraic_KProjIdeal_RefKProjIdeal (hKProjIdeal := hKProjIdeal) (hRefKProjIdeal := hRefKProjIdeal)
    ∧ preserves_VProj_VProjIdeal
    ∧ algebraic_VProjIdeal_RefVProjIdeal (hVProjIdeal := hVProjIdeal) (hRefVProjIdeal := hRefVProjIdeal)
    ∧ preserves_Qg_QgIdeal
    ∧ algebraic_QgIdeal_RefQgIdeal (hQgIdeal := hQgIdeal) (hRefQgIdeal := hRefQgIdeal)
    ∧ preserves_OddU_OddUIdeal
    ∧ algebraic_OddUIdeal_RefOddUIdeal (hOddUIdeal := hOddUIdeal) (hRefOddUIdeal := hRefOddUIdeal)
    ∧ preserves_OddV_OddVIdeal
    ∧ algebraic_OddVIdeal_RefOddVIdeal (hOddVIdeal := hOddVIdeal) (hRefOddVIdeal := hRefOddVIdeal)
    ∧ preserves_OddG_OddGIdeal
    ∧ algebraic_OddGIdeal_RefOddGIdeal (hOddGIdeal := hOddGIdeal) (hRefOddGIdeal := hRefOddGIdeal)
    ∧ preserves_OddY_OddYIdeal
    ∧ algebraic_OddYIdeal_RefOddYIdeal (hOddYIdeal := hOddYIdeal) (hRefOddYIdeal := hRefOddYIdeal)
    ∧ preserves_Mlstm_MlstmIdeal
    ∧ algebraic_MlstmIdeal_RefMlstmIdeal (hMlstmIdeal := hMlstmIdeal) (hRefMlstmIdeal := hRefMlstmIdeal)
    ∧ preserves_EvenOut_EvenOutIdeal
    ∧ algebraic_EvenOutIdeal_RefEvenOutIdeal (hEvenOutIdeal := hEvenOutIdeal) (hRefEvenOutIdeal := hRefEvenOutIdeal)
    ∧ preserves_Front_FrontIdeal
    ∧ algebraic_FrontIdeal_RefFrontIdeal_pre_finite (hFrontIdeal := hFrontIdeal) (hRefFrontIdeal := hRefFrontIdeal) (hPre_finite := hPre_finite)
    ∧ preserves_Mix_MixIdeal
    ∧ algebraic_MixIdeal_RefMixIdeal (hMixIdeal := hMixIdeal) (hRefMixIdeal := hRefMixIdeal)
    ∧ preserves_Finish_FinishIdeal
    ∧ algebraic_FinishIdeal_RefFinishIdeal (hFinishIdeal := hFinishIdeal) (hRefFinishIdeal := hRefFinishIdeal)
-- ==== Pre_finite.lean ====
abbrev S8192x2048 : Shape := ⟨2, ![8192, 2048]⟩
abbrev S1x2048 : Shape := ⟨2, ![1, 2048]⟩
abbrev S1x2048x9224 : Shape := ⟨3, ![1, 2048, 9224]⟩
abbrev S1x4 : Shape := ⟨2, ![1, 4]⟩
abbrev S_ : Shape := ⟨0, ![]⟩
abbrev S1x2048x8 : Shape := ⟨3, ![1, 2048, 8]⟩

class Facts : Prop where
  bcast_S_S1x2048 : S_.BroadcastsInDim S1x2048 (![] : Fin 0 → Fin S1x2048.rank)
  slices_S1x2048x9224_S1x2048x8_0_0_5120 : S1x2048x9224.Slices ![0, 0, 5120] S1x2048x8
  bcast_S_S1x2048x8 : S_.BroadcastsInDim S1x2048x8 (![] : Fin 0 → Fin S1x2048x8.rank)

variable [Facts]

def fn {F : FTy → Type} [FloatOps F] (main_arg0 : FVec F S8192x2048 .f32) (main_arg1 : FVec F S1x2048 .f32) (main_arg2 : FVec F S1x2048x9224 .f32) (main_arg3 : FVec F S1x4 .f32) (main_arg4 : FVec F S1x4 .f32) : IVec S1x2048 1 × IVec S1x2048x8 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048x8 .f32 := (extractStridedSlice S1x2048x8 ![0, 0, 5120] · slices_S1x2048x9224_S1x2048x8_0_0_5120) main_arg2
  let main_v4 : FVec F S1x2048x8 .f32 := Host.absf main_v3
  let main_cst_0 : FVec F S_ .f32 := constant S_ .f32 0x7F800000#32
  let main_v5 : FVec F S1x2048x8 .f32 := broadcastInDim S1x2048x8 ![] bcast_S_S1x2048x8 main_cst_0
  let main_v6 : IVec S1x2048x8 1 := cmpf .olt main_v4 main_v5
  (main_v2, main_v6)
-- ==== Qkvog.lean ====
abbrev S8192x2048 : Shape := ⟨2, ![8192, 2048]⟩
abbrev S64x2048 : Shape := ⟨2, ![64, 2048]⟩
abbrev S1x2048x9224 : Shape := ⟨3, ![1, 2048, 9224]⟩
abbrev S2048x9224 : Shape := ⟨2, ![2048, 9224]⟩
abbrev S9224x2048 : Shape := ⟨2, ![9224, 2048]⟩
abbrev S8192x5120 : Shape := ⟨2, ![8192, 5120]⟩
abbrev S64x5120 : Shape := ⟨2, ![64, 5120]⟩
abbrev S2048x2048 : Shape := ⟨2, ![2048, 2048]⟩
abbrev S1024x2048 : Shape := ⟨2, ![1024, 2048]⟩
abbrev S2048x1024 : Shape := ⟨2, ![2048, 1024]⟩
abbrev S64x1024 : Shape := ⟨2, ![64, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x9224, .f32⟩
  | .hbm, ⟨3, _⟩ => ⟨S2048x9224, .f32⟩
  | .hbm, ⟨4, _⟩ => ⟨S9224x2048, .f32⟩
  | .hbm, ⟨5, _⟩ => ⟨S8192x5120, .bf16⟩
  | .hbm, ⟨6, _⟩ => ⟨S64x5120, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S64x2048, .bf16⟩
  | .local _ .vmem, ⟨5, _⟩ => ⟨S2048x1024, .bf16⟩
  | .local _ .vmem, ⟨6, _⟩ => ⟨S2048x1024, .bf16⟩
  | .local _ .vmem, ⟨7, _⟩ => ⟨S64x1024, .bf16⟩
  | .local _ .vmem, ⟨8, _⟩ => ⟨S64x1024, .bf16⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![5, 5], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def k0_cond3 (i : grid0.Coords) : BitVec 1 :=
  let arg1 : BitVec 32 := BitVec.ofNat 32 (i 1).val
  let c0_i32_1 : BitVec 32 := 0#32
  let v2 : BitVec 1 := Scalar.cmpi .sgt arg1 c0_i32_1
  let v7 : BitVec 32 := Scalar.extui v2
  let c0_i32_4 : BitVec 32 := 0#32
  let v8 : BitVec 1 := Scalar.cmpi .ne v7 c0_i32_4
  v8

def k0_cond2 (i : grid0.Coords) : BitVec 1 :=
  let arg1 : BitVec 32 := BitVec.ofNat 32 (i 1).val
  let c0_i32_0 : BitVec 32 := 0#32
  let v1 : BitVec 1 := Scalar.cmpi .eq arg1 c0_i32_0
  let v5 : BitVec 32 := Scalar.extui v1
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RefQkvogIdeal.lean ====
abbrev S8192x2048 : Shape := ⟨2, ![8192, 2048]⟩
abbrev S64x2048 : Shape := ⟨2, ![64, 2048]⟩
abbrev S1x2048x9224 : Shape := ⟨3, ![1, 2048, 9224]⟩
abbrev S2048x9224 : Shape := ⟨2, ![2048, 9224]⟩
abbrev S8192x9224 : Shape := ⟨2, ![8192, 9224]⟩
abbrev S8192x1024 : Shape := ⟨2, ![8192, 1024]⟩
abbrev S8192x4 : Shape := ⟨2, ![8192, 4]⟩
abbrev S8192x5120 : Shape := ⟨2, ![8192, 5120]⟩
abbrev S64x9224 : Shape := ⟨2, ![64, 9224]⟩
abbrev S64x1024 : Shape := ⟨2, ![64, 1024]⟩
abbrev S64x4 : Shape := ⟨2, ![64, 4]⟩
abbrev S64x5120 : Shape := ⟨2, ![64, 5120]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x9224, .f32⟩
  | .hbm, ⟨3, _⟩ => ⟨S8192x2048, .f32⟩
  | .hbm, ⟨4, _⟩ => ⟨S2048x9224, .f32⟩
  | .hbm, ⟨5, _⟩ => ⟨S8192x9224, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x4, .f32⟩
  | .hbm, ⟨12, _⟩ => ⟨S8192x4, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x5120, .f32⟩
  | .hbm, ⟨18, _⟩ => ⟨S8192x5120, .bf16⟩
  | .hbm, ⟨19, _⟩ => ⟨S64x2048, .f32⟩
  | .hbm, ⟨20, _⟩ => ⟨S2048x9224, .f32⟩
  | .hbm, ⟨21, _⟩ => ⟨S64x9224, .f32⟩
  | .hbm, ⟨22, _⟩ => ⟨S64x1024, .f32⟩
  | .hbm, ⟨23, _⟩ => ⟨S64x1024, .f32⟩
  | .hbm, ⟨24, _⟩ => ⟨S64x1024, .f32⟩
  | .hbm, ⟨25, _⟩ => ⟨S64x1024, .f32⟩
  | .hbm, ⟨26, _⟩ => ⟨S64x1024, .f32⟩
  | .hbm, ⟨27, _⟩ => ⟨S64x4, .f32⟩
  | .hbm, ⟨28, _⟩ => ⟨S64x4, .f32⟩
  | .hbm, ⟨29, _⟩ => ⟨S64x1024, .f32⟩
  | .hbm, ⟨30, _⟩ => ⟨S64x1024, .f32⟩
  | .hbm, ⟨31, _⟩ => ⟨S64x1024, .f32⟩
  | .hbm, ⟨32, _⟩ => ⟨S64x1024, .f32⟩
  | .hbm, ⟨33, _⟩ => ⟨S64x5120, .f32⟩
  | .hbm, ⟨34, _⟩ => ⟨S64x5120, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== KProj.lean ====
abbrev S8192x2048 : Shape := ⟨2, ![8192, 2048]⟩
abbrev S64x2048 : Shape := ⟨2, ![64, 2048]⟩
abbrev S1x2048x9224 : Shape := ⟨3, ![1, 2048, 9224]⟩
abbrev S2048x9224 : Shape := ⟨2, ![2048, 9224]⟩
abbrev S9224x2048 : Shape := ⟨2, ![9224, 2048]⟩
abbrev S65536x128 : Shape := ⟨2, ![65536, 128]⟩
abbrev S8192x1024 : Shape := ⟨2, ![8192, 1024]⟩
abbrev S512x128 : Shape := ⟨2, ![512, 128]⟩
abbrev S64x1024 : Shape := ⟨2, ![64, 1024]⟩
abbrev S1024x2048 : Shape := ⟨2, ![1024, 2048]⟩
abbrev S8192x128 : Shape := ⟨2, ![8192, 128]⟩
abbrev S1024x1024 : Shape := ⟨2, ![1024, 1024]⟩
abbrev S64x128 : Shape := ⟨2, ![64, 128]⟩
abbrev S1024x128 : Shape := ⟨2, ![1024, 128]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x9224, .f32⟩
  | .hbm, ⟨3, _⟩ => ⟨S2048x9224, .f32⟩
  | .hbm, ⟨4, _⟩ => ⟨S9224x2048, .f32⟩
  | .hbm, ⟨5, _⟩ => ⟨S65536x128, .f32⟩
  | .hbm, ⟨6, _⟩ => ⟨S8192x1024, .bf16⟩
  | .hbm, ⟨7, _⟩ => ⟨S512x128, .f32⟩
  | .hbm, ⟨8, _⟩ => ⟨S64x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S64x2048, .bf16⟩
  | .local _ .vmem, ⟨4, _⟩ => ⟨S8192x128, .f32⟩
  | .local _ .vmem, ⟨5, _⟩ => ⟨S8192x128, .f32⟩
  | .local _ .vmem, ⟨6, _⟩ => ⟨S1024x1024, .bf16⟩
  | .local _ .vmem, ⟨7, _⟩ => ⟨S1024x1024, .bf16⟩
  | .local _ .vmem, ⟨8, _⟩ => ⟨S512x128, .f32⟩
  | .local _ .vmem, ⟨9, _⟩ => ⟨S64x1024, .bf16⟩
  | .local _ .vmem, ⟨10, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![9], ![false]⟩

def k0_cond3 (i : grid0.Coords) : BitVec 1 :=
  let arg0 : BitVec 32 := BitVec.ofNat 32 (i 0).val
  let c0_i32_1 : BitVec 32 := 0#32
  let v2 : BitVec 1 := Scalar.cmpi .sgt arg0 c0_i32_1
  let v7 : BitVec 32 := Scalar.extui v2
  let c0_i32_4 : BitVec 32 := 0#32
  let v8 : BitVec 1 := Scalar.cmpi .ne v7 c0_i32_4
  v8

def k0_cond2 (i : grid0.Coords) : BitVec 1 :=
  let arg0 : BitVec 32 := BitVec.ofNat 32 (i 0).val
  let c0_i32_0 : BitVec 32 := 0#32
  let v1 : BitVec 1 := Scalar.cmpi .eq arg0 c0_i32_0
  let v5 : BitVec 32 := Scalar.extui v1
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c6152_i32 : BitVec 32 := 6152#32
  let c0_i32 : BitVec 32 := 0#32
  let c0_i32_0 : BitVec 32 := 0#32
  ![c6152_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefKProjIdeal.lean ====
abbrev S8192x2048 : Shape := ⟨2, ![8192, 2048]⟩
abbrev S64x2048 : Shape := ⟨2, ![64, 2048]⟩
abbrev S1x2048x9224 : Shape := ⟨3, ![1, 2048, 9224]⟩
abbrev S2048x9224 : Shape := ⟨2, ![2048, 9224]⟩
abbrev S8192x9224 : Shape := ⟨2, ![8192, 9224]⟩
abbrev S8192x1024 : Shape := ⟨2, ![8192, 1024]⟩
abbrev S8192x4 : Shape := ⟨2, ![8192, 4]⟩
abbrev S65536x128 : Shape := ⟨2, ![65536, 128]⟩
abbrev S64x9224 : Shape := ⟨2, ![64, 9224]⟩
abbrev S64x1024 : Shape := ⟨2, ![64, 1024]⟩
abbrev S64x4 : Shape := ⟨2, ![64, 4]⟩
abbrev S512x128 : Shape := ⟨2, ![512, 128]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x9224, .f32⟩
  | .hbm, ⟨3, _⟩ => ⟨S8192x2048, .f32⟩
  | .hbm, ⟨4, _⟩ => ⟨S2048x9224, .f32⟩
  | .hbm, ⟨5, _⟩ => ⟨S8192x9224, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x4, .f32⟩
  | .hbm, ⟨12, _⟩ => ⟨S8192x4, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S65536x128, .f32⟩
  | .hbm, ⟨18, _⟩ => ⟨S8192x1024, .bf16⟩
  | .hbm, ⟨19, _⟩ => ⟨S64x2048, .f32⟩
  | .hbm, ⟨20, _⟩ => ⟨S2048x9224, .f32⟩
  | .hbm, ⟨21, _⟩ => ⟨S64x9224, .f32⟩
  | .hbm, ⟨22, _⟩ => ⟨S64x1024, .f32⟩
  | .hbm, ⟨23, _⟩ => ⟨S64x1024, .f32⟩
  | .hbm, ⟨24, _⟩ => ⟨S64x1024, .f32⟩
  | .hbm, ⟨25, _⟩ => ⟨S64x1024, .f32⟩
  | .hbm, ⟨26, _⟩ => ⟨S64x1024, .f32⟩
  | .hbm, ⟨27, _⟩ => ⟨S64x4, .f32⟩
  | .hbm, ⟨28, _⟩ => ⟨S64x4, .f32⟩
  | .hbm, ⟨29, _⟩ => ⟨S64x1024, .f32⟩
  | .hbm, ⟨30, _⟩ => ⟨S64x1024, .f32⟩
  | .hbm, ⟨31, _⟩ => ⟨S64x1024, .f32⟩
  | .hbm, ⟨32, _⟩ => ⟨S64x1024, .f32⟩
  | .hbm, ⟨33, _⟩ => ⟨S512x128, .f32⟩
  | .hbm, ⟨34, _⟩ => ⟨S64x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== VProj.lean ====
abbrev S8192x2048 : Shape := ⟨2, ![8192, 2048]⟩
abbrev S64x2048 : Shape := ⟨2, ![64, 2048]⟩
abbrev S1x2048x9224 : Shape := ⟨3, ![1, 2048, 9224]⟩
abbrev S2048x9224 : Shape := ⟨2, ![2048, 9224]⟩
abbrev S9224x2048 : Shape := ⟨2, ![9224, 2048]⟩
abbrev S65536x128 : Shape := ⟨2, ![65536, 128]⟩
abbrev S8192x1024 : Shape := ⟨2, ![8192, 1024]⟩
abbrev S512x128 : Shape := ⟨2, ![512, 128]⟩
abbrev S64x1024 : Shape := ⟨2, ![64, 1024]⟩
abbrev S1024x2048 : Shape := ⟨2, ![1024, 2048]⟩
abbrev S8192x128 : Shape := ⟨2, ![8192, 128]⟩
abbrev S1024x1024 : Shape := ⟨2, ![1024, 1024]⟩
abbrev S64x128 : Shape := ⟨2, ![64, 128]⟩
abbrev S1024x128 : Shape := ⟨2, ![1024, 128]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x9224, .f32⟩
  | .hbm, ⟨3, _⟩ => ⟨S2048x9224, .f32⟩
  | .hbm, ⟨4, _⟩ => ⟨S9224x2048, .f32⟩
  | .hbm, ⟨5, _⟩ => ⟨S65536x128, .f32⟩
  | .hbm, ⟨6, _⟩ => ⟨S8192x1024, .bf16⟩
  | .hbm, ⟨7, _⟩ => ⟨S512x128, .f32⟩
  | .hbm, ⟨8, _⟩ => ⟨S64x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S64x2048, .bf16⟩
  | .local _ .vmem, ⟨4, _⟩ => ⟨S8192x128, .f32⟩
  | .local _ .vmem, ⟨5, _⟩ => ⟨S8192x128, .f32⟩
  | .local _ .vmem, ⟨6, _⟩ => ⟨S1024x1024, .bf16⟩
  | .local _ .vmem, ⟨7, _⟩ => ⟨S1024x1024, .bf16⟩
  | .local _ .vmem, ⟨8, _⟩ => ⟨S512x128, .f32⟩
  | .local _ .vmem, ⟨9, _⟩ => ⟨S64x1024, .bf16⟩
  | .local _ .vmem, ⟨10, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![9], ![false]⟩

def k0_cond3 (i : grid0.Coords) : BitVec 1 :=
  let arg0 : BitVec 32 := BitVec.ofNat 32 (i 0).val
  let c0_i32_1 : BitVec 32 := 0#32
  let v2 : BitVec 1 := Scalar.cmpi .sgt arg0 c0_i32_1
  let v7 : BitVec 32 := Scalar.extui v2
  let c0_i32_4 : BitVec 32 := 0#32
  let v8 : BitVec 1 := Scalar.cmpi .ne v7 c0_i32_4
  v8

def k0_cond2 (i : grid0.Coords) : BitVec 1 :=
  let arg0 : BitVec 32 := BitVec.ofNat 32 (i 0).val
  let c0_i32_0 : BitVec 32 := 0#32
  let v1 : BitVec 1 := Scalar.cmpi .eq arg0 c0_i32_0
  let v5 : BitVec 32 := Scalar.extui v1
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c7176_i32 : BitVec 32 := 7176#32
  let c0_i32 : BitVec 32 := 0#32
  let c0_i32_0 : BitVec 32 := 0#32
  ![c7176_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefVProjIdeal.lean ====
abbrev S8192x2048 : Shape := ⟨2, ![8192, 2048]⟩
abbrev S64x2048 : Shape := ⟨2, ![64, 2048]⟩
abbrev S1x2048x9224 : Shape := ⟨3, ![1, 2048, 9224]⟩
abbrev S2048x9224 : Shape := ⟨2, ![2048, 9224]⟩
abbrev S8192x9224 : Shape := ⟨2, ![8192, 9224]⟩
abbrev S8192x1024 : Shape := ⟨2, ![8192, 1024]⟩
abbrev S8192x4 : Shape := ⟨2, ![8192, 4]⟩
abbrev S65536x128 : Shape := ⟨2, ![65536, 128]⟩
abbrev S64x9224 : Shape := ⟨2, ![64, 9224]⟩
abbrev S64x1024 : Shape := ⟨2, ![64, 1024]⟩
abbrev S64x4 : Shape := ⟨2, ![64, 4]⟩
abbrev S512x128 : Shape := ⟨2, ![512, 128]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x9224, .f32⟩
  | .hbm, ⟨3, _⟩ => ⟨S8192x2048, .f32⟩
  | .hbm, ⟨4, _⟩ => ⟨S2048x9224, .f32⟩
  | .hbm, ⟨5, _⟩ => ⟨S8192x9224, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x4, .f32⟩
  | .hbm, ⟨12, _⟩ => ⟨S8192x4, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S65536x128, .f32⟩
  | .hbm, ⟨18, _⟩ => ⟨S8192x1024, .bf16⟩
  | .hbm, ⟨19, _⟩ => ⟨S64x2048, .f32⟩
  | .hbm, ⟨20, _⟩ => ⟨S2048x9224, .f32⟩
  | .hbm, ⟨21, _⟩ => ⟨S64x9224, .f32⟩
  | .hbm, ⟨22, _⟩ => ⟨S64x1024, .f32⟩
  | .hbm, ⟨23, _⟩ => ⟨S64x1024, .f32⟩
  | .hbm, ⟨24, _⟩ => ⟨S64x1024, .f32⟩
  | .hbm, ⟨25, _⟩ => ⟨S64x1024, .f32⟩
  | .hbm, ⟨26, _⟩ => ⟨S64x1024, .f32⟩
  | .hbm, ⟨27, _⟩ => ⟨S64x4, .f32⟩
  | .hbm, ⟨28, _⟩ => ⟨S64x4, .f32⟩
  | .hbm, ⟨29, _⟩ => ⟨S64x1024, .f32⟩
  | .hbm, ⟨30, _⟩ => ⟨S64x1024, .f32⟩
  | .hbm, ⟨31, _⟩ => ⟨S64x1024, .f32⟩
  | .hbm, ⟨32, _⟩ => ⟨S64x1024, .f32⟩
  | .hbm, ⟨33, _⟩ => ⟨S512x128, .f32⟩
  | .hbm, ⟨34, _⟩ => ⟨S64x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== Qg.lean ====
abbrev S8192x2048 : Shape := ⟨2, ![8192, 2048]⟩
abbrev S64x2048 : Shape := ⟨2, ![64, 2048]⟩
abbrev S1x2048x9224 : Shape := ⟨3, ![1, 2048, 9224]⟩
abbrev S2048x9224 : Shape := ⟨2, ![2048, 9224]⟩
abbrev S9224x2048 : Shape := ⟨2, ![9224, 2048]⟩
abbrev S2048x2048 : Shape := ⟨2, ![2048, 2048]⟩
abbrev S1024x2048 : Shape := ⟨2, ![1024, 2048]⟩
abbrev S2048x1024 : Shape := ⟨2, ![2048, 1024]⟩
abbrev S64x1024 : Shape := ⟨2, ![64, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x9224, .f32⟩
  | .hbm, ⟨3, _⟩ => ⟨S2048x9224, .f32⟩
  | .hbm, ⟨4, _⟩ => ⟨S9224x2048, .f32⟩
  | .hbm, ⟨5, _⟩ => ⟨S8192x2048, .bf16⟩
  | .hbm, ⟨6, _⟩ => ⟨S64x2048, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S64x2048, .bf16⟩
  | .local _ .vmem, ⟨5, _⟩ => ⟨S2048x1024, .bf16⟩
  | .local _ .vmem, ⟨6, _⟩ => ⟨S2048x1024, .bf16⟩
  | .local _ .vmem, ⟨7, _⟩ => ⟨S64x1024, .f32⟩
  | .local _ .vmem, ⟨8, _⟩ => ⟨S64x1024, .f32⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 5], ![false, false]⟩

def k0_mult1 (i : grid0.Coords) : BitVec 32 :=
  let c5128_i32 : BitVec 32 := 5128#32
  let arg0 : BitVec 32 := BitVec.ofNat 32 (i 0).val
  let c3072_i32 : BitVec 32 := 3072#32
  let v0 : BitVec 32 := Scalar.muli arg0 c3072_i32
  let v1 : BitVec 32 := Scalar.addi c5128_i32 v0
  v1
def k0_cond3 (i : grid0.Coords) : BitVec 1 :=
  let arg1 : BitVec 32 := BitVec.ofNat 32 (i 1).val
  let c0_i32_1 : BitVec 32 := 0#32
  let v2 : BitVec 1 := Scalar.cmpi .sgt arg1 c0_i32_1
  let v7 : BitVec 32 := Scalar.extui v2
  let c0_i32_4 : BitVec 32 := 0#32
  let v8 : BitVec 1 := Scalar.cmpi .ne v7 c0_i32_4
  v8

def k0_cond2 (i : grid0.Coords) : BitVec 1 :=
  let arg1 : BitVec 32 := BitVec.ofNat 32 (i 1).val
  let c0_i32_0 : BitVec 32 := 0#32
  let v1 : BitVec 1 := Scalar.cmpi .eq arg1 c0_i32_0
  let v5 : BitVec 32 := Scalar.extui v1
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c3072_i32 : BitVec 32 := 3072#32
  let v0 : BitVec 32 := Scalar.muli arg0 c3072_i32
  let c5128_i32 : BitVec 32 := 5128#32
  let v1 : BitVec 32 := Scalar.addi c5128_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RefQgIdeal.lean ====
abbrev S8192x2048 : Shape := ⟨2, ![8192, 2048]⟩
abbrev S64x2048 : Shape := ⟨2, ![64, 2048]⟩
abbrev S1x2048x9224 : Shape := ⟨3, ![1, 2048, 9224]⟩
abbrev S2048x9224 : Shape := ⟨2, ![2048, 9224]⟩
abbrev S8192x9224 : Shape := ⟨2, ![8192, 9224]⟩
abbrev S8192x1024 : Shape := ⟨2, ![8192, 1024]⟩
abbrev S8192x4 : Shape := ⟨2, ![8192, 4]⟩
abbrev S64x9224 : Shape := ⟨2, ![64, 9224]⟩
abbrev S64x1024 : Shape := ⟨2, ![64, 1024]⟩
abbrev S64x4 : Shape := ⟨2, ![64, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x9224, .f32⟩
  | .hbm, ⟨3, _⟩ => ⟨S8192x2048, .f32⟩
  | .hbm, ⟨4, _⟩ => ⟨S2048x9224, .f32⟩
  | .hbm, ⟨5, _⟩ => ⟨S8192x9224, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x4, .f32⟩
  | .hbm, ⟨12, _⟩ => ⟨S8192x4, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S64x2048, .f32⟩
  | .hbm, ⟨18, _⟩ => ⟨S2048x9224, .f32⟩
  | .hbm, ⟨19, _⟩ => ⟨S64x9224, .f32⟩
  | .hbm, ⟨20, _⟩ => ⟨S64x1024, .f32⟩
  | .hbm, ⟨21, _⟩ => ⟨S64x1024, .f32⟩
  | .hbm, ⟨22, _⟩ => ⟨S64x1024, .f32⟩
  | .hbm, ⟨23, _⟩ => ⟨S64x1024, .f32⟩
  | .hbm, ⟨24, _⟩ => ⟨S64x1024, .f32⟩
  | .hbm, ⟨25, _⟩ => ⟨S64x4, .f32⟩
  | .hbm, ⟨26, _⟩ => ⟨S64x4, .f32⟩
  | .hbm, ⟨27, _⟩ => ⟨S64x1024, .f32⟩
  | .hbm, ⟨28, _⟩ => ⟨S64x1024, .f32⟩
  | .hbm, ⟨29, _⟩ => ⟨S64x1024, .f32⟩
  | .hbm, ⟨30, _⟩ => ⟨S64x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x2048, .f32⟩
  | .hbm, ⟨35, _⟩ => ⟨S8192x2048, .bf16⟩
  | .hbm, ⟨36, _⟩ => ⟨S64x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== OddU.lean ====
abbrev S8192x2048 : Shape := ⟨2, ![8192, 2048]⟩
abbrev S64x2048 : Shape := ⟨2, ![64, 2048]⟩
abbrev S1x2048x6144 : Shape := ⟨3, ![1, 2048, 6144]⟩
abbrev S1x2048 : Shape := ⟨2, ![1, 2048]⟩
abbrev S2048x6144 : Shape := ⟨2, ![2048, 6144]⟩
abbrev S2048 : Shape := ⟨1, ![2048]⟩
abbrev S2048x2048 : Shape := ⟨2, ![2048, 2048]⟩
abbrev S2048x1024 : Shape := ⟨2, ![2048, 1024]⟩
abbrev S1x1024 : Shape := ⟨2, ![1, 1024]⟩
abbrev S64x1024 : Shape := ⟨2, ![64, 1024]⟩
abbrev S256x2048 : Shape := ⟨2, ![256, 2048]⟩
abbrev S256x1024 : Shape := ⟨2, ![256, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x6144, .f32⟩
  | .hbm, ⟨3, _⟩ => ⟨S1x2048, .f32⟩
  | .hbm, ⟨4, _⟩ => ⟨S2048x6144, .f32⟩
  | .hbm, ⟨5, _⟩ => ⟨S2048, .f32⟩
  | .hbm, ⟨6, _⟩ => ⟨S1x2048, .f32⟩
  | .hbm, ⟨7, _⟩ => ⟨S8192x2048, .bf16⟩
  | .hbm, ⟨8, _⟩ => ⟨S64x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S64x2048, .bf16⟩
  | .local _ .vmem, ⟨7, _⟩ => ⟨S2048x1024, .bf16⟩
  | .local _ .vmem, ⟨8, _⟩ => ⟨S2048x1024, .bf16⟩
  | .local _ .vmem, ⟨9, _⟩ => ⟨S64x1024, .f32⟩
  | .local _ .vmem, ⟨10, _⟩ => ⟨S64x1024, .f32⟩
  | .local _ .vmem, ⟨11, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 5], ![false, false]⟩

def k0_cond3 (i : grid0.Coords) : BitVec 1 :=
  let arg1 : BitVec 32 := BitVec.ofNat 32 (i 1).val
  let c0_i32_1 : BitVec 32 := 0#32
  let v2 : BitVec 1 := Scalar.cmpi .sgt arg1 c0_i32_1
  let v7 : BitVec 32 := Scalar.extui v2
  let c0_i32_4 : BitVec 32 := 0#32
  let v8 : BitVec 1 := Scalar.cmpi .ne v7 c0_i32_4
  v8

def k0_cond2 (i : grid0.Coords) : BitVec 1 :=
  let arg1 : BitVec 32 := BitVec.ofNat 32 (i 1).val
  let c0_i32_0 : BitVec 32 := 0#32
  let v1 : BitVec 1 := Scalar.cmpi .eq arg1 c0_i32_0
  let v5 : BitVec 32 := Scalar.extui v1
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefOddUIdeal.lean ====
abbrev S8192x2048 : Shape := ⟨2, ![8192, 2048]⟩
abbrev S64x2048 : Shape := ⟨2, ![64, 2048]⟩
abbrev S1x2048x6144 : Shape := ⟨3, ![1, 2048, 6144]⟩
abbrev S1x2048 : Shape := ⟨2, ![1, 2048]⟩
abbrev S2048x6144 : Shape := ⟨2, ![2048, 6144]⟩
abbrev S8192x6144 : Shape := ⟨2, ![8192, 6144]⟩
abbrev S_ : Shape := ⟨0, ![]⟩
abbrev S64x6144 : Shape := ⟨2, ![64, 6144]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x6144, .f32⟩
  | .hbm, ⟨3, _⟩ => ⟨S1x2048, .f32⟩
  | .hbm, ⟨4, _⟩ => ⟨S8192x2048, .f32⟩
  | .hbm, ⟨5, _⟩ => ⟨S2048x6144, .f32⟩
  | .hbm, ⟨6, _⟩ => ⟨S8192x6144, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | .hbm, ⟨28, _⟩ => ⟨S64x2048, .f32⟩
  | .hbm, ⟨29, _⟩ => ⟨S2048x6144, .f32⟩
  | .hbm, ⟨30, _⟩ => ⟨S64x6144, .f32⟩
  | .hbm, ⟨31, _⟩ => ⟨S64x2048, .f32⟩
  | .hbm, ⟨32, _⟩ => ⟨S64x2048, .f32⟩
  | .hbm, ⟨33, _⟩ => ⟨S64x2048, .f32⟩
  | .hbm, ⟨34, _⟩ => ⟨S64x2048, .f32⟩
  | .hbm, ⟨35, _⟩ => ⟨S64x2048, .f32⟩
  | .hbm, ⟨36, _⟩ => ⟨S_, .f32⟩
  | .hbm, ⟨37, _⟩ => ⟨S64x2048, .f32⟩
  | .hbm, ⟨38, _⟩ => ⟨S64x2048, .f32⟩
  | .hbm, ⟨39, _⟩ => ⟨S64x2048, .f32⟩
  | .hbm, ⟨40, _⟩ => ⟨S_, .f32⟩
  | .hbm, ⟨41, _⟩ => ⟨S64x2048, .f32⟩
  | .hbm, ⟨42, _⟩ => ⟨S64x2048, .f32⟩
  | .hbm, ⟨43, _⟩ => ⟨S64x2048, .f32⟩
  | .hbm, ⟨44, _⟩ => ⟨S_, .f32⟩
  | .hbm, ⟨45, _⟩ => ⟨S64x2048, .f32⟩
  | .hbm, ⟨46, _⟩ => ⟨S64x2048, .f32⟩
  | .hbm, ⟨47, _⟩ => ⟨S_, .f32⟩
  | .hbm, ⟨48, _⟩ => ⟨S64x2048, .f32⟩
  | .hbm, ⟨49, _⟩ => ⟨S64x2048, .f32⟩
  | .hbm, ⟨50, _⟩ => ⟨S64x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== OddV.lean ====
abbrev S8192x2048 : Shape := ⟨2, ![8192, 2048]⟩
abbrev S64x2048 : Shape := ⟨2, ![64, 2048]⟩
abbrev S1x2048x6144 : Shape := ⟨3, ![1, 2048, 6144]⟩
abbrev S1x2048 : Shape := ⟨2, ![1, 2048]⟩
abbrev S2048x6144 : Shape := ⟨2, ![2048, 6144]⟩
abbrev S2048 : Shape := ⟨1, ![2048]⟩
abbrev S512x2048 : Shape := ⟨2, ![512, 2048]⟩
abbrev S2048x2048 : Shape := ⟨2, ![2048, 2048]⟩
abbrev S64 : Shape := ⟨1, ![64]⟩
abbrev S64x1 : Shape := ⟨2, ![64, 1]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x6144, .f32⟩
  | .hbm, ⟨3, _⟩ => ⟨S1x2048, .f32⟩
  | .hbm, ⟨4, _⟩ => ⟨S2048x6144, .f32⟩
  | .hbm, ⟨5, _⟩ => ⟨S2048, .f32⟩
  | .hbm, ⟨6, _⟩ => ⟨S1x2048, .f32⟩
  | .hbm, ⟨7, _⟩ => ⟨S8192x2048, .bf16⟩
  | .hbm, ⟨8, _⟩ => ⟨S64x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S1x2048, .f32⟩
  | .local _ .vmem, ⟨4, _⟩ => ⟨S64x2048, .bf16⟩
  | .local _ .vmem, ⟨5, _⟩ => ⟨S512x2048, .bf16⟩
  | .local _ .vmem, ⟨6, _⟩ => ⟨S512x2048, .bf16⟩
  | .local _ .vmem, ⟨7, _⟩ => ⟨S64x2048, .f32⟩
  | .local _ .vmem, ⟨8, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 17], ![false, false]⟩

def k0_cond3 (i : grid0.Coords) : BitVec 1 :=
  let arg1 : BitVec 32 := BitVec.ofNat 32 (i 1).val
  let c0_i32_1 : BitVec 32 := 0#32
  let v2 : BitVec 1 := Scalar.cmpi .sgt arg1 c0_i32_1
  let v7 : BitVec 32 := Scalar.extui v2
  let c0_i32_4 : BitVec 32 := 0#32
  let v8 : BitVec 1 := Scalar.cmpi .ne v7 c0_i32_4
  v8

def k0_cond2 (i : grid0.Coords) : BitVec 1 :=
  let arg1 : BitVec 32 := BitVec.ofNat 32 (i 1).val
  let c0_i32_0 : BitVec 32 := 0#32
  let v1 : BitVec 1 := Scalar.cmpi .eq arg1 c0_i32_0
  let v5 : BitVec 32 := Scalar.extui v1
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S64x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== RefOddVIdeal.lean ====
abbrev S8192x2048 : Shape := ⟨2, ![8192, 2048]⟩
abbrev S64x2048 : Shape := ⟨2, ![64, 2048]⟩
abbrev S1x2048x6144 : Shape := ⟨3, ![1, 2048, 6144]⟩
abbrev S1x2048 : Shape := ⟨2, ![1, 2048]⟩
abbrev S2048x6144 : Shape := ⟨2, ![2048, 6144]⟩
abbrev S8192x6144 : Shape := ⟨2, ![8192, 6144]⟩
abbrev S_ : Shape := ⟨0, ![]⟩
abbrev S2048 : Shape := ⟨1, ![2048]⟩
abbrev S8192 : Shape := ⟨1, ![8192]⟩
abbrev S8192x1 : Shape := ⟨2, ![8192, 1]⟩
abbrev S64x6144 : Shape := ⟨2, ![64, 6144]⟩
abbrev S64 : Shape := ⟨1, ![64]⟩
abbrev S64x1 : Shape := ⟨2, ![64, 1]⟩

abbrev nBuf : Space → Nat
  | .hbm => 85
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x6144, .f32⟩
  | .hbm, ⟨3, _⟩ => ⟨S1x2048, .f32⟩
  | .hbm, ⟨4, _⟩ => ⟨S8192x2048, .f32⟩
  | .hbm, ⟨5, _⟩ => ⟨S2048x6144, .f32⟩
  | .hbm, ⟨6, _⟩ => ⟨S8192x6144, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | .hbm, ⟨45, _⟩ => ⟨S64x2048, .f32⟩
  | .hbm, ⟨46, _⟩ => ⟨S2048x6144, .f32⟩
  | .hbm, ⟨47, _⟩ => ⟨S64x6144, .f32⟩
  | .hbm, ⟨48, _⟩ => ⟨S64x2048, .f32⟩
  | .hbm, ⟨49, _⟩ => ⟨S64x2048, .f32⟩
  | .hbm, ⟨50, _⟩ => ⟨S64x2048, .f32⟩
  | .hbm, ⟨51, _⟩ => ⟨S64x2048, .f32⟩
  | .hbm, ⟨52, _⟩ => ⟨S64x2048, .f32⟩
  | .hbm, ⟨53, _⟩ => ⟨S_, .f32⟩
  | .hbm, ⟨54, _⟩ => ⟨S64x2048, .f32⟩
  | .hbm, ⟨55, _⟩ => ⟨S64x2048, .f32⟩
  | .hbm, ⟨56, _⟩ => ⟨S64x2048, .f32⟩
  | .hbm, ⟨57, _⟩ => ⟨S_, .f32⟩
  | .hbm, ⟨58, _⟩ => ⟨S64x2048, .f32⟩
  | .hbm, ⟨59, _⟩ => ⟨S64x2048, .f32⟩
  | .hbm, ⟨60, _⟩ => ⟨S64x2048, .f32⟩
  | .hbm, ⟨61, _⟩ => ⟨S_, .f32⟩
  | .hbm, ⟨62, _⟩ => ⟨S64x2048, .f32⟩
  | .hbm, ⟨63, _⟩ => ⟨S64x2048, .f32⟩
  | .hbm, ⟨64, _⟩ => ⟨S_, .f32⟩
  | .hbm, ⟨65, _⟩ => ⟨S64x2048, .f32⟩
  | .hbm, ⟨66, _⟩ => ⟨S64x2048, .f32⟩
  | .hbm, ⟨67, _⟩ => ⟨S64x2048, .f32⟩
  | .hbm, ⟨68, _⟩ => ⟨S2048, .f32⟩
  | .hbm, ⟨69, _⟩ => ⟨S64x2048, .f32⟩
  | .hbm, ⟨70, _⟩ => ⟨S_, .f32⟩
  | .hbm, ⟨71, _⟩ => ⟨S64, .f32⟩
  | .hbm, ⟨72, _⟩ => ⟨S64x1, .f32⟩
  | .hbm, ⟨73, _⟩ => ⟨S_, .f32⟩
  | .hbm, ⟨74, _⟩ => ⟨S64x1, .f32⟩
  | .hbm, ⟨75, _⟩ => ⟨S64x1, .f32⟩
  | .hbm, ⟨76, _⟩ => ⟨S_, .f32⟩
  | .hbm, ⟨77, _⟩ => ⟨S64x1, .f32⟩
  | .hbm, ⟨78, _⟩ => ⟨S64x1, .f32⟩
  | .hbm, ⟨79, _⟩ => ⟨S64x1, .f32⟩
  | .hbm, ⟨80, _⟩ => ⟨S64x2048, .f32⟩
  | .hbm, ⟨81, _⟩ => ⟨S64x2048, .f32⟩
  | .hbm, ⟨82, _⟩ => ⟨S1x2048, .f32⟩
  | .hbm, ⟨83, _⟩ => ⟨S64x2048, .f32⟩
  | .hbm, ⟨84, _⟩ => ⟨S64x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== OddG.lean ====
abbrev S8192x2048 : Shape := ⟨2, ![8192, 2048]⟩
abbrev S64x2048 : Shape := ⟨2, ![64, 2048]⟩
abbrev S1x2048x6144 : Shape := ⟨3, ![1, 2048, 6144]⟩
abbrev S1x2048 : Shape := ⟨2, ![1, 2048]⟩
abbrev S2048x6144 : Shape := ⟨2, ![2048, 6144]⟩
abbrev S2048 : Shape := ⟨1, ![2048]⟩
abbrev S2048x2048 : Shape := ⟨2, ![2048, 2048]⟩
abbrev S2048x1024 : Shape := ⟨2, ![2048, 1024]⟩
abbrev S1x1024 : Shape := ⟨2, ![1, 1024]⟩
abbrev S64x1024 : Shape := ⟨2, ![64, 1024]⟩
abbrev S256x2048 : Shape := ⟨2, ![256, 2048]⟩
abbrev S256x1024 : Shape := ⟨2, ![256, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x6144, .f32⟩
  | .hbm, ⟨3, _⟩ => ⟨S1x2048, .f32⟩
  | .hbm, ⟨4, _⟩ => ⟨S2048x6144, .f32⟩
  | .hbm, ⟨5, _⟩ => ⟨S2048, .f32⟩
  | .hbm, ⟨6, _⟩ => ⟨S1x2048, .f32⟩
  | .hbm, ⟨7, _⟩ => ⟨S8192x2048, .bf16⟩
  | .hbm, ⟨8, _⟩ => ⟨S64x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S64x2048, .bf16⟩
  | .local _ .vmem, ⟨7, _⟩ => ⟨S2048x1024, .bf16⟩
  | .local _ .vmem, ⟨8, _⟩ => ⟨S2048x1024, .bf16⟩
  | .local _ .vmem, ⟨9, _⟩ => ⟨S64x1024, .f32⟩
  | .local _ .vmem, ⟨10, _⟩ => ⟨S64x1024, .f32⟩
  | .local _ .vmem, ⟨11, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 5], ![false, false]⟩

def k0_cond3 (i : grid0.Coords) : BitVec 1 :=
  let arg1 : BitVec 32 := BitVec.ofNat 32 (i 1).val
  let c0_i32_1 : BitVec 32 := 0#32
  let v2 : BitVec 1 := Scalar.cmpi .sgt arg1 c0_i32_1
  let v7 : BitVec 32 := Scalar.extui v2
  let c0_i32_4 : BitVec 32 := 0#32
  let v8 : BitVec 1 := Scalar.cmpi .ne v7 c0_i32_4
  v8

def k0_cond2 (i : grid0.Coords) : BitVec 1 :=
  let arg1 : BitVec 32 := BitVec.ofNat 32 (i 1).val
  let c0_i32_0 : BitVec 32 := 0#32
  let v1 : BitVec 1 := Scalar.cmpi .eq arg1 c0_i32_0
  let v5 : BitVec 32 := Scalar.extui v1
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefOddGIdeal.lean ====
abbrev S8192x2048 : Shape := ⟨2, ![8192, 2048]⟩
abbrev S64x2048 : Shape := ⟨2, ![64, 2048]⟩
abbrev S1x2048x6144 : Shape := ⟨3, ![1, 2048, 6144]⟩
abbrev S1x2048 : Shape := ⟨2, ![1, 2048]⟩
abbrev S2048x6144 : Shape := ⟨2, ![2048, 6144]⟩
abbrev S8192x6144 : Shape := ⟨2, ![8192, 6144]⟩
abbrev S_ : Shape := ⟨0, ![]⟩
abbrev S64x6144 : Shape := ⟨2, ![64, 6144]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S64x2048, .bf16⟩
  | .hbm, ⟨2, _⟩ => ⟨S1x2048x6144, .f32⟩
  | .hbm, ⟨3, _⟩ => ⟨S1x2048, .f32⟩
  | .hbm, ⟨4, _⟩ => ⟨S8192x2048, .f32⟩
  | .hbm, ⟨5, _⟩ => ⟨S2048x6144, .f32⟩
  | .hbm, ⟨6, _⟩ => ⟨S8192x6144, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S64x2048, .f32⟩
  | .hbm, ⟨21, _⟩ => ⟨S2048x6144, .f32⟩
  | .hbm, ⟨22, _⟩ => ⟨S64x6144, .f32⟩
  | .hbm, ⟨23, _⟩ => ⟨S64x2048, .f32⟩
  | .hbm, ⟨24, _⟩ => ⟨S64x2048, .f32⟩
  | .hbm, ⟨25, _⟩ => ⟨S64x2048, .f32⟩
  | .hbm, ⟨26, _⟩ => ⟨S64x2048, .f32⟩
  | .hbm, ⟨27, _⟩ => ⟨S64x2048, .f32⟩
  | .hbm, ⟨28, _⟩ => ⟨S_, .f32⟩
  | .hbm, ⟨29, _⟩ => ⟨S64x2048, .f32⟩
  | .hbm, ⟨30, _⟩ => ⟨S64x2048, .f32⟩
  | .hbm, ⟨31, _⟩ => ⟨S_, .f32⟩
  | .hbm, ⟨32, _⟩ => ⟨S64x2048, .f32⟩
  | .hbm, ⟨33, _⟩ => ⟨S64x2048, .f32⟩
  | .hbm, ⟨34, _⟩ => ⟨S64x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== OddY.lean ====
abbrev S8192x2048 : Shape := ⟨2, ![8192, 2048]⟩
abbrev S64x2048 : Shape := ⟨2, ![64, 2048]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S2048 : Shape := ⟨1, ![2048]⟩
abbrev S2048x2048 : Shape := ⟨2, ![2048, 2048]⟩
abbrev S8x128x128 : Shape := ⟨3, ![8, 128, 128]⟩
abbrev S8x128 : Shape := ⟨2, ![8, 128]⟩
abbrev S128x8 : Shape := ⟨2, ![128, 8]⟩
abbrev S1x2048 : Shape := ⟨2, ![1, 2048]⟩
abbrev S512x2048 : Shape := ⟨2, ![512, 2048]⟩
abbrev S64 : Shape := ⟨1, ![64]⟩
abbrev S64x1 : Shape := ⟨2, ![64, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S256x2048 : Shape := ⟨2, ![256, 2048]⟩
abbrev S256 : Shape := ⟨1, ![256]⟩
abbrev S256x1 : Shape := ⟨2, ![256, 1]⟩

abbrev nBuf : Space → Nat
  | .hbm => 18
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S64x2048, .f32⟩
  | .hbm, ⟨4, _⟩ => ⟨S8192x2048, .f32⟩
  | .hbm, ⟨5, _⟩ => ⟨S64x2048, .f32⟩
  | .hbm, ⟨6, _⟩ => ⟨S1x8x128x128, .f32⟩
  | .hbm, ⟨7, _⟩ => ⟨S1x8x128, .f32⟩
  | .hbm, ⟨8, _⟩ => ⟨S1x2048x2048, .f32⟩
  | .hbm, ⟨9, _⟩ => ⟨S2048, .f32⟩
  | .hbm, ⟨10, _⟩ => ⟨S2048x2048, .f32⟩
  | .hbm, ⟨11, _⟩ => ⟨S2048x2048, .bf16⟩
  | .hbm, ⟨12, _⟩ => ⟨S8x128x128, .f32⟩
  | .hbm, ⟨13, _⟩ => ⟨S8x128, .f32⟩
  | .hbm, ⟨14, _⟩ => ⟨S128x8, .f32⟩
  | .hbm, ⟨15, _⟩ => ⟨S1x2048, .f32⟩
  | .hbm, ⟨16, _⟩ => ⟨S8192x2048, .f32⟩
  | .hbm, ⟨17, _⟩ => ⟨S64x2048, .f32⟩
  | .local _ .vmem, ⟨0, _⟩ => ⟨S2048x2048, .bf16⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S64x2048, .f32⟩
  | .local _ .vmem, ⟨5, _⟩ => ⟨S64x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S8x128x128, .f32⟩
  | .local _ .vmem, ⟨13, _⟩ => ⟨S128x8, .f32⟩
  | .local _ .vmem, ⟨14, _⟩ => ⟨S512x2048, .f32⟩
  | .local _ .vmem, ⟨15, _⟩ => ⟨S512x2048, .f32⟩
  | .local _ .vmem, ⟨16, _⟩ => ⟨S64x2048, .f32⟩
  | .local _ .vmem, ⟨17, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_0 : BitVec 32 := 0#32
  let v1 : BitVec 1 := Scalar.cmpi .sgt arg0 c0_i32_0
  let v4 : BitVec 32 := Scalar.extui v1
  let c0_i32_2 : BitVec 32 := 0#32
  let v5 : BitVec 1 := Scalar.cmpi .ne v4 c0_i32_2
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v2 : BitVec 32 := Scalar.extui v0
  let c0_i32_1 : BitVec 32 := 0#32
  let v3 : BitVec 1 := Scalar.cmpi .ne v2 c0_i32_1
  v3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S64x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== RefOddYIdeal.lean ====
abbrev S8192x2048 : Shape := ⟨2, ![8192, 2048]⟩
abbrev S64x2048 : Shape := ⟨2, ![64, 2048]⟩
abbrev S1x8x128x128 : Shape := ⟨4, ![1, 8, 128, 128]⟩
abbrev S1x8x128 : Shape := ⟨3, ![1, 8, 128]⟩
abbrev S1x2048x2048 : Shape := ⟨3, ![1, 2048, 2048]⟩
abbrev S2048 : Shape := ⟨1, ![2048]⟩
abbrev S4x2048x2048 : Shape := ⟨3, ![4, 2048, 2048]⟩
abbrev S8x128x128 : Shape := ⟨3, ![8, 128, 128]⟩
abbrev S8x128 : Shape := ⟨2, ![8, 128]⟩
abbrev S4x16x128x8x256 : Shape := ⟨5, ![4, 16, 128, 8, 256]⟩
abbrev S_ : Shape := ⟨0, ![]⟩
abbrev S128x128 : Shape := ⟨2, ![128, 128]⟩
abbrev S8x4x16x256x128 : Shape := ⟨5, ![8, 4, 16, 256, 128]⟩
abbrev S128x8 : Shape := ⟨2, ![128, 8]⟩
abbrev S1x1x128x8x1 : Shape := ⟨5, ![1, 1, 128, 8, 1]⟩
abbrev S2048x2048 : Shape := ⟨2, ![2048, 2048]⟩
abbrev S8192 : Shape := ⟨1, ![8192]⟩
abbrev S8192x1 : Shape := ⟨2, ![8192, 1]⟩
abbrev S1x2048 : Shape := ⟨2, ![1, 2048]⟩
abbrev S64 : Shape := ⟨1, ![64]⟩
abbrev S64x1 : Shape := ⟨2, ![64, 1]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S64x2048, .f32⟩
  | .hbm, ⟨4, _⟩ => ⟨S8192x2048, .f32⟩
  | .hbm, ⟨5, _⟩ => ⟨S64x2048, .f32⟩
  | .hbm, ⟨6, _⟩ => ⟨S1x8x128x128, .f32⟩
  | .hbm, ⟨7, _⟩ => ⟨S1x8x128, .f32⟩
  | .hbm, ⟨8, _⟩ => ⟨S1x2048x2048, .f32⟩
  | .hbm, ⟨9, _⟩ => ⟨S2048, .f32⟩
  | .hbm, ⟨10, _⟩ => ⟨S8192x2048, .f32⟩
  | .hbm, ⟨11, _⟩ => ⟨S4x2048x2048, .f32⟩
  | .hbm, ⟨12, _⟩ => ⟨S8192x2048, .f32⟩
  | .hbm, ⟨13, _⟩ => ⟨S4x2048x2048, .f32⟩
  | .hbm, ⟨14, _⟩ => ⟨S8192x2048, .f32⟩
  | .hbm, ⟨15, _⟩ => ⟨S4x2048x2048, .f32⟩
  | .hbm, ⟨16, _⟩ => ⟨S8x128x128, .f32⟩
  | .hbm, ⟨17, _⟩ => ⟨S8x128, .f32⟩
  | .hbm, ⟨18, _⟩ => ⟨S4x16x128x8x256, .f32⟩
  | .hbm, ⟨19, _⟩ => ⟨S_, .i1⟩
  | .hbm, ⟨20, _⟩ => ⟨S128x128, .i1⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S128x128, .i1⟩
  | .hbm, ⟨27, _⟩ => ⟨S_, .i1⟩
  | .hbm, ⟨28, _⟩ => ⟨S128x128, .i1⟩
  | .hbm, ⟨29, _⟩ => ⟨S128x128, .i1⟩
  | .hbm, ⟨30, _⟩ => ⟨S_, .f32⟩
  | .hbm, ⟨31, _⟩ => ⟨S_, .f32⟩
  | .hbm, ⟨32, _⟩ => ⟨S8x128x128, .i1⟩
  | .hbm, ⟨33, _⟩ => ⟨S8x128x128, .f32⟩
  | .hbm, ⟨34, _⟩ => ⟨S8x128x128, .f32⟩
  | .hbm, ⟨35, _⟩ => ⟨S8x4x16x256x128, .f32⟩
  | .hbm, ⟨36, _⟩ => ⟨S4x16x128x8x256, .f32⟩
  | .hbm, ⟨37, _⟩ => ⟨S128x8, .f32⟩
  | .hbm, ⟨38, _⟩ => ⟨S1x1x128x8x1, .f32⟩
  | .hbm, ⟨39, _⟩ => ⟨S4x16x128x8x256, .f32⟩
  | .hbm, ⟨40, _⟩ => ⟨S4x16x128x8x256, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S8192x2048, .f32⟩
  | .hbm, ⟨45, _⟩ => ⟨S2048x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S1x2048, .f32⟩
  | .hbm, ⟨62, _⟩ => ⟨S8192x2048, .f32⟩
  | .hbm, ⟨63, _⟩ => ⟨S8192x2048, .f32⟩
  | .hbm, ⟨64, _⟩ => ⟨S2048x2048, .f32⟩
  | .hbm, ⟨65, _⟩ => ⟨S64x2048, .f32⟩
  | .hbm, ⟨66, _⟩ => ⟨S64x2048, .f32⟩
  | .hbm, ⟨67, _⟩ => ⟨S64x2048, .f32⟩
  | .hbm, ⟨68, _⟩ => ⟨S_, .f32⟩
  | .hbm, ⟨69, _⟩ => ⟨S64, .f32⟩
  | .hbm, ⟨70, _⟩ => ⟨S64x1, .f32⟩
  | .hbm, ⟨71, _⟩ => ⟨S_, .f32⟩
  | .hbm, ⟨72, _⟩ => ⟨S64x1, .f32⟩
  | .hbm, ⟨73, _⟩ => ⟨S64x1, .f32⟩
  | .hbm, ⟨74, _⟩ => ⟨S_, .f32⟩
  | .hbm, ⟨75, _⟩ => ⟨S64x1, .f32⟩
  | .hbm, ⟨76, _⟩ => ⟨S64x1, .f32⟩
  | .hbm, ⟨77, _⟩ => ⟨S64x1, .f32⟩
  | .hbm, ⟨78, _⟩ => ⟨S64x2048, .f32⟩
  | .hbm, ⟨79, _⟩ => ⟨S64x2048, .f32⟩
  | .hbm, ⟨80, _⟩ => ⟨S1x2048, .f32⟩
  | .hbm, ⟨81, _⟩ => ⟨S64x2048, .f32⟩
  | .hbm, ⟨82, _⟩ => ⟨S64x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v10 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_0 : Ref sig .tc := ⟨.hbm, 49, rfl⟩
abbrev main_v26 : Ref sig .tc := ⟨.hbm, 50, rfl⟩
abbrev main_v27 : Ref sig .tc := ⟨.hbm, 51, rfl⟩
abbrev main_cst_1 : Ref sig .tc := ⟨.hbm, 52, rfl⟩
abbrev main_v28 : Ref sig .tc := ⟨.hbm, 53, rfl⟩
abbrev main_v29 : Ref sig .tc := ⟨.hbm, 54, rfl⟩
abbrev main_cst_2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_3 : Ref sig .tc := ⟨.hbm, 68, rfl⟩
abbrev main_v42 : Ref sig .tc := ⟨.hbm, 69, rfl⟩
abbrev main_v43 : Ref sig .tc := ⟨.hbm, 70, rfl⟩
abbrev main_cst_4 : Ref sig .tc := ⟨.hbm, 71, rfl⟩
abbrev main_v44 : Ref sig .tc := ⟨.hbm, 72, rfl⟩
abbrev main_v45 : Ref sig .tc := ⟨.hbm, 73, rfl⟩
abbrev main_cst_5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]
-- ==== Mlstm.lean ====
abbrev S8x16x5120 : Shape := ⟨3, ![8, 16, 5120]⟩
abbrev S8x16x128 : Shape := ⟨3, ![8, 16, 128]⟩
abbrev S1x8x4x256x256 : Shape := ⟨5, ![1, 8, 4, 256, 256]⟩
abbrev S1x8x4x256 : Shape := ⟨4, ![1, 8, 4, 256]⟩
abbrev S1x8x4 : Shape := ⟨3, ![1, 8, 4]⟩
abbrev S8x16x8 : Shape := ⟨3, ![8, 16, 8]⟩
abbrev S8x8x16 : Shape := ⟨3, ![8, 8, 16]⟩
abbrev S8x4x256x256 : Shape := ⟨4, ![8, 4, 256, 256]⟩
abbrev S8x4x256 : Shape := ⟨3, ![8, 4, 256]⟩
abbrev S8x4x1x256 : Shape := ⟨4, ![8, 4, 1, 256]⟩
abbrev S8x4 : Shape := ⟨2, ![8, 4]⟩
abbrev S8x4x1x1 : Shape := ⟨4, ![8, 4, 1, 1]⟩
abbrev S8x4x1x128 : Shape := ⟨4, ![8, 4, 1, 128]⟩
abbrev S8x16x1024 : Shape := ⟨3, ![8, 16, 1024]⟩
abbrev S1x16x1024 : Shape := ⟨3, ![1, 16, 1024]⟩
abbrev S1x16x128 : Shape := ⟨3, ![1, 16, 128]⟩
abbrev S1x8x16 : Shape := ⟨3, ![1, 8, 16]⟩
abbrev S1x4x256x256 : Shape := ⟨4, ![1, 4, 256, 256]⟩
abbrev S1x4x1x256 : Shape := ⟨4, ![1, 4, 1, 256]⟩
abbrev S1x4x1x128 : Shape := ⟨4, ![1, 4, 1, 128]⟩
abbrev S4x256x256 : Shape := ⟨3, ![4, 256, 256]⟩
abbrev S4x1x256 : Shape := ⟨3, ![4, 1, 256]⟩
abbrev S4x1x128 : Shape := ⟨3, ![4, 1, 128]⟩
abbrev S16x128 : Shape := ⟨2, ![16, 128]⟩
abbrev S8x16 : Shape := ⟨2, ![8, 16]⟩
abbrev S16x16 : Shape := ⟨2, ![16, 16]⟩
abbrev S1x16x256 : Shape := ⟨3, ![1, 16, 256]⟩
abbrev S16x256 : Shape := ⟨2, ![16, 256]⟩
abbrev S16x1 : Shape := ⟨2, ![16, 1]⟩
abbrev S1x16 : Shape := ⟨2, ![1, 16]⟩
abbrev S16 : Shape := ⟨1, ![16]⟩
abbrev S1 : Shape := ⟨1, ![1]⟩
abbrev S1x1 : Shape := ⟨2, ![1, 1]⟩
abbrev S1x1x128 : Shape := ⟨3, ![1, 1, 128]⟩
abbrev S1x128 : Shape := ⟨2, ![1, 128]⟩
abbrev S1x1x256 : Shape := ⟨3, ![1, 1, 256]⟩
abbrev S1x256 : Shape := ⟨2, ![1, 256]⟩
abbrev S1x256x256 : Shape := ⟨3, ![1, 256, 256]⟩
abbrev S256x256 : Shape := ⟨2, ![256, 256]⟩
abbrev S256 : Shape := ⟨1, ![256]⟩

abbrev nBuf : Space → Nat
  | .hbm => 17
  | .vmem => 31
  | .smem => 0
  | _ => 0

abbrev bufTy : (tb : Table) → Fin (tcTables nBuf tb) → BufTy
  | .hbm, ⟨0, _⟩ => ⟨S8x16x5120, .bf16⟩
  | .hbm, ⟨1, _⟩ => ⟨S8x16x128, .f32⟩
  | .hbm, ⟨2, _⟩ => ⟨S1x8x4x256x256, .f32⟩
  | .hbm, ⟨3, _⟩ => ⟨S1x8x4x256, .f32⟩
  | .hbm, ⟨4, _⟩ => ⟨S1x8x4, .f32⟩
  | .hbm, ⟨5, _⟩ => ⟨S8x16x8, .f32⟩
  | .hbm, ⟨6, _⟩ => ⟨S8x8x16, .f32⟩
  | .hbm, ⟨7, _⟩ => ⟨S8x4x256x256, .f32⟩
  | .hbm, ⟨8, _⟩ => ⟨S8x4x256, .f32⟩
  | .hbm, ⟨9, _⟩ => ⟨S8x4x1x256, .f32⟩
  | .hbm, ⟨10, _⟩ => ⟨S8x4, .f32⟩
  | .hbm, ⟨11, _⟩ => ⟨S8x4x1x1, .f32⟩
  | .hbm, ⟨12, _⟩ => ⟨S8x4x1x128, .f32⟩
  | .hbm, ⟨13, _⟩ => ⟨S8x16x1024, .bf16⟩
  | .hbm, ⟨14, _⟩ => ⟨S8x4x256x256, .f32⟩
  | .hbm, ⟨15, _⟩ => ⟨S8x4x1x256, .f32⟩
  | .hbm, ⟨16, _⟩ => ⟨S8x4x1x128, .f32⟩
  | .local _ .vmem, ⟨0, _⟩ => ⟨S1x16x1024, .bf16⟩
  | .local _ .vmem, ⟨1, _⟩ => ⟨S1x16x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x16x1024, .bf16⟩
  | .local _ .vmem, ⟨7, _⟩ => ⟨S1x16x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x16x128, .f32⟩
  | .local _ .vmem, ⟨11, _⟩ => ⟨S1x16x128, .f32⟩
  | .local _ .vmem, ⟨12, _⟩ => ⟨S1x8x16, .f32⟩
  | .local _ .vmem, ⟨13, _⟩ => ⟨S1x8x16, .f32⟩
  | .local _ .vmem, ⟨14, _⟩ => ⟨S1x4x256x256, .f32⟩
  | .local _ .vmem, ⟨15, _⟩ => ⟨S1x4x256x256, .f32⟩
  | .local _ .vmem, ⟨16, _⟩ => ⟨S1x4x1x256, .f32⟩
  | .local _ .vmem, ⟨17, _⟩ => ⟨S1x4x1x256, .f32⟩
  | .local _ .vmem, ⟨18, _⟩ => ⟨S1x4x1x128, .f32⟩
  | .local _ .vmem, ⟨19, _⟩ => ⟨S1x4x1x128, .f32⟩
  | .local _ .vmem, ⟨20, _⟩ => ⟨S1x16x1024, .bf16⟩
  | .local _ .vmem, ⟨21, _⟩ => ⟨S1x16x1024, .bf16⟩
  | .local _ .vmem, ⟨22, _⟩ => ⟨S1x4x256x256, .f32⟩
  | .local _ .vmem, ⟨23, _⟩ => ⟨S1x4x256x256, .f32⟩
  | .local _ .vmem, ⟨24, _⟩ => ⟨S1x4x1x256, .f32⟩
  | .local _ .vmem, ⟨25, _⟩ => ⟨S1x4x1x256, .f32⟩
  | .local _ .vmem, ⟨26, _⟩ => ⟨S1x4x1x128, .f32⟩
  | .local _ .vmem, ⟨27, _⟩ => ⟨S1x4x1x128, .f32⟩
  | .local _ .vmem, ⟨28, _⟩ => ⟨S4x256x256, .f32⟩
  | .local _ .vmem, ⟨29, _⟩ => ⟨S4x1x256, .f32⟩
  | .local _ .vmem, ⟨30, _⟩ => ⟨S4x1x128, .f32⟩
  | _, _ => ⟨S8x16x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_0 : BitVec 32 := 0#32
  let v1 : BitVec 1 := Scalar.cmpi .eq arg1 c0_i32_0
  let v612 : BitVec 32 := Scalar.extui v1
  let c0_i32_254 : BitVec 32 := 0#32
  let v613 : BitVec 1 := Scalar.cmpi .ne v612 c0_i32_254
  v613

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x4x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== MlstmIdeal.lean ====
variable {F : FTy → Type} [FloatOps F] [Named F]
def κ : String → Option EReal := fun
  | "mask" => some ⊥
  | _ => none
-- ==== RefMlstmIdeal.lean ====
abbrev S8x16x5120 : Shape := ⟨3, ![8, 16, 5120]⟩
abbrev S8x16x128 : Shape := ⟨3, ![8, 16, 128]⟩
abbrev S1x8x4x256x256 : Shape := ⟨5, ![1, 8, 4, 256, 256]⟩
abbrev S1x8x4x256 : Shape := ⟨4, ![1, 8, 4, 256]⟩
abbrev S1x8x4 : Shape := ⟨3, ![1, 8, 4]⟩
abbrev S8x16x1024 : Shape := ⟨3, ![8, 16, 1024]⟩
abbrev S8x16x4 : Shape := ⟨3, ![8, 16, 4]⟩
abbrev S8x4x16 : Shape := ⟨3, ![8, 4, 16]⟩
abbrev S8x4x256x256 : Shape := ⟨4, ![8, 4, 256, 256]⟩
abbrev S8x4x256 : Shape := ⟨3, ![8, 4, 256]⟩
abbrev S8x4 : Shape := ⟨2, ![8, 4]⟩
abbrev S8x16x4x256 : Shape := ⟨4, ![8, 16, 4, 256]⟩
abbrev S8x4x16x256 : Shape := ⟨4, ![8, 4, 16, 256]⟩
abbrev S_ : Shape := ⟨0, ![]⟩
abbrev S16x16 : Shape := ⟨2, ![16, 16]⟩
abbrev S8x4x1x16 : Shape := ⟨4, ![8, 4, 1, 16]⟩
abbrev S8x4x16x16 : Shape := ⟨4, ![8, 4, 16, 16]⟩
abbrev S8x4x16x1 : Shape := ⟨4, ![8, 4, 16, 1]⟩
abbrev S8x4x1 : Shape := ⟨3, ![8, 4, 1]⟩
abbrev S8x4x1x1 : Shape := ⟨4, ![8, 4, 1, 1]⟩
abbrev S8x4x1x256 : Shape := ⟨4, ![8, 4, 1, 256]⟩
abbrev S8x4x1x128 : Shape := ⟨4, ![8, 4, 1, 128]⟩

abbrev nBuf : Space → Nat
  | .hbm => 140
  | .vmem => 0
  | .smem => 0
  | _ => 0

abbrev hbmTy0_0 (i : Nat) : BufTy := match i % 128 with
  | 0 => ⟨S8x16x5120, .bf16⟩
  | 1 => ⟨S8x16x128, .f32⟩
  | 2 => ⟨S1x8x4x256x256, .f32⟩
  | 3 => ⟨S1x8x4x256, .f32⟩
  | 4 => ⟨S1x8x4, .f32⟩
  | 5 => ⟨S8x16x5120, .f32⟩
  | 6 => ⟨S8x16x1024, .f32⟩
  | 7 => ⟨S8x16x1024, .f32⟩
  | 8 => ⟨S8x16x1024, .f32⟩
  | 9 => ⟨S8x16x1024, .f32⟩
  | 10 => ⟨S8x16x1024, .f32⟩
  | 11 => ⟨S8x16x4, .f32⟩
  | 12 => ⟨S8x4x16, .f32⟩
  | 13 => ⟨S8x16x4, .f32⟩
  | 14 => ⟨S8x4x16, .f32⟩
  | 15 => ⟨S8x4x256x256, .f32⟩
  | 16 => ⟨S8x4x256, .f32⟩
  | 17 => ⟨S8x4, .f32⟩
  | 18 => ⟨S8x16x4x256, .f32⟩
  | 19 => ⟨S8x4x16x256, .f32⟩
  | 20 => ⟨S8x16x4x256, .f32⟩
  | 21 => ⟨S8x4x16x256, .f32⟩
  | 22 => ⟨S_, .f32⟩
  | 23 => ⟨S8x4x16x256, .f32⟩
  | 24 => ⟨S8x4x16x256, .f32⟩
  | 25 => ⟨S8x16x4x256, .f32⟩
  | 26 => ⟨S8x4x16x256, .f32⟩
  | 27 => ⟨S_, .i1⟩
  | 28 => ⟨S16x16, .i1⟩
  | 29 => ⟨S16x16, .i32⟩
  | 30 => ⟨S_, .i32⟩
  | 31 => ⟨S16x16, .i32⟩
  | 32 => ⟨S16x16, .i32⟩
  | 33 => ⟨S16x16, .i32⟩
  | 34 => ⟨S16x16, .i1⟩
  | 35 => ⟨S_, .i1⟩
  | 36 => ⟨S16x16, .i1⟩
  | 37 => ⟨S16x16, .i1⟩
  | 38 => ⟨S8x4x1x16, .f32⟩
  | 39 => ⟨S_, .f32⟩
  | 40 => ⟨S_, .f32⟩
  | 41 => ⟨S8x4x16x16, .i1⟩
  | 42 => ⟨S8x4x16x16, .f32⟩
  | 43 => ⟨S8x4x16x16, .f32⟩
  | 44 => ⟨S8x4x16x16, .f32⟩
  | 45 => ⟨S_, .f32⟩
  | 46 => ⟨S8x4x16, .f32⟩
  | 47 => ⟨S8x4x16x1, .f32⟩
  | 48 => ⟨S8x4x1x16, .f32⟩
  | 49 => ⟨S8x4x16x16, .f32⟩
  | 50 => ⟨S8x4x16x16, .f32⟩
  | 51 => ⟨S8x4x16x16, .f32⟩
  | 52 => ⟨S8x4x1x16, .f32⟩
  | 53 => ⟨S8x4x16x16, .f32⟩
  | 54 => ⟨S8x4x16x16, .f32⟩
  | 55 => ⟨S_, .f32⟩
  | 56 => ⟨S_, .f32⟩
  | 57 => ⟨S8x4x16x16, .i1⟩
  | 58 => ⟨S8x4x16x16, .f32⟩
  | 59 => ⟨S8x4x16x16, .f32⟩
  | 60 => ⟨S8x4x1, .f32⟩
  | 61 => ⟨S8x4x16, .f32⟩
  | 62 => ⟨S8x4x16, .f32⟩
  | 63 => ⟨S_, .f32⟩
  | 64 => ⟨S8x4x16, .f32⟩
  | 65 => ⟨S8x4x16, .f32⟩
  | 66 => ⟨S8x4x16x1, .f32⟩
  | 67 => ⟨S8x4x16x16, .f32⟩
  | 68 => ⟨S8x4x16x16, .f32⟩
  | 69 => ⟨S8x4x16x16, .f32⟩
  | 70 => ⟨S8x4x16, .f32⟩
  | 71 => ⟨S8x4x16, .f32⟩
  | 72 => ⟨S8x4x16x16, .f32⟩
  | 73 => ⟨S8x4x16x16, .f32⟩
  | 74 => ⟨S8x4x16x256, .f32⟩
  | 75 => ⟨S8x4x16x1, .f32⟩
  | 76 => ⟨S8x4x16x256, .f32⟩
  | 77 => ⟨S8x4x16x256, .f32⟩
  | 78 => ⟨S8x4x16x256, .f32⟩
  | 79 => ⟨S8x4x16x256, .f32⟩
  | 80 => ⟨S_, .f32⟩
  | 81 => ⟨S8x4x16, .f32⟩
  | 82 => ⟨S8x4x16, .f32⟩
  | 83 => ⟨S8x4x16, .f32⟩
  | 84 => ⟨S8x4x16, .f32⟩
  | 85 => ⟨S8x4x16, .f32⟩
  | 86 => ⟨S8x4x16, .f32⟩
  | 87 => ⟨S8x4x16, .f32⟩
  | 88 => ⟨S8x4x16, .f32⟩
  | 89 => ⟨S8x4x16x1, .f32⟩
  | 90 => ⟨S8x4x16x256, .f32⟩
  | 91 => ⟨S8x4x16x256, .f32⟩
  | 92 => ⟨S8x4x1, .f32⟩
  | 93 => ⟨S8x4, .f32⟩
  | 94 => ⟨S8x4x1x16, .f32⟩
  | 95 => ⟨S8x4x16, .f32⟩
  | 96 => ⟨S8x4x1, .f32⟩
  | 97 => ⟨S8x4x16, .f32⟩
  | 98 => ⟨S8x4x16, .f32⟩
  | 99 => ⟨S8x4x16, .f32⟩
  | 100 => ⟨S8x4x1, .f32⟩
  | 101 => ⟨S8x4, .f32⟩
  | 102 => ⟨S8x4x1x1, .f32⟩
  | 103 => ⟨S8x4x256x256, .f32⟩
  | 104 => ⟨S8x4x256x256, .f32⟩
  | 105 => ⟨S8x4x16x1, .f32⟩
  | 106 => ⟨S8x4x16x256, .f32⟩
  | 107 => ⟨S8x4x16x256, .f32⟩
  | 108 => ⟨S8x4x256x256, .f32⟩
  | 109 => ⟨S8x4x256x256, .f32⟩
  | 110 => ⟨S8x4x1, .f32⟩
  | 111 => ⟨S8x4x256, .f32⟩
  | 112 => ⟨S8x4x256, .f32⟩
  | 113 => ⟨S8x4x256, .f32⟩
  | 114 => ⟨S8x4x256, .f32⟩
  | 115 => ⟨S8x16x4x256, .f32⟩
  | 116 => ⟨S8x16x1024, .f32⟩
  | 117 => ⟨S8x16x1024, .f32⟩
  | 118 => ⟨S8x16x1024, .f32⟩
  | 119 => ⟨S_, .f32⟩
  | 120 => ⟨S8x16x1024, .f32⟩
  | 121 => ⟨S8x16x1024, .f32⟩
  | 122 => ⟨S_, .f32⟩
  | 123 => ⟨S8x16x1024, .f32⟩
  | 124 => ⟨S8x16x1024, .f32⟩
  | 125 => ⟨S8x16x1024, .f32⟩
  | 126 => ⟨S8x16x1024, .f32⟩
  | 127 => ⟨S8x16x1024, .f32⟩
  | _ => ⟨S8x16x5120, .bf16⟩

abbrev hbmTy0_1 (i : Nat) : BufTy := match i % 128 with
  | 0 => ⟨S_, .f32⟩
  | 1 => ⟨S8x16x1024, .f32⟩
  | 2 => ⟨S8x16x1024, .f32⟩
  | 3 => ⟨S_, .f32⟩
  | 4 => ⟨S8x16x1024, .f32⟩
  | 5 => ⟨S8x16x1024, .f32⟩
  | 6 => ⟨S8x16x1024, .f32⟩
  | 7 => ⟨S8x16x1024, .f32⟩
  | 8 => ⟨S8x16x1024, .bf16⟩
  | 9 => ⟨S8x4x1x256, .f32⟩
  | 10 => ⟨S8x4x1x1, .f32⟩
  | 11 => ⟨S8x4x1x128, .f32⟩
  | _ => ⟨S8x16x5120, .bf16⟩

abbrev hbmTy (i : Nat) : BufTy := match i / 128 with
  | 0 => hbmTy0_0 i
  | 1 => hbmTy0_1 i
  | _ => ⟨S8x16x5120, .bf16⟩

abbrev bufTy : (tb : Table) → Fin (tcTables nBuf tb) → BufTy
  | .hbm, ⟨i, _⟩ => hbmTy i
  | _, _ => ⟨S8x16x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_0 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_4 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_5 : Ref sig .tc := ⟨.hbm, 119, rfl⟩
abbrev main_v92 : Ref sig .tc := ⟨.hbm, 120, rfl⟩
abbrev main_v93 : Ref sig .tc := ⟨.hbm, 121, rfl⟩
abbrev main_cst_6 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_call3_v0 : Ref sig .tc := ⟨.hbm, 126, rfl⟩
abbrev main_call3_v1 : Ref sig .tc := ⟨.hbm, 127, rfl⟩
abbrev main_call3_cst : Ref sig .tc := ⟨.hbm, 128, rfl⟩
abbrev main_call3_v2 : Ref sig .tc := ⟨.hbm, 129, rfl⟩
abbrev main_call3_v3 : Ref sig .tc := ⟨.hbm, 130, rfl⟩
abbrev main_call3_cst_0 : Ref sig .tc := ⟨.hbm, 131, rfl⟩
abbrev main_call3_v4 : Ref sig .tc := ⟨.hbm, 132, rfl⟩
abbrev main_call3_v5 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩

abbrev nD : Nat := 1
abbrev τ : Topo := Topo.v7x

variable {F : FTy → Type} [FloatOps F]
-- ==== EvenOut.lean ====
abbrev S8192x1024 : Shape := ⟨2, ![8192, 1024]⟩
abbrev S64x1024 : Shape := ⟨2, ![64, 1024]⟩
abbrev S8192x2048 : Shape := ⟨2, ![8192, 2048]⟩
abbrev S64x2048 : Shape := ⟨2, ![64, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S1024x2048 : Shape := ⟨2, ![1024, 2048]⟩
abbrev S512x1024 : Shape := ⟨2, ![512, 1024]⟩
abbrev S512x2048 : Shape := ⟨2, ![512, 2048]⟩
abbrev S64 : Shape := ⟨1, ![64]⟩
abbrev S64x1 : Shape := ⟨2, ![64, 1]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 18
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S64x1024, .bf16⟩
  | .hbm, ⟨3, _⟩ => ⟨S64x1024, .f32⟩
  | .hbm, ⟨4, _⟩ => ⟨S8192x2048, .f32⟩
  | .hbm, ⟨5, _⟩ => ⟨S64x2048, .f32⟩
  | .hbm, ⟨6, _⟩ => ⟨S1x2048x2048, .f32⟩
  | .hbm, ⟨7, _⟩ => ⟨S1x2048, .f32⟩
  | .hbm, ⟨8, _⟩ => ⟨S2048x2048, .f32⟩
  | .hbm, ⟨9, _⟩ => ⟨S2048, .f32⟩
  | .hbm, ⟨10, _⟩ => ⟨S2048x2048, .bf16⟩
  | .hbm, ⟨11, _⟩ => ⟨S1024x2048, .bf16⟩
  | .hbm, ⟨12, _⟩ => ⟨S1024x2048, .bf16⟩
  | .hbm, ⟨13, _⟩ => ⟨S1x2048, .f32⟩
  | .hbm, ⟨14, _⟩ => ⟨S8192x2048, .f32⟩
  | .hbm, ⟨15, _⟩ => ⟨S8192x2048, .bf16⟩
  | .hbm, ⟨16, _⟩ => ⟨S64x2048, .f32⟩
  | .hbm, ⟨17, _⟩ => ⟨S64x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S64x1024, .bf16⟩
  | .local _ .vmem, ⟨10, _⟩ => ⟨S64x1024, .f32⟩
  | .local _ .vmem, ⟨11, _⟩ => ⟨S64x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S64x2048, .f32⟩
  | .local _ .vmem, ⟨17, _⟩ => ⟨S64x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_0 : BitVec 32 := 0#32
  let v1 : BitVec 1 := Scalar.cmpi .sgt arg0 c0_i32_0
  let v4 : BitVec 32 := Scalar.extui v1
  let c0_i32_2 : BitVec 32 := 0#32
  let v5 : BitVec 1 := Scalar.cmpi .ne v4 c0_i32_2
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v2 : BitVec 32 := Scalar.extui v0
  let c0_i32_1 : BitVec 32 := 0#32
  let v3 : BitVec 1 := Scalar.cmpi .ne v2 c0_i32_1
  v3

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S64x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RefEvenOutIdeal.lean ====
abbrev S8192x1024 : Shape := ⟨2, ![8192, 1024]⟩
abbrev S64x1024 : Shape := ⟨2, ![64, 1024]⟩
abbrev S8192x2048 : Shape := ⟨2, ![8192, 2048]⟩
abbrev S64x2048 : Shape := ⟨2, ![64, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S64 : Shape := ⟨1, ![64]⟩
abbrev S64x1 : Shape := ⟨2, ![64, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S64x1024, .bf16⟩
  | .hbm, ⟨3, _⟩ => ⟨S64x1024, .f32⟩
  | .hbm, ⟨4, _⟩ => ⟨S8192x2048, .f32⟩
  | .hbm, ⟨5, _⟩ => ⟨S64x2048, .f32⟩
  | .hbm, ⟨6, _⟩ => ⟨S1x2048x2048, .f32⟩
  | .hbm, ⟨7, _⟩ => ⟨S1x2048, .f32⟩
  | .hbm, ⟨8, _⟩ => ⟨S8192x1024, .f32⟩
  | .hbm, ⟨9, _⟩ => ⟨S8192x1024, .f32⟩
  | .hbm, ⟨10, _⟩ => ⟨S8192x2048, .f32⟩
  | .hbm, ⟨11, _⟩ => ⟨S2048x2048, .f32⟩
  | .hbm, ⟨12, _⟩ => ⟨S8192x2048, .f32⟩
  | .hbm, ⟨13, _⟩ => ⟨S8192x2048, .f32⟩
  | .hbm, ⟨14, _⟩ => ⟨S2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | .hbm, ⟨32, _⟩ => ⟨S64x1024, .f32⟩
  | .hbm, ⟨33, _⟩ => ⟨S64x2048, .f32⟩
  | .hbm, ⟨34, _⟩ => ⟨S2048x2048, .f32⟩
  | .hbm, ⟨35, _⟩ => ⟨S64x2048, .f32⟩
  | .hbm, ⟨36, _⟩ => ⟨S64x2048, .f32⟩
  | .hbm, ⟨37, _⟩ => ⟨S2048, .f32⟩
  | .hbm, ⟨38, _⟩ => ⟨S64x2048, .f32⟩
  | .hbm, ⟨39, _⟩ => ⟨S_, .f32⟩
  | .hbm, ⟨40, _⟩ => ⟨S64, .f32⟩
  | .hbm, ⟨41, _⟩ => ⟨S64x1, .f32⟩
  | .hbm, ⟨42, _⟩ => ⟨S_, .f32⟩
  | .hbm, ⟨43, _⟩ => ⟨S64x1, .f32⟩
  | .hbm, ⟨44, _⟩ => ⟨S64x1, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x1, .f32⟩
  | .hbm, ⟨49, _⟩ => ⟨S64x2048, .f32⟩
  | .hbm, ⟨50, _⟩ => ⟨S64x2048, .f32⟩
  | .hbm, ⟨51, _⟩ => ⟨S1x2048, .f32⟩
  | .hbm, ⟨52, _⟩ => ⟨S64x2048, .f32⟩
  | .hbm, ⟨53, _⟩ => ⟨S64x2048, .f32⟩
  | .hbm, ⟨54, _⟩ => ⟨S64x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Front.lean ====
abbrev S8192x2048 : Shape := ⟨2, ![8192, 2048]⟩
abbrev S1x2048 : Shape := ⟨2, ![1, 2048]⟩
abbrev S1x2048x9224 : Shape := ⟨3, ![1, 2048, 9224]⟩
abbrev S1x4 : Shape := ⟨2, ![1, 4]⟩
abbrev S2048x9224 : Shape := ⟨2, ![2048, 9224]⟩
abbrev S4 : Shape := ⟨1, ![4]⟩
abbrev S9224x2048 : Shape := ⟨2, ![9224, 2048]⟩
abbrev S2048x8 : Shape := ⟨2, ![2048, 8]⟩
abbrev S_ : Shape := ⟨0, ![]⟩
abbrev S2048x128 : Shape := ⟨2, ![2048, 128]⟩
abbrev S8 : Shape := ⟨1, ![8]⟩
abbrev S128 : Shape := ⟨1, ![128]⟩
abbrev S1x128 : Shape := ⟨2, ![1, 128]⟩
abbrev S2048 : Shape := ⟨1, ![2048]⟩
abbrev S2048x256 : Shape := ⟨2, ![2048, 256]⟩
abbrev S8192x128 : Shape := ⟨2, ![8192, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 27
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x9224, .f32⟩
  | .hbm, ⟨3, _⟩ => ⟨S1x4, .f32⟩
  | .hbm, ⟨4, _⟩ => ⟨S1x4, .f32⟩
  | .hbm, ⟨5, _⟩ => ⟨S2048x9224, .f32⟩
  | .hbm, ⟨6, _⟩ => ⟨S4, .f32⟩
  | .hbm, ⟨7, _⟩ => ⟨S4, .f32⟩
  | .hbm, ⟨8, _⟩ => ⟨S9224x2048, .f32⟩
  | .hbm, ⟨9, _⟩ => ⟨S2048x8, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S8, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S2048, .f32⟩
  | .hbm, ⟨19, _⟩ => ⟨S2048x128, .bf16⟩
  | .hbm, ⟨20, _⟩ => ⟨S2048x128, .f32⟩
  | .hbm, ⟨21, _⟩ => ⟨S2048x128, .f32⟩
  | .hbm, ⟨22, _⟩ => ⟨S2048x128, .bf16⟩
  | .hbm, ⟨23, _⟩ => ⟨S2048x256, .bf16⟩
  | .hbm, ⟨24, _⟩ => ⟨S1x2048, .f32⟩
  | .hbm, ⟨25, _⟩ => ⟨S8192x2048, .bf16⟩
  | .hbm, ⟨26, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x256, .bf16⟩
  | .local _ .vmem, ⟨4, _⟩ => ⟨S1x128, .f32⟩
  | .local _ .vmem, ⟨5, _⟩ => ⟨S512x2048, .bf16⟩
  | .local _ .vmem, ⟨6, _⟩ => ⟨S512x2048, .bf16⟩
  | .local _ .vmem, ⟨7, _⟩ => ⟨S512x128, .f32⟩
  | .local _ .vmem, ⟨8, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefFrontIdeal.lean ====
abbrev S8192x2048 : Shape := ⟨2, ![8192, 2048]⟩
abbrev S1x2048 : Shape := ⟨2, ![1, 2048]⟩
abbrev S1x2048x9224 : Shape := ⟨3, ![1, 2048, 9224]⟩
abbrev S1x4 : Shape := ⟨2, ![1, 4]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x9224 : Shape := ⟨2, ![2048, 9224]⟩
abbrev S8192x9224 : Shape := ⟨2, ![8192, 9224]⟩
abbrev S8192x4 : Shape := ⟨2, ![8192, 4]⟩
abbrev S4 : Shape := ⟨1, ![4]⟩
abbrev S8192x8 : Shape := ⟨2, ![8192, 8]⟩
abbrev S8192x128 : Shape := ⟨2, ![8192, 128]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x9224, .f32⟩
  | .hbm, ⟨3, _⟩ => ⟨S1x4, .f32⟩
  | .hbm, ⟨4, _⟩ => ⟨S1x4, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x9224, .f32⟩
  | .hbm, ⟨23, _⟩ => ⟨S8192x9224, .f32⟩
  | .hbm, ⟨24, _⟩ => ⟨S8192x4, .f32⟩
  | .hbm, ⟨25, _⟩ => ⟨S8192x4, .f32⟩
  | .hbm, ⟨26, _⟩ => ⟨S4, .f32⟩
  | .hbm, ⟨27, _⟩ => ⟨S1x4, .f32⟩
  | .hbm, ⟨28, _⟩ => ⟨S8192x4, .f32⟩
  | .hbm, ⟨29, _⟩ => ⟨S8192x4, .f32⟩
  | .hbm, ⟨30, _⟩ => ⟨S4, .f32⟩
  | .hbm, ⟨31, _⟩ => ⟨S1x4, .f32⟩
  | .hbm, ⟨32, _⟩ => ⟨S8192x4, .f32⟩
  | .hbm, ⟨33, _⟩ => ⟨S8192x4, .f32⟩
  | .hbm, ⟨34, _⟩ => ⟨S8192x4, .f32⟩
  | .hbm, ⟨35, _⟩ => ⟨S_, .f32⟩
  | .hbm, ⟨36, _⟩ => ⟨S8192x4, .f32⟩
  | .hbm, ⟨37, _⟩ => ⟨S8192x4, .f32⟩
  | .hbm, ⟨38, _⟩ => ⟨S8192x4, .f32⟩
  | .hbm, ⟨39, _⟩ => ⟨S8192x4, .f32⟩
  | .hbm, ⟨40, _⟩ => ⟨S8192x4, .i1⟩
  | .hbm, ⟨41, _⟩ => ⟨S8192x4, .f32⟩
  | .hbm, ⟨42, _⟩ => ⟨S8192x4, .f32⟩
  | .hbm, ⟨43, _⟩ => ⟨S8192x4, .f32⟩
  | .hbm, ⟨44, _⟩ => ⟨S8192x4, .f32⟩
  | .hbm, ⟨45, _⟩ => ⟨S8192x4, .f32⟩
  | .hbm, ⟨46, _⟩ => ⟨S8192x4, .f32⟩
  | .hbm, ⟨47, _⟩ => ⟨S8192x4, .f32⟩
  | .hbm, ⟨48, _⟩ => ⟨S8192x4, .f32⟩
  | .hbm, ⟨49, _⟩ => ⟨S8192x4, .f32⟩
  | .hbm, ⟨50, _⟩ => ⟨S8192x8, .f32⟩
  | .hbm, ⟨51, _⟩ => ⟨S8192x2048, .bf16⟩
  | .hbm, ⟨52, _⟩ => ⟨S_, .i32⟩
  | .hbm, ⟨53, _⟩ => ⟨S_, .f32⟩
  | .hbm, ⟨54, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c : Ref sig .tc := ⟨.hbm, 52, rfl⟩
abbrev main_call1_v0 : Ref sig .tc := ⟨.hbm, 53, rfl⟩
abbrev main_v29 : Ref sig .tc := ⟨.hbm, 54, rfl⟩

abbrev nD : Nat := 1
abbrev τ : Topo := Topo.v7x

variable {F : FTy → Type} [FloatOps F]
-- ==== Mix.lean ====
abbrev S64x2048 : Shape := ⟨2, ![64, 2048]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x8x8 : Shape := ⟨3, ![8, 8, 8]⟩
abbrev S8x128 : Shape := ⟨2, ![8, 128]⟩
abbrev S8x8 : Shape := ⟨2, ![8, 8]⟩
abbrev S1x8x8 : Shape := ⟨3, ![1, 8, 8]⟩
abbrev S8x1 : Shape := ⟨2, ![8, 1]⟩
abbrev S8x256 : Shape := ⟨2, ![8, 256]⟩
abbrev S1x256 : Shape := ⟨2, ![1, 256]⟩

abbrev nBuf : Space → Nat
  | .hbm => 11
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S64x2048, .f32⟩
  | .hbm, ⟨2, _⟩ => ⟨S64x2048, .f32⟩
  | .hbm, ⟨3, _⟩ => ⟨S1x8x128x128, .f32⟩
  | .hbm, ⟨4, _⟩ => ⟨S1x8x128, .f32⟩
  | .hbm, ⟨5, _⟩ => ⟨S8x128x128, .f32⟩
  | .hbm, ⟨6, _⟩ => ⟨S8x8x8, .f32⟩
  | .hbm, ⟨7, _⟩ => ⟨S8x128, .f32⟩
  | .hbm, ⟨8, _⟩ => ⟨S8x8, .f32⟩
  | .hbm, ⟨9, _⟩ => ⟨S8x8, .f32⟩
  | .hbm, ⟨10, _⟩ => ⟨S64x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S8x8x8, .f32⟩
  | .local _ .vmem, ⟨4, _⟩ => ⟨S8x8, .f32⟩
  | .local _ .vmem, ⟨5, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== RefMixIdeal.lean ====
abbrev S64x2048 : Shape := ⟨2, ![64, 2048]⟩
abbrev S1x8x128x128 : Shape := ⟨4, ![1, 8, 128, 128]⟩
abbrev S1x8x128 : Shape := ⟨3, ![1, 8, 128]⟩
abbrev S8x8x2048 : Shape := ⟨3, ![8, 8, 2048]⟩
abbrev S_ : Shape := ⟨0, ![]⟩
abbrev S8x128x2048 : Shape := ⟨3, ![8, 128, 2048]⟩
abbrev S8x128x128 : Shape := ⟨3, ![8, 128, 128]⟩
abbrev S8x128 : Shape := ⟨2, ![8, 128]⟩
abbrev S8x1x128x8x256 : Shape := ⟨5, ![8, 1, 128, 8, 256]⟩
abbrev S128x128 : Shape := ⟨2, ![128, 128]⟩
abbrev S8x8x1x256x128 : Shape := ⟨5, ![8, 8, 1, 256, 128]⟩
abbrev S128x8 : Shape := ⟨2, ![128, 8]⟩
abbrev S1x1x128x8x1 : Shape := ⟨5, ![1, 1, 128, 8, 1]⟩

abbrev nBuf : Space → Nat
  | .hbm => 43
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64x2048, .f32⟩
  | .hbm, ⟨2, _⟩ => ⟨S64x2048, .f32⟩
  | .hbm, ⟨3, _⟩ => ⟨S1x8x128x128, .f32⟩
  | .hbm, ⟨4, _⟩ => ⟨S1x8x128, .f32⟩
  | .hbm, ⟨5, _⟩ => ⟨S8x8x2048, .f32⟩
  | .hbm, ⟨6, _⟩ => ⟨S_, .i32⟩
  | .hbm, ⟨7, _⟩ => ⟨S_, .f32⟩
  | .hbm, ⟨8, _⟩ => ⟨S8x128x2048, .f32⟩
  | .hbm, ⟨9, _⟩ => ⟨S8x8x2048, .f32⟩
  | .hbm, ⟨10, _⟩ => ⟨S_, .i32⟩
  | .hbm, ⟨11, _⟩ => ⟨S_, .f32⟩
  | .hbm, ⟨12, _⟩ => ⟨S8x128x2048, .f32⟩
  | .hbm, ⟨13, _⟩ => ⟨S8x128x128, .f32⟩
  | .hbm, ⟨14, _⟩ => ⟨S8x128, .f32⟩
  | .hbm, ⟨15, _⟩ => ⟨S8x1x128x8x256, .f32⟩
  | .hbm, ⟨16, _⟩ => ⟨S_, .i1⟩
  | .hbm, ⟨17, _⟩ => ⟨S128x128, .i1⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S128x128, .i1⟩
  | .hbm, ⟨24, _⟩ => ⟨S_, .i1⟩
  | .hbm, ⟨25, _⟩ => ⟨S128x128, .i1⟩
  | .hbm, ⟨26, _⟩ => ⟨S128x128, .i1⟩
  | .hbm, ⟨27, _⟩ => ⟨S_, .f32⟩
  | .hbm, ⟨28, _⟩ => ⟨S_, .f32⟩
  | .hbm, ⟨29, _⟩ => ⟨S8x128x128, .i1⟩
  | .hbm, ⟨30, _⟩ => ⟨S8x128x128, .f32⟩
  | .hbm, ⟨31, _⟩ => ⟨S8x128x128, .f32⟩
  | .hbm, ⟨32, _⟩ => ⟨S8x8x1x256x128, .f32⟩
  | .hbm, ⟨33, _⟩ => ⟨S8x1x128x8x256, .f32⟩
  | .hbm, ⟨34, _⟩ => ⟨S128x8, .f32⟩
  | .hbm, ⟨35, _⟩ => ⟨S1x1x128x8x1, .f32⟩
  | .hbm, ⟨36, _⟩ => ⟨S8x1x128x8x256, .f32⟩
  | .hbm, ⟨37, _⟩ => ⟨S8x1x128x8x256, .f32⟩
  | .hbm, ⟨38, _⟩ => ⟨S8x128x2048, .f32⟩
  | .hbm, ⟨39, _⟩ => ⟨S8x128x2048, .f32⟩
  | .hbm, ⟨40, _⟩ => ⟨S8x8x2048, .f32⟩
  | .hbm, ⟨41, _⟩ => ⟨S64x2048, .f32⟩
  | .hbm, ⟨42, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_call2_v0 : Ref sig .tc := ⟨.hbm, 18, rfl⟩
abbrev main_call2_c : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_c_0 : Ref sig .tc := ⟨.hbm, 24, rfl⟩
abbrev main_call2_v5 : Ref sig .tc := ⟨.hbm, 25, rfl⟩
abbrev main_v8 : Ref sig .tc := ⟨.hbm, 26, rfl⟩
abbrev main_cst : Ref sig .tc := ⟨.hbm, 27, rfl⟩
abbrev main_call3_v0 : Ref sig .tc := ⟨.hbm, 28, rfl⟩
abbrev main_call3_v1 : Ref sig .tc := ⟨.hbm, 29, rfl⟩
abbrev main_call3_v2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩

abbrev nD : Nat := 1
abbrev τ : Topo := Topo.v7x

variable {F : FTy → Type} [FloatOps F]
-- ==== Finish.lean ====
abbrev S8x64x1024 : Shape := ⟨3, ![8, 64, 1024]⟩
abbrev S8x8x1024 : Shape := ⟨3, ![8, 8, 1024]⟩
abbrev S1x64x1024 : Shape := ⟨3, ![1, 64, 1024]⟩
abbrev S1x8x1024 : Shape := ⟨3, ![1, 8, 1024]⟩
abbrev S64x1024 : Shape := ⟨2, ![64, 1024]⟩
abbrev S8x1024 : Shape := ⟨2, ![8, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x64x1024, .f32⟩
  | .hbm, ⟨1, _⟩ => ⟨S8x8x1024, .f32⟩
  | .hbm, ⟨2, _⟩ => ⟨S8x8x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefFinishIdeal.lean ====
abbrev S8x64x1024 : Shape := ⟨3, ![8, 64, 1024]⟩
abbrev S8x8x1024 : Shape := ⟨3, ![8, 8, 1024]⟩
abbrev S8x8x8x8x128 : Shape := ⟨5, ![8, 8, 8, 8, 128]⟩
abbrev S8x1x8x1x128 : Shape := ⟨5, ![8, 1, 8, 1, 128]⟩
abbrev S8x8x128 : Shape := ⟨3, ![8, 8, 128]⟩
abbrev S8x8x1x128 : Shape := ⟨4, ![8, 8, 1, 128]⟩
abbrev S8x8x8x128 : Shape := ⟨4, ![8, 8, 8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S8x8x1024, .f32⟩
  | .hbm, ⟨2, _⟩ => ⟨S8x8x8x8x128, .f32⟩
  | .hbm, ⟨3, _⟩ => ⟨S8x1x8x1x128, .f32⟩
  | .hbm, ⟨4, _⟩ => ⟨S8x8x128, .f32⟩
  | .hbm, ⟨5, _⟩ => ⟨S8x1x8x1x128, .f32⟩
  | .hbm, ⟨6, _⟩ => ⟨S8x8x128, .f32⟩
  | .hbm, ⟨7, _⟩ => ⟨S8x1x8x1x128, .f32⟩
  | .hbm, ⟨8, _⟩ => ⟨S8x8x128, .f32⟩
  | .hbm, ⟨9, _⟩ => ⟨S8x1x8x1x128, .f32⟩
  | .hbm, ⟨10, _⟩ => ⟨S8x8x128, .f32⟩
  | .hbm, ⟨11, _⟩ => ⟨S8x1x8x1x128, .f32⟩
  | .hbm, ⟨12, _⟩ => ⟨S8x8x128, .f32⟩
  | .hbm, ⟨13, _⟩ => ⟨S8x1x8x1x128, .f32⟩
  | .hbm, ⟨14, _⟩ => ⟨S8x8x128, .f32⟩
  | .hbm, ⟨15, _⟩ => ⟨S8x1x8x1x128, .f32⟩
  | .hbm, ⟨16, _⟩ => ⟨S8x8x128, .f32⟩
  | .hbm, ⟨17, _⟩ => ⟨S8x1x8x1x128, .f32⟩
  | .hbm, ⟨18, _⟩ => ⟨S8x8x128, .f32⟩
  | .hbm, ⟨19, _⟩ => ⟨S8x8x1x128, .f32⟩
  | .hbm, ⟨20, _⟩ => ⟨S8x8x1x128, .f32⟩
  | .hbm, ⟨21, _⟩ => ⟨S8x8x1x128, .f32⟩
  | .hbm, ⟨22, _⟩ => ⟨S8x8x1x128, .f32⟩
  | .hbm, ⟨23, _⟩ => ⟨S8x8x1x128, .f32⟩
  | .hbm, ⟨24, _⟩ => ⟨S8x8x1x128, .f32⟩
  | .hbm, ⟨25, _⟩ => ⟨S8x8x1x128, .f32⟩
  | .hbm, ⟨26, _⟩ => ⟨S8x8x1x128, .f32⟩
  | .hbm, ⟨27, _⟩ => ⟨S8x8x8x128, .f32⟩
  | .hbm, ⟨28, _⟩ => ⟨S8x8x1024, .f32⟩
  | .hbm, ⟨29, _⟩ => ⟨S8x8x1024, .f32⟩
  | .hbm, ⟨30, _⟩ => ⟨S8x8x1024, .f32⟩
  | .hbm, ⟨31, _⟩ => ⟨S_, .f32⟩
  | .hbm, ⟨32, _⟩ => ⟨S8x8x1024, .f32⟩
  | .hbm, ⟨33, _⟩ => ⟨S8x8x1024, .f32⟩
  | .hbm, ⟨34, _⟩ => ⟨S_, .f32⟩
  | .hbm, ⟨35, _⟩ => ⟨S8x8x1024, .f32⟩
  | .hbm, ⟨36, _⟩ => ⟨S8x8x1024, .f32⟩
  | .hbm, ⟨37, _⟩ => ⟨S8x8x1024, .f32⟩
  | .hbm, ⟨38, _⟩ => ⟨S8x8x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.Common.lean ====
/- Lemmas shared by the in-projection kernels: whole-block stores and loads read back, and a staged block as a function of its index. -/
module

public import Idealize.ShloMosaic.Lib.Exec
public import Idealize.ShloMosaic.Lib.Pipeline.FrameBody
public import Idealize.ShloMosaic.Lib.Pipeline.Value
public import Idealize.ShloMosaic.Lib.Pipeline.TableIdle

@[expose] public section

set_option maxRecDepth 16384

namespace Proj

open Idealize.ShloMosaic

variable {sig : RefSig} {κ : Kind} {sp : Space} {e : EltTy} {Val : EltTy → Type}

/-- The two offsets of a whole block are zero. -/
theorem off0 : (![0, 0] : Fin 2 → Nat) = fun _ => 0 := by funext a; fin_cases a <;> rfl

/-- What a buffer reads after one store that fills it. -/
theorem read_stored [∀ e, Nonempty (Val e)] {S : Shape} (v : View sig κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ fun y => ⟨_, List.mem_singleton_self _, View.mem_set_unit_zero h inb y⟩).trans
    (View.canon_unit_zero h inb w)

/-- What a load of the whole of a buffer reads, of a buffer known to hold `x`. -/
theorem load_whole {S : Shape} {v : View sig κ sp S e} {f : v.ty.Contents Val} {x : S.Idx → Val e} (hf : v.read Val f = x)
    {off : Fin S.rank → Nat} (h : off = fun _ => 0) (inb : ∀ a, off a + S.size a ≤ S.size a) :
    v.readAt Val (Rect.unit off S.size inb).toLoadRect f = x := by
  rw [View.readAt_eq_ld, hf, View.ld_unit_zero h]

section Kept

open Idealize.SL Idealize.SL.RA Idealize.SL.BI
open scoped Idealize.SL.BI
open Idealize.SL.BI.BIBase Idealize.SL.BI.Laws Idealize.SL.ProofMode Idealize.SL.Sem

variable {nD : Nat} {τ : Topo} {Ix : Type} [DecidableEq Ix] {Name : Type} [DecidableEq Name] {U : Type} [URA U] {Lvl : Type}
  {Λ₀ : Labels} {cfg : Pipeline.Cfg sig Λ₀} {c : Dev nD} (dat : Pipeline.Dat τ Val Ix Name U Lvl cfg c)

open TcCoe in
/-- A window whose buffer held `X` before the body, whatever came first, and still does, is left as the data say, when the data
    say it holds `X` afterwards: the body may store there or not, and the point may write it back or not. -/
theorem leaves_kept (w : Fin cfg.W) (t : Fin cfg.N) (X : (cfg.win w).block.Idx → Val (cfg.win w).elt)
    (hb : ∀ d, dat.before w t d = X) (ha : X = dat.after w t) [∀ e, Nonempty (Val e)] :
    (owns (c : Thread nD τ) ((cfg.win w).stage (cfg.slots t w)) fullShare X : sProp (MT nD τ sig Ix Val Name U Lvl)) ⊢ dat.leavesExact w t := by
  unfold Pipeline.Dat.leavesExact
  split
  · split
    · iintro H; iexists (fun _ => Classical.arbitrary _); rw [hb]; iexact H
    · rw [ha]
  · rw [ha]

end Kept

end Proj
-- ==== Proof.QkvogBody.lean ====
module

public import proofs.«01_k».proof.Proof.Gen.QkvogIdeal.Frame
public import proofs.«01_k».proof.Proof.Gen.QkvogIdeal.Skeleton
public import proofs.«01_k».proof.Proof.Common
public import Idealize.ShloMosaic.Lib.Claim

@[expose] public section

set_option maxRecDepth 16384

noncomputable section

namespace Cert.QkvogIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.QkvogIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch's condition, at the first point of a column of the grid. -/
abbrev cond1 (i : grid0.Coords) : Prop :=
  Scalar.cmpi .ne (Scalar.extui (Scalar.cmpi .eq (BitVec.ofNat 32 (i 1).val) 0#32) : BitVec 32) 0#32 = 1#1

/-- The weight block and the second group's result, at the first point of a column. -/
theorem run_first (c : Dev nD) (i : grid0.Coords) (arg2 : Memref sig .tc .vmem S2048x2048 .bf16) (harg2 : arg2.IsWhole)
    (arg3 : Memref sig .tc .vmem S1024x2048 .f32) (harg3 : arg3.IsWhole) (arg4 : Memref sig .tc .vmem S64x2048 .bf16) (harg4 : arg4.IsWhole)
    (arg5 : Memref sig .tc .vmem S2048x1024 .bf16) (harg5 : arg5.IsWhole) (arg6 : Memref sig .tc .vmem S64x1024 .bf16) (harg6 : arg6.IsWhole)
    (arg7 : Memref sig .tc .vmem S1024x2048 .bf16) (harg7 : arg7.IsWhole)
    (hc0 : cond1 i)
    (hc1 : k0_cond2 i = 1#1) (hc2 : ¬ k0_cond3 i = 1#1)
    (x1 : Vec F S1024x2048 .f32) (x2 : Vec F S64x2048 .bf16) (E : Set ℕ) (K : PUnit → sProp 𝕄) :
    iprop(owns (c : Thread nD τ) arg3 fullShare x1 ∗ owns (c : Thread nD τ) arg4 fullShare x2
        ∗ (∃ d, owns (c : Thread nD τ) arg6 fullShare d) ∗ (∃ d, owns (c : Thread nD τ) arg7 fullShare d)
        ∗ (iprop(owns (c : Thread nD τ) arg3 fullShare x1 ∗ owns (c : Thread nD τ) arg4 fullShare x2
            ∗ owns (c : Thread nD τ) arg6 fullShare (k0_pay2 x2 (k0_pay1 x1)) ∗ owns (c : Thread nD τ) arg7 fullShare (k0_pay1 x1)) -∗ K ⟨⟩))
      ⊢ wp frame (wpE (defs₀ (F := F)) Variants.none c none) E (cc0_proj i arg2 harg2 arg3 harg3 arg4 harg4 arg5 harg5 arg6 harg6 arg7 harg7) K := by
  simp only [cc0_proj_eq_skeleton]; unfold cc0_proj_skel
  unfold owns
  iintro ⟨⟨%f1, %hf1, H1⟩, ⟨%f2, %hf2, H2⟩, ⟨%d4, %f4, -, H4⟩, ⟨%ds0, %fs0, -, HS0⟩, Hk⟩
  sl_exec (disch := first | sl_exact hc0 | sl_exact hc1 | sl_exact hc2)
  sl_step
  iapply Hk
  isplitl [H1]
  · iexists _; isplitr; · ipureintro; exact hf1
    iexact H1
  isplitl [H2]
  · iexists _; isplitr; · ipureintro; exact hf2
    iexact H2
  isplitl [H4]
  · iexists _; isplitr; swap; · iexact H4
    ipureintro
    sl_unfold_run_names
    rw [Proj.read_stored _ _ Proj.off0, Proj.load_whole hf2 Proj.off0, View.readCov_unit_zero _ Proj.off0, Proj.load_whole hf1 Proj.off0]
  iexists _; isplitr; swap; · iexact HS0
  ipureintro
  sl_unfold_run_names
  rw [Proj.read_stored _ _ Proj.off0, Proj.load_whole hf1 Proj.off0]

/-- The body past the first point of a column: the first group's block times the kept weight block. -/
theorem run_rest (c : Dev nD) (i : grid0.Coords) (arg2 : Memref sig .tc .vmem S2048x2048 .bf16) (harg2 : arg2.IsWhole)
    (arg3 : Memref sig .tc .vmem S1024x2048 .f32) (harg3 : arg3.IsWhole) (arg4 : Memref sig .tc .vmem S64x2048 .bf16) (harg4 : arg4.IsWhole)
    (arg5 : Memref sig .tc .vmem S2048x1024 .bf16) (harg5 : arg5.IsWhole) (arg6 : Memref sig .tc .vmem S64x1024 .bf16) (harg6 : arg6.IsWhole)
    (arg7 : Memref sig .tc .vmem S1024x2048 .bf16) (harg7 : arg7.IsWhole)
    (hc0 : ¬ cond1 i) (hc1 : ¬ k0_cond2 i = 1#1) (hc2 : k0_cond3 i = 1#1)
    (x0 : Vec F S2048x2048 .bf16) (w : Vec F S1024x2048 .bf16) (E : Set ℕ) (K : PUnit → sProp 𝕄) :
    iprop(owns (c : Thread nD τ) arg2 fullShare x0 ∗ owns (c : Thread nD τ) arg7 fullShare w ∗ (∃ d, owns (c : Thread nD τ) arg5 fullShare d)
        ∗ (iprop(owns (c : Thread nD τ) arg2 fullShare x0 ∗ owns (c : Thread nD τ) arg7 fullShare w
            ∗ owns (c : Thread nD τ) arg5 fullShare (k0_pay3 x0 w)) -∗ K ⟨⟩))
      ⊢ wp frame (wpE (defs₀ (F := F)) Variants.none c none) E (cc0_proj i arg2 harg2 arg3 harg3 arg4 harg4 arg5 harg5 arg6 harg6 arg7 harg7) K := by
  simp only [cc0_proj_eq_skeleton]; unfold cc0_proj_skel
  unfold owns
  iintro ⟨⟨%f0, %hf0, H0⟩, ⟨%fs, %hfs, HS⟩, ⟨%d3, %f3, -, H3⟩, Hk⟩
  sl_exec (disch := first | sl_exact hc0 | sl_exact hc1 | sl_exact hc2)
  sl_step
  iapply Hk
  isplitl [H0]
  · iexists _; isplitr; · ipureintro; exact hf0
    iexact H0
  isplitl [HS]
  · iexists _; isplitr; · ipureintro; exact hfs
    iexact HS
  iexists _; isplitr; swap; · iexact H3
  ipureintro
  sl_unfold_run_names
  rw [Proj.read_stored _ _ Proj.off0, Proj.load_whole hf0 Proj.off0, Proj.load_whole hfs Proj.off0]

/-! ## The schedule -/

theorem N_eq : cfg0.N = 25 := N_0

/-- The first branch is taken at the first point of a column. -/
theorem cond1_iff : ∀ t : Fin cfg0.N, cond1 (grid0.coords t) ↔ t.val % 5 = 0 :=
  (by decide +kernel : ∀ t : Fin grid0.N, cond1 (grid0.coords t) ↔ t.val % 5 = 0)
theorem cond2_iff : ∀ t : Fin cfg0.N, k0_cond2 (grid0.coords t) = 1#1 ↔ t.val % 5 = 0 :=
  (by decide +kernel : ∀ t : Fin grid0.N, k0_cond2 (grid0.coords t) = 1#1 ↔ t.val % 5 = 0)
theorem cond3_iff : ∀ t : Fin cfg0.N, k0_cond3 (grid0.coords t) = 1#1 ↔ ¬ t.val % 5 = 0 :=
  (by decide +kernel : ∀ t : Fin grid0.N, k0_cond3 (grid0.coords t) = 1#1 ↔ ¬ t.val % 5 = 0)

/-- The weight window's block index: the column's rows, all the columns. -/
theorem index1 : ∀ t : Fin cfg0.N, (cfg0.win 1).index t = ![1024 * (t.val / 5), 0] :=
  (by decide +kernel : ∀ t : Fin grid0.N, win0_1.index t = ![1024 * (t.val / 5), 0])
theorem index2 : ∀ t : Fin cfg0.N, (cfg0.win 2).index t = ![0, 0] :=
  (by decide +kernel : ∀ t : Fin grid0.N, win0_2.index t = ![0, 0])

/-- Within a column the weight block does not move. -/
theorem iblk1_eq (c : Dev nD) (t t' : Fin cfg0.N) (h : t.val / 5 = t'.val / 5) :
    (iblk m c 1 t : Vec F S1024x2048 .f32) = iblk m c 1 t' :=
  funext fun y => congrArg (V m c (Pipeline.arrRef spec0 1)) (funext fun a => Fin.ext (by
    refine (win0_1.rect_emb_val_off t y a).trans (Eq.trans ?_ (win0_1.rect_emb_val_off t' y a).symm)
    rw [show win0_1.index t = _ from index1 t, show win0_1.index t' = _ from index1 t', h]))

theorem iblk2_eq (c : Dev nD) (t t' : Fin cfg0.N) : (iblk m c 2 t : Vec F S64x2048 .bf16) = iblk m c 2 t' :=
  funext fun y => congrArg (V m c (Pipeline.arrRef spec0 2)) (funext fun a => Fin.ext (by
    refine (win0_2.rect_emb_val_off t y a).trans (Eq.trans ?_ (win0_2.rect_emb_val_off t' y a).symm)
    rw [show win0_2.index t = _ from index2 t, show win0_2.index t' = _ from index2 t']))

/-! ## The proof data -/

/-- The scratch buffer that keeps the rounded weight block. -/
abbrev keep : Memref sig .tc .vmem S1024x2048 .bf16 := Memref.whole cc0_scratch0

/-- The rounded weight block of point `t`'s column. -/
def wblk (c : Dev nD) (t : Fin cfg0.N) : Vec F S1024x2048 .bf16 := k0_pay1 (iblk m c 1 t)

/-- Before point `n`, past the first, the scratch holds the rounded weight block of the point before. -/
def Held (c : Dev nD) (n : ℕ) (d : S1024x2048.Idx → Elt F .bf16) : Prop :=
  ∀ (h : n ≠ 0) (h' : n - 1 < cfg0.N), d = wblk m c ⟨n - 1, h'⟩

def Phi (c : Dev nD) (n : ℕ) : sProp 𝕄 :=
  iprop((∃ d, ⌜Held m c n d⌝ ∗ owns (c : Thread nD τ) keep fullShare d) ∗ (∃ r, prngReg c r))

/-- What the pipeline's proof says: every input's buffer keeps its block, the two results' buffers hold the products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (iblk m c 0 t) (wblk m c t)
    | ⟨4, _⟩ => k0_pay2 (iblk m c 2 t) (wblk m c t)
  Φ t := Phi m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (iblk m c 0 t) (wblk m c t) := by dsimp only [dats]
theorem after_4 (c : Dev nD) (t : Fin cfg0.N) : (dats m 0 c).after 4 t = k0_pay2 (iblk m c 2 t) (wblk m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem idle_3 (t : Fin cfg0.N) : cfg0.idle 3 (grid0.coords t) = decide (t.val % 5 = 0) :=
  (by decide +kernel : ∀ t : Fin grid0.N, idle0 3 (grid0.coords t) = decide (t.val % 5 = 0)) t
theorem idle_4 (t : Fin cfg0.N) : cfg0.idle 4 (grid0.coords t) = !decide (t.val % 5 = 0) :=
  (by decide +kernel : ∀ t : Fin grid0.N, idle0 4 (grid0.coords t) = !decide (t.val % 5 = 0)) t
theorem flush_3 (t : Fin cfg0.N) : (cfg0.win 3).flush t = !decide (t.val % 5 = 0) :=
  (by decide +kernel : ∀ t : Fin grid0.N, win0_3.flush t = !decide (t.val % 5 = 0)) t

/-- The second group's window holds nothing of the body's only before the first point of a column. -/
theorem fresh_4 (t : Fin cfg0.N) : cfg0.fresh 4 t.val = decide (t.val % 5 = 0) :=
  cfg0.fresh_tab 4 (fun n => decide (n % 5 = 0)) rfl (fun t => by
    rw [idle_4, show (cfg0.win 4).flush t = decide (t.val % 5 = 4) from Bool.eq_iff_iff.mpr ((flush0_4 t).trans (by simp))]
    by_cases h : t.val % 5 = 0 <;> simp [h] <;> omega) t.val t.isLt.le

/-- Past the first point of a column the second group's window holds its result. -/
theorem before_4 (c : Dev nD) (t : Fin cfg0.N) (h : ¬ t.val % 5 = 0) (d) :
    (dats m 0 c).before 4 t d = k0_pay2 (iblk m c 2 t) (wblk m c t) := by
  have carry : ∀ t : Fin cfg0.N, ¬ t.val % 5 = 0 →
      (dats m 0 c).after 4 t = (dats m 0 c).after 4 ⟨t.val - 1, by omega⟩ := fun t h => by
    rw [after_4, after_4, wblk, wblk, iblk2_eq m c t ⟨t.val - 1, by omega⟩,
      iblk1_eq m c t ⟨t.val - 1, by omega⟩ (by show t.val / 5 = (t.val - 1) / 5; omega)]
  rw [(dats m 0 c).before_out_traj 4 rfl (fun _ _ => rfl) (fun t _ _ hf => carry t (by rw [fresh_4] at hf; simpa using hf)) t.val t rfl d,
    fresh_4, if_neg (by simpa using h), ← carry t h, after_4]

/-! ## The body obligation -/

abbrev ms0 (t : Fin cfg0.N) : Memref sig .tc .vmem S2048x2048 .bf16 := win0_0.stage (cfg0.slots t 0)
abbrev ms1 (t : Fin cfg0.N) : Memref sig .tc .vmem S1024x2048 .f32 := win0_1.stage (cfg0.slots t 1)
abbrev ms2 (t : Fin cfg0.N) : Memref sig .tc .vmem S64x2048 .bf16 := win0_2.stage (cfg0.slots t 2)
abbrev ms3 (t : Fin cfg0.N) : Memref sig .tc .vmem S2048x1024 .bf16 := win0_3.stage (cfg0.slots t 3)
abbrev ms4 (t : Fin cfg0.N) : Memref sig .tc .vmem S64x1024 .bf16 := win0_4.stage (cfg0.slots t 4)

/-- What the body is handed at point `t`, window by window. -/
def bodyPre (c : Dev nD) (t : Fin cfg0.N) : sProp 𝕄 :=
  iprop(Phi m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it leaves there. -/
def bodyPost (c : Dev nD) (t : Fin cfg0.N) : sProp 𝕄 :=
  iprop(Phi m c (t.val + 1) ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_in {c : Dev nD} (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem held_next (c : Dev nD) (t : Fin cfg0.N) : Held m c (t.val + 1) (wblk m c t) := fun _ _ => rfl

theorem held_prev (c : Dev nD) (t : Fin cfg0.N) (h : ¬ t.val % 5 = 0) (d) (hd : Held m c t.val d) : d = wblk m c t :=
  (hd (by omega) (by omega)).trans (congrArg k0_pay1 (iblk1_eq m c _ _ (by show (t.val - 1) / 5 = t.val / 5; omega)))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_in m 0 t rfl, leaves_in m 1 t rfl, leaves_in m 2 t rfl, after_0, after_1, after_2]
  simp only [before_0, before_1, before_2]
  rw [show (dats m 0 c).owesAt () t.succ = (dats m 0 c).owesAt () t.castSucc from rfl]
  unfold Phi
  by_cases h : t.val % 5 = 0
  · rw [leaves_in m 4 t (by rw [idle_4]; simp [h]), after_4,
      (dats m 0 c).leavesExact_idle 3 t (by rw [idle_3]; simp [h]) (by rw [flush_3]; simp [h])]
    iintro ⟨⟨⟨%ds, -, HS⟩, Hg⟩, Ho, ⟨%d0, H0⟩, ⟨%d1, H1⟩, ⟨%d2, H2⟩, H3, ⟨%d4, H4⟩⟩
    iapply (run_first c (grid0.coords t) _ _ _ _ _ _ _ _ _ _ _ _ ((cond1_iff t).mpr h) ((cond2_iff t).mpr h)
      (fun h' => (cond3_iff t).mp h' h) (iblk m c 1 t) (iblk m c 2 t) Set.univ _)
    isplitl [H1]; · iexact H1
    isplitl [H2]; · iexact H2
    isplitl [H4]; · iexists _; iexact H4
    isplitl [HS]; · iexists _; iexact HS
    iintro ⟨H1, H2, H4, HS⟩
    isplitl [HS Hg]
    · isplitl [HS]
      · iexists _; isplitr; · ipureintro; exact held_next m c t
        iexact HS
      iexact Hg
    isplitl [Ho]; · iexact Ho
    isplitl [H0]; · iexact H0
    isplitl [H1]; · iexact H1
    isplitl [H2]; · iexact H2
    isplitl [H3]; · iexact H3
    iexact H4
  · rw [leaves_in m 3 t (by rw [idle_3]; simp [h]), after_3]
    simp only [before_4 m c t h]
    iintro ⟨⟨⟨%ds, %hds, HS⟩, Hg⟩, Ho, ⟨%d0, H0⟩, ⟨%d1, H1⟩, ⟨%d2, H2⟩, ⟨%d3, H3⟩, ⟨%d4, H4⟩⟩
    obtain rfl := held_prev m c t h ds hds
    iapply (run_rest c (grid0.coords t) _ _ _ _ _ _ _ _ _ _ _ _ (fun h' => h ((cond1_iff t).mp h')) (fun h' => h ((cond2_iff t).mp h'))
      ((cond3_iff t).mpr h) (iblk m c 0 t) (wblk m c t) Set.univ _)
    isplitl [H0]; · iexact H0
    isplitl [HS]; · iexact HS
    isplitl [H3]; · iexists _; iexact H3
    iintro ⟨H0, HS, H3⟩
    isplitl [HS Hg]
    · isplitl [HS]
      · iexists _; isplitr; · ipureintro; exact held_next m c t
        iexact HS
      iexact Hg
    isplitl [Ho]; · iexact Ho
    isplitl [H0]; · iexact H0
    isplitl [H1]; · iexact H1
    isplitl [H2]; · iexact H2
    isplitl [H3]; · iexact H3
    iapply (Proj.leaves_kept (dats m 0 c) 4 t _ (before_4 m c t h) ((after_4 m c t).symm))
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show _ ⊢ Phi m c 0
      unfold Phi Pipeline.ΦA; rw [scopedRest0_eq]; simp only [keep, owns_whole]
      iintro ⟨⟨%d, H⟩, Hg⟩
      isplitl [H]
      · iexists d; isplitr; · ipureintro; exact fun h => absurd rfl h
        iexact H
      iexact Hg)
    (hout := fun c => by
      show Phi m c _ ⊢ _
      unfold Phi Pipeline.ΦA; rw [scopedRest0_eq]; simp only [keep, owns_whole]
      iintro ⟨⟨%d, -, H⟩, Hg⟩
      isplitl [H]
      · iexists d; iexact H
      iexact Hg)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.QkvogIdeal.Body

end
-- ==== Proof.Product.lean ====
/- The products of the projections read at an index, at the ideal values: a product of rows, a layer's weight matrix read
   through the host's reshape and transpose, and a side-by-side concatenation of column slices. -/
module

public import Idealize.ShloMosaic.Lib.ValueIdx
public import Idealize.ShloMosaic.Lib.MatmulPlain
public import Idealize.ShloMosaic.Lib.StackMember
public import Idealize.ShloMosaic.Lib.Pipeline.Value
public import Idealize.ShloMosaic.Lib.Claim

@[expose] public section

set_option maxRecDepth 16384

noncomputable section

namespace Proj

open Idealize.ShloMosaic Idealize.ShloMosaic.ValueIdx

/-- Row `r` of the activations times column `n` of a layer's weight. -/
def inner {R K N : ℕ} (X : (⟨2, ![R, K]⟩ : Shape).Idx → EReal) (W : (⟨3, ![1, K, N]⟩ : Shape).Idx → EReal) (r : Fin R) (n : Fin N) : EReal :=
  ∑ k : Fin K, X (ix2 r k) * W (ix3 (0 : Fin 1) k n)

/-- `C` columns of the product, from column `o` on. -/
def cols {R K N : ℕ} (o C : ℕ) (h : o + C ≤ N) (X : (⟨2, ![R, K]⟩ : Shape).Idx → EReal) (W : (⟨3, ![1, K, N]⟩ : Shape).Idx → EReal) :
    (⟨2, ![R, C]⟩ : Shape).Idx → EReal := fun i =>
  inner X W (i 0) ⟨o + (i 1).val, by have h1 : (i 1).val < C := (i 1).isLt; omega⟩

section Layout

variable {α : Type}

/-- The weight with its unit axis dropped. -/
theorem drop_apply {K N : ℕ} (W : (⟨3, ![1, K, N]⟩ : Shape).Idx → α)
    (h : (⟨3, ![1, K, N]⟩ : Shape).ShapeCasts ⟨2, ![K, N]⟩) (k : Fin K) (n : Fin N) :
    shapeCast ⟨2, ![K, N]⟩ W h (ix2 k n) = W (ix3 (0 : Fin 1) k n) :=
  (shapeCast_dropUnit_apply (n := 2) ![K, N] W h (ix2 k n)).trans
    (congrArg W (funext fun a => match a with | ⟨0, _⟩ => rfl | ⟨1, _⟩ => rfl | ⟨2, _⟩ => rfl))

/-- A matrix of one row read as a vector, and back. -/
theorem flat_apply {α : Type} {n : ℕ} (x : (⟨2, ![1, n]⟩ : Shape).Idx → α) (h : Shape.ShapeCasts ⟨2, ![1, n]⟩ ⟨1, ![n]⟩) (k : Fin n) :
    shapeCast ⟨1, ![n]⟩ x h (ix1 k) = x (ix2 (0 : Fin 1) k) :=
  shapeCast_apply x h (ix1 k) (ix2 (0 : Fin 1) k) (by
    rw [Shape.rowMajor_val_one, Shape.rowMajor_val_two]; show 0 * n + k.val = k.val; omega)

theorem flat_back {α : Type} {n : ℕ} (x : (⟨2, ![1, n]⟩ : Shape).Idx → α) (h : Shape.ShapeCasts ⟨2, ![1, n]⟩ ⟨1, ![n]⟩)
    (h' : Shape.ShapeCasts ⟨1, ![n]⟩ ⟨2, ![1, n]⟩) (k : Fin n) :
    shapeCast ⟨2, ![1, n]⟩ (shapeCast ⟨1, ![n]⟩ x h) h' (ix2 (0 : Fin 1) k) = x (ix2 (0 : Fin 1) k) :=
  (shapeCast_apply _ h' (ix2 (0 : Fin 1) k) (ix1 k) (by
    rw [Shape.rowMajor_val_one, Shape.rowMajor_val_two]; show k.val = 0 * n + k.val; omega)).trans (flat_apply x h k)

/-- And then transposed. -/
theorem turned_apply {K N : ℕ} (W : (⟨3, ![1, K, N]⟩ : Shape).Idx → α)
    (h : (⟨3, ![1, K, N]⟩ : Shape).ShapeCasts ⟨2, ![K, N]⟩)
    (h' : (⟨2, ![K, N]⟩ : Shape).Transposes [1, 0] ⟨2, ![N, K]⟩) (n : Fin N) (k : Fin K) :
    transpose ⟨2, ![N, K]⟩ [1, 0] (shapeCast ⟨2, ![K, N]⟩ W h) h' (ix2 n k) = W (ix3 (0 : Fin 1) k n) :=
  (transpose_apply [1, 0] _ h' (ix2 n k) (ix2 k n) (fun b => match b with | ⟨0, _⟩ => rfl | ⟨1, _⟩ => rfl)).trans
    (drop_apply W h k n)

/-- Five column slices of one matrix, each starting where the one before ends, laid side by side: the matrix's first columns. -/
theorem beside_apply {R M B T : ℕ} (Y : (⟨2, ![R, M]⟩ : Shape).Idx → α) (p0 p1 p2 p3 p4 : (⟨2, ![R, B]⟩ : Shape).Idx → α)
    (h) (hM : T ≤ M) (hT : T = 5 * B)
    (e0 : ∀ r (j : Fin B), p0 (ix2 r j) = Y (ix2 r ⟨0 * B + j, by omega⟩))
    (e1 : ∀ r (j : Fin B), p1 (ix2 r j) = Y (ix2 r ⟨1 * B + j, by omega⟩))
    (e2 : ∀ r (j : Fin B), p2 (ix2 r j) = Y (ix2 r ⟨2 * B + j, by omega⟩))
    (e3 : ∀ r (j : Fin B), p3 (ix2 r j) = Y (ix2 r ⟨3 * B + j, by omega⟩))
    (e4 : ∀ r (j : Fin B), p4 (ix2 r j) = Y (ix2 r ⟨4 * B + j, by omega⟩)) (r : Fin R) (n : Fin T) :
    concatenate ⟨2, ![R, T]⟩ 1 [⟨⟨2, ![R, B]⟩, p0⟩, ⟨⟨2, ![R, B]⟩, p1⟩, ⟨⟨2, ![R, B]⟩, p2⟩, ⟨⟨2, ![R, B]⟩, p3⟩, ⟨⟨2, ![R, B]⟩, p4⟩] h (ix2 r n)
      = Y (ix2 r ⟨n, by omega⟩) := by
  have hB : 0 < B := by have := n.isLt; omega
  have hq : n.val / B < 5 := Nat.div_lt_of_lt_mul (by have := n.isLt; rw [Nat.mul_comm]; omega)
  have hn : n.val / B * B + n.val % B = n.val := by rw [Nat.mul_comm]; exact Nat.div_add_mod _ _
  have key : ∀ (f : Fin 5 → ((⟨2, ![R, B]⟩ : Shape).Idx → α))
      (_ : ∀ q r (j : Fin B), f q (ix2 r j) = Y (ix2 r ⟨q.val * B + j.val, by
        have := j.isLt; have := Nat.mul_le_mul_right B (Nat.le_of_lt_succ q.isLt : q.val ≤ 4); omega⟩)) (h),
      concatenate ⟨2, ![R, T]⟩ 1 (List.ofFn fun q => (⟨⟨2, ![R, B]⟩, f q⟩ : (s : Shape) × (s.Idx → α))) h (ix2 r n)
        = Y (ix2 r ⟨n, by omega⟩) := fun f hf h => by
    refine (concatenate_ofFn_apply (t := ⟨2, ![R, T]⟩) 1 f h rfl B rfl (ix2 r n) ⟨n.val / B, hq⟩ rfl
      (ix2 r ⟨n.val % B, Nat.mod_lt _ hB⟩) rfl (fun b hb => ?_)).trans ?_
    · match b, hb with
      | ⟨0, _⟩, _ => rfl
      | ⟨1, _⟩, hb => exact absurd rfl hb
    · rw [hf]; congr 3
  exact key ![p0, p1, p2, p3, p4] (fun q => match q with | 0 => e0 | 1 => e1 | 2 => e2 | 3 => e3 | 4 => e4) h

/-- Two matrices laid side by side. -/
theorem pair_apply {R B T : ℕ} (p0 p1 : (⟨2, ![R, B]⟩ : Shape).Idx → α) (h) (hT : T = 2 * B) (r : Fin R) (n : Fin T) (hB : 0 < B) :
    concatenate ⟨2, ![R, T]⟩ 1 [⟨⟨2, ![R, B]⟩, p0⟩, ⟨⟨2, ![R, B]⟩, p1⟩] h (ix2 r n)
      = if n.val / B = 0 then p0 (ix2 r ⟨n.val % B, Nat.mod_lt _ hB⟩) else p1 (ix2 r ⟨n.val % B, Nat.mod_lt _ hB⟩) := by
  have hq : n.val / B < 2 := Nat.div_lt_of_lt_mul (by have := n.isLt; rw [Nat.mul_comm]; omega)
  refine (concatenate_ofFn_apply (t := ⟨2, ![R, T]⟩) 1 ![p0, p1] h rfl B rfl (ix2 r n) ⟨n.val / B, hq⟩ rfl
    (ix2 r ⟨n.val % B, Nat.mod_lt _ hB⟩) rfl (fun b hb => ?_)).trans ?_
  · match b, hb with
    | ⟨0, _⟩, _ => rfl
    | ⟨1, _⟩, hb => exact absurd rfl hb
  · rcases Nat.le_one_iff_eq_zero_or_eq_one.mp (Nat.le_of_lt_succ hq) with h | h <;> simp [h]

end Layout

/-- A product against a matrix given by its rows, started from zero. -/
theorem rows_apply {M K N : ℕ} {φ₁ φ₂ : FTy} (x : FVec Ideal ⟨2, ![M, K]⟩ φ₁) (w : FVec Ideal ⟨2, ![N, K]⟩ φ₂) (r : Fin M) (c : Fin N) :
    matmul (DotDims.transposedRhs M K N) none x w (constant (F := Ideal) ⟨2, ![M, N]⟩ .f32 0x00000000#32) (ix2 r c)
      = ∑ k : Fin K, x (ix2 r k) * w (ix2 c k) := by
  refine (Ideal.matmul_transposedRhs_apply none x w _ r c).trans ?_
  rw [constant_apply, Ideal.ofBits_zero_f32, zero_add]

/-- When the rows are rows of the activations and columns of a layer's weight, that is `inner`. -/
theorem rows_inner {M K N R T : ℕ} {φ₁ φ₂ : FTy} (x : FVec Ideal ⟨2, ![M, K]⟩ φ₁) (w : FVec Ideal ⟨2, ![N, K]⟩ φ₂)
    (X : (⟨2, ![R, K]⟩ : Shape).Idx → EReal) (W : (⟨3, ![1, K, T]⟩ : Shape).Idx → EReal) (p : Fin M) (q : Fin N) (r r' : Fin R) (n n' : Fin T)
    (hx : ∀ k, x (ix2 p k) = X (ix2 r' k)) (hw : ∀ k, w (ix2 q k) = W (ix3 (0 : Fin 1) k n')) (hr : r.val = r'.val) (hn : n.val = n'.val) :
    matmul (DotDims.transposedRhs M K N) none x w (constant (F := Ideal) ⟨2, ![M, N]⟩ .f32 0x00000000#32) (ix2 p q) = inner X W r n := by
  obtain rfl := Fin.ext hr
  obtain rfl := Fin.ext hn
  exact (rows_apply x w p q).trans (Finset.sum_congr rfl fun k _ => by rw [hx, hw])

/-- The host's product against a layer's weight. -/
theorem host_apply {R K N : ℕ} {φ₁ φ₂ : FTy} (X : FVec Ideal ⟨2, ![R, K]⟩ φ₁) (W : FVec Ideal ⟨3, ![1, K, N]⟩ φ₂)
    (h : (⟨3, ![1, K, N]⟩ : Shape).ShapeCasts ⟨2, ![K, N]⟩) (r : Fin R) (n : Fin N) :
    Host.dotGeneral (F := Ideal) (DotDims.plain R K N) none X (shapeCast ⟨2, ![K, N]⟩ W h : FVec Ideal ⟨2, ![K, N]⟩ φ₂) (ix2 r n) = inner X W r n :=
  (StackMember.dotGeneral_plain_apply none X _ r n).trans (Finset.sum_congr rfl fun k _ => by rw [drop_apply])

end Proj

end
-- ==== Proof.QkvogValue.lean ====
/- What the q, k, v, og and gate projection of an mLSTM layer computes: both results are the activations times the first 5120
   columns of the layer's weight, as the reference's. -/
module

public import proofs.«01_k».proof.Proof.QkvogBody
public import proofs.«01_k».proof.Proof.Product
public import proofs.«01_k».proof.Proof.Gen.Qkvog
public import proofs.«01_k».proof.Proof.Gen.RefQkvogIdeal.Run
public import proofs.«01_k».proof.Proof.Gen.RefQkvogIdeal.Read
public import proofs.«01_k».proof.Defs

@[expose] public section

set_option maxRecDepth 16384

noncomputable section

namespace Cert.QkvogIdeal.Body

open Idealize.ShloMosaic Idealize.ShloMosaic.TcCoe Idealize.ShloMosaic.ValueIdx Idealize.SL.Sem
open Idealize.ShloMosaic.Pipeline (Dat Cfg Window)
open Cert.QkvogIdeal.Gen

variable (m : (ℓ : Loc nD τ sig) → Buf (Elt Ideal) ℓ) (ρ : Dev nD → PrngReg)

/-- The launch contents of the three arguments. -/
abbrev hp (c : Dev nD) : FVec Ideal S8192x2048 .bf16 := m ((c.tc : Thread nD τ).loc main_arg0)
abbrev hs (c : Dev nD) : FVec Ideal S64x2048 .bf16 := m ((c.tc : Thread nD τ).loc main_arg1)
abbrev wt (c : Dev nD) : FVec Ideal S1x2048x9224 .f32 := m ((c.tc : Thread nD τ).loc main_arg2)

/-- The two results. -/
def outP (X : FVec Ideal S8192x2048 .bf16) (W : FVec Ideal S1x2048x9224 .f32) : FVec Ideal S8192x5120 .bf16 :=
  fun i => Proj.inner X W (i 0) ⟨(i 1).val, lt_trans (i 1).isLt (by decide)⟩
def outS (X : FVec Ideal S64x2048 .bf16) (W : FVec Ideal S1x2048x9224 .f32) : FVec Ideal S64x5120 .bf16 :=
  fun i => Proj.inner X W (i 0) ⟨(i 1).val, lt_trans (i 1).isLt (by decide)⟩

/-! ## The blocks read -/

theorem V_weight (c : Dev nD) (n : Fin 9224) (k : Fin 2048) : V m c main_v1 (ix2 n k) = wt m c (ix3 (0 : Fin 1) k n) := by
  have : V m c main_v1 = transpose S9224x2048 [1, 0] (shapeCast S2048x9224 (wt m c) shapeCasts_S1x2048x9224_S2048x9224)
      transposes_S2048x9224_S9224x2048_1_0 := by
    show StableHlo.after hostOps0 _ main_v1 = _
    after_results_simp <;> rfl
  rw [this]; exact Proj.turned_apply _ _ _ n k

theorem index0 : ∀ t : Fin cfg0.N, (cfg0.win 0).index t = ![t.val % 5 - 1, 0] :=
  (by decide +kernel : ∀ t : Fin grid0.N, win0_0.index t = ![t.val % 5 - 1, 0])
theorem index3 : ∀ t : Fin cfg0.N, (cfg0.win 3).index t = ![t.val % 5 - 1, t.val / 5] :=
  (by decide +kernel : ∀ t : Fin grid0.N, win0_3.index t = ![t.val % 5 - 1, t.val / 5])
theorem index4 : ∀ t : Fin cfg0.N, (cfg0.win 4).index t = ![0, t.val / 5] :=
  (by decide +kernel : ∀ t : Fin grid0.N, win0_4.index t = ![0, t.val / 5])

theorem t_lt (t : Fin cfg0.N) : t.val < 25 := lt_of_lt_of_eq t.isLt N_eq

theorem read0 (c : Dev nD) (t : Fin cfg0.N) (p : Fin 2048) (k : Fin 2048) :
    (iblk m c 0 t : FVec Ideal S2048x2048 .bf16) (ix2 p k) = hp m c (ix2 (n0 := 8192) ⟨(t.val % 5 - 1) * 2048 + p.val, by have := p.isLt; omega⟩ k) :=
  congrArg (hp m c) (funext fun a => Fin.ext (by
    refine (win0_0.rect_emb_val_off t (ix2 p k) a).trans ?_
    rw [show win0_0.index t = _ from index0 t]
    match a with
    | ⟨0, _⟩ => rfl
    | ⟨1, _⟩ => exact Nat.zero_add _))

theorem read2 (c : Dev nD) (t : Fin cfg0.N) (p : Fin 64) (k : Fin 2048) :
    (iblk m c 2 t : FVec Ideal S64x2048 .bf16) (ix2 p k) = hs m c (ix2 p k) :=
  congrArg (hs m c) (funext fun a => Fin.ext (by
    refine (win0_2.rect_emb_val_off t (ix2 p k) a).trans ?_
    rw [show win0_2.index t = _ from index2 t]
    match a with
    | ⟨0, _⟩ => exact Nat.zero_add _
    | ⟨1, _⟩ => exact Nat.zero_add _))

theorem read1 (c : Dev nD) (t : Fin cfg0.N) (q : Fin 1024) (k : Fin 2048) :
    (wblk m c t : FVec Ideal S1024x2048 .bf16) (ix2 q k) = wt m c (ix3 (0 : Fin 1) k ⟨1024 * (t.val / 5) + q.val, by have := q.isLt; have := t_lt t; omega⟩) := by
  refine Eq.trans ?_ (V_weight m c ⟨1024 * (t.val / 5) + q.val, by have := q.isLt; have := t_lt t; omega⟩ k)
  unfold wblk k0_pay1
  rw [shapeCast_self, truncf_apply, shapeCast_self]
  exact congrArg (V m c main_v1) (funext fun a => Fin.ext (by
    refine (win0_1.rect_emb_val_off t (ix2 q k) a).trans ?_
    rw [show win0_1.index t = _ from index1 t]
    match a with
    | ⟨0, _⟩ => rfl
    | ⟨1, _⟩ => exact Nat.zero_add _))

/-! ## The write-backs -/

/-- One block of the first result is the block of `outP`. -/
theorem flushed3 (c : Dev nD) (t : Fin cfg0.N) :
    (dats m 0 c).flushed 3 t = ((cfg0.win 3).blk t).view.read (Elt Ideal) (outP (hp m c) (wt m c)) := by
  show (cfg0.win 3).cut (grid0.coords t) ((dats m 0 c).after 3 t) = _
  rw [after_3]
  funext y
  obtain ⟨p, q, rfl⟩ : ∃ (p : Fin 2048) (q : Fin 1024), y = ix2 p q := ⟨y 0, y 1, eq_ix2 y⟩
  exact Proj.rows_inner (φ₁ := .bf16) (φ₂ := .bf16) (iblk m c 0 t) (wblk m c t) (hp m c) (wt m c) p q _ _ _ _
    (read0 m c t p) (read1 m c t q)
    ((win0_3.rect_emb_val_off t (ix2 p q) 0).trans (by rw [show win0_3.index t = _ from index3 t]; rfl))
    ((win0_3.rect_emb_val_off t (ix2 p q) 1).trans (by rw [show win0_3.index t = _ from index3 t]; exact congrArg (· + q.val) (Nat.mul_comm _ _)))

/-- And of the second. -/
theorem flushed4 (c : Dev nD) (t : Fin cfg0.N) :
    (dats m 0 c).flushed 4 t = ((cfg0.win 4).blk t).view.read (Elt Ideal) (outS (hs m c) (wt m c)) := by
  show (cfg0.win 4).cut (grid0.coords t) ((dats m 0 c).after 4 t) = _
  rw [after_4]
  funext y
  obtain ⟨p, q, rfl⟩ : ∃ (p : Fin 64) (q : Fin 1024), y = ix2 p q := ⟨y 0, y 1, eq_ix2 y⟩
  exact Proj.rows_inner (φ₁ := .bf16) (φ₂ := .bf16) (iblk m c 2 t) (wblk m c t) (hs m c) (wt m c) p q _ _ _ _
    (read2 m c t p) (read1 m c t q)
    ((win0_4.rect_emb_val_off t (ix2 p q) 0).trans (by rw [show win0_4.index t = _ from index4 t]; exact Nat.zero_add _))
    ((win0_4.rect_emb_val_off t (ix2 p q) 1).trans (by rw [show win0_4.index t = _ from index4 t]; exact congrArg (· + q.val) (Nat.mul_comm _ _)))

theorem xsize3 : ∀ t : Fin cfg0.N, (cfg0.win 3).xsize (grid0.coords t) = ![2048, 1024] :=
  (by decide +kernel : ∀ t : Fin grid0.N, win0_3.xsize (grid0.coords t) = ![2048, 1024])
theorem xsize4 : ∀ t : Fin cfg0.N, (cfg0.win 4).xsize (grid0.coords t) = ![64, 1024] :=
  (by decide +kernel : ∀ t : Fin grid0.N, win0_4.xsize (grid0.coords t) = ![64, 1024])

theorem arr3 (c : Dev nD) : (dats m 0 c).arrAt 3 cfg0.N = outP (hp m c) (wt m c) :=
  (dats m 0 c).arrAt_eq_of_cover 3 _ (fun t _ => flushed3 m c t) fun i => by
    have h0 : (i 0 : Nat) < 8192 := (i 0).isLt
    have h1 : (i 1 : Nat) < 5120 := (i 1).isLt
    let t : Fin cfg0.N := ⟨5 * ((i 1 : Nat) / 1024) + ((i 0 : Nat) / 2048 + 1), by rw [N_eq]; omega⟩
    have ht : t.val = 5 * ((i 1 : Nat) / 1024) + ((i 0 : Nat) / 2048 + 1) := rfl
    refine ⟨t, by rw [flush_3]; simp; omega, ?_⟩
    show i ∈ ((View.whole main_v2_0).slice (win0_3.rect t)).set
    rw [View.set_slice_whole, Rect.mem_set_unit]
    intro a
    show win0_3.index t a * _ ≤ _ ∧ _ < win0_3.index t a * _ + win0_3.xsize (grid0.coords t) a
    rw [show win0_3.index t = _ from index3 t, show win0_3.xsize (grid0.coords t) = _ from xsize3 t]
    match a with
    | ⟨0, _⟩ => show (t.val % 5 - 1) * 2048 ≤ (i 0 : Nat) ∧ (i 0 : Nat) < (t.val % 5 - 1) * 2048 + 2048; omega
    | ⟨1, _⟩ => show (t.val / 5) * 1024 ≤ (i 1 : Nat) ∧ (i 1 : Nat) < (t.val / 5) * 1024 + 1024; omega

theorem arr4 (c : Dev nD) : (dats m 0 c).arrAt 4 cfg0.N = outS (hs m c) (wt m c) :=
  (dats m 0 c).arrAt_eq_of_cover 4 _ (fun t _ => flushed4 m c t) fun i => by
    have h0 : (i 0 : Nat) < 64 := (i 0).isLt
    have h1 : (i 1 : Nat) < 5120 := (i 1).isLt
    let t : Fin cfg0.N := ⟨5 * ((i 1 : Nat) / 1024) + 4, by rw [N_eq]; omega⟩
    have ht : t.val = 5 * ((i 1 : Nat) / 1024) + 4 := rfl
    refine ⟨t, (flush0_4 t).mpr (by omega), ?_⟩
    show i ∈ ((View.whole main_v2_1).slice (win0_4.rect t)).set
    rw [View.set_slice_whole, Rect.mem_set_unit]
    intro a
    show win0_4.index t a * _ ≤ _ ∧ _ < win0_4.index t a * _ + win0_4.xsize (grid0.coords t) a
    rw [show win0_4.index t = _ from index4 t, show win0_4.xsize (grid0.coords t) = _ from xsize4 t]
    match a with
    | ⟨0, _⟩ => show 0 * 64 ≤ (i 0 : Nat) ∧ (i 0 : Nat) < 0 * 64 + 64; omega
    | ⟨1, _⟩ => show (t.val / 5) * 1024 ≤ (i 1 : Nat) ∧ (i 1 : Nat) < (t.val / 5) * 1024 + 1024; omega

/-! ## The reference -/

theorem ref_P (X : FVec Ideal S8192x2048 .bf16) (W : FVec Ideal S1x2048x9224 .f32) :
    Cert.RefQkvogIdeal.Read.val_main_v15 (F := Ideal) X W = outP X W := by
  funext i
  obtain ⟨r, n, rfl⟩ : ∃ (r : Fin 8192) (n : Fin 5120), i = ix2 r n := ⟨i 0, i 1, eq_ix2 i⟩
  refine Eq.trans (b := Cert.RefQkvogIdeal.Read.val_main_v2 (F := Ideal) X W (ix2 (n1 := 9224) r ⟨n, lt_trans n.isLt (by decide)⟩))
    (Proj.beside_apply (B := 1024) _ _ _ _ _ _
      Cert.RefQkvogIdeal.Gen.concatenates_S8192x1024_S8192x1024_S8192x1024_S8192x1024_S8192x1024_S8192x5120_d1 (by decide) (by decide)
      ?_ ?_ ?_ ?_ ?_ r n) (Proj.host_apply _ W _ r _) <;> intro r j
  all_goals exact extractStridedSlice_apply _ _ _ _ _ fun a => match a with | ⟨0, _⟩ => (Nat.zero_add _).symm | ⟨1, _⟩ => rfl

theorem ref_S (X : FVec Ideal S64x2048 .bf16) (W : FVec Ideal S1x2048x9224 .f32) :
    Cert.RefQkvogIdeal.Read.val_main_v31 (F := Ideal) X W = outS X W := by
  funext i
  obtain ⟨r, n, rfl⟩ : ∃ (r : Fin 64) (n : Fin 5120), i = ix2 r n := ⟨i 0, i 1, eq_ix2 i⟩
  refine Eq.trans (b := Cert.RefQkvogIdeal.Read.val_main_v18 (F := Ideal) X W (ix2 (n1 := 9224) r ⟨n, lt_trans n.isLt (by decide)⟩))
    (Proj.beside_apply (B := 1024) _ _ _ _ _ _
      Cert.RefQkvogIdeal.Gen.concatenates_S64x1024_S64x1024_S64x1024_S64x1024_S64x1024_S64x5120_d1 (by decide) (by decide)
      ?_ ?_ ?_ ?_ ?_ r n) (Proj.host_apply _ W _ r _) <;> intro r j
  all_goals exact extractStridedSlice_apply _ _ _ _ _ fun a => match a with | ⟨0, _⟩ => (Nat.zero_add _).symm | ⟨1, _⟩ => rfl

/-! ## The claims -/

/-- The kernel's run: the results at the products, the arguments unchanged. -/
theorem run_value : θ_run defs (onTc (τ := τ) (main (F := Ideal))) ⟨m, fun _ => 0, ρ⟩ (fun r => ∀ c : Dev nD,
      r.2.mem ((c.tc : Thread nD τ).loc main_v2_0) = outP (hp m c) (wt m c)
      ∧ r.2.mem ((c.tc : Thread nD τ).loc main_v2_1) = outS (hs m c) (wt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 3).trans (arr3 m c), ((h.1.1 c).1 4).trans (arr4 m c), h.2.1 c⟩)
    (θ_run_and (run_main m ρ) (frame m ρ))

theorem algebraic : Cert.algebraic_QkvogIdeal_RefQkvogIdeal := fun m g m' g' _ hagree =>
  ⟨fun c => outP (hp m c) (wt m c), fun c => outS (hs m c) (wt m c), run_value m g,
    (θ_run Cert.RefQkvogIdeal.defs _ _).mono (fun _ h c => by
      obtain ⟨h1, h2, h3⟩ := h c
      obtain ⟨a0, a1, a2⟩ := hagree c
      refine ⟨h1.trans ((Cert.RefQkvogIdeal.Read.val_main_v15_eq _ _).trans ?_), h2.trans ((Cert.RefQkvogIdeal.Read.val_main_v31_eq _ _).trans ?_), h3⟩
      · rw [a0, a2]; exact ref_P _ _
      · rw [a1, a2]; exact ref_S _ _) (Cert.RefQkvogIdeal.Value.run (F := Ideal) m' g')⟩

/-- The program as printed and its idealization have one body, label by label. -/
theorem defs_eq {F : FTy → Type} [FloatOps F] : Cert.Qkvog.defs (F := F) = Cert.QkvogIdeal.defs :=
  congrArg (Pipeline.defs Cert.QkvogIdeal.pcfgs) (by
    unfold Cert.Qkvog.defs₀ Cert.QkvogIdeal.defs₀
    congr 1
    funext l a
    match l, a with
    | 0, (t, s) => rfl)

/-- So the printed program's run is the same run, at the machine's numbers. -/
theorem frame_kernel : Cert.quiescent_Qkvog := fun m ρ _ => by
  rw [defs_eq]; exact frame (F := Bits) m ρ

theorem frame_ideal : Cert.quiescent_QkvogIdeal := fun m ρ _ => frame (F := Ideal) m ρ

theorem frame_ref : Cert.quiescent_RefQkvogIdeal := fun m ρ _ =>
  (θ_run Cert.RefQkvogIdeal.defs _ _).mono (fun r h => ⟨fun c => (h c).2.2, sem_eq_zero_of_no_sems (by decide) r.2⟩)
    (Cert.RefQkvogIdeal.Value.run (F := Ideal) m ρ)

end Cert.QkvogIdeal.Body

end
-- ==== Proof.Heads.lean ====
/- A block of heads side by side stored head by head: head `h` of row `r` goes to row `8 r + h`, by a store of stride 8. -/
module

public import proofs.«01_k».proof.Proof.Common
public import Idealize.ShloMosaic.Lib.ValueIdx

@[expose] public section

set_option maxRecDepth 16384

namespace Proj

open Idealize.ShloMosaic Idealize.ShloMosaic.ValueIdx

/-- The heads of a row, one below the other: row `r` of the result is head `r mod 8` of row `r / 8`. -/
def heads {α : Type} {n N : ℕ} (hN : N = 8 * n) (y : (⟨2, ![n, 1024]⟩ : Shape).Idx → α) : (⟨2, ![N, 128]⟩ : Shape).Idx → α := fun i =>
  y (ix2 ⟨(i 0).val / 8, by have h : (i 0).val < N := (i 0).isLt; omega⟩
    ⟨(i 0).val % 8 * 128 + (i 1).val, by have h : (i 1).val < 128 := (i 1).isLt; omega⟩)

/-- It is the rows read off in order, 128 at a time. -/
theorem heads_cast {α : Type} {n N : ℕ} (hN : N = 8 * n) (y : (⟨2, ![n, 1024]⟩ : Shape).Idx → α)
    (h : (⟨2, ![n, 1024]⟩ : Shape).ShapeCasts ⟨2, ![N, 128]⟩) : shapeCast ⟨2, ![N, 128]⟩ y h = heads hN y :=
  funext fun i => shapeCast_apply y h i _ (by
    rw [Shape.rowMajor_val_two, Shape.rowMajor_val_two]
    have h1 : (i 1).val < 128 := (i 1).isLt
    show (i 0).val / 8 * 1024 + ((i 0).val % 8 * 128 + (i 1).val) = (i 0).val * 128 + (i 1).val
    omega)

/-- Which rows head `h` is stored to. -/
abbrev headRect {N : ℕ} (n h : ℕ)
    (inb : ∀ a, (![n, 128] : Fin 2 → ℕ) a = 0 ∨ (![h, 0] : Fin 2 → ℕ) a + (![8, 1] : Fin 2 → ℕ) a * ((![n, 128] : Fin 2 → ℕ) a - 1) < (![N, 128] : Fin 2 → ℕ) a)
    (pos : ∀ a, 0 < (![8, 1] : Fin 2 → ℕ) a) : Rect (⟨2, ![N, 128]⟩ : Shape) :=
  ⟨⟨![h, 0], ![n, 128], ![8, 1], inb⟩, pos⟩

theorem pos_8_1 : ∀ a, 0 < (![8, 1] : Fin 2 → ℕ) a := by decide

theorem head_inb {n N h : ℕ} (hN : N = 8 * n) (hh : h < 8) (a : Fin 2) : (![n, 128] : Fin 2 → ℕ) a = 0
    ∨ (![h, 0] : Fin 2 → ℕ) a + (![8, 1] : Fin 2 → ℕ) a * ((![n, 128] : Fin 2 → ℕ) a - 1) < (![N, 128] : Fin 2 → ℕ) a :=
  match a with
  | ⟨0, _⟩ => by show n = 0 ∨ h + 8 * (n - 1) < N; omega
  | ⟨1, _⟩ => by show 128 = 0 ∨ 0 + 1 * (128 - 1) < 128; omega

theorem head_slices {n h o : ℕ} (ho : o = 128 * h) (hh : h < 8) : (⟨2, ![n, 1024]⟩ : Shape).Slices ![0, o] ⟨2, ![n, 128]⟩ :=
  ⟨rfl, fun a => match a with
    | ⟨0, _⟩ => by show 0 + n ≤ n; omega
    | ⟨1, _⟩ => by show o + 128 ≤ 1024; omega⟩

/-- What is stored of head `h` is what `heads` has there. -/
theorem heads_emb {α : Type} {n N : ℕ} (hN : N = 8 * n) (y : (⟨2, ![n, 1024]⟩ : Shape).Idx → α) (h : ℕ) (hh : h < 8) (o : ℕ) (ho : o = 128 * h)
    (hs : (⟨2, ![n, 1024]⟩ : Shape).Slices ![0, o] ⟨2, ![n, 128]⟩) (inb) (pos) (x : (⟨2, ![n, 128]⟩ : Shape).Idx) :
    extractStridedSlice ⟨2, ![n, 128]⟩ ![0, o] y hs x = heads hN y ((headRect (N := N) n h inb pos).emb x) := by
  have h1 : (x 1).val < 128 := (x 1).isLt
  refine extractStridedSlice_apply _ _ _ _ _ fun a => ?_
  match a with
  | ⟨0, _⟩ =>
    show ((headRect (N := N) n h inb pos).emb x 0).val / 8 = 0 + (x 0).val
    rw [Rect.emb_apply]; show (h + 8 * (x 0).val) / 8 = _; omega
  | ⟨1, _⟩ =>
    show ((headRect (N := N) n h inb pos).emb x 0).val % 8 * 128 + ((headRect (N := N) n h inb pos).emb x 1).val = o + (x 1).val
    rw [Rect.emb_apply, Rect.emb_apply]; show (h + 8 * (x 0).val) % 8 * 128 + (0 + 1 * (x 1).val) = _; omega

/-- A row of the result belongs to the head of its remainder. -/
theorem mem_headRect {n N : ℕ} (hN : N = 8 * n) (z : (⟨2, ![N, 128]⟩ : Shape).Idx) (h : ℕ) (hz : (z 0).val % 8 = h) (inb) (pos) :
    z ∈ (headRect (N := N) n h inb pos).set := by
  have h0 : (z 0).val < N := (z 0).isLt
  have h1 : (z 1).val < 128 := (z 1).isLt
  refine (LoadRect.mem_set _).mpr fun a => ?_
  match a with
  | ⟨0, _⟩ => exact ⟨(z 0).val / 8, (by omega : (z 0).val / 8 < n), (by omega : (z 0).val = h + 8 * ((z 0).val / 8))⟩
  | ⟨1, _⟩ => exact ⟨(z 1).val, h1, (by omega : (z 1).val = 0 + 1 * (z 1).val)⟩

section Stored

variable {sig : RefSig} {κ : Kind} {sp : Space} {e : EltTy} {Val : EltTy → Type}

/-- What a buffer reads after stores that fill it, each of them a part of one block. -/
theorem read_parts [∀ e, Nonempty (Val e)] {S : Shape} (v : View sig κ sp S e) (f : v.ty.Contents Val) (L : List (View.Piece Val S e))
    (G : S.Idx → Val e) (hG : ∀ p ∈ L, ∀ x, p.2 x = G (p.1.emb x)) (hc : ∀ y, ∃ p ∈ L, y ∈ p.1.set) :
    v.read Val (v.writes Val f L) = G :=
  (View.read_writes_eq_canon v f L hc).trans (funext fun y => View.canon_apply_of_pieces G L hG y (hc y))

/-- What is stored of one head. -/
abbrev headPiece {n N : ℕ} (hN : N = 8 * n) (y : (⟨2, ![n, 1024]⟩ : Shape).Idx → Val e) (h o : ℕ) (hh : h < 8) (ho : o = 128 * h) :
    View.Piece Val (⟨2, ![N, 128]⟩ : Shape) e :=
  ⟨headRect n h (head_inb hN hh) pos_8_1, extractStridedSlice ⟨2, ![n, 128]⟩ ![0, o] y (head_slices ho hh)⟩

/-- What a buffer reads after the eight heads of a block are stored to it. -/
theorem read_heads [∀ e, Nonempty (Val e)] {n N : ℕ} (hN : N = 8 * n) (v : View sig κ sp (⟨2, ![N, 128]⟩ : Shape) e) (f : v.ty.Contents Val)
    (y : (⟨2, ![n, 1024]⟩ : Shape).Idx → Val e) :
    v.read Val (v.writes Val f [headPiece hN y 7 896 (by decide) rfl, headPiece hN y 6 768 (by decide) rfl, headPiece hN y 5 640 (by decide) rfl,
      headPiece hN y 4 512 (by decide) rfl, headPiece hN y 3 384 (by decide) rfl, headPiece hN y 2 256 (by decide) rfl,
      headPiece hN y 1 128 (by decide) rfl, headPiece hN y 0 0 (by decide) rfl]) = heads hN y := by
  have part := fun h hh => heads_emb hN y h hh (128 * h) rfl (head_slices rfl hh) (head_inb hN hh) pos_8_1
  refine read_parts v f _ _ (fun p hp x => ?_) fun z => ?_
  · simp only [List.mem_cons, List.not_mem_nil, or_false] at hp
    rcases hp with rfl | rfl | rfl | rfl | rfl | rfl | rfl | rfl
    exacts [part 7 (by decide) x, part 6 (by decide) x, part 5 (by decide) x, part 4 (by decide) x,
      part 3 (by decide) x, part 2 (by decide) x, part 1 (by decide) x, part 0 (by decide) x]
  · have hz : (z 0).val % 8 < 8 := Nat.mod_lt _ (by decide)
    simp only [List.exists_mem_cons_iff, List.not_mem_nil]
    rcases (by omega : (z 0).val % 8 = 0 ∨ (z 0).val % 8 = 1 ∨ (z 0).val % 8 = 2 ∨ (z 0).val % 8 = 3 ∨ (z 0).val % 8 = 4
        ∨ (z 0).val % 8 = 5 ∨ (z 0).val % 8 = 6 ∨ (z 0).val % 8 = 7) with h | h | h | h | h | h | h | h
    all_goals
      have := fun b => mem_headRect hN z _ h b pos_8_1
      simp only [this, true_or, or_true]

end Stored

end Proj
-- ==== Proof.KProjValue.lean ====
/- What the key projection of an attention layer computes: its four results are the activations times the layer's 1024 key columns,
   as rows and head by head, as the reference's. -/
module

public import proofs.«01_k».proof.Proof.KProjBody
public import proofs.«01_k».proof.Proof.Product
public import proofs.«01_k».proof.Proof.Gen.KProj
public import proofs.«01_k».proof.Proof.Gen.RefKProjIdeal.Run
public import proofs.«01_k».proof.Proof.Gen.RefKProjIdeal.Read
public import proofs.«01_k».proof.Defs

@[expose] public section

set_option maxRecDepth 16384

noncomputable section

namespace Cert.KProjIdeal.Body

open Idealize.ShloMosaic Idealize.ShloMosaic.TcCoe Idealize.ShloMosaic.ValueIdx Idealize.SL.Sem
open Idealize.ShloMosaic.Pipeline (Dat Cfg Window)
open Cert.KProjIdeal.Gen

variable (m : (ℓ : Loc nD τ sig) → Buf (Elt Ideal) ℓ) (ρ : Dev nD → PrngReg)

/-- The launch contents of the three arguments. -/
abbrev hp (c : Dev nD) : FVec Ideal S8192x2048 .bf16 := m ((c.tc : Thread nD τ).loc main_arg0)
abbrev hs (c : Dev nD) : FVec Ideal S64x2048 .bf16 := m ((c.tc : Thread nD τ).loc main_arg1)
abbrev wt (c : Dev nD) : FVec Ideal S1x2048x9224 .f32 := m ((c.tc : Thread nD τ).loc main_arg2)

/-- The results: the key columns of each group's product, and their heads one below the other. -/
abbrev outP (X : FVec Ideal S8192x2048 .bf16) (W : FVec Ideal S1x2048x9224 .f32) : FVec Ideal S8192x1024 .bf16 := Proj.cols 6152 1024 (by decide) X W
abbrev outS (X : FVec Ideal S64x2048 .bf16) (W : FVec Ideal S1x2048x9224 .f32) : FVec Ideal S64x1024 .bf16 := Proj.cols 6152 1024 (by decide) X W
abbrev outPh (X : FVec Ideal S8192x2048 .bf16) (W : FVec Ideal S1x2048x9224 .f32) : FVec Ideal S65536x128 .f32 := Proj.heads (n := 8192) rfl (outP X W)
abbrev outSh (X : FVec Ideal S64x2048 .bf16) (W : FVec Ideal S1x2048x9224 .f32) : FVec Ideal S512x128 .f32 := Proj.heads (n := 64) rfl (outS X W)

/-! ## The blocks read -/

theorem V_weight (c : Dev nD) (n : Fin 9224) (k : Fin 2048) : V m c main_v1 (ix2 n k) = wt m c (ix3 (0 : Fin 1) k n) := by
  have : V m c main_v1 = transpose S9224x2048 [1, 0] (shapeCast S2048x9224 (wt m c) shapeCasts_S1x2048x9224_S2048x9224)
      transposes_S2048x9224_S9224x2048_1_0 := by
    show StableHlo.after hostOps0 _ main_v1 = _
    after_results_simp <;> rfl
  rw [this]; exact Proj.turned_apply _ _ _ n k

/-- Where each window's block starts. -/
theorem index0 : ∀ t : Fin cfg0.N, (cfg0.win 0).index t = ![t.val - 1, 0] :=
  (by decide +kernel : ∀ t : Fin grid0.N, win0_0.index t = ![t.val - 1, 0])
theorem index1 : ∀ t : Fin cfg0.N, (cfg0.win 1).index t = ![6152, 0] :=
  (by decide +kernel : ∀ t : Fin grid0.N, win0_1.index t = ![6152, 0])
theorem index2 : ∀ t : Fin cfg0.N, (cfg0.win 2).index t = ![0, 0] :=
  (by decide +kernel : ∀ t : Fin grid0.N, win0_2.index t = ![0, 0])
theorem index3 : ∀ t : Fin cfg0.N, (cfg0.win 3).index t = ![t.val - 1, 0] :=
  (by decide +kernel : ∀ t : Fin grid0.N, win0_3.index t = ![t.val - 1, 0])
theorem index4 : ∀ t : Fin cfg0.N, (cfg0.win 4).index t = ![t.val - 1, 0] :=
  (by decide +kernel : ∀ t : Fin grid0.N, win0_4.index t = ![t.val - 1, 0])
theorem index5 : ∀ t : Fin cfg0.N, (cfg0.win 5).index t = ![0, 0] :=
  (by decide +kernel : ∀ t : Fin grid0.N, win0_5.index t = ![0, 0])
theorem index6 : ∀ t : Fin cfg0.N, (cfg0.win 6).index t = ![0, 0] :=
  (by decide +kernel : ∀ t : Fin grid0.N, win0_6.index t = ![0, 0])

theorem t_lt (t : Fin cfg0.N) : t.val < 9 := lt_of_lt_of_eq t.isLt N_eq

theorem read0 (c : Dev nD) (t : Fin cfg0.N) (p : Fin 1024) (k : Fin 2048) :
    (iblk m c 0 t : FVec Ideal S1024x2048 .bf16) (ix2 p k)
      = hp m c (ix2 (n0 := 8192) ⟨(t.val - 1) * 1024 + p.val, by have := p.isLt; have := t_lt t; omega⟩ k) :=
  congrArg (hp m c) (funext fun a => Fin.ext (by
    refine (win0_0.rect_emb_val_off t (ix2 p k) a).trans ?_
    rw [show win0_0.index t = _ from index0 t]
    match a with
    | ⟨0, _⟩ => rfl
    | ⟨1, _⟩ => exact Nat.zero_add _))

theorem read2 (c : Dev nD) (t : Fin cfg0.N) (p : Fin 64) (k : Fin 2048) :
    (iblk m c 2 t : FVec Ideal S64x2048 .bf16) (ix2 p k) = hs m c (ix2 p k) :=
  congrArg (hs m c) (funext fun a => Fin.ext (by
    refine (win0_2.rect_emb_val_off t (ix2 p k) a).trans ?_
    rw [show win0_2.index t = _ from index2 t]
    match a with
    | ⟨0, _⟩ => exact Nat.zero_add _
    | ⟨1, _⟩ => exact Nat.zero_add _))

theorem read1 (c : Dev nD) (t : Fin cfg0.N) (q : Fin 1024) (k : Fin 2048) :
    (wblk m c t : FVec Ideal S1024x2048 .bf16) (ix2 q k) = wt m c (ix3 (0 : Fin 1) k ⟨6152 + q.val, by have := q.isLt; omega⟩) := by
  refine Eq.trans ?_ (V_weight m c ⟨6152 + q.val, by have := q.isLt; omega⟩ k)
  unfold wblk k0_pay1
  rw [shapeCast_self, truncf_apply, shapeCast_self]
  exact congrArg (V m c main_v1) (funext fun a => Fin.ext (by
    refine (win0_1.rect_emb_val_off t (ix2 q k) a).trans ?_
    rw [show win0_1.index t = _ from index1 t]
    match a with
    | ⟨0, _⟩ => rfl
    | ⟨1, _⟩ => exact Nat.zero_add _))

/-! ## The products -/

/-- An entry of a tile's product is one of the first group's. -/
theorem prod_P (c : Dev nD) (t : Fin cfg0.N) (p q : Fin 1024) (i : S8192x1024.Idx) (h0 : (i 0).val = (t.val - 1) * 1024 + p.val)
    (h1 : (i 1).val = q.val) : k0_pay12 (F := Ideal) (iblk m c 0 t) (wblk m c t) (ix2 p q) = outP (hp m c) (wt m c) i :=
  Proj.rows_inner (φ₁ := .bf16) (φ₂ := .bf16) (iblk m c 0 t) (wblk m c t) (hp m c) (wt m c) p q _ _ _ _
    (read0 m c t p) (read1 m c t q) h0 (congrArg (6152 + ·) h1)

/-- And of the second group's. -/
theorem prod_S (c : Dev nD) (t : Fin cfg0.N) (p : Fin 64) (q : Fin 1024) (i : S64x1024.Idx) (h0 : (i 0).val = p.val)
    (h1 : (i 1).val = q.val) : k0_pay2 (F := Ideal) (iblk m c 2 t) (wblk m c t) (ix2 p q) = outS (hs m c) (wt m c) i :=
  Proj.rows_inner (φ₁ := .bf16) (φ₂ := .bf16) (iblk m c 2 t) (wblk m c t) (hs m c) (wt m c) p q _ _ _ _
    (read2 m c t p) (read1 m c t q) h0 (congrArg (6152 + ·) h1)

/-! ## The write-backs -/

theorem flushed3 (c : Dev nD) (t : Fin cfg0.N) :
    (dats m 0 c).flushed 3 t = ((cfg0.win 3).blk t).view.read (Elt Ideal) (outPh (hp m c) (wt m c)) := by
  show (cfg0.win 3).cut (grid0.coords t) ((dats m 0 c).after 3 t) = _
  rw [after_3]
  funext y
  have e0 := win0_3.rect_emb_val_off t y 0
  have e1 := win0_3.rect_emb_val_off t y 1
  rw [show win0_3.index t = _ from index3 t] at e0 e1
  replace e0 : ((win0_3.rect t).emb y 0).val = (t.val - 1) * 8192 + (y 0).val := e0
  replace e1 : ((win0_3.rect t).emb y 1).val = 0 * 128 + (y 1).val := e1
  refine prod_P m c t _ _ _ ?_ ?_
  · show ((win0_3.rect t).emb y 0).val / 8 = (t.val - 1) * 1024 + (y 0).val / 8; omega
  · show ((win0_3.rect t).emb y 0).val % 8 * 128 + ((win0_3.rect t).emb y 1).val = (y 0).val % 8 * 128 + (y 1).val; omega

theorem flushed4 (c : Dev nD) (t : Fin cfg0.N) :
    (dats m 0 c).flushed 4 t = ((cfg0.win 4).blk t).view.read (Elt Ideal) (outP (hp m c) (wt m c)) := by
  show (cfg0.win 4).cut (grid0.coords t) ((dats m 0 c).after 4 t) = _
  rw [after_4]
  funext y
  obtain ⟨p, q, rfl⟩ : ∃ (p : Fin 1024) (q : Fin 1024), y = ix2 p q := ⟨y 0, y 1, eq_ix2 y⟩
  exact prod_P m c t p q _
    ((win0_4.rect_emb_val_off t (ix2 p q) 0).trans (by rw [show win0_4.index t = _ from index4 t]; rfl))
    ((win0_4.rect_emb_val_off t (ix2 p q) 1).trans (by rw [show win0_4.index t = _ from index4 t]; exact Nat.zero_add _))

theorem flushed5 (c : Dev nD) (t : Fin cfg0.N) :
    (dats m 0 c).flushed 5 t = ((cfg0.win 5).blk t).view.read (Elt Ideal) (outSh (hs m c) (wt m c)) := by
  show (cfg0.win 5).cut (grid0.coords t) ((dats m 0 c).after 5 t) = _
  rw [after_5]
  funext y
  have e0 := win0_5.rect_emb_val_off t y 0
  have e1 := win0_5.rect_emb_val_off t y 1
  rw [show win0_5.index t = _ from index5 t] at e0 e1
  replace e0 : ((win0_5.rect t).emb y 0).val = 0 * 512 + (y 0).val := e0
  replace e1 : ((win0_5.rect t).emb y 1).val = 0 * 128 + (y 1).val := e1
  refine prod_S m c t _ _ _ ?_ ?_
  · show ((win0_5.rect t).emb y 0).val / 8 = (y 0).val / 8; omega
  · show ((win0_5.rect t).emb y 0).val % 8 * 128 + ((win0_5.rect t).emb y 1).val = (y 0).val % 8 * 128 + (y 1).val; omega

theorem flushed6 (c : Dev nD) (t : Fin cfg0.N) :
    (dats m 0 c).flushed 6 t = ((cfg0.win 6).blk t).view.read (Elt Ideal) (outS (hs m c) (wt m c)) := by
  show (cfg0.win 6).cut (grid0.coords t) ((dats m 0 c).after 6 t) = _
  rw [after_6]
  funext y
  obtain ⟨p, q, rfl⟩ : ∃ (p : Fin 64) (q : Fin 1024), y = ix2 p q := ⟨y 0, y 1, eq_ix2 y⟩
  exact prod_S m c t p q _
    ((win0_6.rect_emb_val_off t (ix2 p q) 0).trans (by rw [show win0_6.index t = _ from index6 t]; exact Nat.zero_add _))
    ((win0_6.rect_emb_val_off t (ix2 p q) 1).trans (by rw [show win0_6.index t = _ from index6 t]; exact Nat.zero_add _))

/-! ## The arrays at the end -/

theorem xsizes : ∀ t : Fin cfg0.N, (cfg0.win 3).xsize (grid0.coords t) = ![8192, 128] ∧ (cfg0.win 4).xsize (grid0.coords t) = ![1024, 1024]
    ∧ (cfg0.win 5).xsize (grid0.coords t) = ![512, 128] ∧ (cfg0.win 6).xsize (grid0.coords t) = ![64, 1024] :=
  (by decide +kernel : ∀ t : Fin grid0.N, win0_3.xsize (grid0.coords t) = ![8192, 128] ∧ win0_4.xsize (grid0.coords t) = ![1024, 1024]
    ∧ win0_5.xsize (grid0.coords t) = ![512, 128] ∧ win0_6.xsize (grid0.coords t) = ![64, 1024])

theorem arr3 (c : Dev nD) : (dats m 0 c).arrAt 3 cfg0.N = outPh (hp m c) (wt m c) :=
  (dats m 0 c).arrAt_eq_of_cover 3 _ (fun t _ => flushed3 m c t) fun i => by
    have h0 : (i 0 : Nat) < 65536 := (i 0).isLt
    have h1 : (i 1 : Nat) < 128 := (i 1).isLt
    let t : Fin cfg0.N := ⟨(i 0 : Nat) / 8192 + 1, by rw [N_eq]; omega⟩
    have ht : t.val = (i 0 : Nat) / 8192 + 1 := rfl
    refine ⟨t, by rw [(flushes t).1]; simp [ht], ?_⟩
    show i ∈ ((View.whole main_v2_0).slice (win0_3.rect t)).set
    rw [View.set_slice_whole, Rect.mem_set_unit]
    intro a
    show win0_3.index t a * _ ≤ _ ∧ _ < win0_3.index t a * _ + win0_3.xsize (grid0.coords t) a
    rw [show win0_3.index t = _ from index3 t, show win0_3.xsize (grid0.coords t) = _ from (xsizes t).1]
    match a with
    | ⟨0, _⟩ => show (t.val - 1) * 8192 ≤ (i 0 : Nat) ∧ (i 0 : Nat) < (t.val - 1) * 8192 + 8192; omega
    | ⟨1, _⟩ => show 0 * 128 ≤ (i 1 : Nat) ∧ (i 1 : Nat) < 0 * 128 + 128; omega

theorem arr4 (c : Dev nD) : (dats m 0 c).arrAt 4 cfg0.N = outP (hp m c) (wt m c) :=
  (dats m 0 c).arrAt_eq_of_cover 4 _ (fun t _ => flushed4 m c t) fun i => by
    have h0 : (i 0 : Nat) < 8192 := (i 0).isLt
    have h1 : (i 1 : Nat) < 1024 := (i 1).isLt
    let t : Fin cfg0.N := ⟨(i 0 : Nat) / 1024 + 1, by rw [N_eq]; omega⟩
    have ht : t.val = (i 0 : Nat) / 1024 + 1 := rfl
    refine ⟨t, by rw [(flushes t).2.1]; simp [ht], ?_⟩
    show i ∈ ((View.whole main_v2_1).slice (win0_4.rect t)).set
    rw [View.set_slice_whole, Rect.mem_set_unit]
    intro a
    show win0_4.index t a * _ ≤ _ ∧ _ < win0_4.index t a * _ + win0_4.xsize (grid0.coords t) a
    rw [show win0_4.index t = _ from index4 t, show win0_4.xsize (grid0.coords t) = _ from (xsizes t).2.1]
    match a with
    | ⟨0, _⟩ => show (t.val - 1) * 1024 ≤ (i 0 : Nat) ∧ (i 0 : Nat) < (t.val - 1) * 1024 + 1024; omega
    | ⟨1, _⟩ => show 0 * 1024 ≤ (i 1 : Nat) ∧ (i 1 : Nat) < 0 * 1024 + 1024; omega

/-- The last point, which writes the second group's results back. -/
abbrev last : Fin cfg0.N := ⟨8, by rw [N_eq]; decide⟩

theorem arr5 (c : Dev nD) : (dats m 0 c).arrAt 5 cfg0.N = outSh (hs m c) (wt m c) :=
  (dats m 0 c).arrAt_eq_of_cover 5 _ (fun t _ => flushed5 m c t) fun i => by
    refine ⟨last, (flushes last).2.2.1, ?_⟩
    show i ∈ ((View.whole main_v2_2).slice (win0_5.rect last)).set
    rw [View.set_slice_whole, Rect.mem_set_unit]
    intro a
    show win0_5.index last a * _ ≤ _ ∧ _ < win0_5.index last a * _ + win0_5.xsize (grid0.coords last) a
    rw [show win0_5.index last = _ from index5 last, show win0_5.xsize (grid0.coords last) = _ from (xsizes last).2.2.1]
    match a with
    | ⟨0, _⟩ => exact ⟨Nat.zero_le _, (i 0).isLt⟩
    | ⟨1, _⟩ => exact ⟨Nat.zero_le _, (i 1).isLt⟩

theorem arr6 (c : Dev nD) : (dats m 0 c).arrAt 6 cfg0.N = outS (hs m c) (wt m c) :=
  (dats m 0 c).arrAt_eq_of_cover 6 _ (fun t _ => flushed6 m c t) fun i => by
    refine ⟨last, (flushes last).2.2.2, ?_⟩
    show i ∈ ((View.whole main_v2_3).slice (win0_6.rect last)).set
    rw [View.set_slice_whole, Rect.mem_set_unit]
    intro a
    show win0_6.index last a * _ ≤ _ ∧ _ < win0_6.index last a * _ + win0_6.xsize (grid0.coords last) a
    rw [show win0_6.index last = _ from index6 last, show win0_6.xsize (grid0.coords last) = _ from (xsizes last).2.2.2]
    match a with
    | ⟨0, _⟩ => exact ⟨Nat.zero_le _, (i 0).isLt⟩
    | ⟨1, _⟩ => exact ⟨Nat.zero_le _, (i 1).isLt⟩

/-! ## The reference -/

theorem ref_P (X : FVec Ideal S8192x2048 .bf16) (W : FVec Ideal S1x2048x9224 .f32) :
    Cert.RefKProjIdeal.Read.val_main_v11 (F := Ideal) X W = outP X W :=
  funext fun i => (extractStridedSlice_apply _ _ _ i (ix2 (i 0) ⟨6152 + (i 1).val, by have h1 : (i 1).val < 1024 := (i 1).isLt; omega⟩)
    fun a => match a with | ⟨0, _⟩ => (Nat.zero_add _).symm | ⟨1, _⟩ => rfl).trans (Proj.host_apply _ W _ _ _)

theorem ref_S (X : FVec Ideal S64x2048 .bf16) (W : FVec Ideal S1x2048x9224 .f32) :
    Cert.RefKProjIdeal.Read.val_main_v27 (F := Ideal) X W = outS X W :=
  funext fun i => (extractStridedSlice_apply _ _ _ i (ix2 (i 0) ⟨6152 + (i 1).val, by have h1 : (i 1).val < 1024 := (i 1).isLt; omega⟩)
    fun a => match a with | ⟨0, _⟩ => (Nat.zero_add _).symm | ⟨1, _⟩ => rfl).trans (Proj.host_apply _ W _ _ _)

/-! ## The claims -/

/-- The kernel's run: the results at the products, the arguments unchanged. -/
theorem run_value : θ_run defs (onTc (τ := τ) (main (F := Ideal))) ⟨m, fun _ => 0, ρ⟩ (fun r => ∀ c : Dev nD,
      r.2.mem ((c.tc : Thread nD τ).loc main_v2_0) = outPh (hp m c) (wt m c)
      ∧ r.2.mem ((c.tc : Thread nD τ).loc main_v2_1) = outP (hp m c) (wt m c)
      ∧ r.2.mem ((c.tc : Thread nD τ).loc main_v2_2) = outSh (hs m c) (wt m c)
      ∧ r.2.mem ((c.tc : Thread nD τ).loc main_v2_3) = outS (hs m c) (wt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 3).trans (arr3 m c), ((h.1.1 c).1 4).trans (arr4 m c),
    ((h.1.1 c).1 5).trans (arr5 m c), ((h.1.1 c).1 6).trans (arr6 m c), h.2.1 c⟩)
    (θ_run_and (run_main m ρ) (frame m ρ))

theorem algebraic : Cert.algebraic_KProjIdeal_RefKProjIdeal := fun m g m' g' _ hagree =>
  ⟨fun c => outPh (hp m c) (wt m c), fun c => outP (hp m c) (wt m c), fun c => outSh (hs m c) (wt m c), fun c => outS (hs m c) (wt m c), run_value m g,
    (θ_run Cert.RefKProjIdeal.defs _ _).mono (fun _ h c => by
      obtain ⟨h1, h2, h3, h4, h5⟩ := h c
      obtain ⟨a0, a1, a2⟩ := hagree c
      refine ⟨h1.trans ((Cert.RefKProjIdeal.Read.val_main_v14_eq _ _).trans ?_), h2.trans ((Cert.RefKProjIdeal.Read.val_main_v15_eq _ _).trans ?_),
        h3.trans ((Cert.RefKProjIdeal.Read.val_main_v30_eq _ _).trans ?_), h4.trans ((Cert.RefKProjIdeal.Read.val_main_v31_eq _ _).trans ?_), h5⟩
      · rw [a0, a2]; exact (congrArg (shapeCast _ · _) (ref_P _ _)).trans (Proj.heads_cast _ _ _)
      · rw [a0, a2]; exact ref_P _ _
      · rw [a1, a2]; exact (congrArg (shapeCast _ · _) (ref_S _ _)).trans (Proj.heads_cast _ _ _)
      · rw [a1, a2]; exact ref_S _ _) (Cert.RefKProjIdeal.Value.run (F := Ideal) m' g')⟩

/-- The program as printed and its idealization have one body, label by label. -/
theorem defs_eq {F : FTy → Type} [FloatOps F] : Cert.KProj.defs (F := F) = Cert.KProjIdeal.defs :=
  congrArg (Pipeline.defs Cert.KProjIdeal.pcfgs) (by
    unfold Cert.KProj.defs₀ Cert.KProjIdeal.defs₀
    congr 1
    funext l a
    match l, a with
    | 0, (t, s) => rfl)

/-- So the printed program's run is the same run, at the machine's numbers. -/
theorem frame_kernel : Cert.quiescent_KProj := fun m ρ _ => by
  rw [defs_eq]; exact frame (F := Bits) m ρ

theorem frame_ideal : Cert.quiescent_KProjIdeal := fun m ρ _ => frame (F := Ideal) m ρ

theorem frame_ref : Cert.quiescent_RefKProjIdeal := fun m ρ _ =>
  (θ_run Cert.RefKProjIdeal.defs _ _).mono (fun r h => ⟨fun c => (h c).2.2.2.2, sem_eq_zero_of_no_sems (by decide) r.2⟩)
    (Cert.RefKProjIdeal.Value.run (F := Ideal) m ρ)

end Cert.KProjIdeal.Body

end
-- ==== Proof.VProjBody.lean ====
/- The value projection: the key projection's kernel at the weight's next 1024 columns. What does not depend on the columns is taken
   from the key projection; the body is run again, as it is another program. -/
module

public import proofs.«01_k».proof.Proof.Gen.VProjIdeal.Frame
public import proofs.«01_k».proof.Proof.Gen.VProjIdeal.Skeleton
public import proofs.«01_k».proof.Proof.KProjBody
public import Idealize.ShloMosaic.Lib.Claim

@[expose] public section

set_option maxRecDepth 16384

noncomputable section

namespace Cert.VProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.VProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch's condition, at the first point of the grid. -/
abbrev cond1 (i : grid0.Coords) : Prop := Cert.KProjIdeal.Body.cond1 i

/-- The product of a block of rows, its heads one below the other. -/
abbrev headsP (x w : Vec F S1024x2048 .bf16) : Vec F S8192x128 .f32 := Cert.KProjIdeal.Body.headsP x w
abbrev headsS (x : Vec F S64x2048 .bf16) (w : Vec F S1024x2048 .bf16) : Vec F S512x128 .f32 := Cert.KProjIdeal.Body.headsS x w

/-- The weight block and the second group's results, at the first point. -/
theorem run_first (c : Dev nD) (i : grid0.Coords) (arg1 : Memref sig .tc .vmem S1024x2048 .bf16) (harg1 : arg1.IsWhole)
    (arg2 : Memref sig .tc .vmem S1024x2048 .f32) (harg2 : arg2.IsWhole) (arg3 : Memref sig .tc .vmem S64x2048 .bf16) (harg3 : arg3.IsWhole)
    (arg4 : Memref sig .tc .vmem S8192x128 .f32) (harg4 : arg4.IsWhole) (arg5 : Memref sig .tc .vmem S1024x1024 .bf16) (harg5 : arg5.IsWhole)
    (arg6 : Memref sig .tc .vmem S512x128 .f32) (harg6 : arg6.IsWhole) (arg7 : Memref sig .tc .vmem S64x1024 .bf16) (harg7 : arg7.IsWhole)
    (arg8 : Memref sig .tc .vmem S1024x2048 .bf16) (harg8 : arg8.IsWhole)
    (hc0 : cond1 i) (hc1 : k0_cond2 i = 1#1) (hc2 : ¬ k0_cond3 i = 1#1)
    (x1 : Vec F S1024x2048 .f32) (x2 : Vec F S64x2048 .bf16) (E : Set ℕ) (K : PUnit → sProp 𝕄) :
    iprop(owns (c : Thread nD τ) arg2 fullShare x1 ∗ owns (c : Thread nD τ) arg3 fullShare x2
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x1 ∗ owns (c : Thread nD τ) arg3 fullShare x2
            ∗ owns (c : Thread nD τ) arg6 fullShare (headsS x2 (k0_pay1 x1)) ∗ owns (c : Thread nD τ) arg7 fullShare (k0_pay3 x2 (k0_pay1 x1))
            ∗ owns (c : Thread nD τ) arg8 fullShare (k0_pay1 x1)) -∗ K ⟨⟩))
      ⊢ wp frame (wpE (defs₀ (F := F)) Variants.none c none) E
          (cc0_kv_proj i arg1 harg1 arg2 harg2 arg3 harg3 arg4 harg4 arg5 harg5 arg6 harg6 arg7 harg7 arg8 harg8) K := by
  simp only [cc0_kv_proj_eq_skeleton]; unfold cc0_kv_proj_skel
  unfold owns
  iintro ⟨⟨%f1, %hf1, H1⟩, ⟨%f2, %hf2, H2⟩, ⟨%d6, %f6, -, H6⟩, ⟨%d7, %f7, -, H7⟩, ⟨%d8, %f8, -, H8⟩, Hk⟩
  sl_exec (disch := first | sl_exact hc0 | sl_exact hc1 | sl_exact hc2)
  sl_step
  iapply Hk
  isplitl [H1]
  · iexists _; isplitr; · ipureintro; exact hf1
    iexact H1
  isplitl [H2]
  · iexists _; isplitr; · ipureintro; exact hf2
    iexact H2
  isplitl [H6]
  · iexists _; isplitr; swap; · iexact H6
    ipureintro
    sl_unfold_run_names
    rw [View.readCov_unit_zero _ Proj.off0, Proj.load_whole hf2 Proj.off0, Proj.load_whole hf1 Proj.off0]
    exact Proj.read_heads (Val := Elt F) (e := .f32) (n := 64) rfl _ _ (k0_pay2 x2 (k0_pay1 x1))
  isplitl [H7]
  · iexists _; isplitr; swap; · iexact H7
    ipureintro
    sl_unfold_run_names
    rw [Proj.read_stored _ _ Proj.off0, Proj.load_whole hf2 Proj.off0, View.readCov_unit_zero _ Proj.off0, Proj.load_whole hf1 Proj.off0]
  iexists _; isplitr; swap; · iexact H8
  ipureintro
  sl_unfold_run_names
  rw [Proj.read_stored _ _ Proj.off0, Proj.load_whole hf1 Proj.off0]

/-- The body past the first point: the first group's block times the kept weight block. -/
theorem run_rest (c : Dev nD) (i : grid0.Coords) (arg1 : Memref sig .tc .vmem S1024x2048 .bf16) (harg1 : arg1.IsWhole)
    (arg2 : Memref sig .tc .vmem S1024x2048 .f32) (harg2 : arg2.IsWhole) (arg3 : Memref sig .tc .vmem S64x2048 .bf16) (harg3 : arg3.IsWhole)
    (arg4 : Memref sig .tc .vmem S8192x128 .f32) (harg4 : arg4.IsWhole) (arg5 : Memref sig .tc .vmem S1024x1024 .bf16) (harg5 : arg5.IsWhole)
    (arg6 : Memref sig .tc .vmem S512x128 .f32) (harg6 : arg6.IsWhole) (arg7 : Memref sig .tc .vmem S64x1024 .bf16) (harg7 : arg7.IsWhole)
    (arg8 : Memref sig .tc .vmem S1024x2048 .bf16) (harg8 : arg8.IsWhole)
    (hc0 : ¬ cond1 i) (hc1 : ¬ k0_cond2 i = 1#1) (hc2 : k0_cond3 i = 1#1)
    (x0 : Vec F S1024x2048 .bf16) (w : Vec F S1024x2048 .bf16) (E : Set ℕ) (K : PUnit → sProp 𝕄) :
    iprop(owns (c : Thread nD τ) arg1 fullShare x0 ∗ owns (c : Thread nD τ) arg8 fullShare w
        ∗ (∃ d, owns (c : Thread nD τ) arg4 fullShare d) ∗ (∃ d, owns (c : Thread nD τ) arg5 fullShare d)
        ∗ (iprop(owns (c : Thread nD τ) arg1 fullShare x0 ∗ owns (c : Thread nD τ) arg8 fullShare w
            ∗ owns (c : Thread nD τ) arg4 fullShare (headsP x0 w) ∗ owns (c : Thread nD τ) arg5 fullShare (k0_pay13 x0 w)) -∗ K ⟨⟩))
      ⊢ wp frame (wpE (defs₀ (F := F)) Variants.none c none) E
          (cc0_kv_proj i arg1 harg1 arg2 harg2 arg3 harg3 arg4 harg4 arg5 harg5 arg6 harg6 arg7 harg7 arg8 harg8) K := by
  simp only [cc0_kv_proj_eq_skeleton]; unfold cc0_kv_proj_skel
  unfold owns
  iintro ⟨⟨%f0, %hf0, H0⟩, ⟨%fs, %hfs, HS⟩, ⟨%d4, %f4, -, H4⟩, ⟨%d5, %f5, -, H5⟩, Hk⟩
  sl_exec (disch := first | sl_exact hc0 | sl_exact hc1 | sl_exact hc2)
  sl_step
  iapply Hk
  isplitl [H0]
  · iexists _; isplitr; · ipureintro; exact hf0
    iexact H0
  isplitl [HS]
  · iexists _; isplitr; · ipureintro; exact hfs
    iexact HS
  isplitl [H4]
  · iexists _; isplitr; swap; · iexact H4
    ipureintro
    sl_unfold_run_names
    rw [Proj.load_whole hf0 Proj.off0, Proj.load_whole hfs Proj.off0]
    exact Proj.read_heads (Val := Elt F) (e := .f32) (n := 1024) rfl _ _ (k0_pay12 x0 w)
  iexists _; isplitr; swap; · iexact H5
  ipureintro
  sl_unfold_run_names
  rw [Proj.read_stored _ _ Proj.off0, Proj.load_whole hf0 Proj.off0, Proj.load_whole hfs Proj.off0]

/-! ## The schedule -/

theorem N_eq : cfg0.N = 9 := N_0

theorem cond1_iff : ∀ t : Fin cfg0.N, cond1 (grid0.coords t) ↔ t.val = 0 := Cert.KProjIdeal.Body.cond1_iff
theorem cond2_iff : ∀ t : Fin cfg0.N, k0_cond2 (grid0.coords t) = 1#1 ↔ t.val = 0 := Cert.KProjIdeal.Body.cond2_iff
theorem cond3_iff : ∀ t : Fin cfg0.N, k0_cond3 (grid0.coords t) = 1#1 ↔ ¬ t.val = 0 := Cert.KProjIdeal.Body.cond3_iff

/-- The weight window and the second group's stay where they are. -/
theorem iblk1_eq (c : Dev nD) (t t' : Fin cfg0.N) : (iblk m c 1 t : Vec F S1024x2048 .f32) = iblk m c 1 t' :=
  funext fun y => congrArg (V m c (Pipeline.arrRef spec0 1)) (funext fun a => Fin.ext
    ((win0_1.rect_emb_val_off t y a).trans (win0_1.rect_emb_val_off t' y a).symm))
theorem iblk2_eq (c : Dev nD) (t t' : Fin cfg0.N) : (iblk m c 2 t : Vec F S64x2048 .bf16) = iblk m c 2 t' :=
  funext fun y => congrArg (V m c (Pipeline.arrRef spec0 2)) (funext fun a => Fin.ext
    ((win0_2.rect_emb_val_off t y a).trans (win0_2.rect_emb_val_off t' y a).symm))

/-! ## The proof data -/

/-- The scratch buffer that keeps the rounded weight block. -/
abbrev keep : Memref sig .tc .vmem S1024x2048 .bf16 := Memref.whole cc0_scratch0

/-- The rounded weight block, the same at every point. -/
def wblk (c : Dev nD) (t : Fin cfg0.N) : Vec F S1024x2048 .bf16 := k0_pay1 (iblk m c 1 t)

theorem wblk_eq (c : Dev nD) (t t' : Fin cfg0.N) : wblk m c t = wblk m c t' := congrArg k0_pay1 (iblk1_eq m c t t')

/-- Past the first point, the scratch holds the rounded weight block. -/
def Held (c : Dev nD) (n : ℕ) (d : S1024x2048.Idx → Elt F .bf16) : Prop := n ≠ 0 → ∀ t, d = wblk m c t

def Phi (c : Dev nD) (n : ℕ) : sProp 𝕄 :=
  iprop((∃ d, ⌜Held m c n d⌝ ∗ owns (c : Thread nD τ) keep fullShare d) ∗ (∃ r, prngReg c r))

/-- What the pipeline's proof says: every input's buffer keeps its block, the four results' buffers hold the products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => headsP (iblk m c 0 t) (wblk m c t)
    | ⟨4, _⟩ => k0_pay13 (iblk m c 0 t) (wblk m c t)
    | ⟨5, _⟩ => headsS (iblk m c 2 t) (wblk m c t)
    | ⟨6, _⟩ => k0_pay3 (iblk m c 2 t) (wblk m c t)
  Φ t := Phi m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = headsP (iblk m c 0 t) (wblk m c t) := by dsimp only [dats]
theorem after_4 (c : Dev nD) (t : Fin cfg0.N) : (dats m 0 c).after 4 t = k0_pay13 (iblk m c 0 t) (wblk m c t) := by dsimp only [dats]
theorem after_5 (c : Dev nD) (t : Fin cfg0.N) : (dats m 0 c).after 5 t = headsS (iblk m c 2 t) (wblk m c t) := by dsimp only [dats]
theorem after_6 (c : Dev nD) (t : Fin cfg0.N) : (dats m 0 c).after 6 t = k0_pay3 (iblk m c 2 t) (wblk m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The first group's windows are idle at the first point, the second group's at the others. -/
theorem idles (t : Fin cfg0.N) : cfg0.idle 3 (grid0.coords t) = decide (t.val = 0) ∧ cfg0.idle 4 (grid0.coords t) = decide (t.val = 0)
    ∧ cfg0.idle 5 (grid0.coords t) = !decide (t.val = 0) ∧ cfg0.idle 6 (grid0.coords t) = !decide (t.val = 0) := Cert.KProjIdeal.Body.idles t
theorem flushes (t : Fin cfg0.N) : (cfg0.win 3).flush t = !decide (t.val = 0) ∧ (cfg0.win 4).flush t = !decide (t.val = 0)
    ∧ (cfg0.win 5).flush t = decide (t.val = 8) ∧ (cfg0.win 6).flush t = decide (t.val = 8) := Cert.KProjIdeal.Body.flushes t

/-- Past the first point the second group's windows hold their results: they hold nothing of the body's only before it. -/
theorem fresh_tail (w : Fin cfg0.W) (hi : ∀ t : Fin cfg0.N, cfg0.idle w (grid0.coords t) = !decide (t.val = 0))
    (hf : ∀ t : Fin cfg0.N, (cfg0.win w).flush t = decide (t.val = 8)) (t : Fin cfg0.N) : cfg0.fresh w t.val = decide (t.val = 0) :=
  (cfg0.fresh_tab w (fun n => decide (n % 9 = 0)) rfl (fun t => by
    have := lt_of_lt_of_eq t.isLt N_eq
    rw [hi, hf]
    by_cases h : t.val = 0
    · simp [h]
    · have h8 : (t.val + 1) % 9 = 0 ↔ t.val = 8 := by omega
      have h0 : ¬ t.val % 9 = 0 := by omega
      simp [h, h8, h0]) t.val t.isLt.le).trans (by
    have := lt_of_lt_of_eq t.isLt N_eq
    exact decide_eq_decide.mpr (by omega))

theorem before_tail (c : Dev nD) (w : Fin cfg0.W) (hw : (cfg0.win w).isOut = true) (hc : ∀ i a, (cfg0.win w).clip i a = none)
    (hi : ∀ t : Fin cfg0.N, cfg0.idle w (grid0.coords t) = !decide (t.val = 0))
    (hf : ∀ t : Fin cfg0.N, (cfg0.win w).flush t = decide (t.val = 8)) (carry : ∀ t t', (dats m 0 c).after w t = (dats m 0 c).after w t')
    (t : Fin cfg0.N) (h : ¬ t.val = 0) (d) : (dats m 0 c).before w t d = (dats m 0 c).after w t := by
  rw [(dats m 0 c).before_out_traj w hw hc (fun t _ _ _ => carry t _) t.val t rfl d, fresh_tail w hi hf, if_neg (by simpa using h)]
  exact carry _ _

theorem before_5 (c : Dev nD) (t : Fin cfg0.N) (h : ¬ t.val = 0) (d) : (dats m 0 c).before 5 t d = headsS (iblk m c 2 t) (wblk m c t) :=
  (before_tail m c 5 rfl (fun _ _ => rfl) (fun t => (idles t).2.2.1) (fun t => (flushes t).2.2.1)
    (fun t t' => by rw [after_5, after_5, wblk_eq m c t t', iblk2_eq m c t t']) t h d).trans (after_5 m c t)
theorem before_6 (c : Dev nD) (t : Fin cfg0.N) (h : ¬ t.val = 0) (d) : (dats m 0 c).before 6 t d = k0_pay3 (iblk m c 2 t) (wblk m c t) :=
  (before_tail m c 6 rfl (fun _ _ => rfl) (fun t => (idles t).2.2.2) (fun t => (flushes t).2.2.2)
    (fun t t' => by rw [after_6, after_6, wblk_eq m c t t', iblk2_eq m c t t']) t h d).trans (after_6 m c t)

/-! ## The body obligation -/

abbrev ms0 (t : Fin cfg0.N) : Memref sig .tc .vmem S1024x2048 .bf16 := win0_0.stage (cfg0.slots t 0)
abbrev ms1 (t : Fin cfg0.N) : Memref sig .tc .vmem S1024x2048 .f32 := win0_1.stage (cfg0.slots t 1)
abbrev ms2 (t : Fin cfg0.N) : Memref sig .tc .vmem S64x2048 .bf16 := win0_2.stage (cfg0.slots t 2)
abbrev ms3 (t : Fin cfg0.N) : Memref sig .tc .vmem S8192x128 .f32 := win0_3.stage (cfg0.slots t 3)
abbrev ms4 (t : Fin cfg0.N) : Memref sig .tc .vmem S1024x1024 .bf16 := win0_4.stage (cfg0.slots t 4)
abbrev ms5 (t : Fin cfg0.N) : Memref sig .tc .vmem S512x128 .f32 := win0_5.stage (cfg0.slots t 5)
abbrev ms6 (t : Fin cfg0.N) : Memref sig .tc .vmem S64x1024 .bf16 := win0_6.stage (cfg0.slots t 6)

/-- What the body is handed at point `t`, window by window. -/
def bodyPre (c : Dev nD) (t : Fin cfg0.N) : sProp 𝕄 :=
  iprop(Phi m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it leaves there. -/
def bodyPost (c : Dev nD) (t : Fin cfg0.N) : sProp 𝕄 :=
  iprop(Phi m c (t.val + 1) ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t ∗ (dats m 0 c).leavesExact 6 t)

theorem leaves_in {c : Dev nD} (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem held_next (c : Dev nD) (t : Fin cfg0.N) : Held m c (t.val + 1) (wblk m c t) := fun _ t' => wblk_eq m c t t'

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_in m 0 t rfl, leaves_in m 1 t rfl, leaves_in m 2 t rfl, after_0, after_1, after_2]
  simp only [before_0, before_1, before_2]
  rw [show (dats m 0 c).owesAt () t.succ = (dats m 0 c).owesAt () t.castSucc from rfl]
  unfold Phi
  obtain ⟨i3, i4, i5, i6⟩ := idles t
  obtain ⟨u3, u4, -, -⟩ := flushes t
  by_cases h : t.val = 0
  · rw [leaves_in m 5 t (by rw [i5]; simp [h]), after_5, leaves_in m 6 t (by rw [i6]; simp [h]), after_6,
      (dats m 0 c).leavesExact_idle 3 t (by rw [i3]; simp [h]) (by rw [u3]; simp [h]),
      (dats m 0 c).leavesExact_idle 4 t (by rw [i4]; simp [h]) (by rw [u4]; simp [h])]
    iintro ⟨⟨⟨%ds, -, HS⟩, Hg⟩, Ho, ⟨%d0, H0⟩, ⟨%d1, H1⟩, ⟨%d2, H2⟩, H3, H4, ⟨%d5, H5⟩, ⟨%d6, H6⟩⟩
    iapply (run_first c (grid0.coords t) _ _ _ _ _ _ _ _ _ _ _ _ _ _ _ _ ((cond1_iff t).mpr h) ((cond2_iff t).mpr h)
      (fun h' => (cond3_iff t).mp h' h) (iblk m c 1 t) (iblk m c 2 t) Set.univ _)
    isplitl [H1]; · iexact H1
    isplitl [H2]; · iexact H2
    isplitl [H5]; · iexists _; iexact H5
    isplitl [H6]; · iexists _; iexact H6
    isplitl [HS]; · iexists _; iexact HS
    iintro ⟨H1, H2, H5, H6, HS⟩
    isplitl [HS Hg]
    · isplitl [HS]
      · iexists _; isplitr; · ipureintro; exact held_next m c t
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [leaves_in m 3 t (by rw [i3]; simp [h]), after_3, leaves_in m 4 t (by rw [i4]; simp [h]), after_4]
    simp only [before_5 m c t h, before_6 m c t h]
    iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩⟩
    obtain rfl := hds h t
    iapply (run_rest c (grid0.coords t) _ _ _ _ _ _ _ _ _ _ _ _ _ _ _ _ (fun h' => h ((cond1_iff t).mp h')) (fun h' => h ((cond2_iff t).mp h'))
      ((cond3_iff t).mpr h) (iblk m c 0 t) (wblk m c t) Set.univ _)
    isplitl [H0]; · iexact H0
    isplitl [HS]; · iexact HS
    isplitl [H3]; · iexists _; iexact H3
    isplitl [H4]; · iexists _; iexact H4
    iintro ⟨H0, HS, H3, H4⟩
    isplitl [HS Hg]
    · isplitl [HS]
      · iexists _; isplitr; · ipureintro; exact held_next m c t
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (Proj.leaves_kept (dats m 0 c) 5 t _ (before_5 m c t h) ((after_5 m c t).symm))
      iexact H5
    iapply (Proj.leaves_kept (dats m 0 c) 6 t _ (before_6 m c t h) ((after_6 m c t).symm))
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show _ ⊢ Phi m c 0
      unfold Phi Pipeline.ΦA; rw [scopedRest0_eq]; simp only [keep, owns_whole]
      iintro ⟨⟨%d, H⟩, Hg⟩
      isplitl [H]
      · iexists d; isplitr; · ipureintro; exact fun h => absurd rfl h
        iexact H
      iexact Hg)
    (hout := fun c => by
      show Phi m c _ ⊢ _
      unfold Phi Pipeline.ΦA; rw [scopedRest0_eq]; simp only [keep, owns_whole]
      iintro ⟨⟨%d, -, H⟩, Hg⟩
      isplitl [H]
      · iexists d; iexact H
      iexact Hg)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.VProjIdeal.Body

end
-- ==== Proof.VProjValue.lean ====
/- What the value projection of an attention layer computes: its four results are the activations times the layer's 1024 value columns,
   as rows and head by head, as the reference's. -/
module

public import proofs.«01_k».proof.Proof.VProjBody
public import proofs.«01_k».proof.Proof.KProjValue
public import proofs.«01_k».proof.Proof.Gen.VProj
public import proofs.«01_k».proof.Proof.Gen.RefVProjIdeal.Run
public import proofs.«01_k».proof.Proof.Gen.RefVProjIdeal.Read
public import proofs.«01_k».proof.Defs

@[expose] public section

set_option maxRecDepth 16384

noncomputable section

namespace Cert.VProjIdeal.Body

open Idealize.ShloMosaic Idealize.ShloMosaic.TcCoe Idealize.ShloMosaic.ValueIdx Idealize.SL.Sem
open Idealize.ShloMosaic.Pipeline (Dat Cfg Window)
open Cert.VProjIdeal.Gen

variable (m : (ℓ : Loc nD τ sig) → Buf (Elt Ideal) ℓ) (ρ : Dev nD → PrngReg)

/-- The launch contents of the three arguments. -/
abbrev hp (c : Dev nD) : FVec Ideal S8192x2048 .bf16 := m ((c.tc : Thread nD τ).loc main_arg0)
abbrev hs (c : Dev nD) : FVec Ideal S64x2048 .bf16 := m ((c.tc : Thread nD τ).loc main_arg1)
abbrev wt (c : Dev nD) : FVec Ideal S1x2048x9224 .f32 := m ((c.tc : Thread nD τ).loc main_arg2)

/-- The results: the value columns of each group's product, and their heads one below the other. -/
abbrev outP (X : FVec Ideal S8192x2048 .bf16) (W : FVec Ideal S1x2048x9224 .f32) : FVec Ideal S8192x1024 .bf16 := Proj.cols 7176 1024 (by decide) X W
abbrev outS (X : FVec Ideal S64x2048 .bf16) (W : FVec Ideal S1x2048x9224 .f32) : FVec Ideal S64x1024 .bf16 := Proj.cols 7176 1024 (by decide) X W
abbrev outPh (X : FVec Ideal S8192x2048 .bf16) (W : FVec Ideal S1x2048x9224 .f32) : FVec Ideal S65536x128 .f32 := Proj.heads (n := 8192) rfl (outP X W)
abbrev outSh (X : FVec Ideal S64x2048 .bf16) (W : FVec Ideal S1x2048x9224 .f32) : FVec Ideal S512x128 .f32 := Proj.heads (n := 64) rfl (outS X W)

/-! ## The blocks read -/

theorem V_weight (c : Dev nD) (n : Fin 9224) (k : Fin 2048) : V m c main_v1 (ix2 n k) = wt m c (ix3 (0 : Fin 1) k n) := by
  have : V m c main_v1 = transpose S9224x2048 [1, 0] (shapeCast S2048x9224 (wt m c) shapeCasts_S1x2048x9224_S2048x9224)
      transposes_S2048x9224_S9224x2048_1_0 := by
    show StableHlo.after hostOps0 _ main_v1 = _
    after_results_simp <;> rfl
  rw [this]; exact Proj.turned_apply _ _ _ n k

/-- Where each window's block starts. -/
theorem index0 : ∀ t : Fin cfg0.N, (cfg0.win 0).index t = ![t.val - 1, 0] := Cert.KProjIdeal.Body.index0
theorem index1 : ∀ t : Fin cfg0.N, (cfg0.win 1).index t = ![7176, 0] :=
  (by decide +kernel : ∀ t : Fin grid0.N, win0_1.index t = ![7176, 0])
theorem index2 : ∀ t : Fin cfg0.N, (cfg0.win 2).index t = ![0, 0] := Cert.KProjIdeal.Body.index2
theorem index3 : ∀ t : Fin cfg0.N, (cfg0.win 3).index t = ![t.val - 1, 0] := Cert.KProjIdeal.Body.index3
theorem index4 : ∀ t : Fin cfg0.N, (cfg0.win 4).index t = ![t.val - 1, 0] := Cert.KProjIdeal.Body.index4
theorem index5 : ∀ t : Fin cfg0.N, (cfg0.win 5).index t = ![0, 0] := Cert.KProjIdeal.Body.index5
theorem index6 : ∀ t : Fin cfg0.N, (cfg0.win 6).index t = ![0, 0] := Cert.KProjIdeal.Body.index6

theorem t_lt (t : Fin cfg0.N) : t.val < 9 := lt_of_lt_of_eq t.isLt N_eq

theorem read0 (c : Dev nD) (t : Fin cfg0.N) (p : Fin 1024) (k : Fin 2048) :
    (iblk m c 0 t : FVec Ideal S1024x2048 .bf16) (ix2 p k)
      = hp m c (ix2 (n0 := 8192) ⟨(t.val - 1) * 1024 + p.val, by have := p.isLt; have := t_lt t; omega⟩ k) :=
  congrArg (hp m c) (funext fun a => Fin.ext (by
    refine (win0_0.rect_emb_val_off t (ix2 p k) a).trans ?_
    rw [show win0_0.index t = _ from index0 t]
    match a with
    | ⟨0, _⟩ => rfl
    | ⟨1, _⟩ => exact Nat.zero_add _))

theorem read2 (c : Dev nD) (t : Fin cfg0.N) (p : Fin 64) (k : Fin 2048) :
    (iblk m c 2 t : FVec Ideal S64x2048 .bf16) (ix2 p k) = hs m c (ix2 p k) :=
  congrArg (hs m c) (funext fun a => Fin.ext (by
    refine (win0_2.rect_emb_val_off t (ix2 p k) a).trans ?_
    rw [show win0_2.index t = _ from index2 t]
    match a with
    | ⟨0, _⟩ => exact Nat.zero_add _
    | ⟨1, _⟩ => exact Nat.zero_add _))

theorem read1 (c : Dev nD) (t : Fin cfg0.N) (q : Fin 1024) (k : Fin 2048) :
    (wblk m c t : FVec Ideal S1024x2048 .bf16) (ix2 q k) = wt m c (ix3 (0 : Fin 1) k ⟨7176 + q.val, by have := q.isLt; omega⟩) := by
  refine Eq.trans ?_ (V_weight m c ⟨7176 + q.val, by have := q.isLt; omega⟩ k)
  unfold wblk k0_pay1
  rw [shapeCast_self, truncf_apply, shapeCast_self]
  exact congrArg (V m c main_v1) (funext fun a => Fin.ext (by
    refine (win0_1.rect_emb_val_off t (ix2 q k) a).trans ?_
    rw [show win0_1.index t = _ from index1 t]
    match a with
    | ⟨0, _⟩ => rfl
    | ⟨1, _⟩ => exact Nat.zero_add _))

/-! ## The products -/

/-- An entry of a tile's product is one of the first group's. -/
theorem prod_P (c : Dev nD) (t : Fin cfg0.N) (p q : Fin 1024) (i : S8192x1024.Idx) (h0 : (i 0).val = (t.val - 1) * 1024 + p.val)
    (h1 : (i 1).val = q.val) : k0_pay12 (F := Ideal) (iblk m c 0 t) (wblk m c t) (ix2 p q) = outP (hp m c) (wt m c) i :=
  Proj.rows_inner (φ₁ := .bf16) (φ₂ := .bf16) (iblk m c 0 t) (wblk m c t) (hp m c) (wt m c) p q _ _ _ _
    (read0 m c t p) (read1 m c t q) h0 (congrArg (7176 + ·) h1)

/-- And of the second group's. -/
theorem prod_S (c : Dev nD) (t : Fin cfg0.N) (p : Fin 64) (q : Fin 1024) (i : S64x1024.Idx) (h0 : (i 0).val = p.val)
    (h1 : (i 1).val = q.val) : k0_pay2 (F := Ideal) (iblk m c 2 t) (wblk m c t) (ix2 p q) = outS (hs m c) (wt m c) i :=
  Proj.rows_inner (φ₁ := .bf16) (φ₂ := .bf16) (iblk m c 2 t) (wblk m c t) (hs m c) (wt m c) p q _ _ _ _
    (read2 m c t p) (read1 m c t q) h0 (congrArg (7176 + ·) h1)

/-! ## The write-backs -/

theorem flushed3 (c : Dev nD) (t : Fin cfg0.N) :
    (dats m 0 c).flushed 3 t = ((cfg0.win 3).blk t).view.read (Elt Ideal) (outPh (hp m c) (wt m c)) := by
  show (cfg0.win 3).cut (grid0.coords t) ((dats m 0 c).after 3 t) = _
  rw [after_3]
  funext y
  have e0 := win0_3.rect_emb_val_off t y 0
  have e1 := win0_3.rect_emb_val_off t y 1
  rw [show win0_3.index t = _ from index3 t] at e0 e1
  replace e0 : ((win0_3.rect t).emb y 0).val = (t.val - 1) * 8192 + (y 0).val := e0
  replace e1 : ((win0_3.rect t).emb y 1).val = 0 * 128 + (y 1).val := e1
  refine prod_P m c t _ _ _ ?_ ?_
  · show ((win0_3.rect t).emb y 0).val / 8 = (t.val - 1) * 1024 + (y 0).val / 8; omega
  · show ((win0_3.rect t).emb y 0).val % 8 * 128 + ((win0_3.rect t).emb y 1).val = (y 0).val % 8 * 128 + (y 1).val; omega

theorem flushed4 (c : Dev nD) (t : Fin cfg0.N) :
    (dats m 0 c).flushed 4 t = ((cfg0.win 4).blk t).view.read (Elt Ideal) (outP (hp m c) (wt m c)) := by
  show (cfg0.win 4).cut (grid0.coords t) ((dats m 0 c).after 4 t) = _
  rw [after_4]
  funext y
  obtain ⟨p, q, rfl⟩ : ∃ (p : Fin 1024) (q : Fin 1024), y = ix2 p q := ⟨y 0, y 1, eq_ix2 y⟩
  exact prod_P m c t p q _
    ((win0_4.rect_emb_val_off t (ix2 p q) 0).trans (by rw [show win0_4.index t = _ from index4 t]; rfl))
    ((win0_4.rect_emb_val_off t (ix2 p q) 1).trans (by rw [show win0_4.index t = _ from index4 t]; exact Nat.zero_add _))

theorem flushed5 (c : Dev nD) (t : Fin cfg0.N) :
    (dats m 0 c).flushed 5 t = ((cfg0.win 5).blk t).view.read (Elt Ideal) (outSh (hs m c) (wt m c)) := by
  show (cfg0.win 5).cut (grid0.coords t) ((dats m 0 c).after 5 t) = _
  rw [after_5]
  funext y
  have e0 := win0_5.rect_emb_val_off t y 0
  have e1 := win0_5.rect_emb_val_off t y 1
  rw [show win0_5.index t = _ from index5 t] at e0 e1
  replace e0 : ((win0_5.rect t).emb y 0).val = 0 * 512 + (y 0).val := e0
  replace e1 : ((win0_5.rect t).emb y 1).val = 0 * 128 + (y 1).val := e1
  refine prod_S m c t _ _ _ ?_ ?_
  · show ((win0_5.rect t).emb y 0).val / 8 = (y 0).val / 8; omega
  · show ((win0_5.rect t).emb y 0).val % 8 * 128 + ((win0_5.rect t).emb y 1).val = (y 0).val % 8 * 128 + (y 1).val; omega

theorem flushed6 (c : Dev nD) (t : Fin cfg0.N) :
    (dats m 0 c).flushed 6 t = ((cfg0.win 6).blk t).view.read (Elt Ideal) (outS (hs m c) (wt m c)) := by
  show (cfg0.win 6).cut (grid0.coords t) ((dats m 0 c).after 6 t) = _
  rw [after_6]
  funext y
  obtain ⟨p, q, rfl⟩ : ∃ (p : Fin 64) (q : Fin 1024), y = ix2 p q := ⟨y 0, y 1, eq_ix2 y⟩
  exact prod_S m c t p q _
    ((win0_6.rect_emb_val_off t (ix2 p q) 0).trans (by rw [show win0_6.index t = _ from index6 t]; exact Nat.zero_add _))
    ((win0_6.rect_emb_val_off t (ix2 p q) 1).trans (by rw [show win0_6.index t = _ from index6 t]; exact Nat.zero_add _))

/-! ## The arrays at the end -/

theorem xsizes : ∀ t : Fin cfg0.N, (cfg0.win 3).xsize (grid0.coords t) = ![8192, 128] ∧ (cfg0.win 4).xsize (grid0.coords t) = ![1024, 1024]
    ∧ (cfg0.win 5).xsize (grid0.coords t) = ![512, 128] ∧ (cfg0.win 6).xsize (grid0.coords t) = ![64, 1024] := Cert.KProjIdeal.Body.xsizes

theorem arr3 (c : Dev nD) : (dats m 0 c).arrAt 3 cfg0.N = outPh (hp m c) (wt m c) :=
  (dats m 0 c).arrAt_eq_of_cover 3 _ (fun t _ => flushed3 m c t) fun i => by
    have h0 : (i 0 : Nat) < 65536 := (i 0).isLt
    have h1 : (i 1 : Nat) < 128 := (i 1).isLt
    let t : Fin cfg0.N := ⟨(i 0 : Nat) / 8192 + 1, by rw [N_eq]; omega⟩
    have ht : t.val = (i 0 : Nat) / 8192 + 1 := rfl
    refine ⟨t, by rw [(flushes t).1]; simp [ht], ?_⟩
    show i ∈ ((View.whole main_v2_0).slice (win0_3.rect t)).set
    rw [View.set_slice_whole, Rect.mem_set_unit]
    intro a
    show win0_3.index t a * _ ≤ _ ∧ _ < win0_3.index t a * _ + win0_3.xsize (grid0.coords t) a
    rw [show win0_3.index t = _ from index3 t, show win0_3.xsize (grid0.coords t) = _ from (xsizes t).1]
    match a with
    | ⟨0, _⟩ => show (t.val - 1) * 8192 ≤ (i 0 : Nat) ∧ (i 0 : Nat) < (t.val - 1) * 8192 + 8192; omega
    | ⟨1, _⟩ => show 0 * 128 ≤ (i 1 : Nat) ∧ (i 1 : Nat) < 0 * 128 + 128; omega

theorem arr4 (c : Dev nD) : (dats m 0 c).arrAt 4 cfg0.N = outP (hp m c) (wt m c) :=
  (dats m 0 c).arrAt_eq_of_cover 4 _ (fun t _ => flushed4 m c t) fun i => by
    have h0 : (i 0 : Nat) < 8192 := (i 0).isLt
    have h1 : (i 1 : Nat) < 1024 := (i 1).isLt
    let t : Fin cfg0.N := ⟨(i 0 : Nat) / 1024 + 1, by rw [N_eq]; omega⟩
    have ht : t.val = (i 0 : Nat) / 1024 + 1 := rfl
    refine ⟨t, by rw [(flushes t).2.1]; simp [ht], ?_⟩
    show i ∈ ((View.whole main_v2_1).slice (win0_4.rect t)).set
    rw [View.set_slice_whole, Rect.mem_set_unit]
    intro a
    show win0_4.index t a * _ ≤ _ ∧ _ < win0_4.index t a * _ + win0_4.xsize (grid0.coords t) a
    rw [show win0_4.index t = _ from index4 t, show win0_4.xsize (grid0.coords t) = _ from (xsizes t).2.1]
    match a with
    | ⟨0, _⟩ => show (t.val - 1) * 1024 ≤ (i 0 : Nat) ∧ (i 0 : Nat) < (t.val - 1) * 1024 + 1024; omega
    | ⟨1, _⟩ => show 0 * 1024 ≤ (i 1 : Nat) ∧ (i 1 : Nat) < 0 * 1024 + 1024; omega

/-- The last point, which writes the second group's results back. -/
abbrev last : Fin cfg0.N := ⟨8, by rw [N_eq]; decide⟩

theorem arr5 (c : Dev nD) : (dats m 0 c).arrAt 5 cfg0.N = outSh (hs m c) (wt m c) :=
  (dats m 0 c).arrAt_eq_of_cover 5 _ (fun t _ => flushed5 m c t) fun i => by
    refine ⟨last, (flushes last).2.2.1, ?_⟩
    show i ∈ ((View.whole main_v2_2).slice (win0_5.rect last)).set
    rw [View.set_slice_whole, Rect.mem_set_unit]
    intro a
    show win0_5.index last a * _ ≤ _ ∧ _ < win0_5.index last a * _ + win0_5.xsize (grid0.coords last) a
    rw [show win0_5.index last = _ from index5 last, show win0_5.xsize (grid0.coords last) = _ from (xsizes last).2.2.1]
    match a with
    | ⟨0, _⟩ => exact ⟨Nat.zero_le _, (i 0).isLt⟩
    | ⟨1, _⟩ => exact ⟨Nat.zero_le _, (i 1).isLt⟩

theorem arr6 (c : Dev nD) : (dats m 0 c).arrAt 6 cfg0.N = outS (hs m c) (wt m c) :=
  (dats m 0 c).arrAt_eq_of_cover 6 _ (fun t _ => flushed6 m c t) fun i => by
    refine ⟨last, (flushes last).2.2.2, ?_⟩
    show i ∈ ((View.whole main_v2_3).slice (win0_6.rect last)).set
    rw [View.set_slice_whole, Rect.mem_set_unit]
    intro a
    show win0_6.index last a * _ ≤ _ ∧ _ < win0_6.index last a * _ + win0_6.xsize (grid0.coords last) a
    rw [show win0_6.index last = _ from index6 last, show win0_6.xsize (grid0.coords last) = _ from (xsizes last).2.2.2]
    match a with
    | ⟨0, _⟩ => exact ⟨Nat.zero_le _, (i 0).isLt⟩
    | ⟨1, _⟩ => exact ⟨Nat.zero_le _, (i 1).isLt⟩

/-! ## The reference -/

theorem ref_P (X : FVec Ideal S8192x2048 .bf16) (W : FVec Ideal S1x2048x9224 .f32) :
    Cert.RefVProjIdeal.Read.val_main_v12 (F := Ideal) X W = outP X W :=
  funext fun i => (extractStridedSlice_apply _ _ _ i (ix2 (i 0) ⟨7176 + (i 1).val, by have h1 : (i 1).val < 1024 := (i 1).isLt; omega⟩)
    fun a => match a with | ⟨0, _⟩ => (Nat.zero_add _).symm | ⟨1, _⟩ => rfl).trans (Proj.host_apply _ W _ _ _)

theorem ref_S (X : FVec Ideal S64x2048 .bf16) (W : FVec Ideal S1x2048x9224 .f32) :
    Cert.RefVProjIdeal.Read.val_main_v28 (F := Ideal) X W = outS X W :=
  funext fun i => (extractStridedSlice_apply _ _ _ i (ix2 (i 0) ⟨7176 + (i 1).val, by have h1 : (i 1).val < 1024 := (i 1).isLt; omega⟩)
    fun a => match a with | ⟨0, _⟩ => (Nat.zero_add _).symm | ⟨1, _⟩ => rfl).trans (Proj.host_apply _ W _ _ _)

/-! ## The claims -/

/-- The kernel's run: the results at the products, the arguments unchanged. -/
theorem run_value : θ_run defs (onTc (τ := τ) (main (F := Ideal))) ⟨m, fun _ => 0, ρ⟩ (fun r => ∀ c : Dev nD,
      r.2.mem ((c.tc : Thread nD τ).loc main_v2_0) = outPh (hp m c) (wt m c)
      ∧ r.2.mem ((c.tc : Thread nD τ).loc main_v2_1) = outP (hp m c) (wt m c)
      ∧ r.2.mem ((c.tc : Thread nD τ).loc main_v2_2) = outSh (hs m c) (wt m c)
      ∧ r.2.mem ((c.tc : Thread nD τ).loc main_v2_3) = outS (hs m c) (wt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 3).trans (arr3 m c), ((h.1.1 c).1 4).trans (arr4 m c),
    ((h.1.1 c).1 5).trans (arr5 m c), ((h.1.1 c).1 6).trans (arr6 m c), h.2.1 c⟩)
    (θ_run_and (run_main m ρ) (frame m ρ))

theorem algebraic : Cert.algebraic_VProjIdeal_RefVProjIdeal := fun m g m' g' _ hagree =>
  ⟨fun c => outPh (hp m c) (wt m c), fun c => outP (hp m c) (wt m c), fun c => outSh (hs m c) (wt m c), fun c => outS (hs m c) (wt m c), run_value m g,
    (θ_run Cert.RefVProjIdeal.defs _ _).mono (fun _ h c => by
      obtain ⟨h1, h2, h3, h4, h5⟩ := h c
      obtain ⟨a0, a1, a2⟩ := hagree c
      refine ⟨h1.trans ((Cert.RefVProjIdeal.Read.val_main_v14_eq _ _).trans ?_), h2.trans ((Cert.RefVProjIdeal.Read.val_main_v15_eq _ _).trans ?_),
        h3.trans ((Cert.RefVProjIdeal.Read.val_main_v30_eq _ _).trans ?_), h4.trans ((Cert.RefVProjIdeal.Read.val_main_v31_eq _ _).trans ?_), h5⟩
      · rw [a0, a2]; exact (congrArg (shapeCast _ · _) (ref_P _ _)).trans (Proj.heads_cast _ _ _)
      · rw [a0, a2]; exact ref_P _ _
      · rw [a1, a2]; exact (congrArg (shapeCast _ · _) (ref_S _ _)).trans (Proj.heads_cast _ _ _)
      · rw [a1, a2]; exact ref_S _ _) (Cert.RefVProjIdeal.Value.run (F := Ideal) m' g')⟩

/-- The program as printed and its idealization have one body, label by label. -/
theorem defs_eq {F : FTy → Type} [FloatOps F] : Cert.VProj.defs (F := F) = Cert.VProjIdeal.defs :=
  congrArg (Pipeline.defs Cert.VProjIdeal.pcfgs) (by
    unfold Cert.VProj.defs₀ Cert.VProjIdeal.defs₀
    congr 1
    funext l a
    match l, a with
    | 0, (t, s) => rfl)

/-- So the printed program's run is the same run, at the machine's numbers. -/
theorem frame_kernel : Cert.quiescent_VProj := fun m ρ _ => by
  rw [defs_eq]; exact frame (F := Bits) m ρ

theorem frame_ideal : Cert.quiescent_VProjIdeal := fun m ρ _ => frame (F := Ideal) m ρ

theorem frame_ref : Cert.quiescent_RefVProjIdeal := fun m ρ _ =>
  (θ_run Cert.RefVProjIdeal.defs _ _).mono (fun r h => ⟨fun c => (h c).2.2.2.2, sem_eq_zero_of_no_sems (by decide) r.2⟩)
    (Cert.RefVProjIdeal.Value.run (F := Ideal) m ρ)

end Cert.VProjIdeal.Body

end
-- ==== Proof.QgBody.lean ====
module

public import proofs.«01_k».proof.Proof.Gen.QgIdeal.Frame
public import proofs.«01_k».proof.Proof.Gen.QgIdeal.Skeleton
public import proofs.«01_k».proof.Proof.Common
public import Idealize.ShloMosaic.Lib.Claim

@[expose] public section

set_option maxRecDepth 16384

noncomputable section

namespace Cert.QgIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.QgIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch's condition, at the first point of a column of the grid. -/
abbrev cond1 (i : grid0.Coords) : Prop :=
  Scalar.cmpi .ne (Scalar.extui (Scalar.cmpi .eq (BitVec.ofNat 32 (i 1).val) 0#32) : BitVec 32) 0#32 = 1#1

/-- The weight block and the second group's result, at the first point of a column. -/
theorem run_first (c : Dev nD) (i : grid0.Coords) (arg2 : Memref sig .tc .vmem S2048x2048 .bf16) (harg2 : arg2.IsWhole)
    (arg3 : Memref sig .tc .vmem S1024x2048 .f32) (harg3 : arg3.IsWhole) (arg4 : Memref sig .tc .vmem S64x2048 .bf16) (harg4 : arg4.IsWhole)
    (arg5 : Memref sig .tc .vmem S2048x1024 .bf16) (harg5 : arg5.IsWhole) (arg6 : Memref sig .tc .vmem S64x1024 .f32) (harg6 : arg6.IsWhole)
    (arg7 : Memref sig .tc .vmem S1024x2048 .bf16) (harg7 : arg7.IsWhole)
    (hc0 : cond1 i)
    (hc1 : k0_cond2 i = 1#1) (hc2 : ¬ k0_cond3 i = 1#1)
    (x1 : Vec F S1024x2048 .f32) (x2 : Vec F S64x2048 .bf16) (E : Set ℕ) (K : PUnit → sProp 𝕄) :
    iprop(owns (c : Thread nD τ) arg3 fullShare x1 ∗ owns (c : Thread nD τ) arg4 fullShare x2
        ∗ (∃ d, owns (c : Thread nD τ) arg6 fullShare d) ∗ (∃ d, owns (c : Thread nD τ) arg7 fullShare d)
        ∗ (iprop(owns (c : Thread nD τ) arg3 fullShare x1 ∗ owns (c : Thread nD τ) arg4 fullShare x2
            ∗ owns (c : Thread nD τ) arg6 fullShare (k0_pay2 x2 (k0_pay1 x1)) ∗ owns (c : Thread nD τ) arg7 fullShare (k0_pay1 x1)) -∗ K ⟨⟩))
      ⊢ wp frame (wpE (defs₀ (F := F)) Variants.none c none) E (cc0_proj i arg2 harg2 arg3 harg3 arg4 harg4 arg5 harg5 arg6 harg6 arg7 harg7) K := by
  simp only [cc0_proj_eq_skeleton]; unfold cc0_proj_skel
  unfold owns
  iintro ⟨⟨%f1, %hf1, H1⟩, ⟨%f2, %hf2, H2⟩, ⟨%d4, %f4, -, H4⟩, ⟨%ds0, %fs0, -, HS0⟩, Hk⟩
  sl_exec (disch := first | sl_exact hc0 | sl_exact hc1 | sl_exact hc2)
  sl_step
  iapply Hk
  isplitl [H1]
  · iexists _; isplitr; · ipureintro; exact hf1
    iexact H1
  isplitl [H2]
  · iexists _; isplitr; · ipureintro; exact hf2
    iexact H2
  isplitl [H4]
  · iexists _; isplitr; swap; · iexact H4
    ipureintro
    sl_unfold_run_names
    rw [Proj.read_stored _ _ Proj.off0, Proj.load_whole hf2 Proj.off0, View.readCov_unit_zero _ Proj.off0, Proj.load_whole hf1 Proj.off0]
  iexists _; isplitr; swap; · iexact HS0
  ipureintro
  sl_unfold_run_names
  rw [Proj.read_stored _ _ Proj.off0, Proj.load_whole hf1 Proj.off0]

/-- The body past the first point of a column: the first group's block times the kept weight block, scaled by the column. -/
theorem run_rest (c : Dev nD) (i : grid0.Coords) (arg2 : Memref sig .tc .vmem S2048x2048 .bf16) (harg2 : arg2.IsWhole)
    (arg3 : Memref sig .tc .vmem S1024x2048 .f32) (harg3 : arg3.IsWhole) (arg4 : Memref sig .tc .vmem S64x2048 .bf16) (harg4 : arg4.IsWhole)
    (arg5 : Memref sig .tc .vmem S2048x1024 .bf16) (harg5 : arg5.IsWhole) (arg6 : Memref sig .tc .vmem S64x1024 .f32) (harg6 : arg6.IsWhole)
    (arg7 : Memref sig .tc .vmem S1024x2048 .bf16) (harg7 : arg7.IsWhole)
    (hc0 : ¬ cond1 i) (hc1 : ¬ k0_cond2 i = 1#1) (hc2 : k0_cond3 i = 1#1)
    (x0 : Vec F S2048x2048 .bf16) (w : Vec F S1024x2048 .bf16) (E : Set ℕ) (K : PUnit → sProp 𝕄) :
    iprop(owns (c : Thread nD τ) arg2 fullShare x0 ∗ owns (c : Thread nD τ) arg7 fullShare w ∗ (∃ d, owns (c : Thread nD τ) arg5 fullShare d)
        ∗ (iprop(owns (c : Thread nD τ) arg2 fullShare x0 ∗ owns (c : Thread nD τ) arg7 fullShare w
            ∗ owns (c : Thread nD τ) arg5 fullShare (k0_pay3 i x0 w)) -∗ K ⟨⟩))
      ⊢ wp frame (wpE (defs₀ (F := F)) Variants.none c none) E (cc0_proj i arg2 harg2 arg3 harg3 arg4 harg4 arg5 harg5 arg6 harg6 arg7 harg7) K := by
  simp only [cc0_proj_eq_skeleton]; unfold cc0_proj_skel
  unfold owns
  iintro ⟨⟨%f0, %hf0, H0⟩, ⟨%fs, %hfs, HS⟩, ⟨%d3, %f3, -, H3⟩, Hk⟩
  sl_exec (disch := first | sl_exact hc0 | sl_exact hc1 | sl_exact hc2)
  sl_step
  iapply Hk
  isplitl [H0]
  · iexists _; isplitr; · ipureintro; exact hf0
    iexact H0
  isplitl [HS]
  · iexists _; isplitr; · ipureintro; exact hfs
    iexact HS
  iexists _; isplitr; swap; · iexact H3
  ipureintro
  sl_unfold_run_names
  rw [Proj.read_stored _ _ Proj.off0, Proj.load_whole hf0 Proj.off0, Proj.load_whole hfs Proj.off0]

/-! ## The schedule -/

theorem N_eq : cfg0.N = 10 := N_0

/-- The first branch is taken at the first point of a column. -/
theorem cond1_iff : ∀ t : Fin cfg0.N, cond1 (grid0.coords t) ↔ t.val % 5 = 0 :=
  (by decide +kernel : ∀ t : Fin grid0.N, cond1 (grid0.coords t) ↔ t.val % 5 = 0)
theorem cond2_iff : ∀ t : Fin cfg0.N, k0_cond2 (grid0.coords t) = 1#1 ↔ t.val % 5 = 0 :=
  (by decide +kernel : ∀ t : Fin grid0.N, k0_cond2 (grid0.coords t) = 1#1 ↔ t.val % 5 = 0)
theorem cond3_iff : ∀ t : Fin cfg0.N, k0_cond3 (grid0.coords t) = 1#1 ↔ ¬ t.val % 5 = 0 :=
  (by decide +kernel : ∀ t : Fin grid0.N, k0_cond3 (grid0.coords t) = 1#1 ↔ ¬ t.val % 5 = 0)

/-- The weight window's block index: the column's rows, all the columns. -/
theorem index1 : ∀ t : Fin cfg0.N, (cfg0.win 1).index t = ![5128 + 3072 * (t.val / 5), 0] :=
  (by decide +kernel : ∀ t : Fin grid0.N, win0_1.index t = ![5128 + 3072 * (t.val / 5), 0])
theorem index2 : ∀ t : Fin cfg0.N, (cfg0.win 2).index t = ![0, 0] :=
  (by decide +kernel : ∀ t : Fin grid0.N, win0_2.index t = ![0, 0])

/-- Within a column the weight block does not move. -/
theorem iblk1_eq (c : Dev nD) (t t' : Fin cfg0.N) (h : t.val / 5 = t'.val / 5) :
    (iblk m c 1 t : Vec F S1024x2048 .f32) = iblk m c 1 t' :=
  funext fun y => congrArg (V m c (Pipeline.arrRef spec0 1)) (funext fun a => Fin.ext (by
    refine (win0_1.rect_emb_val_off t y a).trans (Eq.trans ?_ (win0_1.rect_emb_val_off t' y a).symm)
    rw [show win0_1.index t = _ from index1 t, show win0_1.index t' = _ from index1 t', h]))

theorem iblk2_eq (c : Dev nD) (t t' : Fin cfg0.N) : (iblk m c 2 t : Vec F S64x2048 .bf16) = iblk m c 2 t' :=
  funext fun y => congrArg (V m c (Pipeline.arrRef spec0 2)) (funext fun a => Fin.ext (by
    refine (win0_2.rect_emb_val_off t y a).trans (Eq.trans ?_ (win0_2.rect_emb_val_off t' y a).symm)
    rw [show win0_2.index t = _ from index2 t, show win0_2.index t' = _ from index2 t']))

/-! ## The proof data -/

/-- The scratch buffer that keeps the rounded weight block. -/
abbrev keep : Memref sig .tc .vmem S1024x2048 .bf16 := Memref.whole cc0_scratch0

/-- The rounded weight block of point `t`'s column. -/
def wblk (c : Dev nD) (t : Fin cfg0.N) : Vec F S1024x2048 .bf16 := k0_pay1 (iblk m c 1 t)

/-- Before point `n`, past the first, the scratch holds the rounded weight block of the point before. -/
def Held (c : Dev nD) (n : ℕ) (d : S1024x2048.Idx → Elt F .bf16) : Prop :=
  ∀ (h : n ≠ 0) (h' : n - 1 < cfg0.N), d = wblk m c ⟨n - 1, h'⟩

def Phi (c : Dev nD) (n : ℕ) : sProp 𝕄 :=
  iprop((∃ d, ⌜Held m c n d⌝ ∗ owns (c : Thread nD τ) keep fullShare d) ∗ (∃ r, prngReg c r))

/-- What the pipeline's proof says: every input's buffer keeps its block, the two results' buffers hold the products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (grid0.coords t) (iblk m c 0 t) (wblk m c t)
    | ⟨4, _⟩ => k0_pay2 (iblk m c 2 t) (wblk m c t)
  Φ t := Phi m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (grid0.coords t) (iblk m c 0 t) (wblk m c t) := by dsimp only [dats]
theorem after_4 (c : Dev nD) (t : Fin cfg0.N) : (dats m 0 c).after 4 t = k0_pay2 (iblk m c 2 t) (wblk m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem idle_3 (t : Fin cfg0.N) : cfg0.idle 3 (grid0.coords t) = decide (t.val % 5 = 0) :=
  (by decide +kernel : ∀ t : Fin grid0.N, idle0 3 (grid0.coords t) = decide (t.val % 5 = 0)) t
theorem idle_4 (t : Fin cfg0.N) : cfg0.idle 4 (grid0.coords t) = !decide (t.val % 5 = 0) :=
  (by decide +kernel : ∀ t : Fin grid0.N, idle0 4 (grid0.coords t) = !decide (t.val % 5 = 0)) t
theorem flush_3 (t : Fin cfg0.N) : (cfg0.win 3).flush t = !decide (t.val % 5 = 0) :=
  (by decide +kernel : ∀ t : Fin grid0.N, win0_3.flush t = !decide (t.val % 5 = 0)) t

/-- The second group's window holds nothing of the body's only before the first point of a column. -/
theorem fresh_4 (t : Fin cfg0.N) : cfg0.fresh 4 t.val = decide (t.val % 5 = 0) :=
  cfg0.fresh_tab 4 (fun n => decide (n % 5 = 0)) rfl (fun t => by
    rw [idle_4, show (cfg0.win 4).flush t = decide (t.val % 5 = 4) from Bool.eq_iff_iff.mpr ((flush0_4 t).trans (by simp))]
    by_cases h : t.val % 5 = 0 <;> simp [h] <;> omega) t.val t.isLt.le

/-- Past the first point of a column the second group's window holds its result. -/
theorem before_4 (c : Dev nD) (t : Fin cfg0.N) (h : ¬ t.val % 5 = 0) (d) :
    (dats m 0 c).before 4 t d = k0_pay2 (iblk m c 2 t) (wblk m c t) := by
  have carry : ∀ t : Fin cfg0.N, ¬ t.val % 5 = 0 →
      (dats m 0 c).after 4 t = (dats m 0 c).after 4 ⟨t.val - 1, by omega⟩ := fun t h => by
    rw [after_4, after_4, wblk, wblk, iblk2_eq m c t ⟨t.val - 1, by omega⟩,
      iblk1_eq m c t ⟨t.val - 1, by omega⟩ (by show t.val / 5 = (t.val - 1) / 5; omega)]
  rw [(dats m 0 c).before_out_traj 4 rfl (fun _ _ => rfl) (fun t _ _ hf => carry t (by rw [fresh_4] at hf; simpa using hf)) t.val t rfl d,
    fresh_4, if_neg (by simpa using h), ← carry t h, after_4]

/-! ## The body obligation -/

abbrev ms0 (t : Fin cfg0.N) : Memref sig .tc .vmem S2048x2048 .bf16 := win0_0.stage (cfg0.slots t 0)
abbrev ms1 (t : Fin cfg0.N) : Memref sig .tc .vmem S1024x2048 .f32 := win0_1.stage (cfg0.slots t 1)
abbrev ms2 (t : Fin cfg0.N) : Memref sig .tc .vmem S64x2048 .bf16 := win0_2.stage (cfg0.slots t 2)
abbrev ms3 (t : Fin cfg0.N) : Memref sig .tc .vmem S2048x1024 .bf16 := win0_3.stage (cfg0.slots t 3)
abbrev ms4 (t : Fin cfg0.N) : Memref sig .tc .vmem S64x1024 .f32 := win0_4.stage (cfg0.slots t 4)

/-- What the body is handed at point `t`, window by window. -/
def bodyPre (c : Dev nD) (t : Fin cfg0.N) : sProp 𝕄 :=
  iprop(Phi m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it leaves there. -/
def bodyPost (c : Dev nD) (t : Fin cfg0.N) : sProp 𝕄 :=
  iprop(Phi m c (t.val + 1) ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_in {c : Dev nD} (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem held_next (c : Dev nD) (t : Fin cfg0.N) : Held m c (t.val + 1) (wblk m c t) := fun _ _ => rfl

theorem held_prev (c : Dev nD) (t : Fin cfg0.N) (h : ¬ t.val % 5 = 0) (d) (hd : Held m c t.val d) : d = wblk m c t :=
  (hd (by omega) (by omega)).trans (congrArg k0_pay1 (iblk1_eq m c _ _ (by show (t.val - 1) / 5 = t.val / 5; omega)))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_in m 0 t rfl, leaves_in m 1 t rfl, leaves_in m 2 t rfl, after_0, after_1, after_2]
  simp only [before_0, before_1, before_2]
  rw [show (dats m 0 c).owesAt () t.succ = (dats m 0 c).owesAt () t.castSucc from rfl]
  unfold Phi
  by_cases h : t.val % 5 = 0
  · rw [leaves_in m 4 t (by rw [idle_4]; simp [h]), after_4,
      (dats m 0 c).leavesExact_idle 3 t (by rw [idle_3]; simp [h]) (by rw [flush_3]; simp [h])]
    iintro ⟨⟨⟨%ds, -, HS⟩, Hg⟩, Ho, ⟨%d0, H0⟩, ⟨%d1, H1⟩, ⟨%d2, H2⟩, H3, ⟨%d4, H4⟩⟩
    iapply (run_first c (grid0.coords t) _ _ _ _ _ _ _ _ _ _ _ _ ((cond1_iff t).mpr h) ((cond2_iff t).mpr h)
      (fun h' => (cond3_iff t).mp h' h) (iblk m c 1 t) (iblk m c 2 t) Set.univ _)
    isplitl [H1]; · iexact H1
    isplitl [H2]; · iexact H2
    isplitl [H4]; · iexists _; iexact H4
    isplitl [HS]; · iexists _; iexact HS
    iintro ⟨H1, H2, H4, HS⟩
    isplitl [HS Hg]
    · isplitl [HS]
      · iexists _; isplitr; · ipureintro; exact held_next m c t
        iexact HS
      iexact Hg
    isplitl [Ho]; · iexact Ho
    isplitl [H0]; · iexact H0
    isplitl [H1]; · iexact H1
    isplitl [H2]; · iexact H2
    isplitl [H3]; · iexact H3
    iexact H4
  · rw [leaves_in m 3 t (by rw [idle_3]; simp [h]), after_3]
    simp only [before_4 m c t h]
    iintro ⟨⟨⟨%ds, %hds, HS⟩, Hg⟩, Ho, ⟨%d0, H0⟩, ⟨%d1, H1⟩, ⟨%d2, H2⟩, ⟨%d3, H3⟩, ⟨%d4, H4⟩⟩
    obtain rfl := held_prev m c t h ds hds
    iapply (run_rest c (grid0.coords t) _ _ _ _ _ _ _ _ _ _ _ _ (fun h' => h ((cond1_iff t).mp h')) (fun h' => h ((cond2_iff t).mp h'))
      ((cond3_iff t).mpr h) (iblk m c 0 t) (wblk m c t) Set.univ _)
    isplitl [H0]; · iexact H0
    isplitl [HS]; · iexact HS
    isplitl [H3]; · iexists _; iexact H3
    iintro ⟨H0, HS, H3⟩
    isplitl [HS Hg]
    · isplitl [HS]
      · iexists _; isplitr; · ipureintro; exact held_next m c t
        iexact HS
      iexact Hg
    isplitl [Ho]; · iexact Ho
    isplitl [H0]; · iexact H0
    isplitl [H1]; · iexact H1
    isplitl [H2]; · iexact H2
    isplitl [H3]; · iexact H3
    iapply (Proj.leaves_kept (dats m 0 c) 4 t _ (before_4 m c t h) ((after_4 m c t).symm))
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show _ ⊢ Phi m c 0
      unfold Phi Pipeline.ΦA; rw [scopedRest0_eq]; simp only [keep, owns_whole]
      iintro ⟨⟨%d, H⟩, Hg⟩
      isplitl [H]
      · iexists d; isplitr; · ipureintro; exact fun h => absurd rfl h
        iexact H
      iexact Hg)
    (hout := fun c => by
      show Phi m c _ ⊢ _
      unfold Phi Pipeline.ΦA; rw [scopedRest0_eq]; simp only [keep, owns_whole]
      iintro ⟨⟨%d, -, H⟩, Hg⟩
      isplitl [H]
      · iexists d; iexact H
      iexact Hg)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.QgIdeal.Body

end
-- ==== Proof.QgValue.lean ====
/- What the query and output gate projection of an attention layer computes: both results are the activations times the 1024 columns of
   the query and the 1024 columns of the gate; the first result's query is scaled besides. -/
module

public import proofs.«01_k».proof.Proof.QgBody
public import proofs.«01_k».proof.Proof.Product
public import proofs.«01_k».proof.Proof.Gen.Qg
public import proofs.«01_k».proof.Proof.Gen.RefQgIdeal.Run
public import proofs.«01_k».proof.Proof.Gen.RefQgIdeal.Read
public import proofs.«01_k».proof.Defs
public import Idealize.ShloMosaic.Lib.IdealHost

@[expose] public section

set_option maxRecDepth 16384

noncomputable section

namespace Cert.QgIdeal.Body

open Idealize.ShloMosaic Idealize.ShloMosaic.TcCoe Idealize.ShloMosaic.ValueIdx Idealize.SL.Sem
open Idealize.ShloMosaic.Pipeline (Dat Cfg Window)
open Cert.QgIdeal.Gen

variable (m : (ℓ : Loc nD τ sig) → Buf (Elt Ideal) ℓ) (ρ : Dev nD → PrngReg)

/-- The launch contents of the three arguments. -/
abbrev hp (c : Dev nD) : FVec Ideal S8192x2048 .bf16 := m ((c.tc : Thread nD τ).loc main_arg0)
abbrev hs (c : Dev nD) : FVec Ideal S64x2048 .bf16 := m ((c.tc : Thread nD τ).loc main_arg1)
abbrev wt (c : Dev nD) : FVec Ideal S1x2048x9224 .f32 := m ((c.tc : Thread nD τ).loc main_arg2)

/-- The weight's column that column `n` of a result is made of: the query's from 5128 on, the gate's from 8200 on. -/
def wcol (n : Fin 2048) : Fin 9224 := ⟨5128 + 3072 * (n.val / 1024) + n.val % 1024, by omega⟩

/-- The factor of a column of the first result: the score's scale on the query's, one on the gate's. -/
def scale (n : Fin 2048) : EReal := if n.val / 1024 = 0 then Ideal.ofBits .f32 0x3DB504F3#32 else Ideal.ofBits .f32 0x3F800000#32

/-- The two results. -/
def outP (X : FVec Ideal S8192x2048 .bf16) (W : FVec Ideal S1x2048x9224 .f32) : FVec Ideal S8192x2048 .bf16 :=
  fun i => Proj.inner X W (i 0) (wcol (i 1)) * scale (i 1)
def outS (X : FVec Ideal S64x2048 .bf16) (W : FVec Ideal S1x2048x9224 .f32) : FVec Ideal S64x2048 .f32 :=
  fun i => Proj.inner X W (i 0) (wcol (i 1))

/-! ## The blocks read -/

theorem V_weight (c : Dev nD) (n : Fin 9224) (k : Fin 2048) : V m c main_v1 (ix2 n k) = wt m c (ix3 (0 : Fin 1) k n) := by
  have : V m c main_v1 = transpose S9224x2048 [1, 0] (shapeCast S2048x9224 (wt m c) shapeCasts_S1x2048x9224_S2048x9224)
      transposes_S2048x9224_S9224x2048_1_0 := by
    show StableHlo.after hostOps0 _ main_v1 = _
    after_results_simp <;> rfl
  rw [this]; exact Proj.turned_apply _ _ _ n k

theorem index0 : ∀ t : Fin cfg0.N, (cfg0.win 0).index t = ![t.val % 5 - 1, 0] :=
  (by decide +kernel : ∀ t : Fin grid0.N, win0_0.index t = ![t.val % 5 - 1, 0])
theorem index3 : ∀ t : Fin cfg0.N, (cfg0.win 3).index t = ![t.val % 5 - 1, t.val / 5] :=
  (by decide +kernel : ∀ t : Fin grid0.N, win0_3.index t = ![t.val % 5 - 1, t.val / 5])
theorem index4 : ∀ t : Fin cfg0.N, (cfg0.win 4).index t = ![0, t.val / 5] :=
  (by decide +kernel : ∀ t : Fin grid0.N, win0_4.index t = ![0, t.val / 5])

theorem t_lt (t : Fin cfg0.N) : t.val < 10 := lt_of_lt_of_eq t.isLt N_eq

theorem read0 (c : Dev nD) (t : Fin cfg0.N) (p : Fin 2048) (k : Fin 2048) :
    (iblk m c 0 t : FVec Ideal S2048x2048 .bf16) (ix2 p k) = hp m c (ix2 (n0 := 8192) ⟨(t.val % 5 - 1) * 2048 + p.val, by have := p.isLt; omega⟩ k) :=
  congrArg (hp m c) (funext fun a => Fin.ext (by
    refine (win0_0.rect_emb_val_off t (ix2 p k) a).trans ?_
    rw [show win0_0.index t = _ from index0 t]
    match a with
    | ⟨0, _⟩ => rfl
    | ⟨1, _⟩ => exact Nat.zero_add _))

theorem read2 (c : Dev nD) (t : Fin cfg0.N) (p : Fin 64) (k : Fin 2048) :
    (iblk m c 2 t : FVec Ideal S64x2048 .bf16) (ix2 p k) = hs m c (ix2 p k) :=
  congrArg (hs m c) (funext fun a => Fin.ext (by
    refine (win0_2.rect_emb_val_off t (ix2 p k) a).trans ?_
    rw [show win0_2.index t = _ from index2 t]
    match a with
    | ⟨0, _⟩ => exact Nat.zero_add _
    | ⟨1, _⟩ => exact Nat.zero_add _))

theorem read1 (c : Dev nD) (t : Fin cfg0.N) (q : Fin 1024) (k : Fin 2048) :
    (wblk m c t : FVec Ideal S1024x2048 .bf16) (ix2 q k) = wt m c (ix3 (0 : Fin 1) k ⟨5128 + 3072 * (t.val / 5) + q.val, by have := q.isLt; have := t_lt t; omega⟩) := by
  refine Eq.trans ?_ (V_weight m c ⟨5128 + 3072 * (t.val / 5) + q.val, by have := q.isLt; have := t_lt t; omega⟩ k)
  unfold wblk k0_pay1
  rw [shapeCast_self, truncf_apply, shapeCast_self]
  exact congrArg (V m c main_v1) (funext fun a => Fin.ext (by
    refine (win0_1.rect_emb_val_off t (ix2 q k) a).trans ?_
    rw [show win0_1.index t = _ from index1 t]
    match a with
    | ⟨0, _⟩ => rfl
    | ⟨1, _⟩ => exact Nat.zero_add _))

/-! ## The write-backs -/

/-- The scale a column's body takes. -/
theorem pick (t : Fin cfg0.N) (a b : EReal) :
    (Scalar.select (Scalar.cmpi .eq (BitVec.ofNat 32 (grid0.coords t 0).val) 0#32) a b : EReal) = if t.val / 5 = 0 then a else b := by
  rw [(by decide +kernel : ∀ t : Fin grid0.N, Scalar.cmpi .eq (BitVec.ofNat 32 (grid0.coords t 0).val) 0#32
    = if t.val / 5 = 0 then 1#1 else 0#1) t]
  split <;> rfl

/-- Where column `q` of point `t`'s block lies. -/
theorem col_eq (t : Fin cfg0.N) (q : Fin 1024) (n : Fin 2048) (hn : n.val = t.val / 5 * 1024 + q.val) :
    n.val / 1024 = t.val / 5 ∧ (wcol n).val = 5128 + 3072 * (t.val / 5) + q.val := by
  have := q.isLt
  have h : n.val / 1024 = t.val / 5 := by omega
  exact ⟨h, by show 5128 + 3072 * (n.val / 1024) + n.val % 1024 = _; omega⟩

/-- One block of the first result is the block of `outP`. -/
theorem flushed3 (c : Dev nD) (t : Fin cfg0.N) :
    (dats m 0 c).flushed 3 t = ((cfg0.win 3).blk t).view.read (Elt Ideal) (outP (hp m c) (wt m c)) := by
  show (cfg0.win 3).cut (grid0.coords t) ((dats m 0 c).after 3 t) = _
  rw [after_3]
  funext y
  obtain ⟨p, q, rfl⟩ : ∃ (p : Fin 2048) (q : Fin 1024), y = ix2 p q := ⟨y 0, y 1, eq_ix2 y⟩
  obtain ⟨h1, h2⟩ := col_eq t q ((win0_3.rect t).emb (ix2 p q) 1)
    ((win0_3.rect_emb_val_off t (ix2 p q) 1).trans (by rw [show win0_3.index t = _ from index3 t]; rfl))
  refine congrArg₂ (· * ·) (Proj.rows_inner (φ₁ := .bf16) (φ₂ := .bf16) (iblk m c 0 t) (wblk m c t) (hp m c) (wt m c) p q _ _ _ _
    (read0 m c t p) (read1 m c t q)
    ((win0_3.rect_emb_val_off t (ix2 p q) 0).trans (by rw [show win0_3.index t = _ from index3 t]; rfl)) h2) ?_
  refine (pick t _ _).trans ?_
  exact (congrArg (fun z : ℕ => if z = 0 then Ideal.ofBits .f32 0x3DB504F3#32 else Ideal.ofBits .f32 0x3F800000#32) h1).symm

/-- And of the second. -/
theorem flushed4 (c : Dev nD) (t : Fin cfg0.N) :
    (dats m 0 c).flushed 4 t = ((cfg0.win 4).blk t).view.read (Elt Ideal) (outS (hs m c) (wt m c)) := by
  show (cfg0.win 4).cut (grid0.coords t) ((dats m 0 c).after 4 t) = _
  rw [after_4]
  funext y
  obtain ⟨p, q, rfl⟩ : ∃ (p : Fin 64) (q : Fin 1024), y = ix2 p q := ⟨y 0, y 1, eq_ix2 y⟩
  obtain ⟨-, h2⟩ := col_eq t q ((win0_4.rect t).emb (ix2 p q) 1)
    ((win0_4.rect_emb_val_off t (ix2 p q) 1).trans (by rw [show win0_4.index t = _ from index4 t]; rfl))
  exact Proj.rows_inner (φ₁ := .bf16) (φ₂ := .bf16) (iblk m c 2 t) (wblk m c t) (hs m c) (wt m c) p q _ _ _ _
    (read2 m c t p) (read1 m c t q)
    ((win0_4.rect_emb_val_off t (ix2 p q) 0).trans (by rw [show win0_4.index t = _ from index4 t]; exact Nat.zero_add _)) h2

theorem xsize3 : ∀ t : Fin cfg0.N, (cfg0.win 3).xsize (grid0.coords t) = ![2048, 1024] :=
  (by decide +kernel : ∀ t : Fin grid0.N, win0_3.xsize (grid0.coords t) = ![2048, 1024])
theorem xsize4 : ∀ t : Fin cfg0.N, (cfg0.win 4).xsize (grid0.coords t) = ![64, 1024] :=
  (by decide +kernel : ∀ t : Fin grid0.N, win0_4.xsize (grid0.coords t) = ![64, 1024])

theorem arr3 (c : Dev nD) : (dats m 0 c).arrAt 3 cfg0.N = outP (hp m c) (wt m c) :=
  (dats m 0 c).arrAt_eq_of_cover 3 _ (fun t _ => flushed3 m c t) fun i => by
    have h0 : (i 0 : Nat) < 8192 := (i 0).isLt
    have h1 : (i 1 : Nat) < 2048 := (i 1).isLt
    let t : Fin cfg0.N := ⟨5 * ((i 1 : Nat) / 1024) + ((i 0 : Nat) / 2048 + 1), by rw [N_eq]; omega⟩
    have ht : t.val = 5 * ((i 1 : Nat) / 1024) + ((i 0 : Nat) / 2048 + 1) := rfl
    refine ⟨t, by rw [flush_3]; simp; omega, ?_⟩
    show i ∈ ((View.whole main_v2_0).slice (win0_3.rect t)).set
    rw [View.set_slice_whole, Rect.mem_set_unit]
    intro a
    show win0_3.index t a * _ ≤ _ ∧ _ < win0_3.index t a * _ + win0_3.xsize (grid0.coords t) a
    rw [show win0_3.index t = _ from index3 t, show win0_3.xsize (grid0.coords t) = _ from xsize3 t]
    match a with
    | ⟨0, _⟩ => show (t.val % 5 - 1) * 2048 ≤ (i 0 : Nat) ∧ (i 0 : Nat) < (t.val % 5 - 1) * 2048 + 2048; omega
    | ⟨1, _⟩ => show (t.val / 5) * 1024 ≤ (i 1 : Nat) ∧ (i 1 : Nat) < (t.val / 5) * 1024 + 1024; omega

theorem arr4 (c : Dev nD) : (dats m 0 c).arrAt 4 cfg0.N = outS (hs m c) (wt m c) :=
  (dats m 0 c).arrAt_eq_of_cover 4 _ (fun t _ => flushed4 m c t) fun i => by
    have h0 : (i 0 : Nat) < 64 := (i 0).isLt
    have h1 : (i 1 : Nat) < 2048 := (i 1).isLt
    let t : Fin cfg0.N := ⟨5 * ((i 1 : Nat) / 1024) + 4, by rw [N_eq]; omega⟩
    have ht : t.val = 5 * ((i 1 : Nat) / 1024) + 4 := rfl
    refine ⟨t, (flush0_4 t).mpr (by omega), ?_⟩
    show i ∈ ((View.whole main_v2_1).slice (win0_4.rect t)).set
    rw [View.set_slice_whole, Rect.mem_set_unit]
    intro a
    show win0_4.index t a * _ ≤ _ ∧ _ < win0_4.index t a * _ + win0_4.xsize (grid0.coords t) a
    rw [show win0_4.index t = _ from index4 t, show win0_4.xsize (grid0.coords t) = _ from xsize4 t]
    match a with
    | ⟨0, _⟩ => show 0 * 64 ≤ (i 0 : Nat) ∧ (i 0 : Nat) < 0 * 64 + 64; omega
    | ⟨1, _⟩ => show (t.val / 5) * 1024 ≤ (i 1 : Nat) ∧ (i 1 : Nat) < (t.val / 5) * 1024 + 1024; omega

/-! ## The reference -/

theorem ref_P (X : FVec Ideal S8192x2048 .bf16) (W : FVec Ideal S1x2048x9224 .f32) :
    Cert.RefQgIdeal.Read.val_main_v31 (F := Ideal) X W = outP X W := by
  funext i
  obtain ⟨r, n, rfl⟩ : ∃ (r : Fin 8192) (n : Fin 2048), i = ix2 r n := ⟨i 0, i 1, eq_ix2 i⟩
  refine (Proj.pair_apply (B := 1024) _ _ Cert.RefQgIdeal.Gen.concatenates_S8192x1024_S8192x1024_S8192x2048_d1 (by decide) r n (by decide)).trans ?_
  show _ = Proj.inner X W r (wcol n) * scale n
  have hn := n.isLt
  unfold scale
  split
  · rename_i h
    refine congrArg (· * _) ((extractStridedSlice_apply _ _ _ _ (ix2 (n1 := 9224) r (wcol n)) fun a => match a with
      | ⟨0, _⟩ => (Nat.zero_add _).symm
      | ⟨1, _⟩ => by show 5128 + 3072 * (n.val / 1024) + n.val % 1024 = 5128 + n.val % 1024; omega).trans (Proj.host_apply _ W _ r _))
  · rename_i h
    rw [Ideal.ofBits_one_f32, mul_one]
    exact (extractStridedSlice_apply _ _ _ _ (ix2 (n1 := 9224) r (wcol n)) fun a => match a with
      | ⟨0, _⟩ => (Nat.zero_add _).symm
      | ⟨1, _⟩ => by show 5128 + 3072 * (n.val / 1024) + n.val % 1024 = 8200 + n.val % 1024; omega).trans (Proj.host_apply _ W _ r _)

theorem ref_S (X : FVec Ideal S64x2048 .bf16) (W : FVec Ideal S1x2048x9224 .f32) :
    Cert.RefQgIdeal.Read.val_main_v32 (F := Ideal) X W = outS X W := by
  funext i
  obtain ⟨r, n, rfl⟩ : ∃ (r : Fin 64) (n : Fin 2048), i = ix2 r n := ⟨i 0, i 1, eq_ix2 i⟩
  refine (Proj.pair_apply (B := 1024) _ _ Cert.RefQgIdeal.Gen.concatenates_S64x1024_S64x1024_S64x2048_d1 (by decide) r n (by decide)).trans ?_
  show _ = Proj.inner X W r (wcol n)
  have hn := n.isLt
  split <;> rename_i h
  all_goals
    refine (extractStridedSlice_apply _ _ _ _ (ix2 (n1 := 9224) r (wcol n)) fun a => ?_).trans (Proj.host_apply _ W _ r _)
  · match a with
    | ⟨0, _⟩ => exact (Nat.zero_add _).symm
    | ⟨1, _⟩ => show 5128 + 3072 * (n.val / 1024) + n.val % 1024 = 5128 + n.val % 1024; omega
  · match a with
    | ⟨0, _⟩ => exact (Nat.zero_add _).symm
    | ⟨1, _⟩ => show 5128 + 3072 * (n.val / 1024) + n.val % 1024 = 8200 + n.val % 1024; omega

/-! ## The claims -/

/-- The kernel's run: the results at the products, the arguments unchanged. -/
theorem run_value : θ_run defs (onTc (τ := τ) (main (F := Ideal))) ⟨m, fun _ => 0, ρ⟩ (fun r => ∀ c : Dev nD,
      r.2.mem ((c.tc : Thread nD τ).loc main_v2_0) = outP (hp m c) (wt m c)
      ∧ r.2.mem ((c.tc : Thread nD τ).loc main_v2_1) = outS (hs m c) (wt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 3).trans (arr3 m c), ((h.1.1 c).1 4).trans (arr4 m c), h.2.1 c⟩)
    (θ_run_and (run_main m ρ) (frame m ρ))

theorem algebraic : Cert.algebraic_QgIdeal_RefQgIdeal := fun m g m' g' _ hagree =>
  ⟨fun c => outP (hp m c) (wt m c), fun c => outS (hs m c) (wt m c), run_value m g,
    (θ_run Cert.RefQgIdeal.defs _ _).mono (fun _ h c => by
      obtain ⟨h1, h2, h3⟩ := h c
      obtain ⟨a0, a1, a2⟩ := hagree c
      refine ⟨h1.trans ((Cert.RefQgIdeal.Read.val_main_v31_eq _ _).trans ?_), h2.trans ((Cert.RefQgIdeal.Read.val_main_v32_eq _ _).trans ?_), h3⟩
      · rw [a0, a2]; exact ref_P _ _
      · rw [a1, a2]; exact ref_S _ _) (Cert.RefQgIdeal.Value.run (F := Ideal) m' g')⟩

/-- The program as printed and its idealization have one body, label by label. -/
theorem defs_eq {F : FTy → Type} [FloatOps F] : Cert.Qg.defs (F := F) = Cert.QgIdeal.defs :=
  congrArg (Pipeline.defs Cert.QgIdeal.pcfgs) (by
    unfold Cert.Qg.defs₀ Cert.QgIdeal.defs₀
    congr 1
    funext l a
    match l, a with
    | 0, (t, s) => rfl)

/-- So the printed program's run is the same run, at the machine's numbers. -/
theorem frame_kernel : Cert.quiescent_Qg := fun m ρ _ => by
  rw [defs_eq]; exact frame (F := Bits) m ρ

theorem frame_ideal : Cert.quiescent_QgIdeal := fun m ρ _ => frame (F := Ideal) m ρ

theorem frame_ref : Cert.quiescent_RefQgIdeal := fun m ρ _ =>
  (θ_run Cert.RefQgIdeal.defs _ _).mono (fun r h => ⟨fun c => (h c).2.2, sem_eq_zero_of_no_sems (by decide) r.2⟩)
    (Cert.RefQgIdeal.Value.run (F := Ideal) m ρ)

end Cert.QgIdeal.Body

end
-- ==== Proof.Rows.lean ====
/- A block computed and stored a group of rows at a time. -/
module

public import proofs.«01_k».proof.Proof.Heads

@[expose] public section

noncomputable section

namespace Proj

open Idealize.ShloMosaic Idealize.ShloMosaic.ValueIdx

theorem group_pos {N n q a : ℕ} (hN : N = q * n) (h : a < N) : 0 < n :=
  Nat.pos_of_ne_zero fun h0 => by subst h0; subst hN; exact absurd h (Nat.not_lt_zero _)

theorem group_lt {N n q a j : ℕ} (hN : N = q * n) (h : a < N) (hj : j < n) : a / n * n + j < N := by
  subst hN
  have hq : a / n < q := Nat.div_lt_of_lt_mul (by rwa [Nat.mul_comm] at h)
  calc a / n * n + j < a / n * n + n := Nat.add_lt_add_left hj _
    _ = (a / n + 1) * n := (Nat.succ_mul _ _).symm
    _ ≤ q * n := Nat.mul_le_mul_right n hq

/-- A block whose rows are computed `n` at a time, each group by `f` from the same rows of `X`. -/
def byRows {α β : Type} {N n q K C : ℕ} (hN : N = q * n) (f : ((⟨2, ![n, K]⟩ : Shape).Idx → α) → (⟨2, ![n, C]⟩ : Shape).Idx → β)
    (X : (⟨2, ![N, K]⟩ : Shape).Idx → α) : (⟨2, ![N, C]⟩ : Shape).Idx → β := fun i =>
  f (fun j => X (ix2 (n0 := N) ⟨(i 0).val / n * n + (j 0).val, group_lt hN (i 0).isLt (j 0).isLt⟩ (j 1)))
    (ix2 (n1 := C) ⟨(i 0).val % n, Nat.mod_lt _ (group_pos hN (i 0).isLt)⟩ (i 1))

/-- What is stored of one group is what `byRows` has there. -/
theorem byRows_emb {α β : Type} {N n q K C : ℕ} (hN : N = q * n) (f : ((⟨2, ![n, K]⟩ : Shape).Idx → α) → (⟨2, ![n, C]⟩ : Shape).Idx → β)
    (X : (⟨2, ![N, K]⟩ : Shape).Idx → α) (k o : ℕ) (ho : o = k * n)
    (inb : ∀ a, (![o, 0] : Fin 2 → ℕ) a + (![n, K] : Fin 2 → ℕ) a ≤ (![N, K] : Fin 2 → ℕ) a)
    (inb' : ∀ a, (![o, 0] : Fin 2 → ℕ) a + (![n, C] : Fin 2 → ℕ) a ≤ (![N, C] : Fin 2 → ℕ) a) (x : (⟨2, ![n, C]⟩ : Shape).Idx) :
    f (fun j => X ((Rect.unit (s := ⟨2, ![N, K]⟩) ![o, 0] ![n, K] inb).toLoadRect.idx j)) x
      = byRows hN f X ((Rect.unit (s := ⟨2, ![N, C]⟩) ![o, 0] ![n, C] inb').emb x) := by
  have hx : (x 0).val < n := (x 0).isLt
  have e0 : ((Rect.unit (s := ⟨2, ![N, C]⟩) ![o, 0] ![n, C] inb').emb x 0).val = k * n + (x 0).val := by
    rw [Rect.emb_apply]; show o + 1 * (x 0).val = _; omega
  have e1 : ((Rect.unit (s := ⟨2, ![N, C]⟩) ![o, 0] ![n, C] inb').emb x 1).val = (x 1).val := by
    rw [Rect.emb_apply]; show 0 + 1 * (x 1).val = _; omega
  have hd : (k * n + (x 0).val) / n = k := by
    rw [Nat.mul_comm, Nat.mul_add_div (by omega), Nat.div_eq_of_lt hx, Nat.add_zero]
  have hm : (k * n + (x 0).val) % n = (x 0).val := by
    rw [Nat.mul_comm, Nat.mul_add_mod, Nat.mod_eq_of_lt hx]
  unfold byRows
  refine congr (congrArg f (funext fun j => congrArg X (funext fun a => Fin.ext ?_))) (funext fun a => Fin.ext ?_)
  · match a with
    | ⟨0, _⟩ =>
      show o + 1 * (j 0).val = ((Rect.unit (s := ⟨2, ![N, C]⟩) ![o, 0] ![n, C] inb').emb x 0).val / n * n + (j 0).val
      rw [e0, hd]; omega
    | ⟨1, _⟩ => show 0 + 1 * (j 1).val = (j 1).val; omega
  · match a with
    | ⟨0, _⟩ => show (x 0).val = ((Rect.unit (s := ⟨2, ![N, C]⟩) ![o, 0] ![n, C] inb').emb x 0).val % n; rw [e0, hm]
    | ⟨1, _⟩ => exact e1.symm

/-- A row belongs to the group of its quotient. -/
theorem mem_rows {N n C : ℕ} (z : (⟨2, ![N, C]⟩ : Shape).Idx) (k o : ℕ) (hn : 0 < n) (hz : (z 0).val / n = k) (ho : o = k * n)
    (inb' : ∀ a, (![o, 0] : Fin 2 → ℕ) a + (![n, C] : Fin 2 → ℕ) a ≤ (![N, C] : Fin 2 → ℕ) a) :
    z ∈ (Rect.unit (s := ⟨2, ![N, C]⟩) ![o, 0] ![n, C] inb').set := by
  have h1 : (z 1).val < C := (z 1).isLt
  have hd := Nat.div_add_mod (z 0).val n
  have hm := Nat.mod_lt (z 0).val hn
  rw [hz, Nat.mul_comm] at hd
  refine Rect.mem_set_unit.mpr fun a => ?_
  match a with
  | ⟨0, _⟩ => show o ≤ (z 0).val ∧ (z 0).val < o + n; omega
  | ⟨1, _⟩ => show 0 ≤ (z 1).val ∧ (z 1).val < 0 + C; omega

section Stored

variable {sig : RefSig} {κ κ' : Kind} {sp sp' : Space} {e e' : EltTy} {Val : EltTy → Type}

/-- Which group of rows starts at row `o`. -/
theorem rows_inb {N n C o : ℕ} (h : o + n ≤ N) : ∀ a, (![o, 0] : Fin 2 → ℕ) a + (![n, C] : Fin 2 → ℕ) a ≤ (![N, C] : Fin 2 → ℕ) a := fun a =>
  match a with
  | ⟨0, _⟩ => h
  | ⟨1, _⟩ => by show 0 + C ≤ C; omega

/-- What is stored of the group of rows starting at row `o`, computed from the same rows of a buffer. -/
abbrev rowPiece {N n K C : ℕ} (f : ((⟨2, ![n, K]⟩ : Shape).Idx → Val e') → (⟨2, ![n, C]⟩ : Shape).Idx → Val e)
    (u : View sig κ' sp' (⟨2, ![N, K]⟩ : Shape) e') (g : u.ty.Contents Val) (o : ℕ) (h : o + n ≤ N) : View.Piece Val (⟨2, ![N, C]⟩ : Shape) e :=
  ⟨Rect.unit (s := ⟨2, ![N, C]⟩) ![o, 0] ![n, C] (rows_inb h),
    f (u.readAt Val (Rect.unit (s := ⟨2, ![N, K]⟩) ![o, 0] ![n, K] (rows_inb h)).toLoadRect g)⟩

theorem rowPiece_eq {N n q K C : ℕ} (hN : N = q * n) (f : ((⟨2, ![n, K]⟩ : Shape).Idx → Val e') → (⟨2, ![n, C]⟩ : Shape).Idx → Val e)
    (u : View sig κ' sp' (⟨2, ![N, K]⟩ : Shape) e') (g : u.ty.Contents Val) {X : (⟨2, ![N, K]⟩ : Shape).Idx → Val e'} (hX : u.read Val g = X)
    (k o : ℕ) (h : o + n ≤ N) (ho : o = k * n) (x : (⟨2, ![n, C]⟩ : Shape).Idx) :
    (rowPiece f u g o h : View.Piece Val (⟨2, ![N, C]⟩ : Shape) e).2 x
      = byRows hN f X ((rowPiece f u g o h : View.Piece Val (⟨2, ![N, C]⟩ : Shape) e).1.emb x) := by
  refine Eq.trans ?_ (byRows_emb hN f X k o ho (rows_inb h) (rows_inb h) x)
  subst hX; rfl

/-- What a buffer reads after its eight groups of rows are stored. -/
theorem read_eight [∀ e, Nonempty (Val e)] {N n K C : ℕ} (hN : N = 8 * n) (v : View sig κ sp (⟨2, ![N, C]⟩ : Shape) e) (f : v.ty.Contents Val)
    (F : ((⟨2, ![n, K]⟩ : Shape).Idx → Val e') → (⟨2, ![n, C]⟩ : Shape).Idx → Val e)
    (u : View sig κ' sp' (⟨2, ![N, K]⟩ : Shape) e') (g : u.ty.Contents Val) {X : (⟨2, ![N, K]⟩ : Shape).Idx → Val e'} (hX : u.read Val g = X)
    (hn : 0 < n) (o1 o2 o3 o4 o5 o6 o7 : ℕ) (h1 : o1 = 1 * n) (h2 : o2 = 2 * n) (h3 : o3 = 3 * n) (h4 : o4 = 4 * n) (h5 : o5 = 5 * n)
    (h6 : o6 = 6 * n) (h7 : o7 = 7 * n) :
    v.read Val (v.writes Val f [rowPiece F u g o7 (by omega), rowPiece F u g o6 (by omega), rowPiece F u g o5 (by omega),
      rowPiece F u g o4 (by omega), rowPiece F u g o3 (by omega), rowPiece F u g o2 (by omega), rowPiece F u g o1 (by omega),
      rowPiece F u g 0 (by omega)]) = byRows hN F X := by
  refine read_parts v f _ _ (fun p hp x => ?_) fun z => ?_
  · simp only [List.mem_cons, List.not_mem_nil, or_false] at hp
    rcases hp with rfl | rfl | rfl | rfl | rfl | rfl | rfl | rfl
    exacts [rowPiece_eq hN F u g hX 7 o7 _ h7 x, rowPiece_eq hN F u g hX 6 o6 _ h6 x, rowPiece_eq hN F u g hX 5 o5 _ h5 x,
      rowPiece_eq hN F u g hX 4 o4 _ h4 x, rowPiece_eq hN F u g hX 3 o3 _ h3 x, rowPiece_eq hN F u g hX 2 o2 _ h2 x,
      rowPiece_eq hN F u g hX 1 o1 _ h1 x, rowPiece_eq hN F u g hX 0 0 _ (Nat.zero_mul n).symm x]
  · have hz : (z 0).val / n < 8 := Nat.div_lt_of_lt_mul (by have h0 : (z 0).val < N := (z 0).isLt; omega)
    simp only [List.exists_mem_cons_iff, List.not_mem_nil]
    generalize hk : (z 0).val / n = k at hz
    rcases (by omega : k = 0 ∨ k = 1 ∨ k = 2 ∨ k = 3 ∨ k = 4 ∨ k = 5 ∨ k = 6 ∨ k = 7) with h | h | h | h | h | h | h | h
    all_goals
      have := fun o ho b => mem_rows (C := C) z k o hn hk ho b
      simp only [h] at this
    exacts [.inr <| .inr <| .inr <| .inr <| .inr <| .inr <| .inr <| .inl (this 0 (Nat.zero_mul n).symm _),
      .inr <| .inr <| .inr <| .inr <| .inr <| .inr <| .inl (this o1 h1 _), .inr <| .inr <| .inr <| .inr <| .inr <| .inl (this o2 h2 _),
      .inr <| .inr <| .inr <| .inr <| .inl (this o3 h3 _), .inr <| .inr <| .inr <| .inl (this o4 h4 _), .inr <| .inr <| .inl (this o5 h5 _),
      .inr <| .inl (this o6 h6 _), .inl (this o7 h7 _)]

/-- And after its two. -/
theorem read_two [∀ e, Nonempty (Val e)] {N n K C : ℕ} (hN : N = 2 * n) (v : View sig κ sp (⟨2, ![N, C]⟩ : Shape) e) (f : v.ty.Contents Val)
    (F : ((⟨2, ![n, K]⟩ : Shape).Idx → Val e') → (⟨2, ![n, C]⟩ : Shape).Idx → Val e)
    (u : View sig κ' sp' (⟨2, ![N, K]⟩ : Shape) e') (g : u.ty.Contents Val) {X : (⟨2, ![N, K]⟩ : Shape).Idx → Val e'} (hX : u.read Val g = X)
    (hn : 0 < n) (o1 : ℕ) (h1 : o1 = 1 * n) :
    v.read Val (v.writes Val f [rowPiece F u g o1 (by omega), rowPiece F u g 0 (by omega)]) = byRows hN F X := by
  refine read_parts v f _ _ (fun p hp x => ?_) fun z => ?_
  · simp only [List.mem_cons, List.not_mem_nil, or_false] at hp
    rcases hp with rfl | rfl
    exacts [rowPiece_eq hN F u g hX 1 o1 _ h1 x, rowPiece_eq hN F u g hX 0 0 _ (Nat.zero_mul n).symm x]
  · have hz : (z 0).val / n < 2 := Nat.div_lt_of_lt_mul (by have h0 : (z 0).val < N := (z 0).isLt; omega)
    simp only [List.exists_mem_cons_iff, List.not_mem_nil]
    generalize hk : (z 0).val / n = k at hz
    rcases (by omega : k = 0 ∨ k = 1) with h | h
    all_goals
      have := fun o ho b => mem_rows (C := C) z k o hn hk ho b
      simp only [h] at this
    exacts [.inr <| .inl (this 0 (Nat.zero_mul n).symm _), .inl (this o1 h1 _)]

end Stored

end Proj

end
-- ==== Proof.OddUBody.lean ====
module

public import proofs.«01_k».proof.Proof.Gen.OddUIdeal.Frame
public import proofs.«01_k».proof.Proof.Gen.OddUIdeal.Skeleton
public import proofs.«01_k».proof.Proof.Common
public import proofs.«01_k».proof.Proof.Rows
public import Idealize.ShloMosaic.Lib.Claim

@[expose] public section

set_option maxRecDepth 16384

noncomputable section

namespace Cert.OddUIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.OddUIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch's condition, at the first point of a column of the grid. -/
abbrev cond1 (i : grid0.Coords) : Prop :=
  Scalar.cmpi .ne (Scalar.extui (Scalar.cmpi .eq (BitVec.ofNat 32 (i 1).val) 0#32) : BitVec 32) 0#32 = 1#1

/-- A block of the first group's result, 256 rows at a time. -/
def block (x : Vec F S2048x2048 .bf16) (w : Vec F S2048x1024 .bf16) : Vec F S2048x1024 .bf16 :=
  Proj.byRows (N := 2048) (n := 256) (q := 8) rfl (fun y : Vec F S256x2048 .bf16 => k0_pay3 y w) x

/-- What the result's buffer reads after its eight groups of rows are stored. -/
theorem block_read {κ κ' : Kind} {sp sp' : Space} (v : View sig κ sp S2048x1024 .bf16) (f : v.ty.Contents (Elt F))
    (u : View sig κ' sp' S2048x2048 .bf16) (g : u.ty.Contents (Elt F)) {x : Vec F S2048x2048 .bf16} (hx : u.read (Elt F) g = x)
    (w : Vec F S2048x1024 .bf16) :
    v.read (Elt F) (v.writes (Elt F) f [Proj.rowPiece (fun y : Vec F S256x2048 .bf16 => k0_pay10 y w) u g 1792 (by decide),
      Proj.rowPiece (fun y : Vec F S256x2048 .bf16 => k0_pay9 y w) u g 1536 (by decide),
      Proj.rowPiece (fun y : Vec F S256x2048 .bf16 => k0_pay8 y w) u g 1280 (by decide),
      Proj.rowPiece (fun y : Vec F S256x2048 .bf16 => k0_pay7 y w) u g 1024 (by decide),
      Proj.rowPiece (fun y : Vec F S256x2048 .bf16 => k0_pay6 y w) u g 768 (by decide),
      Proj.rowPiece (fun y : Vec F S256x2048 .bf16 => k0_pay5 y w) u g 512 (by decide),
      Proj.rowPiece (fun y : Vec F S256x2048 .bf16 => k0_pay4 y w) u g 256 (by decide),
      Proj.rowPiece (fun y : Vec F S256x2048 .bf16 => k0_pay3 y w) u g 0 (by decide)]) = block x w :=
  Proj.read_eight (N := 2048) (n := 256) (K := 2048) (C := 1024) rfl v f (fun y : Vec F S256x2048 .bf16 => k0_pay3 y w) u g hx (by decide)
    256 512 768 1024 1280 1536 1792 rfl rfl rfl rfl rfl rfl rfl

/-- The weight block and the second group's result, at the first point of a column. -/
theorem run_first (c : Dev nD) (i : grid0.Coords) (arg2 : Memref sig .tc .vmem S2048x2048 .bf16) (harg2 : arg2.IsWhole)
    (arg3 : Memref sig .tc .vmem S2048x1024 .f32) (harg3 : arg3.IsWhole) (arg4 : Memref sig .tc .vmem S1x1024 .f32) (harg4 : arg4.IsWhole)
    (arg5 : Memref sig .tc .vmem S64x2048 .bf16) (harg5 : arg5.IsWhole) (arg6 : Memref sig .tc .vmem S2048x1024 .bf16) (harg6 : arg6.IsWhole)
    (arg7 : Memref sig .tc .vmem S64x1024 .f32) (harg7 : arg7.IsWhole) (arg8 : Memref sig .tc .vmem S2048x1024 .bf16) (harg8 : arg8.IsWhole)
    (hc0 : cond1 i)
    (hc1 : k0_cond2 i = 1#1) (hc2 : ¬ k0_cond3 i = 1#1)
    (x1 : Vec F S2048x1024 .f32) (x2 : Vec F S64x2048 .bf16) (E : Set ℕ) (K : PUnit → sProp 𝕄) :
    iprop(owns (c : Thread nD τ) arg3 fullShare x1 ∗ owns (c : Thread nD τ) arg5 fullShare x2
        ∗ (∃ d, owns (c : Thread nD τ) arg7 fullShare d) ∗ (∃ d, owns (c : Thread nD τ) arg8 fullShare d)
        ∗ (iprop(owns (c : Thread nD τ) arg3 fullShare x1 ∗ owns (c : Thread nD τ) arg5 fullShare x2
            ∗ owns (c : Thread nD τ) arg7 fullShare (k0_pay2 x2 (k0_pay1 x1)) ∗ owns (c : Thread nD τ) arg8 fullShare (k0_pay1 x1)) -∗ K ⟨⟩))
      ⊢ wp frame (wpE (defs₀ (F := F)) Variants.none c none) E (cc0_proj_gelu i arg2 harg2 arg3 harg3 arg4 harg4 arg5 harg5 arg6 harg6 arg7 harg7 arg8 harg8) K := by
  simp only [cc0_proj_gelu_eq_skeleton]; unfold cc0_proj_gelu_skel
  unfold owns
  iintro ⟨⟨%f1, %hf1, H1⟩, ⟨%f2, %hf2, H2⟩, ⟨%d4, %f4, -, H4⟩, ⟨%ds0, %fs0, -, HS0⟩, Hk⟩
  sl_exec (disch := first | sl_exact hc0 | sl_exact hc1 | sl_exact hc2)
  sl_step
  iapply Hk
  isplitl [H1]
  · iexists _; isplitr; · ipureintro; exact hf1
    iexact H1
  isplitl [H2]
  · iexists _; isplitr; · ipureintro; exact hf2
    iexact H2
  isplitl [H4]
  · iexists _; isplitr; swap; · iexact H4
    ipureintro
    sl_unfold_run_names
    rw [Proj.read_stored _ _ Proj.off0, Proj.load_whole hf2 Proj.off0, View.readCov_unit_zero _ Proj.off0, Proj.load_whole hf1 Proj.off0]
  iexists _; isplitr; swap; · iexact HS0
  ipureintro
  sl_unfold_run_names
  rw [Proj.read_stored _ _ Proj.off0, Proj.load_whole hf1 Proj.off0]

/-- The body past the first point of a column: the first group's block times the kept weight block. -/
theorem run_rest (c : Dev nD) (i : grid0.Coords) (arg2 : Memref sig .tc .vmem S2048x2048 .bf16) (harg2 : arg2.IsWhole)
    (arg3 : Memref sig .tc .vmem S2048x1024 .f32) (harg3 : arg3.IsWhole) (arg4 : Memref sig .tc .vmem S1x1024 .f32) (harg4 : arg4.IsWhole)
    (arg5 : Memref sig .tc .vmem S64x2048 .bf16) (harg5 : arg5.IsWhole) (arg6 : Memref sig .tc .vmem S2048x1024 .bf16) (harg6 : arg6.IsWhole)
    (arg7 : Memref sig .tc .vmem S64x1024 .f32) (harg7 : arg7.IsWhole) (arg8 : Memref sig .tc .vmem S2048x1024 .bf16) (harg8 : arg8.IsWhole)
    (hc0 : ¬ cond1 i) (hc1 : ¬ k0_cond2 i = 1#1) (hc2 : k0_cond3 i = 1#1)
    (x0 : Vec F S2048x2048 .bf16) (w : Vec F S2048x1024 .bf16) (E : Set ℕ) (K : PUnit → sProp 𝕄) :
    iprop(owns (c : Thread nD τ) arg2 fullShare x0 ∗ owns (c : Thread nD τ) arg8 fullShare w ∗ (∃ d, owns (c : Thread nD τ) arg6 fullShare d)
        ∗ (iprop(owns (c : Thread nD τ) arg2 fullShare x0 ∗ owns (c : Thread nD τ) arg8 fullShare w
            ∗ owns (c : Thread nD τ) arg6 fullShare (block x0 w)) -∗ K ⟨⟩))
      ⊢ wp frame (wpE (defs₀ (F := F)) Variants.none c none) E (cc0_proj_gelu i arg2 harg2 arg3 harg3 arg4 harg4 arg5 harg5 arg6 harg6 arg7 harg7 arg8 harg8) K := by
  simp only [cc0_proj_gelu_eq_skeleton]; unfold cc0_proj_gelu_skel
  simp only [k0_part1_eq_skeleton, k0_part2_eq_skeleton, k0_part3_eq_skeleton, k0_part4_eq_skeleton]
  unfold k0_part1_skel k0_part2_skel k0_part3_skel k0_part4_skel owns
  iintro ⟨⟨%f0, %hf0, H0⟩, ⟨%fs, %hfs, HS⟩, ⟨%d3, %f3, -, H3⟩, Hk⟩
  sl_exec (disch := first | sl_exact hc0 | sl_exact hc1 | sl_exact hc2)
  sl_step
  iapply Hk
  isplitl [H0]
  · iexists _; isplitr; · ipureintro; exact hf0
    iexact H0
  isplitl [HS]
  · iexists _; isplitr; · ipureintro; exact hfs
    iexact HS
  iexists _; isplitr; swap; · iexact H3
  ipureintro
  sl_unfold_run_names
  simp only [Proj.load_whole hfs Proj.off0]
  exact block_read _ _ _ _ hf0 w

/-! ## The schedule -/

theorem N_eq : cfg0.N = 10 := N_0

/-- The first branch is taken at the first point of a column. -/
theorem cond1_iff : ∀ t : Fin cfg0.N, cond1 (grid0.coords t) ↔ t.val % 5 = 0 :=
  (by decide +kernel : ∀ t : Fin grid0.N, cond1 (grid0.coords t) ↔ t.val % 5 = 0)
theorem cond2_iff : ∀ t : Fin cfg0.N, k0_cond2 (grid0.coords t) = 1#1 ↔ t.val % 5 = 0 :=
  (by decide +kernel : ∀ t : Fin grid0.N, k0_cond2 (grid0.coords t) = 1#1 ↔ t.val % 5 = 0)
theorem cond3_iff : ∀ t : Fin cfg0.N, k0_cond3 (grid0.coords t) = 1#1 ↔ ¬ t.val % 5 = 0 :=
  (by decide +kernel : ∀ t : Fin grid0.N, k0_cond3 (grid0.coords t) = 1#1 ↔ ¬ t.val % 5 = 0)

/-- The weight window's block index: all the rows, the column's columns. -/
theorem index1 : ∀ t : Fin cfg0.N, (cfg0.win 1).index t = ![0, t.val / 5] :=
  (by decide +kernel : ∀ t : Fin grid0.N, win0_1.index t = ![0, t.val / 5])
theorem index3 : ∀ t : Fin cfg0.N, (cfg0.win 3).index t = ![0, 0] :=
  (by decide +kernel : ∀ t : Fin grid0.N, win0_3.index t = ![0, 0])

/-- Within a column the weight block does not move. -/
theorem iblk1_eq (c : Dev nD) (t t' : Fin cfg0.N) (h : t.val / 5 = t'.val / 5) :
    (iblk m c 1 t : Vec F S2048x1024 .f32) = iblk m c 1 t' :=
  funext fun y => congrArg (V m c (Pipeline.arrRef spec0 1)) (funext fun a => Fin.ext (by
    refine (win0_1.rect_emb_val_off t y a).trans (Eq.trans ?_ (win0_1.rect_emb_val_off t' y a).symm)
    rw [show win0_1.index t = _ from index1 t, show win0_1.index t' = _ from index1 t', h]))

theorem iblk3_eq (c : Dev nD) (t t' : Fin cfg0.N) : (iblk m c 3 t : Vec F S64x2048 .bf16) = iblk m c 3 t' :=
  funext fun y => congrArg (V m c (Pipeline.arrRef spec0 3)) (funext fun a => Fin.ext (by
    refine (win0_3.rect_emb_val_off t y a).trans (Eq.trans ?_ (win0_3.rect_emb_val_off t' y a).symm)
    rw [show win0_3.index t = _ from index3 t, show win0_3.index t' = _ from index3 t']))

/-! ## The proof data -/

/-- The scratch buffer that keeps the rounded weight block. -/
abbrev keep : Memref sig .tc .vmem S2048x1024 .bf16 := Memref.whole cc0_scratch0

/-- The rounded weight block of point `t`'s column. -/
def wblk (c : Dev nD) (t : Fin cfg0.N) : Vec F S2048x1024 .bf16 := k0_pay1 (iblk m c 1 t)

/-- Before point `n`, past the first, the scratch holds the rounded weight block of the point before. -/
def Held (c : Dev nD) (n : ℕ) (d : S2048x1024.Idx → Elt F .bf16) : Prop :=
  ∀ (h : n ≠ 0) (h' : n - 1 < cfg0.N), d = wblk m c ⟨n - 1, h'⟩

def Phi (c : Dev nD) (n : ℕ) : sProp 𝕄 :=
  iprop((∃ d, ⌜Held m c n d⌝ ∗ owns (c : Thread nD τ) keep fullShare d) ∗ (∃ r, prngReg c r))

/-- What the pipeline's proof says: every input's buffer keeps its block, the two results' buffers hold the products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block (iblk m c 0 t) (wblk m c t)
    | ⟨5, _⟩ => k0_pay2 (iblk m c 3 t) (wblk m c t)
  Φ t := Phi m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = block (iblk m c 0 t) (wblk m c t) := by dsimp only [dats]
theorem after_5 (c : Dev nD) (t : Fin cfg0.N) : (dats m 0 c).after 5 t = k0_pay2 (iblk m c 3 t) (wblk m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem idle_4 (t : Fin cfg0.N) : cfg0.idle 4 (grid0.coords t) = decide (t.val % 5 = 0) :=
  (by decide +kernel : ∀ t : Fin grid0.N, idle0 4 (grid0.coords t) = decide (t.val % 5 = 0)) t
theorem idle_5 (t : Fin cfg0.N) : cfg0.idle 5 (grid0.coords t) = !decide (t.val % 5 = 0) :=
  (by decide +kernel : ∀ t : Fin grid0.N, idle0 5 (grid0.coords t) = !decide (t.val % 5 = 0)) t
theorem flush_4 (t : Fin cfg0.N) : (cfg0.win 4).flush t = !decide (t.val % 5 = 0) :=
  (by decide +kernel : ∀ t : Fin grid0.N, win0_4.flush t = !decide (t.val % 5 = 0)) t

/-- The second group's window holds nothing of the body's only before the first point of a column. -/
theorem fresh_5 (t : Fin cfg0.N) : cfg0.fresh 5 t.val = decide (t.val % 5 = 0) :=
  cfg0.fresh_tab 5 (fun n => decide (n % 5 = 0)) rfl (fun t => by
    rw [idle_5, show (cfg0.win 5).flush t = decide (t.val % 5 = 4) from Bool.eq_iff_iff.mpr ((flush0_5 t).trans (by simp))]
    by_cases h : t.val % 5 = 0 <;> simp [h] <;> omega) t.val t.isLt.le

/-- Past the first point of a column the second group's window holds its result. -/
theorem before_5 (c : Dev nD) (t : Fin cfg0.N) (h : ¬ t.val % 5 = 0) (d) :
    (dats m 0 c).before 5 t d = k0_pay2 (iblk m c 3 t) (wblk m c t) := by
  have carry : ∀ t : Fin cfg0.N, ¬ t.val % 5 = 0 →
      (dats m 0 c).after 5 t = (dats m 0 c).after 5 ⟨t.val - 1, by omega⟩ := fun t h => by
    rw [after_5, after_5, wblk, wblk, iblk3_eq m c t ⟨t.val - 1, by omega⟩,
      iblk1_eq m c t ⟨t.val - 1, by omega⟩ (by show t.val / 5 = (t.val - 1) / 5; omega)]
  rw [(dats m 0 c).before_out_traj 5 rfl (fun _ _ => rfl) (fun t _ _ hf => carry t (by rw [fresh_5] at hf; simpa using hf)) t.val t rfl d,
    fresh_5, if_neg (by simpa using h), ← carry t h, after_5]

/-! ## The body obligation -/

abbrev ms0 (t : Fin cfg0.N) : Memref sig .tc .vmem S2048x2048 .bf16 := win0_0.stage (cfg0.slots t 0)
abbrev ms1 (t : Fin cfg0.N) : Memref sig .tc .vmem S2048x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S64x2048 .bf16 := win0_3.stage (cfg0.slots t 3)
abbrev ms4 (t : Fin cfg0.N) : Memref sig .tc .vmem S2048x1024 .bf16 := win0_4.stage (cfg0.slots t 4)
abbrev ms5 (t : Fin cfg0.N) : Memref sig .tc .vmem S64x1024 .f32 := win0_5.stage (cfg0.slots t 5)

/-- What the body is handed at point `t`, window by window. -/
def bodyPre (c : Dev nD) (t : Fin cfg0.N) : sProp 𝕄 :=
  iprop(Phi m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it leaves there. -/
def bodyPost (c : Dev nD) (t : Fin cfg0.N) : sProp 𝕄 :=
  iprop(Phi m c (t.val + 1) ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in {c : Dev nD} (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem held_next (c : Dev nD) (t : Fin cfg0.N) : Held m c (t.val + 1) (wblk m c t) := fun _ _ => rfl

theorem held_prev (c : Dev nD) (t : Fin cfg0.N) (h : ¬ t.val % 5 = 0) (d) (hd : Held m c t.val d) : d = wblk m c t :=
  (hd (by omega) (by omega)).trans (congrArg k0_pay1 (iblk1_eq m c _ _ (by show (t.val - 1) / 5 = t.val / 5; omega)))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_in m 0 t rfl, leaves_in m 1 t rfl, leaves_in m 2 t rfl, leaves_in m 3 t rfl, after_0, after_1, after_2, after_3]
  simp only [before_0, before_1, before_2, before_3]
  rw [show (dats m 0 c).owesAt () t.succ = (dats m 0 c).owesAt () t.castSucc from rfl]
  unfold Phi
  by_cases h : t.val % 5 = 0
  · rw [leaves_in m 5 t (by rw [idle_5]; simp [h]), after_5,
      (dats m 0 c).leavesExact_idle 4 t (by rw [idle_4]; simp [h]) (by rw [flush_4]; simp [h])]
    iintro ⟨⟨⟨%ds, -, HS⟩, Hg⟩, Ho, ⟨%d0, H0⟩, ⟨%d1, H1⟩, ⟨%d2, H2⟩, ⟨%d3, H3⟩, H4, ⟨%d5, H5⟩⟩
    iapply (run_first c (grid0.coords t) _ _ _ _ _ _ _ _ _ _ _ _ _ _ ((cond1_iff t).mpr h) ((cond2_iff t).mpr h)
      (fun h' => (cond3_iff t).mp h' h) (iblk m c 1 t) (iblk m c 3 t) Set.univ _)
    isplitl [H1]; · iexact H1
    isplitl [H3]; · iexact H3
    isplitl [H5]; · iexists _; iexact H5
    isplitl [HS]; · iexists _; iexact HS
    iintro ⟨H1, H3, H5, HS⟩
    isplitl [HS Hg]
    · isplitl [HS]
      · iexists _; isplitr; · ipureintro; exact held_next m c t
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [leaves_in m 4 t (by rw [idle_4]; simp [h]), after_4]
    simp only [before_5 m c t h]
    iintro ⟨⟨⟨%ds, %hds, HS⟩, Hg⟩, Ho, ⟨%d0, H0⟩, ⟨%d1, H1⟩, ⟨%d2, H2⟩, ⟨%d3, H3⟩, ⟨%d4, H4⟩, ⟨%d5, H5⟩⟩
    obtain rfl := held_prev m c t h ds hds
    iapply (run_rest c (grid0.coords t) _ _ _ _ _ _ _ _ _ _ _ _ _ _ (fun h' => h ((cond1_iff t).mp h')) (fun h' => h ((cond2_iff t).mp h'))
      ((cond3_iff t).mpr h) (iblk m c 0 t) (wblk m c t) Set.univ _)
    isplitl [H0]; · iexact H0
    isplitl [HS]; · iexact HS
    isplitl [H4]; · iexists _; iexact H4
    iintro ⟨H0, HS, H4⟩
    isplitl [HS Hg]
    · isplitl [HS]
      · iexists _; isplitr; · ipureintro; exact held_next m c t
        iexact HS
      iexact Hg
    isplitl [Ho]; · iexact Ho
    isplitl [H0]; · iexact H0
    isplitl [H1]; · iexact H1
    isplitl [H2]; · iexact H2
    isplitl [H3]; · iexact H3
    isplitl [H4]; · iexact H4
    iapply (Proj.leaves_kept (dats m 0 c) 5 t _ (before_5 m c t h) ((after_5 m c t).symm))
    iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show _ ⊢ Phi m c 0
      unfold Phi Pipeline.ΦA; rw [scopedRest0_eq]; simp only [keep, owns_whole]
      iintro ⟨⟨%d, H⟩, Hg⟩
      isplitl [H]
      · iexists d; isplitr; · ipureintro; exact fun h => absurd rfl h
        iexact H
      iexact Hg)
    (hout := fun c => by
      show Phi m c _ ⊢ _
      unfold Phi Pipeline.ΦA; rw [scopedRest0_eq]; simp only [keep, owns_whole]
      iintro ⟨⟨%d, -, H⟩, Hg⟩
      isplitl [H]
      · iexists d; iexact H
      iexact Hg)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.OddUIdeal.Body

end
-- ==== Proof.Act.lean ====
/- The activations after a projection, and a projection of rows by a block of a layer's weight. -/
module

public import proofs.«01_k».proof.Proof.Product
public import proofs.«01_k».proof.Proof.Rows
public import Idealize.ShloMosaic.Lib.IdealHost

@[expose] public section

noncomputable section

namespace Proj

open Idealize.ShloMosaic Idealize.ShloMosaic.ValueIdx

/-- The tanh form of gelu. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The logistic function, and `silu`. -/
def sigmoid (x : EReal) : EReal :=
  FloatOps.divf (F := Ideal) (φ := .f32) (Ideal.ofBits .f32 0x3F800000#32) (Ideal.ofBits .f32 0x3F800000#32 + Ideal.exp (-x))

def silu (x : EReal) : EReal := x * sigmoid x

/-- As a kernel takes it: the negation is a difference from zero. -/
theorem sigmoid_sub (x : EReal) :
    FloatOps.divf (F := Ideal) (φ := .f32) (Ideal.ofBits .f32 0x3F800000#32)
      (Ideal.ofBits .f32 0x3F800000#32 + Ideal.exp (Ideal.ofBits .f32 0x00000000#32 - x)) = sigmoid x := by
  rw [Ideal.ofBits_zero_f32, zero_sub]; rfl

/-- Row `r` normalised to unit mean square and scaled, at column `n`. -/
def rms {K : ℕ} (x : Fin K → EReal) (g : EReal) (n : Fin K) : EReal :=
  x n * Ideal.rsqrt (FloatOps.divf (F := Ideal) (φ := .f32) (∑ k, x k * x k) (Ideal.ofBits .f32 0x45000000#32) + Ideal.ofBits .f32 0x358637BD#32) * g

/-- A block's rows normalised, as a kernel takes it. -/
theorem kernel_rms {M K : ℕ} (x : FVec Ideal ⟨2, ![M, K]⟩ .f32) (g : FVec Ideal ⟨2, ![1, K]⟩ .f32) (acc : BitVec 32)
    (hr : Shape.Reduces ⟨2, ![M, K]⟩ [1] ⟨1, ![M]⟩) (hφ : FKind.Formats .f32) (hacc : acc = FKind.add.neutral .f32 hφ)
    (hs : Shape.ShapeCasts ⟨1, ![M]⟩ ⟨2, ![M, 1]⟩) (hb : Shape.Broadcasts ⟨2, ![M, 1]⟩ ⟨2, ![M, K]⟩)
    (hg : Shape.Broadcasts ⟨2, ![1, K]⟩ ⟨2, ![M, K]⟩) (p : Fin M) (n : Fin K) :
    mulf (mulf x (broadcastTo ⟨2, ![M, K]⟩ (rsqrt (addf (divf
      (shapeCast ⟨2, ![M, 1]⟩ (multiReduction .add [1] ⟨1, ![M]⟩ (mulf x x) acc hr hφ hacc) hs)
      (broadcast ⟨2, ![M, 1]⟩ (Scalar.ofBits .f32 0x45000000#32 : Ideal .f32)))
      (broadcast ⟨2, ![M, 1]⟩ (Scalar.ofBits .f32 0x358637BD#32 : Ideal .f32)))) hb)) (broadcastTo ⟨2, ![M, K]⟩ g hg) (ix2 p n)
      = rms (fun k => x (ix2 p k)) (g (ix2 (0 : Fin 1) n)) n := by
  have e1 := broadcastTo_apply g hg (ix2 p n) (ix2 (0 : Fin 1) n) fun a => match a with
    | ⟨0, _⟩ => rfl
    | ⟨1, _⟩ => by show n.val = if K = 1 then 0 else n.val; split_ifs <;> omega
  have e2 := broadcastTo_apply (rsqrt (addf (divf
      (shapeCast ⟨2, ![M, 1]⟩ (multiReduction .add [1] ⟨1, ![M]⟩ (mulf x x) acc hr hφ hacc) hs)
      (broadcast ⟨2, ![M, 1]⟩ (Scalar.ofBits .f32 0x45000000#32 : Ideal .f32)))
      (broadcast ⟨2, ![M, 1]⟩ (Scalar.ofBits .f32 0x358637BD#32 : Ideal .f32)))) hb (ix2 p n) (ix2 p (0 : Fin 1)) fun a => match a with
    | ⟨0, _⟩ => by show p.val = if M = 1 then 0 else p.val; split_ifs <;> omega
    | ⟨1, _⟩ => rfl
  have e3 := shapeCast_apply (multiReduction .add [1] ⟨1, ![M]⟩ (mulf x x) acc hr hφ hacc) hs (ix2 p (0 : Fin 1)) (ix1 p) (by
    rw [Shape.rowMajor_val_one, Shape.rowMajor_val_two]; show p.val = p.val * 1 + 0; omega)
  have e4 : multiReduction .add [1] ⟨1, ![M]⟩ (mulf x x) acc hr hφ hacc (ix1 p) = ∑ k : Fin K, x (ix2 p k) * x (ix2 p k) :=
    (Ideal.multiReduction_add_single (mulf x x) acc hr hφ hacc _).trans (Finset.sum_congr rfl fun k _ =>
      congrArg (fun j => x j * x j) (funext fun a => match a with | ⟨0, _⟩ => rfl | ⟨1, _⟩ => rfl))
  refine congrArg₂ (fun a b : EReal => x (ix2 p n) * a * b) (e2.trans ?_) e1
  exact congrArg (fun z : EReal => Ideal.rsqrt (FloatOps.divf (F := Ideal) (φ := .f32) z (Ideal.ofBits .f32 0x45000000#32)
    + Ideal.ofBits .f32 0x358637BD#32)) (e3.trans e4)

/-- And as a reference takes it. -/
theorem host_rms {M K : ℕ} (x : FVec Ideal ⟨2, ![M, K]⟩ .f32) (g : FVec Ideal ⟨1, ![K]⟩ .f32)
    (hr : Shape.Reduces ⟨2, ![M, K]⟩ [1] ⟨1, ![M]⟩) (hr' : Shape.ReducesTo ⟨2, ![M, K]⟩ [1] ⟨1, ![M]⟩) (hu : 0 < (⟨0, ![]⟩ : Shape).numel)
    (hs : Shape.BroadcastsInDim ⟨1, ![M]⟩ ⟨2, ![M, 1]⟩ ![0]) (hc hc' : Shape.BroadcastsInDim ⟨0, ![]⟩ ⟨2, ![M, 1]⟩ ![])
    (hb : Shape.BroadcastsInDim ⟨2, ![M, 1]⟩ ⟨2, ![M, K]⟩ ![0, 1]) (hg : Shape.BroadcastsInDim ⟨1, ![K]⟩ ⟨2, ![1, K]⟩ ![1])
    (hg' : Shape.BroadcastsInDim ⟨2, ![1, K]⟩ ⟨2, ![M, K]⟩ ![0, 1]) (p : Fin M) (n : Fin K) :
    mulf (mulf x (broadcastInDim ⟨2, ![M, K]⟩ ![0, 1] hb (Host.rsqrt (addf (Host.divf
      (broadcastInDim ⟨2, ![M, 1]⟩ ![0] hs (Host.reduceAdd (mulf x x) (constant (F := Ideal) ⟨0, ![]⟩ .f32 0x00000000#32) hr' hu))
      (broadcastInDim ⟨2, ![M, 1]⟩ ![] hc (constant (F := Ideal) ⟨0, ![]⟩ .f32 0x45000000#32)))
      (broadcastInDim ⟨2, ![M, 1]⟩ ![] hc' (constant (F := Ideal) ⟨0, ![]⟩ .f32 0x358637BD#32))))))
      (broadcastInDim ⟨2, ![M, K]⟩ ![0, 1] hg' (broadcastInDim ⟨2, ![1, K]⟩ ![1] hg g)) (ix2 p n)
      = rms (fun k => x (ix2 p k)) (g (ix1 n)) n := by
  have e1 := (broadcastInDim_apply ![0, 1] hg' (broadcastInDim ⟨2, ![1, K]⟩ ![1] hg g) (ix2 p n) (ix2 (0 : Fin 1) n) fun a => match a with
    | ⟨0, _⟩ => rfl
    | ⟨1, _⟩ => by show n.val = if K = 1 then 0 else n.val; split_ifs <;> omega).trans
    (broadcastInDim_apply ![1] hg g (ix2 (0 : Fin 1) n) (ix1 n) fun a => match a with
    | ⟨0, _⟩ => by show n.val = if K = 1 then 0 else n.val; split_ifs <;> omega)
  have e2 := broadcastInDim_apply ![0, 1] hb (Host.rsqrt (addf (Host.divf
      (broadcastInDim ⟨2, ![M, 1]⟩ ![0] hs (Host.reduceAdd (mulf x x) (constant (F := Ideal) ⟨0, ![]⟩ .f32 0x00000000#32) hr' hu))
      (broadcastInDim ⟨2, ![M, 1]⟩ ![] hc (constant (F := Ideal) ⟨0, ![]⟩ .f32 0x45000000#32)))
      (broadcastInDim ⟨2, ![M, 1]⟩ ![] hc' (constant (F := Ideal) ⟨0, ![]⟩ .f32 0x358637BD#32)))) (ix2 p n) (ix2 p (0 : Fin 1)) fun a => match a with
    | ⟨0, _⟩ => by show p.val = if M = 1 then 0 else p.val; split_ifs <;> omega
    | ⟨1, _⟩ => rfl
  have e3 := broadcastInDim_apply ![0] hs (Host.reduceAdd (mulf x x) (constant (F := Ideal) ⟨0, ![]⟩ .f32 0x00000000#32) hr' hu)
    (ix2 p (0 : Fin 1)) (ix1 p) fun a => match a with
    | ⟨0, _⟩ => by show p.val = if M = 1 then 0 else p.val; split_ifs <;> omega
  have e4 : Host.reduceAdd (mulf x x) (constant (F := Ideal) ⟨0, ![]⟩ .f32 0x00000000#32) hr' hu (ix1 p) = ∑ k : Fin K, x (ix2 p k) * x (ix2 p k) := by
    refine (hostReduceAdd_apply _ _ hr' hu _).trans ((Ideal.hostReduceAdd_single hr' hr _ _ _).trans ?_)
    rw [constant_apply, Ideal.ofBits_zero_f32, zero_add]
    exact Finset.sum_congr rfl fun k _ =>
      congrArg (fun j => x j * x j) (funext fun a => match a with | ⟨0, _⟩ => rfl | ⟨1, _⟩ => rfl)
  refine congrArg₂ (fun a b : EReal => x (ix2 p n) * a * b) (e2.trans ?_) e1
  exact congrArg (fun z : EReal => Ideal.rsqrt (FloatOps.divf (F := Ideal) (φ := .f32) z (Ideal.ofBits .f32 0x45000000#32)
    + Ideal.ofBits .f32 0x358637BD#32)) (e3.trans e4)

/-- A product started from zero whose rows are rows of the activations, and whose columns are columns of a layer's weight. -/
theorem plain_inner {M K N R T : ℕ} {φ₁ φ₂ : FTy} (x : FVec Ideal ⟨2, ![M, K]⟩ φ₁) (w : FVec Ideal ⟨2, ![K, N]⟩ φ₂)
    (X : (⟨2, ![R, K]⟩ : Shape).Idx → EReal) (W : (⟨3, ![1, K, T]⟩ : Shape).Idx → EReal) (p : Fin M) (q : Fin N) (r r' : Fin R) (n n' : Fin T)
    (hx : ∀ k, x (ix2 p k) = X (ix2 r' k)) (hw : ∀ k, w (ix2 k q) = W (ix3 (0 : Fin 1) k n')) (hr : r.val = r'.val) (hn : n.val = n'.val) :
    matmul (DotDims.plain M K N) none x w (constant (F := Ideal) ⟨2, ![M, N]⟩ .f32 0x00000000#32) (ix2 p q) = inner X W r n := by
  obtain rfl := Fin.ext hr
  obtain rfl := Fin.ext hn
  refine (Ideal.matmul_plain_apply none x w _ p q).trans ?_
  rw [constant_apply, Ideal.ofBits_zero_f32, zero_add]
  exact Finset.sum_congr rfl fun k _ => by rw [hx, hw]

/-- A row of a block computed `n` rows at a time is computed from the same row. -/
theorem rows_of {α : Type} {N n q K : ℕ} (hN : N = q * n) (X : (⟨2, ![N, K]⟩ : Shape).Idx → α) (p : Fin N) (k : Fin K) :
    X (ix2 (n0 := N) ⟨p.val / n * n + p.val % n, group_lt hN p.isLt (Nat.mod_lt _ (group_pos hN p.isLt))⟩ k) = X (ix2 p k) :=
  congrArg (fun r => X (ix2 r k)) (Fin.ext (by show p.val / n * n + p.val % n = p.val; rw [Nat.mul_comm]; exact Nat.div_add_mod _ _))

end Proj

end
-- ==== Proof.OddUValue.lean ====
/- What the projection of a spatial layer's first part computes: both results are the gelu of the activations times the first 2048
   columns of the layer's weight, as the reference's. -/
module

public import proofs.«01_k».proof.Proof.OddUBody
public import proofs.«01_k».proof.Proof.Act
public import proofs.«01_k».proof.Proof.Gen.OddU
public import proofs.«01_k».proof.Proof.Gen.RefOddUIdeal.Run
public import proofs.«01_k».proof.Proof.Gen.RefOddUIdeal.Read
public import proofs.«01_k».proof.Defs

@[expose] public section

set_option maxRecDepth 16384

noncomputable section

namespace Cert.OddUIdeal.Body

open Idealize.ShloMosaic Idealize.ShloMosaic.TcCoe Idealize.ShloMosaic.ValueIdx Idealize.SL.Sem
open Idealize.ShloMosaic.Pipeline (Dat Cfg Window)
open Cert.OddUIdeal.Gen

variable (m : (ℓ : Loc nD τ sig) → Buf (Elt Ideal) ℓ) (ρ : Dev nD → PrngReg)

/-- The launch contents of the arguments. -/
abbrev hp (c : Dev nD) : FVec Ideal S8192x2048 .bf16 := m ((c.tc : Thread nD τ).loc main_arg0)
abbrev hs (c : Dev nD) : FVec Ideal S64x2048 .bf16 := m ((c.tc : Thread nD τ).loc main_arg1)
abbrev wt (c : Dev nD) : FVec Ideal S1x2048x6144 .f32 := m ((c.tc : Thread nD τ).loc main_arg2)

/-- The weight's column that column `n` of a result is made of. -/
def wcol (n : Fin 2048) : Fin 6144 := ⟨0 + n.val, by omega⟩

/-- The two results. -/
def outP (X : FVec Ideal S8192x2048 .bf16) (W : FVec Ideal S1x2048x6144 .f32) : FVec Ideal S8192x2048 .bf16 :=
  fun i => Proj.gelu (Proj.inner X W (i 0) (wcol (i 1)))
def outS (X : FVec Ideal S64x2048 .bf16) (W : FVec Ideal S1x2048x6144 .f32) : FVec Ideal S64x2048 .f32 :=
  fun i => Proj.gelu (Proj.inner X W (i 0) (wcol (i 1)))

/-! ## The blocks read -/

theorem V_weight (c : Dev nD) (k : Fin 2048) (n : Fin 6144) : V m c main_v0 (ix2 k n) = wt m c (ix3 (0 : Fin 1) k n) := by
  have : V m c main_v0 = shapeCast S2048x6144 (wt m c) shapeCasts_S1x2048x6144_S2048x6144 := by
    show StableHlo.after hostOps0 _ main_v0 = _
    after_results_simp <;> rfl
  rw [this]; exact Proj.drop_apply _ _ k n

theorem index0 : ∀ t : Fin cfg0.N, (cfg0.win 0).index t = ![t.val % 5 - 1, 0] :=
  (by decide +kernel : ∀ t : Fin grid0.N, win0_0.index t = ![t.val % 5 - 1, 0])
theorem index4 : ∀ t : Fin cfg0.N, (cfg0.win 4).index t = ![t.val % 5 - 1, t.val / 5] :=
  (by decide +kernel : ∀ t : Fin grid0.N, win0_4.index t = ![t.val % 5 - 1, t.val / 5])
theorem index5 : ∀ t : Fin cfg0.N, (cfg0.win 5).index t = ![0, t.val / 5] :=
  (by decide +kernel : ∀ t : Fin grid0.N, win0_5.index t = ![0, t.val / 5])

theorem t_lt (t : Fin cfg0.N) : t.val < 10 := lt_of_lt_of_eq t.isLt N_eq

theorem read0 (c : Dev nD) (t : Fin cfg0.N) (p : Fin 2048) (k : Fin 2048) :
    (iblk m c 0 t : FVec Ideal S2048x2048 .bf16) (ix2 p k) = hp m c (ix2 (n0 := 8192) ⟨(t.val % 5 - 1) * 2048 + p.val, by have := p.isLt; omega⟩ k) :=
  congrArg (hp m c) (funext fun a => Fin.ext (by
    refine (win0_0.rect_emb_val_off t (ix2 p k) a).trans ?_
    rw [show win0_0.index t = _ from index0 t]
    match a with
    | ⟨0, _⟩ => rfl
    | ⟨1, _⟩ => exact Nat.zero_add _))

theorem read3 (c : Dev nD) (t : Fin cfg0.N) (p : Fin 64) (k : Fin 2048) :
    (iblk m c 3 t : FVec Ideal S64x2048 .bf16) (ix2 p k) = hs m c (ix2 p k) :=
  congrArg (hs m c) (funext fun a => Fin.ext (by
    refine (win0_3.rect_emb_val_off t (ix2 p k) a).trans ?_
    rw [show win0_3.index t = _ from index3 t]
    match a with
    | ⟨0, _⟩ => exact Nat.zero_add _
    | ⟨1, _⟩ => exact Nat.zero_add _))

/-- The column of the weight that column `q` of point `t`'s block is. -/
def tcol (t : Fin cfg0.N) (q : Fin 1024) : Fin 6144 := ⟨0 + (t.val / 5 * 1024 + q.val), by have := q.isLt; have := t_lt t; omega⟩

theorem read1 (c : Dev nD) (t : Fin cfg0.N) (q : Fin 1024) (k : Fin 2048) :
    (wblk m c t : FVec Ideal S2048x1024 .bf16) (ix2 k q) = wt m c (ix3 (0 : Fin 1) k (tcol t q)) := by
  refine Eq.trans ?_ (V_weight m c k (tcol t q))
  unfold wblk k0_pay1
  rw [shapeCast_self, truncf_apply, shapeCast_self]
  exact congrArg (V m c main_v0) (funext fun a => Fin.ext (by
    refine (win0_1.rect_emb_val_off t (ix2 k q) a).trans ?_
    rw [show win0_1.index t = _ from index1 t]
    match a with
    | ⟨0, _⟩ => exact Nat.zero_add _
    | ⟨1, _⟩ => show _ = 0 + (t.val / 5 * 1024 + q.val); exact (Nat.zero_add _).symm))

/-! ## The write-backs -/

/-- One block of the first result is the block of `outP`. -/
theorem flushed4 (c : Dev nD) (t : Fin cfg0.N) :
    (dats m 0 c).flushed 4 t = ((cfg0.win 4).blk t).view.read (Elt Ideal) (outP (hp m c) (wt m c)) := by
  show (cfg0.win 4).cut (grid0.coords t) ((dats m 0 c).after 4 t) = _
  rw [after_4]
  funext y
  obtain ⟨p, q, rfl⟩ : ∃ (p : Fin 2048) (q : Fin 1024), y = ix2 p q := ⟨y 0, y 1, eq_ix2 y⟩
  exact congrArg Proj.gelu (Proj.plain_inner (φ₁ := .bf16) (φ₂ := .bf16) _ (wblk m c t) (hp m c) (wt m c) _ q _ _ _ (tcol t q)
    (fun k => (Proj.rows_of (N := 2048) (n := 256) (q := 8) rfl (iblk m c 0 t : FVec Ideal S2048x2048 .bf16) p k).trans (read0 m c t p k)) (read1 m c t q)
    ((win0_4.rect_emb_val_off t (ix2 p q) 0).trans (by rw [show win0_4.index t = _ from index4 t]; rfl))
    (congrArg (0 + ·) ((win0_4.rect_emb_val_off t (ix2 p q) 1).trans (by rw [show win0_4.index t = _ from index4 t]; rfl))))

/-- And of the second. -/
theorem flushed5 (c : Dev nD) (t : Fin cfg0.N) :
    (dats m 0 c).flushed 5 t = ((cfg0.win 5).blk t).view.read (Elt Ideal) (outS (hs m c) (wt m c)) := by
  show (cfg0.win 5).cut (grid0.coords t) ((dats m 0 c).after 5 t) = _
  rw [after_5]
  funext y
  obtain ⟨p, q, rfl⟩ : ∃ (p : Fin 64) (q : Fin 1024), y = ix2 p q := ⟨y 0, y 1, eq_ix2 y⟩
  exact congrArg Proj.gelu (Proj.plain_inner (φ₁ := .bf16) (φ₂ := .bf16) (iblk m c 3 t) (wblk m c t) (hs m c) (wt m c) p q _ _ _ (tcol t q)
    (read3 m c t p) (read1 m c t q)
    ((win0_5.rect_emb_val_off t (ix2 p q) 0).trans (by rw [show win0_5.index t = _ from index5 t]; exact Nat.zero_add _))
    (congrArg (0 + ·) ((win0_5.rect_emb_val_off t (ix2 p q) 1).trans (by rw [show win0_5.index t = _ from index5 t]; rfl))))

theorem xsize4 : ∀ t : Fin cfg0.N, (cfg0.win 4).xsize (grid0.coords t) = ![2048, 1024] :=
  (by decide +kernel : ∀ t : Fin grid0.N, win0_4.xsize (grid0.coords t) = ![2048, 1024])
theorem xsize5 : ∀ t : Fin cfg0.N, (cfg0.win 5).xsize (grid0.coords t) = ![64, 1024] :=
  (by decide +kernel : ∀ t : Fin grid0.N, win0_5.xsize (grid0.coords t) = ![64, 1024])

theorem arr4 (c : Dev nD) : (dats m 0 c).arrAt 4 cfg0.N = outP (hp m c) (wt m c) :=
  (dats m 0 c).arrAt_eq_of_cover 4 _ (fun t _ => flushed4 m c t) fun i => by
    have h0 : (i 0 : Nat) < 8192 := (i 0).isLt
    have h1 : (i 1 : Nat) < 2048 := (i 1).isLt
    let t : Fin cfg0.N := ⟨5 * ((i 1 : Nat) / 1024) + ((i 0 : Nat) / 2048 + 1), by rw [N_eq]; omega⟩
    have ht : t.val = 5 * ((i 1 : Nat) / 1024) + ((i 0 : Nat) / 2048 + 1) := rfl
    refine ⟨t, by rw [flush_4]; simp; omega, ?_⟩
    show i ∈ ((View.whole main_v3_0).slice (win0_4.rect t)).set
    rw [View.set_slice_whole, Rect.mem_set_unit]
    intro a
    show win0_4.index t a * _ ≤ _ ∧ _ < win0_4.index t a * _ + win0_4.xsize (grid0.coords t) a
    rw [show win0_4.index t = _ from index4 t, show win0_4.xsize (grid0.coords t) = _ from xsize4 t]
    match a with
    | ⟨0, _⟩ => show (t.val % 5 - 1) * 2048 ≤ (i 0 : Nat) ∧ (i 0 : Nat) < (t.val % 5 - 1) * 2048 + 2048; omega
    | ⟨1, _⟩ => show (t.val / 5) * 1024 ≤ (i 1 : Nat) ∧ (i 1 : Nat) < (t.val / 5) * 1024 + 1024; omega

theorem arr5 (c : Dev nD) : (dats m 0 c).arrAt 5 cfg0.N = outS (hs m c) (wt m c) :=
  (dats m 0 c).arrAt_eq_of_cover 5 _ (fun t _ => flushed5 m c t) fun i => by
    have h0 : (i 0 : Nat) < 64 := (i 0).isLt
    have h1 : (i 1 : Nat) < 2048 := (i 1).isLt
    let t : Fin cfg0.N := ⟨5 * ((i 1 : Nat) / 1024) + 4, by rw [N_eq]; omega⟩
    have ht : t.val = 5 * ((i 1 : Nat) / 1024) + 4 := rfl
    refine ⟨t, (flush0_5 t).mpr (by omega), ?_⟩
    show i ∈ ((View.whole main_v3_1).slice (win0_5.rect t)).set
    rw [View.set_slice_whole, Rect.mem_set_unit]
    intro a
    show win0_5.index t a * _ ≤ _ ∧ _ < win0_5.index t a * _ + win0_5.xsize (grid0.coords t) a
    rw [show win0_5.index t = _ from index5 t, show win0_5.xsize (grid0.coords t) = _ from xsize5 t]
    match a with
    | ⟨0, _⟩ => show 0 * 64 ≤ (i 0 : Nat) ∧ (i 0 : Nat) < 0 * 64 + 64; omega
    | ⟨1, _⟩ => show (t.val / 5) * 1024 ≤ (i 1 : Nat) ∧ (i 1 : Nat) < (t.val / 5) * 1024 + 1024; omega

/-! ## The reference -/

theorem ref_P (X : FVec Ideal S8192x2048 .bf16) (W : FVec Ideal S1x2048x6144 .f32) :
    Cert.RefOddUIdeal.Read.val_main_v19 (F := Ideal) X W = outP X W := by
  funext i
  obtain ⟨r, n, rfl⟩ : ∃ (r : Fin 8192) (n : Fin 2048), i = ix2 r n := ⟨i 0, i 1, eq_ix2 i⟩
  exact congrArg Proj.gelu ((extractStridedSlice_apply _ _ _ _ (ix2 (n1 := 6144) r (wcol n)) fun a => match a with
    | ⟨0, _⟩ => (Nat.zero_add _).symm | ⟨1, _⟩ => rfl).trans (Proj.host_apply _ W _ r _))

theorem ref_S (X : FVec Ideal S64x2048 .bf16) (W : FVec Ideal S1x2048x6144 .f32) :
    Cert.RefOddUIdeal.Read.val_main_v38 (F := Ideal) X W = outS X W := by
  funext i
  obtain ⟨r, n, rfl⟩ : ∃ (r : Fin 64) (n : Fin 2048), i = ix2 r n := ⟨i 0, i 1, eq_ix2 i⟩
  exact congrArg Proj.gelu ((extractStridedSlice_apply _ _ _ _ (ix2 (n1 := 6144) r (wcol n)) fun a => match a with
    | ⟨0, _⟩ => (Nat.zero_add _).symm | ⟨1, _⟩ => rfl).trans (Proj.host_apply _ W _ r _))

/-! ## The claims -/

/-- The kernel's run: the results at the products, the arguments unchanged. -/
theorem run_value : θ_run defs (onTc (τ := τ) (main (F := Ideal))) ⟨m, fun _ => 0, ρ⟩ (fun r => ∀ c : Dev nD,
      r.2.mem ((c.tc : Thread nD τ).loc main_v3_0) = outP (hp m c) (wt m c)
      ∧ r.2.mem ((c.tc : Thread nD τ).loc main_v3_1) = outS (hs m c) (wt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.1 c).1 4).trans (arr4 m c), ((h.1.1 c).1 5).trans (arr5 m c), h.2.1 c⟩)
    (θ_run_and (run_main m ρ) (frame m ρ))

theorem algebraic : Cert.algebraic_OddUIdeal_RefOddUIdeal := fun m g m' g' _ hagree =>
  ⟨fun c => outP (hp m c) (wt m c), fun c => outS (hs m c) (wt m c), run_value m g,
    (θ_run Cert.RefOddUIdeal.defs _ _).mono (fun _ h c => by
      obtain ⟨h1, h2, h3⟩ := h c
      obtain ⟨a0, a1, a2, a3⟩ := hagree c
      refine ⟨h1.trans ((Cert.RefOddUIdeal.Read.val_main_v19_eq _ _).trans ?_), h2.trans ((Cert.RefOddUIdeal.Read.val_main_v38_eq _ _).trans ?_), h3⟩
      · rw [a0, a2]; exact ref_P _ _
      · rw [a1, a2]; exact ref_S _ _) (Cert.RefOddUIdeal.Value.run (F := Ideal) m' g')⟩

/-- The program as printed and its idealization have one body, label by label. -/
theorem defs_eq {F : FTy → Type} [FloatOps F] : Cert.OddU.defs (F := F) = Cert.OddUIdeal.defs :=
  congrArg (Pipeline.defs Cert.OddUIdeal.pcfgs) (by
    unfold Cert.OddU.defs₀ Cert.OddUIdeal.defs₀
    congr 1
    funext l a
    match l, a with
    | 0, (t, s) => rfl)

/-- So the printed program's run is the same run, at the machine's numbers. -/
theorem frame_kernel : Cert.quiescent_OddU := fun m ρ _ => by
  rw [defs_eq]; exact frame (F := Bits) m ρ

theorem frame_ideal : Cert.quiescent_OddUIdeal := fun m ρ _ => frame (F := Ideal) m ρ

theorem frame_ref : Cert.quiescent_RefOddUIdeal := fun m ρ _ =>
  (θ_run Cert.RefOddUIdeal.defs _ _).mono (fun r h => ⟨fun c => (h c).2.2, sem_eq_zero_of_no_sems (by decide) r.2⟩)
    (Cert.RefOddUIdeal.Value.run (F := Ideal) m ρ)

end Cert.OddUIdeal.Body

end
-- ==== Proof.OddVBody.lean ====
module

public import proofs.«01_k».proof.Proof.Gen.OddVIdeal.Frame
public import proofs.«01_k».proof.Proof.Gen.OddVIdeal.Skeleton
public import proofs.«01_k».proof.Proof.Common
public import proofs.«01_k».proof.Proof.Rows
public import Idealize.ShloMosaic.Lib.Claim

@[expose] public section

set_option maxRecDepth 16384

noncomputable section

namespace Cert.OddVIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.OddVIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch's condition, at the first point of a column of the grid. -/
abbrev cond1 (i : grid0.Coords) : Prop :=
  Scalar.cmpi .ne (Scalar.extui (Scalar.cmpi .eq (BitVec.ofNat 32 (i 1).val) 0#32) : BitVec 32) 0#32 = 1#1

/-- A block of the first group's result, 256 rows at a time. -/
def block (x : Vec F S512x2048 .bf16) (w : Vec F S2048x2048 .bf16) (g : Vec F S1x2048 .f32) : Vec F S512x2048 .bf16 :=
  Proj.byRows (N := 512) (n := 256) (q := 2) rfl (fun y : Vec F S256x2048 .bf16 => k0_pay4 y w g) x

/-- What the result's buffer reads after its two groups of rows are stored. -/
theorem block_read {κ κ' : Kind} {sp sp' : Space} (v : View sig κ sp S512x2048 .bf16) (f : v.ty.Contents (Elt F))
    (u : View sig κ' sp' S512x2048 .bf16) (g : u.ty.Contents (Elt F)) {x : Vec F S512x2048 .bf16} (hx : u.read (Elt F) g = x)
    (w : Vec F S2048x2048 .bf16) (n : Vec F S1x2048 .f32) :
    v.read (Elt F) (v.writes (Elt F) f
      [Proj.rowPiece (fun y : Vec F S256x2048 .bf16 => k0_pay3 (k0_pay5 y w) (k0_pay6 y w) (Scalar.ofBits .f32 0x3D372713#32) n) u g 256 (by decide),
      Proj.rowPiece (fun y : Vec F S256x2048 .bf16 => k0_pay4 y w n) u g 0 (by decide)]) = block x w n :=
  Proj.read_two (N := 512) (n := 256) (K := 2048) (C := 2048) rfl v f (fun y : Vec F S256x2048 .bf16 => k0_pay4 y w n) u g hx (by decide) 256 rfl

/-- The weight block and the second group's result, at the first point of a column. -/
theorem run_first (c : Dev nD) (i : grid0.Coords) (arg2 : Memref sig .tc .vmem S512x2048 .bf16) (harg2 : arg2.IsWhole)
    (arg3 : Memref sig .tc .vmem S2048x2048 .f32) (harg3 : arg3.IsWhole) (arg4 : Memref sig .tc .vmem S1x2048 .f32) (harg4 : arg4.IsWhole)
    (arg5 : Memref sig .tc .vmem S64x2048 .bf16) (harg5 : arg5.IsWhole) (arg6 : Memref sig .tc .vmem S512x2048 .bf16) (harg6 : arg6.IsWhole)
    (arg7 : Memref sig .tc .vmem S64x2048 .f32) (harg7 : arg7.IsWhole) (arg8 : Memref sig .tc .vmem S2048x2048 .bf16) (harg8 : arg8.IsWhole)
    (hc0 : cond1 i)
    (hc1 : k0_cond2 i = 1#1) (hc2 : ¬ k0_cond3 i = 1#1)
    (x1 : Vec F S2048x2048 .f32) (g : Vec F S1x2048 .f32) (x2 : Vec F S64x2048 .bf16) (E : Set ℕ) (K : PUnit → sProp 𝕄) :
    iprop(owns (c : Thread nD τ) arg3 fullShare x1 ∗ owns (c : Thread nD τ) arg4 fullShare g ∗ owns (c : Thread nD τ) arg5 fullShare x2
        ∗ (∃ d, owns (c : Thread nD τ) arg7 fullShare d) ∗ (∃ d, owns (c : Thread nD τ) arg8 fullShare d)
        ∗ (iprop(owns (c : Thread nD τ) arg3 fullShare x1 ∗ owns (c : Thread nD τ) arg4 fullShare g ∗ owns (c : Thread nD τ) arg5 fullShare x2
            ∗ owns (c : Thread nD τ) arg7 fullShare (k0_pay2 x2 (k0_pay1 x1) g) ∗ owns (c : Thread nD τ) arg8 fullShare (k0_pay1 x1)) -∗ K ⟨⟩))
      ⊢ wp frame (wpE (defs₀ (F := F)) Variants.none c none) E (cc0_proj_gelu_rms i arg2 harg2 arg3 harg3 arg4 harg4 arg5 harg5 arg6 harg6 arg7 harg7 arg8 harg8) K := by
  simp only [cc0_proj_gelu_rms_eq_skeleton]; unfold cc0_proj_gelu_rms_skel
  unfold owns
  iintro ⟨⟨%f1, %hf1, H1⟩, ⟨%fg, %hfg, HG⟩, ⟨%f2, %hf2, H2⟩, ⟨%d4, %f4, -, H4⟩, ⟨%ds0, %fs0, -, HS0⟩, Hk⟩
  sl_exec (disch := first | sl_exact hc0 | sl_exact hc1 | sl_exact hc2)
  sl_step
  iapply Hk
  isplitl [H1]
  · iexists _; isplitr; · ipureintro; exact hf1
    iexact H1
  isplitl [HG]
  · iexists _; isplitr; · ipureintro; exact hfg
    iexact HG
  isplitl [H2]
  · iexists _; isplitr; · ipureintro; exact hf2
    iexact H2
  isplitl [H4]
  · iexists _; isplitr; swap; · iexact H4
    ipureintro
    sl_unfold_run_names
    rw [Proj.read_stored _ _ Proj.off0, Proj.load_whole hf2 Proj.off0, View.readCov_unit_zero _ Proj.off0, Proj.load_whole hf1 Proj.off0, Proj.load_whole hfg Proj.off0]
  iexists _; isplitr; swap; · iexact HS0
  ipureintro
  sl_unfold_run_names
  rw [Proj.read_stored _ _ Proj.off0, Proj.load_whole hf1 Proj.off0]

/-- The body past the first point of a column: the first group's block times the kept weight block. -/
theorem run_rest (c : Dev nD) (i : grid0.Coords) (arg2 : Memref sig .tc .vmem S512x2048 .bf16) (harg2 : arg2.IsWhole)
    (arg3 : Memref sig .tc .vmem S2048x2048 .f32) (harg3 : arg3.IsWhole) (arg4 : Memref sig .tc .vmem S1x2048 .f32) (harg4 : arg4.IsWhole)
    (arg5 : Memref sig .tc .vmem S64x2048 .bf16) (harg5 : arg5.IsWhole) (arg6 : Memref sig .tc .vmem S512x2048 .bf16) (harg6 : arg6.IsWhole)
    (arg7 : Memref sig .tc .vmem S64x2048 .f32) (harg7 : arg7.IsWhole) (arg8 : Memref sig .tc .vmem S2048x2048 .bf16) (harg8 : arg8.IsWhole)
    (hc0 : ¬ cond1 i) (hc1 : ¬ k0_cond2 i = 1#1) (hc2 : k0_cond3 i = 1#1)
    (x0 : Vec F S512x2048 .bf16) (g : Vec F S1x2048 .f32) (w : Vec F S2048x2048 .bf16) (E : Set ℕ) (K : PUnit → sProp 𝕄) :
    iprop(owns (c : Thread nD τ) arg2 fullShare x0 ∗ owns (c : Thread nD τ) arg4 fullShare g ∗ owns (c : Thread nD τ) arg8 fullShare w ∗ (∃ d, owns (c : Thread nD τ) arg6 fullShare d)
        ∗ (iprop(owns (c : Thread nD τ) arg2 fullShare x0 ∗ owns (c : Thread nD τ) arg4 fullShare g ∗ owns (c : Thread nD τ) arg8 fullShare w
            ∗ owns (c : Thread nD τ) arg6 fullShare (block x0 w g)) -∗ K ⟨⟩))
      ⊢ wp frame (wpE (defs₀ (F := F)) Variants.none c none) E (cc0_proj_gelu_rms i arg2 harg2 arg3 harg3 arg4 harg4 arg5 harg5 arg6 harg6 arg7 harg7 arg8 harg8) K := by
  simp only [cc0_proj_gelu_rms_eq_skeleton]; unfold cc0_proj_gelu_rms_skel
  simp only [k0_part1_eq_skeleton]
  unfold k0_part1_skel owns
  iintro ⟨⟨%f0, %hf0, H0⟩, ⟨%fg, %hfg, HG⟩, ⟨%fs, %hfs, HS⟩, ⟨%d3, %f3, -, H3⟩, Hk⟩
  sl_exec (disch := first | sl_exact hc0 | sl_exact hc1 | sl_exact hc2)
  sl_step
  iapply Hk
  isplitl [H0]
  · iexists _; isplitr; · ipureintro; exact hf0
    iexact H0
  isplitl [HG]
  · iexists _; isplitr; · ipureintro; exact hfg
    iexact HG
  isplitl [HS]
  · iexists _; isplitr; · ipureintro; exact hfs
    iexact HS
  iexists _; isplitr; swap; · iexact H3
  ipureintro
  sl_unfold_run_names
  simp only [Proj.load_whole hfs Proj.off0, Proj.load_whole hfg Proj.off0]
  exact block_read _ _ _ _ hf0 w g

/-! ## The schedule -/

theorem N_eq : cfg0.N = 17 := N_0

/-- The first branch is taken at the first point of a column. -/
theorem cond1_iff : ∀ t : Fin cfg0.N, cond1 (grid0.coords t) ↔ t.val % 17 = 0 :=
  (by decide +kernel : ∀ t : Fin grid0.N, cond1 (grid0.coords t) ↔ t.val % 17 = 0)
theorem cond2_iff : ∀ t : Fin cfg0.N, k0_cond2 (grid0.coords t) = 1#1 ↔ t.val % 17 = 0 :=
  (by decide +kernel : ∀ t : Fin grid0.N, k0_cond2 (grid0.coords t) = 1#1 ↔ t.val % 17 = 0)
theorem cond3_iff : ∀ t : Fin cfg0.N, k0_cond3 (grid0.coords t) = 1#1 ↔ ¬ t.val % 17 = 0 :=
  (by decide +kernel : ∀ t : Fin grid0.N, k0_cond3 (grid0.coords t) = 1#1 ↔ ¬ t.val % 17 = 0)

/-- The weight window's block index: all the rows, the column's columns. -/
theorem index1 : ∀ t : Fin cfg0.N, (cfg0.win 1).index t = ![0, 1] :=
  (by decide +kernel : ∀ t : Fin grid0.N, win0_1.index t = ![0, 1])
theorem index2 : ∀ t : Fin cfg0.N, (cfg0.win 2).index t = ![0, 0] :=
  (by decide +kernel : ∀ t : Fin grid0.N, win0_2.index t = ![0, 0])
theorem index3 : ∀ t : Fin cfg0.N, (cfg0.win 3).index t = ![0, 0] :=
  (by decide +kernel : ∀ t : Fin grid0.N, win0_3.index t = ![0, 0])

/-- Within a column the weight block does not move. -/
theorem iblk1_eq (c : Dev nD) (t t' : Fin cfg0.N)  :
    (iblk m c 1 t : Vec F S2048x2048 .f32) = iblk m c 1 t' :=
  funext fun y => congrArg (V m c (Pipeline.arrRef spec0 1)) (funext fun a => Fin.ext (by
    refine (win0_1.rect_emb_val_off t y a).trans (Eq.trans ?_ (win0_1.rect_emb_val_off t' y a).symm)
    rw [show win0_1.index t = _ from index1 t, show win0_1.index t' = _ from index1 t']))

theorem iblk2_eq (c : Dev nD) (t t' : Fin cfg0.N) : (iblk m c 2 t : Vec F S1x2048 .f32) = iblk m c 2 t' :=
  funext fun y => congrArg (V m c (Pipeline.arrRef spec0 2)) (funext fun a => Fin.ext (by
    refine (win0_2.rect_emb_val_off t y a).trans (Eq.trans ?_ (win0_2.rect_emb_val_off t' y a).symm)
    rw [show win0_2.index t = _ from index2 t, show win0_2.index t' = _ from index2 t']))

theorem iblk3_eq (c : Dev nD) (t t' : Fin cfg0.N) : (iblk m c 3 t : Vec F S64x2048 .bf16) = iblk m c 3 t' :=
  funext fun y => congrArg (V m c (Pipeline.arrRef spec0 3)) (funext fun a => Fin.ext (by
    refine (win0_3.rect_emb_val_off t y a).trans (Eq.trans ?_ (win0_3.rect_emb_val_off t' y a).symm)
    rw [show win0_3.index t = _ from index3 t, show win0_3.index t' = _ from index3 t']))

/-! ## The proof data -/

/-- The scratch buffer that keeps the rounded weight block. -/
abbrev keep : Memref sig .tc .vmem S2048x2048 .bf16 := Memref.whole cc0_scratch0

/-- The rounded weight block of point `t`'s column. -/
def wblk (c : Dev nD) (t : Fin cfg0.N) : Vec F S2048x2048 .bf16 := k0_pay1 (iblk m c 1 t)

/-- Before point `n`, past the first, the scratch holds the rounded weight block of the point before. -/
def Held (c : Dev nD) (n : ℕ) (d : S2048x2048.Idx → Elt F .bf16) : Prop :=
  ∀ (h : n ≠ 0) (h' : n - 1 < cfg0.N), d = wblk m c ⟨n - 1, h'⟩

def Phi (c : Dev nD) (n : ℕ) : sProp 𝕄 :=
  iprop((∃ d, ⌜Held m c n d⌝ ∗ owns (c : Thread nD τ) keep fullShare d) ∗ (∃ r, prngReg c r))

/-- What the pipeline's proof says: every input's buffer keeps its block, the two results' buffers hold the products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block (iblk m c 0 t) (wblk m c t) (iblk m c 2 t)
    | ⟨5, _⟩ => k0_pay2 (iblk m c 3 t) (wblk m c t) (iblk m c 2 t)
  Φ t := Phi m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = block (iblk m c 0 t) (wblk m c t) (iblk m c 2 t) := by dsimp only [dats]
theorem after_5 (c : Dev nD) (t : Fin cfg0.N) : (dats m 0 c).after 5 t = k0_pay2 (iblk m c 3 t) (wblk m c t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem idle_4 (t : Fin cfg0.N) : cfg0.idle 4 (grid0.coords t) = decide (t.val % 17 = 0) :=
  (by decide +kernel : ∀ t : Fin grid0.N, idle0 4 (grid0.coords t) = decide (t.val % 17 = 0)) t
theorem idle_5 (t : Fin cfg0.N) : cfg0.idle 5 (grid0.coords t) = !decide (t.val % 17 = 0) :=
  (by decide +kernel : ∀ t : Fin grid0.N, idle0 5 (grid0.coords t) = !decide (t.val % 17 = 0)) t
theorem flush_4 (t : Fin cfg0.N) : (cfg0.win 4).flush t = !decide (t.val % 17 = 0) :=
  (by decide +kernel : ∀ t : Fin grid0.N, win0_4.flush t = !decide (t.val % 17 = 0)) t

/-- The second group's window holds nothing of the body's only before the first point of a column. -/
theorem fresh_5 (t : Fin cfg0.N) : cfg0.fresh 5 t.val = decide (t.val % 17 = 0) :=
  cfg0.fresh_tab 5 (fun n => decide (n % 17 = 0)) rfl (fun t => by
    rw [idle_5, show (cfg0.win 5).flush t = decide (t.val % 17 = 16) from Bool.eq_iff_iff.mpr ((flush0_5 t).trans (by simp))]
    by_cases h : t.val % 17 = 0 <;> simp [h] <;> omega) t.val t.isLt.le

/-- Past the first point of a column the second group's window holds its result. -/
theorem before_5 (c : Dev nD) (t : Fin cfg0.N) (h : ¬ t.val % 17 = 0) (d) :
    (dats m 0 c).before 5 t d = k0_pay2 (iblk m c 3 t) (wblk m c t) (iblk m c 2 t) := by
  have carry : ∀ t : Fin cfg0.N, ¬ t.val % 17 = 0 →
      (dats m 0 c).after 5 t = (dats m 0 c).after 5 ⟨t.val - 1, by omega⟩ := fun t h => by
    rw [after_5, after_5, wblk, wblk, iblk3_eq m c t ⟨t.val - 1, by omega⟩, iblk2_eq m c t ⟨t.val - 1, by omega⟩,
      iblk1_eq m c t ⟨t.val - 1, by omega⟩ ]
  rw [(dats m 0 c).before_out_traj 5 rfl (fun _ _ => rfl) (fun t _ _ hf => carry t (by rw [fresh_5] at hf; simpa using hf)) t.val t rfl d,
    fresh_5, if_neg (by simpa using h), ← carry t h, after_5]

/-! ## The body obligation -/

abbrev ms0 (t : Fin cfg0.N) : Memref sig .tc .vmem S512x2048 .bf16 := win0_0.stage (cfg0.slots t 0)
abbrev ms1 (t : Fin cfg0.N) : Memref sig .tc .vmem S2048x2048 .f32 := win0_1.stage (cfg0.slots t 1)
abbrev ms2 (t : Fin cfg0.N) : Memref sig .tc .vmem S1x2048 .f32 := win0_2.stage (cfg0.slots t 2)
abbrev ms3 (t : Fin cfg0.N) : Memref sig .tc .vmem S64x2048 .bf16 := win0_3.stage (cfg0.slots t 3)
abbrev ms4 (t : Fin cfg0.N) : Memref sig .tc .vmem S512x2048 .bf16 := win0_4.stage (cfg0.slots t 4)
abbrev ms5 (t : Fin cfg0.N) : Memref sig .tc .vmem S64x2048 .f32 := win0_5.stage (cfg0.slots t 5)

/-- What the body is handed at point `t`, window by window. -/
def bodyPre (c : Dev nD) (t : Fin cfg0.N) : sProp 𝕄 :=
  iprop(Phi m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it leaves there. -/
def bodyPost (c : Dev nD) (t : Fin cfg0.N) : sProp 𝕄 :=
  iprop(Phi m c (t.val + 1) ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in {c : Dev nD} (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem held_next (c : Dev nD) (t : Fin cfg0.N) : Held m c (t.val + 1) (wblk m c t) := fun _ _ => rfl

theorem held_prev (c : Dev nD) (t : Fin cfg0.N) (h : ¬ t.val % 17 = 0) (d) (hd : Held m c t.val d) : d = wblk m c t :=
  (hd (by omega) (by omega)).trans (congrArg k0_pay1 (iblk1_eq m c _ _))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_in m 0 t rfl, leaves_in m 1 t rfl, leaves_in m 2 t rfl, leaves_in m 3 t rfl, after_0, after_1, after_2, after_3]
  simp only [before_0, before_1, before_2, before_3]
  rw [show (dats m 0 c).owesAt () t.succ = (dats m 0 c).owesAt () t.castSucc from rfl]
  unfold Phi
  by_cases h : t.val % 17 = 0
  · rw [leaves_in m 5 t (by rw [idle_5]; simp [h]), after_5,
      (dats m 0 c).leavesExact_idle 4 t (by rw [idle_4]; simp [h]) (by rw [flush_4]; simp [h])]
    iintro ⟨⟨⟨%ds, -, HS⟩, Hg⟩, Ho, ⟨%d0, H0⟩, ⟨%d1, H1⟩, ⟨%d2, H2⟩, ⟨%d3, H3⟩, H4, ⟨%d5, H5⟩⟩
    iapply (run_first c (grid0.coords t) _ _ _ _ _ _ _ _ _ _ _ _ _ _ ((cond1_iff t).mpr h) ((cond2_iff t).mpr h)
      (fun h' => (cond3_iff t).mp h' h) (iblk m c 1 t) (iblk m c 2 t) (iblk m c 3 t) Set.univ _)
    isplitl [H1]; · iexact H1
    isplitl [H2]; · iexact H2
    isplitl [H3]; · iexact H3
    isplitl [H5]; · iexists _; iexact H5
    isplitl [HS]; · iexists _; iexact HS
    iintro ⟨H1, H2, H3, H5, HS⟩
    isplitl [HS Hg]
    · isplitl [HS]
      · iexists _; isplitr; · ipureintro; exact held_next m c t
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [leaves_in m 4 t (by rw [idle_4]; simp [h]), after_4]
    simp only [before_5 m c t h]
    iintro ⟨⟨⟨%ds, %hds, HS⟩, Hg⟩, Ho, ⟨%d0, H0⟩, ⟨%d1, H1⟩, ⟨%d2, H2⟩, ⟨%d3, H3⟩, ⟨%d4, H4⟩, ⟨%d5, H5⟩⟩
    obtain rfl := held_prev m c t h ds hds
    iapply (run_rest c (grid0.coords t) _ _ _ _ _ _ _ _ _ _ _ _ _ _ (fun h' => h ((cond1_iff t).mp h')) (fun h' => h ((cond2_iff t).mp h'))
      ((cond3_iff t).mpr h) (iblk m c 0 t) (iblk m c 2 t) (wblk m c t) Set.univ _)
    isplitl [H0]; · iexact H0
    isplitl [H2]; · iexact H2
    isplitl [HS]; · iexact HS
    isplitl [H4]; · iexists _; iexact H4
    iintro ⟨H0, H2, HS, H4⟩
    isplitl [HS Hg]
    · isplitl [HS]
      · iexists _; isplitr; · ipureintro; exact held_next m c t
        iexact HS
      iexact Hg
    isplitl [Ho]; · iexact Ho
    isplitl [H0]; · iexact H0
    isplitl [H1]; · iexact H1
    isplitl [H2]; · iexact H2
    isplitl [H3]; · iexact H3
    isplitl [H4]; · iexact H4
    iapply (Proj.leaves_kept (dats m 0 c) 5 t _ (before_5 m c t h) ((after_5 m c t).symm))
    iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show _ ⊢ Phi m c 0
      unfold Phi Pipeline.ΦA; rw [scopedRest0_eq]; simp only [keep, owns_whole]
      iintro ⟨⟨%d, H⟩, Hg⟩
      isplitl [H]
      · iexists d; isplitr; · ipureintro; exact fun h => absurd rfl h
        iexact H
      iexact Hg)
    (hout := fun c => by
      show Phi m c _ ⊢ _
      unfold Phi Pipeline.ΦA; rw [scopedRest0_eq]; simp only [keep, owns_whole]
      iintro ⟨⟨%d, -, H⟩, Hg⟩
      isplitl [H]
      · iexists d; iexact H
      iexact Hg)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.OddVIdeal.Body

end
-- ==== Proof.OddVValue.lean ====
/- What the projection of a spatial layer's second part computes: both results are the gelu of the activations times the second 2048
   columns of the layer's weight, its rows normalised and scaled, as the reference's. -/
module

public import proofs.«01_k».proof.Proof.OddVBody
public import proofs.«01_k».proof.Proof.Act
public import proofs.«01_k».proof.Proof.Gen.OddV
public import proofs.«01_k».proof.Proof.Gen.RefOddVIdeal.Run
public import proofs.«01_k».proof.Proof.Gen.RefOddVIdeal.Read
public import proofs.«01_k».proof.Defs

@[expose] public section

set_option maxRecDepth 16384

noncomputable section

namespace Cert.OddVIdeal.Body

open Idealize.ShloMosaic Idealize.ShloMosaic.TcCoe Idealize.ShloMosaic.ValueIdx Idealize.SL.Sem
open Idealize.ShloMosaic.Pipeline (Dat Cfg Window)
open Cert.OddVIdeal.Gen

variable (m : (ℓ : Loc nD τ sig) → Buf (Elt Ideal) ℓ) (ρ : Dev nD → PrngReg)

/-- The launch contents of the arguments. -/
abbrev hp (c : Dev nD) : FVec Ideal S8192x2048 .bf16 := m ((c.tc : Thread nD τ).loc main_arg0)
abbrev hs (c : Dev nD) : FVec Ideal S64x2048 .bf16 := m ((c.tc : Thread nD τ).loc main_arg1)
abbrev wt (c : Dev nD) : FVec Ideal S1x2048x6144 .f32 := m ((c.tc : Thread nD τ).loc main_arg2)
abbrev gain (c : Dev nD) : FVec Ideal S1x2048 .f32 := m ((c.tc : Thread nD τ).loc main_arg3)

/-- The weight's column that column `n` of a result is made of. -/
def wcol (n : Fin 2048) : Fin 6144 := ⟨2048 + n.val, by omega⟩

/-- The two results. -/
def outP (X : FVec Ideal S8192x2048 .bf16) (W : FVec Ideal S1x2048x6144 .f32) (G : FVec Ideal S1x2048 .f32) : FVec Ideal S8192x2048 .bf16 :=
  fun i => Proj.rms (fun n => Proj.gelu (Proj.inner X W (i 0) (wcol n))) (G (ix2 (0 : Fin 1) (i 1))) (i 1)
def outS (X : FVec Ideal S64x2048 .bf16) (W : FVec Ideal S1x2048x6144 .f32) (G : FVec Ideal S1x2048 .f32) : FVec Ideal S64x2048 .f32 :=
  fun i => Proj.rms (fun n => Proj.gelu (Proj.inner X W (i 0) (wcol n))) (G (ix2 (0 : Fin 1) (i 1))) (i 1)

/-! ## The blocks read -/

theorem V_weight (c : Dev nD) (k : Fin 2048) (n : Fin 6144) : V m c main_v0 (ix2 k n) = wt m c (ix3 (0 : Fin 1) k n) := by
  have : V m c main_v0 = shapeCast S2048x6144 (wt m c) shapeCasts_S1x2048x6144_S2048x6144 := by
    show StableHlo.after hostOps0 _ main_v0 = _
    after_results_simp <;> rfl
  rw [this]; exact Proj.drop_apply _ _ k n

theorem index0 : ∀ t : Fin cfg0.N, (cfg0.win 0).index t = ![t.val % 17 - 1, 0] :=
  (by decide +kernel : ∀ t : Fin grid0.N, win0_0.index t = ![t.val % 17 - 1, 0])
theorem index4 : ∀ t : Fin cfg0.N, (cfg0.win 4).index t = ![t.val % 17 - 1, 0] :=
  (by decide +kernel : ∀ t : Fin grid0.N, win0_4.index t = ![t.val % 17 - 1, 0])
theorem index5 : ∀ t : Fin cfg0.N, (cfg0.win 5).index t = ![0, 0] :=
  (by decide +kernel : ∀ t : Fin grid0.N, win0_5.index t = ![0, 0])

theorem t_lt (t : Fin cfg0.N) : t.val < 17 := lt_of_lt_of_eq t.isLt N_eq

theorem V_gain (c : Dev nD) (n : Fin 2048) : V m c main_v2 (ix2 (0 : Fin 1) n) = gain m c (ix2 (0 : Fin 1) n) := by
  have : V m c main_v2 = shapeCast S1x2048 (shapeCast S2048 (gain m c) shapeCasts_S1x2048_S2048) shapeCasts_S2048_S1x2048 := by
    show StableHlo.after hostOps0 _ main_v2 = _
    after_results_simp <;> rfl
  rw [this]; exact Proj.flat_back _ _ _ n

theorem read0 (c : Dev nD) (t : Fin cfg0.N) (p : Fin 512) (k : Fin 2048) :
    (iblk m c 0 t : FVec Ideal S512x2048 .bf16) (ix2 p k) = hp m c (ix2 (n0 := 8192) ⟨(t.val % 17 - 1) * 512 + p.val, by have := p.isLt; omega⟩ k) :=
  congrArg (hp m c) (funext fun a => Fin.ext (by
    refine (win0_0.rect_emb_val_off t (ix2 p k) a).trans ?_
    rw [show win0_0.index t = _ from index0 t]
    match a with
    | ⟨0, _⟩ => rfl
    | ⟨1, _⟩ => exact Nat.zero_add _))

theorem read2 (c : Dev nD) (t : Fin cfg0.N) (n : Fin 2048) :
    (iblk m c 2 t : FVec Ideal S1x2048 .f32) (ix2 (0 : Fin 1) n) = gain m c (ix2 (0 : Fin 1) n) := by
  refine Eq.trans ?_ (V_gain m c n)
  exact congrArg (V m c main_v2) (funext fun a => Fin.ext (by
    refine (win0_2.rect_emb_val_off t (ix2 (0 : Fin 1) n) a).trans ?_
    rw [show win0_2.index t = _ from index2 t]
    match a with
    | ⟨0, _⟩ => rfl
    | ⟨1, _⟩ => exact Nat.zero_add _))

theorem read3 (c : Dev nD) (t : Fin cfg0.N) (p : Fin 64) (k : Fin 2048) :
    (iblk m c 3 t : FVec Ideal S64x2048 .bf16) (ix2 p k) = hs m c (ix2 p k) :=
  congrArg (hs m c) (funext fun a => Fin.ext (by
    refine (win0_3.rect_emb_val_off t (ix2 p k) a).trans ?_
    rw [show win0_3.index t = _ from index3 t]
    match a with
    | ⟨0, _⟩ => exact Nat.zero_add _
    | ⟨1, _⟩ => exact Nat.zero_add _))

theorem read1 (c : Dev nD) (t : Fin cfg0.N) (q : Fin 2048) (k : Fin 2048) :
    (wblk m c t : FVec Ideal S2048x2048 .bf16) (ix2 k q) = wt m c (ix3 (0 : Fin 1) k (wcol q)) := by
  refine Eq.trans ?_ (V_weight m c k (wcol q))
  unfold wblk k0_pay1
  rw [shapeCast_self, truncf_apply, shapeCast_self]
  exact congrArg (V m c main_v0) (funext fun a => Fin.ext (by
    refine (win0_1.rect_emb_val_off t (ix2 k q) a).trans ?_
    rw [show win0_1.index t = _ from index1 t]
    match a with
    | ⟨0, _⟩ => exact Nat.zero_add _
    | ⟨1, _⟩ => rfl))

/-! ## What the body stores -/

theorem pay4_apply (x : FVec Ideal S256x2048 .bf16) (w : FVec Ideal S2048x2048 .bf16) (g : FVec Ideal S1x2048 .f32) (p : Fin 256) (n : Fin 2048) :
    k0_pay4 (F := Ideal) x w g (ix2 p n) = Proj.rms (fun k => Proj.gelu (matmul (F := Ideal) dot_S256x2048_S2048x2048_S256x2048_1_0_0_1_n_n none x w
      (constant S256x2048 .f32 0x00000000#32) (ix2 p k))) (g (ix2 (0 : Fin 1) n)) n :=
  (Proj.kernel_rms (M := 256) (K := 2048) (fun j => Proj.gelu (matmul (F := Ideal) dot_S256x2048_S2048x2048_S256x2048_1_0_0_1_n_n none x w
    (constant S256x2048 .f32 0x00000000#32) j)) (shapeCast S1x2048 g shapeCasts_S1x2048_S1x2048) 0x00000000#32 reduces_S256x2048_S256 (.inl rfl) rfl
    shapeCasts_S256_S256x1 broadcasts_S256x1_S256x2048 broadcasts_S1x2048_S256x2048 p n).trans (by rw [shapeCast_self])

theorem pay2_apply (x : FVec Ideal S64x2048 .bf16) (w : FVec Ideal S2048x2048 .bf16) (g : FVec Ideal S1x2048 .f32) (p : Fin 64) (n : Fin 2048) :
    k0_pay2 (F := Ideal) x w g (ix2 p n) = Proj.rms (fun k => Proj.gelu (matmul (F := Ideal) dot_S64x2048_S2048x2048_S64x2048_1_0_0_1_n_n none x w
      (constant S64x2048 .f32 0x00000000#32) (ix2 p k))) (g (ix2 (0 : Fin 1) n)) n :=
  (Proj.kernel_rms (M := 64) (K := 2048) (fun j => Proj.gelu (matmul (F := Ideal) dot_S64x2048_S2048x2048_S64x2048_1_0_0_1_n_n none x w
    (constant S64x2048 .f32 0x00000000#32) j)) (shapeCast S1x2048 g shapeCasts_S1x2048_S1x2048) 0x00000000#32 reduces_S64x2048_S64 (.inl rfl) rfl
    shapeCasts_S64_S64x1 broadcasts_S64x1_S64x2048 broadcasts_S1x2048_S64x2048 p n).trans (by rw [shapeCast_self])

/-! ## The write-backs -/

/-- One block of the first result is the block of `outP`. -/
theorem flushed4 (c : Dev nD) (t : Fin cfg0.N) :
    (dats m 0 c).flushed 4 t = ((cfg0.win 4).blk t).view.read (Elt Ideal) (outP (hp m c) (wt m c) (gain m c)) := by
  show (cfg0.win 4).cut (grid0.coords t) ((dats m 0 c).after 4 t) = _
  rw [after_4]
  funext y
  obtain ⟨p, q, rfl⟩ : ∃ (p : Fin 512) (q : Fin 2048), y = ix2 p q := ⟨y 0, y 1, eq_ix2 y⟩
  have hq : ((win0_4.rect t).emb (ix2 p q) 1 : Fin 2048) = q :=
    Fin.ext ((win0_4.rect_emb_val_off t (ix2 p q) 1).trans (by rw [show win0_4.index t = _ from index4 t]; exact Nat.zero_add _))
  refine (pay4_apply _ (wblk m c t) (iblk m c 2 t) _ q).trans ?_
  rw [read2]
  refine Eq.trans ?_ (congrArg (fun n : Fin 2048 => Proj.rms (fun k => Proj.gelu (Proj.inner (hp m c) (wt m c) ((win0_4.rect t).emb (ix2 p q) 0) (wcol k)))
    (gain m c (ix2 (0 : Fin 1) n)) n) hq).symm
  refine congrArg (fun f => Proj.rms f (gain m c (ix2 (0 : Fin 1) q)) q) (funext fun k => congrArg Proj.gelu ?_)
  exact Proj.plain_inner (φ₁ := .bf16) (φ₂ := .bf16) _ (wblk m c t) (hp m c) (wt m c) _ k _ _ _ (wcol k)
    (fun k => (Proj.rows_of (N := 512) (n := 256) (q := 2) rfl (iblk m c 0 t : FVec Ideal S512x2048 .bf16) p k).trans (read0 m c t p k)) (read1 m c t k)
    ((win0_4.rect_emb_val_off t (ix2 p q) 0).trans (by rw [show win0_4.index t = _ from index4 t]; rfl)) rfl

/-- And of the second. -/
theorem flushed5 (c : Dev nD) (t : Fin cfg0.N) :
    (dats m 0 c).flushed 5 t = ((cfg0.win 5).blk t).view.read (Elt Ideal) (outS (hs m c) (wt m c) (gain m c)) := by
  show (cfg0.win 5).cut (grid0.coords t) ((dats m 0 c).after 5 t) = _
  rw [after_5]
  funext y
  obtain ⟨p, q, rfl⟩ : ∃ (p : Fin 64) (q : Fin 2048), y = ix2 p q := ⟨y 0, y 1, eq_ix2 y⟩
  have hq : ((win0_5.rect t).emb (ix2 p q) 1 : Fin 2048) = q :=
    Fin.ext ((win0_5.rect_emb_val_off t (ix2 p q) 1).trans (by rw [show win0_5.index t = _ from index5 t]; exact Nat.zero_add _))
  refine (pay2_apply (iblk m c 3 t) (wblk m c t) (iblk m c 2 t) _ q).trans ?_
  rw [read2]
  refine Eq.trans ?_ (congrArg (fun n : Fin 2048 => Proj.rms (fun k => Proj.gelu (Proj.inner (hs m c) (wt m c) ((win0_5.rect t).emb (ix2 p q) 0) (wcol k)))
    (gain m c (ix2 (0 : Fin 1) n)) n) hq).symm
  refine congrArg (fun f => Proj.rms f (gain m c (ix2 (0 : Fin 1) q)) q) (funext fun k => congrArg Proj.gelu ?_)
  exact Proj.plain_inner (φ₁ := .bf16) (φ₂ := .bf16) (iblk m c 3 t) (wblk m c t) (hs m c) (wt m c) _ k _ _ _ (wcol k)
    (read3 m c t p) (read1 m c t k)
    ((win0_5.rect_emb_val_off t (ix2 p q) 0).trans (by rw [show win0_5.index t = _ from index5 t]; exact Nat.zero_add _)) rfl

theorem xsize4 : ∀ t : Fin cfg0.N, (cfg0.win 4).xsize (grid0.coords t) = ![512, 2048] :=
  (by decide +kernel : ∀ t : Fin grid0.N, win0_4.xsize (grid0.coords t) = ![512, 2048])
theorem xsize5 : ∀ t : Fin cfg0.N, (cfg0.win 5).xsize (grid0.coords t) = ![64, 2048] :=
  (by decide +kernel : ∀ t : Fin grid0.N, win0_5.xsize (grid0.coords t) = ![64, 2048])

theorem arr4 (c : Dev nD) : (dats m 0 c).arrAt 4 cfg0.N = outP (hp m c) (wt m c) (gain m c) :=
  (dats m 0 c).arrAt_eq_of_cover 4 _ (fun t _ => flushed4 m c t) fun i => by
    have h0 : (i 0 : Nat) < 8192 := (i 0).isLt
    have h1 : (i 1 : Nat) < 2048 := (i 1).isLt
    let t : Fin cfg0.N := ⟨(i 0 : Nat) / 512 + 1, by rw [N_eq]; omega⟩
    have ht : t.val = (i 0 : Nat) / 512 + 1 := rfl
    refine ⟨t, by rw [flush_4]; simp; omega, ?_⟩
    show i ∈ ((View.whole main_v3_0).slice (win0_4.rect t)).set
    rw [View.set_slice_whole, Rect.mem_set_unit]
    intro a
    show win0_4.index t a * _ ≤ _ ∧ _ < win0_4.index t a * _ + win0_4.xsize (grid0.coords t) a
    rw [show win0_4.index t = _ from index4 t, show win0_4.xsize (grid0.coords t) = _ from xsize4 t]
    match a with
    | ⟨0, _⟩ => show (t.val % 17 - 1) * 512 ≤ (i 0 : Nat) ∧ (i 0 : Nat) < (t.val % 17 - 1) * 512 + 512; omega
    | ⟨1, _⟩ => show 0 * 2048 ≤ (i 1 : Nat) ∧ (i 1 : Nat) < 0 * 2048 + 2048; omega

theorem arr5 (c : Dev nD) : (dats m 0 c).arrAt 5 cfg0.N = outS (hs m c) (wt m c) (gain m c) :=
  (dats m 0 c).arrAt_eq_of_cover 5 _ (fun t _ => flushed5 m c t) fun i => by
    have h0 : (i 0 : Nat) < 64 := (i 0).isLt
    have h1 : (i 1 : Nat) < 2048 := (i 1).isLt
    let t : Fin cfg0.N := ⟨16, by rw [N_eq]; omega⟩
    have ht : t.val = 16 := rfl
    refine ⟨t, (flush0_5 t).mpr (by omega), ?_⟩
    show i ∈ ((View.whole main_v3_1).slice (win0_5.rect t)).set
    rw [View.set_slice_whole, Rect.mem_set_unit]
    intro a
    show win0_5.index t a * _ ≤ _ ∧ _ < win0_5.index t a * _ + win0_5.xsize (grid0.coords t) a
    rw [show win0_5.index t = _ from index5 t, show win0_5.xsize (grid0.coords t) = _ from xsize5 t]
    match a with
    | ⟨0, _⟩ => show 0 * 64 ≤ (i 0 : Nat) ∧ (i 0 : Nat) < 0 * 64 + 64; omega
    | ⟨1, _⟩ => show 0 * 2048 ≤ (i 1 : Nat) ∧ (i 1 : Nat) < 0 * 2048 + 2048; omega

/-! ## The reference -/

theorem ref_P (X : FVec Ideal S8192x2048 .bf16) (W : FVec Ideal S1x2048x6144 .f32) (G : FVec Ideal S1x2048 .f32) :
    Cert.RefOddVIdeal.Read.val_main_v33 (F := Ideal) X W G = outP X W G := by
  funext i
  obtain ⟨r, n, rfl⟩ : ∃ (r : Fin 8192) (n : Fin 2048), i = ix2 r n := ⟨i 0, i 1, eq_ix2 i⟩
  refine (Proj.host_rms (M := 8192) (K := 2048) (Cert.RefOddVIdeal.Read.val_main_v18 (F := Ideal) X W) (Cert.RefOddVIdeal.Read.val_main_v19 (F := Ideal) G)
    (by decide) (by decide) (by decide) (by decide) (by decide) (by decide) (by decide) (by decide) (by decide) r n).trans ?_
  exact congrArg₂ (fun f g => Proj.rms f g n) (funext fun k => congrArg Proj.gelu ((extractStridedSlice_apply _ _ _ _ (ix2 (n1 := 6144) r (wcol k)) fun a => match a with
    | ⟨0, _⟩ => (Nat.zero_add _).symm | ⟨1, _⟩ => rfl).trans (Proj.host_apply _ W _ r _))) (Proj.flat_apply G _ n)

theorem ref_S (X : FVec Ideal S64x2048 .bf16) (W : FVec Ideal S1x2048x6144 .f32) (G : FVec Ideal S1x2048 .f32) :
    Cert.RefOddVIdeal.Read.val_main_v66 (F := Ideal) X W G = outS X W G := by
  funext i
  obtain ⟨r, n, rfl⟩ : ∃ (r : Fin 64) (n : Fin 2048), i = ix2 r n := ⟨i 0, i 1, eq_ix2 i⟩
  refine (Proj.host_rms (M := 64) (K := 2048) (Cert.RefOddVIdeal.Read.val_main_v52 (F := Ideal) X W) (Cert.RefOddVIdeal.Read.val_main_v53 (F := Ideal) G)
    (by decide) (by decide) (by decide) (by decide) (by decide) (by decide) (by decide) (by decide) (by decide) r n).trans ?_
  exact congrArg₂ (fun f g => Proj.rms f g n) (funext fun k => congrArg Proj.gelu ((extractStridedSlice_apply _ _ _ _ (ix2 (n1 := 6144) r (wcol k)) fun a => match a with
    | ⟨0, _⟩ => (Nat.zero_add _).symm | ⟨1, _⟩ => rfl).trans (Proj.host_apply _ W _ r _))) (Proj.flat_apply G _ n)

/-! ## The claims -/

/-- The kernel's run: the results at the products, the arguments unchanged. -/
theorem run_value : θ_run defs (onTc (τ := τ) (main (F := Ideal))) ⟨m, fun _ => 0, ρ⟩ (fun r => ∀ c : Dev nD,
      r.2.mem ((c.tc : Thread nD τ).loc main_v3_0) = outP (hp m c) (wt m c) (gain m c)
      ∧ r.2.mem ((c.tc : Thread nD τ).loc main_v3_1) = outS (hs m c) (wt m c) (gain m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.1 c).1 4).trans (arr4 m c), ((h.1.1 c).1 5).trans (arr5 m c), h.2.1 c⟩)
    (θ_run_and (run_main m ρ) (frame m ρ))

theorem algebraic : Cert.algebraic_OddVIdeal_RefOddVIdeal := fun m g m' g' _ hagree =>
  ⟨fun c => outP (hp m c) (wt m c) (gain m c), fun c => outS (hs m c) (wt m c) (gain m c), run_value m g,
    (θ_run Cert.RefOddVIdeal.defs _ _).mono (fun _ h c => by
      obtain ⟨h1, h2, h3⟩ := h c
      obtain ⟨a0, a1, a2, a3⟩ := hagree c
      refine ⟨h1.trans ((Cert.RefOddVIdeal.Read.val_main_v33_eq _ _).trans ?_), h2.trans ((Cert.RefOddVIdeal.Read.val_main_v66_eq _ _).trans ?_), h3⟩
      · rw [a0, a2, a3]; exact ref_P _ _ _
      · rw [a1, a2, a3]; exact ref_S _ _ _) (Cert.RefOddVIdeal.Value.run (F := Ideal) m' g')⟩

/-- The program as printed and its idealization have one body, label by label. -/
theorem defs_eq {F : FTy → Type} [FloatOps F] : Cert.OddV.defs (F := F) = Cert.OddVIdeal.defs :=
  congrArg (Pipeline.defs Cert.OddVIdeal.pcfgs) (by
    unfold Cert.OddV.defs₀ Cert.OddVIdeal.defs₀
    congr 1
    funext l a
    match l, a with
    | 0, (t, s) => rfl)

/-- So the printed program's run is the same run, at the machine's numbers. -/
theorem frame_kernel : Cert.quiescent_OddV := fun m ρ _ => by
  rw [defs_eq]; exact frame (F := Bits) m ρ

theorem frame_ideal : Cert.quiescent_OddVIdeal := fun m ρ _ => frame (F := Ideal) m ρ

theorem frame_ref : Cert.quiescent_RefOddVIdeal := fun m ρ _ =>
  (θ_run Cert.RefOddVIdeal.defs _ _).mono (fun r h => ⟨fun c => (h c).2.2, sem_eq_zero_of_no_sems (by decide) r.2⟩)
    (Cert.RefOddVIdeal.Value.run (F := Ideal) m ρ)

end Cert.OddVIdeal.Body

end
-- ==== Proof.OddGBody.lean ====
module

public import proofs.«01_k».proof.Proof.Gen.OddGIdeal.Frame
public import proofs.«01_k».proof.Proof.Gen.OddGIdeal.Skeleton
public import proofs.«01_k».proof.Proof.Common
public import proofs.«01_k».proof.Proof.Rows
public import Idealize.ShloMosaic.Lib.Claim

@[expose] public section

set_option maxRecDepth 16384

noncomputable section

namespace Cert.OddGIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.OddGIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch's condition, at the first point of a column of the grid. -/
abbrev cond1 (i : grid0.Coords) : Prop :=
  Scalar.cmpi .ne (Scalar.extui (Scalar.cmpi .eq (BitVec.ofNat 32 (i 1).val) 0#32) : BitVec 32) 0#32 = 1#1

/-- A block of the first group's result, 256 rows at a time. -/
def block (x : Vec F S2048x2048 .bf16) (w : Vec F S2048x1024 .bf16) : Vec F S2048x1024 .bf16 :=
  Proj.byRows (N := 2048) (n := 256) (q := 8) rfl (fun y : Vec F S256x2048 .bf16 => k0_pay4 y w) x

/-- What the result's buffer reads after its eight groups of rows are stored. -/
theorem block_read {κ κ' : Kind} {sp sp' : Space} (v : View sig κ sp S2048x1024 .bf16) (f : v.ty.Contents (Elt F))
    (u : View sig κ' sp' S2048x2048 .bf16) (g : u.ty.Contents (Elt F)) {x : Vec F S2048x2048 .bf16} (hx : u.read (Elt F) g = x)
    (w : Vec F S2048x1024 .bf16) :
    v.read (Elt F) (v.writes (Elt F) f [Proj.rowPiece (fun y : Vec F S256x2048 .bf16 => k0_pay3 (k0_pay13 y w) (k0_pay14 y w)) u g 1792 (by decide),
      Proj.rowPiece (fun y : Vec F S256x2048 .bf16 => k0_pay12 y w) u g 1536 (by decide),
      Proj.rowPiece (fun y : Vec F S256x2048 .bf16 => k0_pay11 y w) u g 1280 (by decide),
      Proj.rowPiece (fun y : Vec F S256x2048 .bf16 => k0_pay10 y w) u g 1024 (by decide),
      Proj.rowPiece (fun y : Vec F S256x2048 .bf16 => k0_pay9 y w) u g 768 (by decide),
      Proj.rowPiece (fun y : Vec F S256x2048 .bf16 => k0_pay8 (k0_pay6 y w) (k0_pay7 y w)) u g 512 (by decide),
      Proj.rowPiece (fun y : Vec F S256x2048 .bf16 => k0_pay5 y w) u g 256 (by decide),
      Proj.rowPiece (fun y : Vec F S256x2048 .bf16 => k0_pay4 y w) u g 0 (by decide)]) = block x w :=
  Proj.read_eight (N := 2048) (n := 256) (K := 2048) (C := 1024) rfl v f (fun y : Vec F S256x2048 .bf16 => k0_pay4 y w) u g hx (by decide)
    256 512 768 1024 1280 1536 1792 rfl rfl rfl rfl rfl rfl rfl

/-- The weight block and the second group's result, at the first point of a column. -/
theorem run_first (c : Dev nD) (i : grid0.Coords) (arg2 : Memref sig .tc .vmem S2048x2048 .bf16) (harg2 : arg2.IsWhole)
    (arg3 : Memref sig .tc .vmem S2048x1024 .f32) (harg3 : arg3.IsWhole) (arg4 : Memref sig .tc .vmem S1x1024 .f32) (harg4 : arg4.IsWhole)
    (arg5 : Memref sig .tc .vmem S64x2048 .bf16) (harg5 : arg5.IsWhole) (arg6 : Memref sig .tc .vmem S2048x1024 .bf16) (harg6 : arg6.IsWhole)
    (arg7 : Memref sig .tc .vmem S64x1024 .f32) (harg7 : arg7.IsWhole) (arg8 : Memref sig .tc .vmem S2048x1024 .bf16) (harg8 : arg8.IsWhole)
    (hc0 : cond1 i)
    (hc1 : k0_cond2 i = 1#1) (hc2 : ¬ k0_cond3 i = 1#1)
    (x1 : Vec F S2048x1024 .f32) (x2 : Vec F S64x2048 .bf16) (E : Set ℕ) (K : PUnit → sProp 𝕄) :
    iprop(owns (c : Thread nD τ) arg3 fullShare x1 ∗ owns (c : Thread nD τ) arg5 fullShare x2
        ∗ (∃ d, owns (c : Thread nD τ) arg7 fullShare d) ∗ (∃ d, owns (c : Thread nD τ) arg8 fullShare d)
        ∗ (iprop(owns (c : Thread nD τ) arg3 fullShare x1 ∗ owns (c : Thread nD τ) arg5 fullShare x2
            ∗ owns (c : Thread nD τ) arg7 fullShare (k0_pay2 x2 (k0_pay1 x1)) ∗ owns (c : Thread nD τ) arg8 fullShare (k0_pay1 x1)) -∗ K ⟨⟩))
      ⊢ wp frame (wpE (defs₀ (F := F)) Variants.none c none) E (cc0_proj_silu i arg2 harg2 arg3 harg3 arg4 harg4 arg5 harg5 arg6 harg6 arg7 harg7 arg8 harg8) K := by
  simp only [cc0_proj_silu_eq_skeleton]; unfold cc0_proj_silu_skel
  unfold owns
  iintro ⟨⟨%f1, %hf1, H1⟩, ⟨%f2, %hf2, H2⟩, ⟨%d4, %f4, -, H4⟩, ⟨%ds0, %fs0, -, HS0⟩, Hk⟩
  sl_exec (disch := first | sl_exact hc0 | sl_exact hc1 | sl_exact hc2)
  sl_step
  iapply Hk
  isplitl [H1]
  · iexists _; isplitr; · ipureintro; exact hf1
    iexact H1
  isplitl [H2]
  · iexists _; isplitr; · ipureintro; exact hf2
    iexact H2
  isplitl [H4]
  · iexists _; isplitr; swap; · iexact H4
    ipureintro
    sl_unfold_run_names
    rw [Proj.read_stored _ _ Proj.off0, Proj.load_whole hf2 Proj.off0, View.readCov_unit_zero _ Proj.off0, Proj.load_whole hf1 Proj.off0]
  iexists _; isplitr; swap; · iexact HS0
  ipureintro
  sl_unfold_run_names
  rw [Proj.read_stored _ _ Proj.off0, Proj.load_whole hf1 Proj.off0]

/-- The body past the first point of a column: the first group's block times the kept weight block. -/
theorem run_rest (c : Dev nD) (i : grid0.Coords) (arg2 : Memref sig .tc .vmem S2048x2048 .bf16) (harg2 : arg2.IsWhole)
    (arg3 : Memref sig .tc .vmem S2048x1024 .f32) (harg3 : arg3.IsWhole) (arg4 : Memref sig .tc .vmem S1x1024 .f32) (harg4 : arg4.IsWhole)
    (arg5 : Memref sig .tc .vmem S64x2048 .bf16) (harg5 : arg5.IsWhole) (arg6 : Memref sig .tc .vmem S2048x1024 .bf16) (harg6 : arg6.IsWhole)
    (arg7 : Memref sig .tc .vmem S64x1024 .f32) (harg7 : arg7.IsWhole) (arg8 : Memref sig .tc .vmem S2048x1024 .bf16) (harg8 : arg8.IsWhole)
    (hc0 : ¬ cond1 i) (hc1 : ¬ k0_cond2 i = 1#1) (hc2 : k0_cond3 i = 1#1)
    (x0 : Vec F S2048x2048 .bf16) (w : Vec F S2048x1024 .bf16) (E : Set ℕ) (K : PUnit → sProp 𝕄) :
    iprop(owns (c : Thread nD τ) arg2 fullShare x0 ∗ owns (c : Thread nD τ) arg8 fullShare w ∗ (∃ d, owns (c : Thread nD τ) arg6 fullShare d)
        ∗ (iprop(owns (c : Thread nD τ) arg2 fullShare x0 ∗ owns (c : Thread nD τ) arg8 fullShare w
            ∗ owns (c : Thread nD τ) arg6 fullShare (block x0 w)) -∗ K ⟨⟩))
      ⊢ wp frame (wpE (defs₀ (F := F)) Variants.none c none) E (cc0_proj_silu i arg2 harg2 arg3 harg3 arg4 harg4 arg5 harg5 arg6 harg6 arg7 harg7 arg8 harg8) K := by
  simp only [cc0_proj_silu_eq_skeleton]; unfold cc0_proj_silu_skel
  simp only [k0_part1_eq_skeleton, k0_part2_eq_skeleton, k0_part3_eq_skeleton]
  unfold k0_part1_skel k0_part2_skel k0_part3_skel owns
  iintro ⟨⟨%f0, %hf0, H0⟩, ⟨%fs, %hfs, HS⟩, ⟨%d3, %f3, -, H3⟩, Hk⟩
  sl_exec (disch := first | sl_exact hc0 | sl_exact hc1 | sl_exact hc2)
  sl_step
  iapply Hk
  isplitl [H0]
  · iexists _; isplitr; · ipureintro; exact hf0
    iexact H0
  isplitl [HS]
  · iexists _; isplitr; · ipureintro; exact hfs
    iexact HS
  iexists _; isplitr; swap; · iexact H3
  ipureintro
  sl_unfold_run_names
  simp only [Proj.load_whole hfs Proj.off0]
  exact block_read _ _ _ _ hf0 w

/-! ## The schedule -/

theorem N_eq : cfg0.N = 10 := N_0

/-- The first branch is taken at the first point of a column. -/
theorem cond1_iff : ∀ t : Fin cfg0.N, cond1 (grid0.coords t) ↔ t.val % 5 = 0 :=
  (by decide +kernel : ∀ t : Fin grid0.N, cond1 (grid0.coords t) ↔ t.val % 5 = 0)
theorem cond2_iff : ∀ t : Fin cfg0.N, k0_cond2 (grid0.coords t) = 1#1 ↔ t.val % 5 = 0 :=
  (by decide +kernel : ∀ t : Fin grid0.N, k0_cond2 (grid0.coords t) = 1#1 ↔ t.val % 5 = 0)
theorem cond3_iff : ∀ t : Fin cfg0.N, k0_cond3 (grid0.coords t) = 1#1 ↔ ¬ t.val % 5 = 0 :=
  (by decide +kernel : ∀ t : Fin grid0.N, k0_cond3 (grid0.coords t) = 1#1 ↔ ¬ t.val % 5 = 0)

/-- The weight window's block index: all the rows, the column's columns. -/
theorem index1 : ∀ t : Fin cfg0.N, (cfg0.win 1).index t = ![0, 4 + t.val / 5] :=
  (by decide +kernel : ∀ t : Fin grid0.N, win0_1.index t = ![0, 4 + t.val / 5])
theorem index3 : ∀ t : Fin cfg0.N, (cfg0.win 3).index t = ![0, 0] :=
  (by decide +kernel : ∀ t : Fin grid0.N, win0_3.index t = ![0, 0])

/-- Within a column the weight block does not move. -/
theorem iblk1_eq (c : Dev nD) (t t' : Fin cfg0.N) (h : t.val / 5 = t'.val / 5) :
    (iblk m c 1 t : Vec F S2048x1024 .f32) = iblk m c 1 t' :=
  funext fun y => congrArg (V m c (Pipeline.arrRef spec0 1)) (funext fun a => Fin.ext (by
    refine (win0_1.rect_emb_val_off t y a).trans (Eq.trans ?_ (win0_1.rect_emb_val_off t' y a).symm)
    rw [show win0_1.index t = _ from index1 t, show win0_1.index t' = _ from index1 t', h]))

theorem iblk3_eq (c : Dev nD) (t t' : Fin cfg0.N) : (iblk m c 3 t : Vec F S64x2048 .bf16) = iblk m c 3 t' :=
  funext fun y => congrArg (V m c (Pipeline.arrRef spec0 3)) (funext fun a => Fin.ext (by
    refine (win0_3.rect_emb_val_off t y a).trans (Eq.trans ?_ (win0_3.rect_emb_val_off t' y a).symm)
    rw [show win0_3.index t = _ from index3 t, show win0_3.index t' = _ from index3 t']))

/-! ## The proof data -/

/-- The scratch buffer that keeps the rounded weight block. -/
abbrev keep : Memref sig .tc .vmem S2048x1024 .bf16 := Memref.whole cc0_scratch0

/-- The rounded weight block of point `t`'s column. -/
def wblk (c : Dev nD) (t : Fin cfg0.N) : Vec F S2048x1024 .bf16 := k0_pay1 (iblk m c 1 t)

/-- Before point `n`, past the first, the scratch holds the rounded weight block of the point before. -/
def Held (c : Dev nD) (n : ℕ) (d : S2048x1024.Idx → Elt F .bf16) : Prop :=
  ∀ (h : n ≠ 0) (h' : n - 1 < cfg0.N), d = wblk m c ⟨n - 1, h'⟩

def Phi (c : Dev nD) (n : ℕ) : sProp 𝕄 :=
  iprop((∃ d, ⌜Held m c n d⌝ ∗ owns (c : Thread nD τ) keep fullShare d) ∗ (∃ r, prngReg c r))

/-- What the pipeline's proof says: every input's buffer keeps its block, the two results' buffers hold the products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block (iblk m c 0 t) (wblk m c t)
    | ⟨5, _⟩ => k0_pay2 (iblk m c 3 t) (wblk m c t)
  Φ t := Phi m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = block (iblk m c 0 t) (wblk m c t) := by dsimp only [dats]
theorem after_5 (c : Dev nD) (t : Fin cfg0.N) : (dats m 0 c).after 5 t = k0_pay2 (iblk m c 3 t) (wblk m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem idle_4 (t : Fin cfg0.N) : cfg0.idle 4 (grid0.coords t) = decide (t.val % 5 = 0) :=
  (by decide +kernel : ∀ t : Fin grid0.N, idle0 4 (grid0.coords t) = decide (t.val % 5 = 0)) t
theorem idle_5 (t : Fin cfg0.N) : cfg0.idle 5 (grid0.coords t) = !decide (t.val % 5 = 0) :=
  (by decide +kernel : ∀ t : Fin grid0.N, idle0 5 (grid0.coords t) = !decide (t.val % 5 = 0)) t
theorem flush_4 (t : Fin cfg0.N) : (cfg0.win 4).flush t = !decide (t.val % 5 = 0) :=
  (by decide +kernel : ∀ t : Fin grid0.N, win0_4.flush t = !decide (t.val % 5 = 0)) t

/-- The second group's window holds nothing of the body's only before the first point of a column. -/
theorem fresh_5 (t : Fin cfg0.N) : cfg0.fresh 5 t.val = decide (t.val % 5 = 0) :=
  cfg0.fresh_tab 5 (fun n => decide (n % 5 = 0)) rfl (fun t => by
    rw [idle_5, show (cfg0.win 5).flush t = decide (t.val % 5 = 4) from Bool.eq_iff_iff.mpr ((flush0_5 t).trans (by simp))]
    by_cases h : t.val % 5 = 0 <;> simp [h] <;> omega) t.val t.isLt.le

/-- Past the first point of a column the second group's window holds its result. -/
theorem before_5 (c : Dev nD) (t : Fin cfg0.N) (h : ¬ t.val % 5 = 0) (d) :
    (dats m 0 c).before 5 t d = k0_pay2 (iblk m c 3 t) (wblk m c t) := by
  have carry : ∀ t : Fin cfg0.N, ¬ t.val % 5 = 0 →
      (dats m 0 c).after 5 t = (dats m 0 c).after 5 ⟨t.val - 1, by omega⟩ := fun t h => by
    rw [after_5, after_5, wblk, wblk, iblk3_eq m c t ⟨t.val - 1, by omega⟩,
      iblk1_eq m c t ⟨t.val - 1, by omega⟩ (by show t.val / 5 = (t.val - 1) / 5; omega)]
  rw [(dats m 0 c).before_out_traj 5 rfl (fun _ _ => rfl) (fun t _ _ hf => carry t (by rw [fresh_5] at hf; simpa using hf)) t.val t rfl d,
    fresh_5, if_neg (by simpa using h), ← carry t h, after_5]

/-! ## The body obligation -/

abbrev ms0 (t : Fin cfg0.N) : Memref sig .tc .vmem S2048x2048 .bf16 := win0_0.stage (cfg0.slots t 0)
abbrev ms1 (t : Fin cfg0.N) : Memref sig .tc .vmem S2048x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S64x2048 .bf16 := win0_3.stage (cfg0.slots t 3)
abbrev ms4 (t : Fin cfg0.N) : Memref sig .tc .vmem S2048x1024 .bf16 := win0_4.stage (cfg0.slots t 4)
abbrev ms5 (t : Fin cfg0.N) : Memref sig .tc .vmem S64x1024 .f32 := win0_5.stage (cfg0.slots t 5)

/-- What the body is handed at point `t`, window by window. -/
def bodyPre (c : Dev nD) (t : Fin cfg0.N) : sProp 𝕄 :=
  iprop(Phi m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it leaves there. -/
def bodyPost (c : Dev nD) (t : Fin cfg0.N) : sProp 𝕄 :=
  iprop(Phi m c (t.val + 1) ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in {c : Dev nD} (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem held_next (c : Dev nD) (t : Fin cfg0.N) : Held m c (t.val + 1) (wblk m c t) := fun _ _ => rfl

theorem held_prev (c : Dev nD) (t : Fin cfg0.N) (h : ¬ t.val % 5 = 0) (d) (hd : Held m c t.val d) : d = wblk m c t :=
  (hd (by omega) (by omega)).trans (congrArg k0_pay1 (iblk1_eq m c _ _ (by show (t.val - 1) / 5 = t.val / 5; omega)))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_in m 0 t rfl, leaves_in m 1 t rfl, leaves_in m 2 t rfl, leaves_in m 3 t rfl, after_0, after_1, after_2, after_3]
  simp only [before_0, before_1, before_2, before_3]
  rw [show (dats m 0 c).owesAt () t.succ = (dats m 0 c).owesAt () t.castSucc from rfl]
  unfold Phi
  by_cases h : t.val % 5 = 0
  · rw [leaves_in m 5 t (by rw [idle_5]; simp [h]), after_5,
      (dats m 0 c).leavesExact_idle 4 t (by rw [idle_4]; simp [h]) (by rw [flush_4]; simp [h])]
    iintro ⟨⟨⟨%ds, -, HS⟩, Hg⟩, Ho, ⟨%d0, H0⟩, ⟨%d1, H1⟩, ⟨%d2, H2⟩, ⟨%d3, H3⟩, H4, ⟨%d5, H5⟩⟩
    iapply (run_first c (grid0.coords t) _ _ _ _ _ _ _ _ _ _ _ _ _ _ ((cond1_iff t).mpr h) ((cond2_iff t).mpr h)
      (fun h' => (cond3_iff t).mp h' h) (iblk m c 1 t) (iblk m c 3 t) Set.univ _)
    isplitl [H1]; · iexact H1
    isplitl [H3]; · iexact H3
    isplitl [H5]; · iexists _; iexact H5
    isplitl [HS]; · iexists _; iexact HS
    iintro ⟨H1, H3, H5, HS⟩
    isplitl [HS Hg]
    · isplitl [HS]
      · iexists _; isplitr; · ipureintro; exact held_next m c t
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [leaves_in m 4 t (by rw [idle_4]; simp [h]), after_4]
    simp only [before_5 m c t h]
    iintro ⟨⟨⟨%ds, %hds, HS⟩, Hg⟩, Ho, ⟨%d0, H0⟩, ⟨%d1, H1⟩, ⟨%d2, H2⟩, ⟨%d3, H3⟩, ⟨%d4, H4⟩, ⟨%d5, H5⟩⟩
    obtain rfl := held_prev m c t h ds hds
    iapply (run_rest c (grid0.coords t) _ _ _ _ _ _ _ _ _ _ _ _ _ _ (fun h' => h ((cond1_iff t).mp h')) (fun h' => h ((cond2_iff t).mp h'))
      ((cond3_iff t).mpr h) (iblk m c 0 t) (wblk m c t) Set.univ _)
    isplitl [H0]; · iexact H0
    isplitl [HS]; · iexact HS
    isplitl [H4]; · iexists _; iexact H4
    iintro ⟨H0, HS, H4⟩
    isplitl [HS Hg]
    · isplitl [HS]
      · iexists _; isplitr; · ipureintro; exact held_next m c t
        iexact HS
      iexact Hg
    isplitl [Ho]; · iexact Ho
    isplitl [H0]; · iexact H0
    isplitl [H1]; · iexact H1
    isplitl [H2]; · iexact H2
    isplitl [H3]; · iexact H3
    isplitl [H4]; · iexact H4
    iapply (Proj.leaves_kept (dats m 0 c) 5 t _ (before_5 m c t h) ((after_5 m c t).symm))
    iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show _ ⊢ Phi m c 0
      unfold Phi Pipeline.ΦA; rw [scopedRest0_eq]; simp only [keep, owns_whole]
      iintro ⟨⟨%d, H⟩, Hg⟩
      isplitl [H]
      · iexists d; isplitr; · ipureintro; exact fun h => absurd rfl h
        iexact H
      iexact Hg)
    (hout := fun c => by
      show Phi m c _ ⊢ _
      unfold Phi Pipeline.ΦA; rw [scopedRest0_eq]; simp only [keep, owns_whole]
      iintro ⟨⟨%d, -, H⟩, Hg⟩
      isplitl [H]
      · iexists d; iexact H
      iexact Hg)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.OddGIdeal.Body

end
-- ==== Proof.OddGValue.lean ====
/- What the projection of a spatial layer's output gate computes: both results are the silu of the activations times the last 2048
   columns of the layer's weight, as the reference's. -/
module

public import proofs.«01_k».proof.Proof.OddGBody
public import proofs.«01_k».proof.Proof.Act
public import proofs.«01_k».proof.Proof.Gen.OddG
public import proofs.«01_k».proof.Proof.Gen.RefOddGIdeal.Run
public import proofs.«01_k».proof.Proof.Gen.RefOddGIdeal.Read
public import proofs.«01_k».proof.Defs

@[expose] public section

set_option maxRecDepth 16384

noncomputable section

namespace Cert.OddGIdeal.Body

open Idealize.ShloMosaic Idealize.ShloMosaic.TcCoe Idealize.ShloMosaic.ValueIdx Idealize.SL.Sem
open Idealize.ShloMosaic.Pipeline (Dat Cfg Window)
open Cert.OddGIdeal.Gen

variable (m : (ℓ : Loc nD τ sig) → Buf (Elt Ideal) ℓ) (ρ : Dev nD → PrngReg)

/-- The launch contents of the arguments. -/
abbrev hp (c : Dev nD) : FVec Ideal S8192x2048 .bf16 := m ((c.tc : Thread nD τ).loc main_arg0)
abbrev hs (c : Dev nD) : FVec Ideal S64x2048 .bf16 := m ((c.tc : Thread nD τ).loc main_arg1)
abbrev wt (c : Dev nD) : FVec Ideal S1x2048x6144 .f32 := m ((c.tc : Thread nD τ).loc main_arg2)

/-- The weight's column that column `n` of a result is made of. -/
def wcol (n : Fin 2048) : Fin 6144 := ⟨4096 + n.val, by omega⟩

/-- The two results. -/
def outP (X : FVec Ideal S8192x2048 .bf16) (W : FVec Ideal S1x2048x6144 .f32) : FVec Ideal S8192x2048 .bf16 :=
  fun i => Proj.silu (Proj.inner X W (i 0) (wcol (i 1)))
def outS (X : FVec Ideal S64x2048 .bf16) (W : FVec Ideal S1x2048x6144 .f32) : FVec Ideal S64x2048 .f32 :=
  fun i => Proj.silu (Proj.inner X W (i 0) (wcol (i 1)))

/-! ## The blocks read -/

theorem V_weight (c : Dev nD) (k : Fin 2048) (n : Fin 6144) : V m c main_v0 (ix2 k n) = wt m c (ix3 (0 : Fin 1) k n) := by
  have : V m c main_v0 = shapeCast S2048x6144 (wt m c) shapeCasts_S1x2048x6144_S2048x6144 := by
    show StableHlo.after hostOps0 _ main_v0 = _
    after_results_simp <;> rfl
  rw [this]; exact Proj.drop_apply _ _ k n

theorem index0 : ∀ t : Fin cfg0.N, (cfg0.win 0).index t = ![t.val % 5 - 1, 0] :=
  (by decide +kernel : ∀ t : Fin grid0.N, win0_0.index t = ![t.val % 5 - 1, 0])
theorem index4 : ∀ t : Fin cfg0.N, (cfg0.win 4).index t = ![t.val % 5 - 1, t.val / 5] :=
  (by decide +kernel : ∀ t : Fin grid0.N, win0_4.index t = ![t.val % 5 - 1, t.val / 5])
theorem index5 : ∀ t : Fin cfg0.N, (cfg0.win 5).index t = ![0, t.val / 5] :=
  (by decide +kernel : ∀ t : Fin grid0.N, win0_5.index t = ![0, t.val / 5])

theorem t_lt (t : Fin cfg0.N) : t.val < 10 := lt_of_lt_of_eq t.isLt N_eq

theorem read0 (c : Dev nD) (t : Fin cfg0.N) (p : Fin 2048) (k : Fin 2048) :
    (iblk m c 0 t : FVec Ideal S2048x2048 .bf16) (ix2 p k) = hp m c (ix2 (n0 := 8192) ⟨(t.val % 5 - 1) * 2048 + p.val, by have := p.isLt; omega⟩ k) :=
  congrArg (hp m c) (funext fun a => Fin.ext (by
    refine (win0_0.rect_emb_val_off t (ix2 p k) a).trans ?_
    rw [show win0_0.index t = _ from index0 t]
    match a with
    | ⟨0, _⟩ => rfl
    | ⟨1, _⟩ => exact Nat.zero_add _))

theorem read3 (c : Dev nD) (t : Fin cfg0.N) (p : Fin 64) (k : Fin 2048) :
    (iblk m c 3 t : FVec Ideal S64x2048 .bf16) (ix2 p k) = hs m c (ix2 p k) :=
  congrArg (hs m c) (funext fun a => Fin.ext (by
    refine (win0_3.rect_emb_val_off t (ix2 p k) a).trans ?_
    rw [show win0_3.index t = _ from index3 t]
    match a with
    | ⟨0, _⟩ => exact Nat.zero_add _
    | ⟨1, _⟩ => exact Nat.zero_add _))

/-- The column of the weight that column `q` of point `t`'s block is. -/
def tcol (t : Fin cfg0.N) (q : Fin 1024) : Fin 6144 := ⟨4096 + (t.val / 5 * 1024 + q.val), by have := q.isLt; have := t_lt t; omega⟩

theorem read1 (c : Dev nD) (t : Fin cfg0.N) (q : Fin 1024) (k : Fin 2048) :
    (wblk m c t : FVec Ideal S2048x1024 .bf16) (ix2 k q) = wt m c (ix3 (0 : Fin 1) k (tcol t q)) := by
  refine Eq.trans ?_ (V_weight m c k (tcol t q))
  unfold wblk k0_pay1
  rw [shapeCast_self, truncf_apply, shapeCast_self]
  exact congrArg (V m c main_v0) (funext fun a => Fin.ext (by
    refine (win0_1.rect_emb_val_off t (ix2 k q) a).trans ?_
    rw [show win0_1.index t = _ from index1 t]
    match a with
    | ⟨0, _⟩ => exact Nat.zero_add _
    | ⟨1, _⟩ => show (4 + t.val / 5) * 1024 + q.val = 4096 + (t.val / 5 * 1024 + q.val); omega))

/-! ## What the body stores -/

theorem pay4_apply (x : FVec Ideal S256x2048 .bf16) (w : FVec Ideal S2048x1024 .bf16) (i : S256x1024.Idx) :
    k0_pay4 (F := Ideal) x w i = Proj.silu (matmul (F := Ideal) dot_S256x2048_S2048x1024_S256x1024_1_0_0_1_n_n none x w (constant S256x1024 .f32 0x00000000#32) i) :=
  congrArg (_ * ·) (Proj.sigmoid_sub _)

theorem pay2_apply (x : FVec Ideal S64x2048 .bf16) (w : FVec Ideal S2048x1024 .bf16) (i : S64x1024.Idx) :
    k0_pay2 (F := Ideal) x w i = Proj.silu (matmul (F := Ideal) dot_S64x2048_S2048x1024_S64x1024_1_0_0_1_n_n none x w (constant S64x1024 .f32 0x00000000#32) i) :=
  congrArg (_ * ·) (Proj.sigmoid_sub _)

/-! ## The write-backs -/

/-- One block of the first result is the block of `outP`. -/
theorem flushed4 (c : Dev nD) (t : Fin cfg0.N) :
    (dats m 0 c).flushed 4 t = ((cfg0.win 4).blk t).view.read (Elt Ideal) (outP (hp m c) (wt m c)) := by
  show (cfg0.win 4).cut (grid0.coords t) ((dats m 0 c).after 4 t) = _
  rw [after_4]
  funext y
  obtain ⟨p, q, rfl⟩ : ∃ (p : Fin 2048) (q : Fin 1024), y = ix2 p q := ⟨y 0, y 1, eq_ix2 y⟩
  exact (pay4_apply _ (wblk m c t) _).trans (congrArg Proj.silu (Proj.plain_inner (φ₁ := .bf16) (φ₂ := .bf16) _ (wblk m c t) (hp m c) (wt m c) _ q _ _ _ (tcol t q)
    (fun k => (Proj.rows_of (N := 2048) (n := 256) (q := 8) rfl (iblk m c 0 t : FVec Ideal S2048x2048 .bf16) p k).trans (read0 m c t p k)) (read1 m c t q)
    ((win0_4.rect_emb_val_off t (ix2 p q) 0).trans (by rw [show win0_4.index t = _ from index4 t]; rfl))
    (congrArg (4096 + ·) ((win0_4.rect_emb_val_off t (ix2 p q) 1).trans (by rw [show win0_4.index t = _ from index4 t]; rfl)))))

/-- And of the second. -/
theorem flushed5 (c : Dev nD) (t : Fin cfg0.N) :
    (dats m 0 c).flushed 5 t = ((cfg0.win 5).blk t).view.read (Elt Ideal) (outS (hs m c) (wt m c)) := by
  show (cfg0.win 5).cut (grid0.coords t) ((dats m 0 c).after 5 t) = _
  rw [after_5]
  funext y
  obtain ⟨p, q, rfl⟩ : ∃ (p : Fin 64) (q : Fin 1024), y = ix2 p q := ⟨y 0, y 1, eq_ix2 y⟩
  exact (pay2_apply (iblk m c 3 t) (wblk m c t) _).trans (congrArg Proj.silu (Proj.plain_inner (φ₁ := .bf16) (φ₂ := .bf16) (iblk m c 3 t) (wblk m c t) (hs m c) (wt m c) p q _ _ _ (tcol t q)
    (read3 m c t p) (read1 m c t q)
    ((win0_5.rect_emb_val_off t (ix2 p q) 0).trans (by rw [show win0_5.index t = _ from index5 t]; exact Nat.zero_add _))
    (congrArg (4096 + ·) ((win0_5.rect_emb_val_off t (ix2 p q) 1).trans (by rw [show win0_5.index t = _ from index5 t]; rfl)))))

theorem xsize4 : ∀ t : Fin cfg0.N, (cfg0.win 4).xsize (grid0.coords t) = ![2048, 1024] :=
  (by decide +kernel : ∀ t : Fin grid0.N, win0_4.xsize (grid0.coords t) = ![2048, 1024])
theorem xsize5 : ∀ t : Fin cfg0.N, (cfg0.win 5).xsize (grid0.coords t) = ![64, 1024] :=
  (by decide +kernel : ∀ t : Fin grid0.N, win0_5.xsize (grid0.coords t) = ![64, 1024])

theorem arr4 (c : Dev nD) : (dats m 0 c).arrAt 4 cfg0.N = outP (hp m c) (wt m c) :=
  (dats m 0 c).arrAt_eq_of_cover 4 _ (fun t _ => flushed4 m c t) fun i => by
    have h0 : (i 0 : Nat) < 8192 := (i 0).isLt
    have h1 : (i 1 : Nat) < 2048 := (i 1).isLt
    let t : Fin cfg0.N := ⟨5 * ((i 1 : Nat) / 1024) + ((i 0 : Nat) / 2048 + 1), by rw [N_eq]; omega⟩
    have ht : t.val = 5 * ((i 1 : Nat) / 1024) + ((i 0 : Nat) / 2048 + 1) := rfl
    refine ⟨t, by rw [flush_4]; simp; omega, ?_⟩
    show i ∈ ((View.whole main_v3_0).slice (win0_4.rect t)).set
    rw [View.set_slice_whole, Rect.mem_set_unit]
    intro a
    show win0_4.index t a * _ ≤ _ ∧ _ < win0_4.index t a * _ + win0_4.xsize (grid0.coords t) a
    rw [show win0_4.index t = _ from index4 t, show win0_4.xsize (grid0.coords t) = _ from xsize4 t]
    match a with
    | ⟨0, _⟩ => show (t.val % 5 - 1) * 2048 ≤ (i 0 : Nat) ∧ (i 0 : Nat) < (t.val % 5 - 1) * 2048 + 2048; omega
    | ⟨1, _⟩ => show (t.val / 5) * 1024 ≤ (i 1 : Nat) ∧ (i 1 : Nat) < (t.val / 5) * 1024 + 1024; omega

theorem arr5 (c : Dev nD) : (dats m 0 c).arrAt 5 cfg0.N = outS (hs m c) (wt m c) :=
  (dats m 0 c).arrAt_eq_of_cover 5 _ (fun t _ => flushed5 m c t) fun i => by
    have h0 : (i 0 : Nat) < 64 := (i 0).isLt
    have h1 : (i 1 : Nat) < 2048 := (i 1).isLt
    let t : Fin cfg0.N := ⟨5 * ((i 1 : Nat) / 1024) + 4, by rw [N_eq]; omega⟩
    have ht : t.val = 5 * ((i 1 : Nat) / 1024) + 4 := rfl
    refine ⟨t, (flush0_5 t).mpr (by omega), ?_⟩
    show i ∈ ((View.whole main_v3_1).slice (win0_5.rect t)).set
    rw [View.set_slice_whole, Rect.mem_set_unit]
    intro a
    show win0_5.index t a * _ ≤ _ ∧ _ < win0_5.index t a * _ + win0_5.xsize (grid0.coords t) a
    rw [show win0_5.index t = _ from index5 t, show win0_5.xsize (grid0.coords t) = _ from xsize5 t]
    match a with
    | ⟨0, _⟩ => show 0 * 64 ≤ (i 0 : Nat) ∧ (i 0 : Nat) < 0 * 64 + 64; omega
    | ⟨1, _⟩ => show (t.val / 5) * 1024 ≤ (i 1 : Nat) ∧ (i 1 : Nat) < (t.val / 5) * 1024 + 1024; omega

/-! ## The reference -/

theorem ref_P (X : FVec Ideal S8192x2048 .bf16) (W : FVec Ideal S1x2048x6144 .f32) :
    Cert.RefOddGIdeal.Read.val_main_v7 (F := Ideal) X W = outP X W := by
  funext i
  obtain ⟨r, n, rfl⟩ : ∃ (r : Fin 8192) (n : Fin 2048), i = ix2 r n := ⟨i 0, i 1, eq_ix2 i⟩
  exact congrArg Proj.silu ((extractStridedSlice_apply _ _ _ _ (ix2 (n1 := 6144) r (wcol n)) fun a => match a with
    | ⟨0, _⟩ => (Nat.zero_add _).symm | ⟨1, _⟩ => rfl).trans (Proj.host_apply _ W _ r _))

theorem ref_S (X : FVec Ideal S64x2048 .bf16) (W : FVec Ideal S1x2048x6144 .f32) :
    Cert.RefOddGIdeal.Read.val_main_v14 (F := Ideal) X W = outS X W := by
  funext i
  obtain ⟨r, n, rfl⟩ : ∃ (r : Fin 64) (n : Fin 2048), i = ix2 r n := ⟨i 0, i 1, eq_ix2 i⟩
  exact congrArg Proj.silu ((extractStridedSlice_apply _ _ _ _ (ix2 (n1 := 6144) r (wcol n)) fun a => match a with
    | ⟨0, _⟩ => (Nat.zero_add _).symm | ⟨1, _⟩ => rfl).trans (Proj.host_apply _ W _ r _))

/-! ## The claims -/

/-- The kernel's run: the results at the products, the arguments unchanged. -/
theorem run_value : θ_run defs (onTc (τ := τ) (main (F := Ideal))) ⟨m, fun _ => 0, ρ⟩ (fun r => ∀ c : Dev nD,
      r.2.mem ((c.tc : Thread nD τ).loc main_v3_0) = outP (hp m c) (wt m c)
      ∧ r.2.mem ((c.tc : Thread nD τ).loc main_v3_1) = outS (hs m c) (wt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.1 c).1 4).trans (arr4 m c), ((h.1.1 c).1 5).trans (arr5 m c), h.2.1 c⟩)
    (θ_run_and (run_main m ρ) (frame m ρ))

theorem algebraic : Cert.algebraic_OddGIdeal_RefOddGIdeal := fun m g m' g' _ hagree =>
  ⟨fun c => outP (hp m c) (wt m c), fun c => outS (hs m c) (wt m c), run_value m g,
    (θ_run Cert.RefOddGIdeal.defs _ _).mono (fun _ h c => by
      obtain ⟨h1, h2, h3⟩ := h c
      obtain ⟨a0, a1, a2, a3⟩ := hagree c
      refine ⟨h1.trans ((Cert.RefOddGIdeal.Read.val_main_v7_eq _ _).trans ?_), h2.trans ((Cert.RefOddGIdeal.Read.val_main_v14_eq _ _).trans ?_), h3⟩
      · rw [a0, a2]; exact ref_P _ _
      · rw [a1, a2]; exact ref_S _ _) (Cert.RefOddGIdeal.Value.run (F := Ideal) m' g')⟩

/-- The program as printed and its idealization have one body, label by label. -/
theorem defs_eq {F : FTy → Type} [FloatOps F] : Cert.OddG.defs (F := F) = Cert.OddGIdeal.defs :=
  congrArg (Pipeline.defs Cert.OddGIdeal.pcfgs) (by
    unfold Cert.OddG.defs₀ Cert.OddGIdeal.defs₀
    congr 1
    funext l a
    match l, a with
    | 0, (t, s) => rfl)

/-- So the printed program's run is the same run, at the machine's numbers. -/
theorem frame_kernel : Cert.quiescent_OddG := fun m ρ _ => by
  rw [defs_eq]; exact frame (F := Bits) m ρ

theorem frame_ideal : Cert.quiescent_OddGIdeal := fun m ρ _ => frame (F := Ideal) m ρ

theorem frame_ref : Cert.quiescent_RefOddGIdeal := fun m ρ _ =>
  (θ_run Cert.RefOddGIdeal.defs _ _).mono (fun r h => ⟨fun c => (h c).2.2, sem_eq_zero_of_no_sems (by decide) r.2⟩)
    (Cert.RefOddGIdeal.Value.run (F := Ideal) m ρ)

end Cert.OddGIdeal.Body

end
-- ==== Proof.Tiles.lean ====
/- A block computed and stored a tile at a time, and one computed by groups of rows of two blocks. -/
module

public import proofs.«01_k».proof.Proof.Rows

@[expose] public section

noncomputable section

namespace Proj

open Idealize.ShloMosaic Idealize.ShloMosaic.ValueIdx

/-- A block given by its tiles of `n` rows and `k` columns. -/
def byTiles {β : Type} {N C n k q r : ℕ} (hN : N = q * n) (hC : C = r * k) (f : Fin q → Fin r → (⟨2, ![n, k]⟩ : Shape).Idx → β) :
    (⟨2, ![N, C]⟩ : Shape).Idx → β := fun i =>
  f ⟨(i 0).val / n, Nat.div_lt_of_lt_mul (by rw [Nat.mul_comm, ← hN]; exact (i 0).isLt)⟩
    ⟨(i 1).val / k, Nat.div_lt_of_lt_mul (by rw [Nat.mul_comm, ← hC]; exact (i 1).isLt)⟩
    (ix2 (n0 := n) (n1 := k) ⟨(i 0).val % n, Nat.mod_lt _ (group_pos hN (i 0).isLt)⟩ ⟨(i 1).val % k, Nat.mod_lt _ (group_pos hC (i 1).isLt)⟩)

theorem tile_end {N n q : ℕ} (hN : N = q * n) (a : Fin q) : n * a.val + n ≤ N := by
  rw [← Nat.mul_succ, hN, Nat.mul_comm]; exact Nat.mul_le_mul_right n a.isLt

theorem tile_inb {N C n k q r : ℕ} (hN : N = q * n) (hC : C = r * k) (a : Fin q) (b : Fin r) :
    ∀ x, (![n * a.val, k * b.val] : Fin 2 → ℕ) x + (![n, k] : Fin 2 → ℕ) x ≤ (![N, C] : Fin 2 → ℕ) x := fun x =>
  match x with
  | ⟨0, _⟩ => tile_end hN a
  | ⟨1, _⟩ => tile_end hC b

/-- Where a tile lies. -/
abbrev tileRect {N C n k q r : ℕ} (hN : N = q * n) (hC : C = r * k) (a : Fin q) (b : Fin r) : Rect (⟨2, ![N, C]⟩ : Shape) :=
  Rect.unit (s := ⟨2, ![N, C]⟩) ![n * a.val, k * b.val] ![n, k] (tile_inb hN hC a b)

theorem tile_div {n o j : ℕ} (hj : j < n) : (n * o + j) / n = o := by
  rw [Nat.mul_add_div (by omega), Nat.div_eq_of_lt hj, Nat.add_zero]

section Stored

variable {sig : RefSig} {κ : Kind} {sp : Space} {e : EltTy} {Val : EltTy → Type}

/-- What is stored of a tile. -/
abbrev tilePiece {N C n k q r : ℕ} (hN : N = q * n) (hC : C = r * k) (f : Fin q → Fin r → (⟨2, ![n, k]⟩ : Shape).Idx → Val e) (a : Fin q)
    (b : Fin r) : View.Piece Val (⟨2, ![N, C]⟩ : Shape) e :=
  ⟨tileRect hN hC a b, f a b⟩

theorem tilePiece_eq {N C n k q r : ℕ} (hN : N = q * n) (hC : C = r * k) (f : Fin q → Fin r → (⟨2, ![n, k]⟩ : Shape).Idx → Val e) (a : Fin q)
    (b : Fin r) (x : (⟨2, ![n, k]⟩ : Shape).Idx) : f a b x = byTiles hN hC f ((tileRect hN hC a b).emb x) := by
  have h0 : (x 0).val < n := (x 0).isLt
  have h1 : (x 1).val < k := (x 1).isLt
  have e0 : ((tileRect hN hC a b).emb x 0).val = n * a.val + (x 0).val := by
    rw [Rect.emb_apply]; show n * a.val + 1 * (x 0).val = _; omega
  have e1 : ((tileRect hN hC a b).emb x 1).val = k * b.val + (x 1).val := by
    rw [Rect.emb_apply]; show k * b.val + 1 * (x 1).val = _; omega
  unfold byTiles
  refine congr (congr (congrArg f (Fin.ext ?_)) (Fin.ext ?_)) (funext fun y => Fin.ext ?_)
  · show a.val = _ / n; rw [e0, tile_div h0]
  · show b.val = _ / k; rw [e1, tile_div h1]
  · match y with
    | ⟨0, _⟩ => show (x 0).val = ((tileRect hN hC a b).emb x 0).val % n; rw [e0, Nat.mul_add_mod, Nat.mod_eq_of_lt h0]
    | ⟨1, _⟩ => show (x 1).val = ((tileRect hN hC a b).emb x 1).val % k; rw [e1, Nat.mul_add_mod, Nat.mod_eq_of_lt h1]

theorem mem_tile {N C n k q r : ℕ} (hN : N = q * n) (hC : C = r * k) (z : (⟨2, ![N, C]⟩ : Shape).Idx) :
    ∃ a b, z ∈ (tileRect hN hC a b : Rect (⟨2, ![N, C]⟩ : Shape)).set := by
  have hn := group_pos hN (z 0).isLt
  have hk := group_pos hC (z 1).isLt
  refine ⟨⟨(z 0).val / n, Nat.div_lt_of_lt_mul (by rw [Nat.mul_comm, ← hN]; exact (z 0).isLt)⟩,
    ⟨(z 1).val / k, Nat.div_lt_of_lt_mul (by rw [Nat.mul_comm, ← hC]; exact (z 1).isLt)⟩, Rect.mem_set_unit.mpr fun x => ?_⟩
  match x with
  | ⟨0, _⟩ =>
    have hd := Nat.div_add_mod (z 0).val n
    have hm := Nat.mod_lt (z 0).val hn
    show n * ((z 0).val / n) ≤ (z 0).val ∧ (z 0).val < n * ((z 0).val / n) + n
    omega
  | ⟨1, _⟩ =>
    have hd := Nat.div_add_mod (z 1).val k
    have hm := Nat.mod_lt (z 1).val hk
    show k * ((z 1).val / k) ≤ (z 1).val ∧ (z 1).val < k * ((z 1).val / k) + k
    omega

/-- What a load reads of a buffer whose tiles have all been stored, in any order. -/
theorem load_tiles [∀ e, Nonempty (Val e)] {N C n k q r : ℕ} (hN : N = q * n) (hC : C = r * k)
    (f : Fin q → Fin r → (⟨2, ![n, k]⟩ : Shape).Idx → Val e) (v : View sig κ sp (⟨2, ![N, C]⟩ : Shape) e)
    (L : List (View.Piece Val (⟨2, ![N, C]⟩ : Shape) e)) (hL : ∀ p ∈ L, ∃ a b, p = tilePiece hN hC f a b)
    (hc : ∀ a b, tilePiece hN hC f a b ∈ L) (B : LoadRect (⟨2, ![N, C]⟩ : Shape)) :
    v.readCov L B = fun j => byTiles hN hC f (B.idx j) := by
  have cover : ∀ z, ∃ p ∈ L, z ∈ p.1.set := fun z => by
    obtain ⟨a, b, h⟩ := mem_tile hN hC z
    exact ⟨_, hc a b, h⟩
  rw [View.readCov_eq_canon v L B fun j => cover _]
  refine funext fun j => View.canon_apply_of_pieces _ L (fun p hp x => ?_) _ (cover _)
  obtain ⟨a, b, rfl⟩ := hL p hp
  exact tilePiece_eq hN hC f a b x

/-- The stores of a column of four tiles, the last first. -/
abbrev column {N C n k r : ℕ} (hN : N = 4 * n) (hC : C = r * k) (f : Fin 4 → Fin r → (⟨2, ![n, k]⟩ : Shape).Idx → Val e) (b : Fin r)
    (L : List (View.Piece Val (⟨2, ![N, C]⟩ : Shape) e)) : List (View.Piece Val (⟨2, ![N, C]⟩ : Shape) e) :=
  tilePiece hN hC f 3 b :: tilePiece hN hC f 2 b :: tilePiece hN hC f 1 b :: tilePiece hN hC f 0 b :: L

theorem mem_column {N C n k r : ℕ} (hN : N = 4 * n) (hC : C = r * k) (f : Fin 4 → Fin r → (⟨2, ![n, k]⟩ : Shape).Idx → Val e) (b : Fin r)
    (L : List (View.Piece Val (⟨2, ![N, C]⟩ : Shape) e)) (p) :
    p ∈ column hN hC f b L ↔ (∃ a, p = tilePiece hN hC f a b) ∨ p ∈ L := by
  simp only [column, List.mem_cons]
  constructor
  · rintro (h | h | h | h | h)
    exacts [.inl ⟨3, h⟩, .inl ⟨2, h⟩, .inl ⟨1, h⟩, .inl ⟨0, h⟩, .inr h]
  · rintro (⟨a, h⟩ | h)
    · fin_cases a
      exacts [.inr <| .inr <| .inr <| .inl h, .inr <| .inr <| .inl h, .inr <| .inl h, .inl h]
    · exact .inr <| .inr <| .inr <| .inr h

/-- What a load reads after eight columns of four tiles are stored. -/
theorem load_columns [∀ e, Nonempty (Val e)] {N C n k : ℕ} (hN : N = 4 * n) (hC : C = 8 * k)
    (f : Fin 4 → Fin 8 → (⟨2, ![n, k]⟩ : Shape).Idx → Val e) (v : View sig κ sp (⟨2, ![N, C]⟩ : Shape) e) (B : LoadRect (⟨2, ![N, C]⟩ : Shape)) :
    v.readCov (column hN hC f 7 (column hN hC f 6 (column hN hC f 5 (column hN hC f 4 (column hN hC f 3 (column hN hC f 2 (column hN hC f 1
      (column hN hC f 0 [])))))))) B = fun j => byTiles hN hC f (B.idx j) := by
  refine load_tiles hN hC f v _ (fun p hp => ?_) (fun a b => ?_) B
  · simp only [mem_column, List.not_mem_nil, or_false] at hp
    rcases hp with h | h | h | h | h | h | h | h
    all_goals obtain ⟨a, rfl⟩ := h; exact ⟨a, _, rfl⟩
  · simp only [mem_column, List.not_mem_nil, or_false]
    fin_cases b
    exacts [.inr <| .inr <| .inr <| .inr <| .inr <| .inr <| .inr ⟨a, rfl⟩, .inr <| .inr <| .inr <| .inr <| .inr <| .inr <| .inl ⟨a, rfl⟩,
      .inr <| .inr <| .inr <| .inr <| .inr <| .inl ⟨a, rfl⟩, .inr <| .inr <| .inr <| .inr <| .inl ⟨a, rfl⟩,
      .inr <| .inr <| .inr <| .inl ⟨a, rfl⟩, .inr <| .inr <| .inl ⟨a, rfl⟩, .inr <| .inl ⟨a, rfl⟩, .inl ⟨a, rfl⟩]

/-- What a buffer reads after its two groups of rows are stored, each computed from the same rows of `X`. -/
theorem read_halves [∀ e, Nonempty (Val e)] {α : Type} {N n K C : ℕ} (hN : N = 2 * n) (v : View sig κ sp (⟨2, ![N, C]⟩ : Shape) e)
    (f : v.ty.Contents Val) (F : ((⟨2, ![n, K]⟩ : Shape).Idx → α) → (⟨2, ![n, C]⟩ : Shape).Idx → Val e)
    (X : (⟨2, ![N, K]⟩ : Shape).Idx → α) (hn : 0 < n) (o1 : ℕ) (h1 : o1 = 1 * n) :
    v.read Val (v.writes Val f
      [(⟨Rect.unit (s := ⟨2, ![N, C]⟩) ![o1, 0] ![n, C] (rows_inb (by omega)),
          F (fun j => X ((Rect.unit (s := ⟨2, ![N, K]⟩) ![o1, 0] ![n, K] (rows_inb (by omega))).toLoadRect.idx j))⟩ :
          View.Piece Val (⟨2, ![N, C]⟩ : Shape) e),
       (⟨Rect.unit (s := ⟨2, ![N, C]⟩) ![0, 0] ![n, C] (rows_inb (by omega)),
          F (fun j => X ((Rect.unit (s := ⟨2, ![N, K]⟩) ![0, 0] ![n, K] (rows_inb (by omega))).toLoadRect.idx j))⟩ :
          View.Piece Val (⟨2, ![N, C]⟩ : Shape) e)]) = byRows hN F X := by
  refine read_parts v f _ _ (fun p hp x => ?_) fun z => ?_
  · simp only [List.mem_cons, List.not_mem_nil, or_false] at hp
    rcases hp with rfl | rfl
    exacts [byRows_emb hN F X 1 o1 h1 (rows_inb (by omega)) (rows_inb (by omega)) x,
      byRows_emb hN F X 0 0 (Nat.zero_mul n).symm (rows_inb (by omega)) (rows_inb (by omega)) x]
  · have hz : (z 0).val / n < 2 := Nat.div_lt_of_lt_mul (by have h0 : (z 0).val < N := (z 0).isLt; omega)
    simp only [List.exists_mem_cons_iff, List.not_mem_nil]
    generalize hk : (z 0).val / n = k at hz
    rcases (by omega : k = 0 ∨ k = 1) with h | h
    all_goals
      have := fun o ho b => mem_rows (C := C) z k o hn hk ho b
      simp only [h] at this
    exacts [.inr <| .inl (this 0 (Nat.zero_mul n).symm _), .inl (this o1 h1 _)]

end Stored

end Proj

end
-- ==== Proof.OddYBody.lean ====
module

public import proofs.«01_k».proof.Proof.Gen.OddYIdeal.Frame
public import proofs.«01_k».proof.Proof.Gen.OddYIdeal.Skeleton
public import proofs.«01_k».proof.Proof.Common
public import proofs.«01_k».proof.Proof.Tiles
public import Idealize.ShloMosaic.Lib.Claim

@[expose] public section

set_option maxRecDepth 16384

noncomputable section

namespace Cert.OddYIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.OddYIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A tile of the gated spatial mix: the rows of chunk `a`, the columns of group `b`. -/
def tile (u v g : Vec F S512x2048 .bf16) (ws : Vec F S8x128x128 .f32) (bs : Vec F S128x8 .f32) (a : Fin 4) (b : Fin 8) : Vec F S128x256 .bf16 :=
  k0_pay6
    (fun j => ws ((Rect.unit (s := S8x128x128) ![b.val, 0, 0] S1x128x128.size (by revert b; decide)).toLoadRect.idx j))
    (fun j => bs ((Rect.unit (s := S128x8) ![0, b.val] S128x1.size (by revert b; decide)).toLoadRect.idx j))
    (fun j => v ((Proj.tileRect (N := 512) (C := 2048) (n := 128) (k := 256) (q := 4) (r := 8) rfl rfl a b).toLoadRect.idx j))
    (fun j => u ((Proj.tileRect (N := 512) (C := 2048) (n := 128) (k := 256) (q := 4) (r := 8) rfl rfl a b).toLoadRect.idx j))
    (fun j => g ((Proj.tileRect (N := 512) (C := 2048) (n := 128) (k := 256) (q := 4) (r := 8) rfl rfl a b).toLoadRect.idx j))

/-- A block of the gated spatial mix. -/
def mix (u v g : Vec F S512x2048 .bf16) (ws : Vec F S8x128x128 .f32) (bs : Vec F S128x8 .f32) : Vec F S512x2048 .bf16 :=
  Proj.byTiles (N := 512) (C := 2048) (n := 128) (k := 256) (q := 4) (r := 8) rfl rfl (tile u v g ws bs)

/-- A block of the first group's result, 256 rows at a time. -/
def block (x : Vec F S512x2048 .f32) (y : Vec F S512x2048 .bf16) (w : Vec F S2048x2048 .bf16) (n : Vec F S1x2048 .f32) : Vec F S512x2048 .f32 :=
  Proj.byRows (α := Elt F .f32 × Elt F .bf16) (N := 512) (n := 256) (q := 2) (K := 2048) (C := 2048) rfl
    (fun p => k0_pay63 (fun j => (p j).1) (fun j => (p j).2) w n) (fun i => (x i, y i))

/-- The second group's result, at the first point. -/
theorem run_first (c : Dev nD) (i : grid0.Coords) (arg1 : Memref sig .tc .vmem S2048x2048 .bf16) (harg1 : arg1.IsWhole)
    (arg2 : Memref sig .tc .vmem S512x2048 .f32) (harg2 : arg2.IsWhole) (arg3 : Memref sig .tc .vmem S1x2048 .f32) (harg3 : arg3.IsWhole)
    (arg4 : Memref sig .tc .vmem S64x2048 .f32) (harg4 : arg4.IsWhole) (arg5 : Memref sig .tc .vmem S64x2048 .f32) (harg5 : arg5.IsWhole)
    (arg6 : Memref sig .tc .vmem S512x2048 .bf16) (harg6 : arg6.IsWhole) (arg7 : Memref sig .tc .vmem S512x2048 .bf16) (harg7 : arg7.IsWhole)
    (arg8 : Memref sig .tc .vmem S512x2048 .bf16) (harg8 : arg8.IsWhole) (arg9 : Memref sig .tc .vmem S8x128x128 .f32) (harg9 : arg9.IsWhole)
    (arg10 : Memref sig .tc .vmem S128x8 .f32) (harg10 : arg10.IsWhole) (arg11 : Memref sig .tc .vmem S512x2048 .f32) (harg11 : arg11.IsWhole)
    (arg12 : Memref sig .tc .vmem S64x2048 .f32) (harg12 : arg12.IsWhole) (arg13 : Memref sig .tc .vmem S512x2048 .bf16) (harg13 : arg13.IsWhole)
    (hc1 : k0_cond1 i = 1#1) (hc2 : ¬ k0_cond2 i = 1#1)
    (w : Vec F S2048x2048 .bf16) (n : Vec F S1x2048 .f32) (y : Vec F S64x2048 .f32) (x : Vec F S64x2048 .f32) (E : Set ℕ) (K : PUnit → sProp 𝕄) :
    iprop(owns (c : Thread nD τ) arg1 fullShare w ∗ owns (c : Thread nD τ) arg3 fullShare n ∗ owns (c : Thread nD τ) arg4 fullShare y
        ∗ owns (c : Thread nD τ) arg5 fullShare x ∗ (∃ d, owns (c : Thread nD τ) arg12 fullShare d)
        ∗ (iprop(owns (c : Thread nD τ) arg1 fullShare w ∗ owns (c : Thread nD τ) arg3 fullShare n ∗ owns (c : Thread nD τ) arg4 fullShare y
            ∗ owns (c : Thread nD τ) arg5 fullShare x ∗ owns (c : Thread nD τ) arg12 fullShare (k0_pay1 x y w n)) -∗ K ⟨⟩))
      ⊢ wp frame (wpE (defs₀ (F := F)) Variants.none c none) E (cc0_out_proj_norm i arg1 harg1 arg2 harg2 arg3 harg3 arg4 harg4 arg5 harg5
          arg6 harg6 arg7 harg7 arg8 harg8 arg9 harg9 arg10 harg10 arg11 harg11 arg12 harg12 arg13 harg13) K := by
  simp only [cc0_out_proj_norm_eq_skeleton]; unfold cc0_out_proj_norm_skel
  unfold owns
  iintro ⟨⟨%f1, %hf1, H1⟩, ⟨%f3, %hf3, H3⟩, ⟨%f4, %hf4, H4⟩, ⟨%f5, %hf5, H5⟩, ⟨%d12, %f12, -, H12⟩, Hk⟩
  sl_exec (disch := first | sl_exact hc1 | sl_exact hc2)
  sl_step
  iapply Hk
  isplitl [H1]
  · iexists _; isplitr; · ipureintro; exact hf1
    iexact H1
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr; swap; · iexact H12
  ipureintro
  sl_unfold_run_names
  rw [Proj.read_stored _ _ Proj.off0, Proj.load_whole hf1 Proj.off0, Proj.load_whole hf3 Proj.off0, Proj.load_whole hf4 Proj.off0,
    Proj.load_whole hf5 Proj.off0]

set_option maxHeartbeats 4000000 in
/-- The body past the first point: the first group's block. -/
theorem run_rest (c : Dev nD) (i : grid0.Coords) (arg1 : Memref sig .tc .vmem S2048x2048 .bf16) (harg1 : arg1.IsWhole)
    (arg2 : Memref sig .tc .vmem S512x2048 .f32) (harg2 : arg2.IsWhole) (arg3 : Memref sig .tc .vmem S1x2048 .f32) (harg3 : arg3.IsWhole)
    (arg4 : Memref sig .tc .vmem S64x2048 .f32) (harg4 : arg4.IsWhole) (arg5 : Memref sig .tc .vmem S64x2048 .f32) (harg5 : arg5.IsWhole)
    (arg6 : Memref sig .tc .vmem S512x2048 .bf16) (harg6 : arg6.IsWhole) (arg7 : Memref sig .tc .vmem S512x2048 .bf16) (harg7 : arg7.IsWhole)
    (arg8 : Memref sig .tc .vmem S512x2048 .bf16) (harg8 : arg8.IsWhole) (arg9 : Memref sig .tc .vmem S8x128x128 .f32) (harg9 : arg9.IsWhole)
    (arg10 : Memref sig .tc .vmem S128x8 .f32) (harg10 : arg10.IsWhole) (arg11 : Memref sig .tc .vmem S512x2048 .f32) (harg11 : arg11.IsWhole)
    (arg12 : Memref sig .tc .vmem S64x2048 .f32) (harg12 : arg12.IsWhole) (arg13 : Memref sig .tc .vmem S512x2048 .bf16) (harg13 : arg13.IsWhole)
    (hc1 : ¬ k0_cond1 i = 1#1) (hc2 : k0_cond2 i = 1#1)
    (w : Vec F S2048x2048 .bf16) (x : Vec F S512x2048 .f32) (n : Vec F S1x2048 .f32) (u v g : Vec F S512x2048 .bf16)
    (ws : Vec F S8x128x128 .f32) (bs : Vec F S128x8 .f32) (E : Set ℕ) (K : PUnit → sProp 𝕄) :
    iprop(owns (c : Thread nD τ) arg1 fullShare w ∗ owns (c : Thread nD τ) arg2 fullShare x ∗ owns (c : Thread nD τ) arg3 fullShare n
        ∗ owns (c : Thread nD τ) arg6 fullShare u ∗ owns (c : Thread nD τ) arg7 fullShare v ∗ owns (c : Thread nD τ) arg8 fullShare g
        ∗ owns (c : Thread nD τ) arg9 fullShare ws ∗ owns (c : Thread nD τ) arg10 fullShare bs
        ∗ (∃ d, owns (c : Thread nD τ) arg11 fullShare d) ∗ (∃ d, owns (c : Thread nD τ) arg13 fullShare d)
        ∗ (iprop(owns (c : Thread nD τ) arg1 fullShare w ∗ owns (c : Thread nD τ) arg2 fullShare x ∗ owns (c : Thread nD τ) arg3 fullShare n
            ∗ owns (c : Thread nD τ) arg6 fullShare u ∗ owns (c : Thread nD τ) arg7 fullShare v ∗ owns (c : Thread nD τ) arg8 fullShare g
            ∗ owns (c : Thread nD τ) arg9 fullShare ws ∗ owns (c : Thread nD τ) arg10 fullShare bs
            ∗ owns (c : Thread nD τ) arg11 fullShare (block x (mix u v g ws bs) w n) ∗ (∃ d, owns (c : Thread nD τ) arg13 fullShare d)) -∗ K ⟨⟩))
      ⊢ wp frame (wpE (defs₀ (F := F)) Variants.none c none) E (cc0_out_proj_norm i arg1 harg1 arg2 harg2 arg3 harg3 arg4 harg4 arg5 harg5
          arg6 harg6 arg7 harg7 arg8 harg8 arg9 harg9 arg10 harg10 arg11 harg11 arg12 harg12 arg13 harg13) K := by
  simp only [cc0_out_proj_norm_eq_skeleton]; unfold cc0_out_proj_norm_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel owns
  iintro ⟨⟨%f1, %hf1, H1⟩, ⟨%f2, %hf2, H2⟩, ⟨%f3, %hf3, H3⟩, ⟨%f6, %hf6, H6⟩, ⟨%f7, %hf7, H7⟩, ⟨%f8, %hf8, H8⟩, ⟨%f9, %hf9, H9⟩,
    ⟨%f10, %hf10, H10⟩, ⟨%d11, %f11, -, H11⟩, ⟨%d13, %f13, -, H13⟩, Hk⟩
  sl_exec (disch := first | sl_exact hc1 | sl_exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; swap; · iexact H11
    ipureintro
    subst hf1 hf2 hf3 hf6 hf7 hf8 hf9 hf10
    have h0 : run_rest.sl.v538 c arg6 arg7 arg8 arg9 arg10 arg13 f6 f7 f8 f9 f10
        = fun j => mix (arg6.view.read (Elt F) f6) (arg7.view.read (Elt F) f7) (arg8.view.read (Elt F) f8) (arg9.view.read (Elt F) f9)
          (arg10.view.read (Elt F) f10)
          ((Rect.unit (s := S512x2048) ![0, 0] S256x2048.size inb_S512x2048_S256x2048_0_0).toLoadRect.idx j) :=
      Proj.load_columns (N := 512) (C := 2048) (n := 128) (k := 256) rfl rfl
        (tile (arg6.view.read (Elt F) f6) (arg7.view.read (Elt F) f7) (arg8.view.read (Elt F) f8) (arg9.view.read (Elt F) f9)
          (arg10.view.read (Elt F) f10)) arg13.view _
    have h1 : run_rest.sl.v559 c arg6 arg7 arg8 arg9 arg10 arg13 f6 f7 f8 f9 f10
        = fun j => mix (arg6.view.read (Elt F) f6) (arg7.view.read (Elt F) f7) (arg8.view.read (Elt F) f8) (arg9.view.read (Elt F) f9)
          (arg10.view.read (Elt F) f10)
          ((Rect.unit (s := S512x2048) ![256, 0] S256x2048.size inb_S512x2048_S256x2048_256_0).toLoadRect.idx j) :=
      Proj.load_columns (N := 512) (C := 2048) (n := 128) (k := 256) rfl rfl
        (tile (arg6.view.read (Elt F) f6) (arg7.view.read (Elt F) f7) (arg8.view.read (Elt F) f8) (arg9.view.read (Elt F) f9)
          (arg10.view.read (Elt F) f10)) arg13.view _
    have e1 : arg1.view.readAt (Elt F) (Rect.unit ![0, 0] S2048x2048.size inb_S2048x2048_S2048x2048_0_0).toLoadRect f1
        = arg1.view.read (Elt F) f1 := Proj.load_whole rfl Proj.off0 _
    have e3 : arg3.view.readAt (Elt F) (Rect.unit ![0, 0] S1x2048.size inb_S1x2048_S1x2048_0_0).toLoadRect f3
        = arg3.view.read (Elt F) f3 := Proj.load_whole rfl Proj.off0 _
    simp only [h0, h1, e1, e3]
    clear h0 h1
    exact Proj.read_halves (α := Elt F .f32 × Elt F .bf16) (N := 512) (n := 256) (K := 2048) (C := 2048) rfl arg11.view f11
      (fun p => k0_pay63 (fun j => (p j).1) (fun j => (p j).2) (arg1.view.read (Elt F) f1) (arg3.view.read (Elt F) f3))
      (fun i => (arg2.view.read (Elt F) f2 i, mix (arg6.view.read (Elt F) f6) (arg7.view.read (Elt F) f7) (arg8.view.read (Elt F) f8)
        (arg9.view.read (Elt F) f9) (arg10.view.read (Elt F) f10) i)) (by decide) 256 rfl
  iexists _; iexists _; isplitr; swap; · iexact H13
  ipureintro; rfl

/-! ## The schedule -/

theorem N_eq : cfg0.N = 17 := N_0

/-- The second group is done at the first point, the first group at the others. -/
theorem cond1_iff : ∀ t : Fin cfg0.N, k0_cond1 (grid0.coords t) = 1#1 ↔ t.val % 17 = 0 :=
  (by decide +kernel : ∀ t : Fin grid0.N, k0_cond1 (grid0.coords t) = 1#1 ↔ t.val % 17 = 0)
theorem cond2_iff : ∀ t : Fin cfg0.N, k0_cond2 (grid0.coords t) = 1#1 ↔ ¬ t.val % 17 = 0 :=
  (by decide +kernel : ∀ t : Fin grid0.N, k0_cond2 (grid0.coords t) = 1#1 ↔ ¬ t.val % 17 = 0)

theorem index0 : ∀ t : Fin cfg0.N, (cfg0.win 0).index t = ![0, 0] :=
  (by decide +kernel : ∀ t : Fin grid0.N, win0_0.index t = ![0, 0])
theorem index2 : ∀ t : Fin cfg0.N, (cfg0.win 2).index t = ![0, 0] :=
  (by decide +kernel : ∀ t : Fin grid0.N, win0_2.index t = ![0, 0])
theorem index3 : ∀ t : Fin cfg0.N, (cfg0.win 3).index t = ![0, 0] :=
  (by decide +kernel : ∀ t : Fin grid0.N, win0_3.index t = ![0, 0])
theorem index4 : ∀ t : Fin cfg0.N, (cfg0.win 4).index t = ![0, 0] :=
  (by decide +kernel : ∀ t : Fin grid0.N, win0_4.index t = ![0, 0])

/-- The weight, the gain and the second group's blocks do not move. -/
theorem iblk0_eq (c : Dev nD) (t t' : Fin cfg0.N) : (iblk m c 0 t : Vec F S2048x2048 .bf16) = iblk m c 0 t' :=
  funext fun y => congrArg (V m c (Pipeline.arrRef spec0 0)) (funext fun a => Fin.ext (by
    refine (win0_0.rect_emb_val_off t y a).trans (Eq.trans ?_ (win0_0.rect_emb_val_off t' y a).symm)
    rw [show win0_0.index t = _ from index0 t, show win0_0.index t' = _ from index0 t']))
theorem iblk2_eq (c : Dev nD) (t t' : Fin cfg0.N) : (iblk m c 2 t : Vec F S1x2048 .f32) = iblk m c 2 t' :=
  funext fun y => congrArg (V m c (Pipeline.arrRef spec0 2)) (funext fun a => Fin.ext (by
    refine (win0_2.rect_emb_val_off t y a).trans (Eq.trans ?_ (win0_2.rect_emb_val_off t' y a).symm)
    rw [show win0_2.index t = _ from index2 t, show win0_2.index t' = _ from index2 t']))
theorem iblk3_eq (c : Dev nD) (t t' : Fin cfg0.N) : (iblk m c 3 t : Vec F S64x2048 .f32) = iblk m c 3 t' :=
  funext fun y => congrArg (V m c (Pipeline.arrRef spec0 3)) (funext fun a => Fin.ext (by
    refine (win0_3.rect_emb_val_off t y a).trans (Eq.trans ?_ (win0_3.rect_emb_val_off t' y a).symm)
    rw [show win0_3.index t = _ from index3 t, show win0_3.index t' = _ from index3 t']))
theorem iblk4_eq (c : Dev nD) (t t' : Fin cfg0.N) : (iblk m c 4 t : Vec F S64x2048 .f32) = iblk m c 4 t' :=
  funext fun y => congrArg (V m c (Pipeline.arrRef spec0 4)) (funext fun a => Fin.ext (by
    refine (win0_4.rect_emb_val_off t y a).trans (Eq.trans ?_ (win0_4.rect_emb_val_off t' y a).symm)
    rw [show win0_4.index t = _ from index4 t, show win0_4.index t' = _ from index4 t']))

/-! ## The proof data -/

/-- The scratch buffer of the spatial mix, written anew at every point that reads it. -/
abbrev keep : Memref sig .tc .vmem S512x2048 .bf16 := Memref.whole cc0_scratch0

def Phi (c : Dev nD) : sProp 𝕄 := iprop((∃ d, owns (c : Thread nD τ) keep fullShare d) ∗ (∃ r, prngReg c r))

/-- The first group's result at point `t`. -/
def firstOut (c : Dev nD) (t : Fin cfg0.N) : Vec F S512x2048 .f32 :=
  block (iblk m c 1 t) (mix (iblk m c 5 t) (iblk m c 6 t) (iblk m c 7 t) (iblk m c 8 t) (iblk m c 9 t)) (iblk m c 0 t) (iblk m c 2 t)

/-- The second group's result. -/
def secondOut (c : Dev nD) (t : Fin cfg0.N) : Vec F S64x2048 .f32 := k0_pay1 (iblk m c 4 t) (iblk m c 3 t) (iblk m c 0 t) (iblk m c 2 t)

/-- What the pipeline's proof says: every input's buffer keeps its block, the two results' buffers hold the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => firstOut m c t
    | ⟨11, _⟩ => secondOut m c t
  Φ _ := Phi c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = firstOut m c t := by dsimp only [dats]
theorem after_11 (c : Dev nD) (t : Fin cfg0.N) : (dats m 0 c).after 11 t = secondOut m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

theorem idle_10 (t : Fin cfg0.N) : cfg0.idle 10 (grid0.coords t) = decide (t.val % 17 = 0) :=
  (by decide +kernel : ∀ t : Fin grid0.N, idle0 10 (grid0.coords t) = decide (t.val % 17 = 0)) t
theorem idle_11 (t : Fin cfg0.N) : cfg0.idle 11 (grid0.coords t) = !decide (t.val % 17 = 0) :=
  (by decide +kernel : ∀ t : Fin grid0.N, idle0 11 (grid0.coords t) = !decide (t.val % 17 = 0)) t
theorem flush_10 (t : Fin cfg0.N) : (cfg0.win 10).flush t = !decide (t.val % 17 = 0) :=
  (by decide +kernel : ∀ t : Fin grid0.N, win0_10.flush t = !decide (t.val % 17 = 0)) t

/-- The second group's window holds nothing of the body's only before the first point. -/
theorem fresh_11 (t : Fin cfg0.N) : cfg0.fresh 11 t.val = decide (t.val % 17 = 0) :=
  cfg0.fresh_tab 11 (fun n => decide (n % 17 = 0)) rfl (fun t => by
    rw [idle_11, show (cfg0.win 11).flush t = decide (t.val % 17 = 16) from Bool.eq_iff_iff.mpr ((flush0_11 t).trans (by simp))]
    by_cases h : t.val % 17 = 0 <;> simp [h] <;> omega) t.val t.isLt.le

/-- Past the first point the second group's window holds its result. -/
theorem before_11 (c : Dev nD) (t : Fin cfg0.N) (h : ¬ t.val % 17 = 0) (d) : (dats m 0 c).before 11 t d = secondOut m c t := by
  have carry : ∀ t : Fin cfg0.N, ¬ t.val % 17 = 0 →
      (dats m 0 c).after 11 t = (dats m 0 c).after 11 ⟨t.val - 1, by omega⟩ := fun t h => by
    rw [after_11, after_11, secondOut, secondOut, iblk4_eq m c t ⟨t.val - 1, by omega⟩, iblk3_eq m c t ⟨t.val - 1, by omega⟩,
      iblk0_eq m c t ⟨t.val - 1, by omega⟩, iblk2_eq m c t ⟨t.val - 1, by omega⟩]
  rw [(dats m 0 c).before_out_traj 11 rfl (fun _ _ => rfl) (fun t _ _ hf => carry t (by rw [fresh_11] at hf; simpa using hf)) t.val t rfl d,
    fresh_11, if_neg (by simpa using h), ← carry t h, after_11]

/-! ## The body obligation -/

abbrev ms0 (t : Fin cfg0.N) : Memref sig .tc .vmem S2048x2048 .bf16 := win0_0.stage (cfg0.slots t 0)
abbrev ms1 (t : Fin cfg0.N) : Memref sig .tc .vmem S512x2048 .f32 := win0_1.stage (cfg0.slots t 1)
abbrev ms2 (t : Fin cfg0.N) : Memref sig .tc .vmem S1x2048 .f32 := win0_2.stage (cfg0.slots t 2)
abbrev ms3 (t : Fin cfg0.N) : Memref sig .tc .vmem S64x2048 .f32 := win0_3.stage (cfg0.slots t 3)
abbrev ms4 (t : Fin cfg0.N) : Memref sig .tc .vmem S64x2048 .f32 := win0_4.stage (cfg0.slots t 4)
abbrev ms5 (t : Fin cfg0.N) : Memref sig .tc .vmem S512x2048 .bf16 := win0_5.stage (cfg0.slots t 5)
abbrev ms6 (t : Fin cfg0.N) : Memref sig .tc .vmem S512x2048 .bf16 := win0_6.stage (cfg0.slots t 6)
abbrev ms7 (t : Fin cfg0.N) : Memref sig .tc .vmem S512x2048 .bf16 := win0_7.stage (cfg0.slots t 7)
abbrev ms8 (t : Fin cfg0.N) : Memref sig .tc .vmem S8x128x128 .f32 := win0_8.stage (cfg0.slots t 8)
abbrev ms9 (t : Fin cfg0.N) : Memref sig .tc .vmem S128x8 .f32 := win0_9.stage (cfg0.slots t 9)
abbrev ms10 (t : Fin cfg0.N) : Memref sig .tc .vmem S512x2048 .f32 := win0_10.stage (cfg0.slots t 10)
abbrev ms11 (t : Fin cfg0.N) : Memref sig .tc .vmem S64x2048 .f32 := win0_11.stage (cfg0.slots t 11)

/-- What the body is handed at point `t`, window by window. -/
def bodyPre (c : Dev nD) (t : Fin cfg0.N) : sProp 𝕄 :=
  iprop(Phi c ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- What it leaves there. -/
def bodyPost (c : Dev nD) (t : Fin cfg0.N) : sProp 𝕄 :=
  iprop(Phi c ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t ∗ (dats m 0 c).leavesExact 11 t)

theorem leaves_in {c : Dev nD} (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_in m 0 t rfl, leaves_in m 1 t rfl, leaves_in m 2 t rfl, leaves_in m 3 t rfl, leaves_in m 4 t rfl, leaves_in m 5 t rfl, leaves_in m 6 t rfl, leaves_in m 7 t rfl, leaves_in m 8 t rfl, leaves_in m 9 t rfl,
    after_0, after_1, after_2, after_3, after_4, after_5, after_6, after_7, after_8, after_9]
  simp only [before_0, before_1, before_2, before_3, before_4, before_5, before_6, before_7, before_8, before_9]
  rw [show (dats m 0 c).owesAt () t.succ = (dats m 0 c).owesAt () t.castSucc from rfl]
  unfold Phi
  by_cases h : t.val % 17 = 0
  · rw [leaves_in m 11 t (by rw [idle_11]; simp [h]), after_11,
      (dats m 0 c).leavesExact_idle 10 t (by rw [idle_10]; simp [h]) (by rw [flush_10]; simp [h])]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, ⟨%d11, H11⟩⟩
    iapply (run_first c (grid0.coords t) _ _ _ _ _ _ _ _ _ _ _ _ _ _ _ _ _ _ _ _ _ _ _ _ _ _
      ((cond1_iff t).mpr h) (fun h' => (cond2_iff t).mp h' h) (iblk m c 0 t) (iblk m c 2 t) (iblk m c 3 t) (iblk m c 4 t) Set.univ _)
    isplitl [H0]; · iexact H0
    isplitl [H2]; · iexact H2
    isplitl [H3]; · iexact H3
    isplitl [H4]; · iexact H4
    isplitl [H11]; · iexists _; iexact H11
    iintro ⟨H0, H2, H3, H4, H11⟩
    isplitl [HS Hg]
    · isplitl [HS]
      · iexists _; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [leaves_in m 10 t (by rw [idle_10]; simp [h]), after_10]
    simp only [before_11 m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_rest c (grid0.coords t) _ _ _ _ _ _ _ _ _ _ _ _ _ _ _ _ _ _ _ _ _ _ _ _ _ _
      (fun h' => h ((cond1_iff t).mp h')) ((cond2_iff t).mpr h) (iblk m c 0 t) (iblk m c 1 t) (iblk m c 2 t) (iblk m c 5 t) (iblk m c 6 t)
      (iblk m c 7 t) (iblk m c 8 t) (iblk m c 9 t) Set.univ _)
    isplitl [H0]; · iexact H0
    isplitl [H1]; · iexact H1
    isplitl [H2]; · iexact H2
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iapply (Proj.leaves_kept (dats m 0 c) 11 t _ (before_11 m c t h) ((after_11 m c t).symm))
    iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show _ ⊢ Phi c
      unfold Phi Pipeline.ΦA; rw [scopedRest0_eq]; simp only [keep, owns_whole]
      exact .rfl)
    (hout := fun c => by
      show Phi c ⊢ _
      unfold Phi Pipeline.ΦA; rw [scopedRest0_eq]; simp only [keep, owns_whole]
      exact .rfl)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.OddYIdeal.Body

end
-- ==== Proof.Gate.lean ====
/- The gated spatial mix, and the reference's of the first group's rows. -/
module

public import proofs.«01_k».proof.Proof.Act
public import proofs.«01_k».proof.Proof.Gen.RefOddYIdeal.Run
public import proofs.«01_k».proof.Proof.Gen.RefOddYIdeal.Read

@[expose] public section

set_option maxRecDepth 16384

noncomputable section

namespace Proj

open Idealize.ShloMosaic Idealize.ShloMosaic.ValueIdx
open Cert.RefOddYIdeal.Read

/-- A weight of the mix, past positions only. -/
def past (t s : Fin 128) (w : EReal) : EReal := if s.val ≤ t.val then w else 0

/-- Row `r` of column `k`, gated: its chunk's earlier rows mixed by the weights of the column's group. -/
def gated (U V G : (⟨2, ![8192, 2048]⟩ : Shape).Idx → EReal) (W : (⟨4, ![1, 8, 128, 128]⟩ : Shape).Idx → EReal)
    (B : (⟨3, ![1, 8, 128]⟩ : Shape).Idx → EReal) (r : Fin 8192) (k : Fin 2048) : EReal :=
  U (ix2 r k) * ((∑ s : Fin 128, past ⟨r.val % 128, Nat.mod_lt _ (by decide)⟩ s
      (W (ix4 (0 : Fin 1) (n1 := 8) ⟨k.val / 256, by omega⟩ (n2 := 128) ⟨r.val % 128, Nat.mod_lt _ (by decide)⟩ s))
      * V (ix2 (n0 := 8192) ⟨r.val / 128 * 128 + s.val, by omega⟩ k))
    + B (ix3 (0 : Fin 1) (n1 := 8) ⟨k.val / 256, by omega⟩ (n2 := 128) ⟨r.val % 128, Nat.mod_lt _ (by decide)⟩)) * G (ix2 r k)

/-- The same as a matrix. -/
def gate (U V G : (⟨2, ![8192, 2048]⟩ : Shape).Idx → EReal) (W : (⟨4, ![1, 8, 128, 128]⟩ : Shape).Idx → EReal)
    (B : (⟨3, ![1, 8, 128]⟩ : Shape).Idx → EReal) : (⟨2, ![8192, 2048]⟩ : Shape).Idx → EReal := fun i => gated U V G W B (i 0) (i 1)

theorem sge_past : ∀ t s : Fin 128, IntOp.cmpi .sge (IntOp.addi (BitVec.ofNat 32 t.val) 0#32) (BitVec.ofNat 32 s.val)
    = if s.val ≤ t.val then 1#1 else 0#1 := by decide +kernel
theorem sle_past : ∀ t s : Fin 128, IntOp.cmpi .sle (BitVec.ofNat 32 s.val) (BitVec.ofNat 32 t.val)
    = if s.val ≤ t.val then 1#1 else 0#1 := by decide +kernel

/-! ## Where the reference's reshapes read -/

theorem idx1 (a : Fin 4) (q k : Fin 2048) : idx_main_v1 (ix3 a q k) = ix2 (n0 := 8192) ⟨a.val * 2048 + q.val, by omega⟩ k :=
  funext fun x => Fin.ext (by
    match x with
    | ⟨0, _⟩ => show ((a.val * 2048 + q.val) * 2048 + k.val) / 2048 = a.val * 2048 + q.val; omega
    | ⟨1, _⟩ => show ((a.val * 2048 + q.val) * 2048 + k.val) % 2048 = k.val; omega)

theorem idx8 (a : Fin 4) (n : Fin 16) (s : Fin 128) (g : Fin 8) (c : Fin 256) :
    idx_main_v8 (ix5 a n s g c) = ix3 a (n1 := 2048) ⟨n.val * 128 + s.val, by omega⟩ (n2 := 2048) ⟨g.val * 256 + c.val, by omega⟩ :=
  funext fun x => Fin.ext (by
    match x with
    | ⟨0, _⟩ => show ((((a.val * 16 + n.val) * 128 + s.val) * 8 + g.val) * 256 + c.val) / 4194304 = a.val; omega
    | ⟨1, _⟩ => show ((((a.val * 16 + n.val) * 128 + s.val) * 8 + g.val) * 256 + c.val) / 2048 % 2048 = n.val * 128 + s.val; omega
    | ⟨2, _⟩ => show ((((a.val * 16 + n.val) * 128 + s.val) * 8 + g.val) * 256 + c.val) % 2048 = g.val * 256 + c.val; omega)

theorem idx6 (g : Fin 8) (t s : Fin 128) : idx_main_v6 (ix3 g t s) = ix4 (0 : Fin 1) g t s :=
  funext fun x => Fin.ext (by
    match x with
    | ⟨0, _⟩ => rfl
    | ⟨1, _⟩ => show ((g.val * 128 + t.val) * 128 + s.val) / 16384 % 8 = g.val; omega
    | ⟨2, _⟩ => show ((g.val * 128 + t.val) * 128 + s.val) / 128 % 128 = t.val; omega
    | ⟨3, _⟩ => show ((g.val * 128 + t.val) * 128 + s.val) % 128 = s.val; omega)

theorem idx7 (g : Fin 8) (t : Fin 128) : idx_main_v7 (ix2 g t) = ix3 (0 : Fin 1) g t :=
  funext fun x => Fin.ext (by
    match x with
    | ⟨0, _⟩ => rfl
    | ⟨1, _⟩ => show (g.val * 128 + t.val) / 128 % 8 = g.val; omega
    | ⟨2, _⟩ => show (g.val * 128 + t.val) % 128 = t.val; omega)

theorem idx18 (a : Fin 4) (q k : Fin 2048) : idx_main_v18 (ix3 a q k)
    = ix5 a (n1 := 16) ⟨q.val / 128, by omega⟩ (n2 := 128) ⟨q.val % 128, Nat.mod_lt _ (by decide)⟩ (n3 := 8) ⟨k.val / 256, by omega⟩
      (n4 := 256) ⟨k.val % 256, Nat.mod_lt _ (by decide)⟩ :=
  funext fun x => Fin.ext (by
    match x with
    | ⟨0, _⟩ => show ((a.val * 2048 + q.val) * 2048 + k.val) / 4194304 = a.val; omega
    | ⟨1, _⟩ => show ((a.val * 2048 + q.val) * 2048 + k.val) / 262144 % 16 = q.val / 128; omega
    | ⟨2, _⟩ => show ((a.val * 2048 + q.val) * 2048 + k.val) / 2048 % 128 = q.val % 128; omega
    | ⟨3, _⟩ => show ((a.val * 2048 + q.val) * 2048 + k.val) / 256 % 8 = k.val / 256; omega
    | ⟨4, _⟩ => show ((a.val * 2048 + q.val) * 2048 + k.val) % 256 = k.val % 256; omega)

theorem idx21 (r : Fin 8192) (k : Fin 2048) : idx_main_v21 (ix2 r k)
    = ix3 (n0 := 4) ⟨r.val / 2048, by omega⟩ (n1 := 2048) ⟨r.val % 2048, Nat.mod_lt _ (by decide)⟩ k :=
  funext fun x => Fin.ext (by
    match x with
    | ⟨0, _⟩ => show (r.val * 2048 + k.val) / 4194304 = r.val / 2048; omega
    | ⟨1, _⟩ => show (r.val * 2048 + k.val) / 2048 % 2048 = r.val % 2048; omega
    | ⟨2, _⟩ => show (r.val * 2048 + k.val) % 2048 = k.val; omega)

/-! ## The reference's mix -/

variable (U V G : FVec Ideal ⟨2, ![8192, 2048]⟩ .bf16) (W : FVec Ideal ⟨4, ![1, 8, 128, 128]⟩ .f32) (B : FVec Ideal ⟨3, ![1, 8, 128]⟩ .f32)

/-- The masked weights. -/
theorem masked (g : Fin 8) (t s : Fin 128) : val_main_v11 (F := Ideal) W (ix3 g t s) = past t s (W (ix4 (0 : Fin 1) g t s)) := by
  rw [val_main_v11_apply, val_main_call1_v1_apply, val_main_v6_apply, idx6, val_main_call1_v2_apply, val_main_call1_v0_apply, val_main_cst_apply,
    val_main_v10_apply, val_main_v9_apply, val_main_c_apply, val_main_call0_v5_apply, val_main_call0_c_0_apply, val_main_call0_v4_apply,
    val_main_call0_v2_apply, val_main_call0_v0_apply, val_main_call0_v1_apply, val_main_call0_c_apply, val_main_call0_v3_apply]
  have h := sge_past t s
  unfold past Scalar.select
  refine Eq.trans (b := if (if (if s.val ≤ t.val then 1#1 else 0#1 : BitVec 1) = 1 then (1#1 : BitVec 1) else 0#1) = 1 then W (ix4 (0 : Fin 1) g t s)
    else (Ideal.ofBits .f32 0x00000000#32 : EReal)) (by rw [← h]; rfl) ?_
  rw [Ideal.ofBits_zero_f32]
  by_cases hs : s.val ≤ t.val
  · rw [if_pos hs, if_pos hs]; rfl
  · rw [if_neg hs, if_neg hs]; rfl

/-- Row `t` of chunk `n` of batch `a`, mixed. -/
theorem mixed (a : Fin 4) (n : Fin 16) (t : Fin 128) (g : Fin 8) (c : Fin 256) : val_main_v17 (F := Ideal) V W B (ix5 a n t g c)
    = (∑ s : Fin 128, past t s (W (ix4 (0 : Fin 1) g t s))
        * V (ix2 (n0 := 8192) ⟨a.val * 2048 + (n.val * 128 + s.val), by omega⟩ (n1 := 2048) ⟨g.val * 256 + c.val, by omega⟩))
      + B (ix3 (0 : Fin 1) g t) := by
  rw [val_main_v17_apply, val_main_v13_apply, val_main_v12_apply, val_main_v16_apply, val_main_v15_apply, val_main_v14_apply, val_main_v7_apply]
  refine congrArg₂ (fun x y : EReal => x + y) (Finset.sum_congr rfl fun s _ => ?_) (congrArg B (Eq.trans (congrArg idx_main_v7 ?_) (idx7 g t)))
  · rw [mul_comm, val_main_v8_apply]
    refine congrArg₂ (fun x y : EReal => x * y) ((congrArg (val_main_v11 (F := Ideal) W) ?_).trans (masked W g t s)) ?_
    · exact funext fun x => match x with | ⟨0, _⟩ => rfl | ⟨1, _⟩ => rfl | ⟨2, _⟩ => rfl
    · refine (congrArg (fun i => val_main_v3 (F := Ideal) V (idx_main_v8 i)) (?_ : _ = ix5 a n s g c)).trans ?_
      · exact funext fun x => match x with | ⟨0, _⟩ => rfl | ⟨1, _⟩ => rfl | ⟨2, _⟩ => rfl | ⟨3, _⟩ => rfl | ⟨4, _⟩ => rfl
      · show val_main_v3 (F := Ideal) V (idx_main_v8 (ix5 a n s g c)) = _
        rw [idx8, val_main_v3_apply, val_main_v2_apply]
        exact congrArg V (idx1 _ _ _)
  · exact funext fun x => match x with | ⟨0, _⟩ => rfl | ⟨1, _⟩ => rfl

/-- The mix with its gates, as the matrix the out projection multiplies. -/
theorem ref_gate (r : Fin 8192) (k : Fin 2048) : val_main_v21 (F := Ideal) U V G W B (ix2 r k) = gate U V G W B (ix2 r k) := by
  rw [val_main_v21_apply, idx21, val_main_v20_apply, val_main_v19_apply, val_main_v1_apply, val_main_v5_apply, val_main_v18_apply, idx18, mixed,
    val_main_v0_apply, val_main_v4_apply]
  have hr : ∀ x : FVec Ideal ⟨2, ![8192, 2048]⟩ .bf16, x (ix2 (n0 := 8192) ⟨r.val / 2048 * 2048 + r.val % 2048, by omega⟩ k) = x (ix2 r k) := fun x =>
    congrArg (fun i => x (ix2 i k)) (Fin.ext (by show r.val / 2048 * 2048 + r.val % 2048 = r.val; omega))
  have ht : (⟨r.val % 2048 % 128, Nat.mod_lt _ (by decide)⟩ : Fin 128) = ⟨r.val % 128, Nat.mod_lt _ (by decide)⟩ := Fin.ext (by
    show r.val % 2048 % 128 = r.val % 128; omega)
  refine congrArg₂ (fun x y : EReal => x * y) (congrArg₂ (fun x y : EReal => x * y) ((congrArg U (idx1 _ _ _)).trans (hr U)) ?_)
    ((congrArg G (idx1 _ _ _)).trans (hr G))
  show (∑ s : Fin 128, past ⟨r.val % 2048 % 128, _⟩ s (W (ix4 (0 : Fin 1) _ ⟨r.val % 2048 % 128, _⟩ s)) * V _) + B (ix3 (0 : Fin 1) _ ⟨r.val % 2048 % 128, _⟩) = _
  rw [ht]
  refine congrArg (fun x : EReal => x + B _) (Finset.sum_congr rfl fun s _ => congrArg (fun i => past _ s _ * V i) ?_)
  exact funext fun x => Fin.ext (by
    match x with
    | ⟨0, _⟩ => show r.val / 2048 * 2048 + (r.val % 2048 / 128 * 128 + s.val) = r.val / 128 * 128 + s.val; omega
    | ⟨1, _⟩ => show k.val / 256 * 256 + k.val % 256 = k.val; omega)

end Proj

end
-- ==== Proof.OddYValue.lean ====
/- What the out projection of a spatial layer computes: both results are the stream plus the gated mix times the layer's weight, its rows
   normalised and scaled, as the reference's. -/
module

public import proofs.«01_k».proof.Proof.OddYBody
public import proofs.«01_k».proof.Proof.Gate
public import proofs.«01_k».proof.Proof.Gen.OddY
public import proofs.«01_k».proof.Defs

@[expose] public section

set_option maxRecDepth 16384

noncomputable section

namespace Cert.OddYIdeal.Body

open Idealize.ShloMosaic Idealize.ShloMosaic.TcCoe Idealize.ShloMosaic.ValueIdx Idealize.SL.Sem
open Idealize.ShloMosaic.Pipeline (Dat Cfg Window)
open Cert.OddYIdeal.Gen

variable (m : (ℓ : Loc nD τ sig) → Buf (Elt Ideal) ℓ) (ρ : Dev nD → PrngReg)

/-- The launch contents of the arguments. -/
abbrev uu (c : Dev nD) : FVec Ideal S8192x2048 .bf16 := m ((c.tc : Thread nD τ).loc main_arg0)
abbrev vv (c : Dev nD) : FVec Ideal S8192x2048 .bf16 := m ((c.tc : Thread nD τ).loc main_arg1)
abbrev gg (c : Dev nD) : FVec Ideal S8192x2048 .bf16 := m ((c.tc : Thread nD τ).loc main_arg2)
abbrev ys (c : Dev nD) : FVec Ideal S64x2048 .f32 := m ((c.tc : Thread nD τ).loc main_arg3)
abbrev xp (c : Dev nD) : FVec Ideal S8192x2048 .f32 := m ((c.tc : Thread nD τ).loc main_arg4)
abbrev xs (c : Dev nD) : FVec Ideal S64x2048 .f32 := m ((c.tc : Thread nD τ).loc main_arg5)
abbrev ws (c : Dev nD) : FVec Ideal S1x8x128x128 .f32 := m ((c.tc : Thread nD τ).loc main_arg6)
abbrev bs (c : Dev nD) : FVec Ideal S1x8x128 .f32 := m ((c.tc : Thread nD τ).loc main_arg7)
abbrev wt (c : Dev nD) : FVec Ideal S1x2048x2048 .f32 := m ((c.tc : Thread nD τ).loc main_arg8)
abbrev gain (c : Dev nD) : FVec Ideal S2048 .f32 := m ((c.tc : Thread nD τ).loc main_arg9)

/-- The two results. -/
def outP (Y : S8192x2048.Idx → EReal) (X : FVec Ideal S8192x2048 .f32) (W : FVec Ideal S1x2048x2048 .f32) (G : FVec Ideal S2048 .f32) :
    FVec Ideal S8192x2048 .f32 := fun i => Proj.rms (fun n => X (ix2 (i 0) n) + Proj.inner Y W (i 0) n) (G (ix1 (i 1))) (i 1)
def outS (Y X : FVec Ideal S64x2048 .f32) (W : FVec Ideal S1x2048x2048 .f32) (G : FVec Ideal S2048 .f32) :
    FVec Ideal S64x2048 .f32 := fun i => Proj.rms (fun n => X (ix2 (i 0) n) + Proj.inner Y W (i 0) n) (G (ix1 (i 1))) (i 1)

/-- The gated mix of the first group's arguments. -/
abbrev gateP (c : Dev nD) : S8192x2048.Idx → EReal := Proj.gate (uu m c) (vv m c) (gg m c) (ws m c) (bs m c)

/-! ## The blocks read -/

theorem V_weight (c : Dev nD) (k n : Fin 2048) : V m c main_v1 (ix2 k n) = wt m c (ix3 (0 : Fin 1) k n) := by
  have : V m c main_v1 = truncf (F := Ideal) .bf16 (shapeCast S2048x2048 (wt m c) shapeCasts_S1x2048x2048_S2048x2048) bitsLt_bf16_f32 := by
    show StableHlo.after hostOps0 _ main_v1 = _
    after_results_simp <;> rfl
  rw [this]; exact Proj.drop_apply _ _ k n

theorem V_mix (c : Dev nD) (g : Fin 8) (t s : Fin 128) : V m c main_v2 (ix3 g t s) = ws m c (ix4 (0 : Fin 1) g t s) := by
  have : V m c main_v2 = shapeCast S8x128x128 (ws m c) shapeCasts_S1x8x128x128_S8x128x128 := by
    show StableHlo.after hostOps0 _ main_v2 = _
    after_results_simp <;> rfl
  rw [this]
  exact (shapeCast_dropUnit_apply (n := 3) ![8, 128, 128] (ws m c) _ (ix3 g t s)).trans
    (congrArg (ws m c) (funext fun a => match a with | ⟨0, _⟩ => rfl | ⟨1, _⟩ => rfl | ⟨2, _⟩ => rfl | ⟨3, _⟩ => rfl))

theorem V_bias (c : Dev nD) (t : Fin 128) (g : Fin 8) : V m c main_v4 (ix2 t g) = bs m c (ix3 (0 : Fin 1) g t) := by
  have : V m c main_v4 = transpose S128x8 [1, 0] (shapeCast S8x128 (bs m c) shapeCasts_S1x8x128_S8x128) transposes_S8x128_S128x8_1_0 := by
    show StableHlo.after hostOps0 _ main_v4 = _
    after_results_simp <;> rfl
  rw [this]; exact Proj.turned_apply _ _ _ t g

theorem V_gain (c : Dev nD) (n : Fin 2048) : V m c main_v5 (ix2 (0 : Fin 1) n) = gain m c (ix1 n) := by
  have : V m c main_v5 = shapeCast S1x2048 (gain m c) shapeCasts_S2048_S1x2048 := by
    show StableHlo.after hostOps0 _ main_v5 = _
    after_results_simp <;> rfl
  rw [this]
  exact shapeCast_apply _ _ (ix2 (0 : Fin 1) n) (ix1 n) (by
    rw [Shape.rowMajor_val_one, Shape.rowMajor_val_two]; show n.val = 0 * 2048 + n.val; omega)

theorem index1 : ∀ t : Fin cfg0.N, (cfg0.win 1).index t = ![t.val % 17 - 1, 0] :=
  (by decide +kernel : ∀ t : Fin grid0.N, win0_1.index t = ![t.val % 17 - 1, 0])
theorem index5 : ∀ t : Fin cfg0.N, (cfg0.win 5).index t = ![t.val % 17 - 1, 0] :=
  (by decide +kernel : ∀ t : Fin grid0.N, win0_5.index t = ![t.val % 17 - 1, 0])
theorem index6 : ∀ t : Fin cfg0.N, (cfg0.win 6).index t = ![t.val % 17 - 1, 0] :=
  (by decide +kernel : ∀ t : Fin grid0.N, win0_6.index t = ![t.val % 17 - 1, 0])
theorem index7 : ∀ t : Fin cfg0.N, (cfg0.win 7).index t = ![t.val % 17 - 1, 0] :=
  (by decide +kernel : ∀ t : Fin grid0.N, win0_7.index t = ![t.val % 17 - 1, 0])
theorem index8 : ∀ t : Fin cfg0.N, (cfg0.win 8).index t = ![0, 0, 0] :=
  (by decide +kernel : ∀ t : Fin grid0.N, win0_8.index t = ![0, 0, 0])
theorem index9 : ∀ t : Fin cfg0.N, (cfg0.win 9).index t = ![0, 0] :=
  (by decide +kernel : ∀ t : Fin grid0.N, win0_9.index t = ![0, 0])
theorem index10 : ∀ t : Fin cfg0.N, (cfg0.win 10).index t = ![t.val % 17 - 1, 0] :=
  (by decide +kernel : ∀ t : Fin grid0.N, win0_10.index t = ![t.val % 17 - 1, 0])
theorem index11 : ∀ t : Fin cfg0.N, (cfg0.win 11).index t = ![0, 0] :=
  (by decide +kernel : ∀ t : Fin grid0.N, win0_11.index t = ![0, 0])

theorem t_lt (t : Fin cfg0.N) : t.val < 17 := lt_of_lt_of_eq t.isLt N_eq

/-- The row of the whole that row `p` of point `t`'s block is. -/
def row (t : Fin cfg0.N) (p : Fin 512) : Fin 8192 := ⟨(t.val % 17 - 1) * 512 + p.val, by have := p.isLt; omega⟩

theorem read1 (c : Dev nD) (t : Fin cfg0.N) (p : Fin 512) (k : Fin 2048) :
    (iblk m c 1 t : FVec Ideal S512x2048 .f32) (ix2 p k) = xp m c (ix2 (row t p) k) :=
  congrArg (xp m c) (funext fun a => Fin.ext (by
    refine (win0_1.rect_emb_val_off t (ix2 p k) a).trans ?_
    rw [show win0_1.index t = _ from index1 t]
    match a with
    | ⟨0, _⟩ => rfl
    | ⟨1, _⟩ => exact Nat.zero_add _))

theorem read5 (c : Dev nD) (t : Fin cfg0.N) (p : Fin 512) (k : Fin 2048) :
    (iblk m c 5 t : FVec Ideal S512x2048 .bf16) (ix2 p k) = uu m c (ix2 (row t p) k) :=
  congrArg (uu m c) (funext fun a => Fin.ext (by
    refine (win0_5.rect_emb_val_off t (ix2 p k) a).trans ?_
    rw [show win0_5.index t = _ from index5 t]
    match a with
    | ⟨0, _⟩ => rfl
    | ⟨1, _⟩ => exact Nat.zero_add _))

theorem read6 (c : Dev nD) (t : Fin cfg0.N) (p : Fin 512) (k : Fin 2048) :
    (iblk m c 6 t : FVec Ideal S512x2048 .bf16) (ix2 p k) = vv m c (ix2 (row t p) k) :=
  congrArg (vv m c) (funext fun a => Fin.ext (by
    refine (win0_6.rect_emb_val_off t (ix2 p k) a).trans ?_
    rw [show win0_6.index t = _ from index6 t]
    match a with
    | ⟨0, _⟩ => rfl
    | ⟨1, _⟩ => exact Nat.zero_add _))

theorem read7 (c : Dev nD) (t : Fin cfg0.N) (p : Fin 512) (k : Fin 2048) :
    (iblk m c 7 t : FVec Ideal S512x2048 .bf16) (ix2 p k) = gg m c (ix2 (row t p) k) :=
  congrArg (gg m c) (funext fun a => Fin.ext (by
    refine (win0_7.rect_emb_val_off t (ix2 p k) a).trans ?_
    rw [show win0_7.index t = _ from index7 t]
    match a with
    | ⟨0, _⟩ => rfl
    | ⟨1, _⟩ => exact Nat.zero_add _))

theorem read3 (c : Dev nD) (t : Fin cfg0.N) (p : Fin 64) (k : Fin 2048) :
    (iblk m c 3 t : FVec Ideal S64x2048 .f32) (ix2 p k) = ys m c (ix2 p k) :=
  congrArg (ys m c) (funext fun a => Fin.ext (by
    refine (win0_3.rect_emb_val_off t (ix2 p k) a).trans ?_
    rw [show win0_3.index t = _ from index3 t]
    match a with
    | ⟨0, _⟩ => exact Nat.zero_add _
    | ⟨1, _⟩ => exact Nat.zero_add _))

theorem read4 (c : Dev nD) (t : Fin cfg0.N) (p : Fin 64) (k : Fin 2048) :
    (iblk m c 4 t : FVec Ideal S64x2048 .f32) (ix2 p k) = xs m c (ix2 p k) :=
  congrArg (xs m c) (funext fun a => Fin.ext (by
    refine (win0_4.rect_emb_val_off t (ix2 p k) a).trans ?_
    rw [show win0_4.index t = _ from index4 t]
    match a with
    | ⟨0, _⟩ => exact Nat.zero_add _
    | ⟨1, _⟩ => exact Nat.zero_add _))

theorem read0 (c : Dev nD) (t : Fin cfg0.N) (n k : Fin 2048) :
    (iblk m c 0 t : FVec Ideal S2048x2048 .bf16) (ix2 k n) = wt m c (ix3 (0 : Fin 1) k n) := by
  refine Eq.trans ?_ (V_weight m c k n)
  exact congrArg (V m c main_v1) (funext fun a => Fin.ext (by
    refine (win0_0.rect_emb_val_off t (ix2 k n) a).trans ?_
    rw [show win0_0.index t = _ from index0 t]
    match a with
    | ⟨0, _⟩ => exact Nat.zero_add _
    | ⟨1, _⟩ => exact Nat.zero_add _))

theorem read2 (c : Dev nD) (t : Fin cfg0.N) (n : Fin 2048) :
    (iblk m c 2 t : FVec Ideal S1x2048 .f32) (ix2 (0 : Fin 1) n) = gain m c (ix1 n) := by
  refine Eq.trans ?_ (V_gain m c n)
  exact congrArg (V m c main_v5) (funext fun a => Fin.ext (by
    refine (win0_2.rect_emb_val_off t (ix2 (0 : Fin 1) n) a).trans ?_
    rw [show win0_2.index t = _ from index2 t]
    match a with
    | ⟨0, _⟩ => rfl
    | ⟨1, _⟩ => exact Nat.zero_add _))

theorem read8 (c : Dev nD) (t : Fin cfg0.N) (g : Fin 8) (p s : Fin 128) :
    (iblk m c 8 t : FVec Ideal S8x128x128 .f32) (ix3 g p s) = ws m c (ix4 (0 : Fin 1) g p s) := by
  refine Eq.trans ?_ (V_mix m c g p s)
  exact congrArg (V m c main_v2) (funext fun a => Fin.ext (by
    refine (win0_8.rect_emb_val_off t (ix3 g p s) a).trans ?_
    rw [show win0_8.index t = _ from index8 t]
    match a with
    | ⟨0, _⟩ => exact Nat.zero_add _
    | ⟨1, _⟩ => exact Nat.zero_add _
    | ⟨2, _⟩ => exact Nat.zero_add _))

theorem read9 (c : Dev nD) (t : Fin cfg0.N) (p : Fin 128) (g : Fin 8) :
    (iblk m c 9 t : FVec Ideal S128x8 .f32) (ix2 p g) = bs m c (ix3 (0 : Fin 1) g p) := by
  refine Eq.trans ?_ (V_bias m c p g)
  exact congrArg (V m c main_v4) (funext fun a => Fin.ext (by
    refine (win0_9.rect_emb_val_off t (ix2 p g) a).trans ?_
    rw [show win0_9.index t = _ from index9 t]
    match a with
    | ⟨0, _⟩ => exact Nat.zero_add _
    | ⟨1, _⟩ => exact Nat.zero_add _))

/-! ## What the body stores -/

/-- The masked weights of a group. -/
theorem pay4_apply (w : FVec Ideal S1x128x128 .f32) (t s : Fin 128) : k0_pay4 (F := Ideal) w (ix2 t s) = Proj.past t s (w (ix3 (0 : Fin 1) t s)) := by
  have h := Proj.sle_past t s
  have h3 : k0_pay3 (ix2 t s) = if s.val ≤ t.val then 1#1 else 0#1 := by
    refine Eq.trans ?_ h
    show IntOp.cmpi .sle (iota .tc S128x128 32 [1] iota_S128x128_d1_w32 (ix2 t s)) (iota .tc S128x128 32 [0] iota_S128x128_d0_w32 (ix2 t s)) = _
    rw [iota_single_apply, iota_single_apply]
  show Scalar.select (k0_pay3 (ix2 t s)) (shapeCast S128x128 w shapeCasts_S1x128x128_S128x128 (ix2 t s)) (Ideal.ofBits .f32 0x00000000#32) = _
  rw [h3, Proj.drop_apply, Ideal.ofBits_zero_f32]
  unfold Proj.past Scalar.select
  by_cases hs : s.val ≤ t.val
  · rw [if_pos hs, if_pos hs]; rfl
  · rw [if_neg hs, if_neg hs]; rfl

/-- A tile of the mix. -/
theorem pay6_apply (w : FVec Ideal S1x128x128 .f32) (b : FVec Ideal S128x1 .f32) (v u g : FVec Ideal S128x256 .bf16) (p : Fin 128) (q : Fin 256) :
    k0_pay6 (F := Ideal) w b v u g (ix2 p q) = u (ix2 p q) * ((∑ s : Fin 128, Proj.past p s (w (ix3 (0 : Fin 1) p s)) * v (ix2 s q))
      + b (ix2 p (0 : Fin 1))) * g (ix2 p q) := by
  unfold k0_pay6
  rw [shapeCast_self, truncf_apply]
  refine congrArg (fun x : EReal => u (ix2 p q) * x * g (ix2 p q)) (congrArg₂ (fun x y : EReal => x + y) ?_ ?_)
  · refine (Ideal.matmul_plain_apply (φ₁ := .bf16) (φ₂ := .bf16) none _ v _ p q).trans ?_
    rw [constant_apply, Ideal.ofBits_zero_f32, zero_add]
    exact Finset.sum_congr rfl fun s _ => congrArg (fun x : EReal => x * v (ix2 s q)) (pay4_apply w p s)
  · unfold k0_pay5
    rw [shapeCast_self]
    exact broadcastTo_apply b broadcasts_S128x1_S128x256 (ix2 p q) (ix2 p (0 : Fin 1)) fun a => match a with
      | ⟨0, _⟩ => rfl
      | ⟨1, _⟩ => rfl

theorem pay63_apply (x : FVec Ideal S256x2048 .f32) (y : FVec Ideal S256x2048 .bf16) (w : FVec Ideal S2048x2048 .bf16) (g : FVec Ideal S1x2048 .f32)
    (p : Fin 256) (n : Fin 2048) :
    k0_pay63 (F := Ideal) x y w g (ix2 p n) = Proj.rms (fun k => x (ix2 p k) + matmul (F := Ideal) dot_S256x2048_S2048x2048_S256x2048_1_0_0_1_n_n none y w
      (constant S256x2048 .f32 0x00000000#32) (ix2 p k)) (g (ix2 (0 : Fin 1) n)) n := by
  have hw : shapeCast S2048x2048 w shapeCasts_S2048x2048_S2048x2048 = w := shapeCast_self _ _
  refine Eq.trans ?_ ((Proj.kernel_rms (M := 256) (K := 2048) (fun j => x j + matmul (F := Ideal) dot_S256x2048_S2048x2048_S256x2048_1_0_0_1_n_n none y w
    (constant S256x2048 .f32 0x00000000#32) j) (shapeCast S1x2048 g shapeCasts_S1x2048_S1x2048) 0x00000000#32 reduces_S256x2048_S256 (.inl rfl) rfl
    shapeCasts_S256_S256x1 broadcasts_S256x1_S256x2048 broadcasts_S1x2048_S256x2048 p n).trans (by rw [shapeCast_self]))
  unfold k0_pay63
  rw [hw]; rfl

theorem pay1_apply (x y : FVec Ideal S64x2048 .f32) (w : FVec Ideal S2048x2048 .bf16) (g : FVec Ideal S1x2048 .f32) (p : Fin 64) (n : Fin 2048) :
    k0_pay1 (F := Ideal) x y w g (ix2 p n) = Proj.rms (fun k => x (ix2 p k) + matmul (F := Ideal) dot_S64x2048_S2048x2048_S64x2048_1_0_0_1_n_n none
      (truncf (F := Ideal) .bf16 y bitsLt_bf16_f32) w (constant S64x2048 .f32 0x00000000#32) (ix2 p k)) (g (ix2 (0 : Fin 1) n)) n := by
  have hw : shapeCast S2048x2048 w shapeCasts_S2048x2048_S2048x2048 = w := shapeCast_self _ _
  refine Eq.trans ?_ ((Proj.kernel_rms (M := 64) (K := 2048) (fun j => x j + matmul (F := Ideal) dot_S64x2048_S2048x2048_S64x2048_1_0_0_1_n_n none
    (truncf (F := Ideal) .bf16 y bitsLt_bf16_f32) w (constant S64x2048 .f32 0x00000000#32) j) (shapeCast S1x2048 g shapeCasts_S1x2048_S1x2048) 0x00000000#32
    reduces_S64x2048_S64 (.inl rfl) rfl shapeCasts_S64_S64x1 broadcasts_S64x1_S64x2048 broadcasts_S1x2048_S64x2048 p n).trans (by rw [shapeCast_self]))
  unfold k0_pay1
  rw [hw]; rfl

/-- The block of the mix at a point is the block of the gated mix. -/
theorem mix_read (c : Dev nD) (t : Fin cfg0.N) (p : Fin 512) (k : Fin 2048) :
    mix (F := Ideal) (iblk m c 5 t) (iblk m c 6 t) (iblk m c 7 t) (iblk m c 8 t) (iblk m c 9 t) (ix2 p k) = gateP m c (ix2 (row t p) k) := by
  have hp : (row t p).val % 128 = p.val % 128 := by show ((t.val % 17 - 1) * 512 + p.val) % 128 = _; omega
  refine (pay6_apply _ _ _ _ _ _ _).trans ?_
  have here : ∀ (x : FVec Ideal S512x2048 .bf16) (s : Fin 128) (p' : Fin 512), p'.val = p.val / 128 * 128 + s.val →
      x ((Proj.tileRect (N := 512) (C := 2048) (n := 128) (k := 256) (q := 4) (r := 8) rfl rfl ⟨p.val / 128, by omega⟩ ⟨k.val / 256, by omega⟩).toLoadRect.idx
        (ix2 s ⟨k.val % 256, Nat.mod_lt _ (by decide)⟩)) = x (ix2 p' k) := fun x s p' h =>
    congrArg x (funext fun a => Fin.ext (by
      match a with
      | ⟨0, _⟩ => show 128 * (p.val / 128) + 1 * s.val = p'.val; omega
      | ⟨1, _⟩ => show 256 * (k.val / 256) + 1 * (k.val % 256) = k.val; omega))
  show _ = Proj.gated (uu m c) (vv m c) (gg m c) (ws m c) (bs m c) (row t p) k
  unfold Proj.gated
  have hm : (⟨(row t p).val % 128, Nat.mod_lt _ (by decide)⟩ : Fin 128) = ⟨p.val % 128, Nat.mod_lt _ (by decide)⟩ := Fin.ext hp
  rw [hm]
  refine congrArg₂ (fun x y : EReal => x * y) (congrArg₂ (fun x y : EReal => x * y) ?_ (congrArg₂ (fun x y : EReal => x + y)
    (Finset.sum_congr rfl fun s _ => congrArg₂ (fun x y : EReal => Proj.past _ s x * y) ?_ ?_) ?_)) ?_
  · exact (here _ _ p (by show p.val = p.val / 128 * 128 + p.val % 128; omega)).trans (read5 m c t p k)
  · refine Eq.trans (congrArg (iblk m c 8 t : FVec Ideal S8x128x128 .f32) (funext fun a => Fin.ext ?_)) (read8 m c t ⟨k.val / 256, by omega⟩ ⟨p.val % 128, Nat.mod_lt _ (by decide)⟩ s)
    match a with
    | ⟨0, _⟩ => show k.val / 256 + 1 * 0 = k.val / 256; omega
    | ⟨1, _⟩ => show 0 + 1 * (p.val % 128) = p.val % 128; omega
    | ⟨2, _⟩ => show 0 + 1 * s.val = s.val; omega
  · refine (here _ s ⟨p.val / 128 * 128 + s.val, by omega⟩ rfl).trans ((read6 m c t _ k).trans (congrArg (fun r => vv m c (ix2 r k)) (Fin.ext ?_)))
    show (t.val % 17 - 1) * 512 + (p.val / 128 * 128 + s.val) = ((t.val % 17 - 1) * 512 + p.val) / 128 * 128 + s.val
    omega
  · refine Eq.trans (congrArg (iblk m c 9 t : FVec Ideal S128x8 .f32) (funext fun a => Fin.ext ?_)) (read9 m c t ⟨p.val % 128, Nat.mod_lt _ (by decide)⟩ ⟨k.val / 256, by omega⟩)
    match a with
    | ⟨0, _⟩ => show 0 + 1 * (p.val % 128) = p.val % 128; omega
    | ⟨1, _⟩ => show k.val / 256 + 1 * 0 = k.val / 256; omega
  · exact (here _ _ p (by show p.val = p.val / 128 * 128 + p.val % 128; omega)).trans (read7 m c t p k)

/-! ## The write-backs -/

/-- One block of the first result is the block of `outP`. -/
theorem flushed10 (c : Dev nD) (t : Fin cfg0.N) :
    (dats m 0 c).flushed 10 t = ((cfg0.win 10).blk t).view.read (Elt Ideal) (outP (gateP m c) (xp m c) (wt m c) (gain m c)) := by
  show (cfg0.win 10).cut (grid0.coords t) ((dats m 0 c).after 10 t) = _
  rw [after_10]
  funext y
  obtain ⟨p, q, rfl⟩ : ∃ (p : Fin 512) (q : Fin 2048), y = ix2 p q := ⟨y 0, y 1, eq_ix2 y⟩
  have hq : ((win0_10.rect t).emb (ix2 p q) 1 : Fin 2048) = q :=
    Fin.ext ((win0_10.rect_emb_val_off t (ix2 p q) 1).trans (by rw [show win0_10.index t = _ from index10 t]; exact Nat.zero_add _))
  have hr : ((win0_10.rect t).emb (ix2 p q) 0 : Fin 8192) = row t p :=
    Fin.ext ((win0_10.rect_emb_val_off t (ix2 p q) 0).trans (by rw [show win0_10.index t = _ from index10 t]; rfl))
  refine (pay63_apply _ _ (iblk m c 0 t) (iblk m c 2 t) _ q).trans ?_
  rw [read2]
  refine Eq.trans ?_ (congrArg₂ (fun (r : Fin 8192) (n : Fin 2048) => Proj.rms (fun k => xp m c (ix2 r k) + Proj.inner (gateP m c) (wt m c) r k)
    (gain m c (ix1 n)) n) hr hq).symm
  refine congrArg (fun f => Proj.rms f (gain m c (ix1 q)) q) (funext fun k => congrArg₂ (fun x y : EReal => x + y) ?_ ?_)
  · exact (Proj.rows_of (N := 512) (n := 256) (q := 2) rfl (iblk m c 1 t : FVec Ideal S512x2048 .f32) p k).trans (read1 m c t p k)
  · exact Proj.plain_inner (φ₁ := .bf16) (φ₂ := .bf16) _ (iblk m c 0 t) (gateP m c) (wt m c) _ k _ (row t p) _ k
      (fun k => (Proj.rows_of (N := 512) (n := 256) (q := 2) rfl
        (mix (F := Ideal) (iblk m c 5 t) (iblk m c 6 t) (iblk m c 7 t) (iblk m c 8 t) (iblk m c 9 t)) p k).trans (mix_read m c t p k))
      (read0 m c t k) rfl rfl

/-- And of the second. -/
theorem flushed11 (c : Dev nD) (t : Fin cfg0.N) :
    (dats m 0 c).flushed 11 t = ((cfg0.win 11).blk t).view.read (Elt Ideal) (outS (ys m c) (xs m c) (wt m c) (gain m c)) := by
  show (cfg0.win 11).cut (grid0.coords t) ((dats m 0 c).after 11 t) = _
  rw [after_11]
  funext y
  obtain ⟨p, q, rfl⟩ : ∃ (p : Fin 64) (q : Fin 2048), y = ix2 p q := ⟨y 0, y 1, eq_ix2 y⟩
  have hq : ((win0_11.rect t).emb (ix2 p q) 1 : Fin 2048) = q :=
    Fin.ext ((win0_11.rect_emb_val_off t (ix2 p q) 1).trans (by rw [show win0_11.index t = _ from index11 t]; exact Nat.zero_add _))
  have hr : ((win0_11.rect t).emb (ix2 p q) 0 : Fin 64) = p :=
    Fin.ext ((win0_11.rect_emb_val_off t (ix2 p q) 0).trans (by rw [show win0_11.index t = _ from index11 t]; exact Nat.zero_add _))
  refine (pay1_apply (iblk m c 4 t) (iblk m c 3 t) (iblk m c 0 t) (iblk m c 2 t) _ q).trans ?_
  rw [read2]
  refine Eq.trans ?_ (congrArg₂ (fun (r : Fin 64) (n : Fin 2048) => Proj.rms (fun k => xs m c (ix2 r k) + Proj.inner (ys m c) (wt m c) r k)
    (gain m c (ix1 n)) n) hr hq).symm
  refine congrArg (fun f => Proj.rms f (gain m c (ix1 q)) q) (funext fun k => congrArg₂ (fun x y : EReal => x + y) ?_ ?_)
  · exact read4 m c t p k
  · exact Proj.plain_inner (φ₁ := .bf16) (φ₂ := .bf16) _ (iblk m c 0 t) (ys m c) (wt m c) _ k _ p _ k
      (fun k => read3 m c t p k) (read0 m c t k) rfl rfl

theorem xsize10 : ∀ t : Fin cfg0.N, (cfg0.win 10).xsize (grid0.coords t) = ![512, 2048] :=
  (by decide +kernel : ∀ t : Fin grid0.N, win0_10.xsize (grid0.coords t) = ![512, 2048])
theorem xsize11 : ∀ t : Fin cfg0.N, (cfg0.win 11).xsize (grid0.coords t) = ![64, 2048] :=
  (by decide +kernel : ∀ t : Fin grid0.N, win0_11.xsize (grid0.coords t) = ![64, 2048])

theorem arr10 (c : Dev nD) : (dats m 0 c).arrAt 10 cfg0.N = outP (gateP m c) (xp m c) (wt m c) (gain m c) :=
  (dats m 0 c).arrAt_eq_of_cover 10 _ (fun t _ => flushed10 m c t) fun i => by
    have h0 : (i 0 : Nat) < 8192 := (i 0).isLt
    have h1 : (i 1 : Nat) < 2048 := (i 1).isLt
    let t : Fin cfg0.N := ⟨(i 0 : Nat) / 512 + 1, by rw [N_eq]; omega⟩
    have ht : t.val = (i 0 : Nat) / 512 + 1 := rfl
    refine ⟨t, by rw [flush_10]; simp; omega, ?_⟩
    show i ∈ ((View.whole main_v6_0).slice (win0_10.rect t)).set
    rw [View.set_slice_whole, Rect.mem_set_unit]
    intro a
    show win0_10.index t a * _ ≤ _ ∧ _ < win0_10.index t a * _ + win0_10.xsize (grid0.coords t) a
    rw [show win0_10.index t = _ from index10 t, show win0_10.xsize (grid0.coords t) = _ from xsize10 t]
    match a with
    | ⟨0, _⟩ => show (t.val % 17 - 1) * 512 ≤ (i 0 : Nat) ∧ (i 0 : Nat) < (t.val % 17 - 1) * 512 + 512; omega
    | ⟨1, _⟩ => show 0 * 2048 ≤ (i 1 : Nat) ∧ (i 1 : Nat) < 0 * 2048 + 2048; omega

theorem arr11 (c : Dev nD) : (dats m 0 c).arrAt 11 cfg0.N = outS (ys m c) (xs m c) (wt m c) (gain m c) :=
  (dats m 0 c).arrAt_eq_of_cover 11 _ (fun t _ => flushed11 m c t) fun i => by
    have h0 : (i 0 : Nat) < 64 := (i 0).isLt
    have h1 : (i 1 : Nat) < 2048 := (i 1).isLt
    let t : Fin cfg0.N := ⟨16, by rw [N_eq]; omega⟩
    have ht : t.val = 16 := rfl
    refine ⟨t, (flush0_11 t).mpr (by omega), ?_⟩
    show i ∈ ((View.whole main_v6_1).slice (win0_11.rect t)).set
    rw [View.set_slice_whole, Rect.mem_set_unit]
    intro a
    show win0_11.index t a * _ ≤ _ ∧ _ < win0_11.index t a * _ + win0_11.xsize (grid0.coords t) a
    rw [show win0_11.index t = _ from index11 t, show win0_11.xsize (grid0.coords t) = _ from xsize11 t]
    match a with
    | ⟨0, _⟩ => show 0 * 64 ≤ (i 0 : Nat) ∧ (i 0 : Nat) < 0 * 64 + 64; omega
    | ⟨1, _⟩ => show 0 * 2048 ≤ (i 1 : Nat) ∧ (i 1 : Nat) < 0 * 2048 + 2048; omega

/-! ## The reference -/

theorem ref_P (U V G : FVec Ideal S8192x2048 .bf16) (X : FVec Ideal S8192x2048 .f32) (M : FVec Ideal S1x8x128x128 .f32) (B : FVec Ideal S1x8x128 .f32)
    (W : FVec Ideal S1x2048x2048 .f32) (N : FVec Ideal S2048 .f32) :
    Cert.RefOddYIdeal.Read.val_main_v37 (F := Ideal) U V G X M B W N = outP (Proj.gate U V G M B) X W N := by
  funext i
  obtain ⟨r, n, rfl⟩ : ∃ (r : Fin 8192) (n : Fin 2048), i = ix2 r n := ⟨i 0, i 1, eq_ix2 i⟩
  refine (Proj.host_rms (M := 8192) (K := 2048) (Cert.RefOddYIdeal.Read.val_main_v24 (F := Ideal) U V G X M B W) N
    (by decide) (by decide) (by decide) (by decide) (by decide) (by decide) (by decide) (by decide) (by decide) r n).trans ?_
  refine congrArg (fun f => Proj.rms f (N (ix1 n)) n) (funext fun k => congrArg (fun x : EReal => X (ix2 r k) + x) ?_)
  refine (Proj.host_apply (φ₁ := .f32) (φ₂ := .f32) (Cert.RefOddYIdeal.Read.val_main_v21 (F := Ideal) U V G M B) W _ r k).trans ?_
  exact Finset.sum_congr rfl fun j _ => congrArg (fun x : EReal => x * W (ix3 (0 : Fin 1) j k)) (Proj.ref_gate U V G M B r j)

theorem ref_S (Y X : FVec Ideal S64x2048 .f32) (W : FVec Ideal S1x2048x2048 .f32) (N : FVec Ideal S2048 .f32) :
    Cert.RefOddYIdeal.Read.val_main_v53 (F := Ideal) Y X W N = outS Y X W N := by
  funext i
  obtain ⟨r, n, rfl⟩ : ∃ (r : Fin 64) (n : Fin 2048), i = ix2 r n := ⟨i 0, i 1, eq_ix2 i⟩
  refine (Proj.host_rms (M := 64) (K := 2048) (Cert.RefOddYIdeal.Read.val_main_v40 (F := Ideal) Y X W) N
    (by decide) (by decide) (by decide) (by decide) (by decide) (by decide) (by decide) (by decide) (by decide) r n).trans ?_
  refine congrArg (fun f => Proj.rms f (N (ix1 n)) n) (funext fun k => congrArg (fun x : EReal => X (ix2 r k) + x) ?_)
  exact Proj.host_apply (φ₁ := .f32) (φ₂ := .f32) Y W _ r k

/-! ## The claims -/

/-- The kernel's run: the results at their values, the arguments unchanged. -/
theorem run_value : θ_run defs (onTc (τ := τ) (main (F := Ideal))) ⟨m, fun _ => 0, ρ⟩ (fun r => ∀ c : Dev nD,
      r.2.mem ((c.tc : Thread nD τ).loc main_v6_0) = outP (gateP m c) (xp m c) (wt m c) (gain m c)
      ∧ r.2.mem ((c.tc : Thread nD τ).loc main_v6_1) = outS (ys m c) (xs m c) (wt m c) (gain m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.1.1 c).1 10).trans (arr10 m c), ((h.1.1 c).1 11).trans (arr11 m c), h.2.1 c⟩)
    (θ_run_and (run_main m ρ) (frame m ρ))

theorem algebraic : Cert.algebraic_OddYIdeal_RefOddYIdeal := fun m g m' g' _ hagree =>
  ⟨fun c => outP (gateP m c) (xp m c) (wt m c) (gain m c), fun c => outS (ys m c) (xs m c) (wt m c) (gain m c), run_value m g,
    (θ_run Cert.RefOddYIdeal.defs _ _).mono (fun _ h c => by
      obtain ⟨h1, h2, h3⟩ := h c
      obtain ⟨a0, a1, a2, a3, a4, a5, a6, a7, a8, a9⟩ := hagree c
      refine ⟨h1.trans ((Cert.RefOddYIdeal.Read.val_main_v37_eq _ _).trans ?_), h2.trans ((Cert.RefOddYIdeal.Read.val_main_v53_eq _ _ _ _).trans ?_), h3⟩
      · rw [a0, a1, a2, a4, a6, a7, a8, a9]; exact ref_P _ _ _ _ _ _ _ _
      · rw [a3, a5, a8, a9]; exact ref_S _ _ _ _) (Cert.RefOddYIdeal.Value.run (F := Ideal) m' g')⟩

/-- The program as printed and its idealization have one body, label by label. -/
theorem defs_eq {F : FTy → Type} [FloatOps F] : Cert.OddY.defs (F := F) = Cert.OddYIdeal.defs :=
  congrArg (Pipeline.defs Cert.OddYIdeal.pcfgs) (by
    unfold Cert.OddY.defs₀ Cert.OddYIdeal.defs₀
    congr 1
    funext l a
    match l, a with
    | 0, (t, s) => rfl)

/-- So the printed program's run is the same run, at the machine's numbers. -/
theorem frame_kernel : Cert.quiescent_OddY := fun m ρ _ => by
  rw [defs_eq]; exact frame (F := Bits) m ρ

theorem frame_ideal : Cert.quiescent_OddYIdeal := fun m ρ _ => frame (F := Ideal) m ρ

theorem frame_ref : Cert.quiescent_RefOddYIdeal := fun m ρ _ =>
  (θ_run Cert.RefOddYIdeal.defs _ _).mono (fun r h => ⟨fun c => (h c).2.2, sem_eq_zero_of_no_sems (by decide) r.2⟩)
    (Cert.RefOddYIdeal.Value.run (F := Ideal) m ρ)

end Cert.OddYIdeal.Body

end
-- ==== Proof.MlstmHead.lean ====
/- One head of the mLSTM chunk: what it computes as sums over positions and lanes, and that the kernel's operations compute it. -/
module

public import proofs.«01_k».proof.Proof.Gen.MlstmIdeal.Skeleton
public import Idealize.ShloMosaic.Lib.Pointwise

@[expose] public section

set_option maxRecDepth 16384

noncomputable section

namespace Mlstm

open Idealize.ShloMosaic

/-- A head's chunk: queries, scaled keys and values by position and lane, the two gates' logs by position, and the state. -/
structure Chunk where
  q : Fin 16 → Fin 256 → EReal
  k : Fin 16 → Fin 256 → EReal
  v : Fin 16 → Fin 256 → EReal
  ig : Fin 16 → EReal
  lf : Fin 16 → EReal
  c : Fin 256 → Fin 256 → EReal
  n : Fin 256 → EReal
  m : EReal

namespace Chunk

variable (H : Chunk)

/-- The forget gates' running sum, and what a position's logit is of an earlier one's. -/
def cum (t : Fin 16) : EReal := ∑ s : Fin 16, if s ≤ t then H.lf s else 0

def logit (t s : Fin 16) : EReal := if s ≤ t then H.cum t - H.cum s + H.ig s else ⊥

/-- The running maximum, and the two weights it normalises. -/
def peak (t : Fin 16) : EReal := max (H.cum t + H.m) ((Finset.univ : Finset (Fin 16)).fold max ⊥ fun s => H.logit t s)

def weight (t s : Fin 16) : EReal := Ideal.exp (H.logit t s - H.peak t)

def carry (t : Fin 16) : EReal := Ideal.exp (H.cum t + H.m - H.peak t)

def score (t s : Fin 16) : EReal := (∑ e : Fin 256, H.q t e * H.k s e) * H.weight t s

def num (t : Fin 16) (x : Fin 256) : EReal := (∑ s : Fin 16, H.score t s * H.v s x) + H.carry t * ∑ e : Fin 256, H.q t e * H.c x e

def den (t : Fin 16) : EReal :=
  max (FloatOps.absf (F := Ideal) (φ := .f32) ((∑ s : Fin 16, H.score t s) + H.carry t * ∑ e : Fin 256, H.q t e * H.n e)) (Ideal.exp (-H.peak t))

/-- The head's output, and the state it leaves: its last position's, `last`. -/
def out (t : Fin 16) (x : Fin 256) : EReal := Ideal.div (H.num t x) (H.den t)

def cell (x e : Fin 256) : EReal := H.carry 15 * H.c x e + ∑ s : Fin 16, H.weight 15 s * H.v s x * H.k s e

def norm (e : Fin 256) : EReal := H.carry 15 * H.n e + ∑ s : Fin 16, H.weight 15 s * H.k s e

/-- At the last position nothing is masked. -/
theorem cum_last : H.cum 15 = ∑ s : Fin 16, H.lf s :=
  Finset.sum_congr rfl fun s _ => if_pos (Fin.le_last s)

theorem logit_last (s : Fin 16) : H.logit 15 s = H.cum 15 - H.cum s + H.ig s := if_pos (Fin.le_last s)

end Chunk

/-- The logistic function, and the gate of an output. -/
def sigmoid (x : EReal) : EReal := Ideal.div 1 (1 + Ideal.exp (-x))

def gated (h o g : EReal) : EReal := h * sigmoid o * (g * sigmoid g)

/-- A maximum's initial value is the least element, a mask's is named so, and a sixteenth is one in either format. -/
theorem ofBits_ninf : Ideal.ofBits .f32 0xFF800000#32 = ⊥ := by
  simp [Ideal.ofBits, Ideal.ieee]

theorem ofBits_sixteenth : Ideal.ofBits .bf16 0x3D80#16 = Ideal.ofBits .f32 0x3D800000#32 := by
  simp [Ideal.ofBits, Ideal.ieee]
  rw [← EReal.coe_mul, ← EReal.coe_mul]
  refine congrArg Real.toEReal ?_
  norm_num

theorem select_le (t s : Fin 16) (a b : EReal) :
    Scalar.select (IntOp.cmpi .sle (BitVec.ofNat 32 s.val) (BitVec.ofNat 32 t.val)) a b = if s ≤ t then a else b := by
  have h : IntOp.cmpi .sle (BitVec.ofNat 32 s.val) (BitVec.ofNat 32 t.val) = if s ≤ t then 1#1 else 0#1 := by
    revert t s; decide
  rw [h]; split_ifs <;> rfl

end Mlstm

namespace Cert.MlstmIdeal.Head

open Cert.MlstmIdeal Cert.MlstmIdeal.Gen Idealize.ShloMosaic

section Text

variable {F : FTy → Type} [FloatOps F] [Named F]

/-- The running sum along the rows of a masked matrix of a row of gates, and the masked matrix of a column of gates. -/
def bcol (lr : FVec F S1x16 .f32) : FVec F S16x1 .f32 :=
  shapeCast S16x1 (multiReduction .add [1] S16 (select k0_pay10
    (broadcastTo S16x16 (shapeCast S1x16 lr shapeCasts_S1x16_S1x16) broadcasts_S1x16_S16x16)
    (broadcast S16x16 (Scalar.ofBits .f32 0x00000000#32))) 0x00000000#32 reduces_S16x16_S16 (.inl rfl) rfl) shapeCasts_S16_S16x1

def wide (lc : FVec F S16x1 .f32) : FVec F S16x16 .f32 :=
  select (cmpi .sle (iota .tc S16x16 32 [0] iota_S16x16_d0_w32) (iota .tc S16x16 32 [1] iota_S16x16_d1_w32))
    (broadcastTo S16x16 (shapeCast S16x1 lc shapeCasts_S16x1_S16x1) broadcasts_S16x1_S16x16)
    (broadcast S16x16 (Scalar.ofBits .f32 0x00000000#32))

variable (q k v o g : Vec F S1x16x256 .bf16) (ic lc : FVec F S16x1 .f32) (ir lr : FVec F S1x16 .f32)
  (c : Vec F S1x256x256 .f32) (n : Vec F S1x1x256 .f32) (m : Vec F S1x1x128 .f32)

/-- The last position's carried and own maxima. -/
def mcl : FVec F S1x1 .f32 := k0_pay33 (k0_pay20 lr) (k0_pay21 m)

def mdl : FVec F S1 .f32 := k0_pay34 ir (k0_pay19 (wide lc)) (k0_pay20 lr)

/-- What a head stores: its gated output, and its state. -/
def hOut : FVec F S1x16x256 .bf16 :=
  k0_pay32 (k0_pay26 k0_pay10 ir (bcol lr) (wide lc) m) (k0_pay27 k0_pay10 ir (bcol lr) (wide lc) m)
    (k0_pay29 k0_pay10 (k0_pay11 q) (k0_pay12 k) (k0_pay13 v) ir (bcol lr) (wide lc) m c)
    (k0_pay30 k0_pay10 (k0_pay11 q) (k0_pay12 k) ir (bcol lr) (wide lc) m) (k0_pay31 (k0_pay11 q) n) o g

def cOut : FVec F S1x256x256 .f32 :=
  k0_pay38 (k0_pay12 k) (k0_pay13 v) ic (bcol lr) (k0_pay20 lr) (k0_pay23 c) (mcl lr m) (mdl lc ir lr)

def nOut : FVec F S1x1x256 .f32 :=
  k0_pay39 (k0_pay12 k) ic (bcol lr) (k0_pay20 lr) (k0_pay22 n) (mcl lr m) (mdl lc ir lr)

def mOut : FVec F S1x1x128 .f32 := k0_pay40 (mcl lr m) (mdl lc ir lr)

end Text

section Value

variable (q k v o g : Vec Ideal S1x16x256 .bf16) (ic lc : FVec Ideal S16x1 .f32) (ir lr : FVec Ideal S1x16 .f32)
  (c : Vec Ideal S1x256x256 .f32) (n : Vec Ideal S1x1x256 .f32) (m : Vec Ideal S1x1x128 .f32)

/-- The head as those blocks hold it. -/
def chunk : Mlstm.Chunk where
  q t e := q (ix3 (0 : Fin 1) t e)
  k t e := k (ix3 (0 : Fin 1) t e) * Ideal.ofBits .f32 0x3D800000#32
  v t e := v (ix3 (0 : Fin 1) t e)
  ig s := ir (ix2 (0 : Fin 1) s)
  lf s := lr (ix2 (0 : Fin 1) s)
  c x e := c (ix3 (0 : Fin 1) x e)
  n e := n (ix3 (0 : Fin 1) (0 : Fin 1) e)
  m := m (ix3 (0 : Fin 1) (0 : Fin 1) (0 : Fin 128))

theorem mask : (Named.named κ "mask" (φ := .f32) 0xF149F2CA#32 : Ideal .f32) = (⊥ : EReal) :=
  IdealRules.named_const.ideal_named_scalar κ "mask" (φ := .f32) 0xF149F2CA#32 ⊥ rfl

theorem bcol_apply (t : Fin 16) : bcol lr (ix2 t (0 : Fin 1)) = (chunk q k v ir lr c n m).cum t := by
  pointwise [bcol, k0_pay10]
  exact Finset.sum_congr rfl fun s _ => Mlstm.select_le t s _ _

variable (hi : ∀ s : Fin 16, ic (ix2 s (0 : Fin 1)) = ir (ix2 (0 : Fin 1) s)) (hl : ∀ s : Fin 16, lc (ix2 s (0 : Fin 1)) = lr (ix2 (0 : Fin 1) s))

include hl

theorem brow_apply (s : Fin 16) : k0_pay19 (wide lc) (ix2 (0 : Fin 1) s) = (chunk q k v ir lr c n m).cum s := by
  pointwise [k0_pay19, wide]
  exact Finset.sum_congr rfl fun t _ => (Mlstm.select_le s t _ _).trans (by rw [hl]; rfl)

omit hl in
theorem blast_apply : k0_pay20 lr (ix2 (0 : Fin 1) (0 : Fin 1)) = (chunk q k v ir lr c n m).cum 15 := by
  pointwise [k0_pay20]
  exact (Mlstm.Chunk.cum_last (chunk q k v ir lr c n m)).symm

theorem logit_apply (t s : Fin 16) :
    k0_pay24 k0_pay10 ir (bcol lr) (wide lc) (ix2 t s) = (chunk q k v ir lr c n m).logit t s := by
  have e1 := bcol_apply q k v ir lr c n m t
  have e2 := brow_apply q k v lc ir lr c n m hl s
  pointwise [k0_pay24, k0_pay10]
  rw [Mlstm.select_le, mask, e1, e2]
  rfl

theorem peak_apply (t : Fin 16) :
    k0_pay26 k0_pay10 ir (bcol lr) (wide lc) m (ix2 t (0 : Fin 1)) = (chunk q k v ir lr c n m).peak t := by
  have e1 := bcol_apply q k v ir lr c n m t
  have e2 := logit_apply q k v lc ir lr c n m hl t
  pointwise [k0_pay26, k0_pay25, k0_pay21]
  rw [Mlstm.ofBits_ninf, e1]
  simp only [e2]
  rfl

theorem carry_apply (t : Fin 16) :
    k0_pay27 k0_pay10 ir (bcol lr) (wide lc) m (ix2 t (0 : Fin 1)) = (chunk q k v ir lr c n m).carry t := by
  have e1 := bcol_apply q k v ir lr c n m t
  have e2 := peak_apply q k v lc ir lr c n m hl t
  pointwise [k0_pay27, k0_pay25, k0_pay21]
  rw [e1, e2]
  rfl

theorem score_apply (t s : Fin 16) :
    k0_pay28 k0_pay10 (k0_pay11 q) (k0_pay12 k) ir (bcol lr) (wide lc) m (ix2 t s) = (chunk q k v ir lr c n m).score t s := by
  have e1 := logit_apply q k v lc ir lr c n m hl t s
  have e2 := peak_apply q k v lc ir lr c n m hl t
  pointwise [k0_pay28, k0_pay11, k0_pay12]
  rw [e1, e2, Mlstm.ofBits_sixteenth]
  rfl

theorem num_apply (t : Fin 16) (x : Fin 256) :
    k0_pay29 k0_pay10 (k0_pay11 q) (k0_pay12 k) (k0_pay13 v) ir (bcol lr) (wide lc) m c (ix2 t x) = (chunk q k v ir lr c n m).num t x := by
  have e1 := carry_apply q k v lc ir lr c n m hl t
  have e2 := score_apply q k v lc ir lr c n m hl t
  pointwise [k0_pay29, k0_pay23, k0_pay13]
  rw [e1]
  simp only [e2]
  pointwise [k0_pay11]
  rfl

theorem hOut_apply (t : Fin 16) (x : Fin 256) :
    hOut q k v o g lc ir lr c n m (ix3 (0 : Fin 1) t x)
      = Mlstm.gated ((chunk q k v ir lr c n m).out t x) (o (ix3 (0 : Fin 1) t x)) (g (ix3 (0 : Fin 1) t x)) := by
  have e1 := carry_apply q k v lc ir lr c n m hl t
  have e2 := score_apply q k v lc ir lr c n m hl t
  have e3 := num_apply q k v lc ir lr c n m hl t x
  have e4 := peak_apply q k v lc ir lr c n m hl t
  pointwise [hOut, k0_pay32, k0_pay30, k0_pay31, k0_pay22]
  simp only [e1, e2, e3, e4, zero_sub]
  pointwise [k0_pay11]
  rfl

theorem mdl_apply : mdl lc ir lr (ix1 (0 : Fin 1))
    = (Finset.univ : Finset (Fin 16)).fold max ⊥ fun s => (chunk q k v ir lr c n m).logit 15 s := by
  have e1 := blast_apply q k v ir lr c n m
  have e2 := brow_apply q k v lc ir lr c n m hl
  pointwise [mdl, k0_pay34]
  rw [Mlstm.ofBits_ninf, e1]
  simp only [e2, Mlstm.Chunk.logit_last]
  rfl

omit hl in
theorem mcl_apply : mcl lr m (ix2 (0 : Fin 1) (0 : Fin 1)) = (chunk q k v ir lr c n m).cum 15 + (chunk q k v ir lr c n m).m := by
  have e1 := blast_apply q k v ir lr c n m
  pointwise [mcl, k0_pay33, k0_pay21]
  rw [e1]
  rfl

theorem mnew_apply : k0_pay35 (mcl lr m) (mdl lc ir lr) (ix2 (0 : Fin 1) (0 : Fin 1)) = (chunk q k v ir lr c n m).peak 15 := by
  have e1 := mcl_apply q k v ir lr c n m
  have e2 := mdl_apply q k v lc ir lr c n m hl
  pointwise [k0_pay35]
  rw [e1, e2]
  rfl

theorem mOut_apply (x : Fin 128) : mOut lc ir lr m (ix3 (0 : Fin 1) (0 : Fin 1) x) = (chunk q k v ir lr c n m).peak 15 := by
  have e1 := mnew_apply q k v lc ir lr c n m hl
  pointwise [mOut, k0_pay40]
  exact e1

theorem wcl_apply : k0_pay36 (mcl lr m) (mdl lc ir lr) (ix2 (0 : Fin 1) (0 : Fin 1)) = (chunk q k v ir lr c n m).carry 15 := by
  have e1 := mnew_apply q k v lc ir lr c n m hl
  have e2 := mcl_apply q k v ir lr c n m
  pointwise [k0_pay36]
  rw [e1, e2]
  rfl

include hi

theorem wlast_apply (s : Fin 16) : k0_pay37 ic (bcol lr) (k0_pay20 lr) (mcl lr m) (mdl lc ir lr) (ix2 s (0 : Fin 1))
    = (chunk q k v ir lr c n m).weight 15 s := by
  have e1 := mnew_apply q k v lc ir lr c n m hl
  have e2 := blast_apply q k v ir lr c n m
  have e3 := bcol_apply q k v ir lr c n m s
  pointwise [k0_pay37]
  rw [e1, e2, e3, hi, Mlstm.Chunk.weight, Mlstm.Chunk.logit_last]
  rfl

theorem cOut_apply (x e : Fin 256) : cOut k v ic lc ir lr c m (ix3 (0 : Fin 1) x e) = (chunk q k v ir lr c n m).cell x e := by
  have e1 := wcl_apply q k v lc ir lr c n m hl
  have e2 := wlast_apply q k v ic lc ir lr c n m hi hl
  pointwise [cOut, k0_pay38, k0_pay23, k0_pay13]
  rw [e1]
  simp only [e2]
  pointwise [k0_pay12]
  refine congrArg (_ + ·) (Finset.sum_congr rfl fun s _ => ?_)
  rw [Mlstm.ofBits_sixteenth, mul_comm (v _)]
  rfl

theorem nOut_apply (e : Fin 256) : nOut k ic lc ir lr n m (ix3 (0 : Fin 1) (0 : Fin 1) e) = (chunk q k v ir lr c n m).norm e := by
  have e1 := wcl_apply q k v lc ir lr c n m hl
  have e2 := wlast_apply q k v ic lc ir lr c n m hi hl
  pointwise [nOut, k0_pay39, k0_pay22]
  rw [e1]
  simp only [e2]
  pointwise [k0_pay12]
  refine congrArg (_ + ·) (Finset.sum_congr rfl fun s _ => ?_)
  rw [Mlstm.ofBits_sixteenth, mul_comm]
  rfl

end Value

end Cert.MlstmIdeal.Head
end
-- ==== Proof.MlstmStack.lean ====
/- A buffer of four slabs, filled whole and then rewritten one slab after another, each from what it held. -/
module

public import Idealize.ShloMosaic.Lib.Pipeline.FrameBody
public import Idealize.ShloMosaic.Lib.Pipeline.Value
public import Idealize.ShloMosaic.Lib.Pointwise

@[expose] public section

set_option maxRecDepth 16384

noncomputable section

namespace Slabs

open Idealize.ShloMosaic

variable {sig : RefSig} {κ : Kind} {sp : Space} {e : EltTy} {Val : EltTy → Type} {a b : ℕ}

theorem inb (a b : ℕ) (j : Fin 4) : ∀ d, (![j.val, 0, 0] : Fin 3 → ℕ) d + (⟨3, ![1, a, b]⟩ : Shape).size d ≤ (⟨3, ![4, a, b]⟩ : Shape).size d := fun d => match d with
  | ⟨0, _⟩ => j.isLt
  | ⟨1, _⟩ => (Nat.zero_add a).le
  | ⟨2, _⟩ => (Nat.zero_add b).le

theorem inb0 (a b : ℕ) : ∀ d, (![0, 0, 0] : Fin 3 → ℕ) d + (⟨3, ![4, a, b]⟩ : Shape).size d ≤ (⟨3, ![4, a, b]⟩ : Shape).size d := fun d => match d with
  | ⟨0, _⟩ => (Nat.zero_add 4).le
  | ⟨1, _⟩ => (Nat.zero_add a).le
  | ⟨2, _⟩ => (Nat.zero_add b).le

theorem off0 : (![0, 0, 0] : Fin 3 → ℕ) = fun _ => 0 := by funext d; fin_cases d <;> rfl

/-- Slab `j`, and the buffer whole. -/
abbrev slab (a b : ℕ) (j : Fin 4) : Rect ⟨3, ![4, a, b]⟩ := Rect.unit ![j.val, 0, 0] (⟨3, ![1, a, b]⟩ : Shape).size (inb a b j)

abbrev all (a b : ℕ) : Rect ⟨3, ![4, a, b]⟩ := Rect.unit ![0, 0, 0] (⟨3, ![4, a, b]⟩ : Shape).size (inb0 a b)

theorem emb_slab (j : Fin 4) (x : Fin a) (y : Fin b) : (slab a b j).emb (ix3 (0 : Fin 1) x y) = ix3 j x y :=
  funext fun d => Fin.ext (by
    match d with
    | ⟨0, _⟩ => show j.val + 1 * 0 = j.val; omega
    | ⟨1, _⟩ => show 0 + 1 * x.val = x.val; omega
    | ⟨2, _⟩ => show 0 + 1 * y.val = y.val; omega)

theorem not_mem_slab {i j : Fin 4} (h : i ≠ j) (x : Fin a) (y : Fin b) : ix3 i x y ∉ (slab a b j).set := fun hm => by
  have h0 := (Rect.mem_set_unit.mp hm) 0
  have h1 : j.val ≤ i.val ∧ i.val < j.val + 1 := h0
  exact h (Fin.ext (by omega))

variable [∀ e, Nonempty (Val e)] (v : View sig κ sp ⟨3, ![4, a, b]⟩ e)

/-- The buffer after a store of slab `j`: at that slab the payload, at another as before. -/
theorem canon_hit (j : Fin 4) (w : (⟨3, ![1, a, b]⟩ : Shape).Idx → Val e) (L : List (View.Piece Val ⟨3, ![4, a, b]⟩ e)) (x : Fin a) (y : Fin b) :
    View.canon (⟨slab a b j, w⟩ :: L) (ix3 j x y) = w (ix3 (0 : Fin 1) x y) :=
  (congrArg _ (emb_slab j x y).symm).trans (View.canon_cons_emb (slab a b j) w L (ix3 (0 : Fin 1) x y))

theorem canon_miss {i j : Fin 4} (h : i ≠ j) (w : (⟨3, ![1, a, b]⟩ : Shape).Idx → Val e) (L : List (View.Piece Val ⟨3, ![4, a, b]⟩ e)) (x : Fin a) (y : Fin b) :
    View.canon (⟨slab a b j, w⟩ :: L) (ix3 i x y) = View.canon L (ix3 i x y) :=
  View.canon_cons_of_not_mem ⟨slab a b j, w⟩ L (not_mem_slab h x y)

/-- The stores made when the buffer holds `X`, and then `j` slabs have been rewritten in turn. -/
def stores (f : Fin 4 → ((⟨3, ![1, a, b]⟩ : Shape).Idx → Val e) → (⟨3, ![1, a, b]⟩ : Shape).Idx → Val e) (X : (⟨3, ![4, a, b]⟩ : Shape).Idx → Val e) :
    ℕ → List (View.Piece Val ⟨3, ![4, a, b]⟩ e)
  | 0 => [⟨all a b, X⟩]
  | n + 1 => ⟨slab a b (Fin.ofNat 4 n), f (Fin.ofNat 4 n) (v.readCov (stores f X n) (slab a b (Fin.ofNat 4 n)).toLoadRect)⟩ :: stores f X n

variable (f : Fin 4 → ((⟨3, ![1, a, b]⟩ : Shape).Idx → Val e) → (⟨3, ![1, a, b]⟩ : Shape).Idx → Val e) (X : (⟨3, ![4, a, b]⟩ : Shape).Idx → Val e)

/-- A slab not yet rewritten is as it was, -/
theorem canon_above (n : ℕ) (j : Fin 4) (h : n ≤ j.val) (x : Fin a) (y : Fin b) : View.canon (stores v f X n) (ix3 j x y) = X (ix3 j x y) := by
  induction n with
  | zero => exact congrFun (View.canon_unit_zero off0 (inb0 a b) X) _
  | succ n ih =>
    have h4 : (Fin.ofNat 4 n).val = n := Nat.mod_eq_of_lt (by omega)
    have hj : j ≠ Fin.ofNat 4 n := fun e => by have := congrArg Fin.val e; omega
    rw [stores, canon_miss hj, ih (by omega)]

/-- so what a rewriting reads is what was there, -/
theorem read_slab (j : Fin 4) (n : ℕ) (h : n ≤ j.val) :
    v.readCov (stores v f X n) (slab a b j).toLoadRect = fun i => X (ix3 j (i 1) (i 2)) := by
  rw [View.readCov_eq_canon']
  funext i
  obtain ⟨p, q, r, rfl⟩ : ∃ (p : Fin 1) (q : Fin a) (r : Fin b), i = ix3 p q r := ⟨i 0, i 1, i 2, by funext d; fin_cases d <;> rfl⟩
  obtain rfl : p = 0 := Subsingleton.elim _ _
  exact (congrArg _ (emb_slab j q r)).trans (canon_above v f X n j h q r)

/-- and what it writes stays. -/
theorem canon_below (n : ℕ) (j : Fin 4) (h : j.val < n) (hn : n ≤ 4) (x : Fin a) (y : Fin b) :
    View.canon (stores v f X n) (ix3 j x y) = f j (fun i => X (ix3 j (i 1) (i 2))) (ix3 (0 : Fin 1) x y) := by
  induction n with
  | zero => exact absurd h (Nat.not_lt_zero _)
  | succ n ih =>
    have h4 : (Fin.ofNat 4 n).val = n := Nat.mod_eq_of_lt (by omega)
    by_cases hj : j = Fin.ofNat 4 n
    · subst hj
      rw [stores, canon_hit, read_slab v f X _ n h4.ge]
      rfl
    · have : j.val ≠ n := fun e => hj (Fin.ext (e.trans h4.symm))
      rw [stores, canon_miss hj, ih (by omega) (by omega)]

/-- The whole buffer, after all four. -/
theorem read_all (j : Fin 4) (x : Fin a) (y : Fin b) :
    v.readCov (stores v f X 4) (all a b).toLoadRect (ix3 j x y) = f j (fun i => X (ix3 j (i 1) (i 2))) (ix3 (0 : Fin 1) x y) := by
  rw [View.readCov_eq_canon']
  refine (congrArg _ ?_).trans (canon_below v f X 4 j j.isLt le_rfl x y)
  exact funext fun d => Fin.ext (by
    match d with
    | ⟨0, _⟩ => show 0 + 1 * j.val = j.val; omega
    | ⟨1, _⟩ => show 0 + 1 * x.val = x.val; omega
    | ⟨2, _⟩ => show 0 + 1 * y.val = y.val; omega)

end Slabs

end
-- ==== Proof.MlstmRun.lean ====
/- What the mLSTM chunk's kernel leaves in its result blocks: its four heads' outputs and states, each of that head's columns and slabs. -/
module

public import proofs.«01_k».proof.Proof.Gen.MlstmIdeal.Value
public import proofs.«01_k».proof.Proof.MlstmHead
public import proofs.«01_k».proof.Proof.MlstmStack
public import proofs.«01_k».proof.Proof.Common

@[expose] public section

set_option maxRecDepth 16384

noncomputable section

namespace Cert.MlstmIdeal.Head

open Cert.MlstmIdeal Cert.MlstmIdeal.Gen Idealize.ShloMosaic Idealize.ShloMosaic.TcCoe

theorem slices_col : ∀ k : Fin 8, S16x128.Slices ![0, k.val] S16x1 := by decide
theorem slices_row : ∀ k : Fin 8, S8x16.Slices ![k.val, 0] S1x16 := by decide

section Run

variable {F : FTy → Type} [FloatOps F] [Named F]

/-- Column `k` of the gates by position, and row `k` of the gates by gate. -/
def gcol (G : Vec F S1x16x128 .f32) (k : Fin 8) : FVec F S16x1 .f32 := extractStridedSlice S16x1 ![0, k.val] (k0_pay8 G) (slices_col k)

def grow (R : Vec F S1x8x16 .f32) (k : Fin 8) : FVec F S1x16 .f32 := extractStridedSlice S1x16 ![k.val, 0] (k0_pay9 R) (slices_row k)

/-- A head's input and its forget gate's places among the gates. -/
def inp (j : Fin 4) : Fin 8 := ⟨j.val, by omega⟩
def fgt (j : Fin 4) : Fin 8 := ⟨4 + j.val, by omega⟩

theorem inb_col (j : Fin 4) : ∀ a, (![0, 0, 256 * j.val] : Fin 3 → ℕ) a + S1x16x256.size a ≤ S1x16x1024.size a := fun a => match a with
  | ⟨0, _⟩ => le_rfl
  | ⟨1, _⟩ => le_rfl
  | ⟨2, _⟩ => by show 256 * j.val + 256 ≤ 1024; omega

/-- A head's columns of a block. -/
abbrev cols (j : Fin 4) : Rect S1x16x1024 := Rect.unit ![0, 0, 256 * j.val] S1x16x256.size (inb_col j)

variable (c : Dev nD) (i : grid0.Coords) (arg2 : Memref sig .tc .vmem S1x16x1024 .bf16) (harg2 : arg2.IsWhole) (arg3 : Memref sig .tc .vmem S1x16x1024 .bf16) (harg3 : arg3.IsWhole)
  (arg4 : Memref sig .tc .vmem S1x16x1024 .bf16) (harg4 : arg4.IsWhole) (arg5 : Memref sig .tc .vmem S1x16x1024 .bf16) (harg5 : arg5.IsWhole)
  (arg6 : Memref sig .tc .vmem S1x16x1024 .bf16) (harg6 : arg6.IsWhole) (arg7 : Memref sig .tc .vmem S1x16x128 .f32) (harg7 : arg7.IsWhole)
  (arg8 : Memref sig .tc .vmem S1x8x16 .f32) (harg8 : arg8.IsWhole) (arg9 : Memref sig .tc .vmem S1x4x256x256 .f32) (harg9 : arg9.IsWhole)
  (arg10 : Memref sig .tc .vmem S1x4x1x256 .f32) (harg10 : arg10.IsWhole) (arg11 : Memref sig .tc .vmem S1x4x1x128 .f32) (harg11 : arg11.IsWhole)
  (arg12 : Memref sig .tc .vmem S1x16x1024 .bf16) (harg12 : arg12.IsWhole) (arg13 : Memref sig .tc .vmem S1x4x256x256 .f32) (harg13 : arg13.IsWhole)
  (arg14 : Memref sig .tc .vmem S1x4x1x256 .f32) (harg14 : arg14.IsWhole) (arg15 : Memref sig .tc .vmem S1x4x1x128 .f32) (harg15 : arg15.IsWhole)
  (arg16 : Memref sig .tc .vmem S4x256x256 .f32) (harg16 : arg16.IsWhole) (arg17 : Memref sig .tc .vmem S4x1x256 .f32) (harg17 : arg17.IsWhole)
  (arg18 : Memref sig .tc .vmem S4x1x128 .f32) (harg18 : arg18.IsWhole) (hc0 : cond0_0 i) (hc1 : cond0_1 i)
  (x0 x1 x2 x3 x4 : Vec F S1x16x1024 .bf16) (x5 : Vec F S1x16x128 .f32) (x6 : Vec F S1x8x16 .f32) (x7 : Vec F S1x4x256x256 .f32)
  (x8 : Vec F S1x4x1x256 .f32) (x9 : Vec F S1x4x1x128 .f32)

/-- The loads: a head's columns of a block, the gates both ways, and the state. -/
def ldCol (m : Memref sig .tc .vmem S1x16x1024 .bf16) (hm : m.IsWhole) (x : Vec F S1x16x1024 .bf16) (j : Fin 4) : Vec F S1x16x256 .bf16 :=
  View.readAt (Elt F) m.view (cols j).toLoadRect (hm.unread x)

def ldG : Vec F S1x16x128 .f32 := View.readAt (Elt F) arg7.view (Rect.unit ![0, 0, 0] S1x16x128.size inb_S1x16x128_S1x16x128_0_0_0).toLoadRect (harg7.unread x5)

def ldR : Vec F S1x8x16 .f32 := View.readAt (Elt F) arg8.view (Rect.unit ![0, 0, 0] S1x8x16.size inb_S1x8x16_S1x8x16_0_0_0).toLoadRect (harg8.unread x6)

def ldC : FVec F S4x256x256 .f32 :=
  k0_pay5 (View.readAt (Elt F) arg9.view (Rect.unit ![0, 0, 0, 0] S1x4x256x256.size inb_S1x4x256x256_S1x4x256x256_0_0_0_0).toLoadRect (harg9.unread x7))

def ldN : FVec F S4x1x256 .f32 :=
  k0_pay6 (View.readAt (Elt F) arg10.view (Rect.unit ![0, 0, 0, 0] S1x4x1x256.size inb_S1x4x1x256_S1x4x1x256_0_0_0_0).toLoadRect (harg10.unread x8))

def ldM : FVec F S4x1x128 .f32 :=
  k0_pay7 (View.readAt (Elt F) arg11.view (Rect.unit ![0, 0, 0, 0] S1x4x1x128.size inb_S1x4x1x128_S1x4x1x128_0_0_0_0).toLoadRect (harg11.unread x9))

/-- How each head rewrites its slab of the state. -/
def fM (G : Vec F S1x16x128 .f32) (R : Vec F S1x8x16 .f32) (j : Fin 4) (m : Vec F S1x1x128 .f32) : Vec F S1x1x128 .f32 :=
  mOut (gcol G (fgt j)) (grow R (inp j)) (grow R (fgt j)) m

def fN (k : Fin 4 → Vec F S1x16x256 .bf16) (G : Vec F S1x16x128 .f32) (R : Vec F S1x8x16 .f32) (m : Fin 4 → Vec F S1x1x128 .f32)
    (j : Fin 4) (n : Vec F S1x1x256 .f32) : Vec F S1x1x256 .f32 :=
  nOut (k j) (gcol G (inp j)) (gcol G (fgt j)) (grow R (inp j)) (grow R (fgt j)) n (m j)

def fC (k v : Fin 4 → Vec F S1x16x256 .bf16) (G : Vec F S1x16x128 .f32) (R : Vec F S1x8x16 .f32) (m : Fin 4 → Vec F S1x1x128 .f32)
    (j : Fin 4) (s : Vec F S1x256x256 .f32) : Vec F S1x256x256 .f32 :=
  cOut (k j) (v j) (gcol G (inp j)) (gcol G (fgt j)) (grow R (inp j)) (grow R (fgt j)) s (m j)

/-- What the three buffers of the state have been stored, `n` heads on, and what each head reads of them. -/
abbrev sM (n : ℕ) := Slabs.stores arg18.view (fM (ldG arg7 harg7 x5) (ldR arg8 harg8 x6)) (ldM arg11 harg11 x9) n

def rM (j : Fin 4) : Vec F S1x1x128 .f32 :=
  arg18.view.readCov (sM arg7 harg7 arg8 harg8 arg11 harg11 arg18 x5 x6 x9 j.val) (Slabs.slab 1 128 j).toLoadRect

abbrev sN (n : ℕ) := Slabs.stores arg17.view (fN (ldCol arg3 harg3 x1) (ldG arg7 harg7 x5) (ldR arg8 harg8 x6)
  (rM arg7 harg7 arg8 harg8 arg11 harg11 arg18 x5 x6 x9)) (ldN arg10 harg10 x8) n

def rN (j : Fin 4) : Vec F S1x1x256 .f32 :=
  arg17.view.readCov (sN arg3 harg3 arg7 harg7 arg8 harg8 arg10 harg10 arg11 harg11 arg17 arg18 x1 x5 x6 x8 x9 j.val) (Slabs.slab 1 256 j).toLoadRect

abbrev sC (n : ℕ) := Slabs.stores arg16.view (fC (ldCol arg3 harg3 x1) (ldCol arg4 harg4 x2) (ldG arg7 harg7 x5) (ldR arg8 harg8 x6)
  (rM arg7 harg7 arg8 harg8 arg11 harg11 arg18 x5 x6 x9)) (ldC arg9 harg9 x7) n

def rC (j : Fin 4) : Vec F S1x256x256 .f32 :=
  arg16.view.readCov (sC arg3 harg3 arg4 harg4 arg7 harg7 arg8 harg8 arg9 harg9 arg11 harg11 arg16 arg18 x1 x2 x5 x6 x7 x9 j.val) (Slabs.slab 256 256 j).toLoadRect

def rH (j : Fin 4) : Vec F S1x16x256 .bf16 :=
  hOut (ldCol arg2 harg2 x0 j) (ldCol arg3 harg3 x1 j) (ldCol arg4 harg4 x2 j) (ldCol arg5 harg5 x3 j) (ldCol arg6 harg6 x4 j)
    (gcol (ldG arg7 harg7 x5) (fgt j)) (grow (ldR arg8 harg8 x6) (inp j)) (grow (ldR arg8 harg8 x6) (fgt j))
    (rC arg3 harg3 arg4 harg4 arg7 harg7 arg8 harg8 arg9 harg9 arg11 harg11 arg16 arg18 x1 x2 x5 x6 x7 x9 j)
    (rN arg3 harg3 arg7 harg7 arg8 harg8 arg10 harg10 arg11 harg11 arg17 arg18 x1 x5 x6 x8 x9 j)
    (rM arg7 harg7 arg8 harg8 arg11 harg11 arg18 x5 x6 x9 j)

theorem stores_m : kernelRun0_A.sl.HS2_5 c arg7 harg7 arg8 harg8 arg11 harg11 arg18 x5 x6 x9
    = sM arg7 harg7 arg8 harg8 arg11 harg11 arg18 x5 x6 x9 4 := rfl

theorem stores_n : kernelRun0_A.sl.HS1_5 c arg3 harg3 arg7 harg7 arg8 harg8 arg10 harg10 arg11 harg11 arg17 arg18 x1 x5 x6 x8 x9
    = sN arg3 harg3 arg7 harg7 arg8 harg8 arg10 harg10 arg11 harg11 arg17 arg18 x1 x5 x6 x8 x9 4 := rfl

theorem stores_c : kernelRun0_A.sl.HS0_5 c arg3 harg3 arg4 harg4 arg7 harg7 arg8 harg8 arg9 harg9 arg11 harg11 arg16 arg18 x1 x2 x5 x6 x7 x9
    = sC arg3 harg3 arg4 harg4 arg7 harg7 arg8 harg8 arg9 harg9 arg11 harg11 arg16 arg18 x1 x2 x5 x6 x7 x9 4 := rfl

theorem run_h : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15
    arg16 harg16 arg17 harg17 arg18 harg18 hc0 hc1 x0 x1 x2 x3 x4 x5 x6 x7 x8 x9).1
    = [3, 2, 1, 0].map fun j : Fin 4 => (⟨cols j, rH arg2 harg2 arg3 harg3 arg4 harg4 arg5 harg5 arg6 harg6 arg7 harg7 arg8 harg8 arg9 harg9 arg10 harg10 arg11 harg11 arg16 arg17 arg18
    x0 x1 x2 x3 x4 x5 x6 x7 x8 x9 j⟩ : View.Piece (Elt F) S1x16x1024 .bf16) := rfl

theorem run_c : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15
    arg16 harg16 arg17 harg17 arg18 harg18 hc0 hc1 x0 x1 x2 x3 x4 x5 x6 x7 x8 x9).2.1
    = [⟨Rect.unit ![0, 0, 0, 0] S1x4x256x256.size inb_S1x4x256x256_S1x4x256x256_0_0_0_0, k0_pay2 (arg16.view.readCov
      (sC arg3 harg3 arg4 harg4 arg7 harg7 arg8 harg8 arg9 harg9 arg11 harg11 arg16 arg18 x1 x2 x5 x6 x7 x9 4) (Slabs.all 256 256).toLoadRect)⟩] := rfl

theorem run_n : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15
    arg16 harg16 arg17 harg17 arg18 harg18 hc0 hc1 x0 x1 x2 x3 x4 x5 x6 x7 x8 x9).2.2.1
    = [⟨Rect.unit ![0, 0, 0, 0] S1x4x1x256.size inb_S1x4x1x256_S1x4x1x256_0_0_0_0, k0_pay3 (arg17.view.readCov
      (sN arg3 harg3 arg7 harg7 arg8 harg8 arg10 harg10 arg11 harg11 arg17 arg18 x1 x5 x6 x8 x9 4) (Slabs.all 1 256).toLoadRect)⟩] := rfl

theorem run_m : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15
    arg16 harg16 arg17 harg17 arg18 harg18 hc0 hc1 x0 x1 x2 x3 x4 x5 x6 x7 x8 x9).2.2.2.1
    = [⟨Rect.unit ![0, 0, 0, 0] S1x4x1x128.size inb_S1x4x1x128_S1x4x1x128_0_0_0_0, k0_pay4 (arg18.view.readCov
      (sM arg7 harg7 arg8 harg8 arg11 harg11 arg18 x5 x6 x9 4) (Slabs.all 1 128).toLoadRect)⟩] := rfl

end Run

end Cert.MlstmIdeal.Head

end
-- ==== Proof.MlstmBlock.lean ====
/- The blocks the mLSTM chunk's kernel writes, by index: each head's output and state, of the blocks it reads. -/
module

public import proofs.«01_k».proof.Proof.MlstmRun

@[expose] public section

set_option maxRecDepth 16384

noncomputable section

namespace Cert.MlstmIdeal.Head

open Cert.MlstmIdeal Cert.MlstmIdeal.Gen Idealize.ShloMosaic Idealize.ShloMosaic.TcCoe

/-- A head's lane, among a block's columns. -/
def lane (j : Fin 4) (e : Fin 256) : Fin 1024 := ⟨256 * j.val + e.val, by omega⟩

theorem lane_surj (y : Fin 1024) : ∃ j e, y = lane j e :=
  ⟨⟨y.val / 256, by omega⟩, ⟨y.val % 256, by omega⟩, Fin.ext (by show y.val = 256 * (y.val / 256) + y.val % 256; omega)⟩

theorem emb_cols (j : Fin 4) (t : Fin 16) (e : Fin 256) : (cols j).emb (ix3 (0 : Fin 1) t e) = ix3 (0 : Fin 1) t (lane j e) :=
  funext fun d => Fin.ext (by
    match d with
    | ⟨0, _⟩ => rfl
    | ⟨1, _⟩ => show 0 + 1 * t.val = t.val; omega
    | ⟨2, _⟩ => show 256 * j.val + 1 * e.val = 256 * j.val + e.val; omega)

theorem not_mem_cols {i j : Fin 4} (h : i ≠ j) (t : Fin 16) (e : Fin 256) : ix3 (0 : Fin 1) t (lane i e) ∉ (cols j).set := fun hm => by
  have h1 : 256 * j.val ≤ 256 * i.val + e.val ∧ 256 * i.val + e.val < 256 * j.val + 256 := (Rect.mem_set_unit.mp hm) 2
  exact h (Fin.ext (by omega))

/-- A block stored by heads' columns holds each head's where it belongs. -/
theorem canon_cols (w : Fin 4 → Vec Ideal S1x16x256 .bf16) (j : Fin 4) (t : Fin 16) (e : Fin 256) (L : List (Fin 4)) (hj : j ∈ L) :
    View.canon (L.map fun i => (⟨cols i, w i⟩ : View.Piece (Elt Ideal) S1x16x1024 .bf16)) (ix3 (0 : Fin 1) t (lane j e)) = w j (ix3 (0 : Fin 1) t e) := by
  induction L with
  | nil => exact absurd hj List.not_mem_nil
  | cons i L ih =>
    by_cases h : j = i
    · subst h
      exact (congrArg _ (emb_cols j t e).symm).trans (View.canon_cons_emb (cols j) (w j) _ (ix3 (0 : Fin 1) t e))
    · exact (View.canon_cons_of_not_mem ⟨cols i, w i⟩ _ (not_mem_cols h t e)).trans (ih ((List.mem_cons.mp hj).resolve_left h))

theorem gcol_apply (G : Vec Ideal S1x16x128 .f32) (k : Fin 8) (s : Fin 16) :
    gcol G k (ix2 s (0 : Fin 1)) = G (ix3 (0 : Fin 1) s (⟨k.val, by omega⟩ : Fin 128)) := by
  pointwise [gcol, k0_pay8]

theorem grow_apply (R : Vec Ideal S1x8x16 .f32) (k : Fin 8) (s : Fin 16) : grow R k (ix2 (0 : Fin 1) s) = R (ix3 (0 : Fin 1) k s) := by
  pointwise [grow, k0_pay9]

/-- A head of the blocks read. -/
def ofBlocks (x0 x1 x2 : Vec Ideal S1x16x1024 .bf16) (x6 : Vec Ideal S1x8x16 .f32) (x7 : Vec Ideal S1x4x256x256 .f32)
    (x8 : Vec Ideal S1x4x1x256 .f32) (x9 : Vec Ideal S1x4x1x128 .f32) (j : Fin 4) : Mlstm.Chunk where
  q t e := x0 (ix3 (0 : Fin 1) t (lane j e))
  k t e := x1 (ix3 (0 : Fin 1) t (lane j e)) * Ideal.ofBits .f32 0x3D800000#32
  v t e := x2 (ix3 (0 : Fin 1) t (lane j e))
  ig s := x6 (ix3 (0 : Fin 1) (inp j) s)
  lf s := x6 (ix3 (0 : Fin 1) (fgt j) s)
  c x e := x7 (ix4 (0 : Fin 1) j x e)
  n e := x8 (ix4 (0 : Fin 1) j (0 : Fin 1) e)
  m := x9 (ix4 (0 : Fin 1) j (0 : Fin 1) (0 : Fin 128))

section Block

variable (c : Dev nD) (i : grid0.Coords) (arg2 : Memref sig .tc .vmem S1x16x1024 .bf16) (harg2 : arg2.IsWhole) (arg3 : Memref sig .tc .vmem S1x16x1024 .bf16) (harg3 : arg3.IsWhole)
  (arg4 : Memref sig .tc .vmem S1x16x1024 .bf16) (harg4 : arg4.IsWhole) (arg5 : Memref sig .tc .vmem S1x16x1024 .bf16) (harg5 : arg5.IsWhole)
  (arg6 : Memref sig .tc .vmem S1x16x1024 .bf16) (harg6 : arg6.IsWhole) (arg7 : Memref sig .tc .vmem S1x16x128 .f32) (harg7 : arg7.IsWhole)
  (arg8 : Memref sig .tc .vmem S1x8x16 .f32) (harg8 : arg8.IsWhole) (arg9 : Memref sig .tc .vmem S1x4x256x256 .f32) (harg9 : arg9.IsWhole)
  (arg10 : Memref sig .tc .vmem S1x4x1x256 .f32) (harg10 : arg10.IsWhole) (arg11 : Memref sig .tc .vmem S1x4x1x128 .f32) (harg11 : arg11.IsWhole)
  (arg12 : Memref sig .tc .vmem S1x16x1024 .bf16) (harg12 : arg12.IsWhole) (arg13 : Memref sig .tc .vmem S1x4x256x256 .f32) (harg13 : arg13.IsWhole)
  (arg14 : Memref sig .tc .vmem S1x4x1x256 .f32) (harg14 : arg14.IsWhole) (arg15 : Memref sig .tc .vmem S1x4x1x128 .f32) (harg15 : arg15.IsWhole)
  (arg16 : Memref sig .tc .vmem S4x256x256 .f32) (harg16 : arg16.IsWhole) (arg17 : Memref sig .tc .vmem S4x1x256 .f32) (harg17 : arg17.IsWhole)
  (arg18 : Memref sig .tc .vmem S4x1x128 .f32) (harg18 : arg18.IsWhole) (hc0 : cond0_0 i) (hc1 : cond0_1 i)
  (x0 x1 x2 x3 x4 : Vec Ideal S1x16x1024 .bf16) (x5 : Vec Ideal S1x16x128 .f32) (x6 : Vec Ideal S1x8x16 .f32) (x7 : Vec Ideal S1x4x256x256 .f32)
  (x8 : Vec Ideal S1x4x1x256 .f32) (x9 : Vec Ideal S1x4x1x128 .f32)

theorem ldCol_apply (m : Memref sig .tc .vmem S1x16x1024 .bf16) (hm : m.IsWhole) (x : Vec Ideal S1x16x1024 .bf16) (j : Fin 4) (t : Fin 16) (e : Fin 256) :
    ldCol m hm x j (ix3 (0 : Fin 1) t e) = x (ix3 (0 : Fin 1) t (lane j e)) :=
  (congrFun (hm.read_unread x) _).trans (congrArg x (emb_cols j t e))

theorem ldG_eq : ldG arg7 harg7 x5 = x5 := Proj.load_whole (harg7.read_unread x5) Slabs.off0 _

theorem ldR_eq : ldR arg8 harg8 x6 = x6 := Proj.load_whole (harg8.read_unread x6) Slabs.off0 _

theorem off4 : (![0, 0, 0, 0] : Fin 4 → ℕ) = fun _ => 0 := by funext d; fin_cases d <;> rfl

theorem ldC_apply (j : Fin 4) (x e : Fin 256) : ldC arg9 harg9 x7 (ix3 j x e) = x7 (ix4 (0 : Fin 1) j x e) := by
  rw [ldC, Proj.load_whole (harg9.read_unread x7) off4]
  pointwise [k0_pay5]

theorem ldN_apply (j : Fin 4) (x : Fin 1) (e : Fin 256) : ldN arg10 harg10 x8 (ix3 j x e) = x8 (ix4 (0 : Fin 1) j (0 : Fin 1) e) := by
  obtain rfl : x = 0 := Subsingleton.elim _ _
  rw [ldN, Proj.load_whole (harg10.read_unread x8) off4]
  pointwise [k0_pay6]

theorem ldM_apply (j : Fin 4) (x : Fin 1) (e : Fin 128) : ldM arg11 harg11 x9 (ix3 j x e) = x9 (ix4 (0 : Fin 1) j (0 : Fin 1) e) := by
  obtain rfl : x = 0 := Subsingleton.elim _ _
  rw [ldM, Proj.load_whole (harg11.read_unread x9) off4]
  pointwise [k0_pay7]

theorem rC_eq (j : Fin 4) : rC arg3 harg3 arg4 harg4 arg7 harg7 arg8 harg8 arg9 harg9 arg11 harg11 arg16 arg18 x1 x2 x5 x6 x7 x9 j
    = fun i => ldC arg9 harg9 x7 (ix3 j (i 1) (i 2)) := Slabs.read_slab _ _ _ j _ le_rfl

theorem rN_eq (j : Fin 4) : rN arg3 harg3 arg7 harg7 arg8 harg8 arg10 harg10 arg11 harg11 arg17 arg18 x1 x5 x6 x8 x9 j
    = fun i => ldN arg10 harg10 x8 (ix3 j (i 1) (i 2)) := Slabs.read_slab _ _ _ j _ le_rfl

theorem rM_eq (j : Fin 4) : rM arg7 harg7 arg8 harg8 arg11 harg11 arg18 x5 x6 x9 j
    = fun i => ldM arg11 harg11 x9 (ix3 j (i 1) (i 2)) := Slabs.read_slab _ _ _ j _ le_rfl

/-- What a head's operations are given is that head of the blocks. -/
theorem chunk_eq (j : Fin 4) : chunk (ldCol arg2 harg2 x0 j) (ldCol arg3 harg3 x1 j) (ldCol arg4 harg4 x2 j) (grow x6 (inp j)) (grow x6 (fgt j))
    (fun i => ldC arg9 harg9 x7 (ix3 j (i 1) (i 2))) (fun i => ldN arg10 harg10 x8 (ix3 j (i 1) (i 2))) (fun i => ldM arg11 harg11 x9 (ix3 j (i 1) (i 2)))
    = ofBlocks x0 x1 x2 x6 x7 x8 x9 j := by
  rw [chunk, ofBlocks]
  simp only [ldCol_apply, grow_apply]
  congr 1
  · funext x e; exact ldC_apply arg9 harg9 x7 j x e
  · funext e; exact ldN_apply arg10 harg10 x8 j 0 e
  · exact ldM_apply arg11 harg11 x9 j 0 0

/-- The two forms of the gates agree. -/
def Turned (x5 : Vec Ideal S1x16x128 .f32) (x6 : Vec Ideal S1x8x16 .f32) : Prop :=
  ∀ (k : Fin 8) (s : Fin 16), x5 (ix3 (0 : Fin 1) s (⟨k.val, by omega⟩ : Fin 128)) = x6 (ix3 (0 : Fin 1) k s)

variable {x5 x6} (hT : Turned x5 x6)
include hT

theorem turned (k : Fin 8) (s : Fin 16) : gcol x5 k (ix2 s (0 : Fin 1)) = grow x6 k (ix2 (0 : Fin 1) s) :=
  (gcol_apply x5 k s).trans ((hT k s).trans (grow_apply x6 k s).symm)

theorem block_h (j : Fin 4) (t : Fin 16) (e : Fin 256) :
    out0_A_10 c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 hc0 hc1 x0 x1 x2 x3 x4 x5 x6 x7 x8 x9 (ix3 (0 : Fin 1) t (lane j e))
    = Mlstm.gated ((ofBlocks x0 x1 x2 x6 x7 x8 x9 j).out t e) (x3 (ix3 (0 : Fin 1) t (lane j e))) (x4 (ix3 (0 : Fin 1) t (lane j e))) := by
  rw [out0_A_10, View.read_writes_junk_eq_canon, run_h, canon_cols _ j t e [3, 2, 1, 0] (by revert j; decide), rH, ldG_eq, ldR_eq, rC_eq, rN_eq, rM_eq,
    hOut_apply (hl := turned hT (fgt j)), chunk_eq, ldCol_apply, ldCol_apply]

theorem block_c (j : Fin 4) (x e : Fin 256) :
    out0_A_11 c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 hc0 hc1 x0 x1 x2 x3 x4 x5 x6 x7 x8 x9 (ix4 (0 : Fin 1) j x e)
    = (ofBlocks x0 x1 x2 x6 x7 x8 x9 j).cell x e := by
  rw [out0_A_11, View.read_writes_junk_eq_canon, run_c, View.canon_unit_zero off4]
  pointwise [k0_pay2]
  rw [Slabs.read_all, fC, ldG_eq, ldR_eq, rM_eq,
    cOut_apply (q := ldCol arg2 harg2 x0 j) (n := fun i => ldN arg10 harg10 x8 (ix3 j (i 1) (i 2))) (hi := turned hT (inp j)) (hl := turned hT (fgt j)), chunk_eq]

theorem block_n (j : Fin 4) (e : Fin 256) :
    out0_A_12 c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 hc0 hc1 x0 x1 x2 x3 x4 x5 x6 x7 x8 x9 (ix4 (0 : Fin 1) j (0 : Fin 1) e)
    = (ofBlocks x0 x1 x2 x6 x7 x8 x9 j).norm e := by
  rw [out0_A_12, View.read_writes_junk_eq_canon, run_n, View.canon_unit_zero off4]
  pointwise [k0_pay3]
  rw [Slabs.read_all, fN, ldG_eq, ldR_eq, rM_eq,
    nOut_apply (q := ldCol arg2 harg2 x0 j) (v := ldCol arg4 harg4 x2 j) (c := fun i => ldC arg9 harg9 x7 (ix3 j (i 1) (i 2))) (hi := turned hT (inp j))
      (hl := turned hT (fgt j)), chunk_eq]

theorem block_m (j : Fin 4) (e : Fin 128) :
    out0_A_13 c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 hc0 hc1 x0 x1 x2 x3 x4 x5 x6 x7 x8 x9 (ix4 (0 : Fin 1) j (0 : Fin 1) e)
    = (ofBlocks x0 x1 x2 x6 x7 x8 x9 j).peak 15 := by
  rw [out0_A_13, View.read_writes_junk_eq_canon, run_m, View.canon_unit_zero off4]
  pointwise [k0_pay4]
  rw [Slabs.read_all, fM, ldG_eq, ldR_eq,
    mOut_apply (q := ldCol arg2 harg2 x0 j) (k := ldCol arg3 harg3 x1 j) (v := ldCol arg4 harg4 x2 j) (c := fun i => ldC arg9 harg9 x7 (ix3 j (i 1) (i 2)))
      (n := fun i => ldN arg10 harg10 x8 (ix3 j (i 1) (i 2))) (hl := turned hT (fgt j)), chunk_eq]

end Block

end Cert.MlstmIdeal.Head

end
-- ==== Proof.MlstmGoal.lean ====
/- What the mLSTM chunk's four results are, of its arguments: each sequence's heads, side by side. -/
module

public import proofs.«01_k».proof.Proof.MlstmHead

@[expose] public section

noncomputable section

namespace Mlstm

open Idealize.ShloMosaic

abbrev Acts := (⟨3, ![8, 16, 5120]⟩ : Shape).Idx → EReal
abbrev Gates := (⟨3, ![8, 16, 128]⟩ : Shape).Idx → EReal
abbrev Cells := (⟨5, ![1, 8, 4, 256, 256]⟩ : Shape).Idx → EReal
abbrev Norms := (⟨4, ![1, 8, 4, 256]⟩ : Shape).Idx → EReal
abbrev Peaks := (⟨3, ![1, 8, 4]⟩ : Shape).Idx → EReal

/-- A head's lane in the `s`-th of the five activations. -/
def act (s : Fin 5) (j : Fin 4) (e : Fin 256) : Fin 5120 := ⟨1024 * s.val + (256 * j.val + e.val), by omega⟩

/-- Head `j` of sequence `b`. -/
def head (Q : Acts) (G : Gates) (C : Cells) (N : Norms) (M : Peaks) (b : Fin 8) (j : Fin 4) : Chunk where
  q t e := Q (ix3 b t (act 0 j e))
  k t e := Q (ix3 b t (act 1 j e)) * Ideal.ofBits .f32 0x3D800000#32
  v t e := Q (ix3 b t (act 2 j e))
  ig s := G (ix3 b s (⟨j.val, by omega⟩ : Fin 128))
  lf s := G (ix3 b s (⟨4 + j.val, by omega⟩ : Fin 128))
  c x e := C (ix5 (0 : Fin 1) b j x e)
  n e := N (ix4 (0 : Fin 1) b j e)
  m := M (ix3 (0 : Fin 1) b j)

/-- The head and the lane of it that a column is. -/
def hd (y : Fin 1024) : Fin 4 := ⟨y.val / 256, by omega⟩
def ln (y : Fin 1024) : Fin 256 := ⟨y.val % 256, by omega⟩

variable (Q : Acts) (G : Gates) (C : Cells) (N : Norms) (M : Peaks)

/-- The four results. -/
def resH : (⟨3, ![8, 16, 1024]⟩ : Shape).Idx → EReal := fun i =>
  gated ((head Q G C N M (i 0) (hd (i 2))).out (i 1) (ln (i 2))) (Q (ix3 (i 0) (i 1) (act 3 (hd (i 2)) (ln (i 2)))))
    (Q (ix3 (i 0) (i 1) (act 4 (hd (i 2)) (ln (i 2)))))

def resC : (⟨4, ![8, 4, 256, 256]⟩ : Shape).Idx → EReal := fun i => (head Q G C N M (i 0) (i 1)).cell (i 2) (i 3)

def resN : (⟨4, ![8, 4, 1, 256]⟩ : Shape).Idx → EReal := fun i => (head Q G C N M (i 0) (i 1)).norm (i 3)

def resM : (⟨4, ![8, 4, 1, 128]⟩ : Shape).Idx → EReal := fun i => (head Q G C N M (i 0) (i 1)).peak 15

end Mlstm

end
-- ==== Proof.MlstmArr.lean ====
/- The arrays the mLSTM chunk's kernel leaves: a sequence's block at each point, its four results of the arguments. -/
module

public import proofs.«01_k».proof.Proof.MlstmBlock
public import proofs.«01_k».proof.Proof.MlstmGoal

@[expose] public section

set_option maxRecDepth 16384

noncomputable section

namespace Cert.MlstmIdeal.Body

open Idealize.ShloMosaic Idealize.ShloMosaic.TcCoe Idealize.SL.Sem
open Idealize.ShloMosaic.Pipeline (Dat Cfg Window)
open Cert.MlstmIdeal.Gen Cert.MlstmIdeal.Value Cert.MlstmIdeal.Head

variable (m : (ℓ : Loc nD τ sig) → Buf (Elt Ideal) ℓ) (ρ : Dev nD → PrngReg)

/-- The launch contents of the arguments. -/
abbrev aq (c : Dev nD) : FVec Ideal S8x16x5120 .bf16 := m ((c.tc : Thread nD τ).loc main_arg0)
abbrev ag (c : Dev nD) : FVec Ideal S8x16x128 .f32 := m ((c.tc : Thread nD τ).loc main_arg1)
abbrev ac (c : Dev nD) : FVec Ideal S1x8x4x256x256 .f32 := m ((c.tc : Thread nD τ).loc main_arg2)
abbrev an (c : Dev nD) : FVec Ideal S1x8x4x256 .f32 := m ((c.tc : Thread nD τ).loc main_arg3)
abbrev am (c : Dev nD) : FVec Ideal S1x8x4 .f32 := m ((c.tc : Thread nD τ).loc main_arg4)

/-! ## The arrays read -/

theorem V_gates (c : Dev nD) (b : Fin 8) (k : Fin 8) (s : Fin 16) :
    V m c main_v1 (ix3 b k s) = ag m c (ix3 b s (⟨k.val, by omega⟩ : Fin 128)) := by
  have : V m c main_v1 = transpose S8x8x16 [0, 2, 1] (extractStridedSlice S8x16x8 ![0, 0, 0] (ag m c) slices_S8x16x128_S8x16x8_0_0_0)
      transposes_S8x16x8_S8x8x16_0_2_1 := by
    show StableHlo.after hostOps0 _ main_v1 = _
    after_results_simp <;> rfl
  rw [this]
  pointwise

theorem V_cell (c : Dev nD) (b : Fin 8) (j : Fin 4) (x e : Fin 256) : V m c main_v2 (ix4 b j x e) = ac m c (ix5 (0 : Fin 1) b j x e) := by
  have : V m c main_v2 = shapeCast S8x4x256x256 (ac m c) shapeCasts_S1x8x4x256x256_S8x4x256x256 := by
    show StableHlo.after hostOps0 _ main_v2 = _
    after_results_simp <;> rfl
  rw [this]
  pointwise

theorem V_norm (c : Dev nD) (b : Fin 8) (j : Fin 4) (e : Fin 256) : V m c main_v4 (ix4 b j (0 : Fin 1) e) = an m c (ix4 (0 : Fin 1) b j e) := by
  have : V m c main_v4 = broadcastInDim S8x4x1x256 ![0, 1, 3] bcast_S8x4x256_S8x4x1x256_0_1_3
      (shapeCast S8x4x256 (an m c) shapeCasts_S1x8x4x256_S8x4x256) := by
    show StableHlo.after hostOps0 _ main_v4 = _
    after_results_simp <;> rfl
  rw [this]
  pointwise

theorem V_peak (c : Dev nD) (b : Fin 8) (j : Fin 4) (e : Fin 128) : V m c main_v7 (ix4 b j (0 : Fin 1) e) = am m c (ix3 (0 : Fin 1) b j) := by
  have : V m c main_v7 = broadcastInDim S8x4x1x128 ![0, 1, 2, 3] bcast_S8x4x1x1_S8x4x1x128_0_1_2_3
      (broadcastInDim S8x4x1x1 ![0, 1] bcast_S8x4_S8x4x1x1_0_1 (shapeCast S8x4 (am m c) shapeCasts_S1x8x4_S8x4)) := by
    show StableHlo.after hostOps0 _ main_v7 = _
    after_results_simp <;> rfl
  rw [this]
  pointwise

/-! ## The blocks read: sequence `t` of each array -/

theorem index_acts : ∀ t : Fin cfg0.N, win0_0.index t = ![t.val, 0, 0] ∧ win0_1.index t = ![t.val, 0, 1] ∧ win0_2.index t = ![t.val, 0, 2]
    ∧ win0_3.index t = ![t.val, 0, 3] ∧ win0_4.index t = ![t.val, 0, 4] ∧ win0_5.index t = ![t.val, 0, 0] ∧ win0_6.index t = ![t.val, 0, 0] :=
  (by decide +kernel : ∀ t : Fin grid0.N, win0_0.index t = ![t.val, 0, 0] ∧ win0_1.index t = ![t.val, 0, 1] ∧ win0_2.index t = ![t.val, 0, 2]
    ∧ win0_3.index t = ![t.val, 0, 3] ∧ win0_4.index t = ![t.val, 0, 4] ∧ win0_5.index t = ![t.val, 0, 0] ∧ win0_6.index t = ![t.val, 0, 0])

theorem index_state : ∀ t : Fin cfg0.N, win0_7.index t = ![t.val, 0, 0, 0] ∧ win0_8.index t = ![t.val, 0, 0, 0] ∧ win0_9.index t = ![t.val, 0, 0, 0] :=
  (by decide +kernel : ∀ t : Fin grid0.N, win0_7.index t = ![t.val, 0, 0, 0] ∧ win0_8.index t = ![t.val, 0, 0, 0] ∧ win0_9.index t = ![t.val, 0, 0, 0])

theorem index_res : ∀ t : Fin cfg0.N, win0_10.index t = ![t.val, 0, 0] ∧ win0_11.index t = ![t.val, 0, 0, 0] ∧ win0_12.index t = ![t.val, 0, 0, 0]
    ∧ win0_13.index t = ![t.val, 0, 0, 0] :=
  (by decide +kernel : ∀ t : Fin grid0.N, win0_10.index t = ![t.val, 0, 0] ∧ win0_11.index t = ![t.val, 0, 0, 0] ∧ win0_12.index t = ![t.val, 0, 0, 0]
    ∧ win0_13.index t = ![t.val, 0, 0, 0])

/-- The sequence a point is. -/
def seq (t : Fin cfg0.N) : Fin 8 := ⟨t.val, lt_of_lt_of_eq t.isLt (by decide +kernel)⟩

/-- Where an activation's block and a state's block hold an index. -/
theorem at_act (t : Fin cfg0.N) (w : Fin 5) (j : Fin 4) (s : Fin 16) (e : Fin 256) (a : Fin 3) :
    (![t.val, 0, w.val] : Fin 3 → ℕ) a * S1x16x1024.size a + (ix3 (0 : Fin 1) s (lane j e) a).val = (ix3 (seq t) s (Mlstm.act w j e) a).val := by
  match a with
  | ⟨0, _⟩ => show t.val * 1 + 0 = t.val; omega
  | ⟨1, _⟩ => show 0 * 16 + s.val = s.val; omega
  | ⟨2, _⟩ => show w.val * 1024 + (256 * j.val + e.val) = 1024 * w.val + (256 * j.val + e.val); omega

theorem at_state {A B : ℕ} (t : Fin cfg0.N) (j : Fin 4) (x : Fin A) (e : Fin B) (a : Fin 4) :
    (![t.val, 0, 0, 0] : Fin 4 → ℕ) a * (![1, 4, A, B] : Fin 4 → ℕ) a + (ix4 (0 : Fin 1) j x e a).val = (ix4 (seq t) j x e a).val := by
  match a with
  | ⟨0, _⟩ => show t.val * 1 + 0 = t.val; omega
  | ⟨1, _⟩ => show 0 * 4 + j.val = j.val; omega
  | ⟨2, _⟩ => show 0 * A + x.val = x.val; omega
  | ⟨3, _⟩ => show 0 * B + e.val = e.val; omega

theorem read_q (c : Dev nD) (t : Fin cfg0.N) (s : Fin 16) (j : Fin 4) (e : Fin 256) :
    (iblk m c 0 t : Vec Ideal S1x16x1024 .bf16) (ix3 (0 : Fin 1) s (lane j e)) = aq m c (ix3 (seq t) s (Mlstm.act 0 j e)) :=
  congrArg (aq m c) (funext fun a => Fin.ext (by
    refine (win0_0.rect_emb_val_off t (ix3 (0 : Fin 1) s (lane j e)) a).trans ?_
    rw [(index_acts t).1]
    exact at_act t 0 j s e a))

theorem read_k (c : Dev nD) (t : Fin cfg0.N) (s : Fin 16) (j : Fin 4) (e : Fin 256) :
    (iblk m c 1 t : Vec Ideal S1x16x1024 .bf16) (ix3 (0 : Fin 1) s (lane j e)) = aq m c (ix3 (seq t) s (Mlstm.act 1 j e)) :=
  congrArg (aq m c) (funext fun a => Fin.ext (by
    refine (win0_1.rect_emb_val_off t (ix3 (0 : Fin 1) s (lane j e)) a).trans ?_
    rw [(index_acts t).2.1]
    exact at_act t 1 j s e a))

theorem read_v (c : Dev nD) (t : Fin cfg0.N) (s : Fin 16) (j : Fin 4) (e : Fin 256) :
    (iblk m c 2 t : Vec Ideal S1x16x1024 .bf16) (ix3 (0 : Fin 1) s (lane j e)) = aq m c (ix3 (seq t) s (Mlstm.act 2 j e)) :=
  congrArg (aq m c) (funext fun a => Fin.ext (by
    refine (win0_2.rect_emb_val_off t (ix3 (0 : Fin 1) s (lane j e)) a).trans ?_
    rw [(index_acts t).2.2.1]
    exact at_act t 2 j s e a))

theorem read_o (c : Dev nD) (t : Fin cfg0.N) (s : Fin 16) (j : Fin 4) (e : Fin 256) :
    (iblk m c 3 t : Vec Ideal S1x16x1024 .bf16) (ix3 (0 : Fin 1) s (lane j e)) = aq m c (ix3 (seq t) s (Mlstm.act 3 j e)) :=
  congrArg (aq m c) (funext fun a => Fin.ext (by
    refine (win0_3.rect_emb_val_off t (ix3 (0 : Fin 1) s (lane j e)) a).trans ?_
    rw [(index_acts t).2.2.2.1]
    exact at_act t 3 j s e a))

theorem read_g (c : Dev nD) (t : Fin cfg0.N) (s : Fin 16) (j : Fin 4) (e : Fin 256) :
    (iblk m c 4 t : Vec Ideal S1x16x1024 .bf16) (ix3 (0 : Fin 1) s (lane j e)) = aq m c (ix3 (seq t) s (Mlstm.act 4 j e)) :=
  congrArg (aq m c) (funext fun a => Fin.ext (by
    refine (win0_4.rect_emb_val_off t (ix3 (0 : Fin 1) s (lane j e)) a).trans ?_
    rw [(index_acts t).2.2.2.2.1]
    exact at_act t 4 j s e a))

theorem read_gates (c : Dev nD) (t : Fin cfg0.N) (s : Fin 16) (k : Fin 128) :
    (iblk m c 5 t : Vec Ideal S1x16x128 .f32) (ix3 (0 : Fin 1) s k) = ag m c (ix3 (seq t) s k) :=
  congrArg (ag m c) (funext fun a => Fin.ext (by
    refine (win0_5.rect_emb_val_off t (ix3 (0 : Fin 1) s k) a).trans ?_
    rw [(index_acts t).2.2.2.2.2.1]
    match a with
    | ⟨0, _⟩ => show t.val * 1 + 0 = t.val; omega
    | ⟨1, _⟩ => exact Nat.zero_add _
    | ⟨2, _⟩ => exact Nat.zero_add _))

theorem read_turned (c : Dev nD) (t : Fin cfg0.N) (k : Fin 8) (s : Fin 16) :
    (iblk m c 6 t : Vec Ideal S1x8x16 .f32) (ix3 (0 : Fin 1) k s) = ag m c (ix3 (seq t) s (⟨k.val, by omega⟩ : Fin 128)) := by
  refine Eq.trans ?_ (V_gates m c (seq t) k s)
  exact congrArg (V m c main_v1) (funext fun a => Fin.ext (by
    refine (win0_6.rect_emb_val_off t (ix3 (0 : Fin 1) k s) a).trans ?_
    rw [(index_acts t).2.2.2.2.2.2]
    match a with
    | ⟨0, _⟩ => show t.val * 1 + 0 = t.val; omega
    | ⟨1, _⟩ => exact Nat.zero_add _
    | ⟨2, _⟩ => exact Nat.zero_add _))

theorem read_cell (c : Dev nD) (t : Fin cfg0.N) (j : Fin 4) (x e : Fin 256) :
    (iblk m c 7 t : Vec Ideal S1x4x256x256 .f32) (ix4 (0 : Fin 1) j x e) = ac m c (ix5 (0 : Fin 1) (seq t) j x e) := by
  refine Eq.trans ?_ (V_cell m c (seq t) j x e)
  exact congrArg (V m c main_v2) (funext fun a => Fin.ext (by
    refine (win0_7.rect_emb_val_off t (ix4 (0 : Fin 1) j x e) a).trans ?_
    rw [(index_state t).1]
    exact at_state t j x e a))

theorem read_norm (c : Dev nD) (t : Fin cfg0.N) (j : Fin 4) (e : Fin 256) :
    (iblk m c 8 t : Vec Ideal S1x4x1x256 .f32) (ix4 (0 : Fin 1) j (0 : Fin 1) e) = an m c (ix4 (0 : Fin 1) (seq t) j e) := by
  refine Eq.trans ?_ (V_norm m c (seq t) j e)
  exact congrArg (V m c main_v4) (funext fun a => Fin.ext (by
    refine (win0_8.rect_emb_val_off t (ix4 (0 : Fin 1) j (0 : Fin 1) e) a).trans ?_
    rw [(index_state t).2.1]
    exact at_state t j (0 : Fin 1) e a))

theorem read_peak (c : Dev nD) (t : Fin cfg0.N) (j : Fin 4) (e : Fin 128) :
    (iblk m c 9 t : Vec Ideal S1x4x1x128 .f32) (ix4 (0 : Fin 1) j (0 : Fin 1) e) = am m c (ix3 (0 : Fin 1) (seq t) j) := by
  refine Eq.trans ?_ (V_peak m c (seq t) j e)
  exact congrArg (V m c main_v7) (funext fun a => Fin.ext (by
    refine (win0_9.rect_emb_val_off t (ix4 (0 : Fin 1) j (0 : Fin 1) e) a).trans ?_
    rw [(index_state t).2.2]
    exact at_state t j (0 : Fin 1) e a))

theorem blocks_turned (c : Dev nD) (t : Fin cfg0.N) : Turned (iblk m c 5 t) (iblk m c 6 t) := fun k s =>
  (read_gates m c t s _).trans (read_turned m c t k s).symm

/-- A head of the blocks is that head of the sequence. -/
theorem head_eq (c : Dev nD) (t : Fin cfg0.N) (j : Fin 4) :
    ofBlocks (iblk m c 0 t) (iblk m c 1 t) (iblk m c 2 t) (iblk m c 6 t) (iblk m c 7 t) (iblk m c 8 t) (iblk m c 9 t) j
      = Mlstm.head (aq m c) (ag m c) (ac m c) (an m c) (am m c) (seq t) j := by
  unfold ofBlocks Mlstm.head
  simp only [read_q, read_k, read_v, read_turned, read_cell, read_norm, read_peak]
  rfl

/-! ## The blocks written -/

/-- The results, of the arguments. -/
abbrev vh (c : Dev nD) : FVec Ideal S8x16x1024 .bf16 := Mlstm.resH (aq m c) (ag m c) (ac m c) (an m c) (am m c)
abbrev vc (c : Dev nD) : FVec Ideal S8x4x256x256 .f32 := Mlstm.resC (aq m c) (ag m c) (ac m c) (an m c) (am m c)
abbrev vn (c : Dev nD) : FVec Ideal S8x4x1x256 .f32 := Mlstm.resN (aq m c) (ag m c) (ac m c) (an m c) (am m c)
abbrev vm (c : Dev nD) : FVec Ideal S8x4x1x128 .f32 := Mlstm.resM (aq m c) (ag m c) (ac m c) (an m c) (am m c)

theorem resH_lane (Q : Mlstm.Acts) (G : Mlstm.Gates) (C : Mlstm.Cells) (N : Mlstm.Norms) (M : Mlstm.Peaks) (b : Fin 8) (s : Fin 16) (j : Fin 4) (e : Fin 256) :
    Mlstm.resH Q G C N M (ix3 b s (lane j e)) = Mlstm.gated ((Mlstm.head Q G C N M b j).out s e) (Q (ix3 b s (Mlstm.act 3 j e))) (Q (ix3 b s (Mlstm.act 4 j e))) := by
  have h1 : Mlstm.hd (lane j e) = j := Fin.ext (by show (256 * j.val + e.val) / 256 = j.val; omega)
  have h2 : Mlstm.ln (lane j e) = e := Fin.ext (by show (256 * j.val + e.val) % 256 = e.val; omega)
  show Mlstm.gated ((Mlstm.head Q G C N M b (Mlstm.hd (lane j e))).out s (Mlstm.ln (lane j e))) (Q (ix3 b s (Mlstm.act 3 (Mlstm.hd (lane j e)) (Mlstm.ln (lane j e)))))
    (Q (ix3 b s (Mlstm.act 4 (Mlstm.hd (lane j e)) (Mlstm.ln (lane j e))))) = _
  rw [h1, h2]

theorem wrote_h (c : Dev nD) (t : Fin cfg0.N) : (dats m 0 c).flushed 10 t = ((cfg0.win 10).blk t).view.read (Elt Ideal) (vh m c) := by
  rw [flushed10_A]
  funext y
  obtain ⟨p, s, z, rfl⟩ : ∃ (p : Fin 1) (s : Fin 16) (z : Fin 1024), y = ix3 p s z := ⟨y 0, y 1, y 2, by funext d; fin_cases d <;> rfl⟩
  obtain rfl : p = 0 := Subsingleton.elim _ _
  obtain ⟨j, e, rfl⟩ := lane_surj z
  refine (block_h (hT := blocks_turned m c t) (j := j) (t := s) (e := e) ..).trans ?_
  rw [head_eq, read_o, read_g]
  refine (resH_lane _ _ _ _ _ (seq t) s j e).symm.trans (congrArg (vh m c) (funext fun a => Fin.ext ?_)).symm
  refine (win0_10.rect_emb_val_off t (ix3 (0 : Fin 1) s (lane j e)) a).trans ?_
  rw [(index_res t).1]
  match a with
  | ⟨0, _⟩ => show t.val * 1 + 0 = t.val; omega
  | ⟨1, _⟩ => exact Nat.zero_add _
  | ⟨2, _⟩ => exact Nat.zero_add _

theorem wrote_c (c : Dev nD) (t : Fin cfg0.N) : (dats m 0 c).flushed 11 t = ((cfg0.win 11).blk t).view.read (Elt Ideal) (vc m c) := by
  rw [flushed11_A]
  funext y
  obtain ⟨p, j, x, e, rfl⟩ : ∃ (p : Fin 1) (j : Fin 4) (x e : Fin 256), y = ix4 p j x e := ⟨y 0, y 1, y 2, y 3, by funext d; fin_cases d <;> rfl⟩
  obtain rfl : p = 0 := Subsingleton.elim _ _
  refine (block_c (hT := blocks_turned m c t) (j := j) (x := x) (e := e) ..).trans ?_
  rw [head_eq]
  refine (congrArg (vc m c) (funext fun a => Fin.ext ?_ : _ = ix4 (seq t) j x e)).symm
  refine (win0_11.rect_emb_val_off t (ix4 (0 : Fin 1) j x e) a).trans ?_
  rw [(index_res t).2.1]
  exact at_state t j x e a

theorem wrote_n (c : Dev nD) (t : Fin cfg0.N) : (dats m 0 c).flushed 12 t = ((cfg0.win 12).blk t).view.read (Elt Ideal) (vn m c) := by
  rw [flushed12_A]
  funext y
  obtain ⟨p, j, x, e, rfl⟩ : ∃ (p : Fin 1) (j : Fin 4) (x : Fin 1) (e : Fin 256), y = ix4 p j x e := ⟨y 0, y 1, y 2, y 3, by funext d; fin_cases d <;> rfl⟩
  obtain rfl : p = 0 := Subsingleton.elim _ _
  obtain rfl : x = 0 := Subsingleton.elim _ _
  refine (block_n (hT := blocks_turned m c t) (j := j) (e := e) ..).trans ?_
  rw [head_eq]
  refine (congrArg (vn m c) (funext fun a => Fin.ext ?_ : _ = ix4 (seq t) j (0 : Fin 1) e)).symm
  refine (win0_12.rect_emb_val_off t (ix4 (0 : Fin 1) j (0 : Fin 1) e) a).trans ?_
  rw [(index_res t).2.2.1]
  exact at_state t j (0 : Fin 1) e a

theorem wrote_m (c : Dev nD) (t : Fin cfg0.N) : (dats m 0 c).flushed 13 t = ((cfg0.win 13).blk t).view.read (Elt Ideal) (vm m c) := by
  rw [flushed13_A]
  funext y
  obtain ⟨p, j, x, e, rfl⟩ : ∃ (p : Fin 1) (j : Fin 4) (x : Fin 1) (e : Fin 128), y = ix4 p j x e := ⟨y 0, y 1, y 2, y 3, by funext d; fin_cases d <;> rfl⟩
  obtain rfl : p = 0 := Subsingleton.elim _ _
  obtain rfl : x = 0 := Subsingleton.elim _ _
  refine (block_m (hT := blocks_turned m c t) (j := j) (e := e) ..).trans ?_
  rw [head_eq]
  refine (congrArg (vm m c) (funext fun a => Fin.ext ?_ : _ = ix4 (seq t) j (0 : Fin 1) e)).symm
  refine (win0_13.rect_emb_val_off t (ix4 (0 : Fin 1) j (0 : Fin 1) e) a).trans ?_
  rw [(index_res t).2.2.2]
  exact at_state t j (0 : Fin 1) e a

/-! ## The whole arrays -/

theorem sizes : ∀ t : Fin cfg0.N, win0_10.xsize (grid0.coords t) = ![1, 16, 1024] ∧ win0_11.xsize (grid0.coords t) = ![1, 4, 256, 256]
    ∧ win0_12.xsize (grid0.coords t) = ![1, 4, 1, 256] ∧ win0_13.xsize (grid0.coords t) = ![1, 4, 1, 128] :=
  (by decide +kernel : ∀ t : Fin grid0.N, win0_10.xsize (grid0.coords t) = ![1, 16, 1024] ∧ win0_11.xsize (grid0.coords t) = ![1, 4, 256, 256]
    ∧ win0_12.xsize (grid0.coords t) = ![1, 4, 1, 256] ∧ win0_13.xsize (grid0.coords t) = ![1, 4, 1, 128])

/-- The point that writes a sequence's blocks. -/
def at_seq (b : ℕ) (h : b < 8) : Fin cfg0.N := ⟨b, lt_of_lt_of_eq h (by decide +kernel)⟩

theorem arr_h (c : Dev nD) : (dats m 0 c).arrAt 10 cfg0.N = vh m c :=
  (dats m 0 c).arrAt_eq_of_cover 10 _ (fun t _ => wrote_h m c t) fun i => by
    refine ⟨at_seq (i 0).val (i 0).isLt, flush0_10 _, ?_⟩
    show i ∈ ((View.whole main_v8_0).slice (win0_10.rect (at_seq (i 0).val (i 0).isLt))).set
    rw [View.set_slice_whole, Rect.mem_set_unit]
    intro a
    show win0_10.index (at_seq (i 0).val (i 0).isLt) a * _ ≤ _ ∧ _ < win0_10.index (at_seq (i 0).val (i 0).isLt) a * _ + win0_10.xsize (grid0.coords (at_seq (i 0).val (i 0).isLt)) a
    rw [(index_res _).1, (sizes _).1]
    match a with
    | ⟨0, _⟩ => show (i 0).val * 1 ≤ (i 0).val ∧ (i 0).val < (i 0).val * 1 + 1; omega
    | ⟨1, _⟩ => have h : (i 1).val < 16 := (i 1).isLt; show 0 * 16 ≤ (i 1).val ∧ (i 1).val < 0 * 16 + 16; omega
    | ⟨2, _⟩ => have h : (i 2).val < 1024 := (i 2).isLt; show 0 * 1024 ≤ (i 2).val ∧ (i 2).val < 0 * 1024 + 1024; omega

theorem in_state {A B : ℕ} (i : (⟨4, ![8, 4, A, B]⟩ : Shape).Idx) (a : Fin 4) :
    (![(i 0).val, 0, 0, 0] : Fin 4 → ℕ) a * (![1, 4, A, B] : Fin 4 → ℕ) a ≤ (i a).val
      ∧ (i a).val < (![(i 0).val, 0, 0, 0] : Fin 4 → ℕ) a * (![1, 4, A, B] : Fin 4 → ℕ) a + (![1, 4, A, B] : Fin 4 → ℕ) a := by
  match a with
  | ⟨0, _⟩ => show (i 0).val * 1 ≤ (i 0).val ∧ (i 0).val < (i 0).val * 1 + 1; omega
  | ⟨1, _⟩ => have h : (i 1).val < 4 := (i 1).isLt; show 0 * 4 ≤ (i 1).val ∧ (i 1).val < 0 * 4 + 4; omega
  | ⟨2, _⟩ => have h : (i 2).val < A := (i 2).isLt; show 0 * A ≤ (i 2).val ∧ (i 2).val < 0 * A + A; omega
  | ⟨3, _⟩ => have h : (i 3).val < B := (i 3).isLt; show 0 * B ≤ (i 3).val ∧ (i 3).val < 0 * B + B; omega

theorem arr_c (c : Dev nD) : (dats m 0 c).arrAt 11 cfg0.N = vc m c :=
  (dats m 0 c).arrAt_eq_of_cover 11 _ (fun t _ => wrote_c m c t) fun i => by
    refine ⟨at_seq (i 0).val (i 0).isLt, flush0_11 _, ?_⟩
    show i ∈ ((View.whole main_v8_1).slice (win0_11.rect (at_seq (i 0).val (i 0).isLt))).set
    rw [View.set_slice_whole, Rect.mem_set_unit]
    intro a
    show win0_11.index (at_seq (i 0).val (i 0).isLt) a * _ ≤ _ ∧ _ < win0_11.index (at_seq (i 0).val (i 0).isLt) a * _ + win0_11.xsize (grid0.coords (at_seq (i 0).val (i 0).isLt)) a
    rw [(index_res _).2.1, (sizes _).2.1]
    exact in_state i a

theorem arr_n (c : Dev nD) : (dats m 0 c).arrAt 12 cfg0.N = vn m c :=
  (dats m 0 c).arrAt_eq_of_cover 12 _ (fun t _ => wrote_n m c t) fun i => by
    refine ⟨at_seq (i 0).val (i 0).isLt, flush0_12 _, ?_⟩
    show i ∈ ((View.whole main_v8_2).slice (win0_12.rect (at_seq (i 0).val (i 0).isLt))).set
    rw [View.set_slice_whole, Rect.mem_set_unit]
    intro a
    show win0_12.index (at_seq (i 0).val (i 0).isLt) a * _ ≤ _ ∧ _ < win0_12.index (at_seq (i 0).val (i 0).isLt) a * _ + win0_12.xsize (grid0.coords (at_seq (i 0).val (i 0).isLt)) a
    rw [(index_res _).2.2.1, (sizes _).2.2.1]
    exact in_state i a

theorem arr_m (c : Dev nD) : (dats m 0 c).arrAt 13 cfg0.N = vm m c :=
  (dats m 0 c).arrAt_eq_of_cover 13 _ (fun t _ => wrote_m m c t) fun i => by
    refine ⟨at_seq (i 0).val (i 0).isLt, flush0_13 _, ?_⟩
    show i ∈ ((View.whole main_v8_3).slice (win0_13.rect (at_seq (i 0).val (i 0).isLt))).set
    rw [View.set_slice_whole, Rect.mem_set_unit]
    intro a
    show win0_13.index (at_seq (i 0).val (i 0).isLt) a * _ ≤ _ ∧ _ < win0_13.index (at_seq (i 0).val (i 0).isLt) a * _ + win0_13.xsize (grid0.coords (at_seq (i 0).val (i 0).isLt)) a
    rw [(index_res _).2.2.2, (sizes _).2.2.2]
    exact in_state i a

/-- The kernel's run: the results at their values, the arguments unchanged. -/
theorem run_value : θ_run defs (onTc (τ := τ) (main (F := Ideal))) ⟨m, fun _ => 0, ρ⟩ (fun r => ∀ c : Dev nD,
      r.2.mem ((c.tc : Thread nD τ).loc main_v8_0) = vh m c
      ∧ r.2.mem ((c.tc : Thread nD τ).loc main_v8_1) = vc m c
      ∧ r.2.mem ((c.tc : Thread nD τ).loc main_v8_2) = vn m c
      ∧ r.2.mem ((c.tc : Thread nD τ).loc main_v8_3) = vm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (arr_h m c), (h c).2.1.trans (arr_c m c), (h c).2.2.1.trans (arr_n m c),
    (h c).2.2.2.1.trans (arr_m m c), (h c).2.2.2.2⟩) (run_blocks m ρ)

end Cert.MlstmIdeal.Body

end
-- ==== Proof.MlstmRef.lean ====
/- The reference's mLSTM chunk, read at an index: the same heads' outputs and states. -/
module

public import proofs.«01_k».proof.Proof.Gen.RefMlstmIdeal.Run
public import proofs.«01_k».proof.Proof.Gen.RefMlstmIdeal.Read
public import proofs.«01_k».proof.Proof.MlstmGoal

@[expose] public section

set_option maxRecDepth 16384

noncomputable section

namespace Cert.RefMlstmIdeal.Head

open Cert.RefMlstmIdeal Cert.RefMlstmIdeal.Gen Cert.RefMlstmIdeal.Read Idealize.ShloMosaic Idealize.ShloMosaic.TcCoe

variable (Q : FVec Ideal S8x16x5120 .bf16) (G : FVec Ideal S8x16x128 .f32) (C : FVec Ideal S1x8x4x256x256 .f32) (N : FVec Ideal S1x8x4x256 .f32)
  (M : FVec Ideal S1x8x4 .f32) (b : Fin 8) (j : Fin 4)

/-- The head read. -/
abbrev H : Mlstm.Chunk := Mlstm.head Q G C N M b j

theorem q_apply (t : Fin 16) (e : Fin 256) : val_main_v14 (F := Ideal) Q (ix4 b j t e) = (H Q G C N M b j).q t e := by
  pointwise [val_main_v14, val_main_v13, val_main_v1, val_main_v0]
  exact congrArg (fun l => Q (ix3 b t l)) (Fin.ext (by show j.val * 256 + e.val = 1024 * 0 + (256 * j.val + e.val); omega))

theorem k_apply (t : Fin 16) (e : Fin 256) : val_main_v18 (F := Ideal) Q (ix4 b j t e) = (H Q G C N M b j).k t e := by
  pointwise [val_main_v18, val_main_v17, val_main_cst, val_main_v16, val_main_v15, val_main_v2, val_main_v0]
  exact congrArg (fun l => Q (ix3 b t l) * Ideal.ofBits .f32 0x3D800000#32)
    (Fin.ext (by show 1024 + (j.val * 256 + e.val) = 1024 * 1 + (256 * j.val + e.val); omega))

theorem v_apply (t : Fin 16) (e : Fin 256) : val_main_v20 (F := Ideal) Q (ix4 b j t e) = (H Q G C N M b j).v t e := by
  pointwise [val_main_v20, val_main_v19, val_main_v3, val_main_v0]
  exact congrArg (fun l => Q (ix3 b t l)) (Fin.ext (by show 2048 + (j.val * 256 + e.val) = 1024 * 2 + (256 * j.val + e.val); omega))

theorem ig_apply (s : Fin 16) : val_main_v7 (F := Ideal) G (ix3 b j s) = (H Q G C N M b j).ig s := by
  pointwise [val_main_v7, val_main_v6]
  rfl

theorem lf_apply (s : Fin 16) : val_main_v9 (F := Ideal) G (ix3 b j s) = (H Q G C N M b j).lf s := by
  pointwise [val_main_v9, val_main_v8]
  rfl

theorem c_apply (x e : Fin 256) : val_main_v10 (F := Ideal) C (ix4 b j x e) = (H Q G C N M b j).c x e := by
  pointwise [val_main_v10]
  rfl

theorem n_apply (e : Fin 256) : val_main_v11 (F := Ideal) N (ix3 b j e) = (H Q G C N M b j).n e := by
  pointwise [val_main_v11]
  rfl

theorem m_apply : val_main_v12 (F := Ideal) M (ix2 b j) = (H Q G C N M b j).m := by
  pointwise [val_main_v12]
  rfl

/-- A position's choice of an earlier one. -/
theorem choose (t s : Fin 16) (x y : EReal) : Scalar.select (val_main_v22 (F := Ideal) (ix2 t s)) x y = if s ≤ t then x else y := by
  have h : val_main_v22 (F := Ideal) (ix2 t s) = if s ≤ t then 1#1 else 0#1 := by
    pointwise [val_main_v22, val_main_v21, val_main_c, val_main_call0_v4, val_main_call0_v2, val_main_call0_v0, val_main_call0_v1, val_main_call0_c,
      val_main_call0_v3, val_main_call0_v5, val_main_call0_c_0]
    revert t s; decide
  rw [h]; split_ifs <;> rfl

theorem cum_apply (t : Fin 16) : val_main_v25 (F := Ideal) G (ix3 b j t) = (H Q G C N M b j).cum t := by
  have e1 := lf_apply Q G C N M b j
  pointwise [val_main_v25, val_main_cst_1, val_main_v24, val_main_call1_v1, val_main_call1_v2, val_main_call1_v3, val_main_call1_v0, id, val_main_cst_0, val_main_v23]
  simp only [choose, e1]
  rfl

theorem logit_apply (t s : Fin 16) : val_main_v34 (F := Ideal) G (ix4 b j t s) = (H Q G C N M b j).logit t s := by
  have e1 := cum_apply Q G C N M b j
  have e2 := ig_apply Q G C N M b j
  pointwise [val_main_v34, val_main_call2_v1, val_main_call2_v2, val_main_call2_v0, id, val_main_cst_2, val_main_v33, val_main_v32, val_main_v31, val_main_v30,
    val_main_v29, val_main_v28, val_main_v27, val_main_v26]
  rw [choose, Mlstm.ofBits_ninf, e1, e1, e2]
  rfl

theorem last_apply (t : Fin 16) : val_main_v37 (F := Ideal) G M (ix3 b j t) = (H Q G C N M b j).cum t + (H Q G C N M b j).m := by
  have e1 := cum_apply Q G C N M b j t
  have e2 := m_apply Q G C N M b j
  pointwise [val_main_v37, val_main_v36, val_main_v35]
  rw [e1, e2]

theorem peak_apply (t : Fin 16) : val_main_v39 (F := Ideal) G M (ix3 b j t) = (H Q G C N M b j).peak t := by
  have e1 := last_apply Q G C N M b j t
  have e2 := logit_apply Q G C N M b j t
  pointwise [val_main_v39, val_main_v38, val_main_cst_3]
  rw [e1, Mlstm.ofBits_ninf]
  simp only [e2]
  rfl

theorem weight_apply (t s : Fin 16) : val_main_v43 (F := Ideal) G M (ix4 b j t s) = (H Q G C N M b j).weight t s := by
  have e1 := logit_apply Q G C N M b j t s
  have e2 := peak_apply Q G C N M b j t
  pointwise [val_main_v43, val_main_v42, val_main_v41, val_main_v40]
  rw [e1, e2]
  rfl

theorem carry_apply (t : Fin 16) : val_main_v45 (F := Ideal) G M (ix3 b j t) = (H Q G C N M b j).carry t := by
  have e1 := last_apply Q G C N M b j t
  have e2 := peak_apply Q G C N M b j t
  pointwise [val_main_v45, val_main_v44]
  rw [e1, e2]
  rfl

theorem score_apply (t s : Fin 16) : val_main_v47 (F := Ideal) Q G M (ix4 b j t s) = (H Q G C N M b j).score t s := by
  have e1 := q_apply Q G C N M b j t
  have e2 := k_apply Q G C N M b j s
  have e3 := weight_apply Q G C N M b j t s
  pointwise [val_main_v47, val_main_v46]
  rw [e3]
  simp only [e1, e2]
  rfl

theorem num_apply (t : Fin 16) (x : Fin 256) : val_main_v53 (F := Ideal) Q G C M (ix4 b j t x) = (H Q G C N M b j).num t x := by
  have e1 := score_apply Q G C N M b j t
  have e2 := v_apply Q G C N M b j
  have e3 := carry_apply Q G C N M b j t
  have e4 := q_apply Q G C N M b j t
  have e5 := c_apply Q G C N M b j x
  pointwise [val_main_v53, val_main_v52, val_main_v51, val_main_v49, val_main_v50, val_main_v48]
  rw [e3]
  simp only [e1, e2, e4, e5]
  rfl

theorem den_apply (t : Fin 16) : val_main_v61 (F := Ideal) Q G N M (ix3 b j t) = (H Q G C N M b j).den t := by
  have e1 := score_apply Q G C N M b j t
  have e2 := n_apply Q G C N M b j
  have e3 := carry_apply Q G C N M b j t
  have e4 := q_apply Q G C N M b j t
  have e5 := peak_apply Q G C N M b j t
  pointwise [val_main_v61, val_main_v60, val_main_v59, val_main_v58, val_main_v57, val_main_v56, val_main_v55, val_main_v54, val_main_cst_4]
  rw [e3, e5]
  simp only [e1, e2, e4, mul_comm ((H Q G C N M b j).n _)]
  rfl

theorem h_apply (t : Fin 16) (x : Fin 256) : val_main_v64 (F := Ideal) Q G C N M (ix4 b j t x) = (H Q G C N M b j).out t x := by
  have e1 := num_apply Q G C N M b j t x
  have e2 := den_apply Q G C N M b j t
  pointwise [val_main_v64, val_main_v63, val_main_v62]
  rw [e1, e2]
  rfl

theorem new_m_apply : val_main_v66 (F := Ideal) G M (ix2 b j) = (H Q G C N M b j).peak 15 := by
  have e1 := peak_apply Q G C N M b j 15
  pointwise [val_main_v66, val_main_v65]
  exact e1

theorem last_weight_apply (s : Fin 16) : val_main_v72 (F := Ideal) G M (ix3 b j s) = (H Q G C N M b j).weight 15 s := by
  have e1 := logit_apply Q G C N M b j 15 s
  have e2 := new_m_apply Q G C N M b j
  pointwise [val_main_v72, val_main_v71, val_main_v70, val_main_v69, val_main_v68, val_main_v67]
  rw [e2]
  exact congrArg (fun x : EReal => Ideal.exp (x - (H Q G C N M b j).peak 15)) e1

theorem last_carry_apply : val_main_v74 (F := Ideal) G M (ix2 b j) = (H Q G C N M b j).carry 15 := by
  have e1 := carry_apply Q G C N M b j 15
  pointwise [val_main_v74, val_main_v73]
  exact e1

theorem cell_apply (x e : Fin 256) : val_main_v82 (F := Ideal) Q G C M (ix4 b j x e) = (H Q G C N M b j).cell x e := by
  have e1 := last_carry_apply Q G C N M b j
  have e2 := last_weight_apply Q G C N M b j
  have e3 := v_apply Q G C N M b j
  have e4 := k_apply Q G C N M b j
  have e5 := c_apply Q G C N M b j x e
  pointwise [val_main_v82, val_main_v81, val_main_v80, val_main_v79, val_main_v78, val_main_v77, val_main_v76, val_main_v75]
  rw [e1, e5]
  simp only [e2, e3, e4]
  rfl

theorem norm_apply (e : Fin 256) : val_main_v87 (F := Ideal) Q G N M (ix3 b j e) = (H Q G C N M b j).norm e := by
  have e1 := last_carry_apply Q G C N M b j
  have e2 := last_weight_apply Q G C N M b j
  have e4 := k_apply Q G C N M b j
  have e5 := n_apply Q G C N M b j e
  pointwise [val_main_v87, val_main_v86, val_main_v85, val_main_v84, val_main_v83]
  rw [e1, e5]
  simp only [e2, e4]
  rfl

/-! ## The results -/

theorem ref_c : val_main_v82 (F := Ideal) Q G C M = Mlstm.resC Q G C N M := funext fun i => by
  obtain ⟨b, j, x, e, rfl⟩ : ∃ (b : Fin 8) (j : Fin 4) (x e : Fin 256), i = ix4 b j x e := ⟨i 0, i 1, i 2, i 3, by funext d; fin_cases d <;> rfl⟩
  exact cell_apply Q G C N M b j x e

theorem ref_n : val_main_v100 (F := Ideal) Q G N M = Mlstm.resN Q G C N M := funext fun i => by
  obtain ⟨b, j, x, e, rfl⟩ : ∃ (b : Fin 8) (j : Fin 4) (x : Fin 1) (e : Fin 256), i = ix4 b j x e := ⟨i 0, i 1, i 2, i 3, by funext d; fin_cases d <;> rfl⟩
  have e1 := norm_apply Q G C N M b j e
  pointwise [val_main_v100]
  exact e1

theorem ref_m : val_main_v102 (F := Ideal) G M = Mlstm.resM Q G C N M := funext fun i => by
  obtain ⟨b, j, x, e, rfl⟩ : ∃ (b : Fin 8) (j : Fin 4) (x : Fin 1) (e : Fin 128), i = ix4 b j x e := ⟨i 0, i 1, i 2, i 3, by funext d; fin_cases d <;> rfl⟩
  have e1 := new_m_apply Q G C N M b j
  pointwise [val_main_v102, val_main_v101]
  exact e1

theorem ref_h : val_main_v99 (F := Ideal) Q G C N M = Mlstm.resH Q G C N M := funext fun i => by
  obtain ⟨b, t, y, rfl⟩ : ∃ (b : Fin 8) (t : Fin 16) (y : Fin 1024), i = ix3 b t y := ⟨i 0, i 1, i 2, by funext d; fin_cases d <;> rfl⟩
  have e1 := h_apply Q G C N M b (Mlstm.hd y) t (Mlstm.ln y)
  pointwise [val_main_v99, val_main_v98, val_main_v97, val_main_call3_v5, val_main_call3_v4, val_main_call3_v3, val_main_call3_v2, val_main_call3_v1,
    val_main_call3_v0, val_main_call3_cst, val_main_call3_cst_0, val_main_v96, val_main_v95, val_main_v94, val_main_v93, val_main_v92, val_main_v91, val_main_v90,
    val_main_cst_5, val_main_cst_6, val_main_v89, val_main_v88, val_main_v4, val_main_v5, val_main_v0]
  have lane (s : Fin 5) (h : 1024 * s.val + y.val < 5120) : (⟨1024 * s.val + y.val, h⟩ : Fin 5120) = Mlstm.act s (Mlstm.hd y) (Mlstm.ln y) :=
    Fin.ext (by show 1024 * s.val + y.val = 1024 * s.val + (256 * (y.val / 256) + y.val % 256); omega)
  refine (congrArg (fun x : EReal => Mlstm.gated x _ _) e1).trans ?_
  exact congrArg₂ (fun l l' => Mlstm.gated _ (Q (ix3 b t l)) (Q (ix3 b t l'))) (lane 3 (by show 1024 * 3 + y.val < 5120; omega)) (lane 4 (by show 1024 * 4 + y.val < 5120; omega))

end Cert.RefMlstmIdeal.Head

end
-- ==== Proof.MlstmValue.lean ====
/- The mLSTM chunk's claims: the kernel and the reference give one set of four results, and each program leaves its arguments alone. -/
module

public import proofs.«01_k».proof.Proof.MlstmArr
public import proofs.«01_k».proof.Proof.MlstmRef
public import proofs.«01_k».proof.Proof.Gen.Mlstm.Frame
public import proofs.«01_k».proof.Defs

@[expose] public section

noncomputable section

namespace Cert.MlstmIdeal.Body

open Idealize.ShloMosaic Idealize.ShloMosaic.TcCoe Idealize.SL.Sem
open Cert.RefMlstmIdeal.Head Cert.RefMlstmIdeal.Read

theorem algebraic : Cert.algebraic_MlstmIdeal_RefMlstmIdeal := fun m g m' g' _ hagree =>
  ⟨fun c => vh m c, fun c => vc m c, fun c => vn m c, fun c => vm m c, run_value m g,
    (θ_run Cert.RefMlstmIdeal.defs _ _).mono (fun _ h c => by
      obtain ⟨h1, h2, h3, h4, h5⟩ := h c
      obtain ⟨a0, a1, a2, a3, a4⟩ := hagree c
      refine ⟨h1.trans ((val_main_v99_eq _ _).trans ?_), h2.trans ((val_main_v82_eq _ _).trans ?_),
        h3.trans ((val_main_v100_eq _ _).trans ?_), h4.trans ((val_main_v102_eq _ _).trans ?_), h5⟩
      · rw [a0, a1, a2, a3, a4]; exact ref_h _ _ _ _ _
      · rw [a0, a1, a2, a4]; exact ref_c _ _ _ (an m c) _
      · rw [a0, a1, a3, a4]; exact ref_n _ _ (ac m c) _ _
      · rw [a1, a4]; exact ref_m (aq m c) _ (ac m c) (an m c) _) (Cert.RefMlstmIdeal.Value.run (F := Ideal) m' g')⟩

theorem frame_kernel : Cert.quiescent_Mlstm := fun m ρ _ => Cert.Mlstm.Gen.frame (F := Bits) m ρ

theorem frame_ideal : Cert.quiescent_MlstmIdeal := fun m ρ _ => Cert.MlstmIdeal.Gen.frame (F := Ideal) m ρ

theorem frame_ref : Cert.quiescent_RefMlstmIdeal := fun m ρ _ =>
  (θ_run Cert.RefMlstmIdeal.defs _ _).mono (fun r h => ⟨fun c => (h c).2.2.2.2, sem_eq_zero_of_no_sems (by decide) r.2⟩)
    (Cert.RefMlstmIdeal.Value.run (F := Ideal) m ρ)

end Cert.MlstmIdeal.Body

end
-- ==== Proof.EvenOutBody.lean ====
/- The body of the even layer's out projection: both groups' streams plus their mixers' outputs times the two halves of the weight, and the next
   layer's norm of them, the second group at the first point, a block of the first group at each of the others. -/
module

public import proofs.«01_k».proof.Proof.Gen.EvenOutIdeal.Frame
public import proofs.«01_k».proof.Proof.Gen.EvenOutIdeal.Skeleton
public import proofs.«01_k».proof.Proof.Common
public import proofs.«01_k».proof.Proof.Tiles
public import Idealize.ShloMosaic.Lib.Claim

@[expose] public section

set_option maxRecDepth 16384

noncomputable section

namespace Cert.EvenOutIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.EvenOutIdeal.Gen

/-- What a buffer reads after its two groups of rows are stored. -/
theorem read_pair {sig : RefSig} {κ : Kind} {sp : Space} {e : EltTy} {Val : EltTy → Type} [∀ e, Nonempty (Val e)] {N n C : ℕ} (hN : N = 2 * n)
    (v : View sig κ sp (⟨2, ![N, C]⟩ : Shape) e) (f : v.ty.Contents Val) (g : Fin 2 → Fin 1 → (⟨2, ![n, C]⟩ : Shape).Idx → Val e) :
    v.read Val (v.writes Val f [Proj.tilePiece hN (Nat.one_mul C).symm g 1 0, Proj.tilePiece hN (Nat.one_mul C).symm g 0 0])
      = Proj.byTiles hN (Nat.one_mul C).symm g := by
  refine Proj.read_parts v f _ _ (fun p hp x => ?_) fun z => ?_
  · simp only [List.mem_cons, List.not_mem_nil, or_false] at hp
    rcases hp with rfl | rfl
    exacts [Proj.tilePiece_eq hN (Nat.one_mul C).symm g 1 0 x, Proj.tilePiece_eq hN (Nat.one_mul C).symm g 0 0 x]
  · obtain ⟨a, b, h⟩ := Proj.mem_tile hN (Nat.one_mul C).symm z
    refine ⟨Proj.tilePiece hN (Nat.one_mul C).symm g a b, ?_, h⟩
    fin_cases a <;> fin_cases b
    exacts [.tail _ (.head _), .head _]

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A group of 256 rows of a block of `C` columns. -/
abbrev part {α : Type} {C : ℕ} (x : (⟨2, ![512, C]⟩ : Shape).Idx → α) (a : Fin 2) : (⟨2, ![256, C]⟩ : Shape).Idx → α := fun j =>
  x ((Proj.tileRect (N := 512) (C := C) (n := 256) (k := C) (q := 2) (r := 1) rfl (Nat.one_mul C).symm a 0).toLoadRect.idx j)

/-- A block of the first group's stream, 256 rows at a time, and its norm. -/
def added (x : Vec F S512x2048 .f32) (a : Vec F S512x1024 .bf16) (w : Vec F S1024x2048 .bf16) (b : Vec F S512x1024 .bf16)
    (w' : Vec F S1024x2048 .bf16) : Vec F S512x2048 .f32 :=
  Proj.byTiles (N := 512) (C := 2048) (n := 256) (k := 2048) (q := 2) (r := 1) rfl (Nat.one_mul 2048).symm fun i _ =>
    k0_pay5 (part x i) (part a i) w (part b i) w'
def normed (x : Vec F S512x2048 .f32) (a : Vec F S512x1024 .bf16) (w : Vec F S1024x2048 .bf16) (b : Vec F S512x1024 .bf16)
    (w' : Vec F S1024x2048 .bf16) (g : Vec F S1x2048 .f32) : Vec F S512x2048 .bf16 :=
  Proj.byTiles (N := 512) (C := 2048) (n := 256) (k := 2048) (q := 2) (r := 1) rfl (Nat.one_mul 2048).symm fun i _ =>
    k0_pay6 (part x i) (part a i) w (part b i) w' g

/-- Both halves of a block are computed alike. -/
theorem pay3_eq : k0_pay3 (F := F) = k0_pay5 := rfl
theorem pay4_eq : k0_pay4 (F := F) = k0_pay6 := rfl

/-- The second group's results, at the first point. -/
theorem run_first (c : Dev nD) (i : grid0.Coords)
    (arg1 : Memref sig .tc .vmem S512x1024 .bf16) (harg1 : arg1.IsWhole) (arg2 : Memref sig .tc .vmem S512x1024 .bf16) (harg2 : arg2.IsWhole)
    (arg3 : Memref sig .tc .vmem S1024x2048 .bf16) (harg3 : arg3.IsWhole) (arg4 : Memref sig .tc .vmem S1024x2048 .bf16) (harg4 : arg4.IsWhole)
    (arg5 : Memref sig .tc .vmem S512x2048 .f32) (harg5 : arg5.IsWhole) (arg6 : Memref sig .tc .vmem S1x2048 .f32) (harg6 : arg6.IsWhole)
    (arg7 : Memref sig .tc .vmem S64x1024 .bf16) (harg7 : arg7.IsWhole) (arg8 : Memref sig .tc .vmem S64x1024 .f32) (harg8 : arg8.IsWhole)
    (arg9 : Memref sig .tc .vmem S64x2048 .f32) (harg9 : arg9.IsWhole) (arg10 : Memref sig .tc .vmem S512x2048 .f32) (harg10 : arg10.IsWhole)
    (arg11 : Memref sig .tc .vmem S512x2048 .bf16) (harg11 : arg11.IsWhole) (arg12 : Memref sig .tc .vmem S64x2048 .f32) (harg12 : arg12.IsWhole)
    (arg13 : Memref sig .tc .vmem S64x2048 .bf16) (harg13 : arg13.IsWhole)
    (hc1 : k0_cond1 i = 1#1) (hc2 : ¬ k0_cond2 i = 1#1)
    (w w' : Vec F S1024x2048 .bf16) (g : Vec F S1x2048 .f32) (a : Vec F S64x1024 .bf16) (b : Vec F S64x1024 .f32) (x : Vec F S64x2048 .f32) (E : Set ℕ) (K : PUnit → sProp 𝕄) :
    iprop(owns (c : Thread nD τ) arg3 fullShare w ∗ owns (c : Thread nD τ) arg4 fullShare w' ∗ owns (c : Thread nD τ) arg6 fullShare g
        ∗ owns (c : Thread nD τ) arg7 fullShare a ∗ owns (c : Thread nD τ) arg8 fullShare b ∗ owns (c : Thread nD τ) arg9 fullShare x
        ∗ (∃ d, owns (c : Thread nD τ) arg12 fullShare d) ∗ (∃ d, owns (c : Thread nD τ) arg13 fullShare d)
        ∗ (iprop(owns (c : Thread nD τ) arg3 fullShare w ∗ owns (c : Thread nD τ) arg4 fullShare w' ∗ owns (c : Thread nD τ) arg6 fullShare g
            ∗ owns (c : Thread nD τ) arg7 fullShare a ∗ owns (c : Thread nD τ) arg8 fullShare b ∗ owns (c : Thread nD τ) arg9 fullShare x
            ∗ owns (c : Thread nD τ) arg12 fullShare (k0_pay1 x a w b w') ∗ owns (c : Thread nD τ) arg13 fullShare (k0_pay2 x a w b w' g)) -∗ K ⟨⟩))
      ⊢ wp frame (wpE (defs₀ (F := F)) Variants.none c none) E (cc0_out_proj_norm i arg1 harg1 arg2 harg2 arg3 harg3 arg4 harg4
          arg5 harg5 arg6 harg6 arg7 harg7 arg8 harg8 arg9 harg9 arg10 harg10 arg11 harg11 arg12 harg12 arg13 harg13) K := by
  simp only [cc0_out_proj_norm_eq_skeleton]; unfold cc0_out_proj_norm_skel
  unfold owns
  iintro ⟨⟨%f3, %hf3, H3⟩, ⟨%f4, %hf4, H4⟩, ⟨%f6, %hf6, H6⟩, ⟨%f7, %hf7, H7⟩, ⟨%f8, %hf8, H8⟩, ⟨%f9, %hf9, H9⟩, ⟨%d12, %f12, -, H12⟩, ⟨%d13, %f13, -, H13⟩, Hk⟩
  sl_exec (disch := first | sl_exact hc1 | sl_exact hc2)
  sl_step
  iapply Hk
  isplitl [H3]
  · iexists _; isplitr; · ipureintro; exact hf3
    iexact H3
  isplitl [H4]
  · iexists _; isplitr; · ipureintro; exact hf4
    iexact H4
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H12]
  · iexists _; isplitr; swap; · iexact H12
    ipureintro
    sl_unfold_run_names
    rw [Proj.read_stored _ _ Proj.off0, Proj.load_whole hf3 Proj.off0, Proj.load_whole hf4 Proj.off0, Proj.load_whole hf7 Proj.off0,
      Proj.load_whole hf8 Proj.off0, Proj.load_whole hf9 Proj.off0]
  iexists _; isplitr; swap; · iexact H13
  ipureintro
  sl_unfold_run_names
  rw [Proj.read_stored _ _ Proj.off0, Proj.load_whole hf3 Proj.off0, Proj.load_whole hf4 Proj.off0, Proj.load_whole hf6 Proj.off0,
    Proj.load_whole hf7 Proj.off0, Proj.load_whole hf8 Proj.off0, Proj.load_whole hf9 Proj.off0]

set_option maxHeartbeats 4000000 in
/-- The body past the first point: the first group's blocks. -/
theorem run_rest (c : Dev nD) (i : grid0.Coords)
    (arg1 : Memref sig .tc .vmem S512x1024 .bf16) (harg1 : arg1.IsWhole) (arg2 : Memref sig .tc .vmem S512x1024 .bf16) (harg2 : arg2.IsWhole)
    (arg3 : Memref sig .tc .vmem S1024x2048 .bf16) (harg3 : arg3.IsWhole) (arg4 : Memref sig .tc .vmem S1024x2048 .bf16) (harg4 : arg4.IsWhole)
    (arg5 : Memref sig .tc .vmem S512x2048 .f32) (harg5 : arg5.IsWhole) (arg6 : Memref sig .tc .vmem S1x2048 .f32) (harg6 : arg6.IsWhole)
    (arg7 : Memref sig .tc .vmem S64x1024 .bf16) (harg7 : arg7.IsWhole) (arg8 : Memref sig .tc .vmem S64x1024 .f32) (harg8 : arg8.IsWhole)
    (arg9 : Memref sig .tc .vmem S64x2048 .f32) (harg9 : arg9.IsWhole) (arg10 : Memref sig .tc .vmem S512x2048 .f32) (harg10 : arg10.IsWhole)
    (arg11 : Memref sig .tc .vmem S512x2048 .bf16) (harg11 : arg11.IsWhole) (arg12 : Memref sig .tc .vmem S64x2048 .f32) (harg12 : arg12.IsWhole)
    (arg13 : Memref sig .tc .vmem S64x2048 .bf16) (harg13 : arg13.IsWhole)
    (hc1 : ¬ k0_cond1 i = 1#1) (hc2 : k0_cond2 i = 1#1)
    (a b : Vec F S512x1024 .bf16) (w w' : Vec F S1024x2048 .bf16) (x : Vec F S512x2048 .f32) (g : Vec F S1x2048 .f32) (E : Set ℕ) (K : PUnit → sProp 𝕄) :
    iprop(owns (c : Thread nD τ) arg1 fullShare a ∗ owns (c : Thread nD τ) arg2 fullShare b ∗ owns (c : Thread nD τ) arg3 fullShare w
        ∗ owns (c : Thread nD τ) arg4 fullShare w' ∗ owns (c : Thread nD τ) arg5 fullShare x ∗ owns (c : Thread nD τ) arg6 fullShare g
        ∗ (∃ d, owns (c : Thread nD τ) arg10 fullShare d) ∗ (∃ d, owns (c : Thread nD τ) arg11 fullShare d)
        ∗ (iprop(owns (c : Thread nD τ) arg1 fullShare a ∗ owns (c : Thread nD τ) arg2 fullShare b ∗ owns (c : Thread nD τ) arg3 fullShare w
            ∗ owns (c : Thread nD τ) arg4 fullShare w' ∗ owns (c : Thread nD τ) arg5 fullShare x ∗ owns (c : Thread nD τ) arg6 fullShare g
            ∗ owns (c : Thread nD τ) arg10 fullShare (added x a w b w') ∗ owns (c : Thread nD τ) arg11 fullShare (normed x a w b w' g)) -∗ K ⟨⟩))
      ⊢ wp frame (wpE (defs₀ (F := F)) Variants.none c none) E (cc0_out_proj_norm i arg1 harg1 arg2 harg2 arg3 harg3 arg4 harg4
          arg5 harg5 arg6 harg6 arg7 harg7 arg8 harg8 arg9 harg9 arg10 harg10 arg11 harg11 arg12 harg12 arg13 harg13) K := by
  simp only [cc0_out_proj_norm_eq_skeleton]; unfold cc0_out_proj_norm_skel
  simp only [k0_part1_eq_skeleton]; unfold k0_part1_skel owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d10, %f10, -, H10⟩, ⟨%d11, %f11, -, H11⟩, Hk⟩
  sl_exec (disch := first | sl_exact hc1 | sl_exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  subst hf1 hf2 hf3 hf4 hf5 hf6
  have e3 : arg3.view.readAt (Elt F) (Rect.unit ![0, 0] S1024x2048.size inb_S1024x2048_S1024x2048_0_0).toLoadRect f3
      = arg3.view.read (Elt F) f3 := Proj.load_whole rfl Proj.off0 _
  have e4 : arg4.view.readAt (Elt F) (Rect.unit ![0, 0] S1024x2048.size inb_S1024x2048_S1024x2048_0_0).toLoadRect f4
      = arg4.view.read (Elt F) f4 := Proj.load_whole rfl Proj.off0 _
  have e6 : arg6.view.readAt (Elt F) (Rect.unit ![0, 0] S1x2048.size inb_S1x2048_S1x2048_0_0).toLoadRect f6
      = arg6.view.read (Elt F) f6 := Proj.load_whole rfl Proj.off0 _
  isplitl [H10]
  · iexists _; isplitr; swap; · iexact H10
    ipureintro
    sl_unfold_run_names
    simp only [e3, e4, pay3_eq]
    exact read_pair (N := 512) (n := 256) (C := 2048) rfl arg10.view f10 fun i _ => k0_pay5 (part (arg5.view.read (Elt F) f5) i)
      (part (arg1.view.read (Elt F) f1) i) (arg3.view.read (Elt F) f3) (part (arg2.view.read (Elt F) f2) i) (arg4.view.read (Elt F) f4)
  iexists _; isplitr; swap; · iexact H11
  ipureintro
  sl_unfold_run_names
  simp only [e3, e4, e6, pay4_eq]
  exact read_pair (N := 512) (n := 256) (C := 2048) rfl arg11.view f11 fun i _ => k0_pay6 (part (arg5.view.read (Elt F) f5) i)
    (part (arg1.view.read (Elt F) f1) i) (arg3.view.read (Elt F) f3) (part (arg2.view.read (Elt F) f2) i) (arg4.view.read (Elt F) f4)
    (arg6.view.read (Elt F) f6)

/-! ## The schedule -/

theorem N_eq : cfg0.N = 17 := N_0

/-- The second group is done at the first point, the first group at the others. -/
theorem conds : ∀ t : Fin cfg0.N, (k0_cond1 (grid0.coords t) = 1#1 ↔ t.val % 17 = 0) ∧ (k0_cond2 (grid0.coords t) = 1#1 ↔ ¬ t.val % 17 = 0) :=
  (by decide +kernel : ∀ t : Fin grid0.N, (k0_cond1 (grid0.coords t) = 1#1 ↔ t.val % 17 = 0) ∧ (k0_cond2 (grid0.coords t) = 1#1 ↔ ¬ t.val % 17 = 0))

theorem index2 : ∀ t : Fin cfg0.N, (cfg0.win 2).index t = ![0, 0] :=
  (by decide +kernel : ∀ t : Fin grid0.N, win0_2.index t = ![0, 0])
theorem index3 : ∀ t : Fin cfg0.N, (cfg0.win 3).index t = ![0, 0] :=
  (by decide +kernel : ∀ t : Fin grid0.N, win0_3.index t = ![0, 0])
theorem index5 : ∀ t : Fin cfg0.N, (cfg0.win 5).index t = ![0, 0] :=
  (by decide +kernel : ∀ t : Fin grid0.N, win0_5.index t = ![0, 0])
theorem index6 : ∀ t : Fin cfg0.N, (cfg0.win 6).index t = ![0, 0] :=
  (by decide +kernel : ∀ t : Fin grid0.N, win0_6.index t = ![0, 0])
theorem index7 : ∀ t : Fin cfg0.N, (cfg0.win 7).index t = ![0, 0] :=
  (by decide +kernel : ∀ t : Fin grid0.N, win0_7.index t = ![0, 0])
theorem index8 : ∀ t : Fin cfg0.N, (cfg0.win 8).index t = ![0, 0] :=
  (by decide +kernel : ∀ t : Fin grid0.N, win0_8.index t = ![0, 0])

/-- The weight's halves, the gain and the second group's blocks do not move. -/
theorem iblk2_eq (c : Dev nD) (t t' : Fin cfg0.N) : (iblk m c 2 t : Vec F S1024x2048 .bf16) = iblk m c 2 t' :=
  funext fun y => congrArg (V m c (Pipeline.arrRef spec0 2)) (funext fun a => Fin.ext (by
    refine (win0_2.rect_emb_val_off t y a).trans (Eq.trans ?_ (win0_2.rect_emb_val_off t' y a).symm)
    rw [show win0_2.index t = _ from index2 t, show win0_2.index t' = _ from index2 t']))
theorem iblk3_eq (c : Dev nD) (t t' : Fin cfg0.N) : (iblk m c 3 t : Vec F S1024x2048 .bf16) = iblk m c 3 t' :=
  funext fun y => congrArg (V m c (Pipeline.arrRef spec0 3)) (funext fun a => Fin.ext (by
    refine (win0_3.rect_emb_val_off t y a).trans (Eq.trans ?_ (win0_3.rect_emb_val_off t' y a).symm)
    rw [show win0_3.index t = _ from index3 t, show win0_3.index t' = _ from index3 t']))
theorem iblk5_eq (c : Dev nD) (t t' : Fin cfg0.N) : (iblk m c 5 t : Vec F S1x2048 .f32) = iblk m c 5 t' :=
  funext fun y => congrArg (V m c (Pipeline.arrRef spec0 5)) (funext fun a => Fin.ext (by
    refine (win0_5.rect_emb_val_off t y a).trans (Eq.trans ?_ (win0_5.rect_emb_val_off t' y a).symm)
    rw [show win0_5.index t = _ from index5 t, show win0_5.index t' = _ from index5 t']))
theorem iblk6_eq (c : Dev nD) (t t' : Fin cfg0.N) : (iblk m c 6 t : Vec F S64x1024 .bf16) = iblk m c 6 t' :=
  funext fun y => congrArg (V m c (Pipeline.arrRef spec0 6)) (funext fun a => Fin.ext (by
    refine (win0_6.rect_emb_val_off t y a).trans (Eq.trans ?_ (win0_6.rect_emb_val_off t' y a).symm)
    rw [show win0_6.index t = _ from index6 t, show win0_6.index t' = _ from index6 t']))
theorem iblk7_eq (c : Dev nD) (t t' : Fin cfg0.N) : (iblk m c 7 t : Vec F S64x1024 .f32) = iblk m c 7 t' :=
  funext fun y => congrArg (V m c (Pipeline.arrRef spec0 7)) (funext fun a => Fin.ext (by
    refine (win0_7.rect_emb_val_off t y a).trans (Eq.trans ?_ (win0_7.rect_emb_val_off t' y a).symm)
    rw [show win0_7.index t = _ from index7 t, show win0_7.index t' = _ from index7 t']))
theorem iblk8_eq (c : Dev nD) (t t' : Fin cfg0.N) : (iblk m c 8 t : Vec F S64x2048 .f32) = iblk m c 8 t' :=
  funext fun y => congrArg (V m c (Pipeline.arrRef spec0 8)) (funext fun a => Fin.ext (by
    refine (win0_8.rect_emb_val_off t y a).trans (Eq.trans ?_ (win0_8.rect_emb_val_off t' y a).symm)
    rw [show win0_8.index t = _ from index8 t, show win0_8.index t' = _ from index8 t']))

/-! ## The proof data -/

/-- The two groups' results at point `t`. -/
def addP (c : Dev nD) (t : Fin cfg0.N) : Vec F S512x2048 .f32 :=
  added (iblk m c 4 t) (iblk m c 0 t) (iblk m c 2 t) (iblk m c 1 t) (iblk m c 3 t)
def normP (c : Dev nD) (t : Fin cfg0.N) : Vec F S512x2048 .bf16 :=
  normed (iblk m c 4 t) (iblk m c 0 t) (iblk m c 2 t) (iblk m c 1 t) (iblk m c 3 t) (iblk m c 5 t)
def addS (c : Dev nD) (t : Fin cfg0.N) : Vec F S64x2048 .f32 :=
  k0_pay1 (iblk m c 8 t) (iblk m c 6 t) (iblk m c 2 t) (iblk m c 7 t) (iblk m c 3 t)
def normS (c : Dev nD) (t : Fin cfg0.N) : Vec F S64x2048 .bf16 :=
  k0_pay2 (iblk m c 8 t) (iblk m c 6 t) (iblk m c 2 t) (iblk m c 7 t) (iblk m c 3 t) (iblk m c 5 t)

/-- What the pipeline's proof says: every input's buffer keeps its block, the results' buffers hold the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => addP m c t
    | ⟨10, _⟩ => normP m c t
    | ⟨11, _⟩ => addS m c t
    | ⟨12, _⟩ => normS m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = addP m c t := by dsimp only [dats]
theorem after_10 (c : Dev nD) (t : Fin cfg0.N) : (dats m 0 c).after 10 t = normP m c t := by dsimp only [dats]
theorem after_11 (c : Dev nD) (t : Fin cfg0.N) : (dats m 0 c).after 11 t = addS m c t := by dsimp only [dats]
theorem after_12 (c : Dev nD) (t : Fin cfg0.N) : (dats m 0 c).after 12 t = normS m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The first group's windows are left alone at the first point, the second group's at the others. -/
theorem idles (t : Fin cfg0.N) : cfg0.idle 9 (grid0.coords t) = decide (t.val % 17 = 0) ∧ cfg0.idle 10 (grid0.coords t) = decide (t.val % 17 = 0)
    ∧ cfg0.idle 11 (grid0.coords t) = !decide (t.val % 17 = 0) ∧ cfg0.idle 12 (grid0.coords t) = !decide (t.val % 17 = 0) :=
  (by decide +kernel : ∀ t : Fin grid0.N, idle0 9 (grid0.coords t) = decide (t.val % 17 = 0) ∧ idle0 10 (grid0.coords t) = decide (t.val % 17 = 0)
    ∧ idle0 11 (grid0.coords t) = !decide (t.val % 17 = 0) ∧ idle0 12 (grid0.coords t) = !decide (t.val % 17 = 0)) t
theorem flushes (t : Fin cfg0.N) : (cfg0.win 9).flush t = !decide (t.val % 17 = 0) ∧ (cfg0.win 10).flush t = !decide (t.val % 17 = 0)
    ∧ (cfg0.win 11).flush t = decide (t.val % 17 = 16) ∧ (cfg0.win 12).flush t = decide (t.val % 17 = 16) :=
  (by decide +kernel : ∀ t : Fin grid0.N, win0_9.flush t = !decide (t.val % 17 = 0) ∧ win0_10.flush t = !decide (t.val % 17 = 0)
    ∧ win0_11.flush t = decide (t.val % 17 = 16) ∧ win0_12.flush t = decide (t.val % 17 = 16)) t

/-- Past the first point the second group's windows hold their results: they hold nothing of the body's only before it. -/
theorem fresh_tail (w : Fin cfg0.W) (hi : ∀ t : Fin cfg0.N, cfg0.idle w (grid0.coords t) = !decide (t.val % 17 = 0))
    (hf : ∀ t : Fin cfg0.N, (cfg0.win w).flush t = decide (t.val % 17 = 16)) (t : Fin cfg0.N) : cfg0.fresh w t.val = decide (t.val % 17 = 0) :=
  cfg0.fresh_tab w (fun n => decide (n % 17 = 0)) rfl (fun t => by
    rw [hi, hf]
    by_cases h : t.val % 17 = 0 <;> simp [h] <;> omega) t.val t.isLt.le

theorem before_tail (c : Dev nD) (w : Fin cfg0.W) (hw : (cfg0.win w).isOut = true) (hc : ∀ i a, (cfg0.win w).clip i a = none)
    (hi : ∀ t : Fin cfg0.N, cfg0.idle w (grid0.coords t) = !decide (t.val % 17 = 0))
    (hf : ∀ t : Fin cfg0.N, (cfg0.win w).flush t = decide (t.val % 17 = 16)) (carry : ∀ t t', (dats m 0 c).after w t = (dats m 0 c).after w t')
    (t : Fin cfg0.N) (h : ¬ t.val % 17 = 0) (d) : (dats m 0 c).before w t d = (dats m 0 c).after w t := by
  rw [(dats m 0 c).before_out_traj w hw hc (fun t _ _ _ => carry t _) t.val t rfl d, fresh_tail w hi hf, if_neg (by simpa using h)]
  exact carry _ _

theorem before_11 (c : Dev nD) (t : Fin cfg0.N) (h : ¬ t.val % 17 = 0) (d) : (dats m 0 c).before 11 t d = addS m c t :=
  (before_tail m c 11 rfl (fun _ _ => rfl) (fun t => (idles t).2.2.1) (fun t => (flushes t).2.2.1)
    (fun t t' => by rw [after_11, after_11, addS, addS, iblk8_eq m c t t', iblk6_eq m c t t', iblk2_eq m c t t', iblk7_eq m c t t',
      iblk3_eq m c t t']) t h d).trans (after_11 m c t)
theorem before_12 (c : Dev nD) (t : Fin cfg0.N) (h : ¬ t.val % 17 = 0) (d) : (dats m 0 c).before 12 t d = normS m c t :=
  (before_tail m c 12 rfl (fun _ _ => rfl) (fun t => (idles t).2.2.2) (fun t => (flushes t).2.2.2)
    (fun t t' => by rw [after_12, after_12, normS, normS, iblk8_eq m c t t', iblk6_eq m c t t', iblk2_eq m c t t', iblk7_eq m c t t',
      iblk3_eq m c t t', iblk5_eq m c t t']) t h d).trans (after_12 m c t)

/-! ## The body obligation -/

abbrev ms0 (t : Fin cfg0.N) : Memref sig .tc .vmem S512x1024 .bf16 := win0_0.stage (cfg0.slots t 0)
abbrev ms1 (t : Fin cfg0.N) : Memref sig .tc .vmem S512x1024 .bf16 := win0_1.stage (cfg0.slots t 1)
abbrev ms2 (t : Fin cfg0.N) : Memref sig .tc .vmem S1024x2048 .bf16 := win0_2.stage (cfg0.slots t 2)
abbrev ms3 (t : Fin cfg0.N) : Memref sig .tc .vmem S1024x2048 .bf16 := win0_3.stage (cfg0.slots t 3)
abbrev ms4 (t : Fin cfg0.N) : Memref sig .tc .vmem S512x2048 .f32 := win0_4.stage (cfg0.slots t 4)
abbrev ms5 (t : Fin cfg0.N) : Memref sig .tc .vmem S1x2048 .f32 := win0_5.stage (cfg0.slots t 5)
abbrev ms6 (t : Fin cfg0.N) : Memref sig .tc .vmem S64x1024 .bf16 := win0_6.stage (cfg0.slots t 6)
abbrev ms7 (t : Fin cfg0.N) : Memref sig .tc .vmem S64x1024 .f32 := win0_7.stage (cfg0.slots t 7)
abbrev ms8 (t : Fin cfg0.N) : Memref sig .tc .vmem S64x2048 .f32 := win0_8.stage (cfg0.slots t 8)
abbrev ms9 (t : Fin cfg0.N) : Memref sig .tc .vmem S512x2048 .f32 := win0_9.stage (cfg0.slots t 9)
abbrev ms10 (t : Fin cfg0.N) : Memref sig .tc .vmem S512x2048 .bf16 := win0_10.stage (cfg0.slots t 10)
abbrev ms11 (t : Fin cfg0.N) : Memref sig .tc .vmem S64x2048 .f32 := win0_11.stage (cfg0.slots t 11)
abbrev ms12 (t : Fin cfg0.N) : Memref sig .tc .vmem S64x2048 .bf16 := win0_12.stage (cfg0.slots t 12)

/-- What the body is handed at point `t`, window by window. -/
def bodyPre (c : Dev nD) (t : Fin cfg0.N) : sProp 𝕄 :=
  iprop(Pipeline.ΦA spec0 c ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- What it leaves there. -/
def bodyPost (c : Dev nD) (t : Fin cfg0.N) : sProp 𝕄 :=
  iprop(Pipeline.ΦA spec0 c ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t ∗ (dats m 0 c).leavesExact 11 t
    ∗ (dats m 0 c).leavesExact 12 t)

theorem leaves_in {c : Dev nD} (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_in m 0 t rfl, leaves_in m 1 t rfl, leaves_in m 2 t rfl, leaves_in m 3 t rfl, leaves_in m 4 t rfl, leaves_in m 5 t rfl, leaves_in m 6 t rfl, leaves_in m 7 t rfl, leaves_in m 8 t rfl,
    after_0, after_1, after_2, after_3, after_4, after_5, after_6, after_7, after_8]
  simp only [before_0, before_1, before_2, before_3, before_4, before_5, before_6, before_7, before_8]
  rw [show (dats m 0 c).owesAt () t.succ = (dats m 0 c).owesAt () t.castSucc from rfl]
  obtain ⟨i9, i10, i11, i12⟩ := idles t
  obtain ⟨u9, u10, -, -⟩ := flushes t
  by_cases h : t.val % 17 = 0
  · rw [leaves_in m 11 t (by rw [i11]; simp [h]), after_11, leaves_in m 12 t (by rw [i12]; simp [h]), after_12,
      (dats m 0 c).leavesExact_idle 9 t (by rw [i9]; simp [h]) (by rw [u9]; simp [h]),
      (dats m 0 c).leavesExact_idle 10 t (by rw [i10]; simp [h]) (by rw [u10]; simp [h])]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, ⟨%d11, H11⟩, ⟨%d12, H12⟩⟩
    iapply (run_first c (grid0.coords t) _ _ _ _ _ _ _ _ _ _ _ _ _ _ _ _ _ _ _ _ _ _ _ _ _ _
      ((conds t).1.mpr h) (fun h' => (conds t).2.mp h' h) (iblk m c 2 t) (iblk m c 3 t) (iblk m c 5 t) (iblk m c 6 t) (iblk m c 7 t)
      (iblk m c 8 t) Set.univ _)
    isplitl [H2]; · iexact H2
    isplitl [H3]; · iexact H3
    isplitl [H5]; · iexact H5
    isplitl [H6]; · iexact H6
    isplitl [H7]; · iexact H7
    isplitl [H8]; · iexact H8
    isplitl [H11]; · iexists _; iexact H11
    isplitl [H12]; · iexists _; iexact H12
    iintro ⟨H2, H3, H5, H6, H7, H8, H11, H12⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [leaves_in m 9 t (by rw [i9]; simp [h]), after_9, leaves_in m 10 t (by rw [i10]; simp [h]), after_10]
    simp only [before_11 m c t h, before_12 m c t h]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_rest c (grid0.coords t) _ _ _ _ _ _ _ _ _ _ _ _ _ _ _ _ _ _ _ _ _ _ _ _ _ _
      (fun h' => h ((conds t).1.mp h')) ((conds t).2.mpr h) (iblk m c 0 t) (iblk m c 1 t) (iblk m c 2 t) (iblk m c 3 t) (iblk m c 4 t)
      (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H9]; · iexists _; iexact H9
    isplitl [H10]; · iexists _; iexact H10
    iintro ⟨H0, H1, H2, H3, H4, H5, H9, H10⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iapply (Proj.leaves_kept (dats m 0 c) 11 t _ (before_11 m c t h) ((after_11 m c t).symm))
      iexact H11
    iapply (Proj.leaves_kept (dats m 0 c) 12 t _ (before_12 m c t h) ((after_12 m c t).symm))
    iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.EvenOutIdeal.Body

end
-- ==== Proof.EvenOutValue.lean ====
/- What the even layer's out projection computes: each group's results are the stream plus its mixers' outputs, side by side, times the layer's
   weight, and the next layer's norm of that, as the reference's. The weight is given in two halves, of the first mixer's columns and the second's. -/
module

public import proofs.«01_k».proof.Proof.EvenOutBody
public import proofs.«01_k».proof.Proof.Act
public import proofs.«01_k».proof.Proof.Gen.EvenOut
public import proofs.«01_k».proof.Proof.Gen.RefEvenOutIdeal.Run
public import proofs.«01_k».proof.Proof.Gen.RefEvenOutIdeal.Read
public import proofs.«01_k».proof.Defs

@[expose] public section

set_option maxRecDepth 16384

noncomputable section

namespace Cert.EvenOutIdeal.Body

open Idealize.ShloMosaic Idealize.ShloMosaic.TcCoe Idealize.ShloMosaic.ValueIdx Idealize.SL.Sem
open Idealize.ShloMosaic.Pipeline (Dat Cfg Window)
open Cert.EvenOutIdeal.Gen

/-! ## The values -/

section Values

variable {R : ℕ} (X : (⟨2, ![R, 2048]⟩ : Shape).Idx → EReal) (A B : (⟨2, ![R, 1024]⟩ : Shape).Idx → EReal)
  (W : (⟨3, ![1, 2048, 2048]⟩ : Shape).Idx → EReal) (G : (⟨2, ![1, 2048]⟩ : Shape).Idx → EReal)

/-- The two mixers' outputs side by side. -/
def side : (⟨2, ![R, 2048]⟩ : Shape).Idx → EReal := fun i =>
  if (i 1).val / 1024 = 0 then A (ix2 (i 0) ⟨(i 1).val % 1024, Nat.mod_lt _ (by decide)⟩) else B (ix2 (i 0) ⟨(i 1).val % 1024, Nat.mod_lt _ (by decide)⟩)

/-- The stream with their product added. -/
def total (r : Fin R) (n : Fin 2048) : EReal := X (ix2 r n) + Proj.inner (side A B) W r n

/-- The two results of a group. -/
def outA : FVec Ideal ⟨2, ![R, 2048]⟩ .f32 := fun i => total X A B W (i 0) (i 1)
def outN : FVec Ideal ⟨2, ![R, 2048]⟩ .bf16 := fun i => Proj.rms (total X A B W (i 0)) (G (ix2 (0 : Fin 1) (i 1))) (i 1)

/-- A row of the weight's halves. -/
abbrev up (k : Fin 1024) : Fin 2048 := ⟨k.val, by omega⟩
abbrev down (k : Fin 1024) : Fin 2048 := ⟨1024 + k.val, by omega⟩

/-- The product is the sum of the halves' products. -/
theorem inner_side (r : Fin R) (n : Fin 2048) : Proj.inner (side A B) W r n
    = (∑ k : Fin 1024, A (ix2 r k) * W (ix3 (0 : Fin 1) (up k) n)) + ∑ k : Fin 1024, B (ix2 r k) * W (ix3 (0 : Fin 1) (down k) n) := by
  refine (Fin.sum_univ_add (a := 1024) (b := 1024) fun k : Fin (1024 + 1024) => side A B (ix2 r k) * W (ix3 (0 : Fin 1) k n)).trans
    (congrArg₂ (fun x y : EReal => x + y) (Finset.sum_congr rfl fun k _ => ?_) (Finset.sum_congr rfl fun k _ => ?_))
  · refine congrArg (fun x : EReal => x * W (ix3 (0 : Fin 1) (up k) n)) ((if_pos (Nat.div_eq_of_lt k.isLt)).trans ?_)
    exact congrArg (fun j => A (ix2 r j)) (Fin.ext (Nat.mod_eq_of_lt k.isLt))
  · have h1 : (1024 + k.val) / 1024 = 1 := by omega
    have h2 : (1024 + k.val) % 1024 = k.val := by omega
    refine congrArg (fun x : EReal => x * W (ix3 (0 : Fin 1) (down k) n)) ((if_neg (by show ¬ (1024 + k.val) / 1024 = 0; omega)).trans ?_)
    exact congrArg (fun j => B (ix2 r j)) (Fin.ext h2)

/-- The stream with the halves' products added one after the other, read from rows of the whole. -/
theorem added_apply {M : ℕ} (x : FVec Ideal ⟨2, ![M, 2048]⟩ .f32) (a b : FVec Ideal ⟨2, ![M, 1024]⟩ .bf16) (w w' : FVec Ideal ⟨2, ![1024, 2048]⟩ .bf16)
    (p : Fin M) (r : Fin R) (n : Fin 2048) (hx : x (ix2 p n) = X (ix2 r n)) (ha : ∀ k, a (ix2 p k) = A (ix2 r k)) (hb : ∀ k, b (ix2 p k) = B (ix2 r k))
    (hw : ∀ k, w (ix2 k n) = W (ix3 (0 : Fin 1) (up k) n)) (hw' : ∀ k, w' (ix2 k n) = W (ix3 (0 : Fin 1) (down k) n)) :
    addf (addf x (matmul (DotDims.plain M 1024 2048) none a w (constant (F := Ideal) ⟨2, ![M, 2048]⟩ .f32 0x00000000#32)))
      (matmul (DotDims.plain M 1024 2048) none b w' (constant (F := Ideal) ⟨2, ![M, 2048]⟩ .f32 0x00000000#32)) (ix2 p n) = total X A B W r n := by
  have key : ∀ (y : FVec Ideal ⟨2, ![M, 1024]⟩ .bf16) (v : FVec Ideal ⟨2, ![1024, 2048]⟩ .bf16),
      matmul (DotDims.plain M 1024 2048) none y v (constant (F := Ideal) ⟨2, ![M, 2048]⟩ .f32 0x00000000#32) (ix2 p n)
        = ∑ k : Fin 1024, y (ix2 p k) * v (ix2 k n) := fun y v => by
    refine (Ideal.matmul_plain_apply none y v _ p n).trans ?_
    rw [constant_apply, Ideal.ofBits_zero_f32, zero_add]
  refine (congrArg₂ (fun s t : EReal => s + t) (congrArg₂ (fun s t : EReal => s + t) hx (key a w)) (key b w')).trans ?_
  unfold total
  rw [inner_side, ← add_assoc]
  exact congrArg₂ (fun s t : EReal => s + t) (congrArg (fun s : EReal => X (ix2 r n) + s)
    (Finset.sum_congr rfl fun k _ => by rw [ha, hw])) (Finset.sum_congr rfl fun k _ => by rw [hb, hw'])

end Values

variable (m : (ℓ : Loc nD τ sig) → Buf (Elt Ideal) ℓ) (ρ : Dev nD → PrngReg)

/-- The launch contents of the arguments. -/
abbrev ap (c : Dev nD) : FVec Ideal S8192x1024 .bf16 := m ((c.tc : Thread nD τ).loc main_arg0)
abbrev bp (c : Dev nD) : FVec Ideal S8192x1024 .bf16 := m ((c.tc : Thread nD τ).loc main_arg1)
abbrev sa (c : Dev nD) : FVec Ideal S64x1024 .bf16 := m ((c.tc : Thread nD τ).loc main_arg2)
abbrev sb (c : Dev nD) : FVec Ideal S64x1024 .f32 := m ((c.tc : Thread nD τ).loc main_arg3)
abbrev xp (c : Dev nD) : FVec Ideal S8192x2048 .f32 := m ((c.tc : Thread nD τ).loc main_arg4)
abbrev xs (c : Dev nD) : FVec Ideal S64x2048 .f32 := m ((c.tc : Thread nD τ).loc main_arg5)
abbrev wt (c : Dev nD) : FVec Ideal S1x2048x2048 .f32 := m ((c.tc : Thread nD τ).loc main_arg6)
abbrev gain (c : Dev nD) : FVec Ideal S1x2048 .f32 := m ((c.tc : Thread nD τ).loc main_arg7)

/-! ## The blocks read -/

/-- The weight's halves as launched. -/
theorem V_up (c : Dev nD) (k : Fin 1024) (n : Fin 2048) : V m c main_v3 (ix2 k n) = wt m c (ix3 (0 : Fin 1) (up k) n) := by
  have : V m c main_v3 = extractStridedSlice S1024x2048 ![0, 0] (truncf (F := Ideal) .bf16 (shapeCast S2048x2048 (wt m c)
      shapeCasts_S1x2048x2048_S2048x2048) bitsLt_bf16_f32) slices_S2048x2048_S1024x2048_0_0 := by
    show StableHlo.after hostOps0 _ main_v3 = _
    after_results_simp <;> rfl
  rw [this]
  exact (extractStridedSlice_apply _ _ _ (ix2 k n) (ix2 (n0 := 2048) (up k) n) fun a => match a with
    | ⟨0, _⟩ => (Nat.zero_add _).symm | ⟨1, _⟩ => (Nat.zero_add _).symm).trans (Proj.drop_apply _ _ _ n)

theorem V_down (c : Dev nD) (k : Fin 1024) (n : Fin 2048) : V m c main_v4 (ix2 k n) = wt m c (ix3 (0 : Fin 1) (down k) n) := by
  have : V m c main_v4 = extractStridedSlice S1024x2048 ![1024, 0] (truncf (F := Ideal) .bf16 (shapeCast S2048x2048 (wt m c)
      shapeCasts_S1x2048x2048_S2048x2048) bitsLt_bf16_f32) slices_S2048x2048_S1024x2048_1024_0 := by
    show StableHlo.after hostOps0 _ main_v4 = _
    after_results_simp <;> rfl
  rw [this]
  exact (extractStridedSlice_apply _ _ _ (ix2 k n) (ix2 (n0 := 2048) (down k) n) fun a => match a with
    | ⟨0, _⟩ => rfl | ⟨1, _⟩ => (Nat.zero_add _).symm).trans (Proj.drop_apply _ _ _ n)

theorem V_gain (c : Dev nD) (n : Fin 2048) : V m c main_v5 (ix2 (0 : Fin 1) n) = gain m c (ix2 (0 : Fin 1) n) := by
  have : V m c main_v5 = shapeCast S1x2048 (shapeCast S2048 (gain m c) shapeCasts_S1x2048_S2048) shapeCasts_S2048_S1x2048 := by
    show StableHlo.after hostOps0 _ main_v5 = _
    after_results_simp <;> rfl
  rw [this]; exact Proj.flat_back _ _ _ n

theorem index0 : ∀ t : Fin cfg0.N, (cfg0.win 0).index t = ![t.val % 17 - 1, 0] :=
  (by decide +kernel : ∀ t : Fin grid0.N, win0_0.index t = ![t.val % 17 - 1, 0])
theorem index1 : ∀ t : Fin cfg0.N, (cfg0.win 1).index t = ![t.val % 17 - 1, 0] :=
  (by decide +kernel : ∀ t : Fin grid0.N, win0_1.index t = ![t.val % 17 - 1, 0])
theorem index4 : ∀ t : Fin cfg0.N, (cfg0.win 4).index t = ![t.val % 17 - 1, 0] :=
  (by decide +kernel : ∀ t : Fin grid0.N, win0_4.index t = ![t.val % 17 - 1, 0])
theorem index9 : ∀ t : Fin cfg0.N, (cfg0.win 9).index t = ![t.val % 17 - 1, 0] :=
  (by decide +kernel : ∀ t : Fin grid0.N, win0_9.index t = ![t.val % 17 - 1, 0])
theorem index10 : ∀ t : Fin cfg0.N, (cfg0.win 10).index t = ![t.val % 17 - 1, 0] :=
  (by decide +kernel : ∀ t : Fin grid0.N, win0_10.index t = ![t.val % 17 - 1, 0])
theorem index11 : ∀ t : Fin cfg0.N, (cfg0.win 11).index t = ![0, 0] :=
  (by decide +kernel : ∀ t : Fin grid0.N, win0_11.index t = ![0, 0])
theorem index12 : ∀ t : Fin cfg0.N, (cfg0.win 12).index t = ![0, 0] :=
  (by decide +kernel : ∀ t : Fin grid0.N, win0_12.index t = ![0, 0])

/-- The row of the whole that row `p` of point `t`'s block is. -/
def row (t : Fin cfg0.N) (p : Fin 512) : Fin 8192 := ⟨(t.val % 17 - 1) * 512 + p.val, by have := p.isLt; omega⟩

theorem read0 (c : Dev nD) (t : Fin cfg0.N) (p : Fin 512) (k : Fin 1024) :
    (iblk m c 0 t : FVec Ideal S512x1024 .bf16) (ix2 p k) = ap m c (ix2 (row t p) k) :=
  congrArg (ap m c) (funext fun a => Fin.ext (by
    refine (win0_0.rect_emb_val_off t (ix2 p k) a).trans ?_
    rw [show win0_0.index t = _ from index0 t]
    match a with
    | ⟨0, _⟩ => rfl
    | ⟨1, _⟩ => exact Nat.zero_add _))

theorem read1 (c : Dev nD) (t : Fin cfg0.N) (p : Fin 512) (k : Fin 1024) :
    (iblk m c 1 t : FVec Ideal S512x1024 .bf16) (ix2 p k) = bp m c (ix2 (row t p) k) :=
  congrArg (bp m c) (funext fun a => Fin.ext (by
    refine (win0_1.rect_emb_val_off t (ix2 p k) a).trans ?_
    rw [show win0_1.index t = _ from index1 t]
    match a with
    | ⟨0, _⟩ => rfl
    | ⟨1, _⟩ => exact Nat.zero_add _))

theorem read4 (c : Dev nD) (t : Fin cfg0.N) (p : Fin 512) (k : Fin 2048) :
    (iblk m c 4 t : FVec Ideal S512x2048 .f32) (ix2 p k) = xp m c (ix2 (row t p) k) :=
  congrArg (xp m c) (funext fun a => Fin.ext (by
    refine (win0_4.rect_emb_val_off t (ix2 p k) a).trans ?_
    rw [show win0_4.index t = _ from index4 t]
    match a with
    | ⟨0, _⟩ => rfl
    | ⟨1, _⟩ => exact Nat.zero_add _))

theorem read6 (c : Dev nD) (t : Fin cfg0.N) (p : Fin 64) (k : Fin 1024) :
    (iblk m c 6 t : FVec Ideal S64x1024 .bf16) (ix2 p k) = sa m c (ix2 p k) :=
  congrArg (sa m c) (funext fun a => Fin.ext (by
    refine (win0_6.rect_emb_val_off t (ix2 p k) a).trans ?_
    rw [show win0_6.index t = _ from index6 t]
    match a with
    | ⟨0, _⟩ => exact Nat.zero_add _
    | ⟨1, _⟩ => exact Nat.zero_add _))

theorem read7 (c : Dev nD) (t : Fin cfg0.N) (p : Fin 64) (k : Fin 1024) :
    (iblk m c 7 t : FVec Ideal S64x1024 .f32) (ix2 p k) = sb m c (ix2 p k) :=
  congrArg (sb m c) (funext fun a => Fin.ext (by
    refine (win0_7.rect_emb_val_off t (ix2 p k) a).trans ?_
    rw [show win0_7.index t = _ from index7 t]
    match a with
    | ⟨0, _⟩ => exact Nat.zero_add _
    | ⟨1, _⟩ => exact Nat.zero_add _))

theorem read8 (c : Dev nD) (t : Fin cfg0.N) (p : Fin 64) (k : Fin 2048) :
    (iblk m c 8 t : FVec Ideal S64x2048 .f32) (ix2 p k) = xs m c (ix2 p k) :=
  congrArg (xs m c) (funext fun a => Fin.ext (by
    refine (win0_8.rect_emb_val_off t (ix2 p k) a).trans ?_
    rw [show win0_8.index t = _ from index8 t]
    match a with
    | ⟨0, _⟩ => exact Nat.zero_add _
    | ⟨1, _⟩ => exact Nat.zero_add _))

theorem read2 (c : Dev nD) (t : Fin cfg0.N) (n : Fin 2048) (k : Fin 1024) :
    (iblk m c 2 t : FVec Ideal S1024x2048 .bf16) (ix2 k n) = wt m c (ix3 (0 : Fin 1) (up k) n) := by
  refine Eq.trans ?_ (V_up m c k n)
  exact congrArg (V m c main_v3) (funext fun a => Fin.ext (by
    refine (win0_2.rect_emb_val_off t (ix2 k n) a).trans ?_
    rw [show win0_2.index t = _ from index2 t]
    match a with
    | ⟨0, _⟩ => exact Nat.zero_add _
    | ⟨1, _⟩ => exact Nat.zero_add _))

theorem read3 (c : Dev nD) (t : Fin cfg0.N) (n : Fin 2048) (k : Fin 1024) :
    (iblk m c 3 t : FVec Ideal S1024x2048 .bf16) (ix2 k n) = wt m c (ix3 (0 : Fin 1) (down k) n) := by
  refine Eq.trans ?_ (V_down m c k n)
  exact congrArg (V m c main_v4) (funext fun a => Fin.ext (by
    refine (win0_3.rect_emb_val_off t (ix2 k n) a).trans ?_
    rw [show win0_3.index t = _ from index3 t]
    match a with
    | ⟨0, _⟩ => exact Nat.zero_add _
    | ⟨1, _⟩ => exact Nat.zero_add _))

theorem read5 (c : Dev nD) (t : Fin cfg0.N) (n : Fin 2048) :
    (iblk m c 5 t : FVec Ideal S1x2048 .f32) (ix2 (0 : Fin 1) n) = gain m c (ix2 (0 : Fin 1) n) := by
  refine Eq.trans ?_ (V_gain m c n)
  exact congrArg (V m c main_v5) (funext fun a => Fin.ext (by
    refine (win0_5.rect_emb_val_off t (ix2 (0 : Fin 1) n) a).trans ?_
    rw [show win0_5.index t = _ from index5 t]
    match a with
    | ⟨0, _⟩ => rfl
    | ⟨1, _⟩ => exact Nat.zero_add _))

/-! ## What the body stores -/

theorem part_apply {C : ℕ} (x : (⟨2, ![512, C]⟩ : Shape).Idx → EReal) (i : Fin 2) (p : Fin 256) (p' : Fin 512) (h : p'.val = 256 * i.val + p.val) (k : Fin C) :
    part x i (ix2 p k) = x (ix2 p' k) :=
  congrArg x (funext fun a => Fin.ext (by
    match a with
    | ⟨0, _⟩ => show 256 * i.val + 1 * p.val = p'.val; omega
    | ⟨1, _⟩ => show C * 0 + 1 * k.val = k.val; omega))

/-- A row of the first group's stream. -/
theorem pay5_at (c : Dev nD) (t : Fin cfg0.N) (i : Fin 2) (p : Fin 256) (p' : Fin 512) (h : p'.val = 256 * i.val + p.val) (n : Fin 2048) :
    k0_pay5 (F := Ideal) (part (iblk m c 4 t : FVec Ideal S512x2048 .f32) i) (part (iblk m c 0 t : FVec Ideal S512x1024 .bf16) i) (iblk m c 2 t)
      (part (iblk m c 1 t : FVec Ideal S512x1024 .bf16) i) (iblk m c 3 t) (ix2 p n) = total (xp m c) (ap m c) (bp m c) (wt m c) (row t p') n := by
  unfold k0_pay5
  rw [shapeCast_self, shapeCast_self]
  exact added_apply (xp m c) (ap m c) (bp m c) (wt m c) _ _ _ _ _ p (row t p') n ((part_apply _ i p p' h n).trans (read4 m c t p' n))
    (fun k => (part_apply _ i p p' h k).trans (read0 m c t p' k)) (fun k => (part_apply _ i p p' h k).trans (read1 m c t p' k))
    (read2 m c t n) (read3 m c t n)

/-- A row of the second group's. -/
theorem pay1_at (c : Dev nD) (t : Fin cfg0.N) (p : Fin 64) (n : Fin 2048) :
    k0_pay1 (F := Ideal) (iblk m c 8 t) (iblk m c 6 t) (iblk m c 2 t) (iblk m c 7 t) (iblk m c 3 t) (ix2 p n)
      = total (xs m c) (sa m c) (sb m c) (wt m c) p n := by
  unfold k0_pay1
  rw [shapeCast_self, shapeCast_self]
  exact added_apply (xs m c) (sa m c) (sb m c) (wt m c) _ _ _ _ _ p p n (read8 m c t p n) (read6 m c t p) (read7 m c t p) (read2 m c t n) (read3 m c t n)

/-- The norms are of the same rows. -/
theorem pay6_apply (x : FVec Ideal S256x2048 .f32) (a b : FVec Ideal S256x1024 .bf16) (w w' : FVec Ideal S1024x2048 .bf16) (g : FVec Ideal S1x2048 .f32)
    (p : Fin 256) (n : Fin 2048) :
    k0_pay6 (F := Ideal) x a w b w' g (ix2 p n) = Proj.rms (fun k => k0_pay5 (F := Ideal) x a w b w' (ix2 p k)) (g (ix2 (0 : Fin 1) n)) n :=
  (Proj.kernel_rms (M := 256) (K := 2048) (k0_pay5 (F := Ideal) x a w b w') (shapeCast S1x2048 g shapeCasts_S1x2048_S1x2048) 0x00000000#32
    reduces_S256x2048_S256 (.inl rfl) rfl shapeCasts_S256_S256x1 broadcasts_S256x1_S256x2048 broadcasts_S1x2048_S256x2048 p n).trans
    (by rw [shapeCast_self])

theorem pay2_apply (x : FVec Ideal S64x2048 .f32) (a : FVec Ideal S64x1024 .bf16) (b : FVec Ideal S64x1024 .f32) (w w' : FVec Ideal S1024x2048 .bf16)
    (g : FVec Ideal S1x2048 .f32) (p : Fin 64) (n : Fin 2048) :
    k0_pay2 (F := Ideal) x a w b w' g (ix2 p n) = Proj.rms (fun k => k0_pay1 (F := Ideal) x a w b w' (ix2 p k)) (g (ix2 (0 : Fin 1) n)) n :=
  (Proj.kernel_rms (M := 64) (K := 2048) (k0_pay1 (F := Ideal) x a w b w') (shapeCast S1x2048 g shapeCasts_S1x2048_S1x2048) 0x00000000#32
    reduces_S64x2048_S64 (.inl rfl) rfl shapeCasts_S64_S64x1 broadcasts_S64x1_S64x2048 broadcasts_S1x2048_S64x2048 p n).trans
    (by rw [shapeCast_self])

/-! ## The write-backs -/

/-- Where the results' blocks lie. -/
theorem emb_first (t : Fin cfg0.N) (p : Fin 512) (q : Fin 2048) :
    (win0_9.rect t).emb (ix2 p q) = ix2 (n0 := 8192) (n1 := 2048) (row t p) q ∧ (win0_10.rect t).emb (ix2 p q) = ix2 (n0 := 8192) (n1 := 2048) (row t p) q := by
  refine ⟨funext fun a => Fin.ext ((win0_9.rect_emb_val_off t (ix2 p q) a).trans ?_), funext fun a => Fin.ext ((win0_10.rect_emb_val_off t (ix2 p q) a).trans ?_)⟩
  · rw [show win0_9.index t = _ from index9 t]
    match a with
    | ⟨0, _⟩ => rfl
    | ⟨1, _⟩ => exact Nat.zero_add _
  · rw [show win0_10.index t = _ from index10 t]
    match a with
    | ⟨0, _⟩ => rfl
    | ⟨1, _⟩ => exact Nat.zero_add _

theorem emb_second (t : Fin cfg0.N) (p : Fin 64) (q : Fin 2048) :
    (win0_11.rect t).emb (ix2 p q) = ix2 (n0 := 64) (n1 := 2048) p q ∧ (win0_12.rect t).emb (ix2 p q) = ix2 (n0 := 64) (n1 := 2048) p q := by
  refine ⟨funext fun a => Fin.ext ((win0_11.rect_emb_val_off t (ix2 p q) a).trans ?_), funext fun a => Fin.ext ((win0_12.rect_emb_val_off t (ix2 p q) a).trans ?_)⟩
  · rw [show win0_11.index t = _ from index11 t]
    match a with
    | ⟨0, _⟩ => exact Nat.zero_add _
    | ⟨1, _⟩ => exact Nat.zero_add _
  · rw [show win0_12.index t = _ from index12 t]
    match a with
    | ⟨0, _⟩ => exact Nat.zero_add _
    | ⟨1, _⟩ => exact Nat.zero_add _

theorem whole_col (q : Fin 2048) : (⟨q.val % 2048, Nat.mod_lt _ (by decide)⟩ : Fin 2048) = q := Fin.ext (Nat.mod_eq_of_lt q.isLt)

/-- The blocks of the first group's results. -/
theorem flushed9 (c : Dev nD) (t : Fin cfg0.N) :
    (dats m 0 c).flushed 9 t = ((cfg0.win 9).blk t).view.read (Elt Ideal) (outA (xp m c) (ap m c) (bp m c) (wt m c)) := by
  show (cfg0.win 9).cut (grid0.coords t) ((dats m 0 c).after 9 t) = _
  rw [after_9]
  funext y
  obtain ⟨p, q, rfl⟩ : ∃ (p : Fin 512) (q : Fin 2048), y = ix2 p q := ⟨y 0, y 1, eq_ix2 y⟩
  refine Eq.trans ?_ (congrArg (outA (xp m c) (ap m c) (bp m c) (wt m c)) (emb_first t p q).1).symm
  refine (pay5_at m c t ⟨p.val / 256, by omega⟩ ⟨p.val % 256, by omega⟩ p (by show p.val = 256 * (p.val / 256) + p.val % 256; omega) _).trans ?_
  exact congrArg (total (xp m c) (ap m c) (bp m c) (wt m c) (row t p)) (whole_col q)

theorem flushed10 (c : Dev nD) (t : Fin cfg0.N) :
    (dats m 0 c).flushed 10 t = ((cfg0.win 10).blk t).view.read (Elt Ideal) (outN (xp m c) (ap m c) (bp m c) (wt m c) (gain m c)) := by
  show (cfg0.win 10).cut (grid0.coords t) ((dats m 0 c).after 10 t) = _
  rw [after_10]
  funext y
  obtain ⟨p, q, rfl⟩ : ∃ (p : Fin 512) (q : Fin 2048), y = ix2 p q := ⟨y 0, y 1, eq_ix2 y⟩
  refine Eq.trans ?_ (congrArg (outN (xp m c) (ap m c) (bp m c) (wt m c) (gain m c)) (emb_first t p q).2).symm
  refine (pay6_apply _ _ _ _ _ (iblk m c 5 t) _ _).trans ?_
  rw [whole_col, read5]
  exact congrArg (fun f => Proj.rms f (gain m c (ix2 (0 : Fin 1) q)) q) (funext fun k =>
    pay5_at m c t ⟨p.val / 256, by omega⟩ ⟨p.val % 256, by omega⟩ p (by show p.val = 256 * (p.val / 256) + p.val % 256; omega) k)

/-- And of the second group's. -/
theorem flushed11 (c : Dev nD) (t : Fin cfg0.N) :
    (dats m 0 c).flushed 11 t = ((cfg0.win 11).blk t).view.read (Elt Ideal) (outA (xs m c) (sa m c) (sb m c) (wt m c)) := by
  show (cfg0.win 11).cut (grid0.coords t) ((dats m 0 c).after 11 t) = _
  rw [after_11]
  funext y
  obtain ⟨p, q, rfl⟩ : ∃ (p : Fin 64) (q : Fin 2048), y = ix2 p q := ⟨y 0, y 1, eq_ix2 y⟩
  exact (pay1_at m c t p q).trans (congrArg (outA (xs m c) (sa m c) (sb m c) (wt m c)) (emb_second t p q).1).symm

theorem flushed12 (c : Dev nD) (t : Fin cfg0.N) :
    (dats m 0 c).flushed 12 t = ((cfg0.win 12).blk t).view.read (Elt Ideal) (outN (xs m c) (sa m c) (sb m c) (wt m c) (gain m c)) := by
  show (cfg0.win 12).cut (grid0.coords t) ((dats m 0 c).after 12 t) = _
  rw [after_12]
  funext y
  obtain ⟨p, q, rfl⟩ : ∃ (p : Fin 64) (q : Fin 2048), y = ix2 p q := ⟨y 0, y 1, eq_ix2 y⟩
  refine Eq.trans ?_ (congrArg (outN (xs m c) (sa m c) (sb m c) (wt m c) (gain m c)) (emb_second t p q).2).symm
  refine (pay2_apply (iblk m c 8 t) (iblk m c 6 t) (iblk m c 7 t) (iblk m c 2 t) (iblk m c 3 t) (iblk m c 5 t) p q).trans ?_
  rw [read5]
  exact congrArg (fun f => Proj.rms f (gain m c (ix2 (0 : Fin 1) q)) q) (funext fun k => pay1_at m c t p k)

theorem mem_emb {s : Shape} (r : Rect s) (x) : r.emb x ∈ r.set := by
  rw [← Rect.map_emb_univ]; exact Finset.mem_map_of_mem _ (Finset.mem_univ x)

/-- Every row of the first group's results lies in a block that is written back. -/
theorem at_point (i : S8192x2048.Idx) : ∃ (t : Fin cfg0.N) (p : Fin 512), ¬ t.val % 17 = 0 ∧ ix2 (row t p) (i 1) = i := by
  have h0 : (i 0).val < 8192 := (i 0).isLt
  refine ⟨⟨(i 0).val / 512 + 1, by rw [N_eq]; omega⟩, ⟨(i 0).val % 512, by omega⟩, by show ¬ ((i 0).val / 512 + 1) % 17 = 0; omega, funext fun a => ?_⟩
  match a with
  | ⟨0, _⟩ => exact Fin.ext (by show (((i 0).val / 512 + 1) % 17 - 1) * 512 + (i 0).val % 512 = (i 0).val; omega)
  | ⟨1, _⟩ => rfl

theorem arr9 (c : Dev nD) : (dats m 0 c).arrAt 9 cfg0.N = outA (xp m c) (ap m c) (bp m c) (wt m c) :=
  (dats m 0 c).arrAt_eq_of_cover 9 _ (fun t _ => flushed9 m c t) fun i => by
    obtain ⟨t, p, ht, h⟩ := at_point i
    refine ⟨t, by rw [(flushes t).1]; simp [ht], ?_⟩
    show i ∈ ((View.whole main_v6_0).slice (win0_9.rect t)).set
    rw [View.set_slice_whole]
    exact ((emb_first t p (i 1)).1.trans h) ▸ mem_emb _ _

theorem arr10 (c : Dev nD) : (dats m 0 c).arrAt 10 cfg0.N = outN (xp m c) (ap m c) (bp m c) (wt m c) (gain m c) :=
  (dats m 0 c).arrAt_eq_of_cover 10 _ (fun t _ => flushed10 m c t) fun i => by
    obtain ⟨t, p, ht, h⟩ := at_point i
    refine ⟨t, by rw [(flushes t).2.1]; simp [ht], ?_⟩
    show i ∈ ((View.whole main_v6_1).slice (win0_10.rect t)).set
    rw [View.set_slice_whole]
    exact ((emb_first t p (i 1)).2.trans h) ▸ mem_emb _ _

/-- The last point writes the second group's back. -/
def last : Fin cfg0.N := ⟨16, by rw [N_eq]; omega⟩

theorem arr11 (c : Dev nD) : (dats m 0 c).arrAt 11 cfg0.N = outA (xs m c) (sa m c) (sb m c) (wt m c) :=
  (dats m 0 c).arrAt_eq_of_cover 11 _ (fun t _ => flushed11 m c t) fun i => by
    refine ⟨last, by rw [(flushes last).2.2.1]; rfl, ?_⟩
    show i ∈ ((View.whole main_v6_2).slice (win0_11.rect last)).set
    rw [View.set_slice_whole]
    exact ((emb_second last (i 0) (i 1)).1.trans (eq_ix2 (n0 := 64) (n1 := 2048) i).symm) ▸ mem_emb _ _

theorem arr12 (c : Dev nD) : (dats m 0 c).arrAt 12 cfg0.N = outN (xs m c) (sa m c) (sb m c) (wt m c) (gain m c) :=
  (dats m 0 c).arrAt_eq_of_cover 12 _ (fun t _ => flushed12 m c t) fun i => by
    refine ⟨last, by rw [(flushes last).2.2.2]; rfl, ?_⟩
    show i ∈ ((View.whole main_v6_3).slice (win0_12.rect last)).set
    rw [View.set_slice_whole]
    exact ((emb_second last (i 0) (i 1)).2.trans (eq_ix2 (n0 := 64) (n1 := 2048) i).symm) ▸ mem_emb _ _

/-! ## The reference -/

/-- The reference lays the mixers' outputs side by side. -/
theorem ref_total {R : ℕ} (X : FVec Ideal ⟨2, ![R, 2048]⟩ .f32) (A B : FVec Ideal ⟨2, ![R, 1024]⟩ .f32) (W : FVec Ideal ⟨3, ![1, 2048, 2048]⟩ .f32)
    (h : Shape.Concatenates [⟨2, ![R, 1024]⟩, ⟨2, ![R, 1024]⟩] ⟨2, ![R, 2048]⟩ 1) (h' : Shape.ShapeCasts ⟨3, ![1, 2048, 2048]⟩ ⟨2, ![2048, 2048]⟩)
    (r : Fin R) (n : Fin 2048) :
    addf X (Host.dotGeneral (F := Ideal) (DotDims.plain R 2048 2048) none
      (concatenate ⟨2, ![R, 2048]⟩ 1 [⟨⟨2, ![R, 1024]⟩, A⟩, ⟨⟨2, ![R, 1024]⟩, B⟩] h : FVec Ideal ⟨2, ![R, 2048]⟩ .f32)
      (shapeCast ⟨2, ![2048, 2048]⟩ W h' : FVec Ideal ⟨2, ![2048, 2048]⟩ .f32)) (ix2 r n) = total X A B W r n :=
  congrArg (fun x : EReal => X (ix2 r n) + x) ((Proj.host_apply (φ₁ := .f32) (φ₂ := .f32) _ W _ r n).trans
    (Finset.sum_congr rfl fun k _ => congrArg (fun x : EReal => x * W (ix3 (0 : Fin 1) k n)) (Proj.pair_apply A B h rfl r k (by decide))))

theorem ref_addP (A B : FVec Ideal S8192x1024 .bf16) (X : FVec Ideal S8192x2048 .f32) (W : FVec Ideal S1x2048x2048 .f32) :
    Cert.RefEvenOutIdeal.Read.val_main_v5 (F := Ideal) A B X W = outA X A B W := by
  funext i
  obtain ⟨r, n, rfl⟩ : ∃ (r : Fin 8192) (n : Fin 2048), i = ix2 r n := ⟨i 0, i 1, eq_ix2 i⟩
  exact ref_total (R := 8192) X A B W _ _ r n

theorem ref_addS (A : FVec Ideal S64x1024 .bf16) (B : FVec Ideal S64x1024 .f32) (X : FVec Ideal S64x2048 .f32) (W : FVec Ideal S1x2048x2048 .f32) :
    Cert.RefEvenOutIdeal.Read.val_main_v25 (F := Ideal) A B X W = outA X A B W := by
  funext i
  obtain ⟨r, n, rfl⟩ : ∃ (r : Fin 64) (n : Fin 2048), i = ix2 r n := ⟨i 0, i 1, eq_ix2 i⟩
  exact ref_total (R := 64) X A B W _ _ r n

theorem ref_normP (A B : FVec Ideal S8192x1024 .bf16) (X : FVec Ideal S8192x2048 .f32) (W : FVec Ideal S1x2048x2048 .f32) (G : FVec Ideal S1x2048 .f32) :
    Cert.RefEvenOutIdeal.Read.val_main_v20 (F := Ideal) A B X W G = outN X A B W G := by
  funext i
  obtain ⟨r, n, rfl⟩ : ∃ (r : Fin 8192) (n : Fin 2048), i = ix2 r n := ⟨i 0, i 1, eq_ix2 i⟩
  refine (Proj.host_rms (M := 8192) (K := 2048) (Cert.RefEvenOutIdeal.Read.val_main_v5 (F := Ideal) A B X W) (Cert.RefEvenOutIdeal.Read.val_main_v6 (F := Ideal) G)
    (by decide) (by decide) (by decide) (by decide) (by decide) (by decide) (by decide) (by decide) (by decide) r n).trans ?_
  exact congrArg₂ (fun f g => Proj.rms f g n) (funext fun k => congrFun (ref_addP A B X W) (ix2 r k)) (Proj.flat_apply G _ n)

theorem ref_normS (A : FVec Ideal S64x1024 .bf16) (B : FVec Ideal S64x1024 .f32) (X : FVec Ideal S64x2048 .f32) (W : FVec Ideal S1x2048x2048 .f32)
    (G : FVec Ideal S1x2048 .f32) : Cert.RefEvenOutIdeal.Read.val_main_v40 (F := Ideal) A B X W G = outN X A B W G := by
  funext i
  obtain ⟨r, n, rfl⟩ : ∃ (r : Fin 64) (n : Fin 2048), i = ix2 r n := ⟨i 0, i 1, eq_ix2 i⟩
  refine (Proj.host_rms (M := 64) (K := 2048) (Cert.RefEvenOutIdeal.Read.val_main_v25 (F := Ideal) A B X W) (Cert.RefEvenOutIdeal.Read.val_main_v26 (F := Ideal) G)
    (by decide) (by decide) (by decide) (by decide) (by decide) (by decide) (by decide) (by decide) (by decide) r n).trans ?_
  exact congrArg₂ (fun f g => Proj.rms f g n) (funext fun k => congrFun (ref_addS A B X W) (ix2 r k)) (Proj.flat_apply G _ n)

/-! ## The claims -/

/-- The kernel's run: the results at their values, the arguments unchanged. -/
theorem run_value : θ_run defs (onTc (τ := τ) (main (F := Ideal))) ⟨m, fun _ => 0, ρ⟩ (fun r => ∀ c : Dev nD,
      r.2.mem ((c.tc : Thread nD τ).loc main_v6_0) = outA (xp m c) (ap m c) (bp m c) (wt m c)
      ∧ r.2.mem ((c.tc : Thread nD τ).loc main_v6_1) = outN (xp m c) (ap m c) (bp m c) (wt m c) (gain m c)
      ∧ r.2.mem ((c.tc : Thread nD τ).loc main_v6_2) = outA (xs m c) (sa m c) (sb m c) (wt m c)
      ∧ r.2.mem ((c.tc : Thread nD τ).loc main_v6_3) = outN (xs m c) (sa m c) (sb m c) (wt m c) (gain m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1.1 c).1 9).trans (arr9 m c), ((h.1.1 c).1 10).trans (arr10 m c), ((h.1.1 c).1 11).trans (arr11 m c),
    ((h.1.1 c).1 12).trans (arr12 m c), h.2.1 c⟩)
    (θ_run_and (run_main m ρ) (frame m ρ))

theorem algebraic : Cert.algebraic_EvenOutIdeal_RefEvenOutIdeal := fun m g m' g' _ hagree =>
  ⟨fun c => outA (xp m c) (ap m c) (bp m c) (wt m c), fun c => outN (xp m c) (ap m c) (bp m c) (wt m c) (gain m c),
    fun c => outA (xs m c) (sa m c) (sb m c) (wt m c), fun c => outN (xs m c) (sa m c) (sb m c) (wt m c) (gain m c), run_value m g,
    (θ_run Cert.RefEvenOutIdeal.defs _ _).mono (fun _ h c => by
      obtain ⟨h1, h2, h3, h4, h5⟩ := h c
      obtain ⟨a0, a1, a2, a3, a4, a5, a6, a7⟩ := hagree c
      refine ⟨h1.trans ((Cert.RefEvenOutIdeal.Read.val_main_v5_eq _ _ _ _).trans ?_), h2.trans ((Cert.RefEvenOutIdeal.Read.val_main_v20_eq _ _ _ _ _).trans ?_),
        h3.trans ((Cert.RefEvenOutIdeal.Read.val_main_v25_eq _ _ _ _).trans ?_), h4.trans ((Cert.RefEvenOutIdeal.Read.val_main_v40_eq _ _ _ _ _).trans ?_), h5⟩
      · rw [a0, a1, a4, a6]; exact ref_addP _ _ _ _
      · rw [a0, a1, a4, a6, a7]; exact ref_normP _ _ _ _ _
      · rw [a2, a3, a5, a6]; exact ref_addS _ _ _ _
      · rw [a2, a3, a5, a6, a7]; exact ref_normS _ _ _ _ _) (Cert.RefEvenOutIdeal.Value.run (F := Ideal) m' g')⟩

/-- The program as printed and its idealization have one body, label by label. -/
theorem defs_eq {F : FTy → Type} [FloatOps F] : Cert.EvenOut.defs (F := F) = Cert.EvenOutIdeal.defs :=
  congrArg (Pipeline.defs Cert.EvenOutIdeal.pcfgs) (by
    unfold Cert.EvenOut.defs₀ Cert.EvenOutIdeal.defs₀
    congr 1
    funext l a
    match l, a with
    | 0, (t, s) => rfl)

/-- So the printed program's run is the same run, at the machine's numbers. -/
theorem frame_kernel : Cert.quiescent_EvenOut := fun m ρ _ => by
  rw [defs_eq]; exact frame (F := Bits) m ρ

theorem frame_ideal : Cert.quiescent_EvenOutIdeal := fun m ρ _ => frame (F := Ideal) m ρ

theorem frame_ref : Cert.quiescent_RefEvenOutIdeal := fun m ρ _ =>
  (θ_run Cert.RefEvenOutIdeal.defs _ _).mono (fun r h => ⟨fun c => (h c).2.2.2.2, sem_eq_zero_of_no_sems (by decide) r.2⟩)
    (Cert.RefEvenOutIdeal.Value.run (F := Ideal) m ρ)

end Cert.EvenOutIdeal.Body

end
-- ==== Proof.Finite.lean ====
/- Which ideal numbers are real, through a normalisation of rows: the difference of a real number and itself is 0, an infinity's is not. -/
module

public import proofs.«01_k».proof.Proof.Act

@[expose] public section

noncomputable section

namespace Proj

open Idealize.ShloMosaic Idealize.ShloMosaic.ValueIdx

/-- Neither infinity. -/
def IsReal (x : EReal) : Prop := ∃ r : ℝ, x = r

theorem IsReal.zero : IsReal 0 := ⟨0, rfl⟩

theorem IsReal.mul {x y : EReal} : IsReal x → IsReal y → IsReal (x * y) := fun ⟨a, ha⟩ ⟨b, hb⟩ => ⟨a * b, by rw [ha, hb, EReal.coe_mul]⟩

theorem IsReal.sub_self {x : EReal} : IsReal x → x - x = 0 := fun ⟨a, ha⟩ => by rw [ha, ← EReal.coe_sub, _root_.sub_self]; rfl

/-- A number whose magnitude is below infinity is real. -/
theorem IsReal.of_abs {x : EReal} (h : max x (-x) < ⊤) : IsReal x := by
  induction x using EReal.rec with
  | bot => simp at h
  | top => simp at h
  | coe r => exact ⟨r, rfl⟩

theorem inf_bits : Ideal.ofBits .f32 0x7F800000#32 = ⊤ := by simp [Ideal.ofBits, Ideal.ieee]

theorem columns_bits : Ideal.ofBits .f32 0x45000000#32 = ((2048 : ℝ) : EReal) := by
  simp [Ideal.ofBits, Ideal.ieee, -EReal.coe_mul]; norm_num

theorem eps_bits : ∃ e : ℝ, 0 < e ∧ Ideal.ofBits .f32 0x358637BD#32 = (e : EReal) := by
  refine ⟨_, ?_, by simp [Ideal.ofBits, Ideal.ieee, -EReal.coe_mul]; rfl⟩
  positivity

theorem square_nonneg (x : EReal) : 0 ≤ x * x := by
  induction x using EReal.rec with
  | bot => simp
  | top => simp
  | coe r => rw [← EReal.coe_mul]; exact EReal.coe_nonneg.mpr (mul_self_nonneg r)

theorem real_of_square {x : EReal} (h : x * x ≠ ⊤) : IsReal x := by
  induction x using EReal.rec with
  | bot => simp at h
  | top => simp at h
  | coe r => exact ⟨r, rfl⟩

/-- A row normalised with a real gain is real, whatever the row: one that has an infinity is normalised to 0. -/
theorem rms_real {K : ℕ} (x : Fin K → EReal) {g : EReal} (hg : IsReal g) (n : Fin K) : IsReal (rms x g n) := by
  obtain ⟨e, he, hE⟩ := eps_bits
  have hle : x n * x n ≤ ∑ k, x k * x k := Finset.single_le_sum (f := fun k => x k * x k) (fun k _ => square_nonneg (x k)) (Finset.mem_univ n)
  have h0 : 0 ≤ ∑ k, x k * x k := Finset.sum_nonneg fun k _ => square_nonneg (x k)
  unfold rms
  rw [Ideal.divf_def, columns_bits, hE]
  generalize ∑ k, x k * x k = s at hle h0
  induction s using EReal.rec with
  | bot => simp at h0
  | top =>
    have : Ideal.div ⊤ ((2048 : ℝ) : EReal) + (e : EReal) = ⊤ := by
      unfold Ideal.div
      rw [if_neg (by norm_num), ← EReal.coe_inv, EReal.top_mul_coe_of_pos (by norm_num), EReal.top_add_coe]
    rw [this, show Ideal.rsqrt ⊤ = 0 from rfl, mul_zero, zero_mul]
    exact IsReal.zero
  | coe r =>
    have hr : 0 ≤ r := EReal.coe_nonneg.mp h0
    have : Ideal.div (r : EReal) ((2048 : ℝ) : EReal) + (e : EReal) = ((r * 2048⁻¹ + e : ℝ) : EReal) := by
      unfold Ideal.div
      rw [if_neg (by norm_num), ← EReal.coe_inv, ← EReal.coe_mul, ← EReal.coe_add]
    rw [this]
    have hp : 0 < r * 2048⁻¹ + e := by positivity
    refine ((real_of_square fun h => ?_).mul ⟨(Real.sqrt (r * 2048⁻¹ + e))⁻¹, ?_⟩).mul hg
    · rw [h] at hle; simp at hle
    · show (if r * 2048⁻¹ + e < 0 then ⊥ else if r * 2048⁻¹ + e = 0 then ⊤ else (((Real.sqrt (r * 2048⁻¹ + e))⁻¹ : ℝ) : EReal)) = _
      rw [if_neg hp.le.not_gt, if_neg hp.ne']

/-- A sum of products whose first factors are each a real number less itself is 0; and one whose second factors are. -/
theorem sum_low_left {K : ℕ} (h w : Fin K → EReal) (hh : ∀ k, IsReal (h k)) : ∑ k, (h k - h k) * w k = 0 :=
  Finset.sum_eq_zero fun k _ => by rw [(hh k).sub_self, zero_mul]

theorem sum_low_right {K : ℕ} (h w : Fin K → EReal) (hw : ∀ k, IsReal (w k)) : ∑ k, h k * (w k - w k) = 0 :=
  Finset.sum_eq_zero fun k _ => by rw [(hw k).sub_self, mul_zero]

/-- The logarithm of the logistic function: the softplus of the negation, negated. -/
def logSigmoid (x : EReal) : EReal := -(max (-x) 0 + Ideal.log (1 + Ideal.exp (-(max (-x) (- -x)))))

/-- As a kernel takes it: each negation is a difference from zero. -/
theorem kernel_logSigmoid (x : EReal) :
    Ideal.ofBits .f32 0x00000000#32 - (max (Ideal.ofBits .f32 0x00000000#32 - x) (Ideal.ofBits .f32 0x00000000#32)
      + Ideal.log (Ideal.ofBits .f32 0x3F800000#32 + Ideal.exp (Ideal.ofBits .f32 0x00000000#32
        - max (Ideal.ofBits .f32 0x00000000#32 - x) (-(Ideal.ofBits .f32 0x00000000#32 - x))))) = logSigmoid x := by
  simp only [Ideal.ofBits_zero_f32, Ideal.ofBits_one_f32, zero_sub]; rfl

/-- And as a reference takes it: with a case for a number that does not equal itself, of which there is none. -/
theorem host_logSigmoid (x : EReal) :
    -(Scalar.select (Ideal.cmp .une (-x - Ideal.ofBits .f32 0x00000000#32) (-x - Ideal.ofBits .f32 0x00000000#32)) (-x + Ideal.ofBits .f32 0x00000000#32)
      (max (-x) (Ideal.ofBits .f32 0x00000000#32) + Ideal.log1p (Ideal.exp (-(max (-x - Ideal.ofBits .f32 0x00000000#32)
        (-(-x - Ideal.ofBits .f32 0x00000000#32))))))) = logSigmoid x := by
  simp only [Ideal.ofBits_zero_f32, sub_zero]
  rw [show ∀ y : EReal, Ideal.cmp .une y y = 0#1 from fun y => by simp [Ideal.cmp]]
  rfl

end Proj

end
-- ==== Proof.FrontValue.lean ====
/- What the even layer's norm and gates compute: the rows of the prompt normalised and scaled, and their product with the gates' eight
   columns of the layer's weight, the first four with a bias, the last four through the logarithm of the logistic function, padded
   with zeros. The kernel takes the product in three parts, the high and low parts of a number apart; a low part is 0 of a number that
   is real, so the norm's gains and those eight columns are supposed finite. -/
module

public import proofs.«01_k».proof.Proof.Finite
public import proofs.«01_k».proof.Proof.Common
public import proofs.«01_k».proof.Proof.Gen.Front
public import proofs.«01_k».proof.Proof.Gen.FrontIdeal.Value
public import proofs.«01_k».proof.Proof.Gen.RefFrontIdeal.Run
public import proofs.«01_k».proof.Proof.Gen.RefFrontIdeal.Read
public import proofs.«01_k».proof.Proof.Gen.Pre_finite
public import proofs.«01_k».proof.Defs
public import Idealize.ShloMosaic.Lib.KernelVsHost

@[expose] public section

set_option maxRecDepth 16384

noncomputable section

namespace Cert.FrontIdeal.Body

open Idealize.ShloMosaic Idealize.ShloMosaic.TcCoe Idealize.ShloMosaic.ValueIdx Idealize.SL.Sem
open Idealize.ShloMosaic.Pipeline (Dat Cfg Window)
open Cert.FrontIdeal.Gen

variable (m : (ℓ : Loc nD τ sig) → Buf (Elt Ideal) ℓ) (ρ : Dev nD → PrngReg)

/-- The launch contents of the arguments. -/
abbrev rows (c : Dev nD) : FVec Ideal S8192x2048 .f32 := m ((c.tc : Thread nD τ).loc main_arg0)
abbrev gain (c : Dev nD) : FVec Ideal S1x2048 .f32 := m ((c.tc : Thread nD τ).loc main_arg1)
abbrev wt (c : Dev nD) : FVec Ideal S1x2048x9224 .f32 := m ((c.tc : Thread nD τ).loc main_arg2)
abbrev bI (c : Dev nD) : FVec Ideal S1x4 .f32 := m ((c.tc : Thread nD τ).loc main_arg3)
abbrev bF (c : Dev nD) : FVec Ideal S1x4 .f32 := m ((c.tc : Thread nD τ).loc main_arg4)

/-- The gates' columns of the weight, and their biases, padded with zeros to 128. -/
def gateW (W : FVec Ideal S1x2048x9224 .f32) (k : Fin 2048) (n : Fin 128) : EReal :=
  if h : n.val < 8 then W (ix3 (n2 := 9224) (0 : Fin 1) k ⟨5120 + n.val, by omega⟩) else 0
def gateB (BI BF : FVec Ideal S1x4 .f32) (n : Fin 128) : EReal :=
  if h : n.val < 4 then BI (ix2 (n1 := 4) (0 : Fin 1) ⟨n.val, h⟩)
  else if h' : n.val < 8 then BF (ix2 (n1 := 4) (0 : Fin 1) ⟨n.val - 4, by omega⟩) else 0

/-- The two results: the normalised rows, and the gates of them. -/
def outH (X : FVec Ideal S8192x2048 .f32) (G : FVec Ideal S1x2048 .f32) : FVec Ideal S8192x2048 .bf16 :=
  fun i => Proj.rms (fun k => X (ix2 (i 0) k)) (G (ix2 (0 : Fin 1) (i 1))) (i 1)
def gate (n : Fin 128) (z : EReal) : EReal := if 4 ≤ n.val ∧ n.val < 8 then Proj.logSigmoid z else z
def outG (X : FVec Ideal S8192x2048 .f32) (G : FVec Ideal S1x2048 .f32) (W : FVec Ideal S1x2048x9224 .f32) (BI BF : FVec Ideal S1x4 .f32) :
    FVec Ideal S8192x128 .f32 :=
  fun i => gate (i 1) (∑ k : Fin 2048, outH X G (ix2 (i 0) k) * gateW W k (i 1) + gateB BI BF (i 1))

/-! ## The operands -/

/-- The padding value. -/
abbrev z0 : FVec Ideal S_ .f32 := sitofp .f32 (constantI S_ 32 0#32)

theorem z0_apply (i : S_.Idx) : z0 i = 0 := by show (((0#32 : BitVec 32).toInt : ℝ) : EReal) = 0; simp

/-- The gates' columns of the weight, padded. -/
def wpad (W : FVec Ideal S1x2048x9224 .f32) : FVec Ideal S2048x128 .f32 :=
  pad S2048x128 ![0, 0] ![0, 120] ![0, 0] (extractStridedSlice S2048x8 ![0, 5120]
    (shapeCast S2048x9224 W shapeCasts_S1x2048x9224_S2048x9224) slices_S2048x9224_S2048x8_0_5120) z0 pads_S2048x8_S2048x128_000_01200 h_S_

theorem wpad_apply (W : FVec Ideal S1x2048x9224 .f32) (k : Fin 2048) (n : Fin 128) : wpad W (ix2 k n) = gateW W k n := by
  unfold wpad gateW
  by_cases h : n.val < 8
  · rw [dif_pos h]
    refine (pad_apply_of_inside _ _ _ _ _ _ _ (ix2 k n) (ix2 (n1 := 8) k ⟨n.val, h⟩) fun a => match a with
      | ⟨0, _⟩ => by show k.val = 0 + k.val * (0 + 1); omega
      | ⟨1, _⟩ => by show n.val = 0 + n.val * (0 + 1); omega).trans ?_
    exact (extractStridedSlice_apply _ _ _ _ (ix2 (n1 := 9224) k ⟨5120 + n.val, by omega⟩) fun a => match a with
      | ⟨0, _⟩ => (Nat.zero_add _).symm | ⟨1, _⟩ => rfl).trans (Proj.drop_apply W _ k _)
  · rw [dif_neg h]
    refine (pad_apply_of_not_inside _ _ _ _ _ _ _ (ix2 k n) 1 fun hc => h ?_).trans (z0_apply _)
    have h2 : (n.val - 0) / (0 + 1) < 8 := hc.2.2
    omega

/-- The padded biases. -/
def bpad (BI BF : FVec Ideal S1x4 .f32) : FVec Ideal S128 .f32 :=
  pad S128 ![0] ![120] ![0] (concatenate S8 0 [⟨S4, shapeCast S4 BI shapeCasts_S1x4_S4⟩, ⟨S4, shapeCast S4 BF shapeCasts_S1x4_S4⟩]
    concatenates_S4_S4_S8_d0) z0 pads_S8_S128_01200 h_S_

theorem bpad_apply (BI BF : FVec Ideal S1x4 .f32) (n : Fin 128) : bpad BI BF (ix1 n) = gateB BI BF n := by
  unfold bpad gateB
  by_cases h : n.val < 8
  · refine (pad_apply_of_inside _ _ _ _ _ _ _ (ix1 n) (ix1 (n := 8) ⟨n.val, h⟩) fun a => match a with
      | ⟨0, _⟩ => by show n.val = 0 + n.val * (0 + 1); omega).trans ?_
    by_cases h4 : n.val < 4
    · rw [dif_pos h4]
      exact (concatenate_pair_apply_left (t := S8) (s₁ := S4) (s₂ := S4) 0 _ _ _ _ rfl (ix1 (n := 4) ⟨n.val, h4⟩) fun b => match b with | ⟨0, _⟩ => rfl).trans (Proj.flat_apply BI _ _)
    · rw [dif_neg h4, dif_pos h]
      exact (concatenate_pair_apply_right (t := S8) (s₁ := S4) (s₂ := S4) 0 _ _ _ _ rfl rfl (ix1 (n := 4) ⟨n.val - 4, by omega⟩)
        (fun b hb => match b, hb with | ⟨0, _⟩, hb => absurd rfl hb) (by show n.val - 4 + 4 = n.val; omega)).trans (Proj.flat_apply BF _ _)
  · rw [dif_neg (by omega), dif_neg h]
    refine (pad_apply_of_not_inside _ _ _ _ _ _ _ (ix1 n) 0 fun hc => h ?_).trans (z0_apply _)
    have h2 : (n.val - 0) / (0 + 1) < 8 := hc.2.2
    omega

theorem V_weight (c : Dev nD) : V m c main_v14 = concatenate S2048x256 1 [⟨S2048x128, (truncf .bf16 (wpad (wt m c)) bitsLt_bf16_f32 : FVec Ideal S2048x128 .bf16)⟩,
    ⟨S2048x128, (truncf .bf16 (subf (wpad (wt m c)) (extf .f32 (truncf .bf16 (wpad (wt m c)) bitsLt_bf16_f32) bitsLt_bf16_f32)) bitsLt_bf16_f32 : FVec Ideal S2048x128 .bf16)⟩]
    concatenates_S2048x128_S2048x128_S2048x256_d1 := by
  show StableHlo.after (List.flatten [hostOps0, hostOps0_1, hostOps0_2, hostOps0_3, hostOps0_4]) _ main_v14 = _
  simp only [List.flatten_cons, List.flatten_nil, List.append_nil, List.cons_append, List.nil_append]
  after_results_simp <;> rfl

theorem V_high (c : Dev nD) (k : Fin 2048) (n : Fin 128) : V m c main_v14 (ix2 (n1 := 256) k ⟨n.val, by omega⟩) = gateW (wt m c) k n := by
  rw [V_weight]
  refine (Proj.pair_apply _ _ _ rfl k _ (by decide)).trans ?_
  rw [if_pos (Nat.div_eq_of_lt n.isLt)]
  exact (congrArg (fun j : Fin 128 => wpad (wt m c) (ix2 k j)) (Fin.ext (Nat.mod_eq_of_lt n.isLt))).trans (wpad_apply _ k n)

theorem V_low (c : Dev nD) (k : Fin 2048) (n : Fin 128) :
    V m c main_v14 (ix2 (n1 := 256) k ⟨128 + n.val, by omega⟩) = gateW (wt m c) k n - gateW (wt m c) k n := by
  rw [V_weight]
  refine (Proj.pair_apply _ _ _ rfl k _ (by decide)).trans ?_
  rw [if_neg (by show ¬ (128 + n.val) / 128 = 0; omega)]
  exact (congrArg (fun j : Fin 128 => wpad (wt m c) (ix2 k j) - wpad (wt m c) (ix2 k j))
    (Fin.ext (by show (128 + n.val) % 128 = n.val; omega))).trans (by rw [wpad_apply])

theorem V_bias (c : Dev nD) (n : Fin 128) : V m c main_v8 (ix2 (0 : Fin 1) n) = gateB (bI m c) (bF m c) n := by
  have : V m c main_v8 = shapeCast S1x128 (bpad (bI m c) (bF m c)) shapeCasts_S128_S1x128 := by
    show StableHlo.after (List.flatten [hostOps0, hostOps0_1, hostOps0_2, hostOps0_3, hostOps0_4]) _ main_v8 = _
    simp only [List.flatten_cons, List.flatten_nil, List.append_nil, List.cons_append, List.nil_append]
    after_results_simp <;> rfl
  rw [this]
  exact (shapeCast_apply _ _ (ix2 (0 : Fin 1) n) (ix1 n) (by
    rw [Shape.rowMajor_val_one, Shape.rowMajor_val_two]; show n.val = 0 * 128 + n.val; omega)).trans (bpad_apply _ _ n)

theorem V_gain (c : Dev nD) (n : Fin 2048) : V m c main_v15 (ix2 (0 : Fin 1) n) = gain m c (ix2 (0 : Fin 1) n) := by
  have : V m c main_v15 = shapeCast S1x2048 (shapeCast S2048 (gain m c) shapeCasts_S1x2048_S2048) shapeCasts_S2048_S1x2048 := by
    show StableHlo.after (List.flatten [hostOps0, hostOps0_1, hostOps0_2, hostOps0_3, hostOps0_4]) _ main_v15 = _
    simp only [List.flatten_cons, List.flatten_nil, List.append_nil, List.cons_append, List.nil_append]
    after_results_simp <;> rfl
  rw [this]; exact Proj.flat_back _ _ _ n

/-! ## The blocks read -/

theorem index0 : ∀ t : Fin cfg0.N, (cfg0.win 0).index t = ![t.val, 0] := (by decide +kernel : ∀ t : Fin grid0.N, win0_0.index t = ![t.val, 0])
theorem index1 : ∀ t : Fin cfg0.N, (cfg0.win 1).index t = ![0, 0] := (by decide +kernel : ∀ t : Fin grid0.N, win0_1.index t = ![0, 0])
theorem index2 : ∀ t : Fin cfg0.N, (cfg0.win 2).index t = ![0, 0] := (by decide +kernel : ∀ t : Fin grid0.N, win0_2.index t = ![0, 0])
theorem index3 : ∀ t : Fin cfg0.N, (cfg0.win 3).index t = ![0, 0] := (by decide +kernel : ∀ t : Fin grid0.N, win0_3.index t = ![0, 0])
theorem index4 : ∀ t : Fin cfg0.N, (cfg0.win 4).index t = ![t.val, 0] := (by decide +kernel : ∀ t : Fin grid0.N, win0_4.index t = ![t.val, 0])
theorem index5 : ∀ t : Fin cfg0.N, (cfg0.win 5).index t = ![t.val, 0] := (by decide +kernel : ∀ t : Fin grid0.N, win0_5.index t = ![t.val, 0])

theorem N_eq : cfg0.N = 16 := N_0

theorem t_lt (t : Fin cfg0.N) : t.val < 16 := lt_of_lt_of_eq t.isLt N_eq

theorem read0 (c : Dev nD) (t : Fin cfg0.N) (p : Fin 512) (k : Fin 2048) :
    (iblk m c 0 t : FVec Ideal S512x2048 .f32) (ix2 p k) = rows m c (ix2 (n0 := 8192) ⟨t.val * 512 + p.val, by have := p.isLt; have := t_lt t; omega⟩ k) := by
  refine Eq.trans ?_ (congrFun (V_main_arg0 m c) _)
  exact congrArg (V m c main_arg0) (funext fun a => Fin.ext (by
    refine (win0_0.rect_emb_val_off t (ix2 p k) a).trans ?_
    rw [show win0_0.index t = _ from index0 t]
    match a with
    | ⟨0, _⟩ => rfl
    | ⟨1, _⟩ => exact Nat.zero_add _))

theorem read1 (c : Dev nD) (t : Fin cfg0.N) (n : Fin 2048) :
    (iblk m c 1 t : FVec Ideal S1x2048 .f32) (ix2 (0 : Fin 1) n) = gain m c (ix2 (0 : Fin 1) n) := by
  refine Eq.trans ?_ (V_gain m c n)
  exact congrArg (V m c main_v15) (funext fun a => Fin.ext (by
    refine (win0_1.rect_emb_val_off t (ix2 (0 : Fin 1) n) a).trans ?_
    rw [show win0_1.index t = _ from index1 t]
    match a with
    | ⟨0, _⟩ => rfl
    | ⟨1, _⟩ => exact Nat.zero_add _))

theorem read2 (c : Dev nD) (t : Fin cfg0.N) (k : Fin 2048) (n : Fin 256) :
    (iblk m c 2 t : FVec Ideal S2048x256 .bf16) (ix2 k n) = V m c main_v14 (ix2 k n) :=
  congrArg (V m c main_v14) (funext fun a => Fin.ext (by
    refine (win0_2.rect_emb_val_off t (ix2 k n) a).trans ?_
    rw [show win0_2.index t = _ from index2 t]
    match a with
    | ⟨0, _⟩ => exact Nat.zero_add _
    | ⟨1, _⟩ => exact Nat.zero_add _))

theorem read3 (c : Dev nD) (t : Fin cfg0.N) (n : Fin 128) :
    (iblk m c 3 t : FVec Ideal S1x128 .f32) (ix2 (0 : Fin 1) n) = gateB (bI m c) (bF m c) n := by
  refine Eq.trans ?_ (V_bias m c n)
  exact congrArg (V m c main_v8) (funext fun a => Fin.ext (by
    refine (win0_3.rect_emb_val_off t (ix2 (0 : Fin 1) n) a).trans ?_
    rw [show win0_3.index t = _ from index3 t]
    match a with
    | ⟨0, _⟩ => rfl
    | ⟨1, _⟩ => exact Nat.zero_add _))

/-! ## What the body stores -/

theorem pay2_apply (x : FVec Ideal S512x2048 .f32) (g : FVec Ideal S1x2048 .f32) (p : Fin 512) (n : Fin 2048) :
    k0_pay2 (F := Ideal) x g (ix2 p n) = Proj.rms (fun k => x (ix2 p k)) (g (ix2 (0 : Fin 1) n)) n :=
  (Proj.kernel_rms (M := 512) (K := 2048) x (shapeCast S1x2048 g shapeCasts_S1x2048_S1x2048) 0x00000000#32 reduces_S512x2048_S512 (.inl rfl) rfl
    shapeCasts_S512_S512x1 broadcasts_S512x1_S512x2048 broadcasts_S1x2048_S512x2048 p n).trans (by rw [shapeCast_self])

/-- A product of the gates' matmul, started from zero. -/
theorem dot_apply (h : FVec Ideal S512x2048 .bf16) (w : FVec Ideal S2048x256 .bf16) (p : Fin 512) (n : Fin 256) :
    matmul (F := Ideal) dot_S512x2048_S2048x256_S512x256_1_0_0_1_n_n none h w (constant S512x256 .f32 0x00000000#32) (ix2 p n)
      = ∑ k : Fin 2048, h (ix2 p k) * w (ix2 k n) := by
  refine (Ideal.matmul_plain_apply (M := 512) (K := 2048) (N := 256) none h w _ p n).trans ?_
  rw [constant_apply, Ideal.ofBits_zero_f32, zero_add]

/-- The three products of the high and low parts, and the bias. -/
theorem pay4_apply (x : FVec Ideal S512x2048 .f32) (g : FVec Ideal S1x2048 .f32) (w : FVec Ideal S2048x256 .bf16) (b : FVec Ideal S1x128 .f32)
    (p : Fin 512) (n : Fin 128) :
    k0_pay4 (F := Ideal) x g w w b (ix2 p n)
      = (∑ k : Fin 2048, k0_pay2 (F := Ideal) x g (ix2 p k) * w (ix2 (n1 := 256) k ⟨n.val, by omega⟩)
        + ∑ k : Fin 2048, k0_pay2 (F := Ideal) x g (ix2 p k) * w (ix2 (n1 := 256) k ⟨128 + n.val, by omega⟩)
        + ∑ k : Fin 2048, (k0_pay2 (F := Ideal) x g (ix2 p k) - k0_pay2 (F := Ideal) x g (ix2 p k)) * w (ix2 (n1 := 256) k ⟨n.val, by omega⟩))
        + b (ix2 (0 : Fin 1) n) := by
  unfold k0_pay4
  simp only [shapeCast_self]
  refine congrArg₂ (· + ·) (congrArg₂ (· + ·) (congrArg₂ (· + ·) ?_ ?_) ?_) ?_
  · exact (extractStridedSlice_apply _ _ _ _ (ix2 (n1 := 256) p ⟨n.val, by omega⟩) fun a => match a with
      | ⟨0, _⟩ => (Nat.zero_add _).symm | ⟨1, _⟩ => (Nat.zero_add _).symm).trans (dot_apply _ w p _)
  · exact (extractStridedSlice_apply _ _ _ _ (ix2 (n1 := 256) p ⟨128 + n.val, by omega⟩) fun a => match a with
      | ⟨0, _⟩ => (Nat.zero_add _).symm | ⟨1, _⟩ => rfl).trans (dot_apply _ w p _)
  · exact (extractStridedSlice_apply _ _ _ _ (ix2 (n1 := 256) p ⟨n.val, by omega⟩) fun a => match a with
      | ⟨0, _⟩ => (Nat.zero_add _).symm | ⟨1, _⟩ => (Nat.zero_add _).symm).trans (dot_apply _ w p _)
  · exact broadcastTo_apply b broadcasts_S1x128_S512x128 (ix2 p n) (ix2 (0 : Fin 1) n) fun a => match a with | ⟨0, _⟩ => rfl | ⟨1, _⟩ => rfl

/-- Which columns take the logarithm of the logistic function. -/
theorem lane : ∀ n : Fin 128, IntOp.andi (IntOp.cmpi .sge (BitVec.ofNat 32 n.val) 4#32) (IntOp.cmpi .slt (BitVec.ofNat 32 n.val) 8#32)
    = BitVec.ofBool (decide (4 ≤ n.val ∧ n.val < 8)) := by decide +kernel

theorem pay1_apply (y : FVec Ideal S512x128 .f32) (p : Fin 512) (n : Fin 128) :
    k0_pay1 (F := Ideal) y (iota .tc S512x128 32 [1] iota_S512x128_d1_w32) k0_pay5 k0_pay6 (ix2 p n) = gate n (y (ix2 p n)) := by
  have e : iota .tc S512x128 32 [1] iota_S512x128_d1_w32 (ix2 p n) = BitVec.ofNat 32 n.val := iota_single_apply _ _ _ _ _ _
  show Scalar.select (IntOp.andi (IntOp.cmpi .sge (iota .tc S512x128 32 [1] iota_S512x128_d1_w32 (ix2 p n)) 4#32)
    (IntOp.cmpi .slt (iota .tc S512x128 32 [1] iota_S512x128_d1_w32 (ix2 p n)) 8#32)) _ (y (ix2 p n)) = _
  rw [e, lane]
  unfold gate Scalar.select
  by_cases h : 4 ≤ n.val ∧ n.val < 8
  · rw [if_pos h, decide_eq_true h]; exact Proj.kernel_logSigmoid _
  · rw [if_neg h, decide_eq_false h]; rfl

/-! ## The write-backs -/

/-- A row of a block, normalised, is a row of the first result. -/
theorem norm_block (c : Dev nD) (t : Fin cfg0.N) (p : Fin 512) (r : Fin 8192) (hr : r.val = t.val * 512 + p.val) (k : Fin 2048) :
    k0_pay2 (F := Ideal) (iblk m c 0 t) (iblk m c 1 t) (ix2 p k) = outH (rows m c) (gain m c) (ix2 r k) := by
  refine (pay2_apply (iblk m c 0 t) (iblk m c 1 t) p k).trans ?_
  rw [read1]
  exact congrArg (fun f => Proj.rms f (gain m c (ix2 (0 : Fin 1) k)) k) (funext fun j => (read0 m c t p j).trans
    (congrArg (fun r : Fin 8192 => rows m c (ix2 r j)) (Fin.ext hr.symm)))

theorem flushed4 (c : Dev nD) (t : Fin cfg0.N) :
    (dats m 0 c).flushed 4 t = ((cfg0.win 4).blk t).view.read (Elt Ideal) (outH (rows m c) (gain m c)) := by
  rw [Cert.FrontIdeal.Value.flushed4]
  unfold out0_4
  rw [View.canon_unit_zero Proj.off0, View.ld_unit_zero Proj.off0, View.ld_unit_zero Proj.off0]
  funext y
  obtain ⟨p, q, rfl⟩ : ∃ (p : Fin 512) (q : Fin 2048), y = ix2 p q := ⟨y 0, y 1, eq_ix2 y⟩
  have h0 := (win0_4.rect_emb_val_off t (ix2 p q) 0).trans (by rw [show win0_4.index t = _ from index4 t]; rfl : _ = t.val * 512 + p.val)
  have h1 : ((win0_4.rect t).emb (ix2 p q) 1 : Fin 2048) = q :=
    Fin.ext ((win0_4.rect_emb_val_off t (ix2 p q) 1).trans (by rw [show win0_4.index t = _ from index4 t]; exact Nat.zero_add _))
  refine (norm_block m c t p ((win0_4.rect t).emb (ix2 p q) 0) h0 q).trans (congrArg (outH (rows m c) (gain m c)) ?_)
  exact (congrArg (fun n : Fin 2048 => ix2 (n0 := 8192) ((win0_4.rect t).emb (ix2 p q) 0) n) h1.symm).trans (eq_ix2 _).symm

/-- With the gains and the gates' columns finite, the low parts' products are 0: a row of gates of a block is a row of the second result. -/
theorem gates_block (c : Dev nD) (hg : ∀ n, Proj.IsReal (gain m c (ix2 (0 : Fin 1) n))) (hw : ∀ k n, Proj.IsReal (gateW (wt m c) k n)) (t : Fin cfg0.N)
    (p : Fin 512) (r : Fin 8192) (hr : r.val = t.val * 512 + p.val) (q : Fin 128) :
    k0_pay1 (F := Ideal) (k0_pay4 (iblk m c 0 t) (iblk m c 1 t) (iblk m c 2 t) (iblk m c 2 t) (iblk m c 3 t))
      (iota .tc S512x128 32 [1] iota_S512x128_d1_w32) k0_pay5 k0_pay6 (ix2 p q)
      = outG (rows m c) (gain m c) (wt m c) (bI m c) (bF m c) (ix2 r q) := by
  have hH := norm_block m c t p r hr
  have hh : ∀ k, Proj.IsReal (outH (rows m c) (gain m c) (ix2 r k)) := fun k => Proj.rms_real _ (hg k) k
  have hi : ∀ k, (iblk m c 2 t : FVec Ideal S2048x256 .bf16) (ix2 (n1 := 256) k ⟨q.val, by omega⟩) = gateW (wt m c) k q :=
    fun k => (read2 m c t k _).trans (V_high m c k q)
  have lo : ∀ k, (iblk m c 2 t : FVec Ideal S2048x256 .bf16) (ix2 (n1 := 256) k ⟨128 + q.val, by omega⟩) = gateW (wt m c) k q - gateW (wt m c) k q :=
    fun k => (read2 m c t k _).trans (V_low m c k q)
  refine (pay1_apply _ p q).trans (congrArg (gate q) ?_)
  refine (pay4_apply (iblk m c 0 t) (iblk m c 1 t) (iblk m c 2 t) (iblk m c 3 t) p q).trans (congrArg₂ (· + ·) ?_ (read3 m c t q))
  simp only [hH, hi, lo]
  rw [Proj.sum_low_left _ _ hh, Proj.sum_low_right _ _ fun k => hw k q, add_zero, add_zero]

theorem flushed5 (c : Dev nD) (hg : ∀ n, Proj.IsReal (gain m c (ix2 (0 : Fin 1) n))) (hw : ∀ k n, Proj.IsReal (gateW (wt m c) k n)) (t : Fin cfg0.N) :
    (dats m 0 c).flushed 5 t = ((cfg0.win 5).blk t).view.read (Elt Ideal) (outG (rows m c) (gain m c) (wt m c) (bI m c) (bF m c)) := by
  rw [Cert.FrontIdeal.Value.flushed5]
  unfold out0_5
  rw [View.canon_unit_zero Proj.off0, View.ld_unit_zero Proj.off0, View.ld_unit_zero Proj.off0, View.ld_unit_zero Proj.off0, View.ld_unit_zero Proj.off0]
  funext y
  obtain ⟨p, q, rfl⟩ : ∃ (p : Fin 512) (q : Fin 128), y = ix2 p q := ⟨y 0, y 1, eq_ix2 y⟩
  have h0 := (win0_5.rect_emb_val_off t (ix2 p q) 0).trans (by rw [show win0_5.index t = _ from index5 t]; rfl : _ = t.val * 512 + p.val)
  have h1 : ((win0_5.rect t).emb (ix2 p q) 1 : Fin 128) = q :=
    Fin.ext ((win0_5.rect_emb_val_off t (ix2 p q) 1).trans (by rw [show win0_5.index t = _ from index5 t]; exact Nat.zero_add _))
  refine (gates_block m c hg hw t p ((win0_5.rect t).emb (ix2 p q) 0) h0 q).trans (congrArg (outG (rows m c) (gain m c) (wt m c) (bI m c) (bF m c)) ?_)
  exact (congrArg (fun n : Fin 128 => ix2 (n0 := 8192) ((win0_5.rect t).emb (ix2 p q) 0) n) h1.symm).trans (eq_ix2 _).symm

theorem xsize4 : ∀ t : Fin cfg0.N, (cfg0.win 4).xsize (grid0.coords t) = ![512, 2048] :=
  (by decide +kernel : ∀ t : Fin grid0.N, win0_4.xsize (grid0.coords t) = ![512, 2048])
theorem xsize5 : ∀ t : Fin cfg0.N, (cfg0.win 5).xsize (grid0.coords t) = ![512, 128] :=
  (by decide +kernel : ∀ t : Fin grid0.N, win0_5.xsize (grid0.coords t) = ![512, 128])

theorem arr4 (c : Dev nD) : (dats m 0 c).arrAt 4 cfg0.N = outH (rows m c) (gain m c) :=
  (dats m 0 c).arrAt_eq_of_cover 4 _ (fun t _ => flushed4 m c t) fun i => by
    have h0 : (i 0 : Nat) < 8192 := (i 0).isLt
    have h1 : (i 1 : Nat) < 2048 := (i 1).isLt
    let t : Fin cfg0.N := ⟨(i 0 : Nat) / 512, by rw [N_eq]; omega⟩
    have ht : t.val = (i 0 : Nat) / 512 := rfl
    refine ⟨t, flush0_4 t, ?_⟩
    show i ∈ ((View.whole main_v16_0).slice (win0_4.rect t)).set
    rw [View.set_slice_whole, Rect.mem_set_unit]
    intro a
    show win0_4.index t a * _ ≤ _ ∧ _ < win0_4.index t a * _ + win0_4.xsize (grid0.coords t) a
    rw [show win0_4.index t = _ from index4 t, show win0_4.xsize (grid0.coords t) = _ from xsize4 t]
    match a with
    | ⟨0, _⟩ => show t.val * 512 ≤ (i 0 : Nat) ∧ (i 0 : Nat) < t.val * 512 + 512; omega
    | ⟨1, _⟩ => show 0 * 2048 ≤ (i 1 : Nat) ∧ (i 1 : Nat) < 0 * 2048 + 2048; omega

theorem arr5 (c : Dev nD) (hg : ∀ n, Proj.IsReal (gain m c (ix2 (0 : Fin 1) n))) (hw : ∀ k n, Proj.IsReal (gateW (wt m c) k n)) :
    (dats m 0 c).arrAt 5 cfg0.N = outG (rows m c) (gain m c) (wt m c) (bI m c) (bF m c) :=
  (dats m 0 c).arrAt_eq_of_cover 5 _ (fun t _ => flushed5 m c hg hw t) fun i => by
    have h0 : (i 0 : Nat) < 8192 := (i 0).isLt
    have h1 : (i 1 : Nat) < 128 := (i 1).isLt
    let t : Fin cfg0.N := ⟨(i 0 : Nat) / 512, by rw [N_eq]; omega⟩
    have ht : t.val = (i 0 : Nat) / 512 := rfl
    refine ⟨t, flush0_5 t, ?_⟩
    show i ∈ ((View.whole main_v16_1).slice (win0_5.rect t)).set
    rw [View.set_slice_whole, Rect.mem_set_unit]
    intro a
    show win0_5.index t a * _ ≤ _ ∧ _ < win0_5.index t a * _ + win0_5.xsize (grid0.coords t) a
    rw [show win0_5.index t = _ from index5 t, show win0_5.xsize (grid0.coords t) = _ from xsize5 t]
    match a with
    | ⟨0, _⟩ => show t.val * 512 ≤ (i 0 : Nat) ∧ (i 0 : Nat) < t.val * 512 + 512; omega
    | ⟨1, _⟩ => show 0 * 128 ≤ (i 1 : Nat) ∧ (i 1 : Nat) < 0 * 128 + 128; omega

/-! ## The reference -/

section Reference

variable (X : FVec Ideal S8192x2048 .f32) (G : FVec Ideal S1x2048 .f32) (W : FVec Ideal S1x2048x9224 .f32) (BI BF : FVec Ideal S1x4 .f32)

open Cert.RefFrontIdeal.Read in
theorem ref_norm (r : Fin 8192) (n : Fin 2048) : val_main_v13 (F := Ideal) X G (ix2 r n) = outH X G (ix2 r n) :=
  (Proj.host_rms (M := 8192) (K := 2048) X (val_main_v0 (F := Ideal) G)
    (by decide) (by decide) (by decide) (by decide) (by decide) (by decide) (by decide) (by decide) (by decide) r n).trans
    (congrArg (fun g => Proj.rms (fun k => X (ix2 r k)) g n) (Proj.flat_apply G _ n))

open Cert.RefFrontIdeal.Read in
theorem ref_H : val_main_v28 (F := Ideal) X G = outH X G := by
  funext i
  obtain ⟨r, n, rfl⟩ : ∃ (r : Fin 8192) (n : Fin 2048), i = ix2 r n := ⟨i 0, i 1, eq_ix2 i⟩
  exact ref_norm X G r n

open Cert.RefFrontIdeal.Read in
/-- The reference's product, at one of the gates' columns. -/
theorem ref_dot (r : Fin 8192) (n : Fin 128) (h : n.val < 8) :
    val_main_v15 (F := Ideal) X G W (ix2 (n1 := 9224) r ⟨5120 + n.val, by omega⟩) = ∑ k : Fin 2048, outH X G (ix2 r k) * gateW W k n := by
  refine (Proj.host_apply (R := 8192) (K := 2048) (N := 9224) (φ₁ := .f32) (φ₂ := .f32) (val_main_v13 (F := Ideal) X G) W _ r _).trans
    (Finset.sum_congr rfl fun k _ => ?_)
  unfold gateW
  rw [dif_pos h, ref_norm]

open Cert.RefFrontIdeal.Read in
theorem ref_bI (r : Fin 8192) (n : Fin 4) : val_main_v20 (F := Ideal) BI (ix2 r n) = BI (ix2 (0 : Fin 1) n) := by
  rw [val_main_v20_apply, val_main_v19_apply]
  exact (congrArg (val_main_v18 (F := Ideal) BI) (funext fun a => match a with | ⟨0, _⟩ => rfl)).trans (Proj.flat_apply BI _ n)

open Cert.RefFrontIdeal.Read in
theorem ref_bF (r : Fin 8192) (n : Fin 4) : val_main_v24 (F := Ideal) BF (ix2 r n) = BF (ix2 (0 : Fin 1) n) := by
  rw [val_main_v24_apply, val_main_v23_apply]
  exact (congrArg (val_main_v22 (F := Ideal) BF) (funext fun a => match a with | ⟨0, _⟩ => rfl)).trans (Proj.flat_apply BF _ n)

open Cert.RefFrontIdeal.Read in
/-- The first four gates. -/
theorem ref_first (r : Fin 8192) (n : Fin 128) (h : n.val < 4) :
    val_main_v21 (F := Ideal) X G W BI (ix2 (n1 := 4) r ⟨n.val, h⟩) = outG X G W BI BF (ix2 r n) := by
  refine Eq.trans (congrArg₂ (· + ·) ((extractStridedSlice_apply _ _ _ _ (ix2 (n1 := 9224) r ⟨5120 + n.val, by omega⟩) fun a => match a with
    | ⟨0, _⟩ => (Nat.zero_add _).symm | ⟨1, _⟩ => rfl).trans (ref_dot X G W r n (by omega))) (ref_bI BI r _)) ?_
  show _ = gate n (∑ k : Fin 2048, outH X G (ix2 r k) * gateW W k n + gateB BI BF n)
  unfold gate gateB
  rw [if_neg (by omega), dif_pos h]

open Cert.RefFrontIdeal.Read in
/-- The last four. -/
theorem ref_last (r : Fin 8192) (n : Fin 128) (h : 4 ≤ n.val) (h' : n.val < 8) :
    val_main_v26 (F := Ideal) X G W BF (ix2 (n1 := 4) r ⟨n.val - 4, by omega⟩) = outG X G W BI BF (ix2 r n) := by
  have e : val_main_v25 (F := Ideal) X G W BF (ix2 (n1 := 4) r ⟨n.val - 4, by omega⟩)
      = ∑ k : Fin 2048, outH X G (ix2 r k) * gateW W k n + BF (ix2 (n1 := 4) (0 : Fin 1) ⟨n.val - 4, by omega⟩) :=
    congrArg₂ (· + ·) ((extractStridedSlice_apply _ _ _ _ (ix2 (n1 := 9224) r ⟨5120 + n.val, by omega⟩) fun a => match a with
      | ⟨0, _⟩ => (Nat.zero_add _).symm | ⟨1, _⟩ => by show 5120 + n.val = 5124 + (n.val - 4); omega).trans (ref_dot X G W r n h')) (ref_bF BF r _)
  refine (Proj.host_logSigmoid (val_main_v25 (F := Ideal) X G W BF (ix2 (n1 := 4) r ⟨n.val - 4, by omega⟩))).trans ?_
  rw [e]
  show _ = gate n (∑ k : Fin 2048, outH X G (ix2 r k) * gateW W k n + gateB BI BF n)
  unfold gate gateB
  rw [if_pos ⟨h, h'⟩, dif_neg (by omega), dif_pos h']

open Cert.RefFrontIdeal.Read in
theorem ref_G : val_main_v29 (F := Ideal) X G W BI BF = outG X G W BI BF := by
  funext i
  obtain ⟨r, n, rfl⟩ : ∃ (r : Fin 8192) (n : Fin 128), i = ix2 r n := ⟨i 0, i 1, eq_ix2 i⟩
  unfold val_main_v29
  by_cases h : n.val < 8
  · refine (pad_apply_of_inside _ _ _ _ _ _ _ (ix2 r n) (ix2 (n1 := 8) r ⟨n.val, h⟩) fun a => match a with
      | ⟨0, _⟩ => by show r.val = 0 + r.val * (0 + 1); omega
      | ⟨1, _⟩ => by show n.val = 0 + n.val * (0 + 1); omega).trans ?_
    refine (Proj.pair_apply _ _ _ rfl r _ (by decide)).trans ?_
    by_cases h4 : n.val < 4
    · rw [if_pos (Nat.div_eq_of_lt h4)]
      refine Eq.trans (congrArg (fun q : Fin 4 => val_main_v21 (F := Ideal) X G W BI (ix2 r q))
        (Fin.ext (Nat.mod_eq_of_lt h4) : (⟨n.val % 4, Nat.mod_lt _ (by decide)⟩ : Fin 4) = ⟨n.val, h4⟩)) ?_
      exact ref_first X G W BI BF r n h4
    · rw [if_neg (by show ¬ n.val / 4 = 0; omega)]
      refine Eq.trans (congrArg (fun q : Fin 4 => val_main_v26 (F := Ideal) X G W BF (ix2 r q))
        (Fin.ext (by show n.val % 4 = n.val - 4; omega) : _ = (⟨n.val - 4, by omega⟩ : Fin 4))) ?_
      exact ref_last X G W BI BF r n (by omega) h
  · refine (pad_apply_of_not_inside _ _ _ _ _ _ _ (ix2 r n) 1 fun hc => h ?_).trans ((z0_apply _).trans ?_)
    · have h2 : (n.val - 0) / (0 + 1) < 8 := hc.2.2
      omega
    · show 0 = gate n (∑ k : Fin 2048, outH X G (ix2 r k) * gateW W k n + gateB BI BF n)
      unfold gate gateB gateW
      rw [if_neg (by omega), dif_neg (by omega), dif_neg h]
      simp only [dif_neg h, mul_zero, Finset.sum_const_zero, add_zero]

end Reference

/-! ## The claims -/

/-- What the precondition says of the gains and of the gates' columns. -/
theorem real_of_bit {x : EReal} (h : FloatOps.cmpf (F := Ideal) (φ := .f32) .olt (max x (-x)) (Ideal.ofBits .f32 0x7F800000#32) = 1#1) : Proj.IsReal x := by
  refine Proj.IsReal.of_abs ?_
  rw [Proj.inf_bits] at h
  by_contra hn
  rw [show FloatOps.cmpf (F := Ideal) (φ := .f32) .olt (max x (-x)) ⊤ = BitVec.ofBool (decide (max x (-x) < ⊤)) from rfl, decide_eq_false hn] at h
  exact absurd h (by decide)

theorem gain_real (hpre : Cert.Pre_FrontIdeal_finite m) (c : Dev nD) (n : Fin 2048) : Proj.IsReal (gain m c (ix2 (0 : Fin 1) n)) :=
  real_of_bit (congrFun (hpre c).1 (ix2 (0 : Fin 1) n))

theorem gateW_real (hpre : Cert.Pre_FrontIdeal_finite m) (c : Dev nD) (k : Fin 2048) (n : Fin 128) : Proj.IsReal (gateW (wt m c) k n) := by
  unfold gateW
  by_cases h : n.val < 8
  · rw [dif_pos h]
    have e : extractStridedSlice Cert.Pre_finite.S1x2048x8 ![0, 0, 5120] (wt m c) Cert.Pre_finite.Gen.slices_S1x2048x9224_S1x2048x8_0_0_5120
        (ix3 (n2 := 8) (0 : Fin 1) k ⟨n.val, h⟩) = wt m c (ix3 (n2 := 9224) (0 : Fin 1) k ⟨5120 + n.val, by omega⟩) :=
      extractStridedSlice_apply _ _ _ _ _ fun a => match a with | ⟨0, _⟩ => rfl | ⟨1, _⟩ => (Nat.zero_add _).symm | ⟨2, _⟩ => rfl
    rw [← e]
    exact real_of_bit (congrFun (hpre c).2 (ix3 (n2 := 8) (0 : Fin 1) k ⟨n.val, h⟩))
  · rw [dif_neg h]; exact Proj.IsReal.zero

/-- The kernel's run: the results at the rows and the gates, the arguments unchanged. -/
theorem run_value (hpre : Cert.Pre_FrontIdeal_finite m) : θ_run defs (onTc (τ := τ) (main (F := Ideal))) ⟨m, fun _ => 0, ρ⟩ (fun r => ∀ c : Dev nD,
      r.2.mem ((c.tc : Thread nD τ).loc main_v16_0) = outH (rows m c) (gain m c)
      ∧ r.2.mem ((c.tc : Thread nD τ).loc main_v16_1) = outG (rows m c) (gain m c) (wt m c) (bI m c) (bF m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (arr4 m c), (h c).2.1.trans (arr5 m c (gain_real m hpre c) (gateW_real m hpre c)), (h c).2.2⟩)
    (Cert.FrontIdeal.Value.run_blocks (F := Ideal) m ρ)

theorem algebraic : Cert.algebraic_FrontIdeal_RefFrontIdeal_pre_finite := fun m g m' g' hpre hagree =>
  ⟨fun c => outH (rows m c) (gain m c), fun c => outG (rows m c) (gain m c) (wt m c) (bI m c) (bF m c), run_value m g hpre,
    (θ_run Cert.RefFrontIdeal.defs _ _).mono (fun _ h c => by
      obtain ⟨h1, h2, h3⟩ := h c
      obtain ⟨a0, a1, a2, a3, a4⟩ := hagree c
      refine ⟨h1.trans ((Cert.RefFrontIdeal.Read.val_main_v28_eq _ _).trans ?_), h2.trans ((Cert.RefFrontIdeal.Read.val_main_v29_eq _ _).trans ?_), h3⟩
      · rw [a0, a1]; exact ref_H _ _
      · rw [a0, a1, a2, a3, a4]; exact ref_G _ _ _ _ _) (Cert.RefFrontIdeal.Value.run (F := Ideal) m' g')⟩

/-- The program as printed and its idealization have one body, label by label. -/
theorem defs_eq {F : FTy → Type} [FloatOps F] : Cert.Front.defs (F := F) = Cert.FrontIdeal.defs :=
  congrArg (Pipeline.defs Cert.FrontIdeal.pcfgs) (by
    unfold Cert.Front.defs₀ Cert.FrontIdeal.defs₀
    congr 1
    funext l a
    match l, a with
    | 0, (t, s) => rfl)

/-- So the printed program's run is the same run, at the machine's numbers. -/
theorem frame_kernel : Cert.quiescent_Front := fun m ρ _ => by
  rw [defs_eq]; exact frame (F := Bits) m ρ

theorem frame_ideal : Cert.quiescent_FrontIdeal := fun m ρ _ => frame (F := Ideal) m ρ

theorem frame_ideal_finite : Cert.quiescent_FrontIdeal_pre_finite := fun m ρ _ => frame_ideal m ρ trivial

theorem frame_ref : Cert.quiescent_RefFrontIdeal := fun m ρ _ =>
  (θ_run Cert.RefFrontIdeal.defs _ _).mono (fun r h => ⟨fun c => (h c).2.2, sem_eq_zero_of_no_sems (by decide) r.2⟩)
    (Cert.RefFrontIdeal.Value.run (F := Ideal) m ρ)

theorem frame_ref_finite : Cert.quiescent_RefFrontIdeal_pre_finite := fun m ρ _ => frame_ref m ρ trivial

end Cert.FrontIdeal.Body

end
-- ==== Proof.MixValue.lean ====
/- What the sample's spatial mix computes: each row of a batch's eight, gated, times the sum of the rows up to it weighted by the group of
   the column. The kernel adds eight products to every tile of eight rows and 256 columns; the reference pads the rows of a batch to 128
   with zeros, multiplies by the whole masked weights and drops the padding. -/
module

public import proofs.«01_k».proof.Proof.Act
public import proofs.«01_k».proof.Proof.Gate
public import proofs.«01_k».proof.Proof.Tiles
public import proofs.«01_k».proof.Proof.Gen.Mix
public import proofs.«01_k».proof.Proof.Gen.MixIdeal.Value
public import proofs.«01_k».proof.Proof.Gen.RefMixIdeal.Run
public import proofs.«01_k».proof.Proof.Gen.RefMixIdeal.Read
public import proofs.«01_k».proof.Defs
public import Idealize.ShloMosaic.Lib.KernelVsHost
public import Idealize.ShloMosaic.Lib.Pipeline.ValueKit.Tiles

@[expose] public section

set_option maxRecDepth 16384

noncomputable section

namespace Cert.MixIdeal.Body

open Idealize.ShloMosaic Idealize.ShloMosaic.TcCoe Idealize.ShloMosaic.ValueIdx Idealize.SL.Sem
open Idealize.ShloMosaic.Pipeline (Dat Cfg Window)
open Cert.MixIdeal.Gen

variable (m : (ℓ : Loc nD τ sig) → Buf (Elt Ideal) ℓ) (ρ : Dev nD → PrngReg)

/-- The launch contents of the arguments. -/
abbrev us (c : Dev nD) : FVec Ideal S64x2048 .f32 := m ((c.tc : Thread nD τ).loc main_arg0)
abbrev vs (c : Dev nD) : FVec Ideal S64x2048 .f32 := m ((c.tc : Thread nD τ).loc main_arg1)
abbrev gs (c : Dev nD) : FVec Ideal S64x2048 .f32 := m ((c.tc : Thread nD τ).loc main_arg2)
abbrev ws (c : Dev nD) : FVec Ideal S1x8x128x128 .f32 := m ((c.tc : Thread nD τ).loc main_arg3)
abbrev bs (c : Dev nD) : FVec Ideal S1x8x128 .f32 := m ((c.tc : Thread nD τ).loc main_arg4)

/-- A position of a batch's eight, among a chunk's 128. -/
abbrev pos (p : Fin 8) : Fin 128 := ⟨p.val, by omega⟩

/-- Row `p` of batch `a` at column `c` of group `g`, mixed. -/
def mix (V : S64x2048.Idx → EReal) (W : S1x8x128x128.Idx → EReal) (B : S1x8x128.Idx → EReal) (a p g : Fin 8) (c : Fin 256) : EReal :=
  (∑ s : Fin 8, Proj.past (pos p) (pos s) (W (ix4 (0 : Fin 1) g (pos p) (pos s)))
      * V (ix2 (n0 := 64) (n1 := 2048) ⟨8 * a.val + s.val, by omega⟩ ⟨256 * g.val + c.val, by omega⟩))
    + B (ix3 (0 : Fin 1) g (pos p))

/-- The result at row `r` and column `k`. -/
def outAt (U V G : S64x2048.Idx → EReal) (W : S1x8x128x128.Idx → EReal) (B : S1x8x128.Idx → EReal) (r : Fin 64) (k : Fin 2048) : EReal :=
  U (ix2 r k) * mix V W B ⟨r.val / 8, by omega⟩ ⟨r.val % 8, Nat.mod_lt _ (by decide)⟩ ⟨k.val / 256, by omega⟩
    ⟨k.val % 256, Nat.mod_lt _ (by decide)⟩ * G (ix2 r k)

/-- The result. -/
def out (U V G : S64x2048.Idx → EReal) (W : S1x8x128x128.Idx → EReal) (B : S1x8x128.Idx → EReal) : S64x2048.Idx → EReal := fun i =>
  outAt U V G W B (i 0) (i 1)

/-! ## The kernel's tiles -/

/-- One product of the eight a tile adds. -/
def term (w : FVec Ideal S8x8 .f32) (v : FVec Ideal S8x256 .f32) (s : ℕ) (hw : S8x8.Slices ![0, s] S8x1) (hv : S8x256.Slices ![s, 0] S1x256) :
    FVec Ideal S8x256 .f32 :=
  mulf (broadcastTo S8x256 (extractStridedSlice S8x1 ![0, s] w hw) broadcasts_S8x1_S8x256)
    (broadcastTo S8x256 (extractStridedSlice S1x256 ![s, 0] v hv) broadcasts_S1x256_S8x256)

theorem term_apply (w : FVec Ideal S8x8 .f32) (v : FVec Ideal S8x256 .f32) (s : ℕ) (hw) (hv) (hs : s < 8) (p : Fin 8) (c : Fin 256) :
    term w v s hw hv (ix2 p c) = w (ix2 p ⟨s, hs⟩) * v (ix2 ⟨s, hs⟩ c) := by
  have e1 := (broadcastTo_apply (extractStridedSlice S8x1 ![0, s] w hw) broadcasts_S8x1_S8x256 (ix2 p c) (ix2 p (0 : Fin 1)) fun a => match a with
    | ⟨0, _⟩ => rfl
    | ⟨1, _⟩ => rfl).trans (extractStridedSlice_apply _ w hw (ix2 p (0 : Fin 1)) (ix2 p ⟨s, hs⟩) fun a => match a with
    | ⟨0, _⟩ => (Nat.zero_add _).symm
    | ⟨1, _⟩ => rfl)
  have e2 := (broadcastTo_apply (extractStridedSlice S1x256 ![s, 0] v hv) broadcasts_S1x256_S8x256 (ix2 p c) (ix2 (0 : Fin 1) c) fun a => match a with
    | ⟨0, _⟩ => rfl
    | ⟨1, _⟩ => rfl).trans (extractStridedSlice_apply _ v hv (ix2 (0 : Fin 1) c) (ix2 ⟨s, hs⟩ c) fun a => match a with
    | ⟨0, _⟩ => rfl
    | ⟨1, _⟩ => (Nat.zero_add _).symm)
  unfold term
  dsimp only [mulf]
  rw [e1, e2]
  rfl

/-- A tile of the result, of its weights, its biases and its three operands. -/
def tile (w : FVec Ideal S8x8 .f32) (b : FVec Ideal S8x1 .f32) (v u g : FVec Ideal S8x256 .f32) : FVec Ideal S8x256 .f32 :=
  mulf (mulf u (addf (addf (addf (addf (addf (addf (addf (addf (addf (broadcast S8x256 (Scalar.ofBits .f32 0x00000000#32 : Ideal .f32))
    (term w v 0 slices_S8x8_o0_0_S8x1 slices_S8x256_o0_0_S1x256))
    (term w v 1 slices_S8x8_o0_1_S8x1 slices_S8x256_o1_0_S1x256))
    (term w v 2 slices_S8x8_o0_2_S8x1 slices_S8x256_o2_0_S1x256))
    (term w v 3 slices_S8x8_o0_3_S8x1 slices_S8x256_o3_0_S1x256))
    (term w v 4 slices_S8x8_o0_4_S8x1 slices_S8x256_o4_0_S1x256))
    (term w v 5 slices_S8x8_o0_5_S8x1 slices_S8x256_o5_0_S1x256))
    (term w v 6 slices_S8x8_o0_6_S8x1 slices_S8x256_o6_0_S1x256))
    (term w v 7 slices_S8x8_o0_7_S8x1 slices_S8x256_o7_0_S1x256))
    (broadcastTo S8x256 b broadcasts_S8x1_S8x256))) g

theorem tile_apply (w : FVec Ideal S8x8 .f32) (b : FVec Ideal S8x1 .f32) (v u g : FVec Ideal S8x256 .f32) (p : Fin 8) (c : Fin 256) :
    tile w b v u g (ix2 p c)
      = u (ix2 p c) * ((∑ s : Fin 8, w (ix2 p s) * v (ix2 s c)) + b (ix2 p (0 : Fin 1))) * g (ix2 p c) := by
  have e := broadcastTo_apply b broadcasts_S8x1_S8x256 (ix2 p c) (ix2 p (0 : Fin 1)) fun a => match a with
    | ⟨0, _⟩ => rfl
    | ⟨1, _⟩ => rfl
  unfold tile
  dsimp only [mulf, addf, broadcast]
  rw [e, term_apply w v 0 _ _ (by decide), term_apply w v 1 _ _ (by decide), term_apply w v 2 _ _ (by decide), term_apply w v 3 _ _ (by decide),
    term_apply w v 4 _ _ (by decide), term_apply w v 5 _ _ (by decide), term_apply w v 6 _ _ (by decide), term_apply w v 7 _ _ (by decide),
    Fin.sum_univ_eight]
  refine congrArg (fun x : EReal => u (ix2 p c) * (x + b (ix2 p (0 : Fin 1))) * g (ix2 p c)) ?_
  show Ideal.ofBits .f32 0x00000000#32 + _ + _ + _ + _ + _ + _ + _ + _ = _
  rw [Ideal.ofBits_zero_f32, zero_add]
  rfl

/-- Where a group's weights lie, and its biases. -/
abbrev wgtRect (g : Fin 8) : Rect S8x8x8 := Rect.unit (s := S8x8x8) ![g.val, 0, 0] S1x8x8.size fun a => match a with
  | ⟨0, _⟩ => g.isLt
  | ⟨1, _⟩ => le_refl 8
  | ⟨2, _⟩ => le_refl 8
abbrev biaRect (g : Fin 8) : Rect S8x8 := Rect.unit (s := S8x8) ![0, g.val] S8x1.size fun a => match a with
  | ⟨0, _⟩ => le_refl 8
  | ⟨1, _⟩ => g.isLt
/-- A group's masked weights, and its biases, of the blocks that hold them. -/
def wgt (x3 : FVec Ideal S8x8x8 .f32) (g : Fin 8) : FVec Ideal S8x8 .f32 := k0_pay3 (View.ld (Val := Elt Ideal) (e' := .f32) x3 (wgtRect g))
def bia (x4 : FVec Ideal S8x8 .f32) (g : Fin 8) : FVec Ideal S8x1 .f32 := k0_pay4 (View.ld (Val := Elt Ideal) (e' := .f32) x4 (biaRect g))

theorem rowsEq : 64 = 8 * 8 := rfl
theorem colsEq : 2048 = 8 * 256 := rfl

/-- The tile of rows `8 a` on and columns `256 b` on. -/
def tiles (x0 x1 x2 : FVec Ideal S64x2048 .f32) (x3 : FVec Ideal S8x8x8 .f32) (x4 : FVec Ideal S8x8 .f32) (a b : Fin 8) : FVec Ideal S8x256 .f32 :=
  tile (wgt x3 b) (bia x4 b) (View.ld (Val := Elt Ideal) (e' := .f32) x1 (Proj.tileRect rowsEq colsEq a b))
    (View.ld (Val := Elt Ideal) (e' := .f32) x0 (Proj.tileRect rowsEq colsEq a b))
    (View.ld (Val := Elt Ideal) (e' := .f32) x2 (Proj.tileRect rowsEq colsEq a b))

/-- The stores of a column of eight tiles, the last first. -/
abbrev column (f : Fin 8 → Fin 8 → FVec Ideal S8x256 .f32) (b : Fin 8) (L : List (View.Piece (Elt Ideal) S64x2048 .f32)) :
    List (View.Piece (Elt Ideal) S64x2048 .f32) :=
  Proj.tilePiece rowsEq colsEq f 7 b :: Proj.tilePiece rowsEq colsEq f 6 b :: Proj.tilePiece rowsEq colsEq f 5 b ::
    Proj.tilePiece rowsEq colsEq f 4 b :: Proj.tilePiece rowsEq colsEq f 3 b :: Proj.tilePiece rowsEq colsEq f 2 b ::
    Proj.tilePiece rowsEq colsEq f 1 b :: Proj.tilePiece rowsEq colsEq f 0 b :: L

theorem mem_column (f : Fin 8 → Fin 8 → FVec Ideal S8x256 .f32) (b : Fin 8) (L : List (View.Piece (Elt Ideal) S64x2048 .f32)) (p) :
    p ∈ column f b L ↔ (∃ a, p = Proj.tilePiece rowsEq colsEq f a b) ∨ p ∈ L := by
  simp only [column, List.mem_cons]
  constructor
  · rintro (h | h | h | h | h | h | h | h | h)
    exacts [.inl ⟨7, h⟩, .inl ⟨6, h⟩, .inl ⟨5, h⟩, .inl ⟨4, h⟩, .inl ⟨3, h⟩, .inl ⟨2, h⟩, .inl ⟨1, h⟩, .inl ⟨0, h⟩, .inr h]
  · rintro (⟨a, h⟩ | h)
    · fin_cases a
      exacts [.inr <| .inr <| .inr <| .inr <| .inr <| .inr <| .inr <| .inl h, .inr <| .inr <| .inr <| .inr <| .inr <| .inr <| .inl h,
        .inr <| .inr <| .inr <| .inr <| .inr <| .inl h, .inr <| .inr <| .inr <| .inr <| .inl h, .inr <| .inr <| .inr <| .inl h,
        .inr <| .inr <| .inl h, .inr <| .inl h, .inl h]
    · exact .inr <| .inr <| .inr <| .inr <| .inr <| .inr <| .inr <| .inr h

theorem out_tiles (x0 x1 x2 : FVec Ideal S64x2048 .f32) (x3 : FVec Ideal S8x8x8 .f32) (x4 : FVec Ideal S8x8 .f32) :
    out0_5 (F := Ideal) x0 x1 x2 x3 x4 = View.canon (column (tiles x0 x1 x2 x3 x4) 7 (column (tiles x0 x1 x2 x3 x4) 6
      (column (tiles x0 x1 x2 x3 x4) 5 (column (tiles x0 x1 x2 x3 x4) 4 (column (tiles x0 x1 x2 x3 x4) 3 (column (tiles x0 x1 x2 x3 x4) 2
      (column (tiles x0 x1 x2 x3 x4) 1 (column (tiles x0 x1 x2 x3 x4) 0 [])))))))) := rfl

theorem out_byTiles (x0 x1 x2 : FVec Ideal S64x2048 .f32) (x3 : FVec Ideal S8x8x8 .f32) (x4 : FVec Ideal S8x8 .f32) :
    out0_5 (F := Ideal) x0 x1 x2 x3 x4 = Proj.byTiles rowsEq colsEq (tiles x0 x1 x2 x3 x4) := by
  rw [out_tiles]
  generalize tiles x0 x1 x2 x3 x4 = f
  funext z
  refine View.canon_apply_of_pieces _ _ (fun p hp x => ?_) z ?_
  · simp only [mem_column, List.not_mem_nil, or_false] at hp
    rcases hp with h | h | h | h | h | h | h | h
    all_goals obtain ⟨a, rfl⟩ := h; exact Proj.tilePiece_eq (Val := Elt Ideal) (e := .f32) rowsEq colsEq f a _ x
  · obtain ⟨a, b, h⟩ := Proj.mem_tile rowsEq colsEq z
    refine ⟨Proj.tilePiece rowsEq colsEq f a b, ?_, h⟩
    simp only [mem_column, List.not_mem_nil, or_false]
    fin_cases b
    exacts [.inr <| .inr <| .inr <| .inr <| .inr <| .inr <| .inr ⟨a, rfl⟩, .inr <| .inr <| .inr <| .inr <| .inr <| .inr <| .inl ⟨a, rfl⟩,
      .inr <| .inr <| .inr <| .inr <| .inr <| .inl ⟨a, rfl⟩, .inr <| .inr <| .inr <| .inr <| .inl ⟨a, rfl⟩,
      .inr <| .inr <| .inr <| .inl ⟨a, rfl⟩, .inr <| .inr <| .inl ⟨a, rfl⟩, .inr <| .inl ⟨a, rfl⟩, .inl ⟨a, rfl⟩]

/-! ## A tile at an index -/

theorem causal (p s : Fin 8) : k0_pay2 (ix2 p s) = if s.val ≤ p.val then 1#1 else 0#1 := by
  have key : ∀ p s : Fin 8, k0_pay2 (ix2 p s) = if s.val ≤ p.val then 1#1 else 0#1 := by decide +kernel
  exact key p s

theorem wgt_apply (x3 : FVec Ideal S8x8x8 .f32) (g p s : Fin 8) : wgt x3 g (ix2 p s) = Proj.past (pos p) (pos s) (x3 (ix3 g p s)) := by
  have e : shapeCast S8x8 (View.ld (Val := Elt Ideal) (e' := .f32) x3 (wgtRect g)) shapeCasts_S1x8x8_S8x8 (ix2 p s) = x3 (ix3 g p s) := by
    refine (Proj.drop_apply _ _ p s).trans (congrArg x3 (funext fun a => Fin.ext ?_))
    refine (Rect.idx_unit_val _ _ _ (ix3 (0 : Fin 1) p s) a).trans ?_
    match a with
    | ⟨0, _⟩ => rfl
    | ⟨1, _⟩ => exact Nat.zero_add _
    | ⟨2, _⟩ => exact Nat.zero_add _
  unfold wgt k0_pay3
  dsimp only [select, broadcast]
  rw [causal]
  refine (congrArg (fun x : EReal => Scalar.select (if s.val ≤ p.val then 1#1 else 0#1 : BitVec 1) x (Ideal.ofBits .f32 0x00000000#32)) e).trans ?_
  rw [Ideal.ofBits_zero_f32]
  unfold Proj.past Scalar.select
  by_cases hs : s.val ≤ p.val
  · rw [if_pos hs, if_pos hs]; rfl
  · rw [if_neg hs, if_neg hs]; rfl

theorem bia_apply (x4 : FVec Ideal S8x8 .f32) (g p : Fin 8) : bia x4 g (ix2 p (0 : Fin 1)) = x4 (ix2 p g) := by
  unfold bia k0_pay4
  refine (shapeCast_apply _ shapeCasts_S8x1_S8x1 (ix2 p (0 : Fin 1)) (ix2 p (0 : Fin 1)) rfl).trans (congrArg x4 (funext fun a => Fin.ext ?_))
  refine (Rect.idx_unit_val _ _ _ (ix2 p (0 : Fin 1)) a).trans ?_
  match a with
  | ⟨0, _⟩ => exact Nat.zero_add _
  | ⟨1, _⟩ => rfl

theorem ld_tile (x : FVec Ideal S64x2048 .f32) (a b p : Fin 8) (c : Fin 256) :
    View.ld (Val := Elt Ideal) (e' := .f32) x (Proj.tileRect rowsEq colsEq a b) (ix2 p c)
      = x (ix2 (n0 := 64) (n1 := 2048) ⟨8 * a.val + p.val, by omega⟩ ⟨256 * b.val + c.val, by omega⟩) := by
  refine congrArg x (funext fun d => Fin.ext ?_)
  refine (Rect.idx_unit_val _ _ _ (ix2 p c) d).trans ?_
  match d with
  | ⟨0, _⟩ => rfl
  | ⟨1, _⟩ => rfl

theorem tiles_apply (x0 x1 x2 : FVec Ideal S64x2048 .f32) (x3 : FVec Ideal S8x8x8 .f32) (x4 : FVec Ideal S8x8 .f32)
    (W : FVec Ideal S1x8x128x128 .f32) (B : FVec Ideal S1x8x128 .f32) (h3 : ∀ g p s, x3 (ix3 g p s) = W (ix4 (0 : Fin 1) g (pos p) (pos s)))
    (h4 : ∀ g p, x4 (ix2 p g) = B (ix3 (0 : Fin 1) g (pos p))) (a b p : Fin 8) (c : Fin 256) :
    tiles x0 x1 x2 x3 x4 a b (ix2 p c) = x0 (ix2 (n0 := 64) (n1 := 2048) ⟨8 * a.val + p.val, by omega⟩ ⟨256 * b.val + c.val, by omega⟩)
      * mix x1 W B a p b c * x2 (ix2 (n0 := 64) (n1 := 2048) ⟨8 * a.val + p.val, by omega⟩ ⟨256 * b.val + c.val, by omega⟩) := by
  unfold tiles mix
  rw [tile_apply, bia_apply, h4]
  refine congrArg₂ (fun x y : EReal => x * y) (congrArg₂ (fun x y : EReal => x * y) (ld_tile x0 a b p c)
    (congrArg (fun x : EReal => x + _) (Finset.sum_congr rfl fun s _ => ?_))) (ld_tile x2 a b p c)
  rw [wgt_apply, h3]
  exact congrArg (fun x : EReal => Proj.past (pos p) (pos s) _ * x) (ld_tile x1 a b s c)

theorem out_eq (x0 x1 x2 : FVec Ideal S64x2048 .f32) (x3 : FVec Ideal S8x8x8 .f32) (x4 : FVec Ideal S8x8 .f32)
    (W : FVec Ideal S1x8x128x128 .f32) (B : FVec Ideal S1x8x128 .f32) (h3 : ∀ g p s, x3 (ix3 g p s) = W (ix4 (0 : Fin 1) g (pos p) (pos s)))
    (h4 : ∀ g p, x4 (ix2 p g) = B (ix3 (0 : Fin 1) g (pos p))) : out0_5 (F := Ideal) x0 x1 x2 x3 x4 = out x0 x1 x2 W B := by
  rw [out_byTiles]
  funext z
  obtain ⟨r, k, rfl⟩ : ∃ (r : Fin 64) (k : Fin 2048), z = ix2 r k := ⟨z 0, z 1, eq_ix2 z⟩
  refine (tiles_apply x0 x1 x2 x3 x4 W B h3 h4 ⟨r.val / 8, by omega⟩ ⟨k.val / 256, by omega⟩ ⟨r.val % 8, Nat.mod_lt _ (by decide)⟩
    ⟨k.val % 256, Nat.mod_lt _ (by decide)⟩).trans ?_
  have e : (ix2 (n0 := 64) (n1 := 2048) ⟨8 * (r.val / 8) + r.val % 8, by omega⟩ ⟨256 * (k.val / 256) + k.val % 256, by omega⟩) = ix2 r k :=
    congrArg₂ ix2 (Fin.ext (Nat.div_add_mod r.val 8)) (Fin.ext (Nat.div_add_mod k.val 256))
  show x0 (ix2 ⟨8 * (r.val / 8) + r.val % 8, _⟩ ⟨256 * (k.val / 256) + k.val % 256, _⟩) * _
    * x2 (ix2 ⟨8 * (r.val / 8) + r.val % 8, _⟩ ⟨256 * (k.val / 256) + k.val % 256, _⟩) = _
  rw [e]; rfl

/-! ## The blocks read, and the array written -/

theorem index0 : ∀ t : Fin cfg0.N, (cfg0.win 0).index t = ![0, 0] := (by decide +kernel : ∀ t : Fin grid0.N, win0_0.index t = ![0, 0])
theorem index1 : ∀ t : Fin cfg0.N, (cfg0.win 1).index t = ![0, 0] := (by decide +kernel : ∀ t : Fin grid0.N, win0_1.index t = ![0, 0])
theorem index2 : ∀ t : Fin cfg0.N, (cfg0.win 2).index t = ![0, 0] := (by decide +kernel : ∀ t : Fin grid0.N, win0_2.index t = ![0, 0])
theorem index3 : ∀ t : Fin cfg0.N, (cfg0.win 3).index t = ![0, 0, 0] := (by decide +kernel : ∀ t : Fin grid0.N, win0_3.index t = ![0, 0, 0])
theorem index4 : ∀ t : Fin cfg0.N, (cfg0.win 4).index t = ![0, 0] := (by decide +kernel : ∀ t : Fin grid0.N, win0_4.index t = ![0, 0])
theorem index5 : ∀ t : Fin cfg0.N, (cfg0.win 5).index t = ![0, 0] := (by decide +kernel : ∀ t : Fin grid0.N, win0_5.index t = ![0, 0])

theorem read0 (c : Dev nD) (t : Fin cfg0.N) : (iblk m c 0 t : FVec Ideal S64x2048 .f32) = us m c := funext fun z => by
  refine Eq.trans ?_ (congrFun (V_main_arg0 m c) _)
  exact congrArg (V m c main_arg0) (funext fun a => Fin.ext (by
    refine (win0_0.rect_emb_val_off t z a).trans ?_
    rw [show win0_0.index t = _ from index0 t]
    match a with
    | ⟨0, _⟩ => exact Nat.zero_add _
    | ⟨1, _⟩ => exact Nat.zero_add _))
theorem read1 (c : Dev nD) (t : Fin cfg0.N) : (iblk m c 1 t : FVec Ideal S64x2048 .f32) = vs m c := funext fun z => by
  refine Eq.trans ?_ (congrFun (V_main_arg1 m c) _)
  exact congrArg (V m c main_arg1) (funext fun a => Fin.ext (by
    refine (win0_1.rect_emb_val_off t z a).trans ?_
    rw [show win0_1.index t = _ from index1 t]
    match a with
    | ⟨0, _⟩ => exact Nat.zero_add _
    | ⟨1, _⟩ => exact Nat.zero_add _))
theorem read2 (c : Dev nD) (t : Fin cfg0.N) : (iblk m c 2 t : FVec Ideal S64x2048 .f32) = gs m c := funext fun z => by
  refine Eq.trans ?_ (congrFun (V_main_arg2 m c) _)
  exact congrArg (V m c main_arg2) (funext fun a => Fin.ext (by
    refine (win0_2.rect_emb_val_off t z a).trans ?_
    rw [show win0_2.index t = _ from index2 t]
    match a with
    | ⟨0, _⟩ => exact Nat.zero_add _
    | ⟨1, _⟩ => exact Nat.zero_add _))

theorem V_wgt (c : Dev nD) (g p s : Fin 8) : V m c main_v1 (ix3 g p s) = ws m c (ix4 (0 : Fin 1) g (pos p) (pos s)) := by
  have : V m c main_v1 = extractStridedSlice S8x8x8 ![0, 0, 0] (shapeCast S8x128x128 (ws m c) shapeCasts_S1x8x128x128_S8x128x128)
      slices_S8x128x128_S8x8x8_0_0_0 := by
    show StableHlo.after hostOps0 _ main_v1 = _
    after_results_simp <;> rfl
  rw [this]
  refine (extractStridedSlice_apply _ _ _ (ix3 g p s) (ix3 g (pos p) (pos s)) fun a => match a with
    | ⟨0, _⟩ => (Nat.zero_add _).symm
    | ⟨1, _⟩ => (Nat.zero_add _).symm
    | ⟨2, _⟩ => (Nat.zero_add _).symm).trans ?_
  exact (shapeCast_dropUnit_apply (n := 3) ![8, 128, 128] (ws m c) _ (ix3 g (pos p) (pos s))).trans
    (congrArg (ws m c) (funext fun a => match a with | ⟨0, _⟩ => rfl | ⟨1, _⟩ => rfl | ⟨2, _⟩ => rfl | ⟨3, _⟩ => rfl))

theorem V_bias (c : Dev nD) (g p : Fin 8) : V m c main_v4 (ix2 p g) = bs m c (ix3 (0 : Fin 1) g (pos p)) := by
  have : V m c main_v4 = transpose S8x8 [1, 0] (extractStridedSlice S8x8 ![0, 0] (shapeCast S8x128 (bs m c) shapeCasts_S1x8x128_S8x128)
      slices_S8x128_S8x8_0_0) transposes_S8x8_S8x8_1_0 := by
    show StableHlo.after hostOps0 _ main_v4 = _
    after_results_simp <;> rfl
  rw [this]
  exact (transpose_apply [1, 0] _ transposes_S8x8_S8x8_1_0 (ix2 p g) (ix2 g p) (fun b => match b with | ⟨0, _⟩ => rfl | ⟨1, _⟩ => rfl)).trans
    ((extractStridedSlice_apply _ _ _ (ix2 g p) (ix2 g (pos p)) fun a => match a with
      | ⟨0, _⟩ => (Nat.zero_add _).symm
      | ⟨1, _⟩ => (Nat.zero_add _).symm).trans (Proj.drop_apply _ _ g (pos p)))

theorem read3 (c : Dev nD) (t : Fin cfg0.N) (g p s : Fin 8) :
    (iblk m c 3 t : FVec Ideal S8x8x8 .f32) (ix3 g p s) = ws m c (ix4 (0 : Fin 1) g (pos p) (pos s)) := by
  refine Eq.trans ?_ (V_wgt m c g p s)
  exact congrArg (V m c main_v1) (funext fun a => Fin.ext (by
    refine (win0_3.rect_emb_val_off t (ix3 g p s) a).trans ?_
    rw [show win0_3.index t = _ from index3 t]
    match a with
    | ⟨0, _⟩ => exact Nat.zero_add _
    | ⟨1, _⟩ => exact Nat.zero_add _
    | ⟨2, _⟩ => exact Nat.zero_add _))

theorem read4 (c : Dev nD) (t : Fin cfg0.N) (g p : Fin 8) :
    (iblk m c 4 t : FVec Ideal S8x8 .f32) (ix2 p g) = bs m c (ix3 (0 : Fin 1) g (pos p)) := by
  refine Eq.trans ?_ (V_bias m c g p)
  exact congrArg (V m c main_v4) (funext fun a => Fin.ext (by
    refine (win0_4.rect_emb_val_off t (ix2 p g) a).trans ?_
    rw [show win0_4.index t = _ from index4 t]
    match a with
    | ⟨0, _⟩ => exact Nat.zero_add _
    | ⟨1, _⟩ => exact Nat.zero_add _))

/-- The result of the launch contents. -/
abbrev result (c : Dev nD) : S64x2048.Idx → EReal := out (us m c) (vs m c) (gs m c) (ws m c) (bs m c)

theorem flushed5 (c : Dev nD) (t : Fin cfg0.N) : (dats m 0 c).flushed 5 t = ((cfg0.win 5).blk t).view.read (Elt Ideal) (result m c) := by
  rw [Value.flushed5, out_eq _ _ _ _ _ (ws m c) (bs m c) (read3 m c t) (read4 m c t), read0, read1, read2]
  funext y
  refine congrArg (result m c) (funext fun a => Fin.ext ?_)
  refine Eq.trans ?_ (win0_5.rect_emb_val_off t y a).symm
  rw [show win0_5.index t = _ from index5 t]
  match a with
  | ⟨0, _⟩ => exact (Nat.zero_add _).symm
  | ⟨1, _⟩ => exact (Nat.zero_add _).symm

theorem xsize5 : ∀ t : Fin cfg0.N, (cfg0.win 5).xsize (grid0.coords t) = ![64, 2048] :=
  (by decide +kernel : ∀ t : Fin grid0.N, win0_5.xsize (grid0.coords t) = ![64, 2048])

theorem arr5 (c : Dev nD) : (dats m 0 c).arrAt 5 cfg0.N = result m c :=
  (dats m 0 c).arrAt_eq_of_cover 5 _ (fun t _ => flushed5 m c t) fun i => by
    have h0 : (i 0 : Nat) < 64 := (i 0).isLt
    have h1 : (i 1 : Nat) < 2048 := (i 1).isLt
    let t : Fin cfg0.N := ⟨0, by rw [show cfg0.N = 1 from N_0]; omega⟩
    refine ⟨t, flush0_5 t, ?_⟩
    show i ∈ ((View.whole main_v5).slice (win0_5.rect t)).set
    rw [View.set_slice_whole, Rect.mem_set_unit]
    intro a
    show win0_5.index t a * _ ≤ _ ∧ _ < win0_5.index t a * _ + win0_5.xsize (grid0.coords t) a
    rw [show win0_5.index t = _ from index5 t, show win0_5.xsize (grid0.coords t) = _ from xsize5 t]
    match a with
    | ⟨0, _⟩ => show 0 * 64 ≤ (i 0 : Nat) ∧ (i 0 : Nat) < 0 * 64 + 64; omega
    | ⟨1, _⟩ => show 0 * 2048 ≤ (i 1 : Nat) ∧ (i 1 : Nat) < 0 * 2048 + 2048; omega

/-! ## The reference's -/

section Reference

open Cert.RefMixIdeal Cert.RefMixIdeal.Gen Cert.RefMixIdeal.Read

variable (U V G : FVec Ideal S64x2048 .f32) (W : FVec Ideal S1x8x128x128 .f32) (B : FVec Ideal S1x8x128 .f32)

theorem idx0 (a s : Fin 8) (k : Fin 2048) : idx_main_v0 (ix3 a s k) = ix2 (n0 := 64) ⟨8 * a.val + s.val, by omega⟩ k :=
  funext fun x => Fin.ext (by
    match x with
    | ⟨0, _⟩ => show ((a.val * 8 + s.val) * 2048 + k.val) / 2048 = 8 * a.val + s.val; omega
    | ⟨1, _⟩ => show ((a.val * 8 + s.val) * 2048 + k.val) % 2048 = k.val; omega)

theorem idx6 (a : Fin 8) (s : Fin 128) (g : Fin 8) (c : Fin 256) :
    idx_main_v6 (ix5 a (0 : Fin 1) s g c) = ix3 (n2 := 2048) a s ⟨256 * g.val + c.val, by omega⟩ :=
  funext fun x => Fin.ext (by
    match x with
    | ⟨0, _⟩ => show ((((a.val * 1 + 0) * 128 + s.val) * 8 + g.val) * 256 + c.val) / 262144 = a.val; omega
    | ⟨1, _⟩ => show ((((a.val * 1 + 0) * 128 + s.val) * 8 + g.val) * 256 + c.val) / 2048 % 128 = s.val; omega
    | ⟨2, _⟩ => show ((((a.val * 1 + 0) * 128 + s.val) * 8 + g.val) * 256 + c.val) % 2048 = 256 * g.val + c.val; omega)

theorem idx4 (g : Fin 8) (t s : Fin 128) : idx_main_v4 (ix3 g t s) = ix4 (0 : Fin 1) g t s :=
  funext fun x => Fin.ext (by
    match x with
    | ⟨0, _⟩ => rfl
    | ⟨1, _⟩ => show ((g.val * 128 + t.val) * 128 + s.val) / 16384 % 8 = g.val; omega
    | ⟨2, _⟩ => show ((g.val * 128 + t.val) * 128 + s.val) / 128 % 128 = t.val; omega
    | ⟨3, _⟩ => show ((g.val * 128 + t.val) * 128 + s.val) % 128 = s.val; omega)

theorem idx5 (g : Fin 8) (t : Fin 128) : idx_main_v5 (ix2 g t) = ix3 (0 : Fin 1) g t :=
  funext fun x => Fin.ext (by
    match x with
    | ⟨0, _⟩ => rfl
    | ⟨1, _⟩ => show (g.val * 128 + t.val) / 128 % 8 = g.val; omega
    | ⟨2, _⟩ => show (g.val * 128 + t.val) % 128 = t.val; omega)

theorem idx16 (a : Fin 8) (t : Fin 128) (k : Fin 2048) : idx_main_v16 (ix3 a t k)
    = ix5 (n3 := 8) (n4 := 256) a (0 : Fin 1) t ⟨k.val / 256, by omega⟩ ⟨k.val % 256, Nat.mod_lt _ (by decide)⟩ :=
  funext fun x => Fin.ext (by
    match x with
    | ⟨0, _⟩ => show ((a.val * 128 + t.val) * 2048 + k.val) / 262144 = a.val; omega
    | ⟨1, _⟩ => rfl
    | ⟨2, _⟩ => show ((a.val * 128 + t.val) * 2048 + k.val) / 2048 % 128 = t.val; omega
    | ⟨3, _⟩ => show ((a.val * 128 + t.val) * 2048 + k.val) / 256 % 8 = k.val / 256; omega
    | ⟨4, _⟩ => show ((a.val * 128 + t.val) * 2048 + k.val) % 256 = k.val % 256; omega)

theorem idx19 (r : Fin 64) (k : Fin 2048) : idx_main_v19 (ix2 r k)
    = ix3 (n0 := 8) (n1 := 8) ⟨r.val / 8, by omega⟩ ⟨r.val % 8, Nat.mod_lt _ (by decide)⟩ k :=
  funext fun x => Fin.ext (by
    match x with
    | ⟨0, _⟩ => show (r.val * 2048 + k.val) / 16384 = r.val / 8; omega
    | ⟨1, _⟩ => show (r.val * 2048 + k.val) / 2048 % 8 = r.val % 8; omega
    | ⟨2, _⟩ => show (r.val * 2048 + k.val) % 2048 = k.val; omega)

theorem pad_v1 (a s : Fin 8) (k : Fin 2048) : val_main_v1 (F := Ideal) U (ix3 a (pos s) k) = U (ix2 (n0 := 64) ⟨8 * a.val + s.val, by omega⟩ k) := by
  unfold val_main_v1
  refine (pad_apply_of_inside _ _ _ _ _ _ _ (ix3 a (pos s) k) (ix3 a s k) fun x => match x with
    | ⟨0, _⟩ => by show a.val = 0 + a.val * (0 + 1); omega
    | ⟨1, _⟩ => by show s.val = 0 + s.val * (0 + 1); omega
    | ⟨2, _⟩ => by show k.val = 0 + k.val * (0 + 1); omega).trans ?_
  rw [val_main_v0_apply, idx0]

theorem pad_v3 (a s : Fin 8) (k : Fin 2048) : val_main_v3 (F := Ideal) V (ix3 a (pos s) k) = V (ix2 (n0 := 64) ⟨8 * a.val + s.val, by omega⟩ k) := by
  unfold val_main_v3
  refine (pad_apply_of_inside _ _ _ _ _ _ _ (ix3 a (pos s) k) (ix3 a s k) fun x => match x with
    | ⟨0, _⟩ => by show a.val = 0 + a.val * (0 + 1); omega
    | ⟨1, _⟩ => by show s.val = 0 + s.val * (0 + 1); omega
    | ⟨2, _⟩ => by show k.val = 0 + k.val * (0 + 1); omega).trans ?_
  rw [val_main_v2_apply]
  exact congrArg V (idx0 a s k)

theorem pad_v3_zero (a : Fin 8) (t : Fin 128) (ht : 8 ≤ t.val) (k : Fin 2048) : val_main_v3 (F := Ideal) V (ix3 a t k) = (0 : EReal) := by
  unfold val_main_v3
  refine (pad_apply_of_not_inside _ _ _ _ _ _ _ (ix3 a t k) 1 fun hc => ?_).trans ?_
  · have h2 : (t.val - 0) / (0 + 1) < 8 := hc.2.2
    omega
  · rw [val_main_call1_v0_apply, val_main_c_0_apply]
    show (((0#32 : BitVec 32).toInt : ℝ) : EReal) = 0
    simp

/-- The masked weights. -/
theorem masked (g : Fin 8) (t s : Fin 128) : val_main_v9 (F := Ideal) W (ix3 g t s) = Proj.past t s (W (ix4 (0 : Fin 1) g t s)) := by
  rw [val_main_v9_apply, val_main_call3_v1_apply, val_main_v4_apply, idx4, val_main_call3_v2_apply, val_main_call3_v0_apply, val_main_cst_apply,
    val_main_v8_apply, val_main_v7_apply, val_main_c_1_apply, val_main_call2_v5_apply, val_main_call2_c_0_apply, val_main_call2_v4_apply,
    val_main_call2_v2_apply, val_main_call2_v0_apply, val_main_call2_v1_apply, val_main_call2_c_apply, val_main_call2_v3_apply]
  have h := Proj.sge_past t s
  unfold Proj.past Scalar.select
  refine Eq.trans (b := if (if (if s.val ≤ t.val then 1#1 else 0#1 : BitVec 1) = 1 then (1#1 : BitVec 1) else 0#1) = 1 then W (ix4 (0 : Fin 1) g t s)
    else (Ideal.ofBits .f32 0x00000000#32 : EReal)) (by rw [← h]; rfl) ?_
  rw [Ideal.ofBits_zero_f32]
  by_cases hs : s.val ≤ t.val
  · rw [if_pos hs, if_pos hs]; rfl
  · rw [if_neg hs, if_neg hs]; rfl

/-- A row of a batch, mixed: the rows added behind the eight are zeros. -/
theorem mixed (a p g : Fin 8) (c : Fin 256) : val_main_v15 (F := Ideal) V W B (ix5 a (0 : Fin 1) (pos p) g c) = mix V W B a p g c := by
  rw [val_main_v15_apply, val_main_v11_apply, val_main_v10_apply, val_main_v14_apply, val_main_v13_apply, val_main_v12_apply, val_main_v5_apply]
  unfold mix
  refine congrArg₂ (fun x y : EReal => x + y) ?_ (congrArg B (Eq.trans (congrArg idx_main_v5 ?_) (idx5 g (pos p))))
  · have hk : ∀ k : Fin 128, val_main_v6 (F := Ideal) V (lidx_main_v10 (idx_main_v11 (ix5 a (0 : Fin 1) (pos p) g c)) k)
          * val_main_v9 (F := Ideal) W (ridx_main_v10 (idx_main_v11 (ix5 a (0 : Fin 1) (pos p) g c)) k)
        = Proj.past (pos p) k (W (ix4 (0 : Fin 1) g (pos p) k)) * val_main_v3 (F := Ideal) V (ix3 (n2 := 2048) a k ⟨256 * g.val + c.val, by omega⟩) := by
      intro k
      rw [mul_comm, val_main_v6_apply]
      refine congrArg₂ (fun x y : EReal => x * y) ((congrArg (val_main_v9 (F := Ideal) W) ?_).trans (masked W g (pos p) k))
        (congrArg (val_main_v3 (F := Ideal) V) (Eq.trans (congrArg idx_main_v6 ?_) (idx6 a k g c)))
      · exact funext fun x => match x with | ⟨0, _⟩ => rfl | ⟨1, _⟩ => rfl | ⟨2, _⟩ => rfl
      · exact funext fun x => match x with | ⟨0, _⟩ => rfl | ⟨1, _⟩ => rfl | ⟨2, _⟩ => rfl | ⟨3, _⟩ => rfl | ⟨4, _⟩ => rfl
    refine (Finset.sum_congr rfl fun k _ => hk k).trans ((Fin.sum_univ_add (a := 8) (b := 120) _).trans ?_)
    refine (congrArg₂ (fun x y : EReal => x + y) (Finset.sum_congr rfl fun s _ => ?_) (Finset.sum_eq_zero fun s _ => ?_)).trans (add_zero _)
    · exact congrArg (fun x : EReal => Proj.past (pos p) (pos s) _ * x) (pad_v3 V a s _)
    · refine (congrArg (fun x : EReal => Proj.past (pos p) _ _ * x) (pad_v3_zero V a _ ?_ _)).trans (mul_zero _)
      exact Nat.le_add_right 8 s.val
  · exact funext fun x => match x with | ⟨0, _⟩ => rfl | ⟨1, _⟩ => rfl

theorem ref_eq : val_main_v20 (F := Ideal) U V G W B = out U V G W B := by
  funext i
  obtain ⟨r, k, rfl⟩ : ∃ (r : Fin 64) (k : Fin 2048), i = ix2 r k := ⟨i 0, i 1, eq_ix2 i⟩
  have e18 : ∀ a p : Fin 8, idx_main_v18 (ix3 a p k) = ix3 a (pos p) k := fun a p =>
    funext fun x => match x with | ⟨0, _⟩ => rfl | ⟨1, _⟩ => rfl | ⟨2, _⟩ => rfl
  rw [val_main_v20_apply, val_main_v19_apply, idx19, val_main_v18_apply, e18, val_main_v17_apply, pad_v1, val_main_v16_apply, idx16, mixed]
  have e : (ix2 (n0 := 64) ⟨8 * (r.val / 8) + r.val % 8, by omega⟩ k) = ix2 r k := congrArg (fun x => ix2 x k) (Fin.ext (Nat.div_add_mod r.val 8))
  exact congrArg (fun z => U z * mix V W B ⟨r.val / 8, by omega⟩ ⟨r.val % 8, Nat.mod_lt _ (by decide)⟩ ⟨k.val / 256, by omega⟩
    ⟨k.val % 256, Nat.mod_lt _ (by decide)⟩ * G (ix2 r k)) e

end Reference

/-! ## The claims -/

theorem algebraic : Cert.algebraic_MixIdeal_RefMixIdeal := fun m g m' g' hpre hagree =>
  ⟨fun c => result m c, (θ_run defs _ _).mono (fun _ h c => ⟨(h c).1.trans (arr5 m c), (h c).2⟩) (Value.run_blocks (F := Ideal) m g),
    (θ_run Cert.RefMixIdeal.defs _ _).mono (fun _ h c => by
      obtain ⟨h1, h2⟩ := h c
      obtain ⟨a0, a1, a2, a3, a4⟩ := hagree c
      refine ⟨h1.trans ((Cert.RefMixIdeal.Read.val_main_v20_eq _ _ _ _ _).trans ?_), h2⟩
      rw [a0, a1, a2, a3, a4]; exact ref_eq _ _ _ _ _) (Cert.RefMixIdeal.Value.run (F := Ideal) m' g')⟩

/-- The program as printed and its idealization have one body, label by label. -/
theorem defs_eq {F : FTy → Type} [FloatOps F] : Cert.Mix.defs (F := F) = Cert.MixIdeal.defs :=
  congrArg (Pipeline.defs Cert.MixIdeal.pcfgs) (by
    unfold Cert.Mix.defs₀ Cert.MixIdeal.defs₀
    congr 1
    funext l a
    match l, a with
    | 0, (t, s) => rfl)

/-- So the printed program's run is the same run, at the machine's numbers. -/
theorem frame_kernel : Cert.quiescent_Mix := fun m ρ _ => by
  rw [defs_eq]; exact frame (F := Bits) m ρ

theorem frame_ideal : Cert.quiescent_MixIdeal := fun m ρ _ => frame (F := Ideal) m ρ

theorem frame_ref : Cert.quiescent_RefMixIdeal := fun m ρ _ =>
  (θ_run Cert.RefMixIdeal.defs _ _).mono (fun r h => ⟨fun c => (h c).2, sem_eq_zero_of_no_sems (by decide) r.2⟩)
    (Cert.RefMixIdeal.Value.run (F := Ideal) m ρ)

end Cert.MixIdeal.Body

end
-- ==== Proof.FinishValue.lean ====
/- What the end of the sample's attention computes: of the eight heads' rows of a batch, the row of the head that owns a column, times
   the gate's sigmoid linear unit. The kernel picks by adding eight numbers, seven of them 0; the host lays eight slices side by side. -/
module

public import proofs.«01_k».proof.Proof.Act
public import proofs.«01_k».proof.Proof.Common
public import proofs.«01_k».proof.Proof.Product
public import proofs.«01_k».proof.Proof.Gen.Finish
public import proofs.«01_k».proof.Proof.Gen.FinishIdeal.Frame
public import proofs.«01_k».proof.Proof.Gen.RefFinishIdeal.Run
public import proofs.«01_k».proof.Proof.Gen.RefFinishIdeal.Read
public import proofs.«01_k».proof.Defs
public import Idealize.ShloMosaic.Lib.Pipeline.Value
public import Idealize.ShloMosaic.Lib.KernelVsHost

@[expose] public section

set_option maxRecDepth 16384

noncomputable section

namespace Cert.FinishIdeal.Body

open Idealize.ShloMosaic Idealize.ShloMosaic.TcCoe Idealize.ShloMosaic.ValueIdx Idealize.SL.Sem
open Idealize.ShloMosaic.Pipeline (Dat Cfg Window)
open Cert.FinishIdeal.Gen

variable (m : (ℓ : Loc nD τ sig) → Buf (Elt Ideal) ℓ) (ρ : Dev nD → PrngReg)

/-- The launch contents of the arguments. -/
abbrev accs (c : Dev nD) : FVec Ideal S8x64x1024 .f32 := m ((c.tc : Thread nD τ).loc main_arg0)
abbrev gates (c : Dev nD) : FVec Ideal S8x8x1024 .f32 := m ((c.tc : Thread nD τ).loc main_arg1)

/-- Column `d` of head `h`, of the row `p` the same head holds. -/
def acc (A : S8x64x1024.Idx → EReal) (b h p : Fin 8) (d : Fin 128) : EReal :=
  A (ix3 (n1 := 64) (n2 := 1024) b ⟨8 * h.val + p.val, by omega⟩ ⟨128 * h.val + d.val, by omega⟩)

/-- The row `p` at column `q`, from the head the column is of. -/
def own (A : S8x64x1024.Idx → EReal) (b p : Fin 8) (q : Fin 1024) : EReal :=
  acc A b ⟨q.val / 128, by omega⟩ p ⟨q.val % 128, by omega⟩

/-- The result. -/
def out (A : S8x64x1024.Idx → EReal) (G : S8x8x1024.Idx → EReal) : S8x8x1024.Idx → EReal := fun i =>
  own A (i 0) (i 1) (i 2) * Proj.silu (G i)

/-! ## The kernel's block -/

/-- The head a column is of, as the kernel takes it of the column's number. -/
theorem head_eq (p : Fin 8) (q : Fin 1024) : k0_pay3 (ix2 p q) = BitVec.ofNat 32 (q.val / 128) := by
  have key : ∀ q : Fin 1024, k0_pay3 (ix2 (0 : Fin 8) q) = BitVec.ofNat 32 (q.val / 128) := by decide +kernel
  exact key q

theorem head_bit : ∀ a b : Fin 8, IntOp.cmpi .eq (BitVec.ofNat 32 a.val) (BitVec.ofNat 32 b.val) = BitVec.ofBool (decide (a = b)) := by decide +kernel

/-- Of eight numbers the one at `a`, the seven others left out of a sum. -/
theorem pick (f : Fin 8 → EReal) (a : Fin 8) (z : EReal) (hz : z = 0) (s : Fin 8 → EReal)
    (h : ∀ h : Fin 8, s h = Scalar.select (IntOp.cmpi .eq (BitVec.ofNat 32 a.val) (BitVec.ofNat 32 h.val)) (f h) z) :
    z + s 0 + s 1 + s 2 + s 3 + s 4 + s 5 + s 6 + s 7 = f a := by
  have hs : ∀ h : Fin 8, s h = if a = h then f h else 0 := by
    intro i
    rw [h, head_bit, hz]
    by_cases e : a = i
    · rw [if_pos e, decide_eq_true e]; rfl
    · rw [if_neg e, decide_eq_false e]; rfl
  rw [hs 0, hs 1, hs 2, hs 3, hs 4, hs 5, hs 6, hs 7, hz]
  fin_cases a <;> simp

/-- Eight rows of a block of 64, from row `o` on. -/
theorem rows_apply (x : FVec Ideal S1x64x1024 .f32) (o : ℕ) (h) (ho : o + 8 ≤ 64) (p : Fin 8) (q : Fin 1024) :
    extractStridedSlice S8x1024 ![o, 0] (shapeCast S64x1024 x shapeCasts_S1x64x1024_S64x1024) h (ix2 p q)
      = x (ix3 (n1 := 64) (0 : Fin 1) ⟨o + p.val, by omega⟩ q) :=
  (extractStridedSlice_apply _ _ _ (ix2 p q) (ix2 (n0 := 64) ⟨o + p.val, by omega⟩ q)
    fun a => match a with | ⟨0, _⟩ => rfl | ⟨1, _⟩ => (Nat.zero_add _).symm).trans (Proj.drop_apply x _ _ q)

theorem pay7_apply (x : FVec Ideal S1x64x1024 .f32) (p : Fin 8) (q : Fin 1024) :
    k0_pay7 (F := Ideal) (k0_pay2 x) k0_pay3 (k0_pay4 x) k0_pay5 (k0_pay6 x) (ix2 p q)
      = x (ix3 (n1 := 64) (0 : Fin 1) ⟨8 * (q.val / 128) + p.val, by omega⟩ q) := by
  refine Eq.trans ?_ (pick (fun h => x (ix3 (n1 := 64) (0 : Fin 1) ⟨8 * h.val + p.val, by omega⟩ q)) ⟨q.val / 128, by omega⟩
    (Ideal.ofBits .f32 0x00000000#32) Ideal.ofBits_zero_f32 _ fun _ => rfl)
  have e0 := rows_apply x 0 slices_S64x1024_o0_0_S8x1024 (by omega) p q
  have e1 := rows_apply x 8 slices_S64x1024_o8_0_S8x1024 (by omega) p q
  have e2 := rows_apply x 16 slices_S64x1024_o16_0_S8x1024 (by omega) p q
  have e3 := rows_apply x 24 slices_S64x1024_o24_0_S8x1024 (by omega) p q
  have e4 := rows_apply x 32 slices_S64x1024_o32_0_S8x1024 (by omega) p q
  have e5 := rows_apply x 40 slices_S64x1024_o40_0_S8x1024 (by omega) p q
  have e6 := rows_apply x 48 slices_S64x1024_o48_0_S8x1024 (by omega) p q
  have e7 := rows_apply x 56 slices_S64x1024_o56_0_S8x1024 (by omega) p q
  have hh := head_eq p q
  unfold k0_pay7 k0_pay4 k0_pay5 k0_pay6 k0_pay2
  generalize k0_pay3 = k at hh ⊢
  dsimp only [addf, select, cmpi, broadcast]
  rw [hh, e0, e1, e2, e3, e4, e5, e6, e7]
  rfl

theorem pay8_apply (x : FVec Ideal S1x8x1024 .f32) (p : Fin 8) (q : Fin 1024) :
    k0_pay8 (F := Ideal) x (ix2 p q) = Proj.silu (x (ix3 (0 : Fin 1) p q)) := by
  have e := Proj.drop_apply x shapeCasts_S1x8x1024_S8x1024 p q
  unfold k0_pay8
  dsimp only [mulf, divf, addf, exp, subf, broadcast]
  rw [e]
  exact congrArg (x (ix3 (0 : Fin 1) p q) * ·) (Proj.sigmoid_sub _)

theorem pay1_apply (x y : FVec Ideal S8x1024 .f32) (p : Fin 8) (q : Fin 1024) :
    k0_pay1 (F := Ideal) x y (ix3 (0 : Fin 1) p q) = x (ix2 p q) * y (ix2 p q) :=
  shapeCast_apply (mulf (F := Ideal) x y) shapeCasts_S8x1024_S1x8x1024 (ix3 (0 : Fin 1) p q) (ix2 p q) (by
    rw [Shape.rowMajor_val_two, Shape.rowMajor_val_three]; show p.val * 1024 + q.val = (0 * 8 + p.val) * 1024 + q.val; omega)

/-! ## The blocks read, and the array written -/

theorem index0 : ∀ t : Fin cfg0.N, (cfg0.win 0).index t = ![t.val, 0, 0] := (by decide +kernel : ∀ t : Fin grid0.N, win0_0.index t = ![t.val, 0, 0])
theorem index1 : ∀ t : Fin cfg0.N, (cfg0.win 1).index t = ![t.val, 0, 0] := (by decide +kernel : ∀ t : Fin grid0.N, win0_1.index t = ![t.val, 0, 0])
theorem index2 : ∀ t : Fin cfg0.N, (cfg0.win 2).index t = ![t.val, 0, 0] := (by decide +kernel : ∀ t : Fin grid0.N, win0_2.index t = ![t.val, 0, 0])

theorem N_eq : cfg0.N = 8 := N_0

/-- The batch of a grid point. -/
abbrev batch (t : Fin cfg0.N) : Fin 8 := ⟨t.val, lt_of_lt_of_eq t.isLt N_eq⟩

theorem read0 (c : Dev nD) (t : Fin cfg0.N) (r : Fin 64) (q : Fin 1024) :
    (iblk m c 0 t : FVec Ideal S1x64x1024 .f32) (ix3 (0 : Fin 1) r q) = accs m c (ix3 (batch t) r q) := by
  refine Eq.trans ?_ (congrFun (V_main_arg0 m c) _)
  exact congrArg (V m c main_arg0) (funext fun a => Fin.ext (by
    refine (win0_0.rect_emb_val_off t (ix3 (0 : Fin 1) r q) a).trans ?_
    rw [show win0_0.index t = _ from index0 t]
    match a with
    | ⟨0, _⟩ => exact Nat.mul_one _
    | ⟨1, _⟩ => exact Nat.zero_add _
    | ⟨2, _⟩ => exact Nat.zero_add _))

theorem read1 (c : Dev nD) (t : Fin cfg0.N) (p : Fin 8) (q : Fin 1024) :
    (iblk m c 1 t : FVec Ideal S1x8x1024 .f32) (ix3 (0 : Fin 1) p q) = gates m c (ix3 (batch t) p q) := by
  refine Eq.trans ?_ (congrFun (V_main_arg1 m c) _)
  exact congrArg (V m c main_arg1) (funext fun a => Fin.ext (by
    refine (win0_1.rect_emb_val_off t (ix3 (0 : Fin 1) p q) a).trans ?_
    rw [show win0_1.index t = _ from index1 t]
    match a with
    | ⟨0, _⟩ => exact Nat.mul_one _
    | ⟨1, _⟩ => exact Nat.zero_add _
    | ⟨2, _⟩ => exact Nat.zero_add _))

theorem off3 : (![0, 0, 0] : Fin 3 → Nat) = fun _ => 0 := by funext a; fin_cases a <;> rfl

theorem flushed2 (c : Dev nD) (t : Fin cfg0.N) :
    (dats m 0 c).flushed 2 t = ((cfg0.win 2).blk t).view.read (Elt Ideal) (out (accs m c) (gates m c)) := by
  show (cfg0.win 2).cut (grid0.coords t) ((dats m 0 c).after 2 t) = _
  rw [after0_2]
  unfold out0_2
  rw [View.canon_unit_zero off3, View.ld_unit_zero off3, View.ld_unit_zero off3]
  funext y
  obtain ⟨o, p, q, rfl⟩ : ∃ (o : Fin 1) (p : Fin 8) (q : Fin 1024), y = ix3 o p q := ⟨y 0, y 1, y 2, eq_ix3 y⟩
  obtain rfl : o = 0 := Subsingleton.elim _ _
  have he : (win0_2.rect t).emb (ix3 (0 : Fin 1) p q) = ix3 (batch t) p q := funext fun a => Fin.ext (by
    refine (win0_2.rect_emb_val_off t (ix3 (0 : Fin 1) p q) a).trans ?_
    rw [show win0_2.index t = _ from index2 t]
    match a with
    | ⟨0, _⟩ => exact Nat.mul_one _
    | ⟨1, _⟩ => exact Nat.zero_add _
    | ⟨2, _⟩ => exact Nat.zero_add _)
  refine (pay1_apply _ _ p q).trans (Eq.trans ?_ (congrArg (out (accs m c) (gates m c)) he).symm)
  rw [pay7_apply (iblk m c 0 t), pay8_apply (iblk m c 1 t), read0, read1]
  refine congrArg₂ (· * ·) (congrArg (accs m c) ?_) rfl
  exact congrArg (fun n : Fin 1024 => ix3 (n1 := 64) (batch t) ⟨8 * (q.val / 128) + p.val, by omega⟩ n) (Fin.ext (Nat.div_add_mod q.val 128).symm)

theorem xsize2 : ∀ t : Fin cfg0.N, (cfg0.win 2).xsize (grid0.coords t) = ![1, 8, 1024] :=
  (by decide +kernel : ∀ t : Fin grid0.N, win0_2.xsize (grid0.coords t) = ![1, 8, 1024])

theorem arr2 (c : Dev nD) : (dats m 0 c).arrAt 2 cfg0.N = out (accs m c) (gates m c) :=
  (dats m 0 c).arrAt_eq_of_cover 2 _ (fun t _ => flushed2 m c t) fun i => by
    have h0 : (i 0 : Nat) < 8 := (i 0).isLt
    have h1 : (i 1 : Nat) < 8 := (i 1).isLt
    have h2 : (i 2 : Nat) < 1024 := (i 2).isLt
    let t : Fin cfg0.N := ⟨(i 0 : Nat), by rw [N_eq]; omega⟩
    refine ⟨t, flush0_2 t, ?_⟩
    show i ∈ ((View.whole main_v0).slice (win0_2.rect t)).set
    rw [View.set_slice_whole, Rect.mem_set_unit]
    intro a
    show win0_2.index t a * _ ≤ _ ∧ _ < win0_2.index t a * _ + win0_2.xsize (grid0.coords t) a
    rw [show win0_2.index t = _ from index2 t, show win0_2.xsize (grid0.coords t) = _ from xsize2 t]
    match a with
    | ⟨0, _⟩ => show (i 0 : Nat) * 1 ≤ (i 0 : Nat) ∧ (i 0 : Nat) < (i 0 : Nat) * 1 + 1; omega
    | ⟨1, _⟩ => show 0 * 8 ≤ (i 1 : Nat) ∧ (i 1 : Nat) < 0 * 8 + 8; omega
    | ⟨2, _⟩ => show 0 * 1024 ≤ (i 2 : Nat) ∧ (i 2 : Nat) < 0 * 1024 + 1024; omega

/-! ## The host's -/

section Reference

open Cert.RefFinishIdeal Cert.RefFinishIdeal.Gen Cert.RefFinishIdeal.Read

variable (A : S8x64x1024.Idx → EReal) (G : S8x8x1024.Idx → EReal)

theorem split0 (b p : Fin 8) (d : Fin 128) : ((b.val * 8 + p.val) * 128 + d.val) / 1024 = b.val := by omega
theorem split1 (b p : Fin 8) (d : Fin 128) : ((b.val * 8 + p.val) * 128 + d.val) / 128 % 8 = p.val := by omega
theorem split2 (b p : Fin 8) (d : Fin 128) : ((b.val * 8 + p.val) * 128 + d.val) % 128 = d.val := by omega

theorem piece0 (b p : Fin 8) (d : Fin 128) : val_main_v17 (F := Ideal) A (ix4 b p (0 : Fin 1) d) = acc A b 0 p d := by
  rw [val_main_v17_apply, val_main_v2_apply, val_main_v1_apply, val_main_v0_apply]; exact congrArg A (funext fun a => Fin.ext (by
    have hb := b.isLt; have hp := p.isLt; have hd := d.isLt
    match a with
    | ⟨0, _⟩ => dsimp [ix3, ix4]; simp only [split0, split1, split2]; omega
    | ⟨1, _⟩ => dsimp [ix3, ix4]; simp only [split0, split1, split2]; omega
    | ⟨2, _⟩ => dsimp [ix3, ix4]; simp only [split0, split1, split2]; omega))
theorem piece1 (b p : Fin 8) (d : Fin 128) : val_main_v18 (F := Ideal) A (ix4 b p (0 : Fin 1) d) = acc A b 1 p d := by
  rw [val_main_v18_apply, val_main_v4_apply, val_main_v3_apply, val_main_v0_apply]; exact congrArg A (funext fun a => Fin.ext (by
    have hb := b.isLt; have hp := p.isLt; have hd := d.isLt
    match a with
    | ⟨0, _⟩ => dsimp [ix3, ix4]; simp only [split0, split1, split2]; omega
    | ⟨1, _⟩ => dsimp [ix3, ix4]; simp only [split0, split1, split2]; omega
    | ⟨2, _⟩ => dsimp [ix3, ix4]; simp only [split0, split1, split2]; omega))
theorem piece2 (b p : Fin 8) (d : Fin 128) : val_main_v19 (F := Ideal) A (ix4 b p (0 : Fin 1) d) = acc A b 2 p d := by
  rw [val_main_v19_apply, val_main_v6_apply, val_main_v5_apply, val_main_v0_apply]; exact congrArg A (funext fun a => Fin.ext (by
    have hb := b.isLt; have hp := p.isLt; have hd := d.isLt
    match a with
    | ⟨0, _⟩ => dsimp [ix3, ix4]; simp only [split0, split1, split2]; omega
    | ⟨1, _⟩ => dsimp [ix3, ix4]; simp only [split0, split1, split2]; omega
    | ⟨2, _⟩ => dsimp [ix3, ix4]; simp only [split0, split1, split2]; omega))
theorem piece3 (b p : Fin 8) (d : Fin 128) : val_main_v20 (F := Ideal) A (ix4 b p (0 : Fin 1) d) = acc A b 3 p d := by
  rw [val_main_v20_apply, val_main_v8_apply, val_main_v7_apply, val_main_v0_apply]; exact congrArg A (funext fun a => Fin.ext (by
    have hb := b.isLt; have hp := p.isLt; have hd := d.isLt
    match a with
    | ⟨0, _⟩ => dsimp [ix3, ix4]; simp only [split0, split1, split2]; omega
    | ⟨1, _⟩ => dsimp [ix3, ix4]; simp only [split0, split1, split2]; omega
    | ⟨2, _⟩ => dsimp [ix3, ix4]; simp only [split0, split1, split2]; omega))
theorem piece4 (b p : Fin 8) (d : Fin 128) : val_main_v21 (F := Ideal) A (ix4 b p (0 : Fin 1) d) = acc A b 4 p d := by
  rw [val_main_v21_apply, val_main_v10_apply, val_main_v9_apply, val_main_v0_apply]; exact congrArg A (funext fun a => Fin.ext (by
    have hb := b.isLt; have hp := p.isLt; have hd := d.isLt
    match a with
    | ⟨0, _⟩ => dsimp [ix3, ix4]; simp only [split0, split1, split2]; omega
    | ⟨1, _⟩ => dsimp [ix3, ix4]; simp only [split0, split1, split2]; omega
    | ⟨2, _⟩ => dsimp [ix3, ix4]; simp only [split0, split1, split2]; omega))
theorem piece5 (b p : Fin 8) (d : Fin 128) : val_main_v22 (F := Ideal) A (ix4 b p (0 : Fin 1) d) = acc A b 5 p d := by
  rw [val_main_v22_apply, val_main_v12_apply, val_main_v11_apply, val_main_v0_apply]; exact congrArg A (funext fun a => Fin.ext (by
    have hb := b.isLt; have hp := p.isLt; have hd := d.isLt
    match a with
    | ⟨0, _⟩ => dsimp [ix3, ix4]; simp only [split0, split1, split2]; omega
    | ⟨1, _⟩ => dsimp [ix3, ix4]; simp only [split0, split1, split2]; omega
    | ⟨2, _⟩ => dsimp [ix3, ix4]; simp only [split0, split1, split2]; omega))
theorem piece6 (b p : Fin 8) (d : Fin 128) : val_main_v23 (F := Ideal) A (ix4 b p (0 : Fin 1) d) = acc A b 6 p d := by
  rw [val_main_v23_apply, val_main_v14_apply, val_main_v13_apply, val_main_v0_apply]; exact congrArg A (funext fun a => Fin.ext (by
    have hb := b.isLt; have hp := p.isLt; have hd := d.isLt
    match a with
    | ⟨0, _⟩ => dsimp [ix3, ix4]; simp only [split0, split1, split2]; omega
    | ⟨1, _⟩ => dsimp [ix3, ix4]; simp only [split0, split1, split2]; omega
    | ⟨2, _⟩ => dsimp [ix3, ix4]; simp only [split0, split1, split2]; omega))
theorem piece7 (b p : Fin 8) (d : Fin 128) : val_main_v24 (F := Ideal) A (ix4 b p (0 : Fin 1) d) = acc A b 7 p d := by
  rw [val_main_v24_apply, val_main_v16_apply, val_main_v15_apply, val_main_v0_apply]; exact congrArg A (funext fun a => Fin.ext (by
    have hb := b.isLt; have hp := p.isLt; have hd := d.isLt
    match a with
    | ⟨0, _⟩ => dsimp [ix3, ix4]; simp only [split0, split1, split2]; omega
    | ⟨1, _⟩ => dsimp [ix3, ix4]; simp only [split0, split1, split2]; omega
    | ⟨2, _⟩ => dsimp [ix3, ix4]; simp only [split0, split1, split2]; omega))

/-- The eight slices side by side: every column from its own head. -/
theorem ref_own (b p h : Fin 8) (d : Fin 128) : val_main_v25 (F := Ideal) A (ix4 b p h d) = acc A b h p d := by
  have key : ∀ (f : Fin 8 → (S8x8x1x128.Idx → EReal)) (_ : ∀ h b p d, f h (ix4 b p (0 : Fin 1) d) = acc A b h p d) (hc),
      concatenate S8x8x8x128 2 (List.ofFn fun h => (⟨S8x8x1x128, f h⟩ : (s : Shape) × (s.Idx → EReal))) hc (ix4 b p h d) = acc A b h p d := by
    intro f hf hc
    refine (concatenate_ofFn_apply (t := S8x8x8x128) 2 f hc rfl 1 rfl (ix4 b p h d) h (Nat.div_one _)
      (ix4 b p (0 : Fin 1) d) (Nat.mod_one _).symm (fun a ha => ?_)).trans (hf h b p d)
    match a, ha with
    | ⟨0, _⟩, _ => rfl
    | ⟨1, _⟩, _ => rfl
    | ⟨2, _⟩, ha => exact absurd rfl ha
    | ⟨3, _⟩, _ => rfl
  exact key ![val_main_v17 (F := Ideal) A, val_main_v18 (F := Ideal) A, val_main_v19 (F := Ideal) A, val_main_v20 (F := Ideal) A, val_main_v21 (F := Ideal) A, val_main_v22 (F := Ideal) A, val_main_v23 (F := Ideal) A, val_main_v24 (F := Ideal) A]
    (fun h => match h with
      | 0 => piece0 A | 1 => piece1 A | 2 => piece2 A | 3 => piece3 A | 4 => piece4 A | 5 => piece5 A | 6 => piece6 A | 7 => piece7 A) _

theorem ref_eq : val_main_v28 (F := Ideal) A G = out A G := by
  funext i
  obtain ⟨b, p, q, rfl⟩ : ∃ (b p : Fin 8) (q : Fin 1024), i = ix3 b p q := ⟨i 0, i 1, i 2, eq_ix3 i⟩
  have e : idx_main_v26 (ix3 b p q) = ix4 (n2 := 8) (n3 := 128) b p ⟨q.val / 128, by omega⟩ ⟨q.val % 128, by omega⟩ := funext fun a => Fin.ext (by
    have hb := b.isLt; have hp := p.isLt; have hq := q.isLt
    match a with
    | ⟨0, _⟩ => show ((b.val * 8 + p.val) * 1024 + q.val) / 8192 = b.val; omega
    | ⟨1, _⟩ => show ((b.val * 8 + p.val) * 1024 + q.val) / 1024 % 8 = p.val; omega
    | ⟨2, _⟩ => show ((b.val * 8 + p.val) * 1024 + q.val) / 128 % 8 = q.val / 128; omega
    | ⟨3, _⟩ => show ((b.val * 8 + p.val) * 1024 + q.val) % 128 = q.val % 128; omega)
  have s : val_main_v27 (F := Ideal) G (ix3 b p q) = Proj.silu (G (ix3 b p q)) := by
    rw [val_main_v27_apply, val_main_call0_v5_apply, val_main_call0_v4_apply, val_main_call0_v3_apply, val_main_call0_v2_apply]; rfl
  rw [val_main_v28_apply, val_main_v26_apply, e, ref_own, s]; rfl

end Reference

/-! ## The claims -/

/-- The kernel's run: the result, the arguments unchanged. -/
theorem run_value : θ_run defs (onTc (τ := τ) (main (F := Ideal))) ⟨m, fun _ => 0, ρ⟩ (fun r => ∀ c : Dev nD,
      r.2.mem ((c.tc : Thread nD τ).loc main_v0) = out (accs m c) (gates m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (arr2 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main (F := Ideal) m ρ)

theorem algebraic : Cert.algebraic_FinishIdeal_RefFinishIdeal := fun m g m' g' hpre hagree =>
  ⟨fun c => out (accs m c) (gates m c), run_value m g,
    (θ_run Cert.RefFinishIdeal.defs _ _).mono (fun _ h c => by
      obtain ⟨h1, h2⟩ := h c
      obtain ⟨a0, a1⟩ := hagree c
      refine ⟨h1.trans ((Cert.RefFinishIdeal.Read.val_main_v28_eq _ _).trans ?_), h2⟩
      rw [a0, a1]; exact ref_eq _ _) (Cert.RefFinishIdeal.Value.run (F := Ideal) m' g')⟩

/-- The program as printed and its idealization have one body, label by label. -/
theorem defs_eq {F : FTy → Type} [FloatOps F] : Cert.Finish.defs (F := F) = Cert.FinishIdeal.defs :=
  congrArg (Pipeline.defs Cert.FinishIdeal.pcfgs) (by
    unfold Cert.Finish.defs₀ Cert.FinishIdeal.defs₀
    congr 1
    funext l a
    match l, a with
    | 0, (t, s) => rfl)

/-- So the printed program's run is the same run, at the machine's numbers. -/
theorem frame_kernel : Cert.quiescent_Finish := fun m ρ _ => by
  rw [defs_eq]; exact frame (F := Bits) m ρ

theorem frame_ideal : Cert.quiescent_FinishIdeal := fun m ρ _ => frame (F := Ideal) m ρ

theorem frame_ref : Cert.quiescent_RefFinishIdeal := fun m ρ _ =>
  (θ_run Cert.RefFinishIdeal.defs _ _).mono (fun r h => ⟨fun c => (h c).2, sem_eq_zero_of_no_sems (by decide) r.2⟩)
    (Cert.RefFinishIdeal.Value.run (F := Ideal) m ρ)

end Cert.FinishIdeal.Body

end
-- ==== Proof.lean ====
/- The claims of the certificate, each from the module that proves it. -/
module

public import proofs.«01_k».proof.Defs
public import proofs.«01_k».proof.Proof.QkvogValue
public import proofs.«01_k».proof.Proof.KProjValue
public import proofs.«01_k».proof.Proof.VProjValue
public import proofs.«01_k».proof.Proof.QgValue
public import proofs.«01_k».proof.Proof.OddUValue
public import proofs.«01_k».proof.Proof.OddVValue
public import proofs.«01_k».proof.Proof.OddGValue
public import proofs.«01_k».proof.Proof.OddYValue
public import proofs.«01_k».proof.Proof.MlstmValue
public import proofs.«01_k».proof.Proof.EvenOutValue
public import proofs.«01_k».proof.Proof.FrontValue
public import proofs.«01_k».proof.Proof.MixValue
public import proofs.«01_k».proof.Proof.FinishValue
public import proofs.«01_k».proof.Proof.Gen.Qkvog
public import proofs.«01_k».proof.Proof.Gen.QkvogIdeal
public import proofs.«01_k».proof.Proof.Gen.QkvogIdeal.Skeleton
public import proofs.«01_k».proof.Proof.Gen.QkvogIdeal.Launch
public import proofs.«01_k».proof.Proof.Gen.QkvogIdeal.Points
public import proofs.«01_k».proof.Proof.Gen.QkvogIdeal.Frame
public import proofs.«01_k».proof.Proof.Gen.RefQkvogIdeal
public import proofs.«01_k».proof.Proof.Gen.RefQkvogIdeal.Run
public import proofs.«01_k».proof.Proof.Gen.RefQkvogIdeal.Read
public import proofs.«01_k».proof.Proof.Gen.KProj
public import proofs.«01_k».proof.Proof.Gen.KProjIdeal
public import proofs.«01_k».proof.Proof.Gen.KProjIdeal.Skeleton
public import proofs.«01_k».proof.Proof.Gen.KProjIdeal.Launch
public import proofs.«01_k».proof.Proof.Gen.KProjIdeal.Points
public import proofs.«01_k».proof.Proof.Gen.KProjIdeal.Frame
public import proofs.«01_k».proof.Proof.Gen.RefKProjIdeal
public import proofs.«01_k».proof.Proof.Gen.RefKProjIdeal.Run
public import proofs.«01_k».proof.Proof.Gen.RefKProjIdeal.Read
public import proofs.«01_k».proof.Proof.Gen.VProj
public import proofs.«01_k».proof.Proof.Gen.VProjIdeal
public import proofs.«01_k».proof.Proof.Gen.VProjIdeal.Skeleton
public import proofs.«01_k».proof.Proof.Gen.VProjIdeal.Launch
public import proofs.«01_k».proof.Proof.Gen.VProjIdeal.Points
public import proofs.«01_k».proof.Proof.Gen.VProjIdeal.Frame
public import proofs.«01_k».proof.Proof.Gen.RefVProjIdeal
public import proofs.«01_k».proof.Proof.Gen.RefVProjIdeal.Run
public import proofs.«01_k».proof.Proof.Gen.RefVProjIdeal.Read
public import proofs.«01_k».proof.Proof.Gen.Qg
public import proofs.«01_k».proof.Proof.Gen.QgIdeal
public import proofs.«01_k».proof.Proof.Gen.QgIdeal.Skeleton
public import proofs.«01_k».proof.Proof.Gen.QgIdeal.Launch
public import proofs.«01_k».proof.Proof.Gen.QgIdeal.Points
public import proofs.«01_k».proof.Proof.Gen.QgIdeal.Frame
public import proofs.«01_k».proof.Proof.Gen.RefQgIdeal
public import proofs.«01_k».proof.Proof.Gen.RefQgIdeal.Run
public import proofs.«01_k».proof.Proof.Gen.RefQgIdeal.Read
public import proofs.«01_k».proof.Proof.Gen.OddU
public import proofs.«01_k».proof.Proof.Gen.OddUIdeal
public import proofs.«01_k».proof.Proof.Gen.OddUIdeal.Skeleton
public import proofs.«01_k».proof.Proof.Gen.OddUIdeal.Launch
public import proofs.«01_k».proof.Proof.Gen.OddUIdeal.Points
public import proofs.«01_k».proof.Proof.Gen.OddUIdeal.Frame
public import proofs.«01_k».proof.Proof.Gen.RefOddUIdeal
public import proofs.«01_k».proof.Proof.Gen.RefOddUIdeal.Run
public import proofs.«01_k».proof.Proof.Gen.RefOddUIdeal.Read
public import proofs.«01_k».proof.Proof.Gen.OddV
public import proofs.«01_k».proof.Proof.Gen.OddVIdeal
public import proofs.«01_k».proof.Proof.Gen.OddVIdeal.Skeleton
public import proofs.«01_k».proof.Proof.Gen.OddVIdeal.Launch
public import proofs.«01_k».proof.Proof.Gen.OddVIdeal.Points
public import proofs.«01_k».proof.Proof.Gen.OddVIdeal.Frame
public import proofs.«01_k».proof.Proof.Gen.RefOddVIdeal
public import proofs.«01_k».proof.Proof.Gen.RefOddVIdeal.Run
public import proofs.«01_k».proof.Proof.Gen.RefOddVIdeal.Read
public import proofs.«01_k».proof.Proof.Gen.OddG
public import proofs.«01_k».proof.Proof.Gen.OddGIdeal
public import proofs.«01_k».proof.Proof.Gen.OddGIdeal.Skeleton
public import proofs.«01_k».proof.Proof.Gen.OddGIdeal.Launch
public import proofs.«01_k».proof.Proof.Gen.OddGIdeal.Points
public import proofs.«01_k».proof.Proof.Gen.OddGIdeal.Frame
public import proofs.«01_k».proof.Proof.Gen.RefOddGIdeal
public import proofs.«01_k».proof.Proof.Gen.RefOddGIdeal.Run
public import proofs.«01_k».proof.Proof.Gen.RefOddGIdeal.Read
public import proofs.«01_k».proof.Proof.Gen.OddY
public import proofs.«01_k».proof.Proof.Gen.OddYIdeal
public import proofs.«01_k».proof.Proof.Gen.OddYIdeal.Skeleton
public import proofs.«01_k».proof.Proof.Gen.OddYIdeal.Launch
public import proofs.«01_k».proof.Proof.Gen.OddYIdeal.Points
public import proofs.«01_k».proof.Proof.Gen.OddYIdeal.Frame
public import proofs.«01_k».proof.Proof.Gen.RefOddYIdeal
public import proofs.«01_k».proof.Proof.Gen.RefOddYIdeal.Run
public import proofs.«01_k».proof.Proof.Gen.RefOddYIdeal.Read
public import proofs.«01_k».proof.Proof.Gen.Mlstm
public import proofs.«01_k».proof.Proof.Gen.MlstmIdeal
public import proofs.«01_k».proof.Proof.Gen.MlstmIdeal.Skeleton
public import proofs.«01_k».proof.Proof.Gen.MlstmIdeal.Launch
public import proofs.«01_k».proof.Proof.Gen.MlstmIdeal.Points
public import proofs.«01_k».proof.Proof.Gen.MlstmIdeal.Frame
public import proofs.«01_k».proof.Proof.Gen.RefMlstmIdeal
public import proofs.«01_k».proof.Proof.Gen.RefMlstmIdeal.Run
public import proofs.«01_k».proof.Proof.Gen.RefMlstmIdeal.Read
public import proofs.«01_k».proof.Proof.Gen.EvenOut
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.RefEvenOutIdeal
public import proofs.«01_k».proof.Proof.Gen.RefEvenOutIdeal.Run
public import proofs.«01_k».proof.Proof.Gen.RefEvenOutIdeal.Read
public import proofs.«01_k».proof.Proof.Gen.Front
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.RefFrontIdeal
public import proofs.«01_k».proof.Proof.Gen.RefFrontIdeal.Run
public import proofs.«01_k».proof.Proof.Gen.RefFrontIdeal.Read
public import proofs.«01_k».proof.Proof.Gen.Mix
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.RefMixIdeal
public import proofs.«01_k».proof.Proof.Gen.RefMixIdeal.Run
public import proofs.«01_k».proof.Proof.Gen.RefMixIdeal.Read
public import proofs.«01_k».proof.Proof.Gen.Finish
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.RefFinishIdeal
public import proofs.«01_k».proof.Proof.Gen.RefFinishIdeal.Run
public import proofs.«01_k».proof.Proof.Gen.RefFinishIdeal.Read
public import proofs.«01_k».proof.Proof.Gen.Mlstm.Frame
public import proofs.«01_k».proof.Proof.Gen.MlstmIdeal.Value
public import proofs.«01_k».proof.Proof.Gen.MixIdeal.Value
public import proofs.«01_k».proof.Proof.Gen.FrontIdeal.Value
public import proofs.«01_k».proof.Proof.Gen.Pre_finite

@[expose] public section

noncomputable section

namespace Cert.Proof

open Idealize.ShloMosaic

theorem claim : Cert.Claim :=
  ⟨Cert.Qkvog.Gen.facts, Cert.QkvogIdeal.Gen.facts, Cert.RefQkvogIdeal.Gen.facts,
    Cert.KProj.Gen.facts, Cert.KProjIdeal.Gen.facts, Cert.RefKProjIdeal.Gen.facts,
    Cert.VProj.Gen.facts, Cert.VProjIdeal.Gen.facts, Cert.RefVProjIdeal.Gen.facts,
    Cert.Qg.Gen.facts, Cert.QgIdeal.Gen.facts, Cert.RefQgIdeal.Gen.facts,
    Cert.OddU.Gen.facts, Cert.OddUIdeal.Gen.facts, Cert.RefOddUIdeal.Gen.facts,
    Cert.OddV.Gen.facts, Cert.OddVIdeal.Gen.facts, Cert.RefOddVIdeal.Gen.facts,
    Cert.OddG.Gen.facts, Cert.OddGIdeal.Gen.facts, Cert.RefOddGIdeal.Gen.facts,
    Cert.OddY.Gen.facts, Cert.OddYIdeal.Gen.facts, Cert.RefOddYIdeal.Gen.facts,
    Cert.Mlstm.Gen.facts, Cert.MlstmIdeal.Gen.facts, Cert.RefMlstmIdeal.Gen.facts,
    Cert.EvenOut.Gen.facts, Cert.EvenOutIdeal.Gen.facts, Cert.RefEvenOutIdeal.Gen.facts,
    Cert.Front.Gen.facts, Cert.FrontIdeal.Gen.facts, Cert.RefFrontIdeal.Gen.facts,
    Cert.Mix.Gen.facts, Cert.MixIdeal.Gen.facts, Cert.RefMixIdeal.Gen.facts,
    Cert.Finish.Gen.facts, Cert.FinishIdeal.Gen.facts, Cert.RefFinishIdeal.Gen.facts, Cert.Pre_finite.Gen.facts,
    Cert.QkvogIdeal.Body.frame_kernel, Cert.QkvogIdeal.Body.frame_ideal, Cert.QkvogIdeal.Body.frame_ref,
    Cert.KProjIdeal.Body.frame_kernel, Cert.KProjIdeal.Body.frame_ideal, Cert.KProjIdeal.Body.frame_ref,
    Cert.VProjIdeal.Body.frame_kernel, Cert.VProjIdeal.Body.frame_ideal, Cert.VProjIdeal.Body.frame_ref,
    Cert.QgIdeal.Body.frame_kernel, Cert.QgIdeal.Body.frame_ideal, Cert.QgIdeal.Body.frame_ref,
    Cert.OddUIdeal.Body.frame_kernel, Cert.OddUIdeal.Body.frame_ideal, Cert.OddUIdeal.Body.frame_ref,
    Cert.OddVIdeal.Body.frame_kernel, Cert.OddVIdeal.Body.frame_ideal, Cert.OddVIdeal.Body.frame_ref,
    Cert.OddGIdeal.Body.frame_kernel, Cert.OddGIdeal.Body.frame_ideal, Cert.OddGIdeal.Body.frame_ref,
    Cert.OddYIdeal.Body.frame_kernel, Cert.OddYIdeal.Body.frame_ideal, Cert.OddYIdeal.Body.frame_ref,
    Cert.MlstmIdeal.Body.frame_kernel, Cert.MlstmIdeal.Body.frame_ideal, Cert.MlstmIdeal.Body.frame_ref,
    Cert.EvenOutIdeal.Body.frame_kernel, Cert.EvenOutIdeal.Body.frame_ideal, Cert.EvenOutIdeal.Body.frame_ref,
    Cert.FrontIdeal.Body.frame_kernel, Cert.FrontIdeal.Body.frame_ideal, Cert.FrontIdeal.Body.frame_ideal_finite, Cert.FrontIdeal.Body.frame_ref, Cert.FrontIdeal.Body.frame_ref_finite,
    Cert.MixIdeal.Body.frame_kernel, Cert.MixIdeal.Body.frame_ideal, Cert.MixIdeal.Body.frame_ref,
    Cert.FinishIdeal.Body.frame_kernel, Cert.FinishIdeal.Body.frame_ideal, Cert.FinishIdeal.Body.frame_ref,
    trivial, Cert.QkvogIdeal.Body.algebraic,
    trivial, Cert.KProjIdeal.Body.algebraic,
    trivial, Cert.VProjIdeal.Body.algebraic,
    trivial, Cert.QgIdeal.Body.algebraic,
    trivial, Cert.OddUIdeal.Body.algebraic,
    trivial, Cert.OddVIdeal.Body.algebraic,
    trivial, Cert.OddGIdeal.Body.algebraic,
    trivial, Cert.OddYIdeal.Body.algebraic,
    IdealRules.named_const.statement Cert.MlstmIdeal.κ "mask" .f32 0xF149F2CA#32 ⊥ rfl, Cert.MlstmIdeal.Body.algebraic,
    trivial, Cert.EvenOutIdeal.Body.algebraic,
    trivial, Cert.FrontIdeal.Body.algebraic,
    trivial, Cert.MixIdeal.Body.algebraic,
    trivial, Cert.FinishIdeal.Body.algebraic⟩

end Cert.Proof

end
